-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInIdeal_ffn_in_finite [hPre_ffn_in_finite : Cert.Pre_ffn_in_finite.Facts] (m : (ℓ : Loc Cert.FfnInIdeal.nD Cert.FfnInIdeal.τ Cert.FfnInIdeal.sig) → Buf (Elt Ideal) ℓ) : Prop :=
  ∀ c : Dev Cert.FfnInIdeal.nD,
    (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))).1 = (fun _ => 1#1)
    ∧ (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))).2.1 = (fun _ => 1#1)
    ∧ (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))).2.2.1 = (fun _ => 1#1)
    ∧ (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))).2.2.2.1 = (fun _ => 1#1)
    ∧ (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))).2.2.2.2.1 = (fun _ => 1#1)
    ∧ (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))).2.2.2.2.2 = (fun _ => 1#1)

def Pre_FfnInRefIdeal (m : (ℓ : Loc Cert.FfnInRefIdeal.nD Cert.FfnInRefIdeal.τ Cert.FfnInRefIdeal.sig) → Buf (Elt Ideal) ℓ) : Prop :=
  True

def Pre_FfnInRefIdeal_ffn_in_finite [hPre_ffn_in_finite : Cert.Pre_ffn_in_finite.Facts] (m : (ℓ : Loc Cert.FfnInRefIdeal.nD Cert.FfnInRefIdeal.τ Cert.FfnInRefIdeal.sig) → Buf (Elt Ideal) ℓ) : Prop :=
  ∀ c : Dev Cert.FfnInRefIdeal.nD,
    (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))).1 = (fun _ => 1#1)
    ∧ (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))).2.1 = (fun _ => 1#1)
    ∧ (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))).2.2.1 = (fun _ => 1#1)
    ∧ (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))).2.2.2.1 = (fun _ => 1#1)
    ∧ (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))).2.2.2.2.1 = (fun _ => 1#1)
    ∧ (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))).2.2.2.2.2 = (fun _ => 1#1)

def Pre_FfnHid (m : (ℓ : Loc Cert.FfnHid.nD Cert.FfnHid.τ Cert.FfnHid.sig) → Buf (Elt Bits) ℓ) : Prop :=
  True

def Pre_FfnHidIdeal (m : (ℓ : Loc Cert.FfnHidIdeal.nD Cert.FfnHidIdeal.τ Cert.FfnHidIdeal.sig) → Buf (Elt Ideal) ℓ) : Prop :=
  True

def Pre_FfnHidIdeal_ffn_hid_finite [hPre_ffn_hid_finite : Cert.Pre_ffn_hid_finite.Facts] (m : (ℓ : Loc Cert.FfnHidIdeal.nD Cert.FfnHidIdeal.τ Cert.FfnHidIdeal.sig) → Buf (Elt Ideal) ℓ) : Prop :=
  ∀ c : Dev Cert.FfnHidIdeal.nD,
    (Cert.Pre_ffn_hid_finite.fn (F := Ideal) (m ((c.tc : Thread Cert.FfnHidIdeal.nD Cert.FfnHidIdeal.τ).loc Cert.FfnHidIdeal.main_arg0)) (m ((c.tc : Thread Cert.FfnHidIdeal.nD Cert.FfnHidIdeal.τ).loc Cert.FfnHidIdeal.main_arg1)) (m ((c.tc : Thread Cert.FfnHidIdeal.nD Cert.FfnHidIdeal.τ).loc Cert.FfnHidIdeal.main_arg2)) (m ((c.tc : Thread Cert.FfnHidIdeal.nD Cert.FfnHidIdeal.τ).loc Cert.FfnHidIdeal.main_arg3)) (m ((c.tc : Thread Cert.FfnHidIdeal.nD Cert.FfnHidIdeal.τ).loc Cert.FfnHidIdeal.main_arg4)) (m ((c.tc : Thread Cert.FfnHidIdeal.nD Cert.FfnHidIdeal.τ).loc Cert.FfnHidIdeal.main_arg5))).1 = (fun _ => 1#1)
    ∧ (Cert.Pre_ffn_hid_finite.fn (F := Ideal) (m ((c.tc : Thread Cert.FfnHidIdeal.nD Cert.FfnHidIdeal.τ).loc Cert.FfnHidIdeal.main_arg0)) (m ((c.tc : Thread Cert.FfnHidIdeal.nD Cert.FfnHidIdeal.τ).loc Cert.FfnHidIdeal.main_arg1)) (m ((c.tc : Thread Cert.FfnHidIdeal.nD Cert.FfnHidIdeal.τ).loc Cert.FfnHidIdeal.main_arg2)) (m ((c.tc : Thread Cert.FfnHidIdeal.nD Cert.FfnHidIdeal.τ).loc Cert.FfnHidIdeal.main_arg3)) (m ((c.tc : Thread Cert.FfnHidIdeal.nD Cert.FfnHidIdeal.τ).loc Cert.FfnHidIdeal.main_arg4)) (m ((c.tc : Thread Cert.FfnHidIdeal.nD Cert.FfnHidIdeal.τ).loc Cert.FfnHidIdeal.main_arg5))).2.1 = (fun _ => 1#1)
    ∧ (Cert.Pre_ffn_hid_finite.fn (F := Ideal) (m ((c.tc : Thread Cert.FfnHidIdeal.nD Cert.FfnHidIdeal.τ).loc Cert.FfnHidIdeal.main_arg0)) (m ((c.tc : Thread Cert.FfnHidIdeal.nD Cert.FfnHidIdeal.τ).loc Cert.FfnHidIdeal.main_arg1)) (m ((c.tc : Thread Cert.FfnHidIdeal.nD Cert.FfnHidIdeal.τ).loc Cert.FfnHidIdeal.main_arg2)) (m ((c.tc : Thread Cert.FfnHidIdeal.nD Cert.FfnHidIdeal.τ).loc Cert.FfnHidIdeal.main_arg3)) (m ((c.tc : Thread Cert.FfnHidIdeal.nD Cert.FfnHidIdeal.τ).loc Cert.FfnHidIdeal.main_arg4)) (m ((c.tc : Thread Cert.FfnHidIdeal.nD Cert.FfnHidIdeal.τ).loc Cert.FfnHidIdeal.main_arg5))).2.2.1 = (fun _ => 1#1)
    ∧ (Cert.Pre_ffn_hid_finite.fn (F := Ideal) (m ((c.tc : Thread Cert.FfnHidIdeal.nD Cert.FfnHidIdeal.τ).loc Cert.FfnHidIdeal.main_arg0)) (m ((c.tc : Thread Cert.FfnHidIdeal.nD Cert.FfnHidIdeal.τ).loc Cert.FfnHidIdeal.main_arg1)) (m ((c.tc : Thread Cert.FfnHidIdeal.nD Cert.FfnHidIdeal.τ).loc Cert.FfnHidIdeal.main_arg2)) (m ((c.tc : Thread Cert.FfnHidIdeal.nD Cert.FfnHidIdeal.τ).loc Cert.FfnHidIdeal.main_arg3)) (m ((c.tc : Thread Cert.FfnHidIdeal.nD Cert.FfnHidIdeal.τ).loc Cert.FfnHidIdeal.main_arg4)) (m ((c.tc : Thread Cert.FfnHidIdeal.nD Cert.FfnHidIdeal.τ).loc Cert.FfnHidIdeal.main_arg5))).2.2.2.1 = (fun _ => 1#1)
    ∧ (Cert.Pre_ffn_hid_finite.fn (F := Ideal) (m ((c.tc : Thread Cert.FfnHidIdeal.nD Cert.FfnHidIdeal.τ).loc Cert.FfnHidIdeal.main_arg0)) (m ((c.tc : Thread Cert.FfnHidIdeal.nD Cert.FfnHidIdeal.τ).loc Cert.FfnHidIdeal.main_arg1)) (m ((c.tc : Thread Cert.FfnHidIdeal.nD Cert.FfnHidIdeal.τ).loc Cert.FfnHidIdeal.main_arg2)) (m ((c.tc : Thread Cert.FfnHidIdeal.nD Cert.FfnHidIdeal.τ).loc Cert.FfnHidIdeal.main_arg3)) (m ((c.tc : Thread Cert.FfnHidIdeal.nD Cert.FfnHidIdeal.τ).loc Cert.FfnHidIdeal.main_arg4)) (m ((c.tc : Thread Cert.FfnHidIdeal.nD Cert.FfnHidIdeal.τ).loc Cert.FfnHidIdeal.main_arg5))).2.2.2.2 = (fun _ => 1#1)

def Pre_FfnHidRefIdeal (m : (ℓ : Loc Cert.FfnHidRefIdeal.nD Cert.FfnHidRefIdeal.τ Cert.FfnHidRefIdeal.sig) → Buf (Elt Ideal) ℓ) : Prop :=
  True

def Pre_FfnHidRefIdeal_ffn_hid_finite [hPre_ffn_hid_finite : Cert.Pre_ffn_hid_finite.Facts] (m : (ℓ : Loc Cert.FfnHidRefIdeal.nD Cert.FfnHidRefIdeal.τ Cert.FfnHidRefIdeal.sig) → Buf (Elt Ideal) ℓ) : Prop :=
  ∀ c : Dev Cert.FfnHidRefIdeal.nD,
    (Cert.Pre_ffn_hid_finite.fn (F := Ideal) (m ((c.tc : Thread Cert.FfnHidRefIdeal.nD Cert.FfnHidRefIdeal.τ).loc Cert.FfnHidRefIdeal.main_arg0)) (m ((c.tc : Thread Cert.FfnHidRefIdeal.nD Cert.FfnHidRefIdeal.τ).loc Cert.FfnHidRefIdeal.main_arg1)) (m ((c.tc : Thread Cert.FfnHidRefIdeal.nD Cert.FfnHidRefIdeal.τ).loc Cert.FfnHidRefIdeal.main_arg2)) (m ((c.tc : Thread Cert.FfnHidRefIdeal.nD Cert.FfnHidRefIdeal.τ).loc Cert.FfnHidRefIdeal.main_arg3)) (m ((c.tc : Thread Cert.FfnHidRefIdeal.nD Cert.FfnHidRefIdeal.τ).loc Cert.FfnHidRefIdeal.main_arg4)) (m ((c.tc : Thread Cert.FfnHidRefIdeal.nD Cert.FfnHidRefIdeal.τ).loc Cert.FfnHidRefIdeal.main_arg5))).1 = (fun _ => 1#1)
    ∧ (Cert.Pre_ffn_hid_finite.fn (F := Ideal) (m ((c.tc : Thread Cert.FfnHidRefIdeal.nD Cert.FfnHidRefIdeal.τ).loc Cert.FfnHidRefIdeal.main_arg0)) (m ((c.tc : Thread Cert.FfnHidRefIdeal.nD Cert.FfnHidRefIdeal.τ).loc Cert.FfnHidRefIdeal.main_arg1)) (m ((c.tc : Thread Cert.FfnHidRefIdeal.nD Cert.FfnHidRefIdeal.τ).loc Cert.FfnHidRefIdeal.main_arg2)) (m ((c.tc : Thread Cert.FfnHidRefIdeal.nD Cert.FfnHidRefIdeal.τ).loc Cert.FfnHidRefIdeal.main_arg3)) (m ((c.tc : Thread Cert.FfnHidRefIdeal.nD Cert.FfnHidRefIdeal.τ).loc Cert.FfnHidRefIdeal.main_arg4)) (m ((c.tc : Thread Cert.FfnHidRefIdeal.nD Cert.FfnHidRefIdeal.τ).loc Cert.FfnHidRefIdeal.main_arg5))).2.1 = (fun _ => 1#1)
    ∧ (Cert.Pre_ffn_hid_finite.fn (F := Ideal) (m ((c.tc : Thread Cert.FfnHidRefIdeal.nD Cert.FfnHidRefIdeal.τ).loc Cert.FfnHidRefIdeal.main_arg0)) (m ((c.tc : Thread Cert.FfnHidRefIdeal.nD Cert.FfnHidRefIdeal.τ).loc Cert.FfnHidRefIdeal.main_arg1)) (m ((c.tc : Thread Cert.FfnHidRefIdeal.nD Cert.FfnHidRefIdeal.τ).loc Cert.FfnHidRefIdeal.main_arg2)) (m ((c.tc : Thread Cert.FfnHidRefIdeal.nD Cert.FfnHidRefIdeal.τ).loc Cert.FfnHidRefIdeal.main_arg3)) (m ((c.tc : Thread Cert.FfnHidRefIdeal.nD Cert.FfnHidRefIdeal.τ).loc Cert.FfnHidRefIdeal.main_arg4)) (m ((c.tc : Thread Cert.FfnHidRefIdeal.nD Cert.FfnHidRefIdeal.τ).loc Cert.FfnHidRefIdeal.main_arg5))).2.2.1 = (fun _ => 1#1)
    ∧ (Cert.Pre_ffn_hid_finite.fn (F := Ideal) (m ((c.tc : Thread Cert.FfnHidRefIdeal.nD Cert.FfnHidRefIdeal.τ).loc Cert.FfnHidRefIdeal.main_arg0)) (m ((c.tc : Thread Cert.FfnHidRefIdeal.nD Cert.FfnHidRefIdeal.τ).loc Cert.FfnHidRefIdeal.main_arg1)) (m ((c.tc : Thread Cert.FfnHidRefIdeal.nD Cert.FfnHidRefIdeal.τ).loc Cert.FfnHidRefIdeal.main_arg2)) (m ((c.tc : Thread Cert.FfnHidRefIdeal.nD Cert.FfnHidRefIdeal.τ).loc Cert.FfnHidRefIdeal.main_arg3)) (m ((c.tc : Thread Cert.FfnHidRefIdeal.nD Cert.FfnHidRefIdeal.τ).loc Cert.FfnHidRefIdeal.main_arg4)) (m ((c.tc : Thread Cert.FfnHidRefIdeal.nD Cert.FfnHidRefIdeal.τ).loc Cert.FfnHidRefIdeal.main_arg5))).2.2.2.1 = (fun _ => 1#1)
    ∧ (Cert.Pre_ffn_hid_finite.fn (F := Ideal) (m ((c.tc : Thread Cert.FfnHidRefIdeal.nD Cert.FfnHidRefIdeal.τ).loc Cert.FfnHidRefIdeal.main_arg0)) (m ((c.tc : Thread Cert.FfnHidRefIdeal.nD Cert.FfnHidRefIdeal.τ).loc Cert.FfnHidRefIdeal.main_arg1)) (m ((c.tc : Thread Cert.FfnHidRefIdeal.nD Cert.FfnHidRefIdeal.τ).loc Cert.FfnHidRefIdeal.main_arg2)) (m ((c.tc : Thread Cert.FfnHidRefIdeal.nD Cert.FfnHidRefIdeal.τ).loc Cert.FfnHidRefIdeal.main_arg3)) (m ((c.tc : Thread Cert.FfnHidRefIdeal.nD Cert.FfnHidRefIdeal.τ).loc Cert.FfnHidRefIdeal.main_arg4)) (m ((c.tc : Thread Cert.FfnHidRefIdeal.nD Cert.FfnHidRefIdeal.τ).loc Cert.FfnHidRefIdeal.main_arg5))).2.2.2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_proj_finite [hPre_proj_finite : Cert.Pre_proj_finite.Facts] (m : (ℓ : Loc Cert.ProjIdeal.nD Cert.ProjIdeal.τ Cert.ProjIdeal.sig) → Buf (Elt Ideal) ℓ) : Prop :=
  ∀ c : Dev Cert.ProjIdeal.nD,
    (Cert.Pre_proj_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4))).1 = (fun _ => 1#1)
    ∧ (Cert.Pre_proj_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4))).2.1 = (fun _ => 1#1)
    ∧ (Cert.Pre_proj_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4))).2.2.1 = (fun _ => 1#1)
    ∧ (Cert.Pre_proj_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4))).2.2.2 = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_proj_finite [hPre_proj_finite : Cert.Pre_proj_finite.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_proj_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4))).1 = (fun _ => 1#1)
    ∧ (Cert.Pre_proj_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4))).2.1 = (fun _ => 1#1)
    ∧ (Cert.Pre_proj_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4))).2.2.1 = (fun _ => 1#1)
    ∧ (Cert.Pre_proj_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4))).2.2.2 = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaIdeal_gla_finite [hPre_gla_finite : Cert.Pre_gla_finite.Facts] (m : (ℓ : Loc Cert.GlaIdeal.nD Cert.GlaIdeal.τ Cert.GlaIdeal.sig) → Buf (Elt Ideal) ℓ) : Prop :=
  ∀ c : Dev Cert.GlaIdeal.nD,
    (Cert.Pre_gla_finite.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4)) (m ((c.tc : Thread Cert.GlaIdeal.nD Cert.GlaIdeal.τ).loc Cert.GlaIdeal.main_arg5)) (m ((c.tc : Thread Cert.GlaIdeal.nD Cert.GlaIdeal.τ).loc Cert.GlaIdeal.main_arg6))).1 = (fun _ => 1#1)
    ∧ (Cert.Pre_gla_finite.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4)) (m ((c.tc : Thread Cert.GlaIdeal.nD Cert.GlaIdeal.τ).loc Cert.GlaIdeal.main_arg5)) (m ((c.tc : Thread Cert.GlaIdeal.nD Cert.GlaIdeal.τ).loc Cert.GlaIdeal.main_arg6))).2.1 = (fun _ => 1#1)
    ∧ (Cert.Pre_gla_finite.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4)) (m ((c.tc : Thread Cert.GlaIdeal.nD Cert.GlaIdeal.τ).loc Cert.GlaIdeal.main_arg5)) (m ((c.tc : Thread Cert.GlaIdeal.nD Cert.GlaIdeal.τ).loc Cert.GlaIdeal.main_arg6))).2.2.1 = (fun _ => 1#1)
    ∧ (Cert.Pre_gla_finite.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4)) (m ((c.tc : Thread Cert.GlaIdeal.nD Cert.GlaIdeal.τ).loc Cert.GlaIdeal.main_arg5)) (m ((c.tc : Thread Cert.GlaIdeal.nD Cert.GlaIdeal.τ).loc Cert.GlaIdeal.main_arg6))).2.2.2.1 = (fun _ => 1#1)
    ∧ (Cert.Pre_gla_finite.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4)) (m ((c.tc : Thread Cert.GlaIdeal.nD Cert.GlaIdeal.τ).loc Cert.GlaIdeal.main_arg5)) (m ((c.tc : Thread Cert.GlaIdeal.nD Cert.GlaIdeal.τ).loc Cert.GlaIdeal.main_arg6))).2.2.2.2.1 = (fun _ => 1#1)
    ∧ (Cert.Pre_gla_finite.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4)) (m ((c.tc : Thread Cert.GlaIdeal.nD Cert.GlaIdeal.τ).loc Cert.GlaIdeal.main_arg5)) (m ((c.tc : Thread Cert.GlaIdeal.nD Cert.GlaIdeal.τ).loc Cert.GlaIdeal.main_arg6))).2.2.2.2.2.1 = (fun _ => 1#1)
    ∧ (Cert.Pre_gla_finite.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4)) (m ((c.tc : Thread Cert.GlaIdeal.nD Cert.GlaIdeal.τ).loc Cert.GlaIdeal.main_arg5)) (m ((c.tc : Thread Cert.GlaIdeal.nD Cert.GlaIdeal.τ).loc Cert.GlaIdeal.main_arg6))).2.2.2.2.2.2 = (fun _ => 1#1)

def Pre_GlaRefIdeal (m : (ℓ : Loc Cert.GlaRefIdeal.nD Cert.GlaRefIdeal.τ Cert.GlaRefIdeal.sig) → Buf (Elt Ideal) ℓ) : Prop :=
  True

def Pre_GlaRefIdeal_gla_finite [hPre_gla_finite : Cert.Pre_gla_finite.Facts] (m : (ℓ : Loc Cert.GlaRefIdeal.nD Cert.GlaRefIdeal.τ Cert.GlaRefIdeal.sig) → Buf (Elt Ideal) ℓ) : Prop :=
  ∀ c : Dev Cert.GlaRefIdeal.nD,
    (Cert.Pre_gla_finite.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4)) (m ((c.tc : Thread Cert.GlaRefIdeal.nD Cert.GlaRefIdeal.τ).loc Cert.GlaRefIdeal.main_arg5)) (m ((c.tc : Thread Cert.GlaRefIdeal.nD Cert.GlaRefIdeal.τ).loc Cert.GlaRefIdeal.main_arg6))).1 = (fun _ => 1#1)
    ∧ (Cert.Pre_gla_finite.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4)) (m ((c.tc : Thread Cert.GlaRefIdeal.nD Cert.GlaRefIdeal.τ).loc Cert.GlaRefIdeal.main_arg5)) (m ((c.tc : Thread Cert.GlaRefIdeal.nD Cert.GlaRefIdeal.τ).loc Cert.GlaRefIdeal.main_arg6))).2.1 = (fun _ => 1#1)
    ∧ (Cert.Pre_gla_finite.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4)) (m ((c.tc : Thread Cert.GlaRefIdeal.nD Cert.GlaRefIdeal.τ).loc Cert.GlaRefIdeal.main_arg5)) (m ((c.tc : Thread Cert.GlaRefIdeal.nD Cert.GlaRefIdeal.τ).loc Cert.GlaRefIdeal.main_arg6))).2.2.1 = (fun _ => 1#1)
    ∧ (Cert.Pre_gla_finite.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4)) (m ((c.tc : Thread Cert.GlaRefIdeal.nD Cert.GlaRefIdeal.τ).loc Cert.GlaRefIdeal.main_arg5)) (m ((c.tc : Thread Cert.GlaRefIdeal.nD Cert.GlaRefIdeal.τ).loc Cert.GlaRefIdeal.main_arg6))).2.2.2.1 = (fun _ => 1#1)
    ∧ (Cert.Pre_gla_finite.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4)) (m ((c.tc : Thread Cert.GlaRefIdeal.nD Cert.GlaRefIdeal.τ).loc Cert.GlaRefIdeal.main_arg5)) (m ((c.tc : Thread Cert.GlaRefIdeal.nD Cert.GlaRefIdeal.τ).loc Cert.GlaRefIdeal.main_arg6))).2.2.2.2.1 = (fun _ => 1#1)
    ∧ (Cert.Pre_gla_finite.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4)) (m ((c.tc : Thread Cert.GlaRefIdeal.nD Cert.GlaRefIdeal.τ).loc Cert.GlaRefIdeal.main_arg5)) (m ((c.tc : Thread Cert.GlaRefIdeal.nD Cert.GlaRefIdeal.τ).loc Cert.GlaRefIdeal.main_arg6))).2.2.2.2.2.1 = (fun _ => 1#1)
    ∧ (Cert.Pre_gla_finite.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4)) (m ((c.tc : Thread Cert.GlaRefIdeal.nD Cert.GlaRefIdeal.τ).loc Cert.GlaRefIdeal.main_arg5)) (m ((c.tc : Thread Cert.GlaRefIdeal.nD Cert.GlaRefIdeal.τ).loc Cert.GlaRefIdeal.main_arg6))).2.2.2.2.2.2 = (fun _ => 1#1)

def Pre_GlaFwd (m : (ℓ : Loc Cert.GlaFwd.nD Cert.GlaFwd.τ Cert.GlaFwd.sig) → Buf (Elt Bits) ℓ) : Prop :=
  True

def Pre_GlaFwdIdeal (m : (ℓ : Loc Cert.GlaFwdIdeal.nD Cert.GlaFwdIdeal.τ Cert.GlaFwdIdeal.sig) → Buf (Elt Ideal) ℓ) : Prop :=
  True

def Pre_GlaFwdIdeal_gla_fwd_finite [hPre_gla_fwd_finite : Cert.Pre_gla_fwd_finite.Facts] (m : (ℓ : Loc Cert.GlaFwdIdeal.nD Cert.GlaFwdIdeal.τ Cert.GlaFwdIdeal.sig) → Buf (Elt Ideal) ℓ) : Prop :=
  ∀ c : Dev Cert.GlaFwdIdeal.nD,
    (Cert.Pre_gla_fwd_finite.fn (F := Ideal) (m ((c.tc : Thread Cert.GlaFwdIdeal.nD Cert.GlaFwdIdeal.τ).loc Cert.GlaFwdIdeal.main_arg0)) (m ((c.tc : Thread Cert.GlaFwdIdeal.nD Cert.GlaFwdIdeal.τ).loc Cert.GlaFwdIdeal.main_arg1)) (m ((c.tc : Thread Cert.GlaFwdIdeal.nD Cert.GlaFwdIdeal.τ).loc Cert.GlaFwdIdeal.main_arg2)) (m ((c.tc : Thread Cert.GlaFwdIdeal.nD Cert.GlaFwdIdeal.τ).loc Cert.GlaFwdIdeal.main_arg3)) (m ((c.tc : Thread Cert.GlaFwdIdeal.nD Cert.GlaFwdIdeal.τ).loc Cert.GlaFwdIdeal.main_arg4)) (m ((c.tc : Thread Cert.GlaFwdIdeal.nD Cert.GlaFwdIdeal.τ).loc Cert.GlaFwdIdeal.main_arg5))).1 = (fun _ => 1#1)
    ∧ (Cert.Pre_gla_fwd_finite.fn (F := Ideal) (m ((c.tc : Thread Cert.GlaFwdIdeal.nD Cert.GlaFwdIdeal.τ).loc Cert.GlaFwdIdeal.main_arg0)) (m ((c.tc : Thread Cert.GlaFwdIdeal.nD Cert.GlaFwdIdeal.τ).loc Cert.GlaFwdIdeal.main_arg1)) (m ((c.tc : Thread Cert.GlaFwdIdeal.nD Cert.GlaFwdIdeal.τ).loc Cert.GlaFwdIdeal.main_arg2)) (m ((c.tc : Thread Cert.GlaFwdIdeal.nD Cert.GlaFwdIdeal.τ).loc Cert.GlaFwdIdeal.main_arg3)) (m ((c.tc : Thread Cert.GlaFwdIdeal.nD Cert.GlaFwdIdeal.τ).loc Cert.GlaFwdIdeal.main_arg4)) (m ((c.tc : Thread Cert.GlaFwdIdeal.nD Cert.GlaFwdIdeal.τ).loc Cert.GlaFwdIdeal.main_arg5))).2.1 = (fun _ => 1#1)
    ∧ (Cert.Pre_gla_fwd_finite.fn (F := Ideal) (m ((c.tc : Thread Cert.GlaFwdIdeal.nD Cert.GlaFwdIdeal.τ).loc Cert.GlaFwdIdeal.main_arg0)) (m ((c.tc : Thread Cert.GlaFwdIdeal.nD Cert.GlaFwdIdeal.τ).loc Cert.GlaFwdIdeal.main_arg1)) (m ((c.tc : Thread Cert.GlaFwdIdeal.nD Cert.GlaFwdIdeal.τ).loc Cert.GlaFwdIdeal.main_arg2)) (m ((c.tc : Thread Cert.GlaFwdIdeal.nD Cert.GlaFwdIdeal.τ).loc Cert.GlaFwdIdeal.main_arg3)) (m ((c.tc : Thread Cert.GlaFwdIdeal.nD Cert.GlaFwdIdeal.τ).loc Cert.GlaFwdIdeal.main_arg4)) (m ((c.tc : Thread Cert.GlaFwdIdeal.nD Cert.GlaFwdIdeal.τ).loc Cert.GlaFwdIdeal.main_arg5))).2.2.1 = (fun _ => 1#1)
    ∧ (Cert.Pre_gla_fwd_finite.fn (F := Ideal) (m ((c.tc : Thread Cert.GlaFwdIdeal.nD Cert.GlaFwdIdeal.τ).loc Cert.GlaFwdIdeal.main_arg0)) (m ((c.tc : Thread Cert.GlaFwdIdeal.nD Cert.GlaFwdIdeal.τ).loc Cert.GlaFwdIdeal.main_arg1)) (m ((c.tc : Thread Cert.GlaFwdIdeal.nD Cert.GlaFwdIdeal.τ).loc Cert.GlaFwdIdeal.main_arg2)) (m ((c.tc : Thread Cert.GlaFwdIdeal.nD Cert.GlaFwdIdeal.τ).loc Cert.GlaFwdIdeal.main_arg3)) (m ((c.tc : Thread Cert.GlaFwdIdeal.nD Cert.GlaFwdIdeal.τ).loc Cert.GlaFwdIdeal.main_arg4)) (m ((c.tc : Thread Cert.GlaFwdIdeal.nD Cert.GlaFwdIdeal.τ).loc Cert.GlaFwdIdeal.main_arg5))).2.2.2.1 = (fun _ => 1#1)
    ∧ (Cert.Pre_gla_fwd_finite.fn (F := Ideal) (m ((c.tc : Thread Cert.GlaFwdIdeal.nD Cert.GlaFwdIdeal.τ).loc Cert.GlaFwdIdeal.main_arg0)) (m ((c.tc : Thread Cert.GlaFwdIdeal.nD Cert.GlaFwdIdeal.τ).loc Cert.GlaFwdIdeal.main_arg1)) (m ((c.tc : Thread Cert.GlaFwdIdeal.nD Cert.GlaFwdIdeal.τ).loc Cert.GlaFwdIdeal.main_arg2)) (m ((c.tc : Thread Cert.GlaFwdIdeal.nD Cert.GlaFwdIdeal.τ).loc Cert.GlaFwdIdeal.main_arg3)) (m ((c.tc : Thread Cert.GlaFwdIdeal.nD Cert.GlaFwdIdeal.τ).loc Cert.GlaFwdIdeal.main_arg4)) (m ((c.tc : Thread Cert.GlaFwdIdeal.nD Cert.GlaFwdIdeal.τ).loc Cert.GlaFwdIdeal.main_arg5))).2.2.2.2.1 = (fun _ => 1#1)
    ∧ (Cert.Pre_gla_fwd_finite.fn (F := Ideal) (m ((c.tc : Thread Cert.GlaFwdIdeal.nD Cert.GlaFwdIdeal.τ).loc Cert.GlaFwdIdeal.main_arg0)) (m ((c.tc : Thread Cert.GlaFwdIdeal.nD Cert.GlaFwdIdeal.τ).loc Cert.GlaFwdIdeal.main_arg1)) (m ((c.tc : Thread Cert.GlaFwdIdeal.nD Cert.GlaFwdIdeal.τ).loc Cert.GlaFwdIdeal.main_arg2)) (m ((c.tc : Thread Cert.GlaFwdIdeal.nD Cert.GlaFwdIdeal.τ).loc Cert.GlaFwdIdeal.main_arg3)) (m ((c.tc : Thread Cert.GlaFwdIdeal.nD Cert.GlaFwdIdeal.τ).loc Cert.GlaFwdIdeal.main_arg4)) (m ((c.tc : Thread Cert.GlaFwdIdeal.nD Cert.GlaFwdIdeal.τ).loc Cert.GlaFwdIdeal.main_arg5))).2.2.2.2.2 = (fun _ => 1#1)

def Pre_GlaFwdRefIdeal (m : (ℓ : Loc Cert.GlaFwdRefIdeal.nD Cert.GlaFwdRefIdeal.τ Cert.GlaFwdRefIdeal.sig) → Buf (Elt Ideal) ℓ) : Prop :=
  True

def Pre_GlaFwdRefIdeal_gla_fwd_finite [hPre_gla_fwd_finite : Cert.Pre_gla_fwd_finite.Facts] (m : (ℓ : Loc Cert.GlaFwdRefIdeal.nD Cert.GlaFwdRefIdeal.τ Cert.GlaFwdRefIdeal.sig) → Buf (Elt Ideal) ℓ) : Prop :=
  ∀ c : Dev Cert.GlaFwdRefIdeal.nD,
    (Cert.Pre_gla_fwd_finite.fn (F := Ideal) (m ((c.tc : Thread Cert.GlaFwdRefIdeal.nD Cert.GlaFwdRefIdeal.τ).loc Cert.GlaFwdRefIdeal.main_arg0)) (m ((c.tc : Thread Cert.GlaFwdRefIdeal.nD Cert.GlaFwdRefIdeal.τ).loc Cert.GlaFwdRefIdeal.main_arg1)) (m ((c.tc : Thread Cert.GlaFwdRefIdeal.nD Cert.GlaFwdRefIdeal.τ).loc Cert.GlaFwdRefIdeal.main_arg2)) (m ((c.tc : Thread Cert.GlaFwdRefIdeal.nD Cert.GlaFwdRefIdeal.τ).loc Cert.GlaFwdRefIdeal.main_arg3)) (m ((c.tc : Thread Cert.GlaFwdRefIdeal.nD Cert.GlaFwdRefIdeal.τ).loc Cert.GlaFwdRefIdeal.main_arg4)) (m ((c.tc : Thread Cert.GlaFwdRefIdeal.nD Cert.GlaFwdRefIdeal.τ).loc Cert.GlaFwdRefIdeal.main_arg5))).1 = (fun _ => 1#1)
    ∧ (Cert.Pre_gla_fwd_finite.fn (F := Ideal) (m ((c.tc : Thread Cert.GlaFwdRefIdeal.nD Cert.GlaFwdRefIdeal.τ).loc Cert.GlaFwdRefIdeal.main_arg0)) (m ((c.tc : Thread Cert.GlaFwdRefIdeal.nD Cert.GlaFwdRefIdeal.τ).loc Cert.GlaFwdRefIdeal.main_arg1)) (m ((c.tc : Thread Cert.GlaFwdRefIdeal.nD Cert.GlaFwdRefIdeal.τ).loc Cert.GlaFwdRefIdeal.main_arg2)) (m ((c.tc : Thread Cert.GlaFwdRefIdeal.nD Cert.GlaFwdRefIdeal.τ).loc Cert.GlaFwdRefIdeal.main_arg3)) (m ((c.tc : Thread Cert.GlaFwdRefIdeal.nD Cert.GlaFwdRefIdeal.τ).loc Cert.GlaFwdRefIdeal.main_arg4)) (m ((c.tc : Thread Cert.GlaFwdRefIdeal.nD Cert.GlaFwdRefIdeal.τ).loc Cert.GlaFwdRefIdeal.main_arg5))).2.1 = (fun _ => 1#1)
    ∧ (Cert.Pre_gla_fwd_finite.fn (F := Ideal) (m ((c.tc : Thread Cert.GlaFwdRefIdeal.nD Cert.GlaFwdRefIdeal.τ).loc Cert.GlaFwdRefIdeal.main_arg0)) (m ((c.tc : Thread Cert.GlaFwdRefIdeal.nD Cert.GlaFwdRefIdeal.τ).loc Cert.GlaFwdRefIdeal.main_arg1)) (m ((c.tc : Thread Cert.GlaFwdRefIdeal.nD Cert.GlaFwdRefIdeal.τ).loc Cert.GlaFwdRefIdeal.main_arg2)) (m ((c.tc : Thread Cert.GlaFwdRefIdeal.nD Cert.GlaFwdRefIdeal.τ).loc Cert.GlaFwdRefIdeal.main_arg3)) (m ((c.tc : Thread Cert.GlaFwdRefIdeal.nD Cert.GlaFwdRefIdeal.τ).loc Cert.GlaFwdRefIdeal.main_arg4)) (m ((c.tc : Thread Cert.GlaFwdRefIdeal.nD Cert.GlaFwdRefIdeal.τ).loc Cert.GlaFwdRefIdeal.main_arg5))).2.2.1 = (fun _ => 1#1)
    ∧ (Cert.Pre_gla_fwd_finite.fn (F := Ideal) (m ((c.tc : Thread Cert.GlaFwdRefIdeal.nD Cert.GlaFwdRefIdeal.τ).loc Cert.GlaFwdRefIdeal.main_arg0)) (m ((c.tc : Thread Cert.GlaFwdRefIdeal.nD Cert.GlaFwdRefIdeal.τ).loc Cert.GlaFwdRefIdeal.main_arg1)) (m ((c.tc : Thread Cert.GlaFwdRefIdeal.nD Cert.GlaFwdRefIdeal.τ).loc Cert.GlaFwdRefIdeal.main_arg2)) (m ((c.tc : Thread Cert.GlaFwdRefIdeal.nD Cert.GlaFwdRefIdeal.τ).loc Cert.GlaFwdRefIdeal.main_arg3)) (m ((c.tc : Thread Cert.GlaFwdRefIdeal.nD Cert.GlaFwdRefIdeal.τ).loc Cert.GlaFwdRefIdeal.main_arg4)) (m ((c.tc : Thread Cert.GlaFwdRefIdeal.nD Cert.GlaFwdRefIdeal.τ).loc Cert.GlaFwdRefIdeal.main_arg5))).2.2.2.1 = (fun _ => 1#1)
    ∧ (Cert.Pre_gla_fwd_finite.fn (F := Ideal) (m ((c.tc : Thread Cert.GlaFwdRefIdeal.nD Cert.GlaFwdRefIdeal.τ).loc Cert.GlaFwdRefIdeal.main_arg0)) (m ((c.tc : Thread Cert.GlaFwdRefIdeal.nD Cert.GlaFwdRefIdeal.τ).loc Cert.GlaFwdRefIdeal.main_arg1)) (m ((c.tc : Thread Cert.GlaFwdRefIdeal.nD Cert.GlaFwdRefIdeal.τ).loc Cert.GlaFwdRefIdeal.main_arg2)) (m ((c.tc : Thread Cert.GlaFwdRefIdeal.nD Cert.GlaFwdRefIdeal.τ).loc Cert.GlaFwdRefIdeal.main_arg3)) (m ((c.tc : Thread Cert.GlaFwdRefIdeal.nD Cert.GlaFwdRefIdeal.τ).loc Cert.GlaFwdRefIdeal.main_arg4)) (m ((c.tc : Thread Cert.GlaFwdRefIdeal.nD Cert.GlaFwdRefIdeal.τ).loc Cert.GlaFwdRefIdeal.main_arg5))).2.2.2.2.1 = (fun _ => 1#1)
    ∧ (Cert.Pre_gla_fwd_finite.fn (F := Ideal) (m ((c.tc : Thread Cert.GlaFwdRefIdeal.nD Cert.GlaFwdRefIdeal.τ).loc Cert.GlaFwdRefIdeal.main_arg0)) (m ((c.tc : Thread Cert.GlaFwdRefIdeal.nD Cert.GlaFwdRefIdeal.τ).loc Cert.GlaFwdRefIdeal.main_arg1)) (m ((c.tc : Thread Cert.GlaFwdRefIdeal.nD Cert.GlaFwdRefIdeal.τ).loc Cert.GlaFwdRefIdeal.main_arg2)) (m ((c.tc : Thread Cert.GlaFwdRefIdeal.nD Cert.GlaFwdRefIdeal.τ).loc Cert.GlaFwdRefIdeal.main_arg3)) (m ((c.tc : Thread Cert.GlaFwdRefIdeal.nD Cert.GlaFwdRefIdeal.τ).loc Cert.GlaFwdRefIdeal.main_arg4)) (m ((c.tc : Thread Cert.GlaFwdRefIdeal.nD Cert.GlaFwdRefIdeal.τ).loc Cert.GlaFwdRefIdeal.main_arg5))).2.2.2.2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_merge_finite [hPre_merge_finite : Cert.Pre_merge_finite.Facts] (m : (ℓ : Loc Cert.MergeIdeal.nD Cert.MergeIdeal.τ Cert.MergeIdeal.sig) → Buf (Elt Ideal) ℓ) : Prop :=
  ∀ c : Dev Cert.MergeIdeal.nD,
    (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6))).1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6))).2.1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6))).2.2.1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6))).2.2.2.1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6))).2.2.2.2.1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6))).2.2.2.2.2.1 = (fun _ => 1#1)
    ∧ (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6))).2.2.2.2.2.2 = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_merge_finite [hPre_merge_finite : Cert.Pre_merge_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6))).1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6))).2.1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6))).2.2.1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6))).2.2.2.1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6))).2.2.2.2.1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6))).2.2.2.2.2.1 = (fun _ => 1#1)
    ∧ (Cert.Pre_merge_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6))).2.2.2.2.2.2 = (fun _ => 1#1)

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_GdnBwd (m : (ℓ : Loc Cert.GdnBwd.nD Cert.GdnBwd.τ Cert.GdnBwd.sig) → Buf (Elt Bits) ℓ) : Prop :=
  True

def Pre_GdnBwdIdeal (m : (ℓ : Loc Cert.GdnBwdIdeal.nD Cert.GdnBwdIdeal.τ Cert.GdnBwdIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_head_finite [hPre_head_finite : Cert.Pre_head_finite.Facts] (m : (ℓ : Loc Cert.HeadIdeal.nD Cert.HeadIdeal.τ Cert.HeadIdeal.sig) → Buf (Elt Ideal) ℓ) : Prop :=
  ∀ c : Dev Cert.HeadIdeal.nD,
    (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6))).1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6))).2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6))).2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6))).2.2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6))).2.2.2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6))).2.2.2.2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6))).2.2.2.2.2.2 = (fun _ => 1#1)

def Pre_HeadRefIdeal (m : (ℓ : Loc Cert.HeadRefIdeal.nD Cert.HeadRefIdeal.τ Cert.HeadRefIdeal.sig) → Buf (Elt Ideal) ℓ) : Prop :=
  True

def Pre_HeadRefIdeal_head_finite [hPre_head_finite : Cert.Pre_head_finite.Facts] (m : (ℓ : Loc Cert.HeadRefIdeal.nD Cert.HeadRefIdeal.τ Cert.HeadRefIdeal.sig) → Buf (Elt Ideal) ℓ) : Prop :=
  ∀ c : Dev Cert.HeadRefIdeal.nD,
    (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6))).1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6))).2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6))).2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6))).2.2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6))).2.2.2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6))).2.2.2.2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6))).2.2.2.2.2.2 = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_NormProj (m : (ℓ : Loc Cert.NormProj.nD Cert.NormProj.τ Cert.NormProj.sig) → Buf (Elt Bits) ℓ) : Prop :=
  True

def Pre_NormProjIdeal (m : (ℓ : Loc Cert.NormProjIdeal.nD Cert.NormProjIdeal.τ Cert.NormProjIdeal.sig) → Buf (Elt Ideal) ℓ) : Prop :=
  True

def Pre_NormProjRefIdeal (m : (ℓ : Loc Cert.NormProjRefIdeal.nD Cert.NormProjRefIdeal.τ Cert.NormProjRefIdeal.sig) → Buf (Elt Ideal) ℓ) : Prop :=
  True

def Pre_GdnFwd (m : (ℓ : Loc Cert.GdnFwd.nD Cert.GdnFwd.τ Cert.GdnFwd.sig) → Buf (Elt Bits) ℓ) : Prop :=
  True

def Pre_GdnFwdIdeal (m : (ℓ : Loc Cert.GdnFwdIdeal.nD Cert.GdnFwdIdeal.τ Cert.GdnFwdIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4)
      ∧ r.2.mem ((c.tc : Thread Cert.FfnIn.nD Cert.FfnIn.τ).loc Cert.FfnIn.main_arg5) = m ((c.tc : Thread Cert.FfnIn.nD Cert.FfnIn.τ).loc Cert.FfnIn.main_arg5)
      ∧ r.2.mem ((c.tc : Thread Cert.FfnIn.nD Cert.FfnIn.τ).loc Cert.FfnIn.main_arg6) = m ((c.tc : Thread Cert.FfnIn.nD Cert.FfnIn.τ).loc Cert.FfnIn.main_arg6))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ r.2.sem = fun _ => 0)

def quiescent_FfnInIdeal_pre_ffn_in_finite [hFfnInIdeal : Cert.FfnInIdeal.Facts] [hPre_ffn_in_finite : Cert.Pre_ffn_in_finite.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal_ffn_in_finite m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6))
      ∧ r.2.sem = fun _ => 0)

def quiescent_FfnInRefIdeal_pre_ffn_in_finite [hFfnInRefIdeal : Cert.FfnInRefIdeal.Facts] [hPre_ffn_in_finite : Cert.Pre_ffn_in_finite.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal_ffn_in_finite m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6))
      ∧ r.2.sem = fun _ => 0)

def quiescent_FfnHid [hFfnHid : Cert.FfnHid.Facts] : Prop :=
  ∀ (m : (ℓ : Loc Cert.FfnHid.nD Cert.FfnHid.τ Cert.FfnHid.sig) → Buf (Elt Bits) ℓ) (g : Dev Cert.FfnHid.nD → PrngReg), Pre_FfnHid m →
    θ_run (Cert.FfnHid.defs (F := Bits)) (onTc (τ := Cert.FfnHid.τ) (Cert.FfnHid.main (F := Bits))) ⟨m, fun _ => 0, g⟩ (fun r => (∀ c : Dev Cert.FfnHid.nD,
      r.2.mem ((c.tc : Thread Cert.FfnHid.nD Cert.FfnHid.τ).loc Cert.FfnHid.main_arg0) = m ((c.tc : Thread Cert.FfnHid.nD Cert.FfnHid.τ).loc Cert.FfnHid.main_arg0)
      ∧ r.2.mem ((c.tc : Thread Cert.FfnHid.nD Cert.FfnHid.τ).loc Cert.FfnHid.main_arg1) = m ((c.tc : Thread Cert.FfnHid.nD Cert.FfnHid.τ).loc Cert.FfnHid.main_arg1)
      ∧ r.2.mem ((c.tc : Thread Cert.FfnHid.nD Cert.FfnHid.τ).loc Cert.FfnHid.main_arg2) = m ((c.tc : Thread Cert.FfnHid.nD Cert.FfnHid.τ).loc Cert.FfnHid.main_arg2)
      ∧ r.2.mem ((c.tc : Thread Cert.FfnHid.nD Cert.FfnHid.τ).loc Cert.FfnHid.main_arg3) = m ((c.tc : Thread Cert.FfnHid.nD Cert.FfnHid.τ).loc Cert.FfnHid.main_arg3)
      ∧ r.2.mem ((c.tc : Thread Cert.FfnHid.nD Cert.FfnHid.τ).loc Cert.FfnHid.main_arg4) = m ((c.tc : Thread Cert.FfnHid.nD Cert.FfnHid.τ).loc Cert.FfnHid.main_arg4)
      ∧ r.2.mem ((c.tc : Thread Cert.FfnHid.nD Cert.FfnHid.τ).loc Cert.FfnHid.main_arg5) = m ((c.tc : Thread Cert.FfnHid.nD Cert.FfnHid.τ).loc Cert.FfnHid.main_arg5))
      ∧ r.2.sem = fun _ => 0)

def quiescent_FfnHidIdeal [hFfnHidIdeal : Cert.FfnHidIdeal.Facts] : Prop :=
  ∀ (m : (ℓ : Loc Cert.FfnHidIdeal.nD Cert.FfnHidIdeal.τ Cert.FfnHidIdeal.sig) → Buf (Elt Ideal) ℓ) (g : Dev Cert.FfnHidIdeal.nD → PrngReg), Pre_FfnHidIdeal m →
    θ_run (Cert.FfnHidIdeal.defs (F := Ideal)) (onTc (τ := Cert.FfnHidIdeal.τ) (Cert.FfnHidIdeal.main (F := Ideal))) ⟨m, fun _ => 0, g⟩ (fun r => (∀ c : Dev Cert.FfnHidIdeal.nD,
      r.2.mem ((c.tc : Thread Cert.FfnHidIdeal.nD Cert.FfnHidIdeal.τ).loc Cert.FfnHidIdeal.main_arg0) = m ((c.tc : Thread Cert.FfnHidIdeal.nD Cert.FfnHidIdeal.τ).loc Cert.FfnHidIdeal.main_arg0)
      ∧ r.2.mem ((c.tc : Thread Cert.FfnHidIdeal.nD Cert.FfnHidIdeal.τ).loc Cert.FfnHidIdeal.main_arg1) = m ((c.tc : Thread Cert.FfnHidIdeal.nD Cert.FfnHidIdeal.τ).loc Cert.FfnHidIdeal.main_arg1)
      ∧ r.2.mem ((c.tc : Thread Cert.FfnHidIdeal.nD Cert.FfnHidIdeal.τ).loc Cert.FfnHidIdeal.main_arg2) = m ((c.tc : Thread Cert.FfnHidIdeal.nD Cert.FfnHidIdeal.τ).loc Cert.FfnHidIdeal.main_arg2)
      ∧ r.2.mem ((c.tc : Thread Cert.FfnHidIdeal.nD Cert.FfnHidIdeal.τ).loc Cert.FfnHidIdeal.main_arg3) = m ((c.tc : Thread Cert.FfnHidIdeal.nD Cert.FfnHidIdeal.τ).loc Cert.FfnHidIdeal.main_arg3)
      ∧ r.2.mem ((c.tc : Thread Cert.FfnHidIdeal.nD Cert.FfnHidIdeal.τ).loc Cert.FfnHidIdeal.main_arg4) = m ((c.tc : Thread Cert.FfnHidIdeal.nD Cert.FfnHidIdeal.τ).loc Cert.FfnHidIdeal.main_arg4)
      ∧ r.2.mem ((c.tc : Thread Cert.FfnHidIdeal.nD Cert.FfnHidIdeal.τ).loc Cert.FfnHidIdeal.main_arg5) = m ((c.tc : Thread Cert.FfnHidIdeal.nD Cert.FfnHidIdeal.τ).loc Cert.FfnHidIdeal.main_arg5))
      ∧ r.2.sem = fun _ => 0)

def quiescent_FfnHidIdeal_pre_ffn_hid_finite [hFfnHidIdeal : Cert.FfnHidIdeal.Facts] [hPre_ffn_hid_finite : Cert.Pre_ffn_hid_finite.Facts] : Prop :=
  ∀ (m : (ℓ : Loc Cert.FfnHidIdeal.nD Cert.FfnHidIdeal.τ Cert.FfnHidIdeal.sig) → Buf (Elt Ideal) ℓ) (g : Dev Cert.FfnHidIdeal.nD → PrngReg), Pre_FfnHidIdeal_ffn_hid_finite m →
    θ_run (Cert.FfnHidIdeal.defs (F := Ideal)) (onTc (τ := Cert.FfnHidIdeal.τ) (Cert.FfnHidIdeal.main (F := Ideal))) ⟨m, fun _ => 0, g⟩ (fun r => (∀ c : Dev Cert.FfnHidIdeal.nD,
      r.2.mem ((c.tc : Thread Cert.FfnHidIdeal.nD Cert.FfnHidIdeal.τ).loc Cert.FfnHidIdeal.main_arg0) = m ((c.tc : Thread Cert.FfnHidIdeal.nD Cert.FfnHidIdeal.τ).loc Cert.FfnHidIdeal.main_arg0)
      ∧ r.2.mem ((c.tc : Thread Cert.FfnHidIdeal.nD Cert.FfnHidIdeal.τ).loc Cert.FfnHidIdeal.main_arg1) = m ((c.tc : Thread Cert.FfnHidIdeal.nD Cert.FfnHidIdeal.τ).loc Cert.FfnHidIdeal.main_arg1)
      ∧ r.2.mem ((c.tc : Thread Cert.FfnHidIdeal.nD Cert.FfnHidIdeal.τ).loc Cert.FfnHidIdeal.main_arg2) = m ((c.tc : Thread Cert.FfnHidIdeal.nD Cert.FfnHidIdeal.τ).loc Cert.FfnHidIdeal.main_arg2)
      ∧ r.2.mem ((c.tc : Thread Cert.FfnHidIdeal.nD Cert.FfnHidIdeal.τ).loc Cert.FfnHidIdeal.main_arg3) = m ((c.tc : Thread Cert.FfnHidIdeal.nD Cert.FfnHidIdeal.τ).loc Cert.FfnHidIdeal.main_arg3)
      ∧ r.2.mem ((c.tc : Thread Cert.FfnHidIdeal.nD Cert.FfnHidIdeal.τ).loc Cert.FfnHidIdeal.main_arg4) = m ((c.tc : Thread Cert.FfnHidIdeal.nD Cert.FfnHidIdeal.τ).loc Cert.FfnHidIdeal.main_arg4)
      ∧ r.2.mem ((c.tc : Thread Cert.FfnHidIdeal.nD Cert.FfnHidIdeal.τ).loc Cert.FfnHidIdeal.main_arg5) = m ((c.tc : Thread Cert.FfnHidIdeal.nD Cert.FfnHidIdeal.τ).loc Cert.FfnHidIdeal.main_arg5))
      ∧ r.2.sem = fun _ => 0)

def quiescent_FfnHidRefIdeal [hFfnHidRefIdeal : Cert.FfnHidRefIdeal.Facts] : Prop :=
  ∀ (m : (ℓ : Loc Cert.FfnHidRefIdeal.nD Cert.FfnHidRefIdeal.τ Cert.FfnHidRefIdeal.sig) → Buf (Elt Ideal) ℓ) (g : Dev Cert.FfnHidRefIdeal.nD → PrngReg), Pre_FfnHidRefIdeal m →
    θ_run (Cert.FfnHidRefIdeal.defs (F := Ideal)) (onTc (τ := Cert.FfnHidRefIdeal.τ) (Cert.FfnHidRefIdeal.main (F := Ideal))) ⟨m, fun _ => 0, g⟩ (fun r => (∀ c : Dev Cert.FfnHidRefIdeal.nD,
      r.2.mem ((c.tc : Thread Cert.FfnHidRefIdeal.nD Cert.FfnHidRefIdeal.τ).loc Cert.FfnHidRefIdeal.main_arg0) = m ((c.tc : Thread Cert.FfnHidRefIdeal.nD Cert.FfnHidRefIdeal.τ).loc Cert.FfnHidRefIdeal.main_arg0)
      ∧ r.2.mem ((c.tc : Thread Cert.FfnHidRefIdeal.nD Cert.FfnHidRefIdeal.τ).loc Cert.FfnHidRefIdeal.main_arg1) = m ((c.tc : Thread Cert.FfnHidRefIdeal.nD Cert.FfnHidRefIdeal.τ).loc Cert.FfnHidRefIdeal.main_arg1)
      ∧ r.2.mem ((c.tc : Thread Cert.FfnHidRefIdeal.nD Cert.FfnHidRefIdeal.τ).loc Cert.FfnHidRefIdeal.main_arg2) = m ((c.tc : Thread Cert.FfnHidRefIdeal.nD Cert.FfnHidRefIdeal.τ).loc Cert.FfnHidRefIdeal.main_arg2)
      ∧ r.2.mem ((c.tc : Thread Cert.FfnHidRefIdeal.nD Cert.FfnHidRefIdeal.τ).loc Cert.FfnHidRefIdeal.main_arg3) = m ((c.tc : Thread Cert.FfnHidRefIdeal.nD Cert.FfnHidRefIdeal.τ).loc Cert.FfnHidRefIdeal.main_arg3)
      ∧ r.2.mem ((c.tc : Thread Cert.FfnHidRefIdeal.nD Cert.FfnHidRefIdeal.τ).loc Cert.FfnHidRefIdeal.main_arg4) = m ((c.tc : Thread Cert.FfnHidRefIdeal.nD Cert.FfnHidRefIdeal.τ).loc Cert.FfnHidRefIdeal.main_arg4)
      ∧ r.2.mem ((c.tc : Thread Cert.FfnHidRefIdeal.nD Cert.FfnHidRefIdeal.τ).loc Cert.FfnHidRefIdeal.main_arg5) = m ((c.tc : Thread Cert.FfnHidRefIdeal.nD Cert.FfnHidRefIdeal.τ).loc Cert.FfnHidRefIdeal.main_arg5))
      ∧ r.2.sem = fun _ => 0)

def quiescent_FfnHidRefIdeal_pre_ffn_hid_finite [hFfnHidRefIdeal : Cert.FfnHidRefIdeal.Facts] [hPre_ffn_hid_finite : Cert.Pre_ffn_hid_finite.Facts] : Prop :=
  ∀ (m : (ℓ : Loc Cert.FfnHidRefIdeal.nD Cert.FfnHidRefIdeal.τ Cert.FfnHidRefIdeal.sig) → Buf (Elt Ideal) ℓ) (g : Dev Cert.FfnHidRefIdeal.nD → PrngReg), Pre_FfnHidRefIdeal_ffn_hid_finite m →
    θ_run (Cert.FfnHidRefIdeal.defs (F := Ideal)) (onTc (τ := Cert.FfnHidRefIdeal.τ) (Cert.FfnHidRefIdeal.main (F := Ideal))) ⟨m, fun _ => 0, g⟩ (fun r => (∀ c : Dev Cert.FfnHidRefIdeal.nD,
      r.2.mem ((c.tc : Thread Cert.FfnHidRefIdeal.nD Cert.FfnHidRefIdeal.τ).loc Cert.FfnHidRefIdeal.main_arg0) = m ((c.tc : Thread Cert.FfnHidRefIdeal.nD Cert.FfnHidRefIdeal.τ).loc Cert.FfnHidRefIdeal.main_arg0)
      ∧ r.2.mem ((c.tc : Thread Cert.FfnHidRefIdeal.nD Cert.FfnHidRefIdeal.τ).loc Cert.FfnHidRefIdeal.main_arg1) = m ((c.tc : Thread Cert.FfnHidRefIdeal.nD Cert.FfnHidRefIdeal.τ).loc Cert.FfnHidRefIdeal.main_arg1)
      ∧ r.2.mem ((c.tc : Thread Cert.FfnHidRefIdeal.nD Cert.FfnHidRefIdeal.τ).loc Cert.FfnHidRefIdeal.main_arg2) = m ((c.tc : Thread Cert.FfnHidRefIdeal.nD Cert.FfnHidRefIdeal.τ).loc Cert.FfnHidRefIdeal.main_arg2)
      ∧ r.2.mem ((c.tc : Thread Cert.FfnHidRefIdeal.nD Cert.FfnHidRefIdeal.τ).loc Cert.FfnHidRefIdeal.main_arg3) = m ((c.tc : Thread Cert.FfnHidRefIdeal.nD Cert.FfnHidRefIdeal.τ).loc Cert.FfnHidRefIdeal.main_arg3)
      ∧ r.2.mem ((c.tc : Thread Cert.FfnHidRefIdeal.nD Cert.FfnHidRefIdeal.τ).loc Cert.FfnHidRefIdeal.main_arg4) = m ((c.tc : Thread Cert.FfnHidRefIdeal.nD Cert.FfnHidRefIdeal.τ).loc Cert.FfnHidRefIdeal.main_arg4)
      ∧ r.2.mem ((c.tc : Thread Cert.FfnHidRefIdeal.nD Cert.FfnHidRefIdeal.τ).loc Cert.FfnHidRefIdeal.main_arg5) = m ((c.tc : Thread Cert.FfnHidRefIdeal.nD Cert.FfnHidRefIdeal.τ).loc Cert.FfnHidRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjIdeal_pre_proj_finite [hProjIdeal : Cert.ProjIdeal.Facts] [hPre_proj_finite : Cert.Pre_proj_finite.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_proj_finite m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_ProjRefIdeal_pre_proj_finite [hProjRefIdeal : Cert.ProjRefIdeal.Facts] [hPre_proj_finite : Cert.Pre_proj_finite.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_proj_finite m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5)
      ∧ r.2.mem ((c.tc : Thread Cert.Gla.nD Cert.Gla.τ).loc Cert.Gla.main_arg6) = m ((c.tc : Thread Cert.Gla.nD Cert.Gla.τ).loc Cert.Gla.main_arg6))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6))
      ∧ r.2.sem = fun _ => 0)

def quiescent_GlaIdeal_pre_gla_finite [hGlaIdeal : Cert.GlaIdeal.Facts] [hPre_gla_finite : Cert.Pre_gla_finite.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal_gla_finite m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4)
      ∧ r.2.mem ((c.tc : Thread Cert.GlaRefIdeal.nD Cert.GlaRefIdeal.τ).loc Cert.GlaRefIdeal.main_arg5) = m ((c.tc : Thread Cert.GlaRefIdeal.nD Cert.GlaRefIdeal.τ).loc Cert.GlaRefIdeal.main_arg5)
      ∧ r.2.mem ((c.tc : Thread Cert.GlaRefIdeal.nD Cert.GlaRefIdeal.τ).loc Cert.GlaRefIdeal.main_arg6) = m ((c.tc : Thread Cert.GlaRefIdeal.nD Cert.GlaRefIdeal.τ).loc Cert.GlaRefIdeal.main_arg6))
      ∧ r.2.sem = fun _ => 0)

def quiescent_GlaRefIdeal_pre_gla_finite [hGlaRefIdeal : Cert.GlaRefIdeal.Facts] [hPre_gla_finite : Cert.Pre_gla_finite.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal_gla_finite m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4)
      ∧ r.2.mem ((c.tc : Thread Cert.GlaRefIdeal.nD Cert.GlaRefIdeal.τ).loc Cert.GlaRefIdeal.main_arg5) = m ((c.tc : Thread Cert.GlaRefIdeal.nD Cert.GlaRefIdeal.τ).loc Cert.GlaRefIdeal.main_arg5)
      ∧ r.2.mem ((c.tc : Thread Cert.GlaRefIdeal.nD Cert.GlaRefIdeal.τ).loc Cert.GlaRefIdeal.main_arg6) = m ((c.tc : Thread Cert.GlaRefIdeal.nD Cert.GlaRefIdeal.τ).loc Cert.GlaRefIdeal.main_arg6))
      ∧ r.2.sem = fun _ => 0)

def quiescent_GlaFwd [hGlaFwd : Cert.GlaFwd.Facts] : Prop :=
  ∀ (m : (ℓ : Loc Cert.GlaFwd.nD Cert.GlaFwd.τ Cert.GlaFwd.sig) → Buf (Elt Bits) ℓ) (g : Dev Cert.GlaFwd.nD → PrngReg), Pre_GlaFwd m →
    θ_run (Cert.GlaFwd.defs (F := Bits)) (onTc (τ := Cert.GlaFwd.τ) (Cert.GlaFwd.main (F := Bits))) ⟨m, fun _ => 0, g⟩ (fun r => (∀ c : Dev Cert.GlaFwd.nD,
      r.2.mem ((c.tc : Thread Cert.GlaFwd.nD Cert.GlaFwd.τ).loc Cert.GlaFwd.main_arg0) = m ((c.tc : Thread Cert.GlaFwd.nD Cert.GlaFwd.τ).loc Cert.GlaFwd.main_arg0)
      ∧ r.2.mem ((c.tc : Thread Cert.GlaFwd.nD Cert.GlaFwd.τ).loc Cert.GlaFwd.main_arg1) = m ((c.tc : Thread Cert.GlaFwd.nD Cert.GlaFwd.τ).loc Cert.GlaFwd.main_arg1)
      ∧ r.2.mem ((c.tc : Thread Cert.GlaFwd.nD Cert.GlaFwd.τ).loc Cert.GlaFwd.main_arg2) = m ((c.tc : Thread Cert.GlaFwd.nD Cert.GlaFwd.τ).loc Cert.GlaFwd.main_arg2)
      ∧ r.2.mem ((c.tc : Thread Cert.GlaFwd.nD Cert.GlaFwd.τ).loc Cert.GlaFwd.main_arg3) = m ((c.tc : Thread Cert.GlaFwd.nD Cert.GlaFwd.τ).loc Cert.GlaFwd.main_arg3)
      ∧ r.2.mem ((c.tc : Thread Cert.GlaFwd.nD Cert.GlaFwd.τ).loc Cert.GlaFwd.main_arg4) = m ((c.tc : Thread Cert.GlaFwd.nD Cert.GlaFwd.τ).loc Cert.GlaFwd.main_arg4)
      ∧ r.2.mem ((c.tc : Thread Cert.GlaFwd.nD Cert.GlaFwd.τ).loc Cert.GlaFwd.main_arg5) = m ((c.tc : Thread Cert.GlaFwd.nD Cert.GlaFwd.τ).loc Cert.GlaFwd.main_arg5))
      ∧ r.2.sem = fun _ => 0)

def quiescent_GlaFwdIdeal [hGlaFwdIdeal : Cert.GlaFwdIdeal.Facts] : Prop :=
  ∀ (m : (ℓ : Loc Cert.GlaFwdIdeal.nD Cert.GlaFwdIdeal.τ Cert.GlaFwdIdeal.sig) → Buf (Elt Ideal) ℓ) (g : Dev Cert.GlaFwdIdeal.nD → PrngReg), Pre_GlaFwdIdeal m →
    θ_run (Cert.GlaFwdIdeal.defs (F := Ideal)) (onTc (τ := Cert.GlaFwdIdeal.τ) (Cert.GlaFwdIdeal.main (F := Ideal))) ⟨m, fun _ => 0, g⟩ (fun r => (∀ c : Dev Cert.GlaFwdIdeal.nD,
      r.2.mem ((c.tc : Thread Cert.GlaFwdIdeal.nD Cert.GlaFwdIdeal.τ).loc Cert.GlaFwdIdeal.main_arg0) = m ((c.tc : Thread Cert.GlaFwdIdeal.nD Cert.GlaFwdIdeal.τ).loc Cert.GlaFwdIdeal.main_arg0)
      ∧ r.2.mem ((c.tc : Thread Cert.GlaFwdIdeal.nD Cert.GlaFwdIdeal.τ).loc Cert.GlaFwdIdeal.main_arg1) = m ((c.tc : Thread Cert.GlaFwdIdeal.nD Cert.GlaFwdIdeal.τ).loc Cert.GlaFwdIdeal.main_arg1)
      ∧ r.2.mem ((c.tc : Thread Cert.GlaFwdIdeal.nD Cert.GlaFwdIdeal.τ).loc Cert.GlaFwdIdeal.main_arg2) = m ((c.tc : Thread Cert.GlaFwdIdeal.nD Cert.GlaFwdIdeal.τ).loc Cert.GlaFwdIdeal.main_arg2)
      ∧ r.2.mem ((c.tc : Thread Cert.GlaFwdIdeal.nD Cert.GlaFwdIdeal.τ).loc Cert.GlaFwdIdeal.main_arg3) = m ((c.tc : Thread Cert.GlaFwdIdeal.nD Cert.GlaFwdIdeal.τ).loc Cert.GlaFwdIdeal.main_arg3)
      ∧ r.2.mem ((c.tc : Thread Cert.GlaFwdIdeal.nD Cert.GlaFwdIdeal.τ).loc Cert.GlaFwdIdeal.main_arg4) = m ((c.tc : Thread Cert.GlaFwdIdeal.nD Cert.GlaFwdIdeal.τ).loc Cert.GlaFwdIdeal.main_arg4)
      ∧ r.2.mem ((c.tc : Thread Cert.GlaFwdIdeal.nD Cert.GlaFwdIdeal.τ).loc Cert.GlaFwdIdeal.main_arg5) = m ((c.tc : Thread Cert.GlaFwdIdeal.nD Cert.GlaFwdIdeal.τ).loc Cert.GlaFwdIdeal.main_arg5))
      ∧ r.2.sem = fun _ => 0)

def quiescent_GlaFwdIdeal_pre_gla_fwd_finite [hGlaFwdIdeal : Cert.GlaFwdIdeal.Facts] [hPre_gla_fwd_finite : Cert.Pre_gla_fwd_finite.Facts] : Prop :=
  ∀ (m : (ℓ : Loc Cert.GlaFwdIdeal.nD Cert.GlaFwdIdeal.τ Cert.GlaFwdIdeal.sig) → Buf (Elt Ideal) ℓ) (g : Dev Cert.GlaFwdIdeal.nD → PrngReg), Pre_GlaFwdIdeal_gla_fwd_finite m →
    θ_run (Cert.GlaFwdIdeal.defs (F := Ideal)) (onTc (τ := Cert.GlaFwdIdeal.τ) (Cert.GlaFwdIdeal.main (F := Ideal))) ⟨m, fun _ => 0, g⟩ (fun r => (∀ c : Dev Cert.GlaFwdIdeal.nD,
      r.2.mem ((c.tc : Thread Cert.GlaFwdIdeal.nD Cert.GlaFwdIdeal.τ).loc Cert.GlaFwdIdeal.main_arg0) = m ((c.tc : Thread Cert.GlaFwdIdeal.nD Cert.GlaFwdIdeal.τ).loc Cert.GlaFwdIdeal.main_arg0)
      ∧ r.2.mem ((c.tc : Thread Cert.GlaFwdIdeal.nD Cert.GlaFwdIdeal.τ).loc Cert.GlaFwdIdeal.main_arg1) = m ((c.tc : Thread Cert.GlaFwdIdeal.nD Cert.GlaFwdIdeal.τ).loc Cert.GlaFwdIdeal.main_arg1)
      ∧ r.2.mem ((c.tc : Thread Cert.GlaFwdIdeal.nD Cert.GlaFwdIdeal.τ).loc Cert.GlaFwdIdeal.main_arg2) = m ((c.tc : Thread Cert.GlaFwdIdeal.nD Cert.GlaFwdIdeal.τ).loc Cert.GlaFwdIdeal.main_arg2)
      ∧ r.2.mem ((c.tc : Thread Cert.GlaFwdIdeal.nD Cert.GlaFwdIdeal.τ).loc Cert.GlaFwdIdeal.main_arg3) = m ((c.tc : Thread Cert.GlaFwdIdeal.nD Cert.GlaFwdIdeal.τ).loc Cert.GlaFwdIdeal.main_arg3)
      ∧ r.2.mem ((c.tc : Thread Cert.GlaFwdIdeal.nD Cert.GlaFwdIdeal.τ).loc Cert.GlaFwdIdeal.main_arg4) = m ((c.tc : Thread Cert.GlaFwdIdeal.nD Cert.GlaFwdIdeal.τ).loc Cert.GlaFwdIdeal.main_arg4)
      ∧ r.2.mem ((c.tc : Thread Cert.GlaFwdIdeal.nD Cert.GlaFwdIdeal.τ).loc Cert.GlaFwdIdeal.main_arg5) = m ((c.tc : Thread Cert.GlaFwdIdeal.nD Cert.GlaFwdIdeal.τ).loc Cert.GlaFwdIdeal.main_arg5))
      ∧ r.2.sem = fun _ => 0)

def quiescent_GlaFwdRefIdeal [hGlaFwdRefIdeal : Cert.GlaFwdRefIdeal.Facts] : Prop :=
  ∀ (m : (ℓ : Loc Cert.GlaFwdRefIdeal.nD Cert.GlaFwdRefIdeal.τ Cert.GlaFwdRefIdeal.sig) → Buf (Elt Ideal) ℓ) (g : Dev Cert.GlaFwdRefIdeal.nD → PrngReg), Pre_GlaFwdRefIdeal m →
    θ_run (Cert.GlaFwdRefIdeal.defs (F := Ideal)) (onTc (τ := Cert.GlaFwdRefIdeal.τ) (Cert.GlaFwdRefIdeal.main (F := Ideal))) ⟨m, fun _ => 0, g⟩ (fun r => (∀ c : Dev Cert.GlaFwdRefIdeal.nD,
      r.2.mem ((c.tc : Thread Cert.GlaFwdRefIdeal.nD Cert.GlaFwdRefIdeal.τ).loc Cert.GlaFwdRefIdeal.main_arg0) = m ((c.tc : Thread Cert.GlaFwdRefIdeal.nD Cert.GlaFwdRefIdeal.τ).loc Cert.GlaFwdRefIdeal.main_arg0)
      ∧ r.2.mem ((c.tc : Thread Cert.GlaFwdRefIdeal.nD Cert.GlaFwdRefIdeal.τ).loc Cert.GlaFwdRefIdeal.main_arg1) = m ((c.tc : Thread Cert.GlaFwdRefIdeal.nD Cert.GlaFwdRefIdeal.τ).loc Cert.GlaFwdRefIdeal.main_arg1)
      ∧ r.2.mem ((c.tc : Thread Cert.GlaFwdRefIdeal.nD Cert.GlaFwdRefIdeal.τ).loc Cert.GlaFwdRefIdeal.main_arg2) = m ((c.tc : Thread Cert.GlaFwdRefIdeal.nD Cert.GlaFwdRefIdeal.τ).loc Cert.GlaFwdRefIdeal.main_arg2)
      ∧ r.2.mem ((c.tc : Thread Cert.GlaFwdRefIdeal.nD Cert.GlaFwdRefIdeal.τ).loc Cert.GlaFwdRefIdeal.main_arg3) = m ((c.tc : Thread Cert.GlaFwdRefIdeal.nD Cert.GlaFwdRefIdeal.τ).loc Cert.GlaFwdRefIdeal.main_arg3)
      ∧ r.2.mem ((c.tc : Thread Cert.GlaFwdRefIdeal.nD Cert.GlaFwdRefIdeal.τ).loc Cert.GlaFwdRefIdeal.main_arg4) = m ((c.tc : Thread Cert.GlaFwdRefIdeal.nD Cert.GlaFwdRefIdeal.τ).loc Cert.GlaFwdRefIdeal.main_arg4)
      ∧ r.2.mem ((c.tc : Thread Cert.GlaFwdRefIdeal.nD Cert.GlaFwdRefIdeal.τ).loc Cert.GlaFwdRefIdeal.main_arg5) = m ((c.tc : Thread Cert.GlaFwdRefIdeal.nD Cert.GlaFwdRefIdeal.τ).loc Cert.GlaFwdRefIdeal.main_arg5))
      ∧ r.2.sem = fun _ => 0)

def quiescent_GlaFwdRefIdeal_pre_gla_fwd_finite [hGlaFwdRefIdeal : Cert.GlaFwdRefIdeal.Facts] [hPre_gla_fwd_finite : Cert.Pre_gla_fwd_finite.Facts] : Prop :=
  ∀ (m : (ℓ : Loc Cert.GlaFwdRefIdeal.nD Cert.GlaFwdRefIdeal.τ Cert.GlaFwdRefIdeal.sig) → Buf (Elt Ideal) ℓ) (g : Dev Cert.GlaFwdRefIdeal.nD → PrngReg), Pre_GlaFwdRefIdeal_gla_fwd_finite m →
    θ_run (Cert.GlaFwdRefIdeal.defs (F := Ideal)) (onTc (τ := Cert.GlaFwdRefIdeal.τ) (Cert.GlaFwdRefIdeal.main (F := Ideal))) ⟨m, fun _ => 0, g⟩ (fun r => (∀ c : Dev Cert.GlaFwdRefIdeal.nD,
      r.2.mem ((c.tc : Thread Cert.GlaFwdRefIdeal.nD Cert.GlaFwdRefIdeal.τ).loc Cert.GlaFwdRefIdeal.main_arg0) = m ((c.tc : Thread Cert.GlaFwdRefIdeal.nD Cert.GlaFwdRefIdeal.τ).loc Cert.GlaFwdRefIdeal.main_arg0)
      ∧ r.2.mem ((c.tc : Thread Cert.GlaFwdRefIdeal.nD Cert.GlaFwdRefIdeal.τ).loc Cert.GlaFwdRefIdeal.main_arg1) = m ((c.tc : Thread Cert.GlaFwdRefIdeal.nD Cert.GlaFwdRefIdeal.τ).loc Cert.GlaFwdRefIdeal.main_arg1)
      ∧ r.2.mem ((c.tc : Thread Cert.GlaFwdRefIdeal.nD Cert.GlaFwdRefIdeal.τ).loc Cert.GlaFwdRefIdeal.main_arg2) = m ((c.tc : Thread Cert.GlaFwdRefIdeal.nD Cert.GlaFwdRefIdeal.τ).loc Cert.GlaFwdRefIdeal.main_arg2)
      ∧ r.2.mem ((c.tc : Thread Cert.GlaFwdRefIdeal.nD Cert.GlaFwdRefIdeal.τ).loc Cert.GlaFwdRefIdeal.main_arg3) = m ((c.tc : Thread Cert.GlaFwdRefIdeal.nD Cert.GlaFwdRefIdeal.τ).loc Cert.GlaFwdRefIdeal.main_arg3)
      ∧ r.2.mem ((c.tc : Thread Cert.GlaFwdRefIdeal.nD Cert.GlaFwdRefIdeal.τ).loc Cert.GlaFwdRefIdeal.main_arg4) = m ((c.tc : Thread Cert.GlaFwdRefIdeal.nD Cert.GlaFwdRefIdeal.τ).loc Cert.GlaFwdRefIdeal.main_arg4)
      ∧ r.2.mem ((c.tc : Thread Cert.GlaFwdRefIdeal.nD Cert.GlaFwdRefIdeal.τ).loc Cert.GlaFwdRefIdeal.main_arg5) = m ((c.tc : Thread Cert.GlaFwdRefIdeal.nD Cert.GlaFwdRefIdeal.τ).loc Cert.GlaFwdRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeIdeal_pre_merge_finite [hMergeIdeal : Cert.MergeIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_merge_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_MergeRefIdeal_pre_merge_finite [hMergeRefIdeal : Cert.MergeRefIdeal.Facts] [hPre_merge_finite : Cert.Pre_merge_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_merge_finite m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1))
      ∧ r.2.sem = fun _ => 0)

def quiescent_GdnBwd [hGdnBwd : Cert.GdnBwd.Facts] : Prop :=
  ∀ (m : (ℓ : Loc Cert.GdnBwd.nD Cert.GdnBwd.τ Cert.GdnBwd.sig) → Buf (Elt Bits) ℓ) (g : Dev Cert.GdnBwd.nD → PrngReg), Pre_GdnBwd m →
    θ_run (Cert.GdnBwd.defs (F := Bits)) (onTc (τ := Cert.GdnBwd.τ) (Cert.GdnBwd.main (F := Bits))) ⟨m, fun _ => 0, g⟩ (fun r => (∀ c : Dev Cert.GdnBwd.nD,
      r.2.mem ((c.tc : Thread Cert.GdnBwd.nD Cert.GdnBwd.τ).loc Cert.GdnBwd.main_arg0) = m ((c.tc : Thread Cert.GdnBwd.nD Cert.GdnBwd.τ).loc Cert.GdnBwd.main_arg0)
      ∧ r.2.mem ((c.tc : Thread Cert.GdnBwd.nD Cert.GdnBwd.τ).loc Cert.GdnBwd.main_arg1) = m ((c.tc : Thread Cert.GdnBwd.nD Cert.GdnBwd.τ).loc Cert.GdnBwd.main_arg1)
      ∧ r.2.mem ((c.tc : Thread Cert.GdnBwd.nD Cert.GdnBwd.τ).loc Cert.GdnBwd.main_arg2) = m ((c.tc : Thread Cert.GdnBwd.nD Cert.GdnBwd.τ).loc Cert.GdnBwd.main_arg2)
      ∧ r.2.mem ((c.tc : Thread Cert.GdnBwd.nD Cert.GdnBwd.τ).loc Cert.GdnBwd.main_arg3) = m ((c.tc : Thread Cert.GdnBwd.nD Cert.GdnBwd.τ).loc Cert.GdnBwd.main_arg3)
      ∧ r.2.mem ((c.tc : Thread Cert.GdnBwd.nD Cert.GdnBwd.τ).loc Cert.GdnBwd.main_arg4) = m ((c.tc : Thread Cert.GdnBwd.nD Cert.GdnBwd.τ).loc Cert.GdnBwd.main_arg4)
      ∧ r.2.mem ((c.tc : Thread Cert.GdnBwd.nD Cert.GdnBwd.τ).loc Cert.GdnBwd.main_arg5) = m ((c.tc : Thread Cert.GdnBwd.nD Cert.GdnBwd.τ).loc Cert.GdnBwd.main_arg5)
      ∧ r.2.mem ((c.tc : Thread Cert.GdnBwd.nD Cert.GdnBwd.τ).loc Cert.GdnBwd.main_arg6) = m ((c.tc : Thread Cert.GdnBwd.nD Cert.GdnBwd.τ).loc Cert.GdnBwd.main_arg6)
      ∧ r.2.mem ((c.tc : Thread Cert.GdnBwd.nD Cert.GdnBwd.τ).loc Cert.GdnBwd.main_arg7) = m ((c.tc : Thread Cert.GdnBwd.nD Cert.GdnBwd.τ).loc Cert.GdnBwd.main_arg7))
      ∧ r.2.sem = fun _ => 0)

def quiescent_GdnBwdIdeal [hGdnBwdIdeal : Cert.GdnBwdIdeal.Facts] : Prop :=
  ∀ (m : (ℓ : Loc Cert.GdnBwdIdeal.nD Cert.GdnBwdIdeal.τ Cert.GdnBwdIdeal.sig) → Buf (Elt Ideal) ℓ) (g : Dev Cert.GdnBwdIdeal.nD → PrngReg), Pre_GdnBwdIdeal m →
    θ_run (Cert.GdnBwdIdeal.defs (F := Ideal)) (onTc (τ := Cert.GdnBwdIdeal.τ) (Cert.GdnBwdIdeal.main (F := Ideal))) ⟨m, fun _ => 0, g⟩ (fun r => (∀ c : Dev Cert.GdnBwdIdeal.nD,
      r.2.mem ((c.tc : Thread Cert.GdnBwdIdeal.nD Cert.GdnBwdIdeal.τ).loc Cert.GdnBwdIdeal.main_arg0) = m ((c.tc : Thread Cert.GdnBwdIdeal.nD Cert.GdnBwdIdeal.τ).loc Cert.GdnBwdIdeal.main_arg0)
      ∧ r.2.mem ((c.tc : Thread Cert.GdnBwdIdeal.nD Cert.GdnBwdIdeal.τ).loc Cert.GdnBwdIdeal.main_arg1) = m ((c.tc : Thread Cert.GdnBwdIdeal.nD Cert.GdnBwdIdeal.τ).loc Cert.GdnBwdIdeal.main_arg1)
      ∧ r.2.mem ((c.tc : Thread Cert.GdnBwdIdeal.nD Cert.GdnBwdIdeal.τ).loc Cert.GdnBwdIdeal.main_arg2) = m ((c.tc : Thread Cert.GdnBwdIdeal.nD Cert.GdnBwdIdeal.τ).loc Cert.GdnBwdIdeal.main_arg2)
      ∧ r.2.mem ((c.tc : Thread Cert.GdnBwdIdeal.nD Cert.GdnBwdIdeal.τ).loc Cert.GdnBwdIdeal.main_arg3) = m ((c.tc : Thread Cert.GdnBwdIdeal.nD Cert.GdnBwdIdeal.τ).loc Cert.GdnBwdIdeal.main_arg3)
      ∧ r.2.mem ((c.tc : Thread Cert.GdnBwdIdeal.nD Cert.GdnBwdIdeal.τ).loc Cert.GdnBwdIdeal.main_arg4) = m ((c.tc : Thread Cert.GdnBwdIdeal.nD Cert.GdnBwdIdeal.τ).loc Cert.GdnBwdIdeal.main_arg4)
      ∧ r.2.mem ((c.tc : Thread Cert.GdnBwdIdeal.nD Cert.GdnBwdIdeal.τ).loc Cert.GdnBwdIdeal.main_arg5) = m ((c.tc : Thread Cert.GdnBwdIdeal.nD Cert.GdnBwdIdeal.τ).loc Cert.GdnBwdIdeal.main_arg5)
      ∧ r.2.mem ((c.tc : Thread Cert.GdnBwdIdeal.nD Cert.GdnBwdIdeal.τ).loc Cert.GdnBwdIdeal.main_arg6) = m ((c.tc : Thread Cert.GdnBwdIdeal.nD Cert.GdnBwdIdeal.τ).loc Cert.GdnBwdIdeal.main_arg6)
      ∧ r.2.mem ((c.tc : Thread Cert.GdnBwdIdeal.nD Cert.GdnBwdIdeal.τ).loc Cert.GdnBwdIdeal.main_arg7) = m ((c.tc : Thread Cert.GdnBwdIdeal.nD Cert.GdnBwdIdeal.τ).loc Cert.GdnBwdIdeal.main_arg7))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ r.2.sem = fun _ => 0)

def quiescent_HeadIdeal_pre_head_finite [hHeadIdeal : Cert.HeadIdeal.Facts] [hPre_head_finite : Cert.Pre_head_finite.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_head_finite m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6))
      ∧ r.2.sem = fun _ => 0)

def quiescent_HeadRefIdeal_pre_head_finite [hHeadRefIdeal : Cert.HeadRefIdeal.Facts] [hPre_head_finite : Cert.Pre_head_finite.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal_head_finite m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_NormProj [hNormProj : Cert.NormProj.Facts] : Prop :=
  ∀ (m : (ℓ : Loc Cert.NormProj.nD Cert.NormProj.τ Cert.NormProj.sig) → Buf (Elt Bits) ℓ) (g : Dev Cert.NormProj.nD → PrngReg), Pre_NormProj m →
    θ_run (Cert.NormProj.defs (F := Bits)) (onTc (τ := Cert.NormProj.τ) (Cert.NormProj.main (F := Bits))) ⟨m, fun _ => 0, g⟩ (fun r => (∀ c : Dev Cert.NormProj.nD,
      r.2.mem ((c.tc : Thread Cert.NormProj.nD Cert.NormProj.τ).loc Cert.NormProj.main_arg0) = m ((c.tc : Thread Cert.NormProj.nD Cert.NormProj.τ).loc Cert.NormProj.main_arg0)
      ∧ r.2.mem ((c.tc : Thread Cert.NormProj.nD Cert.NormProj.τ).loc Cert.NormProj.main_arg1) = m ((c.tc : Thread Cert.NormProj.nD Cert.NormProj.τ).loc Cert.NormProj.main_arg1)
      ∧ r.2.mem ((c.tc : Thread Cert.NormProj.nD Cert.NormProj.τ).loc Cert.NormProj.main_arg2) = m ((c.tc : Thread Cert.NormProj.nD Cert.NormProj.τ).loc Cert.NormProj.main_arg2))
      ∧ r.2.sem = fun _ => 0)

def quiescent_NormProjIdeal [hNormProjIdeal : Cert.NormProjIdeal.Facts] : Prop :=
  ∀ (m : (ℓ : Loc Cert.NormProjIdeal.nD Cert.NormProjIdeal.τ Cert.NormProjIdeal.sig) → Buf (Elt Ideal) ℓ) (g : Dev Cert.NormProjIdeal.nD → PrngReg), Pre_NormProjIdeal m →
    θ_run (Cert.NormProjIdeal.defs (F := Ideal)) (onTc (τ := Cert.NormProjIdeal.τ) (Cert.NormProjIdeal.main (F := Ideal))) ⟨m, fun _ => 0, g⟩ (fun r => (∀ c : Dev Cert.NormProjIdeal.nD,
      r.2.mem ((c.tc : Thread Cert.NormProjIdeal.nD Cert.NormProjIdeal.τ).loc Cert.NormProjIdeal.main_arg0) = m ((c.tc : Thread Cert.NormProjIdeal.nD Cert.NormProjIdeal.τ).loc Cert.NormProjIdeal.main_arg0)
      ∧ r.2.mem ((c.tc : Thread Cert.NormProjIdeal.nD Cert.NormProjIdeal.τ).loc Cert.NormProjIdeal.main_arg1) = m ((c.tc : Thread Cert.NormProjIdeal.nD Cert.NormProjIdeal.τ).loc Cert.NormProjIdeal.main_arg1)
      ∧ r.2.mem ((c.tc : Thread Cert.NormProjIdeal.nD Cert.NormProjIdeal.τ).loc Cert.NormProjIdeal.main_arg2) = m ((c.tc : Thread Cert.NormProjIdeal.nD Cert.NormProjIdeal.τ).loc Cert.NormProjIdeal.main_arg2))
      ∧ r.2.sem = fun _ => 0)

def quiescent_NormProjRefIdeal [hNormProjRefIdeal : Cert.NormProjRefIdeal.Facts] : Prop :=
  ∀ (m : (ℓ : Loc Cert.NormProjRefIdeal.nD Cert.NormProjRefIdeal.τ Cert.NormProjRefIdeal.sig) → Buf (Elt Ideal) ℓ) (g : Dev Cert.NormProjRefIdeal.nD → PrngReg), Pre_NormProjRefIdeal m →
    θ_run (Cert.NormProjRefIdeal.defs (F := Ideal)) (onTc (τ := Cert.NormProjRefIdeal.τ) (Cert.NormProjRefIdeal.main (F := Ideal))) ⟨m, fun _ => 0, g⟩ (fun r => (∀ c : Dev Cert.NormProjRefIdeal.nD,
      r.2.mem ((c.tc : Thread Cert.NormProjRefIdeal.nD Cert.NormProjRefIdeal.τ).loc Cert.NormProjRefIdeal.main_arg0) = m ((c.tc : Thread Cert.NormProjRefIdeal.nD Cert.NormProjRefIdeal.τ).loc Cert.NormProjRefIdeal.main_arg0)
      ∧ r.2.mem ((c.tc : Thread Cert.NormProjRefIdeal.nD Cert.NormProjRefIdeal.τ).loc Cert.NormProjRefIdeal.main_arg1) = m ((c.tc : Thread Cert.NormProjRefIdeal.nD Cert.NormProjRefIdeal.τ).loc Cert.NormProjRefIdeal.main_arg1)
      ∧ r.2.mem ((c.tc : Thread Cert.NormProjRefIdeal.nD Cert.NormProjRefIdeal.τ).loc Cert.NormProjRefIdeal.main_arg2) = m ((c.tc : Thread Cert.NormProjRefIdeal.nD Cert.NormProjRefIdeal.τ).loc Cert.NormProjRefIdeal.main_arg2))
      ∧ r.2.sem = fun _ => 0)

def quiescent_GdnFwd [hGdnFwd : Cert.GdnFwd.Facts] : Prop :=
  ∀ (m : (ℓ : Loc Cert.GdnFwd.nD Cert.GdnFwd.τ Cert.GdnFwd.sig) → Buf (Elt Bits) ℓ) (g : Dev Cert.GdnFwd.nD → PrngReg), Pre_GdnFwd m →
    θ_run (Cert.GdnFwd.defs (F := Bits)) (onTc (τ := Cert.GdnFwd.τ) (Cert.GdnFwd.main (F := Bits))) ⟨m, fun _ => 0, g⟩ (fun r => (∀ c : Dev Cert.GdnFwd.nD,
      r.2.mem ((c.tc : Thread Cert.GdnFwd.nD Cert.GdnFwd.τ).loc Cert.GdnFwd.main_arg0) = m ((c.tc : Thread Cert.GdnFwd.nD Cert.GdnFwd.τ).loc Cert.GdnFwd.main_arg0)
      ∧ r.2.mem ((c.tc : Thread Cert.GdnFwd.nD Cert.GdnFwd.τ).loc Cert.GdnFwd.main_arg1) = m ((c.tc : Thread Cert.GdnFwd.nD Cert.GdnFwd.τ).loc Cert.GdnFwd.main_arg1)
      ∧ r.2.mem ((c.tc : Thread Cert.GdnFwd.nD Cert.GdnFwd.τ).loc Cert.GdnFwd.main_arg2) = m ((c.tc : Thread Cert.GdnFwd.nD Cert.GdnFwd.τ).loc Cert.GdnFwd.main_arg2))
      ∧ r.2.sem = fun _ => 0)

def quiescent_GdnFwdIdeal [hGdnFwdIdeal : Cert.GdnFwdIdeal.Facts] : Prop :=
  ∀ (m : (ℓ : Loc Cert.GdnFwdIdeal.nD Cert.GdnFwdIdeal.τ Cert.GdnFwdIdeal.sig) → Buf (Elt Ideal) ℓ) (g : Dev Cert.GdnFwdIdeal.nD → PrngReg), Pre_GdnFwdIdeal m →
    θ_run (Cert.GdnFwdIdeal.defs (F := Ideal)) (onTc (τ := Cert.GdnFwdIdeal.τ) (Cert.GdnFwdIdeal.main (F := Ideal))) ⟨m, fun _ => 0, g⟩ (fun r => (∀ c : Dev Cert.GdnFwdIdeal.nD,
      r.2.mem ((c.tc : Thread Cert.GdnFwdIdeal.nD Cert.GdnFwdIdeal.τ).loc Cert.GdnFwdIdeal.main_arg0) = m ((c.tc : Thread Cert.GdnFwdIdeal.nD Cert.GdnFwdIdeal.τ).loc Cert.GdnFwdIdeal.main_arg0)
      ∧ r.2.mem ((c.tc : Thread Cert.GdnFwdIdeal.nD Cert.GdnFwdIdeal.τ).loc Cert.GdnFwdIdeal.main_arg1) = m ((c.tc : Thread Cert.GdnFwdIdeal.nD Cert.GdnFwdIdeal.τ).loc Cert.GdnFwdIdeal.main_arg1)
      ∧ r.2.mem ((c.tc : Thread Cert.GdnFwdIdeal.nD Cert.GdnFwdIdeal.τ).loc Cert.GdnFwdIdeal.main_arg2) = m ((c.tc : Thread Cert.GdnFwdIdeal.nD Cert.GdnFwdIdeal.τ).loc Cert.GdnFwdIdeal.main_arg2))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1)
      ∧ r.2.mem ((c.tc : Thread Cert.DwRefIdeal.nD Cert.DwRefIdeal.τ).loc Cert.DwRefIdeal.main_arg2) = m ((c.tc : Thread Cert.DwRefIdeal.nD Cert.DwRefIdeal.τ).loc Cert.DwRefIdeal.main_arg2))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v18_0)) (v1 : (c : Dev Cert.ConvIdeal.nD) → Buf (Elt Ideal) ((c.tc : Thread Cert.ConvIdeal.nD Cert.ConvIdeal.τ).loc Cert.ConvIdeal.main_v18_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v18_0) = v0 c
          ∧ r.2.mem ((c.tc : Thread Cert.ConvIdeal.nD Cert.ConvIdeal.τ).loc Cert.ConvIdeal.main_v18_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v89) = v0 c
          ∧ r.2.mem ((c.tc : Thread Cert.ConvRefIdeal.nD Cert.ConvRefIdeal.τ).loc Cert.ConvRefIdeal.main_v91) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_FfnIn_FfnInIdeal : Prop :=
  True

def algebraic_FfnInIdeal_FfnInRefIdeal_pre_ffn_in_finite [hFfnInIdeal : Cert.FfnInIdeal.Facts] [hFfnInRefIdeal : Cert.FfnInRefIdeal.Facts] [hPre_ffn_in_finite : Cert.Pre_ffn_in_finite.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal_ffn_in_finite m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)
      ∧ m' ((c.tc : Thread Cert.FfnInRefIdeal.nD Cert.FfnInRefIdeal.τ).loc Cert.FfnInRefIdeal.main_arg5) = m ((c.tc : Thread Cert.FfnInIdeal.nD Cert.FfnInIdeal.τ).loc Cert.FfnInIdeal.main_arg5)
      ∧ m' ((c.tc : Thread Cert.FfnInRefIdeal.nD Cert.FfnInRefIdeal.τ).loc Cert.FfnInRefIdeal.main_arg6) = m ((c.tc : Thread Cert.FfnInIdeal.nD Cert.FfnInIdeal.τ).loc Cert.FfnInIdeal.main_arg6)) →
    ∃ (v0 : (c : Dev Cert.FfnInIdeal.nD) → Buf (Elt Ideal) ((c.tc : Thread Cert.FfnInIdeal.nD Cert.FfnInIdeal.τ).loc Cert.FfnInIdeal.main_v16_0)) (v1 : (c : Dev Cert.FfnInIdeal.nD) → Buf (Elt Ideal) ((c.tc : Thread Cert.FfnInIdeal.nD Cert.FfnInIdeal.τ).loc Cert.FfnInIdeal.main_v16_1)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v16_0) = v0 c
          ∧ r.2.mem ((c.tc : Thread Cert.FfnInIdeal.nD Cert.FfnInIdeal.τ).loc Cert.FfnInIdeal.main_v16_1) = v1 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
          ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
          ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v44) = v0 c
          ∧ r.2.mem ((c.tc : Thread Cert.FfnInRefIdeal.nD Cert.FfnInRefIdeal.τ).loc Cert.FfnInRefIdeal.main_v45) = v1 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4)
          ∧ r.2.mem ((c.tc : Thread Cert.FfnInRefIdeal.nD Cert.FfnInRefIdeal.τ).loc Cert.FfnInRefIdeal.main_arg5) = m' ((c.tc : Thread Cert.FfnInRefIdeal.nD Cert.FfnInRefIdeal.τ).loc Cert.FfnInRefIdeal.main_arg5)
          ∧ r.2.mem ((c.tc : Thread Cert.FfnInRefIdeal.nD Cert.FfnInRefIdeal.τ).loc Cert.FfnInRefIdeal.main_arg6) = m' ((c.tc : Thread Cert.FfnInRefIdeal.nD Cert.FfnInRefIdeal.τ).loc Cert.FfnInRefIdeal.main_arg6))

def preserves_FfnHid_FfnHidIdeal : Prop :=
  True

def algebraic_FfnHidIdeal_FfnHidRefIdeal_pre_ffn_hid_finite [hFfnHidIdeal : Cert.FfnHidIdeal.Facts] [hFfnHidRefIdeal : Cert.FfnHidRefIdeal.Facts] [hPre_ffn_hid_finite : Cert.Pre_ffn_hid_finite.Facts] : Prop :=
  ∀ (m : (ℓ : Loc Cert.FfnHidIdeal.nD Cert.FfnHidIdeal.τ Cert.FfnHidIdeal.sig) → Buf (Elt Ideal) ℓ) (g : Dev Cert.FfnHidIdeal.nD → PrngReg)
    (m' : (ℓ : Loc Cert.FfnHidRefIdeal.nD Cert.FfnHidRefIdeal.τ Cert.FfnHidRefIdeal.sig) → Buf (Elt Ideal) ℓ) (g' : Dev Cert.FfnHidRefIdeal.nD → PrngReg), Pre_FfnHidIdeal_ffn_hid_finite m →
    (∀ c : Dev Cert.FfnHidIdeal.nD,
      m' ((c.tc : Thread Cert.FfnHidRefIdeal.nD Cert.FfnHidRefIdeal.τ).loc Cert.FfnHidRefIdeal.main_arg0) = m ((c.tc : Thread Cert.FfnHidIdeal.nD Cert.FfnHidIdeal.τ).loc Cert.FfnHidIdeal.main_arg0)
      ∧ m' ((c.tc : Thread Cert.FfnHidRefIdeal.nD Cert.FfnHidRefIdeal.τ).loc Cert.FfnHidRefIdeal.main_arg1) = m ((c.tc : Thread Cert.FfnHidIdeal.nD Cert.FfnHidIdeal.τ).loc Cert.FfnHidIdeal.main_arg1)
      ∧ m' ((c.tc : Thread Cert.FfnHidRefIdeal.nD Cert.FfnHidRefIdeal.τ).loc Cert.FfnHidRefIdeal.main_arg2) = m ((c.tc : Thread Cert.FfnHidIdeal.nD Cert.FfnHidIdeal.τ).loc Cert.FfnHidIdeal.main_arg2)
      ∧ m' ((c.tc : Thread Cert.FfnHidRefIdeal.nD Cert.FfnHidRefIdeal.τ).loc Cert.FfnHidRefIdeal.main_arg3) = m ((c.tc : Thread Cert.FfnHidIdeal.nD Cert.FfnHidIdeal.τ).loc Cert.FfnHidIdeal.main_arg3)
      ∧ m' ((c.tc : Thread Cert.FfnHidRefIdeal.nD Cert.FfnHidRefIdeal.τ).loc Cert.FfnHidRefIdeal.main_arg4) = m ((c.tc : Thread Cert.FfnHidIdeal.nD Cert.FfnHidIdeal.τ).loc Cert.FfnHidIdeal.main_arg4)
      ∧ m' ((c.tc : Thread Cert.FfnHidRefIdeal.nD Cert.FfnHidRefIdeal.τ).loc Cert.FfnHidRefIdeal.main_arg5) = m ((c.tc : Thread Cert.FfnHidIdeal.nD Cert.FfnHidIdeal.τ).loc Cert.FfnHidIdeal.main_arg5)) →
    ∃ (v0 : (c : Dev Cert.FfnHidIdeal.nD) → Buf (Elt Ideal) ((c.tc : Thread Cert.FfnHidIdeal.nD Cert.FfnHidIdeal.τ).loc Cert.FfnHidIdeal.main_v27_0)) (v1 : (c : Dev Cert.FfnHidIdeal.nD) → Buf (Elt Ideal) ((c.tc : Thread Cert.FfnHidIdeal.nD Cert.FfnHidIdeal.τ).loc Cert.FfnHidIdeal.main_v27_1)) (v2 : (c : Dev Cert.FfnHidIdeal.nD) → Buf (Elt Ideal) ((c.tc : Thread Cert.FfnHidIdeal.nD Cert.FfnHidIdeal.τ).loc Cert.FfnHidIdeal.main_v27_2)) (v3 : (c : Dev Cert.FfnHidIdeal.nD) → Buf (Elt Ideal) ((c.tc : Thread Cert.FfnHidIdeal.nD Cert.FfnHidIdeal.τ).loc Cert.FfnHidIdeal.main_v27_3)),
      θ_run (Cert.FfnHidIdeal.defs (F := Ideal)) (onTc (τ := Cert.FfnHidIdeal.τ) (Cert.FfnHidIdeal.main (F := Ideal))) ⟨m, fun _ => 0, g⟩ (fun r => ∀ c : Dev Cert.FfnHidIdeal.nD,
          r.2.mem ((c.tc : Thread Cert.FfnHidIdeal.nD Cert.FfnHidIdeal.τ).loc Cert.FfnHidIdeal.main_v27_0) = v0 c
          ∧ r.2.mem ((c.tc : Thread Cert.FfnHidIdeal.nD Cert.FfnHidIdeal.τ).loc Cert.FfnHidIdeal.main_v27_1) = v1 c
          ∧ r.2.mem ((c.tc : Thread Cert.FfnHidIdeal.nD Cert.FfnHidIdeal.τ).loc Cert.FfnHidIdeal.main_v27_2) = v2 c
          ∧ r.2.mem ((c.tc : Thread Cert.FfnHidIdeal.nD Cert.FfnHidIdeal.τ).loc Cert.FfnHidIdeal.main_v27_3) = v3 c
          ∧ r.2.mem ((c.tc : Thread Cert.FfnHidIdeal.nD Cert.FfnHidIdeal.τ).loc Cert.FfnHidIdeal.main_arg0) = m ((c.tc : Thread Cert.FfnHidIdeal.nD Cert.FfnHidIdeal.τ).loc Cert.FfnHidIdeal.main_arg0)
          ∧ r.2.mem ((c.tc : Thread Cert.FfnHidIdeal.nD Cert.FfnHidIdeal.τ).loc Cert.FfnHidIdeal.main_arg1) = m ((c.tc : Thread Cert.FfnHidIdeal.nD Cert.FfnHidIdeal.τ).loc Cert.FfnHidIdeal.main_arg1)
          ∧ r.2.mem ((c.tc : Thread Cert.FfnHidIdeal.nD Cert.FfnHidIdeal.τ).loc Cert.FfnHidIdeal.main_arg2) = m ((c.tc : Thread Cert.FfnHidIdeal.nD Cert.FfnHidIdeal.τ).loc Cert.FfnHidIdeal.main_arg2)
          ∧ r.2.mem ((c.tc : Thread Cert.FfnHidIdeal.nD Cert.FfnHidIdeal.τ).loc Cert.FfnHidIdeal.main_arg3) = m ((c.tc : Thread Cert.FfnHidIdeal.nD Cert.FfnHidIdeal.τ).loc Cert.FfnHidIdeal.main_arg3)
          ∧ r.2.mem ((c.tc : Thread Cert.FfnHidIdeal.nD Cert.FfnHidIdeal.τ).loc Cert.FfnHidIdeal.main_arg4) = m ((c.tc : Thread Cert.FfnHidIdeal.nD Cert.FfnHidIdeal.τ).loc Cert.FfnHidIdeal.main_arg4)
          ∧ r.2.mem ((c.tc : Thread Cert.FfnHidIdeal.nD Cert.FfnHidIdeal.τ).loc Cert.FfnHidIdeal.main_arg5) = m ((c.tc : Thread Cert.FfnHidIdeal.nD Cert.FfnHidIdeal.τ).loc Cert.FfnHidIdeal.main_arg5))
      ∧ θ_run (Cert.FfnHidRefIdeal.defs (F := Ideal)) (onTc (τ := Cert.FfnHidRefIdeal.τ) (Cert.FfnHidRefIdeal.main (F := Ideal))) ⟨m', fun _ => 0, g'⟩ (fun r => ∀ c : Dev Cert.FfnHidRefIdeal.nD,
          r.2.mem ((c.tc : Thread Cert.FfnHidRefIdeal.nD Cert.FfnHidRefIdeal.τ).loc Cert.FfnHidRefIdeal.main_v30) = v0 c
          ∧ r.2.mem ((c.tc : Thread Cert.FfnHidRefIdeal.nD Cert.FfnHidRefIdeal.τ).loc Cert.FfnHidRefIdeal.main_v34) = v1 c
          ∧ r.2.mem ((c.tc : Thread Cert.FfnHidRefIdeal.nD Cert.FfnHidRefIdeal.τ).loc Cert.FfnHidRefIdeal.main_v40) = v2 c
          ∧ r.2.mem ((c.tc : Thread Cert.FfnHidRefIdeal.nD Cert.FfnHidRefIdeal.τ).loc Cert.FfnHidRefIdeal.main_v44) = v3 c
          ∧ r.2.mem ((c.tc : Thread Cert.FfnHidRefIdeal.nD Cert.FfnHidRefIdeal.τ).loc Cert.FfnHidRefIdeal.main_arg0) = m' ((c.tc : Thread Cert.FfnHidRefIdeal.nD Cert.FfnHidRefIdeal.τ).loc Cert.FfnHidRefIdeal.main_arg0)
          ∧ r.2.mem ((c.tc : Thread Cert.FfnHidRefIdeal.nD Cert.FfnHidRefIdeal.τ).loc Cert.FfnHidRefIdeal.main_arg1) = m' ((c.tc : Thread Cert.FfnHidRefIdeal.nD Cert.FfnHidRefIdeal.τ).loc Cert.FfnHidRefIdeal.main_arg1)
          ∧ r.2.mem ((c.tc : Thread Cert.FfnHidRefIdeal.nD Cert.FfnHidRefIdeal.τ).loc Cert.FfnHidRefIdeal.main_arg2) = m' ((c.tc : Thread Cert.FfnHidRefIdeal.nD Cert.FfnHidRefIdeal.τ).loc Cert.FfnHidRefIdeal.main_arg2)
          ∧ r.2.mem ((c.tc : Thread Cert.FfnHidRefIdeal.nD Cert.FfnHidRefIdeal.τ).loc Cert.FfnHidRefIdeal.main_arg3) = m' ((c.tc : Thread Cert.FfnHidRefIdeal.nD Cert.FfnHidRefIdeal.τ).loc Cert.FfnHidRefIdeal.main_arg3)
          ∧ r.2.mem ((c.tc : Thread Cert.FfnHidRefIdeal.nD Cert.FfnHidRefIdeal.τ).loc Cert.FfnHidRefIdeal.main_arg4) = m' ((c.tc : Thread Cert.FfnHidRefIdeal.nD Cert.FfnHidRefIdeal.τ).loc Cert.FfnHidRefIdeal.main_arg4)
          ∧ r.2.mem ((c.tc : Thread Cert.FfnHidRefIdeal.nD Cert.FfnHidRefIdeal.τ).loc Cert.FfnHidRefIdeal.main_arg5) = m' ((c.tc : Thread Cert.FfnHidRefIdeal.nD Cert.FfnHidRefIdeal.τ).loc Cert.FfnHidRefIdeal.main_arg5))

def preserves_Proj_ProjIdeal : Prop :=
  True

def algebraic_ProjIdeal_ProjRefIdeal_pre_proj_finite [hProjIdeal : Cert.ProjIdeal.Facts] [hProjRefIdeal : Cert.ProjRefIdeal.Facts] [hPre_proj_finite : Cert.Pre_proj_finite.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_proj_finite m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v30_0)) (v1 : (c : Dev Cert.ProjIdeal.nD) → Buf (Elt Ideal) ((c.tc : Thread Cert.ProjIdeal.nD Cert.ProjIdeal.τ).loc Cert.ProjIdeal.main_v30_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v30_0) = v0 c
          ∧ r.2.mem ((c.tc : Thread Cert.ProjIdeal.nD Cert.ProjIdeal.τ).loc Cert.ProjIdeal.main_v30_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v41) = v0 c
          ∧ r.2.mem ((c.tc : Thread Cert.ProjRefIdeal.nD Cert.ProjRefIdeal.τ).loc Cert.ProjRefIdeal.main_v42) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v9_0)) (v1 : (c : Dev Cert.GateIdeal.nD) → Buf (Elt Ideal) ((c.tc : Thread Cert.GateIdeal.nD Cert.GateIdeal.τ).loc Cert.GateIdeal.main_v9_1)) (v2 : (c : Dev Cert.GateIdeal.nD) → Buf (Elt Ideal) ((c.tc : Thread Cert.GateIdeal.nD Cert.GateIdeal.τ).loc Cert.GateIdeal.main_v9_2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v9_0) = v0 c
          ∧ r.2.mem ((c.tc : Thread Cert.GateIdeal.nD Cert.GateIdeal.τ).loc Cert.GateIdeal.main_v9_1) = v1 c
          ∧ r.2.mem ((c.tc : Thread Cert.GateIdeal.nD Cert.GateIdeal.τ).loc Cert.GateIdeal.main_v9_2) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v19) = v0 c
          ∧ r.2.mem ((c.tc : Thread Cert.GateRefIdeal.nD Cert.GateRefIdeal.τ).loc Cert.GateRefIdeal.main_v16) = v1 c
          ∧ r.2.mem ((c.tc : Thread Cert.GateRefIdeal.nD Cert.GateRefIdeal.τ).loc Cert.GateRefIdeal.main_v20) = v2 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def preserves_Gla_GlaIdeal : Prop :=
  True

def algebraic_GlaIdeal_GlaRefIdeal_pre_gla_finite [hGlaIdeal : Cert.GlaIdeal.Facts] [hGlaRefIdeal : Cert.GlaRefIdeal.Facts] [hPre_gla_finite : Cert.Pre_gla_finite.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal_gla_finite m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)
      ∧ m' ((c.tc : Thread Cert.GlaRefIdeal.nD Cert.GlaRefIdeal.τ).loc Cert.GlaRefIdeal.main_arg5) = m ((c.tc : Thread Cert.GlaIdeal.nD Cert.GlaIdeal.τ).loc Cert.GlaIdeal.main_arg5)
      ∧ m' ((c.tc : Thread Cert.GlaRefIdeal.nD Cert.GlaRefIdeal.τ).loc Cert.GlaRefIdeal.main_arg6) = m ((c.tc : Thread Cert.GlaIdeal.nD Cert.GlaIdeal.τ).loc Cert.GlaIdeal.main_arg6)) →
    ∃ (v0 : (c : Dev Cert.GlaIdeal.nD) → Buf (Elt Ideal) ((c.tc : Thread Cert.GlaIdeal.nD Cert.GlaIdeal.τ).loc Cert.GlaIdeal.main_v63_0)) (v1 : (c : Dev Cert.GlaIdeal.nD) → Buf (Elt Ideal) ((c.tc : Thread Cert.GlaIdeal.nD Cert.GlaIdeal.τ).loc Cert.GlaIdeal.main_v63_1)) (v2 : (c : Dev Cert.GlaIdeal.nD) → Buf (Elt Ideal) ((c.tc : Thread Cert.GlaIdeal.nD Cert.GlaIdeal.τ).loc Cert.GlaIdeal.main_v63_2)) (v3 : (c : Dev Cert.GlaIdeal.nD) → Buf (Elt Ideal) ((c.tc : Thread Cert.GlaIdeal.nD Cert.GlaIdeal.τ).loc Cert.GlaIdeal.main_v63_3)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v63_0) = v0 c
          ∧ r.2.mem ((c.tc : Thread Cert.GlaIdeal.nD Cert.GlaIdeal.τ).loc Cert.GlaIdeal.main_v63_1) = v1 c
          ∧ r.2.mem ((c.tc : Thread Cert.GlaIdeal.nD Cert.GlaIdeal.τ).loc Cert.GlaIdeal.main_v63_2) = v2 c
          ∧ r.2.mem ((c.tc : Thread Cert.GlaIdeal.nD Cert.GlaIdeal.τ).loc Cert.GlaIdeal.main_v63_3) = v3 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
          ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
          ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v131) = v0 c
          ∧ r.2.mem ((c.tc : Thread Cert.GlaRefIdeal.nD Cert.GlaRefIdeal.τ).loc Cert.GlaRefIdeal.main_v132) = v1 c
          ∧ r.2.mem ((c.tc : Thread Cert.GlaRefIdeal.nD Cert.GlaRefIdeal.τ).loc Cert.GlaRefIdeal.main_v133) = v2 c
          ∧ r.2.mem ((c.tc : Thread Cert.GlaRefIdeal.nD Cert.GlaRefIdeal.τ).loc Cert.GlaRefIdeal.main_v130) = v3 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4)
          ∧ r.2.mem ((c.tc : Thread Cert.GlaRefIdeal.nD Cert.GlaRefIdeal.τ).loc Cert.GlaRefIdeal.main_arg5) = m' ((c.tc : Thread Cert.GlaRefIdeal.nD Cert.GlaRefIdeal.τ).loc Cert.GlaRefIdeal.main_arg5)
          ∧ r.2.mem ((c.tc : Thread Cert.GlaRefIdeal.nD Cert.GlaRefIdeal.τ).loc Cert.GlaRefIdeal.main_arg6) = m' ((c.tc : Thread Cert.GlaRefIdeal.nD Cert.GlaRefIdeal.τ).loc Cert.GlaRefIdeal.main_arg6))

def preserves_GlaFwd_GlaFwdIdeal : Prop :=
  True

def algebraic_GlaFwdIdeal_GlaFwdRefIdeal_pre_gla_fwd_finite [hGlaFwdIdeal : Cert.GlaFwdIdeal.Facts] [hGlaFwdRefIdeal : Cert.GlaFwdRefIdeal.Facts] [hPre_gla_fwd_finite : Cert.Pre_gla_fwd_finite.Facts] : Prop :=
  ∀ (m : (ℓ : Loc Cert.GlaFwdIdeal.nD Cert.GlaFwdIdeal.τ Cert.GlaFwdIdeal.sig) → Buf (Elt Ideal) ℓ) (g : Dev Cert.GlaFwdIdeal.nD → PrngReg)
    (m' : (ℓ : Loc Cert.GlaFwdRefIdeal.nD Cert.GlaFwdRefIdeal.τ Cert.GlaFwdRefIdeal.sig) → Buf (Elt Ideal) ℓ) (g' : Dev Cert.GlaFwdRefIdeal.nD → PrngReg), Pre_GlaFwdIdeal_gla_fwd_finite m →
    (∀ c : Dev Cert.GlaFwdIdeal.nD,
      m' ((c.tc : Thread Cert.GlaFwdRefIdeal.nD Cert.GlaFwdRefIdeal.τ).loc Cert.GlaFwdRefIdeal.main_arg0) = m ((c.tc : Thread Cert.GlaFwdIdeal.nD Cert.GlaFwdIdeal.τ).loc Cert.GlaFwdIdeal.main_arg0)
      ∧ m' ((c.tc : Thread Cert.GlaFwdRefIdeal.nD Cert.GlaFwdRefIdeal.τ).loc Cert.GlaFwdRefIdeal.main_arg1) = m ((c.tc : Thread Cert.GlaFwdIdeal.nD Cert.GlaFwdIdeal.τ).loc Cert.GlaFwdIdeal.main_arg1)
      ∧ m' ((c.tc : Thread Cert.GlaFwdRefIdeal.nD Cert.GlaFwdRefIdeal.τ).loc Cert.GlaFwdRefIdeal.main_arg2) = m ((c.tc : Thread Cert.GlaFwdIdeal.nD Cert.GlaFwdIdeal.τ).loc Cert.GlaFwdIdeal.main_arg2)
      ∧ m' ((c.tc : Thread Cert.GlaFwdRefIdeal.nD Cert.GlaFwdRefIdeal.τ).loc Cert.GlaFwdRefIdeal.main_arg3) = m ((c.tc : Thread Cert.GlaFwdIdeal.nD Cert.GlaFwdIdeal.τ).loc Cert.GlaFwdIdeal.main_arg3)
      ∧ m' ((c.tc : Thread Cert.GlaFwdRefIdeal.nD Cert.GlaFwdRefIdeal.τ).loc Cert.GlaFwdRefIdeal.main_arg4) = m ((c.tc : Thread Cert.GlaFwdIdeal.nD Cert.GlaFwdIdeal.τ).loc Cert.GlaFwdIdeal.main_arg4)
      ∧ m' ((c.tc : Thread Cert.GlaFwdRefIdeal.nD Cert.GlaFwdRefIdeal.τ).loc Cert.GlaFwdRefIdeal.main_arg5) = m ((c.tc : Thread Cert.GlaFwdIdeal.nD Cert.GlaFwdIdeal.τ).loc Cert.GlaFwdIdeal.main_arg5)) →
    ∃ (v0 : (c : Dev Cert.GlaFwdIdeal.nD) → Buf (Elt Ideal) ((c.tc : Thread Cert.GlaFwdIdeal.nD Cert.GlaFwdIdeal.τ).loc Cert.GlaFwdIdeal.main_v8_0)) (v1 : (c : Dev Cert.GlaFwdIdeal.nD) → Buf (Elt Ideal) ((c.tc : Thread Cert.GlaFwdIdeal.nD Cert.GlaFwdIdeal.τ).loc Cert.GlaFwdIdeal.main_v8_1)),
      θ_run (Cert.GlaFwdIdeal.defs (F := Ideal)) (onTc (τ := Cert.GlaFwdIdeal.τ) (Cert.GlaFwdIdeal.main (F := Ideal))) ⟨m, fun _ => 0, g⟩ (fun r => ∀ c : Dev Cert.GlaFwdIdeal.nD,
          r.2.mem ((c.tc : Thread Cert.GlaFwdIdeal.nD Cert.GlaFwdIdeal.τ).loc Cert.GlaFwdIdeal.main_v8_0) = v0 c
          ∧ r.2.mem ((c.tc : Thread Cert.GlaFwdIdeal.nD Cert.GlaFwdIdeal.τ).loc Cert.GlaFwdIdeal.main_v8_1) = v1 c
          ∧ r.2.mem ((c.tc : Thread Cert.GlaFwdIdeal.nD Cert.GlaFwdIdeal.τ).loc Cert.GlaFwdIdeal.main_arg0) = m ((c.tc : Thread Cert.GlaFwdIdeal.nD Cert.GlaFwdIdeal.τ).loc Cert.GlaFwdIdeal.main_arg0)
          ∧ r.2.mem ((c.tc : Thread Cert.GlaFwdIdeal.nD Cert.GlaFwdIdeal.τ).loc Cert.GlaFwdIdeal.main_arg1) = m ((c.tc : Thread Cert.GlaFwdIdeal.nD Cert.GlaFwdIdeal.τ).loc Cert.GlaFwdIdeal.main_arg1)
          ∧ r.2.mem ((c.tc : Thread Cert.GlaFwdIdeal.nD Cert.GlaFwdIdeal.τ).loc Cert.GlaFwdIdeal.main_arg2) = m ((c.tc : Thread Cert.GlaFwdIdeal.nD Cert.GlaFwdIdeal.τ).loc Cert.GlaFwdIdeal.main_arg2)
          ∧ r.2.mem ((c.tc : Thread Cert.GlaFwdIdeal.nD Cert.GlaFwdIdeal.τ).loc Cert.GlaFwdIdeal.main_arg3) = m ((c.tc : Thread Cert.GlaFwdIdeal.nD Cert.GlaFwdIdeal.τ).loc Cert.GlaFwdIdeal.main_arg3)
          ∧ r.2.mem ((c.tc : Thread Cert.GlaFwdIdeal.nD Cert.GlaFwdIdeal.τ).loc Cert.GlaFwdIdeal.main_arg4) = m ((c.tc : Thread Cert.GlaFwdIdeal.nD Cert.GlaFwdIdeal.τ).loc Cert.GlaFwdIdeal.main_arg4)
          ∧ r.2.mem ((c.tc : Thread Cert.GlaFwdIdeal.nD Cert.GlaFwdIdeal.τ).loc Cert.GlaFwdIdeal.main_arg5) = m ((c.tc : Thread Cert.GlaFwdIdeal.nD Cert.GlaFwdIdeal.τ).loc Cert.GlaFwdIdeal.main_arg5))
      ∧ θ_run (Cert.GlaFwdRefIdeal.defs (F := Ideal)) (onTc (τ := Cert.GlaFwdRefIdeal.τ) (Cert.GlaFwdRefIdeal.main (F := Ideal))) ⟨m', fun _ => 0, g'⟩ (fun r => ∀ c : Dev Cert.GlaFwdRefIdeal.nD,
          r.2.mem ((c.tc : Thread Cert.GlaFwdRefIdeal.nD Cert.GlaFwdRefIdeal.τ).loc Cert.GlaFwdRefIdeal.main_v68) = v0 c
          ∧ r.2.mem ((c.tc : Thread Cert.GlaFwdRefIdeal.nD Cert.GlaFwdRefIdeal.τ).loc Cert.GlaFwdRefIdeal.main_v69) = v1 c
          ∧ r.2.mem ((c.tc : Thread Cert.GlaFwdRefIdeal.nD Cert.GlaFwdRefIdeal.τ).loc Cert.GlaFwdRefIdeal.main_arg0) = m' ((c.tc : Thread Cert.GlaFwdRefIdeal.nD Cert.GlaFwdRefIdeal.τ).loc Cert.GlaFwdRefIdeal.main_arg0)
          ∧ r.2.mem ((c.tc : Thread Cert.GlaFwdRefIdeal.nD Cert.GlaFwdRefIdeal.τ).loc Cert.GlaFwdRefIdeal.main_arg1) = m' ((c.tc : Thread Cert.GlaFwdRefIdeal.nD Cert.GlaFwdRefIdeal.τ).loc Cert.GlaFwdRefIdeal.main_arg1)
          ∧ r.2.mem ((c.tc : Thread Cert.GlaFwdRefIdeal.nD Cert.GlaFwdRefIdeal.τ).loc Cert.GlaFwdRefIdeal.main_arg2) = m' ((c.tc : Thread Cert.GlaFwdRefIdeal.nD Cert.GlaFwdRefIdeal.τ).loc Cert.GlaFwdRefIdeal.main_arg2)
          ∧ r.2.mem ((c.tc : Thread Cert.GlaFwdRefIdeal.nD Cert.GlaFwdRefIdeal.τ).loc Cert.GlaFwdRefIdeal.main_arg3) = m' ((c.tc : Thread Cert.GlaFwdRefIdeal.nD Cert.GlaFwdRefIdeal.τ).loc Cert.GlaFwdRefIdeal.main_arg3)
          ∧ r.2.mem ((c.tc : Thread Cert.GlaFwdRefIdeal.nD Cert.GlaFwdRefIdeal.τ).loc Cert.GlaFwdRefIdeal.main_arg4) = m' ((c.tc : Thread Cert.GlaFwdRefIdeal.nD Cert.GlaFwdRefIdeal.τ).loc Cert.GlaFwdRefIdeal.main_arg4)
          ∧ r.2.mem ((c.tc : Thread Cert.GlaFwdRefIdeal.nD Cert.GlaFwdRefIdeal.τ).loc Cert.GlaFwdRefIdeal.main_arg5) = m' ((c.tc : Thread Cert.GlaFwdRefIdeal.nD Cert.GlaFwdRefIdeal.τ).loc Cert.GlaFwdRefIdeal.main_arg5))

def preserves_Merge_MergeIdeal : Prop :=
  True

def algebraic_MergeIdeal_MergeRefIdeal_pre_merge_finite [hMergeIdeal : Cert.MergeIdeal.Facts] [hMergeRefIdeal : Cert.MergeRefIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_merge_finite m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v16_0)) (v1 : (c : Dev Cert.MergeIdeal.nD) → Buf (Elt Ideal) ((c.tc : Thread Cert.MergeIdeal.nD Cert.MergeIdeal.τ).loc Cert.MergeIdeal.main_v16_1)) (v2 : (c : Dev Cert.MergeIdeal.nD) → Buf (Elt Ideal) ((c.tc : Thread Cert.MergeIdeal.nD Cert.MergeIdeal.τ).loc Cert.MergeIdeal.main_v16_2)) (v3 : (c : Dev Cert.MergeIdeal.nD) → Buf (Elt Ideal) ((c.tc : Thread Cert.MergeIdeal.nD Cert.MergeIdeal.τ).loc Cert.MergeIdeal.main_v16_3)) (v4 : (c : Dev Cert.MergeIdeal.nD) → Buf (Elt Ideal) ((c.tc : Thread Cert.MergeIdeal.nD Cert.MergeIdeal.τ).loc Cert.MergeIdeal.main_v16_4)) (v5 : (c : Dev Cert.MergeIdeal.nD) → Buf (Elt Ideal) ((c.tc : Thread Cert.MergeIdeal.nD Cert.MergeIdeal.τ).loc Cert.MergeIdeal.main_v16_5)) (v6 : (c : Dev Cert.MergeIdeal.nD) → Buf (Elt Ideal) ((c.tc : Thread Cert.MergeIdeal.nD Cert.MergeIdeal.τ).loc Cert.MergeIdeal.main_v16_6)) (v7 : (c : Dev Cert.MergeIdeal.nD) → Buf (Elt Ideal) ((c.tc : Thread Cert.MergeIdeal.nD Cert.MergeIdeal.τ).loc Cert.MergeIdeal.main_v16_7)) (v8 : (c : Dev Cert.MergeIdeal.nD) → Buf (Elt Ideal) ((c.tc : Thread Cert.MergeIdeal.nD Cert.MergeIdeal.τ).loc Cert.MergeIdeal.main_v16_8)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v16_0) = v0 c
          ∧ r.2.mem ((c.tc : Thread Cert.MergeIdeal.nD Cert.MergeIdeal.τ).loc Cert.MergeIdeal.main_v16_1) = v1 c
          ∧ r.2.mem ((c.tc : Thread Cert.MergeIdeal.nD Cert.MergeIdeal.τ).loc Cert.MergeIdeal.main_v16_2) = v2 c
          ∧ r.2.mem ((c.tc : Thread Cert.MergeIdeal.nD Cert.MergeIdeal.τ).loc Cert.MergeIdeal.main_v16_3) = v3 c
          ∧ r.2.mem ((c.tc : Thread Cert.MergeIdeal.nD Cert.MergeIdeal.τ).loc Cert.MergeIdeal.main_v16_4) = v4 c
          ∧ r.2.mem ((c.tc : Thread Cert.MergeIdeal.nD Cert.MergeIdeal.τ).loc Cert.MergeIdeal.main_v16_5) = v5 c
          ∧ r.2.mem ((c.tc : Thread Cert.MergeIdeal.nD Cert.MergeIdeal.τ).loc Cert.MergeIdeal.main_v16_6) = v6 c
          ∧ r.2.mem ((c.tc : Thread Cert.MergeIdeal.nD Cert.MergeIdeal.τ).loc Cert.MergeIdeal.main_v16_7) = v7 c
          ∧ r.2.mem ((c.tc : Thread Cert.MergeIdeal.nD Cert.MergeIdeal.τ).loc Cert.MergeIdeal.main_v16_8) = v8 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v137) = v0 c
          ∧ r.2.mem ((c.tc : Thread Cert.MergeRefIdeal.nD Cert.MergeRefIdeal.τ).loc Cert.MergeRefIdeal.main_v139) = v1 c
          ∧ r.2.mem ((c.tc : Thread Cert.MergeRefIdeal.nD Cert.MergeRefIdeal.τ).loc Cert.MergeRefIdeal.main_v141) = v2 c
          ∧ r.2.mem ((c.tc : Thread Cert.MergeRefIdeal.nD Cert.MergeRefIdeal.τ).loc Cert.MergeRefIdeal.main_v143) = v3 c
          ∧ r.2.mem ((c.tc : Thread Cert.MergeRefIdeal.nD Cert.MergeRefIdeal.τ).loc Cert.MergeRefIdeal.main_v145) = v4 c
          ∧ r.2.mem ((c.tc : Thread Cert.MergeRefIdeal.nD Cert.MergeRefIdeal.τ).loc Cert.MergeRefIdeal.main_v147) = v5 c
          ∧ r.2.mem ((c.tc : Thread Cert.MergeRefIdeal.nD Cert.MergeRefIdeal.τ).loc Cert.MergeRefIdeal.main_v148) = v6 c
          ∧ r.2.mem ((c.tc : Thread Cert.MergeRefIdeal.nD Cert.MergeRefIdeal.τ).loc Cert.MergeRefIdeal.main_v149) = v7 c
          ∧ r.2.mem ((c.tc : Thread Cert.MergeRefIdeal.nD Cert.MergeRefIdeal.τ).loc Cert.MergeRefIdeal.main_v151) = v8 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)) →
    ∃ (v0 : (c : Dev Cert.MergeFwdIdeal.nD) → Buf (Elt Ideal) ((c.tc : Thread Cert.MergeFwdIdeal.nD Cert.MergeFwdIdeal.τ).loc Cert.MergeFwdIdeal.main_v16_0)) (v1 : (c : Dev Cert.MergeFwdIdeal.nD) → Buf (Elt Ideal) ((c.tc : Thread Cert.MergeFwdIdeal.nD Cert.MergeFwdIdeal.τ).loc Cert.MergeFwdIdeal.main_v16_1)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v16_0) = v0 c
          ∧ r.2.mem ((c.tc : Thread Cert.MergeFwdIdeal.nD Cert.MergeFwdIdeal.τ).loc Cert.MergeFwdIdeal.main_v16_1) = v1 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v66) = v0 c
          ∧ r.2.mem ((c.tc : Thread Cert.MergeFwdRefIdeal.nD Cert.MergeFwdRefIdeal.τ).loc Cert.MergeFwdRefIdeal.main_v68) = v1 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v13)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v13) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v42) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1))

def preserves_GdnBwd_GdnBwdIdeal : Prop :=
  True

def preserves_Head_HeadIdeal : Prop :=
  True

def algebraic_HeadIdeal_HeadRefIdeal_pre_head_finite [hHeadIdeal : Cert.HeadIdeal.Facts] [hHeadRefIdeal : Cert.HeadRefIdeal.Facts] [hPre_head_finite : Cert.Pre_head_finite.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal_head_finite m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)) →
    ∃ (v0 : (c : Dev Cert.HeadIdeal.nD) → Buf (Elt Ideal) ((c.tc : Thread Cert.HeadIdeal.nD Cert.HeadIdeal.τ).loc Cert.HeadIdeal.main_v11_0)) (v1 : (c : Dev Cert.HeadIdeal.nD) → Buf (Elt Ideal) ((c.tc : Thread Cert.HeadIdeal.nD Cert.HeadIdeal.τ).loc Cert.HeadIdeal.main_v11_1)) (v2 : (c : Dev Cert.HeadIdeal.nD) → Buf (Elt Ideal) ((c.tc : Thread Cert.HeadIdeal.nD Cert.HeadIdeal.τ).loc Cert.HeadIdeal.main_v11_2)) (v3 : (c : Dev Cert.HeadIdeal.nD) → Buf (Elt Ideal) ((c.tc : Thread Cert.HeadIdeal.nD Cert.HeadIdeal.τ).loc Cert.HeadIdeal.main_v11_3)) (v4 : (c : Dev Cert.HeadIdeal.nD) → Buf (Elt Ideal) ((c.tc : Thread Cert.HeadIdeal.nD Cert.HeadIdeal.τ).loc Cert.HeadIdeal.main_v11_4)) (v5 : (c : Dev Cert.HeadIdeal.nD) → Buf (Elt Ideal) ((c.tc : Thread Cert.HeadIdeal.nD Cert.HeadIdeal.τ).loc Cert.HeadIdeal.main_v11_5)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v11_0) = v0 c
          ∧ r.2.mem ((c.tc : Thread Cert.HeadIdeal.nD Cert.HeadIdeal.τ).loc Cert.HeadIdeal.main_v11_1) = v1 c
          ∧ r.2.mem ((c.tc : Thread Cert.HeadIdeal.nD Cert.HeadIdeal.τ).loc Cert.HeadIdeal.main_v11_2) = v2 c
          ∧ r.2.mem ((c.tc : Thread Cert.HeadIdeal.nD Cert.HeadIdeal.τ).loc Cert.HeadIdeal.main_v11_3) = v3 c
          ∧ r.2.mem ((c.tc : Thread Cert.HeadIdeal.nD Cert.HeadIdeal.τ).loc Cert.HeadIdeal.main_v11_4) = v4 c
          ∧ r.2.mem ((c.tc : Thread Cert.HeadIdeal.nD Cert.HeadIdeal.τ).loc Cert.HeadIdeal.main_v11_5) = v5 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v74) = v0 c
          ∧ r.2.mem ((c.tc : Thread Cert.HeadRefIdeal.nD Cert.HeadRefIdeal.τ).loc Cert.HeadRefIdeal.main_v76) = v1 c
          ∧ r.2.mem ((c.tc : Thread Cert.HeadRefIdeal.nD Cert.HeadRefIdeal.τ).loc Cert.HeadRefIdeal.main_v80) = v2 c
          ∧ r.2.mem ((c.tc : Thread Cert.HeadRefIdeal.nD Cert.HeadRefIdeal.τ).loc Cert.HeadRefIdeal.main_v84) = v3 c
          ∧ r.2.mem ((c.tc : Thread Cert.HeadRefIdeal.nD Cert.HeadRefIdeal.τ).loc Cert.HeadRefIdeal.main_v85) = v4 c
          ∧ r.2.mem ((c.tc : Thread Cert.HeadRefIdeal.nD Cert.HeadRefIdeal.τ).loc Cert.HeadRefIdeal.main_v86) = v5 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v9_0)) (v1 : (c : Dev Cert.FfnFwdIdeal.nD) → Buf (Elt Ideal) ((c.tc : Thread Cert.FfnFwdIdeal.nD Cert.FfnFwdIdeal.τ).loc Cert.FfnFwdIdeal.main_v9_1)) (v2 : (c : Dev Cert.FfnFwdIdeal.nD) → Buf (Elt Ideal) ((c.tc : Thread Cert.FfnFwdIdeal.nD Cert.FfnFwdIdeal.τ).loc Cert.FfnFwdIdeal.main_v9_2)) (v3 : (c : Dev Cert.FfnFwdIdeal.nD) → Buf (Elt Ideal) ((c.tc : Thread Cert.FfnFwdIdeal.nD Cert.FfnFwdIdeal.τ).loc Cert.FfnFwdIdeal.main_v9_3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v9_0) = v0 c
          ∧ r.2.mem ((c.tc : Thread Cert.FfnFwdIdeal.nD Cert.FfnFwdIdeal.τ).loc Cert.FfnFwdIdeal.main_v9_1) = v1 c
          ∧ r.2.mem ((c.tc : Thread Cert.FfnFwdIdeal.nD Cert.FfnFwdIdeal.τ).loc Cert.FfnFwdIdeal.main_v9_2) = v2 c
          ∧ r.2.mem ((c.tc : Thread Cert.FfnFwdIdeal.nD Cert.FfnFwdIdeal.τ).loc Cert.FfnFwdIdeal.main_v9_3) = v3 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v22) = v0 c
          ∧ r.2.mem ((c.tc : Thread Cert.FfnFwdRefIdeal.nD Cert.FfnFwdRefIdeal.τ).loc Cert.FfnFwdRefIdeal.main_v24) = v1 c
          ∧ r.2.mem ((c.tc : Thread Cert.FfnFwdRefIdeal.nD Cert.FfnFwdRefIdeal.τ).loc Cert.FfnFwdRefIdeal.main_v28) = v2 c
          ∧ r.2.mem ((c.tc : Thread Cert.FfnFwdRefIdeal.nD Cert.FfnFwdRefIdeal.τ).loc Cert.FfnFwdRefIdeal.main_v32) = v3 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def preserves_NormProj_NormProjIdeal : Prop :=
  True

def algebraic_NormProjIdeal_NormProjRefIdeal [hNormProjIdeal : Cert.NormProjIdeal.Facts] [hNormProjRefIdeal : Cert.NormProjRefIdeal.Facts] : Prop :=
  ∀ (m : (ℓ : Loc Cert.NormProjIdeal.nD Cert.NormProjIdeal.τ Cert.NormProjIdeal.sig) → Buf (Elt Ideal) ℓ) (g : Dev Cert.NormProjIdeal.nD → PrngReg)
    (m' : (ℓ : Loc Cert.NormProjRefIdeal.nD Cert.NormProjRefIdeal.τ Cert.NormProjRefIdeal.sig) → Buf (Elt Ideal) ℓ) (g' : Dev Cert.NormProjRefIdeal.nD → PrngReg), Pre_NormProjIdeal m →
    (∀ c : Dev Cert.NormProjIdeal.nD,
      m' ((c.tc : Thread Cert.NormProjRefIdeal.nD Cert.NormProjRefIdeal.τ).loc Cert.NormProjRefIdeal.main_arg0) = m ((c.tc : Thread Cert.NormProjIdeal.nD Cert.NormProjIdeal.τ).loc Cert.NormProjIdeal.main_arg0)
      ∧ m' ((c.tc : Thread Cert.NormProjRefIdeal.nD Cert.NormProjRefIdeal.τ).loc Cert.NormProjRefIdeal.main_arg1) = m ((c.tc : Thread Cert.NormProjIdeal.nD Cert.NormProjIdeal.τ).loc Cert.NormProjIdeal.main_arg1)
      ∧ m' ((c.tc : Thread Cert.NormProjRefIdeal.nD Cert.NormProjRefIdeal.τ).loc Cert.NormProjRefIdeal.main_arg2) = m ((c.tc : Thread Cert.NormProjIdeal.nD Cert.NormProjIdeal.τ).loc Cert.NormProjIdeal.main_arg2)) →
    ∃ (v0 : (c : Dev Cert.NormProjIdeal.nD) → Buf (Elt Ideal) ((c.tc : Thread Cert.NormProjIdeal.nD Cert.NormProjIdeal.τ).loc Cert.NormProjIdeal.main_v11_0)) (v1 : (c : Dev Cert.NormProjIdeal.nD) → Buf (Elt Ideal) ((c.tc : Thread Cert.NormProjIdeal.nD Cert.NormProjIdeal.τ).loc Cert.NormProjIdeal.main_v11_1)) (v2 : (c : Dev Cert.NormProjIdeal.nD) → Buf (Elt Ideal) ((c.tc : Thread Cert.NormProjIdeal.nD Cert.NormProjIdeal.τ).loc Cert.NormProjIdeal.main_v11_2)) (v3 : (c : Dev Cert.NormProjIdeal.nD) → Buf (Elt Ideal) ((c.tc : Thread Cert.NormProjIdeal.nD Cert.NormProjIdeal.τ).loc Cert.NormProjIdeal.main_v11_3)),
      θ_run (Cert.NormProjIdeal.defs (F := Ideal)) (onTc (τ := Cert.NormProjIdeal.τ) (Cert.NormProjIdeal.main (F := Ideal))) ⟨m, fun _ => 0, g⟩ (fun r => ∀ c : Dev Cert.NormProjIdeal.nD,
          r.2.mem ((c.tc : Thread Cert.NormProjIdeal.nD Cert.NormProjIdeal.τ).loc Cert.NormProjIdeal.main_v11_0) = v0 c
          ∧ r.2.mem ((c.tc : Thread Cert.NormProjIdeal.nD Cert.NormProjIdeal.τ).loc Cert.NormProjIdeal.main_v11_1) = v1 c
          ∧ r.2.mem ((c.tc : Thread Cert.NormProjIdeal.nD Cert.NormProjIdeal.τ).loc Cert.NormProjIdeal.main_v11_2) = v2 c
          ∧ r.2.mem ((c.tc : Thread Cert.NormProjIdeal.nD Cert.NormProjIdeal.τ).loc Cert.NormProjIdeal.main_v11_3) = v3 c
          ∧ r.2.mem ((c.tc : Thread Cert.NormProjIdeal.nD Cert.NormProjIdeal.τ).loc Cert.NormProjIdeal.main_arg0) = m ((c.tc : Thread Cert.NormProjIdeal.nD Cert.NormProjIdeal.τ).loc Cert.NormProjIdeal.main_arg0)
          ∧ r.2.mem ((c.tc : Thread Cert.NormProjIdeal.nD Cert.NormProjIdeal.τ).loc Cert.NormProjIdeal.main_arg1) = m ((c.tc : Thread Cert.NormProjIdeal.nD Cert.NormProjIdeal.τ).loc Cert.NormProjIdeal.main_arg1)
          ∧ r.2.mem ((c.tc : Thread Cert.NormProjIdeal.nD Cert.NormProjIdeal.τ).loc Cert.NormProjIdeal.main_arg2) = m ((c.tc : Thread Cert.NormProjIdeal.nD Cert.NormProjIdeal.τ).loc Cert.NormProjIdeal.main_arg2))
      ∧ θ_run (Cert.NormProjRefIdeal.defs (F := Ideal)) (onTc (τ := Cert.NormProjRefIdeal.τ) (Cert.NormProjRefIdeal.main (F := Ideal))) ⟨m', fun _ => 0, g'⟩ (fun r => ∀ c : Dev Cert.NormProjRefIdeal.nD,
          r.2.mem ((c.tc : Thread Cert.NormProjRefIdeal.nD Cert.NormProjRefIdeal.τ).loc Cert.NormProjRefIdeal.main_v23) = v0 c
          ∧ r.2.mem ((c.tc : Thread Cert.NormProjRefIdeal.nD Cert.NormProjRefIdeal.τ).loc Cert.NormProjRefIdeal.main_v24) = v1 c
          ∧ r.2.mem ((c.tc : Thread Cert.NormProjRefIdeal.nD Cert.NormProjRefIdeal.τ).loc Cert.NormProjRefIdeal.main_v25) = v2 c
          ∧ r.2.mem ((c.tc : Thread Cert.NormProjRefIdeal.nD Cert.NormProjRefIdeal.τ).loc Cert.NormProjRefIdeal.main_v26) = v3 c
          ∧ r.2.mem ((c.tc : Thread Cert.NormProjRefIdeal.nD Cert.NormProjRefIdeal.τ).loc Cert.NormProjRefIdeal.main_arg0) = m' ((c.tc : Thread Cert.NormProjRefIdeal.nD Cert.NormProjRefIdeal.τ).loc Cert.NormProjRefIdeal.main_arg0)
          ∧ r.2.mem ((c.tc : Thread Cert.NormProjRefIdeal.nD Cert.NormProjRefIdeal.τ).loc Cert.NormProjRefIdeal.main_arg1) = m' ((c.tc : Thread Cert.NormProjRefIdeal.nD Cert.NormProjRefIdeal.τ).loc Cert.NormProjRefIdeal.main_arg1)
          ∧ r.2.mem ((c.tc : Thread Cert.NormProjRefIdeal.nD Cert.NormProjRefIdeal.τ).loc Cert.NormProjRefIdeal.main_arg2) = m' ((c.tc : Thread Cert.NormProjRefIdeal.nD Cert.NormProjRefIdeal.τ).loc Cert.NormProjRefIdeal.main_arg2))

def preserves_GdnFwd_GdnFwdIdeal : Prop :=
  True

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)
      ∧ m' ((c.tc : Thread Cert.DwRefIdeal.nD Cert.DwRefIdeal.τ).loc Cert.DwRefIdeal.main_arg2) = m ((c.tc : Thread Cert.DwIdeal.nD Cert.DwIdeal.τ).loc Cert.DwIdeal.main_arg2)) →
    ∃ (v0 : (c : Dev Cert.DwIdeal.nD) → Buf (Elt Ideal) ((c.tc : Thread Cert.DwIdeal.nD Cert.DwIdeal.τ).loc Cert.DwIdeal.main_v17)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v17) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v19) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1)
          ∧ r.2.mem ((c.tc : Thread Cert.DwRefIdeal.nD Cert.DwRefIdeal.τ).loc Cert.DwRefIdeal.main_arg2) = m' ((c.tc : Thread Cert.DwRefIdeal.nD Cert.DwRefIdeal.τ).loc Cert.DwRefIdeal.main_arg2))

def Claim : Prop :=
  ∃ (hConv : Cert.Conv.Facts) (hConvIdeal : Cert.ConvIdeal.Facts) (hConvRefIdeal : Cert.ConvRefIdeal.Facts) (hFfnIn : Cert.FfnIn.Facts) (hFfnInIdeal : Cert.FfnInIdeal.Facts) (hFfnInRefIdeal : Cert.FfnInRefIdeal.Facts) (hFfnHid : Cert.FfnHid.Facts) (hFfnHidIdeal : Cert.FfnHidIdeal.Facts) (hFfnHidRefIdeal : Cert.FfnHidRefIdeal.Facts) (hProj : Cert.Proj.Facts) (hProjIdeal : Cert.ProjIdeal.Facts) (hProjRefIdeal : Cert.ProjRefIdeal.Facts) (hGate : Cert.Gate.Facts) (hGateIdeal : Cert.GateIdeal.Facts) (hGateRefIdeal : Cert.GateRefIdeal.Facts) (hGla : Cert.Gla.Facts) (hGlaIdeal : Cert.GlaIdeal.Facts) (hGlaRefIdeal : Cert.GlaRefIdeal.Facts) (hGlaFwd : Cert.GlaFwd.Facts) (hGlaFwdIdeal : Cert.GlaFwdIdeal.Facts) (hGlaFwdRefIdeal : Cert.GlaFwdRefIdeal.Facts) (hMerge : Cert.Merge.Facts) (hMergeIdeal : Cert.MergeIdeal.Facts) (hMergeRefIdeal : Cert.MergeRefIdeal.Facts) (hMergeFwd : Cert.MergeFwd.Facts) (hMergeFwdIdeal : Cert.MergeFwdIdeal.Facts) (hMergeFwdRefIdeal : Cert.MergeFwdRefIdeal.Facts) (hConvFwd : Cert.ConvFwd.Facts) (hConvFwdIdeal : Cert.ConvFwdIdeal.Facts) (hConvFwdRefIdeal : Cert.ConvFwdRefIdeal.Facts) (hGdnBwd : Cert.GdnBwd.Facts) (hGdnBwdIdeal : Cert.GdnBwdIdeal.Facts) (hHead : Cert.Head.Facts) (hHeadIdeal : Cert.HeadIdeal.Facts) (hHeadRefIdeal : Cert.HeadRefIdeal.Facts) (hFfnFwd : Cert.FfnFwd.Facts) (hFfnFwdIdeal : Cert.FfnFwdIdeal.Facts) (hFfnFwdRefIdeal : Cert.FfnFwdRefIdeal.Facts) (hNormProj : Cert.NormProj.Facts) (hNormProjIdeal : Cert.NormProjIdeal.Facts) (hNormProjRefIdeal : Cert.NormProjRefIdeal.Facts) (hGdnFwd : Cert.GdnFwd.Facts) (hGdnFwdIdeal : Cert.GdnFwdIdeal.Facts) (hDw : Cert.Dw.Facts) (hDwIdeal : Cert.DwIdeal.Facts) (hDwRefIdeal : Cert.DwRefIdeal.Facts) (hPre_ffn_in_finite : Cert.Pre_ffn_in_finite.Facts) (hPre_ffn_hid_finite : Cert.Pre_ffn_hid_finite.Facts) (hPre_proj_finite : Cert.Pre_proj_finite.Facts) (hPre_gla_finite : Cert.Pre_gla_finite.Facts) (hPre_gla_fwd_finite : Cert.Pre_gla_fwd_finite.Facts) (hPre_merge_finite : Cert.Pre_merge_finite.Facts) (hPre_head_finite : Cert.Pre_head_finite.Facts),
    quiescent_Conv (hConv := hConv)
    ∧ quiescent_ConvIdeal (hConvIdeal := hConvIdeal)
    ∧ quiescent_ConvRefIdeal (hConvRefIdeal := hConvRefIdeal)
    ∧ quiescent_FfnIn (hFfnIn := hFfnIn)
    ∧ quiescent_FfnInIdeal (hFfnInIdeal := hFfnInIdeal)
    ∧ quiescent_FfnInIdeal_pre_ffn_in_finite (hFfnInIdeal := hFfnInIdeal) (hPre_ffn_in_finite := hPre_ffn_in_finite)
    ∧ quiescent_FfnInRefIdeal (hFfnInRefIdeal := hFfnInRefIdeal)
    ∧ quiescent_FfnInRefIdeal_pre_ffn_in_finite (hFfnInRefIdeal := hFfnInRefIdeal) (hPre_ffn_in_finite := hPre_ffn_in_finite)
    ∧ quiescent_FfnHid (hFfnHid := hFfnHid)
    ∧ quiescent_FfnHidIdeal (hFfnHidIdeal := hFfnHidIdeal)
    ∧ quiescent_FfnHidIdeal_pre_ffn_hid_finite (hFfnHidIdeal := hFfnHidIdeal) (hPre_ffn_hid_finite := hPre_ffn_hid_finite)
    ∧ quiescent_FfnHidRefIdeal (hFfnHidRefIdeal := hFfnHidRefIdeal)
    ∧ quiescent_FfnHidRefIdeal_pre_ffn_hid_finite (hFfnHidRefIdeal := hFfnHidRefIdeal) (hPre_ffn_hid_finite := hPre_ffn_hid_finite)
    ∧ quiescent_Proj (hProj := hProj)
    ∧ quiescent_ProjIdeal (hProjIdeal := hProjIdeal)
    ∧ quiescent_ProjIdeal_pre_proj_finite (hProjIdeal := hProjIdeal) (hPre_proj_finite := hPre_proj_finite)
    ∧ quiescent_ProjRefIdeal (hProjRefIdeal := hProjRefIdeal)
    ∧ quiescent_ProjRefIdeal_pre_proj_finite (hProjRefIdeal := hProjRefIdeal) (hPre_proj_finite := hPre_proj_finite)
    ∧ quiescent_Gate (hGate := hGate)
    ∧ quiescent_GateIdeal (hGateIdeal := hGateIdeal)
    ∧ quiescent_GateRefIdeal (hGateRefIdeal := hGateRefIdeal)
    ∧ quiescent_Gla (hGla := hGla)
    ∧ quiescent_GlaIdeal (hGlaIdeal := hGlaIdeal)
    ∧ quiescent_GlaIdeal_pre_gla_finite (hGlaIdeal := hGlaIdeal) (hPre_gla_finite := hPre_gla_finite)
    ∧ quiescent_GlaRefIdeal (hGlaRefIdeal := hGlaRefIdeal)
    ∧ quiescent_GlaRefIdeal_pre_gla_finite (hGlaRefIdeal := hGlaRefIdeal) (hPre_gla_finite := hPre_gla_finite)
    ∧ quiescent_GlaFwd (hGlaFwd := hGlaFwd)
    ∧ quiescent_GlaFwdIdeal (hGlaFwdIdeal := hGlaFwdIdeal)
    ∧ quiescent_GlaFwdIdeal_pre_gla_fwd_finite (hGlaFwdIdeal := hGlaFwdIdeal) (hPre_gla_fwd_finite := hPre_gla_fwd_finite)
    ∧ quiescent_GlaFwdRefIdeal (hGlaFwdRefIdeal := hGlaFwdRefIdeal)
    ∧ quiescent_GlaFwdRefIdeal_pre_gla_fwd_finite (hGlaFwdRefIdeal := hGlaFwdRefIdeal) (hPre_gla_fwd_finite := hPre_gla_fwd_finite)
    ∧ quiescent_Merge (hMerge := hMerge)
    ∧ quiescent_MergeIdeal (hMergeIdeal := hMergeIdeal)
    ∧ quiescent_MergeIdeal_pre_merge_finite (hMergeIdeal := hMergeIdeal) (hPre_merge_finite := hPre_merge_finite)
    ∧ quiescent_MergeRefIdeal (hMergeRefIdeal := hMergeRefIdeal)
    ∧ quiescent_MergeRefIdeal_pre_merge_finite (hMergeRefIdeal := hMergeRefIdeal) (hPre_merge_finite := hPre_merge_finite)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_GdnBwd (hGdnBwd := hGdnBwd)
    ∧ quiescent_GdnBwdIdeal (hGdnBwdIdeal := hGdnBwdIdeal)
    ∧ quiescent_Head (hHead := hHead)
    ∧ quiescent_HeadIdeal (hHeadIdeal := hHeadIdeal)
    ∧ quiescent_HeadIdeal_pre_head_finite (hHeadIdeal := hHeadIdeal) (hPre_head_finite := hPre_head_finite)
    ∧ quiescent_HeadRefIdeal (hHeadRefIdeal := hHeadRefIdeal)
    ∧ quiescent_HeadRefIdeal_pre_head_finite (hHeadRefIdeal := hHeadRefIdeal) (hPre_head_finite := hPre_head_finite)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_NormProj (hNormProj := hNormProj)
    ∧ quiescent_NormProjIdeal (hNormProjIdeal := hNormProjIdeal)
    ∧ quiescent_NormProjRefIdeal (hNormProjRefIdeal := hNormProjRefIdeal)
    ∧ quiescent_GdnFwd (hGdnFwd := hGdnFwd)
    ∧ quiescent_GdnFwdIdeal (hGdnFwdIdeal := hGdnFwdIdeal)
    ∧ quiescent_Dw (hDw := hDw)
    ∧ quiescent_DwIdeal (hDwIdeal := hDwIdeal)
    ∧ quiescent_DwRefIdeal (hDwRefIdeal := hDwRefIdeal)
    ∧ preserves_Conv_ConvIdeal
    ∧ algebraic_ConvIdeal_ConvRefIdeal (hConvIdeal := hConvIdeal) (hConvRefIdeal := hConvRefIdeal)
    ∧ preserves_FfnIn_FfnInIdeal
    ∧ algebraic_FfnInIdeal_FfnInRefIdeal_pre_ffn_in_finite (hFfnInIdeal := hFfnInIdeal) (hFfnInRefIdeal := hFfnInRefIdeal) (hPre_ffn_in_finite := hPre_ffn_in_finite)
    ∧ preserves_FfnHid_FfnHidIdeal
    ∧ algebraic_FfnHidIdeal_FfnHidRefIdeal_pre_ffn_hid_finite (hFfnHidIdeal := hFfnHidIdeal) (hFfnHidRefIdeal := hFfnHidRefIdeal) (hPre_ffn_hid_finite := hPre_ffn_hid_finite)
    ∧ preserves_Proj_ProjIdeal
    ∧ algebraic_ProjIdeal_ProjRefIdeal_pre_proj_finite (hProjIdeal := hProjIdeal) (hProjRefIdeal := hProjRefIdeal) (hPre_proj_finite := hPre_proj_finite)
    ∧ preserves_Gate_GateIdeal
    ∧ algebraic_GateIdeal_GateRefIdeal (hGateIdeal := hGateIdeal) (hGateRefIdeal := hGateRefIdeal)
    ∧ preserves_Gla_GlaIdeal
    ∧ algebraic_GlaIdeal_GlaRefIdeal_pre_gla_finite (hGlaIdeal := hGlaIdeal) (hGlaRefIdeal := hGlaRefIdeal) (hPre_gla_finite := hPre_gla_finite)
    ∧ preserves_GlaFwd_GlaFwdIdeal
    ∧ algebraic_GlaFwdIdeal_GlaFwdRefIdeal_pre_gla_fwd_finite (hGlaFwdIdeal := hGlaFwdIdeal) (hGlaFwdRefIdeal := hGlaFwdRefIdeal) (hPre_gla_fwd_finite := hPre_gla_fwd_finite)
    ∧ preserves_Merge_MergeIdeal
    ∧ algebraic_MergeIdeal_MergeRefIdeal_pre_merge_finite (hMergeIdeal := hMergeIdeal) (hMergeRefIdeal := hMergeRefIdeal) (hPre_merge_finite := hPre_merge_finite)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_GdnBwd_GdnBwdIdeal
    ∧ preserves_Head_HeadIdeal
    ∧ algebraic_HeadIdeal_HeadRefIdeal_pre_head_finite (hHeadIdeal := hHeadIdeal) (hHeadRefIdeal := hHeadRefIdeal) (hPre_head_finite := hPre_head_finite)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_NormProj_NormProjIdeal
    ∧ algebraic_NormProjIdeal_NormProjRefIdeal (hNormProjIdeal := hNormProjIdeal) (hNormProjRefIdeal := hNormProjRefIdeal)
    ∧ preserves_GdnFwd_GdnFwdIdeal
    ∧ preserves_Dw_DwIdeal
    ∧ algebraic_DwIdeal_DwRefIdeal (hDwIdeal := hDwIdeal) (hDwRefIdeal := hDwRefIdeal)
-- ==== Pre_ffn_hid_finite.lean ====
abbrev S1x8192x1024 : Shape := ⟨3, ![1, 8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S1x8192x1024 : S_.BroadcastsInDim S1x8192x1024 (![] : Fin 0 → Fin S1x8192x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S1x8192x1024 .f32) (main_arg1 : FVec F S1x8192x1024 .f32) (main_arg2 : FVec F S1x1024 .f32) (main_arg3 : FVec F S1024x2816 .f32) (main_arg4 : FVec F S1024x2816 .f32) (main_arg5 : FVec F S2816x1024 .f32) : IVec S1x8192x1024 1 × IVec S1x8192x1024 1 × IVec S1x1024 1 × IVec S1024x2816 1 × IVec S2816x1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x8192x1024 .f32 := Host.absf main_arg1
  let main_cst_0 : FVec F S_ .f32 := constant S_ .f32 0x7F800000#32
  let main_v4 : FVec F S1x8192x1024 .f32 := broadcastInDim S1x8192x1024 ![] bcast_S_S1x8192x1024 main_cst_0
  let main_v5 : IVec S1x8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x2816 .f32 := Host.absf main_arg4
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg5
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  (main_v2, main_v5, main_v8, main_v11, main_v14)
-- ==== Pre_ffn_in_finite.lean ====
abbrev S1x8192x1024 : Shape := ⟨3, ![1, 8192, 1024]⟩
abbrev S1x1024 : Shape := ⟨2, ![1, 1024]⟩
abbrev S1x8192x2816 : Shape := ⟨3, ![1, 8192, 2816]⟩
abbrev S1024x2816 : Shape := ⟨2, ![1024, 2816]⟩
abbrev S_ : Shape := ⟨0, ![]⟩

class Facts : Prop where
  bcast_S_S1x8192x1024 : S_.BroadcastsInDim S1x8192x1024 (![] : Fin 0 → Fin S1x8192x1024.rank)
  bcast_S_S1x1024 : S_.BroadcastsInDim S1x1024 (![] : Fin 0 → Fin S1x1024.rank)
  bcast_S_S1x8192x2816 : S_.BroadcastsInDim S1x8192x2816 (![] : Fin 0 → Fin S1x8192x2816.rank)
  bcast_S_S1024x2816 : S_.BroadcastsInDim S1024x2816 (![] : Fin 0 → Fin S1024x2816.rank)

variable [Facts]

def fn {F : FTy → Type} [FloatOps F] (main_arg0 : FVec F S1x8192x1024 .f32) (main_arg1 : FVec F S1x8192x1024 .f32) (main_arg2 : FVec F S1x1024 .f32) (main_arg3 : FVec F S1x8192x2816 .f32) (main_arg4 : FVec F S1x8192x2816 .f32) (main_arg5 : FVec F S1024x2816 .f32) (main_arg6 : FVec F S1024x2816 .f32) : IVec S1x8192x1024 1 × IVec S1x1024 1 × IVec S1x8192x2816 1 × IVec S1x8192x2816 1 × IVec S1024x2816 1 × IVec S1024x2816 1 :=
  let main_v0 : FVec F S1x8192x1024 .f32 := Host.absf main_arg1
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x8192x2816 .f32 := Host.absf main_arg3
  let main_cst_1 : FVec F S_ .f32 := constant S_ .f32 0x7F800000#32
  let main_v7 : FVec F S1x8192x2816 .f32 := broadcastInDim S1x8192x2816 ![] bcast_S_S1x8192x2816 main_cst_1
  let main_v8 : IVec S1x8192x2816 1 := cmpf .olt main_v6 main_v7
  let main_v9 : FVec F S1x8192x2816 .f32 := Host.absf main_arg4
  let main_cst_2 : FVec F S_ .f32 := constant S_ .f32 0x7F800000#32
  let main_v10 : FVec F S1x8192x2816 .f32 := broadcastInDim S1x8192x2816 ![] bcast_S_S1x8192x2816 main_cst_2
  let main_v11 : IVec S1x8192x2816 1 := cmpf .olt main_v9 main_v10
  let main_v12 : FVec F S1024x2816 .f32 := Host.absf main_arg5
  let main_cst_3 : FVec F S_ .f32 := constant S_ .f32 0x7F800000#32
  let main_v13 : FVec F S1024x2816 .f32 := broadcastInDim S1024x2816 ![] bcast_S_S1024x2816 main_cst_3
  let main_v14 : IVec S1024x2816 1 := cmpf .olt main_v12 main_v13
  let main_v15 : FVec F S1024x2816 .f32 := Host.absf main_arg6
  let main_cst_4 : FVec F S_ .f32 := constant S_ .f32 0x7F800000#32
  let main_v16 : FVec F S1024x2816 .f32 := broadcastInDim S1024x2816 ![] bcast_S_S1024x2816 main_cst_4
  let main_v17 : IVec S1024x2816 1 := cmpf .olt main_v15 main_v16
  (main_v2, main_v5, main_v8, main_v11, main_v14, main_v17)
-- ==== Pre_gla_finite.lean ====
abbrev S8192x512 : Shape := ⟨2, ![8192, 512]⟩
abbrev S8192x1024 : Shape := ⟨2, ![8192, 1024]⟩
abbrev S8192x16 : Shape := ⟨2, ![8192, 16]⟩
abbrev S16x512 : Shape := ⟨2, ![16, 512]⟩
abbrev S1x512 : Shape := ⟨2, ![1, 512]⟩
abbrev S_ : Shape := ⟨0, ![]⟩

class Facts : Prop where
  bcast_S_S8192x512 : S_.BroadcastsInDim S8192x512 (![] : Fin 0 → Fin S8192x512.rank)
  bcast_S_S8192x1024 : S_.BroadcastsInDim S8192x1024 (![] : Fin 0 → Fin S8192x1024.rank)
  bcast_S_S8192x16 : S_.BroadcastsInDim S8192x16 (![] : Fin 0 → Fin S8192x16.rank)
  bcast_S_S16x512 : S_.BroadcastsInDim S16x512 (![] : Fin 0 → Fin S16x512.rank)
  bcast_S_S1x512 : S_.BroadcastsInDim S1x512 (![] : Fin 0 → Fin S1x512.rank)

variable [Facts]

def fn_part1 {F : FTy → Type} [FloatOps F] (main_arg6 : FVec F S8192x1024 .f32) (main_v2 : IVec S8192x512 1) (main_v5 : IVec S8192x512 1) (main_v8 : IVec S8192x1024 1) (main_v11 : IVec S8192x16 1) (main_v14 : IVec S16x512 1) (main_v17 : IVec S1x512 1) : IVec S8192x512 1 × IVec S8192x512 1 × IVec S8192x1024 1 × IVec S8192x16 1 × IVec S16x512 1 × IVec S1x512 1 × IVec S8192x1024 1 :=
  let main_v18 : FVec F S8192x1024 .f32 := Host.absf main_arg6
  let main_cst_5 : FVec F S_ .f32 := constant S_ .f32 0x7F800000#32
  let main_v19 : FVec F S8192x1024 .f32 := broadcastInDim S8192x1024 ![] bcast_S_S8192x1024 main_cst_5
  let main_v20 : IVec S8192x1024 1 := cmpf .olt main_v18 main_v19
  (main_v2, main_v5, main_v8, main_v11, main_v14, main_v17, main_v20)

def fn {F : FTy → Type} [FloatOps F] (main_arg0 : FVec F S8192x512 .f32) (main_arg1 : FVec F S8192x512 .f32) (main_arg2 : FVec F S8192x1024 .f32) (main_arg3 : FVec F S8192x16 .f32) (main_arg4 : FVec F S16x512 .f32) (main_arg5 : FVec F S1x512 .f32) (main_arg6 : FVec F S8192x1024 .f32) : IVec S8192x512 1 × IVec S8192x512 1 × IVec S8192x1024 1 × IVec S8192x16 1 × IVec S16x512 1 × IVec S1x512 1 × IVec S8192x1024 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x16 .f32 := Host.absf main_arg3
  let main_cst_2 : FVec F S_ .f32 := constant S_ .f32 0x7F800000#32
  let main_v10 : FVec F S8192x16 .f32 := broadcastInDim S8192x16 ![] bcast_S_S8192x16 main_cst_2
  let main_v11 : IVec S8192x16 1 := cmpf .olt main_v9 main_v10
  let main_v12 : FVec F S16x512 .f32 := Host.absf main_arg4
  let main_cst_3 : FVec F S_ .f32 := constant S_ .f32 0x7F800000#32
  let main_v13 : FVec F S16x512 .f32 := broadcastInDim S16x512 ![] bcast_S_S16x512 main_cst_3
  let main_v14 : IVec S16x512 1 := cmpf .olt main_v12 main_v13
  let main_v15 : FVec F S1x512 .f32 := Host.absf main_arg5
  let main_cst_4 : FVec F S_ .f32 := constant S_ .f32 0x7F800000#32
  let main_v16 : FVec F S1x512 .f32 := broadcastInDim S1x512 ![] bcast_S_S1x512 main_cst_4
  let main_v17 : IVec S1x512 1 := cmpf .olt main_v15 main_v16
  fn_part1 (F := F) main_arg6 main_v2 main_v5 main_v8 main_v11 main_v14 main_v17
-- ==== Pre_gla_fwd_finite.lean ====
abbrev S8192x512 : Shape := ⟨2, ![8192, 512]⟩
abbrev S8192x1024 : Shape := ⟨2, ![8192, 1024]⟩
abbrev S8192x16 : Shape := ⟨2, ![8192, 16]⟩
abbrev S16x512 : Shape := ⟨2, ![16, 512]⟩
abbrev S1x512 : Shape := ⟨2, ![1, 512]⟩
abbrev S_ : Shape := ⟨0, ![]⟩

class Facts : Prop where
  bcast_S_S8192x512 : S_.BroadcastsInDim S8192x512 (![] : Fin 0 → Fin S8192x512.rank)
  bcast_S_S8192x1024 : S_.BroadcastsInDim S8192x1024 (![] : Fin 0 → Fin S8192x1024.rank)
  bcast_S_S8192x16 : S_.BroadcastsInDim S8192x16 (![] : Fin 0 → Fin S8192x16.rank)
  bcast_S_S16x512 : S_.BroadcastsInDim S16x512 (![] : Fin 0 → Fin S16x512.rank)
  bcast_S_S1x512 : S_.BroadcastsInDim S1x512 (![] : Fin 0 → Fin S1x512.rank)

variable [Facts]

def fn {F : FTy → Type} [FloatOps F] (main_arg0 : FVec F S8192x512 .f32) (main_arg1 : FVec F S8192x512 .f32) (main_arg2 : FVec F S8192x1024 .f32) (main_arg3 : FVec F S8192x16 .f32) (main_arg4 : FVec F S16x512 .f32) (main_arg5 : FVec F S1x512 .f32) : IVec S8192x512 1 × IVec S8192x512 1 × IVec S8192x1024 1 × IVec S8192x16 1 × IVec S16x512 1 × IVec S1x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x16 .f32 := Host.absf main_arg3
  let main_cst_2 : FVec F S_ .f32 := constant S_ .f32 0x7F800000#32
  let main_v10 : FVec F S8192x16 .f32 := broadcastInDim S8192x16 ![] bcast_S_S8192x16 main_cst_2
  let main_v11 : IVec S8192x16 1 := cmpf .olt main_v9 main_v10
  let main_v12 : FVec F S16x512 .f32 := Host.absf main_arg4
  let main_cst_3 : FVec F S_ .f32 := constant S_ .f32 0x7F800000#32
  let main_v13 : FVec F S16x512 .f32 := broadcastInDim S16x512 ![] bcast_S_S16x512 main_cst_3
  let main_v14 : IVec S16x512 1 := cmpf .olt main_v12 main_v13
  let main_v15 : FVec F S1x512 .f32 := Host.absf main_arg5
  let main_cst_4 : FVec F S_ .f32 := constant S_ .f32 0x7F800000#32
  let main_v16 : FVec F S1x512 .f32 := broadcastInDim S1x512 ![] bcast_S_S1x512 main_cst_4
  let main_v17 : IVec S1x512 1 := cmpf .olt main_v15 main_v16
  (main_v2, main_v5, main_v8, main_v11, main_v14, main_v17)
-- ==== Pre_head_finite.lean ====
abbrev S1x8192x1024 : Shape := ⟨3, ![1, 8192, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩

class Facts : Prop where
  bcast_S_S1x8192x1024 : S_.BroadcastsInDim S1x8192x1024 (![] : Fin 0 → Fin S1x8192x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)
  bcast_S_S1024 : S_.BroadcastsInDim S1024 (![] : Fin 0 → Fin S1024.rank)

variable [Facts]

def fn_part1 {F : FTy → Type} [FloatOps F] (main_arg6 : FVec F S1x8192x1024 .f32) (main_v2 : IVec S1x8192x1024 1) (main_v5 : IVec S1x1024 1) (main_v8 : IVec S1024x2816 1) (main_v11 : IVec S1024x2816 1) (main_v14 : IVec S2816x1024 1) (main_v17 : IVec S1024 1) : IVec S1x8192x1024 1 × IVec S1x1024 1 × IVec S1024x2816 1 × IVec S1024x2816 1 × IVec S2816x1024 1 × IVec S1024 1 × IVec S1x8192x1024 1 :=
  let main_v18 : FVec F S1x8192x1024 .f32 := Host.absf main_arg6
  let main_cst_5 : FVec F S_ .f32 := constant S_ .f32 0x7F800000#32
  let main_v19 : FVec F S1x8192x1024 .f32 := broadcastInDim S1x8192x1024 ![] bcast_S_S1x8192x1024 main_cst_5
  let main_v20 : IVec S1x8192x1024 1 := cmpf .olt main_v18 main_v19
  (main_v2, main_v5, main_v8, main_v11, main_v14, main_v17, main_v20)

def fn {F : FTy → Type} [FloatOps F] (main_arg0 : FVec F S1x8192x1024 .f32) (main_arg1 : FVec F S1x1024 .f32) (main_arg2 : FVec F S1024x2816 .f32) (main_arg3 : FVec F S1024x2816 .f32) (main_arg4 : FVec F S2816x1024 .f32) (main_arg5 : FVec F S1024 .f32) (main_arg6 : FVec F S1x8192x1024 .f32) : IVec S1x8192x1024 1 × IVec S1x1024 1 × IVec S1024x2816 1 × IVec S1024x2816 1 × IVec S2816x1024 1 × IVec S1024 1 × IVec S1x8192x1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_v2 main_v5 main_v8 main_v11 main_v14 main_v17
-- ==== Pre_merge_finite.lean ====
abbrev S1x8192x9248 : Shape := ⟨3, ![1, 8192, 9248]⟩
abbrev S1x8192x1024 : Shape := ⟨3, ![1, 8192, 1024]⟩
abbrev S1x256 : Shape := ⟨2, ![1, 256]⟩
abbrev S1x128 : Shape := ⟨2, ![1, 128]⟩
abbrev S1024x1024 : Shape := ⟨2, ![1024, 1024]⟩
abbrev S_ : Shape := ⟨0, ![]⟩

class Facts : Prop where
  bcast_S_S1x8192x9248 : S_.BroadcastsInDim S1x8192x9248 (![] : Fin 0 → Fin S1x8192x9248.rank)
  bcast_S_S1x8192x1024 : S_.BroadcastsInDim S1x8192x1024 (![] : Fin 0 → Fin S1x8192x1024.rank)
  bcast_S_S1x256 : S_.BroadcastsInDim S1x256 (![] : Fin 0 → Fin S1x256.rank)
  bcast_S_S1x128 : S_.BroadcastsInDim S1x128 (![] : Fin 0 → Fin S1x128.rank)
  bcast_S_S1024x1024 : S_.BroadcastsInDim S1024x1024 (![] : Fin 0 → Fin S1024x1024.rank)

variable [Facts]

def fn_part1 {F : FTy → Type} [FloatOps F] (main_arg6 : FVec F S1x8192x1024 .f32) (main_v2 : IVec S1x8192x9248 1) (main_v5 : IVec S1x8192x1024 1) (main_v8 : IVec S1x8192x1024 1) (main_v11 : IVec S1x256 1) (main_v14 : IVec S1x128 1) (main_v17 : IVec S1024x1024 1) : IVec S1x8192x9248 1 × IVec S1x8192x1024 1 × IVec S1x8192x1024 1 × IVec S1x256 1 × IVec S1x128 1 × IVec S1024x1024 1 × IVec S1x8192x1024 1 :=
  let main_v18 : FVec F S1x8192x1024 .f32 := Host.absf main_arg6
  let main_cst_5 : FVec F S_ .f32 := constant S_ .f32 0x7F800000#32
  let main_v19 : FVec F S1x8192x1024 .f32 := broadcastInDim S1x8192x1024 ![] bcast_S_S1x8192x1024 main_cst_5
  let main_v20 : IVec S1x8192x1024 1 := cmpf .olt main_v18 main_v19
  (main_v2, main_v5, main_v8, main_v11, main_v14, main_v17, main_v20)

def fn {F : FTy → Type} [FloatOps F] (main_arg0 : FVec F S1x8192x9248 .f32) (main_arg1 : FVec F S1x8192x1024 .f32) (main_arg2 : FVec F S1x8192x1024 .f32) (main_arg3 : FVec F S1x256 .f32) (main_arg4 : FVec F S1x128 .f32) (main_arg5 : FVec F S1024x1024 .f32) (main_arg6 : FVec F S1x8192x1024 .f32) : IVec S1x8192x9248 1 × IVec S1x8192x1024 1 × IVec S1x8192x1024 1 × IVec S1x256 1 × IVec S1x128 1 × IVec S1024x1024 1 × IVec S1x8192x1024 1 :=
  let main_v0 : FVec F S1x8192x9248 .f32 := Host.absf main_arg0
  let main_cst : FVec F S_ .f32 := constant S_ .f32 0x7F800000#32
  let main_v1 : FVec F S1x8192x9248 .f32 := broadcastInDim S1x8192x9248 ![] bcast_S_S1x8192x9248 main_cst
  let main_v2 : IVec S1x8192x9248 1 := cmpf .olt main_v0 main_v1
  let main_v3 : FVec F S1x8192x1024 .f32 := Host.absf main_arg1
  let main_cst_0 : FVec F S_ .f32 := constant S_ .f32 0x7F800000#32
  let main_v4 : FVec F S1x8192x1024 .f32 := broadcastInDim S1x8192x1024 ![] bcast_S_S1x8192x1024 main_cst_0
  let main_v5 : IVec S1x8192x1024 1 := cmpf .olt main_v3 main_v4
  let main_v6 : FVec F S1x8192x1024 .f32 := Host.absf main_arg2
  let main_cst_1 : FVec F S_ .f32 := constant S_ .f32 0x7F800000#32
  let main_v7 : FVec F S1x8192x1024 .f32 := broadcastInDim S1x8192x1024 ![] bcast_S_S1x8192x1024 main_cst_1
  let main_v8 : IVec S1x8192x1024 1 := cmpf .olt main_v6 main_v7
  let main_v9 : FVec F S1x256 .f32 := Host.absf main_arg3
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_v12 : FVec F S1x128 .f32 := Host.absf main_arg4
  let main_cst_3 : FVec F S_ .f32 := constant S_ .f32 0x7F800000#32
  let main_v13 : FVec F S1x128 .f32 := broadcastInDim S1x128 ![] bcast_S_S1x128 main_cst_3
  let main_v14 : IVec S1x128 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  fn_part1 (F := F) main_arg6 main_v2 main_v5 main_v8 main_v11 main_v14 main_v17
-- ==== Pre_proj_finite.lean ====
abbrev S1x8192x1024 : Shape := ⟨3, ![1, 8192, 1024]⟩
abbrev S1x1024 : Shape := ⟨2, ![1, 1024]⟩
abbrev S1x8192x9248 : Shape := ⟨3, ![1, 8192, 9248]⟩
abbrev S1024x9248 : Shape := ⟨2, ![1024, 9248]⟩
abbrev S_ : Shape := ⟨0, ![]⟩

class Facts : Prop where
  bcast_S_S1x8192x1024 : S_.BroadcastsInDim S1x8192x1024 (![] : Fin 0 → Fin S1x8192x1024.rank)
  bcast_S_S1x1024 : S_.BroadcastsInDim S1x1024 (![] : Fin 0 → Fin S1x1024.rank)
  bcast_S_S1x8192x9248 : S_.BroadcastsInDim S1x8192x9248 (![] : Fin 0 → Fin S1x8192x9248.rank)
  bcast_S_S1024x9248 : S_.BroadcastsInDim S1024x9248 (![] : Fin 0 → Fin S1024x9248.rank)

variable [Facts]

def fn {F : FTy → Type} [FloatOps F] (main_arg0 : FVec F S1x8192x1024 .f32) (main_arg1 : FVec F S1x8192x1024 .f32) (main_arg2 : FVec F S1x1024 .f32) (main_arg3 : FVec F S1x8192x9248 .f32) (main_arg4 : FVec F S1024x9248 .f32) : IVec S1x8192x1024 1 × IVec S1x1024 1 × IVec S1x8192x9248 1 × IVec S1024x9248 1 :=
  let main_v0 : FVec F S1x8192x1024 .f32 := Host.absf main_arg1
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x8192x9248 .f32 := Host.absf main_arg3
  let main_cst_1 : FVec F S_ .f32 := constant S_ .f32 0x7F800000#32
  let main_v7 : FVec F S1x8192x9248 .f32 := broadcastInDim S1x8192x9248 ![] bcast_S_S1x8192x9248 main_cst_1
  let main_v8 : IVec S1x8192x9248 1 := cmpf .olt main_v6 main_v7
  let main_v9 : FVec F S1024x9248 .f32 := Host.absf main_arg4
  let main_cst_2 : FVec F S_ .f32 := constant S_ .f32 0x7F800000#32
  let main_v10 : FVec F S1024x9248 .f32 := broadcastInDim S1024x9248 ![] bcast_S_S1024x9248 main_cst_2
  let main_v11 : IVec S1024x9248 1 := cmpf .olt main_v9 main_v10
  (main_v2, main_v5, main_v8, main_v11)
-- ==== Conv.lean ====
abbrev S1x8192x9248 : Shape := ⟨3, ![1, 8192, 9248]⟩
abbrev S4x3072 : Shape := ⟨2, ![4, 3072]⟩
abbrev S1x8192x3072 : Shape := ⟨3, ![1, 8192, 3072]⟩
abbrev S8192x9248 : Shape := ⟨2, ![8192, 9248]⟩
abbrev S8192x3072 : Shape := ⟨2, ![8192, 3072]⟩
abbrev S8192x4096 : Shape := ⟨2, ![8192, 4096]⟩
abbrev S8192x2048 : Shape := ⟨2, ![8192, 2048]⟩
abbrev S8192x9216 : Shape := ⟨2, ![8192, 9216]⟩
abbrev S8192x16 : Shape := ⟨2, ![8192, 16]⟩
abbrev S_ : Shape := ⟨0, ![]⟩
abbrev S8192x96 : Shape := ⟨2, ![8192, 96]⟩
abbrev S8192x128 : Shape := ⟨2, ![8192, 128]⟩
abbrev S8x3072 : Shape := ⟨2, ![8, 3072]⟩
abbrev S1 : Shape := ⟨1, ![1]⟩
abbrev S8192x1024 : Shape := ⟨2, ![8192, 1024]⟩
abbrev S256x1024 : Shape := ⟨2, ![256, 1024]⟩
abbrev S256x3072 : Shape := ⟨2, ![256, 3072]⟩
abbrev S1x3072 : Shape := ⟨2, ![1, 3072]⟩
abbrev S3072 : Shape := ⟨1, ![3072]⟩
abbrev S248x3072 : Shape := ⟨2, ![248, 3072]⟩

abbrev nBuf : Space → Nat
  | .hbm => 26
  | .vmem => 13
  | .smem => 0
  | _ => 0

abbrev bufTy : (tb : Table) → Fin (tcTables nBuf tb) → BufTy
  | .hbm, ⟨0, _⟩ => ⟨S1x8192x9248, .f32⟩
  | .hbm, ⟨1, _⟩ => ⟨S4x3072, .f32⟩
  | .hbm, ⟨2, _⟩ => ⟨S1x8192x3072, .f32⟩
  | .hbm, ⟨3, _⟩ => ⟨S8192x9248, .f32⟩
  | .hbm, ⟨4, _⟩ => ⟨S8192x3072, .f32⟩
  | .hbm, ⟨5, _⟩ => ⟨S8192x4096, .f32⟩
  | .hbm, ⟨6, _⟩ => ⟨S8192x2048, .f32⟩
  | .hbm, ⟨7, _⟩ => ⟨S8192x9216, .f32⟩
  | .hbm, ⟨8, _⟩ => ⟨S8192x16, .f32⟩
  | .hbm, ⟨9, _⟩ => ⟨S8192x16, .f32⟩
  | .hbm, ⟨10, _⟩ => ⟨S_, .f32⟩
  | .hbm, ⟨11, _⟩ => ⟨S8192x96, .f32⟩
  | .hbm, ⟨12, _⟩ => ⟨S8192x128, .f32⟩
  | .hbm, ⟨13, _⟩ => ⟨S_, .f32⟩
  | .hbm, ⟨14, _⟩ => ⟨S8x3072, .f32⟩
  | .hbm, ⟨15, _⟩ => ⟨S_, .i32⟩
  | .hbm, ⟨16, _⟩ => ⟨S1, .i32⟩
  | .hbm, ⟨17, _⟩ => ⟨S8x3072, .f32⟩
  | .hbm, ⟨18, _⟩ => ⟨S8192x3072, .f32⟩
  | .hbm, ⟨19, _⟩ => ⟨S8192x3072, .bf16⟩
  | .hbm, ⟨20, _⟩ => ⟨S8192x1024, .bf16⟩
  | .hbm, ⟨21, _⟩ => ⟨S8192x1024, .bf16⟩
  | .hbm, ⟨22, _⟩ => ⟨S8192x1024, .bf16⟩
  | .hbm, ⟨23, _⟩ => ⟨S8192x9216, .bf16⟩
  | .hbm, ⟨24, _⟩ => ⟨S8192x3072, .bf16⟩
  | .hbm, ⟨25, _⟩ => ⟨S8x3072, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x3072, .bf16⟩
  | .local _ .vmem, ⟨7, _⟩ => ⟨S256x3072, .bf16⟩
  | .local _ .vmem, ⟨8, _⟩ => ⟨S8x3072, .f32⟩
  | .local _ .vmem, ⟨9, _⟩ => ⟨S256x3072, .bf16⟩
  | .local _ .vmem, ⟨10, _⟩ => ⟨S256x3072, .bf16⟩
  | .local _ .vmem, ⟨11, _⟩ => ⟨S8x3072, .f32⟩
  | .local _ .vmem, ⟨12, _⟩ => ⟨S8x3072, .f32⟩
  | _, _ => ⟨S1x8192x9248, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ConvRefIdeal.lean ====
abbrev S1x8192x9248 : Shape := ⟨3, ![1, 8192, 9248]⟩
abbrev S4x3072 : Shape := ⟨2, ![4, 3072]⟩
abbrev S1x8192x3072 : Shape := ⟨3, ![1, 8192, 3072]⟩
abbrev S1x8192x512 : Shape := ⟨3, ![1, 8192, 512]⟩
abbrev S1x8192x1024 : Shape := ⟨3, ![1, 8192, 1024]⟩
abbrev S1x8192x16 : Shape := ⟨3, ![1, 8192, 16]⟩
abbrev S1x8192x8 : Shape := ⟨3, ![1, 8192, 8]⟩
abbrev S_ : Shape := ⟨0, ![]⟩
abbrev S1x3x3072 : Shape := ⟨3, ![1, 3, 3072]⟩
abbrev S1x8195x3072 : Shape := ⟨3, ![1, 8195, 3072]⟩
abbrev S1x3072 : Shape := ⟨2, ![1, 3072]⟩
abbrev S1x1x3072 : Shape := ⟨3, ![1, 1, 3072]⟩
abbrev S3072 : Shape := ⟨1, ![3072]⟩
abbrev S8192x3072 : Shape := ⟨2, ![8192, 3072]⟩
abbrev S8x3072 : Shape := ⟨2, ![8, 3072]⟩

abbrev nBuf : Space → Nat
  | .hbm => 115
  | .vmem => 0
  | .smem => 0
  | _ => 0

abbrev bufTy : (tb : Table) → Fin (tcTables nBuf tb) → BufTy
  | .hbm, ⟨0, _⟩ => ⟨S1x8192x9248, .f32⟩
  | .hbm, ⟨1, _⟩ => ⟨S4x3072, .f32⟩
  | .hbm, ⟨2, _⟩ => ⟨S1x8192x3072, .f32⟩
  | .hbm, ⟨3, _⟩ => ⟨S1x8192x512, .f32⟩
  | .hbm, ⟨4, _⟩ => ⟨S1x8192x512, .f32⟩
  | .hbm, ⟨5, _⟩ => ⟨S1x8192x1024, .f32⟩
  | .hbm, ⟨6, _⟩ => ⟨S1x8192x1024, .f32⟩
  | .hbm, ⟨7, _⟩ => ⟨S1x8192x16, .f32⟩
  | .hbm, ⟨8, _⟩ => ⟨S1x8192x1024, .f32⟩
  | .hbm, ⟨9, _⟩ => ⟨S1x8192x1024, .f32⟩
  | .hbm, ⟨10, _⟩ => ⟨S1x8192x1024, .f32⟩
  | .hbm, ⟨11, _⟩ => ⟨S1x8192x1024, .f32⟩
  | .hbm, ⟨12, _⟩ => ⟨S1x8192x8, .f32⟩
  | .hbm, ⟨13, _⟩ => ⟨S1x8192x8, .f32⟩
  | .hbm, ⟨14, _⟩ => ⟨S1x8192x1024, .f32⟩
  | .hbm, ⟨15, _⟩ => ⟨S1x8192x1024, .f32⟩
  | .hbm, ⟨16, _⟩ => ⟨S1x8192x3072, .f32⟩
  | .hbm, ⟨17, _⟩ => ⟨S_, .f32⟩
  | .hbm, ⟨18, _⟩ => ⟨S1x3x3072, .f32⟩
  | .hbm, ⟨19, _⟩ => ⟨S1x8195x3072, .f32⟩
  | .hbm, ⟨20, _⟩ => ⟨S_, .f32⟩
  | .hbm, ⟨21, _⟩ => ⟨S1x3x3072, .f32⟩
  | .hbm, ⟨22, _⟩ => ⟨S1x8192x3072, .f32⟩
  | .hbm, ⟨23, _⟩ => ⟨S1x3072, .f32⟩
  | .hbm, ⟨24, _⟩ => ⟨S1x1x3072, .f32⟩
  | .hbm, ⟨25, _⟩ => ⟨S1x8192x3072, .f32⟩
  | .hbm, ⟨26, _⟩ => ⟨S1x8192x3072, .f32⟩
  | .hbm, ⟨27, _⟩ => ⟨S_, .f32⟩
  | .hbm, ⟨28, _⟩ => ⟨S1x8192x3072, .f32⟩
  | .hbm, ⟨29, _⟩ => ⟨S1x8192x3072, .f32⟩
  | .hbm, ⟨30, _⟩ => ⟨S1x8192x3072, .f32⟩
  | .hbm, ⟨31, _⟩ => ⟨S1x3072, .f32⟩
  | .hbm, ⟨32, _⟩ => ⟨S1x1x3072, .f32⟩
  | .hbm, ⟨33, _⟩ => ⟨S1x8192x3072, .f32⟩
  | .hbm, ⟨34, _⟩ => ⟨S1x8192x3072, .f32⟩
  | .hbm, ⟨35, _⟩ => ⟨S1x8192x3072, .f32⟩
  | .hbm, ⟨36, _⟩ => ⟨S1x8192x3072, .f32⟩
  | .hbm, ⟨37, _⟩ => ⟨S1x3072, .f32⟩
  | .hbm, ⟨38, _⟩ => ⟨S1x1x3072, .f32⟩
  | .hbm, ⟨39, _⟩ => ⟨S1x8192x3072, .f32⟩
  | .hbm, ⟨40, _⟩ => ⟨S1x8192x3072, .f32⟩
  | .hbm, ⟨41, _⟩ => ⟨S1x8192x3072, .f32⟩
  | .hbm, ⟨42, _⟩ => ⟨S1x8192x3072, .f32⟩
  | .hbm, ⟨43, _⟩ => ⟨S1x3072, .f32⟩
  | .hbm, ⟨44, _⟩ => ⟨S1x1x3072, .f32⟩
  | .hbm, ⟨45, _⟩ => ⟨S1x8192x3072, .f32⟩
  | .hbm, ⟨46, _⟩ => ⟨S1x8192x3072, .f32⟩
  | .hbm, ⟨47, _⟩ => ⟨S1x8192x3072, .f32⟩
  | .hbm, ⟨48, _⟩ => ⟨S1x8192x3072, .f32⟩
  | .hbm, ⟨49, _⟩ => ⟨S1x8192x3072, .f32⟩
  | .hbm, ⟨50, _⟩ => ⟨S1x8192x3072, .f32⟩
  | .hbm, ⟨51, _⟩ => ⟨S_, .f32⟩
  | .hbm, ⟨52, _⟩ => ⟨S1x3072, .f32⟩
  | .hbm, ⟨53, _⟩ => ⟨S1x1x3072, .f32⟩
  | .hbm, ⟨54, _⟩ => ⟨S1x8192x3072, .f32⟩
  | .hbm, ⟨55, _⟩ => ⟨S1x8192x3072, .f32⟩
  | .hbm, ⟨56, _⟩ => ⟨S_, .f32⟩
  | .hbm, ⟨57, _⟩ => ⟨S3072, .f32⟩
  | .hbm, ⟨58, _⟩ => ⟨S1x3072, .f32⟩
  | .hbm, ⟨59, _⟩ => ⟨S_, .f32⟩
  | .hbm, ⟨60, _⟩ => ⟨S4x3072, .f32⟩
  | .hbm, ⟨61, _⟩ => ⟨S_, .f32⟩
  | .hbm, ⟨62, _⟩ => ⟨S1x8195x3072, .f32⟩
  | .hbm, ⟨63, _⟩ => ⟨S1x8192x3072, .f32⟩
  | .hbm, ⟨64, _⟩ => ⟨S_, .f32⟩
  | .hbm, ⟨65, _⟩ => ⟨S1x3072, .f32⟩
  | .hbm, ⟨66, _⟩ => ⟨S1x1x3072, .f32⟩
  | .hbm, ⟨67, _⟩ => ⟨S1x8192x3072, .f32⟩
  | .hbm, ⟨68, _⟩ => ⟨S1x8192x3072, .f32⟩
  | .hbm, ⟨69, _⟩ => ⟨S_, .f32⟩
  | .hbm, ⟨70, _⟩ => ⟨S3072, .f32⟩
  | .hbm, ⟨71, _⟩ => ⟨S1x3072, .f32⟩
  | .hbm, ⟨72, _⟩ => ⟨S_, .f32⟩
  | .hbm, ⟨73, _⟩ => ⟨S4x3072, .f32⟩
  | .hbm, ⟨74, _⟩ => ⟨S4x3072, .f32⟩
  | .hbm, ⟨75, _⟩ => ⟨S_, .f32⟩
  | .hbm, ⟨76, _⟩ => ⟨S1x8195x3072, .f32⟩
  | .hbm, ⟨77, _⟩ => ⟨S1x8195x3072, .f32⟩
  | .hbm, ⟨78, _⟩ => ⟨S1x8192x3072, .f32⟩
  | .hbm, ⟨79, _⟩ => ⟨S_, .f32⟩
  | .hbm, ⟨80, _⟩ => ⟨S1x3072, .f32⟩
  | .hbm, ⟨81, _⟩ => ⟨S1x1x3072, .f32⟩
  | .hbm, ⟨82, _⟩ => ⟨S1x8192x3072, .f32⟩
  | .hbm, ⟨83, _⟩ => ⟨S1x8192x3072, .f32⟩
  | .hbm, ⟨84, _⟩ => ⟨S_, .f32⟩
  | .hbm, ⟨85, _⟩ => ⟨S3072, .f32⟩
  | .hbm, ⟨86, _⟩ => ⟨S1x3072, .f32⟩
  | .hbm, ⟨87, _⟩ => ⟨S_, .f32⟩
  | .hbm, ⟨88, _⟩ => ⟨S4x3072, .f32⟩
  | .hbm, ⟨89, _⟩ => ⟨S4x3072, .f32⟩
  | .hbm, ⟨90, _⟩ => ⟨S_, .f32⟩
  | .hbm, ⟨91, _⟩ => ⟨S1x8195x3072, .f32⟩
  | .hbm, ⟨92, _⟩ => ⟨S1x8195x3072, .f32⟩
  | .hbm, ⟨93, _⟩ => ⟨S1x8192x3072, .f32⟩
  | .hbm, ⟨94, _⟩ => ⟨S_, .f32⟩
  | .hbm, ⟨95, _⟩ => ⟨S1x3072, .f32⟩
  | .hbm, ⟨96, _⟩ => ⟨S1x1x3072, .f32⟩
  | .hbm, ⟨97, _⟩ => ⟨S1x8192x3072, .f32⟩
  | .hbm, ⟨98, _⟩ => ⟨S1x8192x3072, .f32⟩
  | .hbm, ⟨99, _⟩ => ⟨S_, .f32⟩
  | .hbm, ⟨100, _⟩ => ⟨S3072, .f32⟩
  | .hbm, ⟨101, _⟩ => ⟨S1x3072, .f32⟩
  | .hbm, ⟨102, _⟩ => ⟨S_, .f32⟩
  | .hbm, ⟨103, _⟩ => ⟨S4x3072, .f32⟩
  | .hbm, ⟨104, _⟩ => ⟨S4x3072, .f32⟩
  | .hbm, ⟨105, _⟩ => ⟨S_, .f32⟩
  | .hbm, ⟨106, _⟩ => ⟨S1x8195x3072, .f32⟩
  | .hbm, ⟨107, _⟩ => ⟨S1x8195x3072, .f32⟩
  | .hbm, ⟨108, _⟩ => ⟨S1x3x3072, .f32⟩
  | .hbm, ⟨109, _⟩ => ⟨S1x8192x3072, .f32⟩
  | .hbm, ⟨110, _⟩ => ⟨S8192x3072, .f32⟩
  | .hbm, ⟨111, _⟩ => ⟨S8192x3072, .bf16⟩
  | .hbm, ⟨112, _⟩ => ⟨S_, .f32⟩
  | .hbm, ⟨113, _⟩ => ⟨S4x3072, .f32⟩
  | .hbm, ⟨114, _⟩ => ⟨S8x3072, .f32⟩
  | _, _ => ⟨S1x8192x9248, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_cst_2 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_cst_3 : Ref sig .tc := ⟨.hbm, 56, rfl⟩
abbrev main_v49 : Ref sig .tc := ⟨.hbm, 57, rfl⟩
abbrev main_v50 : Ref sig .tc := ⟨.hbm, 58, rfl⟩
abbrev main_cst_4 : Ref sig .tc := ⟨.hbm, 59, rfl⟩
abbrev main_v51 : Ref sig .tc := ⟨.hbm, 60, rfl⟩
abbrev main_cst_5 : Ref sig .tc := ⟨.hbm, 61, rfl⟩
abbrev main_v52 : Ref sig .tc := ⟨.hbm, 62, rfl⟩
abbrev main_v53 : Ref sig .tc := ⟨.hbm, 63, rfl⟩
abbrev main_cst_6 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_7 : Ref sig .tc := ⟨.hbm, 69, rfl⟩
abbrev main_v58 : Ref sig .tc := ⟨.hbm, 70, rfl⟩
abbrev main_v59 : Ref sig .tc := ⟨.hbm, 71, rfl⟩
abbrev main_cst_8 : Ref sig .tc := ⟨.hbm, 72, rfl⟩
abbrev main_v60 : Ref sig .tc := ⟨.hbm, 73, rfl⟩
abbrev main_v61 : Ref sig .tc := ⟨.hbm, 74, rfl⟩
abbrev main_cst_9 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_10 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_11 : Ref sig .tc := ⟨.hbm, 84, rfl⟩
abbrev main_v69 : Ref sig .tc := ⟨.hbm, 85, rfl⟩
abbrev main_v70 : Ref sig .tc := ⟨.hbm, 86, rfl⟩
abbrev main_cst_12 : Ref sig .tc := ⟨.hbm, 87, rfl⟩
abbrev main_v71 : Ref sig .tc := ⟨.hbm, 88, rfl⟩
abbrev main_v72 : Ref sig .tc := ⟨.hbm, 89, rfl⟩
abbrev main_cst_13 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_14 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_15 : Ref sig .tc := ⟨.hbm, 99, rfl⟩
abbrev main_v80 : Ref sig .tc := ⟨.hbm, 100, rfl⟩
abbrev main_v81 : Ref sig .tc := ⟨.hbm, 101, rfl⟩
abbrev main_cst_16 : Ref sig .tc := ⟨.hbm, 102, rfl⟩
abbrev main_v82 : Ref sig .tc := ⟨.hbm, 103, rfl⟩
abbrev main_v83 : Ref sig .tc := ⟨.hbm, 104, rfl⟩
abbrev main_cst_17 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_cst_18 : Ref sig .tc := ⟨.hbm, 112, rfl⟩
abbrev main_v90 : Ref sig .tc := ⟨.hbm, 113, rfl⟩
abbrev main_v91 : Ref sig .tc := ⟨.hbm, 114, rfl⟩

abbrev nD : Nat := 1
abbrev τ : Topo := Topo.v7x

variable {F : FTy → Type} [FloatOps F]
-- ==== FfnIn.lean ====
abbrev S1x8192x1024 : Shape := ⟨3, ![1, 8192, 1024]⟩
abbrev S1x1024 : Shape := ⟨2, ![1, 1024]⟩
abbrev S1x8192x2816 : Shape := ⟨3, ![1, 8192, 2816]⟩
abbrev S1024x2816 : Shape := ⟨2, ![1024, 2816]⟩
abbrev S8192x1024 : Shape := ⟨2, ![8192, 1024]⟩
abbrev S8192x2816 : Shape := ⟨2, ![8192, 2816]⟩
abbrev S8192x4x704 : Shape := ⟨3, ![8192, 4, 704]⟩
abbrev S4x8192x704 : Shape := ⟨3, ![4, 8192, 704]⟩
abbrev S1024x4x704 : Shape := ⟨3, ![1024, 4, 704]⟩
abbrev S4x1024x704 : Shape := ⟨3, ![4, 1024, 704]⟩
abbrev S512x1024 : Shape := ⟨2, ![512, 1024]⟩
abbrev S4x512x704 : Shape := ⟨3, ![4, 512, 704]⟩
abbrev S2 : Shape := ⟨1, ![2]⟩
abbrev S1 : Shape := ⟨1, ![1]⟩
abbrev S_ : Shape := ⟨0, ![]⟩
abbrev S1x512x704 : Shape := ⟨3, ![1, 512, 704]⟩
abbrev S512x704 : Shape := ⟨2, ![512, 704]⟩
abbrev S1x1024x704 : Shape := ⟨3, ![1, 1024, 704]⟩
abbrev S1024x704 : Shape := ⟨2, ![1024, 704]⟩
abbrev S512 : Shape := ⟨1, ![512]⟩
abbrev S512x1 : Shape := ⟨2, ![512, 1]⟩
abbrev S1024 : Shape := ⟨1, ![1024]⟩

abbrev nBuf : Space → Nat
  | .hbm => 25
  | .vmem => 14
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x1024, .f32⟩
  | .hbm, ⟨3, _⟩ => ⟨S1x8192x2816, .f32⟩
  | .hbm, ⟨4, _⟩ => ⟨S1x8192x2816, .f32⟩
  | .hbm, ⟨5, _⟩ => ⟨S1024x2816, .f32⟩
  | .hbm, ⟨6, _⟩ => ⟨S1024x2816, .f32⟩
  | .hbm, ⟨7, _⟩ => ⟨S8192x1024, .f32⟩
  | .hbm, ⟨8, _⟩ => ⟨S8192x1024, .f32⟩
  | .hbm, ⟨9, _⟩ => ⟨S8192x2816, .f32⟩
  | .hbm, ⟨10, _⟩ => ⟨S8192x4x704, .f32⟩
  | .hbm, ⟨11, _⟩ => ⟨S4x8192x704, .f32⟩
  | .hbm, ⟨12, _⟩ => ⟨S4x8192x704, .bf16⟩
  | .hbm, ⟨13, _⟩ => ⟨S8192x2816, .f32⟩
  | .hbm, ⟨14, _⟩ => ⟨S8192x4x704, .f32⟩
  | .hbm, ⟨15, _⟩ => ⟨S4x8192x704, .f32⟩
  | .hbm, ⟨16, _⟩ => ⟨S4x8192x704, .bf16⟩
  | .hbm, ⟨17, _⟩ => ⟨S1024x4x704, .f32⟩
  | .hbm, ⟨18, _⟩ => ⟨S4x1024x704, .f32⟩
  | .hbm, ⟨19, _⟩ => ⟨S4x1024x704, .bf16⟩
  | .hbm, ⟨20, _⟩ => ⟨S1024x4x704, .f32⟩
  | .hbm, ⟨21, _⟩ => ⟨S4x1024x704, .f32⟩
  | .hbm, ⟨22, _⟩ => ⟨S4x1024x704, .bf16⟩
  | .hbm, ⟨23, _⟩ => ⟨S8192x1024, .f32⟩
  | .hbm, ⟨24, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S4x512x704, .bf16⟩
  | .local _ .vmem, ⟨6, _⟩ => ⟨S4x512x704, .bf16⟩
  | .local _ .vmem, ⟨7, _⟩ => ⟨S4x512x704, .bf16⟩
  | .local _ .vmem, ⟨8, _⟩ => ⟨S4x512x704, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S4x1024x704, .bf16⟩
  | .local _ .vmem, ⟨13, _⟩ => ⟨S4x1024x704, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FfnInRefIdeal.lean ====
abbrev S1x8192x1024 : Shape := ⟨3, ![1, 8192, 1024]⟩
abbrev S1x1024 : Shape := ⟨2, ![1, 1024]⟩
abbrev S1x8192x2816 : Shape := ⟨3, ![1, 8192, 2816]⟩
abbrev S1024x2816 : Shape := ⟨2, ![1024, 2816]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S8192 : Shape := ⟨1, ![8192]⟩
abbrev S8192x1024 : Shape := ⟨2, ![8192, 1024]⟩

abbrev nBuf : Space → Nat
  | .hbm => 62
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x1024, .f32⟩
  | .hbm, ⟨3, _⟩ => ⟨S1x8192x2816, .f32⟩
  | .hbm, ⟨4, _⟩ => ⟨S1x8192x2816, .f32⟩
  | .hbm, ⟨5, _⟩ => ⟨S1024x2816, .f32⟩
  | .hbm, ⟨6, _⟩ => ⟨S1024x2816, .f32⟩
  | .hbm, ⟨7, _⟩ => ⟨S1024, .f32⟩
  | .hbm, ⟨8, _⟩ => ⟨S1x8192x1024, .f32⟩
  | .hbm, ⟨9, _⟩ => ⟨S_, .f32⟩
  | .hbm, ⟨10, _⟩ => ⟨S1x8192, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S1x8192x1, .f32⟩
  | .hbm, ⟨19, _⟩ => ⟨S1x8192x1, .f32⟩
  | .hbm, ⟨20, _⟩ => ⟨S_, .f32⟩
  | .hbm, ⟨21, _⟩ => ⟨S1x8192x1, .f32⟩
  | .hbm, ⟨22, _⟩ => ⟨S1x8192x1, .f32⟩
  | .hbm, ⟨23, _⟩ => ⟨S1x8192x1024, .f32⟩
  | .hbm, ⟨24, _⟩ => ⟨S1x8192x1024, .f32⟩
  | .hbm, ⟨25, _⟩ => ⟨S1x1x1024, .f32⟩
  | .hbm, ⟨26, _⟩ => ⟨S1x8192x1024, .f32⟩
  | .hbm, ⟨27, _⟩ => ⟨S1x8192x1024, .f32⟩
  | .hbm, ⟨28, _⟩ => ⟨S1x8192x2816, .f32⟩
  | .hbm, ⟨29, _⟩ => ⟨S1x8192x2816, .f32⟩
  | .hbm, ⟨30, _⟩ => ⟨S1x8192x1024, .f32⟩
  | .hbm, ⟨31, _⟩ => ⟨S1x8192x1024, .f32⟩
  | .hbm, ⟨32, _⟩ => ⟨S1x8192x1024, .f32⟩
  | .hbm, ⟨33, _⟩ => ⟨S1x8192x1024, .f32⟩
  | .hbm, ⟨34, _⟩ => ⟨S_, .f32⟩
  | .hbm, ⟨35, _⟩ => ⟨S1x1024, .f32⟩
  | .hbm, ⟨36, _⟩ => ⟨S1x1x1024, .f32⟩
  | .hbm, ⟨37, _⟩ => ⟨S1x8192x1024, .f32⟩
  | .hbm, ⟨38, _⟩ => ⟨S1x8192x1024, .f32⟩
  | .hbm, ⟨39, _⟩ => ⟨S_, .f32⟩
  | .hbm, ⟨40, _⟩ => ⟨S1024, .f32⟩
  | .hbm, ⟨41, _⟩ => ⟨S1x8192x1024, .f32⟩
  | .hbm, ⟨42, _⟩ => ⟨S_, .f32⟩
  | .hbm, ⟨43, _⟩ => ⟨S1x8192, .f32⟩
  | .hbm, ⟨44, _⟩ => ⟨S1x8192x1, .f32⟩
  | .hbm, ⟨45, _⟩ => ⟨S1x8192x1024, .f32⟩
  | .hbm, ⟨46, _⟩ => ⟨S1x8192x1024, .f32⟩
  | .hbm, ⟨47, _⟩ => ⟨S1x8192x1024, .f32⟩
  | .hbm, ⟨48, _⟩ => ⟨S1x8192x1, .f32⟩
  | .hbm, ⟨49, _⟩ => ⟨S_, .f32⟩
  | .hbm, ⟨50, _⟩ => ⟨S1x8192x1, .f32⟩
  | .hbm, ⟨51, _⟩ => ⟨S1x8192x1, .f32⟩
  | .hbm, ⟨52, _⟩ => ⟨S_, .f32⟩
  | .hbm, ⟨53, _⟩ => ⟨S8192, .f32⟩
  | .hbm, ⟨54, _⟩ => ⟨S1x8192, .f32⟩
  | .hbm, ⟨55, _⟩ => ⟨S1x8192x1024, .f32⟩
  | .hbm, ⟨56, _⟩ => ⟨S1x8192x1024, .f32⟩
  | .hbm, ⟨57, _⟩ => ⟨S1x8192x1024, .f32⟩
  | .hbm, ⟨58, _⟩ => ⟨S1x8192x1024, .f32⟩
  | .hbm, ⟨59, _⟩ => ⟨S1x8192x1024, .f32⟩
  | .hbm, ⟨60, _⟩ => ⟨S8192x1024, .f32⟩
  | .hbm, ⟨61, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== FfnHid.lean ====
abbrev S1x8192x1024 : Shape := ⟨3, ![1, 8192, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S8192x1024 : Shape := ⟨2, ![8192, 1024]⟩
abbrev S1x8192x2816 : Shape := ⟨3, ![1, 8192, 2816]⟩
abbrev S8192x2816 : Shape := ⟨2, ![8192, 2816]⟩
abbrev S8192x4x704 : Shape := ⟨3, ![8192, 4, 704]⟩
abbrev S4x8192x704 : Shape := ⟨3, ![4, 8192, 704]⟩
abbrev S4x704x1024 : Shape := ⟨3, ![4, 704, 1024]⟩
abbrev S512x1024 : Shape := ⟨2, ![512, 1024]⟩
abbrev S4x512x704 : Shape := ⟨3, ![4, 512, 704]⟩
abbrev S1 : Shape := ⟨1, ![1]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 40
  | .vmem => 15
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1x8192x1024, .f32⟩
  | .hbm, ⟨8, _⟩ => ⟨S_, .f32⟩
  | .hbm, ⟨9, _⟩ => ⟨S1x8192, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S_, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S1x8192x1024, .f32⟩
  | .hbm, ⟨19, _⟩ => ⟨S1x8192x1024, .f32⟩
  | .hbm, ⟨20, _⟩ => ⟨S1x1x1024, .f32⟩
  | .hbm, ⟨21, _⟩ => ⟨S1x8192x1024, .f32⟩
  | .hbm, ⟨22, _⟩ => ⟨S1x8192x1024, .f32⟩
  | .hbm, ⟨23, _⟩ => ⟨S8192x1024, .f32⟩
  | .hbm, ⟨24, _⟩ => ⟨S1x8192x2816, .f32⟩
  | .hbm, ⟨25, _⟩ => ⟨S8192x2816, .f32⟩
  | .hbm, ⟨26, _⟩ => ⟨S8192x4x704, .f32⟩
  | .hbm, ⟨27, _⟩ => ⟨S4x8192x704, .f32⟩
  | .hbm, ⟨28, _⟩ => ⟨S4x8192x704, .bf16⟩
  | .hbm, ⟨29, _⟩ => ⟨S1x8192x2816, .f32⟩
  | .hbm, ⟨30, _⟩ => ⟨S8192x2816, .f32⟩
  | .hbm, ⟨31, _⟩ => ⟨S8192x4x704, .f32⟩
  | .hbm, ⟨32, _⟩ => ⟨S4x8192x704, .f32⟩
  | .hbm, ⟨33, _⟩ => ⟨S4x8192x704, .bf16⟩
  | .hbm, ⟨34, _⟩ => ⟨S4x704x1024, .f32⟩
  | .hbm, ⟨35, _⟩ => ⟨S4x704x1024, .bf16⟩
  | .hbm, ⟨36, _⟩ => ⟨S4x8192x704, .bf16⟩
  | .hbm, ⟨37, _⟩ => ⟨S4x8192x704, .bf16⟩
  | .hbm, ⟨38, _⟩ => ⟨S4x8192x704, .bf16⟩
  | .hbm, ⟨39, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S4x512x704, .bf16⟩
  | .local _ .vmem, ⟨3, _⟩ => ⟨S4x512x704, .bf16⟩
  | .local _ .vmem, ⟨4, _⟩ => ⟨S4x512x704, .bf16⟩
  | .local _ .vmem, ⟨5, _⟩ => ⟨S4x512x704, .bf16⟩
  | .local _ .vmem, ⟨6, _⟩ => ⟨S4x512x704, .bf16⟩
  | .local _ .vmem, ⟨7, _⟩ => ⟨S4x512x704, .bf16⟩
  | .local _ .vmem, ⟨8, _⟩ => ⟨S4x512x704, .bf16⟩
  | .local _ .vmem, ⟨9, _⟩ => ⟨S4x512x704, .bf16⟩
  | .local _ .vmem, ⟨10, _⟩ => ⟨S4x512x704, .bf16⟩
  | .local _ .vmem, ⟨11, _⟩ => ⟨S4x512x704, .bf16⟩
  | .local _ .vmem, ⟨12, _⟩ => ⟨S512x1024, .bf16⟩
  | .local _ .vmem, ⟨13, _⟩ => ⟨S512x1024, .bf16⟩
  | .local _ .vmem, ⟨14, _⟩ => ⟨S4x704x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27_0 : Ref sig .tc := ⟨.hbm, 36, rfl⟩
abbrev main_v27_1 : Ref sig .tc := ⟨.hbm, 37, rfl⟩
abbrev main_v27_2 : Ref sig .tc := ⟨.hbm, 38, rfl⟩
abbrev main_v27_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnHidRefIdeal.lean ====
abbrev S1x8192x1024 : Shape := ⟨3, ![1, 8192, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x2816 : Shape := ⟨3, ![1, 8192, 2816]⟩
abbrev S8192x2816 : Shape := ⟨2, ![8192, 2816]⟩
abbrev S8192x4x704 : Shape := ⟨3, ![8192, 4, 704]⟩
abbrev S4x8192x704 : Shape := ⟨3, ![4, 8192, 704]⟩
abbrev S8192x1024 : Shape := ⟨2, ![8192, 1024]⟩

abbrev nBuf : Space → Nat
  | .hbm => 80
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1x8192x1024, .f32⟩
  | .hbm, ⟨8, _⟩ => ⟨S_, .f32⟩
  | .hbm, ⟨9, _⟩ => ⟨S1x8192, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S_, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S1x8192x1024, .f32⟩
  | .hbm, ⟨19, _⟩ => ⟨S1x8192x1024, .f32⟩
  | .hbm, ⟨20, _⟩ => ⟨S1x1x1024, .f32⟩
  | .hbm, ⟨21, _⟩ => ⟨S1x8192x1024, .f32⟩
  | .hbm, ⟨22, _⟩ => ⟨S1x8192x1024, .f32⟩
  | .hbm, ⟨23, _⟩ => ⟨S1x8192x2816, .f32⟩
  | .hbm, ⟨24, _⟩ => ⟨S1x8192x2816, .f32⟩
  | .hbm, ⟨25, _⟩ => ⟨S1x8192x2816, .f32⟩
  | .hbm, ⟨26, _⟩ => ⟨S1x8192x2816, .f32⟩
  | .hbm, ⟨27, _⟩ => ⟨S_, .f32⟩
  | .hbm, ⟨28, _⟩ => ⟨S1x8192x2816, .f32⟩
  | .hbm, ⟨29, _⟩ => ⟨S1x8192x2816, .f32⟩
  | .hbm, ⟨30, _⟩ => ⟨S_, .f32⟩
  | .hbm, ⟨31, _⟩ => ⟨S1x8192x2816, .f32⟩
  | .hbm, ⟨32, _⟩ => ⟨S1x8192x2816, .f32⟩
  | .hbm, ⟨33, _⟩ => ⟨S_, .f32⟩
  | .hbm, ⟨34, _⟩ => ⟨S1x8192x2816, .f32⟩
  | .hbm, ⟨35, _⟩ => ⟨S1x8192x2816, .f32⟩
  | .hbm, ⟨36, _⟩ => ⟨S1x8192x2816, .f32⟩
  | .hbm, ⟨37, _⟩ => ⟨S1x8192x2816, .f32⟩
  | .hbm, ⟨38, _⟩ => ⟨S1x8192x2816, .f32⟩
  | .hbm, ⟨39, _⟩ => ⟨S1x8192x1024, .f32⟩
  | .hbm, ⟨40, _⟩ => ⟨S_, .f32⟩
  | .hbm, ⟨41, _⟩ => ⟨S1x8192x1024, .f32⟩
  | .hbm, ⟨42, _⟩ => ⟨S1x8192x1024, .f32⟩
  | .hbm, ⟨43, _⟩ => ⟨S_, .f32⟩
  | .hbm, ⟨44, _⟩ => ⟨S1x8192x1024, .f32⟩
  | .hbm, ⟨45, _⟩ => ⟨S1x8192x1024, .f32⟩
  | .hbm, ⟨46, _⟩ => ⟨S1x8192x2816, .f32⟩
  | .hbm, ⟨47, _⟩ => ⟨S1x8192x2816, .f32⟩
  | .hbm, ⟨48, _⟩ => ⟨S1x8192x2816, .f32⟩
  | .hbm, ⟨49, _⟩ => ⟨S1x8192x2816, .f32⟩
  | .hbm, ⟨50, _⟩ => ⟨S1x8192x2816, .f32⟩
  | .hbm, ⟨51, _⟩ => ⟨S1x8192x2816, .f32⟩
  | .hbm, ⟨52, _⟩ => ⟨S1x8192x2816, .f32⟩
  | .hbm, ⟨53, _⟩ => ⟨S8192x2816, .f32⟩
  | .hbm, ⟨54, _⟩ => ⟨S8192x4x704, .f32⟩
  | .hbm, ⟨55, _⟩ => ⟨S4x8192x704, .f32⟩
  | .hbm, ⟨56, _⟩ => ⟨S4x8192x704, .bf16⟩
  | .hbm, ⟨57, _⟩ => ⟨S8192x2816, .f32⟩
  | .hbm, ⟨58, _⟩ => ⟨S8192x4x704, .f32⟩
  | .hbm, ⟨59, _⟩ => ⟨S4x8192x704, .f32⟩
  | .hbm, ⟨60, _⟩ => ⟨S4x8192x704, .bf16⟩
  | .hbm, ⟨61, _⟩ => ⟨S1x8192x2816, .f32⟩
  | .hbm, ⟨62, _⟩ => ⟨S1x8192x2816, .f32⟩
  | .hbm, ⟨63, _⟩ => ⟨S_, .f32⟩
  | .hbm, ⟨64, _⟩ => ⟨S1x8192x2816, .f32⟩
  | .hbm, ⟨65, _⟩ => ⟨S1x8192x2816, .f32⟩
  | .hbm, ⟨66, _⟩ => ⟨S_, .f32⟩
  | .hbm, ⟨67, _⟩ => ⟨S1x8192x2816, .f32⟩
  | .hbm, ⟨68, _⟩ => ⟨S1x8192x2816, .f32⟩
  | .hbm, ⟨69, _⟩ => ⟨S1x8192x2816, .f32⟩
  | .hbm, ⟨70, _⟩ => ⟨S1x8192x2816, .f32⟩
  | .hbm, ⟨71, _⟩ => ⟨S8192x2816, .f32⟩
  | .hbm, ⟨72, _⟩ => ⟨S8192x4x704, .f32⟩
  | .hbm, ⟨73, _⟩ => ⟨S4x8192x704, .f32⟩
  | .hbm, ⟨74, _⟩ => ⟨S4x8192x704, .bf16⟩
  | .hbm, ⟨75, _⟩ => ⟨S8192x1024, .f32⟩
  | .hbm, ⟨76, _⟩ => ⟨S_, .f32⟩
  | .hbm, ⟨77, _⟩ => ⟨S8192x1024, .f32⟩
  | .hbm, ⟨78, _⟩ => ⟨S8192x1024, .f32⟩
  | .hbm, ⟨79, _⟩ => ⟨S8192x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_v16_2 : Ref sig .tc := ⟨.hbm, 32, rfl⟩
abbrev main_call0_cst_1 : Ref sig .tc := ⟨.hbm, 33, rfl⟩
abbrev main_call0_v6 : Ref sig .tc := ⟨.hbm, 34, rfl⟩
abbrev main_call0_v7 : Ref sig .tc := ⟨.hbm, 35, rfl⟩
abbrev main_v16_1 : Ref sig .tc := ⟨.hbm, 36, rfl⟩
abbrev main_v16_0 : Ref sig .tc := ⟨.hbm, 37, rfl⟩
abbrev main_v17 : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_call2_v0 : Ref sig .tc := ⟨.hbm, 61, rfl⟩
abbrev main_call2_v1 : Ref sig .tc := ⟨.hbm, 62, rfl⟩
abbrev main_call2_cst : Ref sig .tc := ⟨.hbm, 63, rfl⟩
abbrev main_call2_v2 : Ref sig .tc := ⟨.hbm, 64, rfl⟩
abbrev main_call2_v3 : Ref sig .tc := ⟨.hbm, 65, rfl⟩
abbrev main_call2_cst_0 : Ref sig .tc := ⟨.hbm, 66, rfl⟩
abbrev main_call2_v4 : Ref sig .tc := ⟨.hbm, 67, rfl⟩
abbrev main_call2_v5 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_4 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩

abbrev nD : Nat := 1
abbrev τ : Topo := Topo.v7x

variable {F : FTy → Type} [FloatOps F]
-- ==== Proj.lean ====
abbrev S1x8192x1024 : Shape := ⟨3, ![1, 8192, 1024]⟩
abbrev S1x1024 : Shape := ⟨2, ![1, 1024]⟩
abbrev S1x8192x9248 : Shape := ⟨3, ![1, 8192, 9248]⟩
abbrev S1024x9248 : Shape := ⟨2, ![1024, 9248]⟩
abbrev S1024x3072 : Shape := ⟨2, ![1024, 3072]⟩
abbrev S1024x4096 : Shape := ⟨2, ![1024, 4096]⟩
abbrev S1024x2048 : Shape := ⟨2, ![1024, 2048]⟩
abbrev S1024x9216 : Shape := ⟨2, ![1024, 9216]⟩
abbrev S1024x16 : Shape := ⟨2, ![1024, 16]⟩
abbrev S_ : Shape := ⟨0, ![]⟩
abbrev S1024x96 : Shape := ⟨2, ![1024, 96]⟩
abbrev S1024x128 : Shape := ⟨2, ![1024, 128]⟩
abbrev S8192x9248 : Shape := ⟨2, ![8192, 9248]⟩
abbrev S8192x3072 : Shape := ⟨2, ![8192, 3072]⟩
abbrev S8192x4096 : Shape := ⟨2, ![8192, 4096]⟩
abbrev S8192x2048 : Shape := ⟨2, ![8192, 2048]⟩
abbrev S8192x9216 : Shape := ⟨2, ![8192, 9216]⟩
abbrev S8192x16 : Shape := ⟨2, ![8192, 16]⟩
abbrev S8192x96 : Shape := ⟨2, ![8192, 96]⟩
abbrev S8192x128 : Shape := ⟨2, ![8192, 128]⟩
abbrev S8192x512 : Shape := ⟨2, ![8192, 512]⟩
abbrev S8192x1024 : Shape := ⟨2, ![8192, 1024]⟩
abbrev S512x1024 : Shape := ⟨2, ![512, 1024]⟩
abbrev S512x512 : Shape := ⟨2, ![512, 512]⟩
abbrev S512x3072 : Shape := ⟨2, ![512, 3072]⟩
abbrev S512x128 : Shape := ⟨2, ![512, 128]⟩
abbrev S1 : Shape := ⟨1, ![1]⟩
abbrev S1024x512 : Shape := ⟨2, ![1024, 512]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 39
  | .vmem => 28
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x1024, .f32⟩
  | .hbm, ⟨3, _⟩ => ⟨S1x8192x9248, .f32⟩
  | .hbm, ⟨4, _⟩ => ⟨S1024x9248, .f32⟩
  | .hbm, ⟨5, _⟩ => ⟨S1024x3072, .f32⟩
  | .hbm, ⟨6, _⟩ => ⟨S1024x4096, .f32⟩
  | .hbm, ⟨7, _⟩ => ⟨S1024x2048, .f32⟩
  | .hbm, ⟨8, _⟩ => ⟨S1024x9216, .f32⟩
  | .hbm, ⟨9, _⟩ => ⟨S1024x16, .f32⟩
  | .hbm, ⟨10, _⟩ => ⟨S1024x16, .f32⟩
  | .hbm, ⟨11, _⟩ => ⟨S_, .f32⟩
  | .hbm, ⟨12, _⟩ => ⟨S1024x96, .f32⟩
  | .hbm, ⟨13, _⟩ => ⟨S1024x128, .f32⟩
  | .hbm, ⟨14, _⟩ => ⟨S8192x9248, .f32⟩
  | .hbm, ⟨15, _⟩ => ⟨S8192x3072, .f32⟩
  | .hbm, ⟨16, _⟩ => ⟨S8192x4096, .f32⟩
  | .hbm, ⟨17, _⟩ => ⟨S8192x2048, .f32⟩
  | .hbm, ⟨18, _⟩ => ⟨S8192x9216, .f32⟩
  | .hbm, ⟨19, _⟩ => ⟨S8192x16, .f32⟩
  | .hbm, ⟨20, _⟩ => ⟨S8192x16, .f32⟩
  | .hbm, ⟨21, _⟩ => ⟨S_, .f32⟩
  | .hbm, ⟨22, _⟩ => ⟨S8192x96, .f32⟩
  | .hbm, ⟨23, _⟩ => ⟨S8192x128, .f32⟩
  | .hbm, ⟨24, _⟩ => ⟨S8192x9216, .bf16⟩
  | .hbm, ⟨25, _⟩ => ⟨S8192x512, .bf16⟩
  | .hbm, ⟨26, _⟩ => ⟨S8192x512, .bf16⟩
  | .hbm, ⟨27, _⟩ => ⟨S8192x1024, .bf16⟩
  | .hbm, ⟨28, _⟩ => ⟨S8192x1024, .bf16⟩
  | .hbm, ⟨29, _⟩ => ⟨S8192x3072, .bf16⟩
  | .hbm, ⟨30, _⟩ => ⟨S8192x1024, .bf16⟩
  | .hbm, ⟨31, _⟩ => ⟨S8192x1024, .bf16⟩
  | .hbm, ⟨32, _⟩ => ⟨S8192x1024, .bf16⟩
  | .hbm, ⟨33, _⟩ => ⟨S8192x1024, .f32⟩
  | .hbm, ⟨34, _⟩ => ⟨S8192x1024, .f32⟩
  | .hbm, ⟨35, _⟩ => ⟨S1024x9216, .bf16⟩
  | .hbm, ⟨36, _⟩ => ⟨S1024x128, .bf16⟩
  | .hbm, ⟨37, _⟩ => ⟨S8192x1024, .f32⟩
  | .hbm, ⟨38, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x3072, .bf16⟩
  | .local _ .vmem, ⟨14, _⟩ => ⟨S512x3072, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x128, .f32⟩
  | .local _ .vmem, ⟨22, _⟩ => ⟨S512x128, .f32⟩
  | .local _ .vmem, ⟨23, _⟩ => ⟨S1024x128, .bf16⟩
  | .local _ .vmem, ⟨24, _⟩ => ⟨S512x1024, .f32⟩
  | .local _ .vmem, ⟨25, _⟩ => ⟨S512x1024, .f32⟩
  | .local _ .vmem, ⟨26, _⟩ => ⟨S1x1024, .f32⟩
  | .local _ .vmem, ⟨27, _⟩ => ⟨S1024x9216, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30_0 : Ref sig .tc := ⟨.hbm, 37, rfl⟩
abbrev main_v30_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem13_1 : DmaSem sig := 25
abbrev cc0_sem14_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ProjRefIdeal.lean ====
abbrev S1x8192x1024 : Shape := ⟨3, ![1, 8192, 1024]⟩
abbrev S1x1024 : Shape := ⟨2, ![1, 1024]⟩
abbrev S1x8192x9248 : Shape := ⟨3, ![1, 8192, 9248]⟩
abbrev S1024x9248 : Shape := ⟨2, ![1024, 9248]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S8192 : Shape := ⟨1, ![8192]⟩
abbrev S8192x1024 : Shape := ⟨2, ![8192, 1024]⟩

abbrev nBuf : Space → Nat
  | .hbm => 57
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x1024, .f32⟩
  | .hbm, ⟨3, _⟩ => ⟨S1x8192x9248, .f32⟩
  | .hbm, ⟨4, _⟩ => ⟨S1024x9248, .f32⟩
  | .hbm, ⟨5, _⟩ => ⟨S1024, .f32⟩
  | .hbm, ⟨6, _⟩ => ⟨S1x8192x1024, .f32⟩
  | .hbm, ⟨7, _⟩ => ⟨S_, .f32⟩
  | .hbm, ⟨8, _⟩ => ⟨S1x8192, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S_, .f32⟩
  | .hbm, ⟨19, _⟩ => ⟨S1x8192x1, .f32⟩
  | .hbm, ⟨20, _⟩ => ⟨S1x8192x1, .f32⟩
  | .hbm, ⟨21, _⟩ => ⟨S1x8192x1024, .f32⟩
  | .hbm, ⟨22, _⟩ => ⟨S1x8192x1024, .f32⟩
  | .hbm, ⟨23, _⟩ => ⟨S1x1x1024, .f32⟩
  | .hbm, ⟨24, _⟩ => ⟨S1x8192x1024, .f32⟩
  | .hbm, ⟨25, _⟩ => ⟨S1x8192x1024, .f32⟩
  | .hbm, ⟨26, _⟩ => ⟨S1x8192x9248, .f32⟩
  | .hbm, ⟨27, _⟩ => ⟨S1x8192x1024, .f32⟩
  | .hbm, ⟨28, _⟩ => ⟨S1x8192x1024, .f32⟩
  | .hbm, ⟨29, _⟩ => ⟨S_, .f32⟩
  | .hbm, ⟨30, _⟩ => ⟨S1x1024, .f32⟩
  | .hbm, ⟨31, _⟩ => ⟨S1x1x1024, .f32⟩
  | .hbm, ⟨32, _⟩ => ⟨S1x8192x1024, .f32⟩
  | .hbm, ⟨33, _⟩ => ⟨S1x8192x1024, .f32⟩
  | .hbm, ⟨34, _⟩ => ⟨S_, .f32⟩
  | .hbm, ⟨35, _⟩ => ⟨S1024, .f32⟩
  | .hbm, ⟨36, _⟩ => ⟨S1x8192x1024, .f32⟩
  | .hbm, ⟨37, _⟩ => ⟨S_, .f32⟩
  | .hbm, ⟨38, _⟩ => ⟨S1x8192, .f32⟩
  | .hbm, ⟨39, _⟩ => ⟨S1x8192x1, .f32⟩
  | .hbm, ⟨40, _⟩ => ⟨S1x8192x1024, .f32⟩
  | .hbm, ⟨41, _⟩ => ⟨S1x8192x1024, .f32⟩
  | .hbm, ⟨42, _⟩ => ⟨S1x8192x1024, .f32⟩
  | .hbm, ⟨43, _⟩ => ⟨S1x8192x1, .f32⟩
  | .hbm, ⟨44, _⟩ => ⟨S_, .f32⟩
  | .hbm, ⟨45, _⟩ => ⟨S1x8192x1, .f32⟩
  | .hbm, ⟨46, _⟩ => ⟨S1x8192x1, .f32⟩
  | .hbm, ⟨47, _⟩ => ⟨S_, .f32⟩
  | .hbm, ⟨48, _⟩ => ⟨S8192, .f32⟩
  | .hbm, ⟨49, _⟩ => ⟨S1x8192, .f32⟩
  | .hbm, ⟨50, _⟩ => ⟨S1x8192x1024, .f32⟩
  | .hbm, ⟨51, _⟩ => ⟨S1x8192x1024, .f32⟩
  | .hbm, ⟨52, _⟩ => ⟨S1x8192x1024, .f32⟩
  | .hbm, ⟨53, _⟩ => ⟨S1x8192x1024, .f32⟩
  | .hbm, ⟨54, _⟩ => ⟨S1x8192x1024, .f32⟩
  | .hbm, ⟨55, _⟩ => ⟨S8192x1024, .f32⟩
  | .hbm, ⟨56, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Gate.lean ====
abbrev S1x8192x32 : Shape := ⟨3, ![1, 8192, 32]⟩
abbrev S16x512 : Shape := ⟨2, ![16, 512]⟩
abbrev S1x512 : Shape := ⟨2, ![1, 512]⟩
abbrev S1x8192x512 : Shape := ⟨3, ![1, 8192, 512]⟩
abbrev S1x8192x16 : Shape := ⟨3, ![1, 8192, 16]⟩
abbrev S8192x32 : Shape := ⟨2, ![8192, 32]⟩
abbrev S_ : Shape := ⟨0, ![]⟩
abbrev S8192x96 : Shape := ⟨2, ![8192, 96]⟩
abbrev S8192x128 : Shape := ⟨2, ![8192, 128]⟩
abbrev S112x512 : Shape := ⟨2, ![112, 512]⟩
abbrev S128x512 : Shape := ⟨2, ![128, 512]⟩
abbrev S1x8192x96 : Shape := ⟨3, ![1, 8192, 96]⟩
abbrev S1x8192x128 : Shape := ⟨3, ![1, 8192, 128]⟩
abbrev S8192x512 : Shape := ⟨2, ![8192, 512]⟩
abbrev S512x512 : Shape := ⟨2, ![512, 512]⟩
abbrev S512x128 : Shape := ⟨2, ![512, 128]⟩
abbrev S1x512x128 : Shape := ⟨3, ![1, 512, 128]⟩
abbrev S512 : Shape := ⟨1, ![512]⟩

abbrev nBuf : Space → Nat
  | .hbm => 21
  | .vmem => 11
  | .smem => 0
  | _ => 0

abbrev bufTy : (tb : Table) → Fin (tcTables nBuf tb) → BufTy
  | .hbm, ⟨0, _⟩ => ⟨S1x8192x32, .f32⟩
  | .hbm, ⟨1, _⟩ => ⟨S16x512, .f32⟩
  | .hbm, ⟨2, _⟩ => ⟨S1x512, .f32⟩
  | .hbm, ⟨3, _⟩ => ⟨S1x8192x512, .f32⟩
  | .hbm, ⟨4, _⟩ => ⟨S1x8192x16, .f32⟩
  | .hbm, ⟨5, _⟩ => ⟨S8192x32, .f32⟩
  | .hbm, ⟨6, _⟩ => ⟨S_, .f32⟩
  | .hbm, ⟨7, _⟩ => ⟨S8192x96, .f32⟩
  | .hbm, ⟨8, _⟩ => ⟨S8192x128, .f32⟩
  | .hbm, ⟨9, _⟩ => ⟨S_, .f32⟩
  | .hbm, ⟨10, _⟩ => ⟨S112x512, .f32⟩
  | .hbm, ⟨11, _⟩ => ⟨S128x512, .f32⟩
  | .hbm, ⟨12, _⟩ => ⟨S_, .f32⟩
  | .hbm, ⟨13, _⟩ => ⟨S1x8192x16, .f32⟩
  | .hbm, ⟨14, _⟩ => ⟨S_, .f32⟩
  | .hbm, ⟨15, _⟩ => ⟨S1x8192x96, .f32⟩
  | .hbm, ⟨16, _⟩ => ⟨S1x8192x128, .f32⟩
  | .hbm, ⟨17, _⟩ => ⟨S8192x512, .f32⟩
  | .hbm, ⟨18, _⟩ => ⟨S8192x128, .f32⟩
  | .hbm, ⟨19, _⟩ => ⟨S128x512, .f32⟩
  | .hbm, ⟨20, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S128x512, .f32⟩
  | .local _ .vmem, ⟨5, _⟩ => ⟨S1x512x128, .f32⟩
  | .local _ .vmem, ⟨6, _⟩ => ⟨S1x512x128, .f32⟩
  | .local _ .vmem, ⟨7, _⟩ => ⟨S512x128, .f32⟩
  | .local _ .vmem, ⟨8, _⟩ => ⟨S512x128, .f32⟩
  | .local _ .vmem, ⟨9, _⟩ => ⟨S128x512, .f32⟩
  | .local _ .vmem, ⟨10, _⟩ => ⟨S1x512, .f32⟩
  | _, _ => ⟨S1x8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GateRefIdeal.lean ====
abbrev S1x8192x32 : Shape := ⟨3, ![1, 8192, 32]⟩
abbrev S16x512 : Shape := ⟨2, ![16, 512]⟩
abbrev S1x512 : Shape := ⟨2, ![1, 512]⟩
abbrev S1x8192x512 : Shape := ⟨3, ![1, 8192, 512]⟩
abbrev S1x8192x16 : Shape := ⟨3, ![1, 8192, 16]⟩
abbrev S_ : Shape := ⟨0, ![]⟩
abbrev S1x8192x96 : Shape := ⟨3, ![1, 8192, 96]⟩
abbrev S1x8192x128 : Shape := ⟨3, ![1, 8192, 128]⟩
abbrev S112x512 : Shape := ⟨2, ![112, 512]⟩
abbrev S128x512 : Shape := ⟨2, ![128, 512]⟩
abbrev S512 : Shape := ⟨1, ![512]⟩
abbrev S1x1x512 : Shape := ⟨3, ![1, 1, 512]⟩
abbrev S512x128 : Shape := ⟨2, ![512, 128]⟩
abbrev S8192x128 : Shape := ⟨2, ![8192, 128]⟩

abbrev nBuf : Space → Nat
  | .hbm => 31
  | .vmem => 0
  | .smem => 0
  | _ => 0

abbrev bufTy : (tb : Table) → Fin (tcTables nBuf tb) → BufTy
  | .hbm, ⟨0, _⟩ => ⟨S1x8192x32, .f32⟩
  | .hbm, ⟨1, _⟩ => ⟨S16x512, .f32⟩
  | .hbm, ⟨2, _⟩ => ⟨S1x512, .f32⟩
  | .hbm, ⟨3, _⟩ => ⟨S1x8192x512, .f32⟩
  | .hbm, ⟨4, _⟩ => ⟨S1x8192x16, .f32⟩
  | .hbm, ⟨5, _⟩ => ⟨S_, .f32⟩
  | .hbm, ⟨6, _⟩ => ⟨S1x8192x96, .f32⟩
  | .hbm, ⟨7, _⟩ => ⟨S1x8192x128, .f32⟩
  | .hbm, ⟨8, _⟩ => ⟨S_, .f32⟩
  | .hbm, ⟨9, _⟩ => ⟨S112x512, .f32⟩
  | .hbm, ⟨10, _⟩ => ⟨S128x512, .f32⟩
  | .hbm, ⟨11, _⟩ => ⟨S512, .f32⟩
  | .hbm, ⟨12, _⟩ => ⟨S1x8192x512, .f32⟩
  | .hbm, ⟨13, _⟩ => ⟨S1x1x512, .f32⟩
  | .hbm, ⟨14, _⟩ => ⟨S1x8192x512, .f32⟩
  | .hbm, ⟨15, _⟩ => ⟨S1x8192x512, .f32⟩
  | .hbm, ⟨16, _⟩ => ⟨S1x8192x16, .f32⟩
  | .hbm, ⟨17, _⟩ => ⟨S_, .f32⟩
  | .hbm, ⟨18, _⟩ => ⟨S1x8192x128, .f32⟩
  | .hbm, ⟨19, _⟩ => ⟨S1x8192x512, .f32⟩
  | .hbm, ⟨20, _⟩ => ⟨S_, .f32⟩
  | .hbm, ⟨21, _⟩ => ⟨S1x512, .f32⟩
  | .hbm, ⟨22, _⟩ => ⟨S1x1x512, .f32⟩
  | .hbm, ⟨23, _⟩ => ⟨S_, .f32⟩
  | .hbm, ⟨24, _⟩ => ⟨S512, .f32⟩
  | .hbm, ⟨25, _⟩ => ⟨S512x128, .f32⟩
  | .hbm, ⟨26, _⟩ => ⟨S128x512, .f32⟩
  | .hbm, ⟨27, _⟩ => ⟨S1x8192x128, .f32⟩
  | .hbm, ⟨28, _⟩ => ⟨S1x8192x128, .f32⟩
  | .hbm, ⟨29, _⟩ => ⟨S8192x128, .f32⟩
  | .hbm, ⟨30, _⟩ => ⟨S1x512, .f32⟩
  | _, _ => ⟨S1x8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Gla.lean ====
abbrev S8192x512 : Shape := ⟨2, ![8192, 512]⟩
abbrev S8192x1024 : Shape := ⟨2, ![8192, 1024]⟩
abbrev S8192x16 : Shape := ⟨2, ![8192, 16]⟩
abbrev S16x512 : Shape := ⟨2, ![16, 512]⟩
abbrev S1x512 : Shape := ⟨2, ![1, 512]⟩
abbrev S_ : Shape := ⟨0, ![]⟩
abbrev S8192x7168 : Shape := ⟨2, ![8192, 7168]⟩
abbrev S8192x9216 : Shape := ⟨2, ![8192, 9216]⟩
abbrev S8192x112 : Shape := ⟨2, ![8192, 112]⟩
abbrev S8192x128 : Shape := ⟨2, ![8192, 128]⟩
abbrev S112x512 : Shape := ⟨2, ![112, 512]⟩
abbrev S128x512 : Shape := ⟨2, ![128, 512]⟩
abbrev S128x64x4x128 : Shape := ⟨4, ![128, 64, 4, 128]⟩
abbrev S4x128x64x128 : Shape := ⟨4, ![4, 128, 64, 128]⟩
abbrev S128x64x4x256 : Shape := ⟨4, ![128, 64, 4, 256]⟩
abbrev S4x128x64x256 : Shape := ⟨4, ![4, 128, 64, 256]⟩
abbrev S64x64 : Shape := ⟨2, ![64, 64]⟩
abbrev S1x1x64x64x1 : Shape := ⟨5, ![1, 1, 64, 64, 1]⟩
abbrev S4x128x1x64x128 : Shape := ⟨5, ![4, 128, 1, 64, 128]⟩
abbrev S4x128x64x64x128 : Shape := ⟨5, ![4, 128, 64, 64, 128]⟩
abbrev S4x128x1x128 : Shape := ⟨4, ![4, 128, 1, 128]⟩
abbrev S4x128x128 : Shape := ⟨3, ![4, 128, 128]⟩
abbrev S4x128x256x128 : Shape := ⟨4, ![4, 128, 256, 128]⟩
abbrev S128 : Shape := ⟨1, ![128]⟩
abbrev S128x1x1 : Shape := ⟨3, ![128, 1, 1]⟩
abbrev S1x128x1 : Shape := ⟨3, ![1, 128, 1]⟩
abbrev S1x1x128 : Shape := ⟨3, ![1, 1, 128]⟩
abbrev S1x128x128 : Shape := ⟨3, ![1, 128, 128]⟩
abbrev S128x1x128 : Shape := ⟨3, ![128, 1, 128]⟩
abbrev S128x128x128 : Shape := ⟨3, ![128, 128, 128]⟩
abbrev S1x128x128x128x1 : Shape := ⟨5, ![1, 128, 128, 128, 1]⟩
abbrev S4x1x1x128x128 : Shape := ⟨5, ![4, 1, 1, 128, 128]⟩
abbrev S4x128x128x128x128 : Shape := ⟨5, ![4, 128, 128, 128, 128]⟩
abbrev S4x128x128x128 : Shape := ⟨4, ![4, 128, 128, 128]⟩
abbrev S1x128 : Shape := ⟨2, ![1, 128]⟩
abbrev S128x1 : Shape := ⟨2, ![128, 1]⟩
abbrev S128x128 : Shape := ⟨2, ![128, 128]⟩
abbrev S1x128x128x1 : Shape := ⟨4, ![1, 128, 128, 1]⟩
abbrev S512x512 : Shape := ⟨2, ![512, 512]⟩
abbrev S512x1024 : Shape := ⟨2, ![512, 1024]⟩
abbrev S512x128 : Shape := ⟨2, ![512, 128]⟩
abbrev S4x8x256x128 : Shape := ⟨4, ![4, 8, 256, 128]⟩
abbrev S4x256x128 : Shape := ⟨3, ![4, 256, 128]⟩
abbrev S8x64x128 : Shape := ⟨3, ![8, 64, 128]⟩
abbrev S32x64x128 : Shape := ⟨3, ![32, 64, 128]⟩
abbrev S1x64x64 : Shape := ⟨3, ![1, 64, 64]⟩
abbrev S32x64x64 : Shape := ⟨3, ![32, 64, 64]⟩
abbrev S32x1x128 : Shape := ⟨3, ![32, 1, 128]⟩
abbrev S512x256 : Shape := ⟨2, ![512, 256]⟩
abbrev S8x64x256 : Shape := ⟨3, ![8, 64, 256]⟩
abbrev S32x64x256 : Shape := ⟨3, ![32, 64, 256]⟩
abbrev S32x256x128 : Shape := ⟨3, ![32, 256, 128]⟩
abbrev S1x256x128 : Shape := ⟨3, ![1, 256, 128]⟩
abbrev S256x128 : Shape := ⟨2, ![256, 128]⟩
abbrev S32x128 : Shape := ⟨2, ![32, 128]⟩

abbrev nBuf : Space → Nat
  | .hbm => 118
  | .vmem => 23
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S8192x16, .f32⟩
  | .hbm, ⟨4, _⟩ => ⟨S16x512, .f32⟩
  | .hbm, ⟨5, _⟩ => ⟨S1x512, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x7168, .f32⟩
  | .hbm, ⟨10, _⟩ => ⟨S8192x9216, .f32⟩
  | .hbm, ⟨11, _⟩ => ⟨S8192x9216, .bf16⟩
  | .hbm, ⟨12, _⟩ => ⟨S_, .f32⟩
  | .hbm, ⟨13, _⟩ => ⟨S8192x112, .f32⟩
  | .hbm, ⟨14, _⟩ => ⟨S8192x128, .f32⟩
  | .hbm, ⟨15, _⟩ => ⟨S_, .f32⟩
  | .hbm, ⟨16, _⟩ => ⟨S112x512, .f32⟩
  | .hbm, ⟨17, _⟩ => ⟨S128x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x512, .i1⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S_, .f32⟩
  | .hbm, ⟨38, _⟩ => ⟨S8192x512, .f32⟩
  | .hbm, ⟨39, _⟩ => ⟨S8192x512, .f32⟩
  | .hbm, ⟨40, _⟩ => ⟨S128x64x4x128, .f32⟩
  | .hbm, ⟨41, _⟩ => ⟨S4x128x64x128, .f32⟩
  | .hbm, ⟨42, _⟩ => ⟨S128x64x4x256, .f32⟩
  | .hbm, ⟨43, _⟩ => ⟨S4x128x64x256, .f32⟩
  | .hbm, ⟨44, _⟩ => ⟨S_, .i1⟩
  | .hbm, ⟨45, _⟩ => ⟨S64x64, .i1⟩
  | .hbm, ⟨46, _⟩ => ⟨S64x64, .i32⟩
  | .hbm, ⟨47, _⟩ => ⟨S_, .i32⟩
  | .hbm, ⟨48, _⟩ => ⟨S64x64, .i32⟩
  | .hbm, ⟨49, _⟩ => ⟨S64x64, .i32⟩
  | .hbm, ⟨50, _⟩ => ⟨S64x64, .i32⟩
  | .hbm, ⟨51, _⟩ => ⟨S64x64, .i1⟩
  | .hbm, ⟨52, _⟩ => ⟨S_, .i1⟩
  | .hbm, ⟨53, _⟩ => ⟨S64x64, .i1⟩
  | .hbm, ⟨54, _⟩ => ⟨S64x64, .i1⟩
  | .hbm, ⟨55, _⟩ => ⟨S1x1x64x64x1, .i1⟩
  | .hbm, ⟨56, _⟩ => ⟨S128x64x4x128, .f32⟩
  | .hbm, ⟨57, _⟩ => ⟨S4x128x64x128, .f32⟩
  | .hbm, ⟨58, _⟩ => ⟨S4x128x1x64x128, .f32⟩
  | .hbm, ⟨59, _⟩ => ⟨S_, .f32⟩
  | .hbm, ⟨60, _⟩ => ⟨S_, .f32⟩
  | .hbm, ⟨61, _⟩ => ⟨S4x128x64x64x128, .i1⟩
  | .hbm, ⟨62, _⟩ => ⟨S4x128x64x64x128, .f32⟩
  | .hbm, ⟨63, _⟩ => ⟨S4x128x64x64x128, .f32⟩
  | .hbm, ⟨64, _⟩ => ⟨S4x128x64x64x128, .f32⟩
  | .hbm, ⟨65, _⟩ => ⟨S_, .f32⟩
  | .hbm, ⟨66, _⟩ => ⟨S4x128x64x128, .f32⟩
  | .hbm, ⟨67, _⟩ => ⟨S4x128x1x128, .f32⟩
  | .hbm, ⟨68, _⟩ => ⟨S4x128x128, .f32⟩
  | .hbm, ⟨69, _⟩ => ⟨S4x128x1x128, .f32⟩
  | .hbm, ⟨70, _⟩ => ⟨S4x128x64x128, .f32⟩
  | .hbm, ⟨71, _⟩ => ⟨S4x128x64x128, .f32⟩
  | .hbm, ⟨72, _⟩ => ⟨S4x128x64x128, .f32⟩
  | .hbm, ⟨73, _⟩ => ⟨S4x128x64x128, .f32⟩
  | .hbm, ⟨74, _⟩ => ⟨S4x128x256x128, .f32⟩
  | .hbm, ⟨75, _⟩ => ⟨S128, .i32⟩
  | .hbm, ⟨76, _⟩ => ⟨S128x1x1, .i32⟩
  | .hbm, ⟨77, _⟩ => ⟨S1x128x1, .i32⟩
  | .hbm, ⟨78, _⟩ => ⟨S1x1x128, .i32⟩
  | .hbm, ⟨79, _⟩ => ⟨S1x128x128, .i32⟩
  | .hbm, ⟨80, _⟩ => ⟨S1x128x128, .i32⟩
  | .hbm, ⟨81, _⟩ => ⟨S1x128x128, .i1⟩
  | .hbm, ⟨82, _⟩ => ⟨S128x1x128, .i32⟩
  | .hbm, ⟨83, _⟩ => ⟨S128x1x128, .i32⟩
  | .hbm, ⟨84, _⟩ => ⟨S128x1x128, .i1⟩
  | .hbm, ⟨85, _⟩ => ⟨S128x128x128, .i1⟩
  | .hbm, ⟨86, _⟩ => ⟨S128x128x128, .i1⟩
  | .hbm, ⟨87, _⟩ => ⟨S128x128x128, .i1⟩
  | .hbm, ⟨88, _⟩ => ⟨S1x128x128x128x1, .i1⟩
  | .hbm, ⟨89, _⟩ => ⟨S4x1x1x128x128, .f32⟩
  | .hbm, ⟨90, _⟩ => ⟨S_, .f32⟩
  | .hbm, ⟨91, _⟩ => ⟨S_, .f32⟩
  | .hbm, ⟨92, _⟩ => ⟨S4x128x128x128x128, .i1⟩
  | .hbm, ⟨93, _⟩ => ⟨S4x128x128x128x128, .f32⟩
  | .hbm, ⟨94, _⟩ => ⟨S4x128x128x128x128, .f32⟩
  | .hbm, ⟨95, _⟩ => ⟨S4x128x128x128x128, .f32⟩
  | .hbm, ⟨96, _⟩ => ⟨S_, .f32⟩
  | .hbm, ⟨97, _⟩ => ⟨S4x128x128x128, .f32⟩
  | .hbm, ⟨98, _⟩ => ⟨S4x128x128x128, .f32⟩
  | .hbm, ⟨99, _⟩ => ⟨S1x128, .i32⟩
  | .hbm, ⟨100, _⟩ => ⟨S128x1, .i32⟩
  | .hbm, ⟨101, _⟩ => ⟨S128x128, .i32⟩
  | .hbm, ⟨102, _⟩ => ⟨S128x128, .i32⟩
  | .hbm, ⟨103, _⟩ => ⟨S128x128, .i1⟩
  | .hbm, ⟨104, _⟩ => ⟨S1x128x128x1, .i1⟩
  | .hbm, ⟨105, _⟩ => ⟨S_, .f32⟩
  | .hbm, ⟨106, _⟩ => ⟨S_, .f32⟩
  | .hbm, ⟨107, _⟩ => ⟨S4x128x128x128, .i1⟩
  | .hbm, ⟨108, _⟩ => ⟨S4x128x128x128, .f32⟩
  | .hbm, ⟨109, _⟩ => ⟨S4x128x128x128, .f32⟩
  | .hbm, ⟨110, _⟩ => ⟨S4x128x256x128, .f32⟩
  | .hbm, ⟨111, _⟩ => ⟨S4x128x256x128, .f32⟩
  | .hbm, ⟨112, _⟩ => ⟨S4x128x256x128, .bf16⟩
  | .hbm, ⟨113, _⟩ => ⟨S8192x1024, .bf16⟩
  | .hbm, ⟨114, _⟩ => ⟨S8192x512, .bf16⟩
  | .hbm, ⟨115, _⟩ => ⟨S8192x512, .bf16⟩
  | .hbm, ⟨116, _⟩ => ⟨S8192x1024, .bf16⟩
  | .hbm, ⟨117, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .bf16⟩
  | .local _ .vmem, ⟨5, _⟩ => ⟨S512x1024, .bf16⟩
  | .local _ .vmem, ⟨6, _⟩ => ⟨S512x128, .f32⟩
  | .local _ .vmem, ⟨7, _⟩ => ⟨S512x128, .f32⟩
  | .local _ .vmem, ⟨8, _⟩ => ⟨S128x512, .f32⟩
  | .local _ .vmem, ⟨9, _⟩ => ⟨S1x512, .f32⟩
  | .local _ .vmem, ⟨10, _⟩ => ⟨S4x8x256x128, .bf16⟩
  | .local _ .vmem, ⟨11, _⟩ => ⟨S4x8x256x128, .bf16⟩
  | .local _ .vmem, ⟨12, _⟩ => ⟨S512x1024, .bf16⟩
  | .local _ .vmem, ⟨13, _⟩ => ⟨S512x1024, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x1024, .bf16⟩
  | .local _ .vmem, ⟨19, _⟩ => ⟨S512x1024, .bf16⟩
  | .local _ .vmem, ⟨20, _⟩ => ⟨S512x512, .f32⟩
  | .local _ .vmem, ⟨21, _⟩ => ⟨S512x512, .f32⟩
  | .local _ .vmem, ⟨22, _⟩ => ⟨S4x256x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v11 : Ref sig .tc := ⟨.hbm, 36, rfl⟩
abbrev main_cst_2 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c : Ref sig .tc := ⟨.hbm, 44, rfl⟩
abbrev main_v18 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_0 : Ref sig .tc := ⟨.hbm, 52, rfl⟩
abbrev main_call1_v5 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_cst_3 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_v24 : Ref sig .tc := ⟨.hbm, 64, rfl⟩
abbrev main_cst_4 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_cst_5 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_call3_v3 : Ref sig .tc := ⟨.hbm, 94, rfl⟩
abbrev main_v49 : Ref sig .tc := ⟨.hbm, 95, rfl⟩
abbrev main_cst_6 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_cst_7 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63_0 : Ref sig .tc := ⟨.hbm, 114, rfl⟩
abbrev main_v63_1 : Ref sig .tc := ⟨.hbm, 115, rfl⟩
abbrev main_v63_2 : Ref sig .tc := ⟨.hbm, 116, rfl⟩
abbrev main_v63_3 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x8x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== GlaRefIdeal.lean ====
abbrev S8192x512 : Shape := ⟨2, ![8192, 512]⟩
abbrev S8192x1024 : Shape := ⟨2, ![8192, 1024]⟩
abbrev S8192x16 : Shape := ⟨2, ![8192, 16]⟩
abbrev S16x512 : Shape := ⟨2, ![16, 512]⟩
abbrev S1x512 : Shape := ⟨2, ![1, 512]⟩
abbrev S_ : Shape := ⟨0, ![]⟩
abbrev S128x64x4x128 : Shape := ⟨4, ![128, 64, 4, 128]⟩
abbrev S4x128x64x128 : Shape := ⟨4, ![4, 128, 64, 128]⟩
abbrev S128x64x4x256 : Shape := ⟨4, ![128, 64, 4, 256]⟩
abbrev S4x128x64x256 : Shape := ⟨4, ![4, 128, 64, 256]⟩
abbrev S64x64 : Shape := ⟨2, ![64, 64]⟩
abbrev S4x128x128x64 : Shape := ⟨4, ![4, 128, 128, 64]⟩
abbrev S4x128x1x128 : Shape := ⟨4, ![4, 128, 1, 128]⟩
abbrev S4x128x128 : Shape := ⟨3, ![4, 128, 128]⟩
abbrev S4x128x64x64 : Shape := ⟨4, ![4, 128, 64, 64]⟩
abbrev S4x128x256x128 : Shape := ⟨4, ![4, 128, 256, 128]⟩
abbrev S128 : Shape := ⟨1, ![128]⟩
abbrev S1x128x1 : Shape := ⟨3, ![1, 128, 1]⟩
abbrev S1x1x128 : Shape := ⟨3, ![1, 1, 128]⟩
abbrev S1x128x128 : Shape := ⟨3, ![1, 128, 128]⟩
abbrev S128x1x1 : Shape := ⟨3, ![128, 1, 1]⟩
abbrev S128x1x128 : Shape := ⟨3, ![128, 1, 128]⟩
abbrev S128x128x128 : Shape := ⟨3, ![128, 128, 128]⟩
abbrev S4x128x128x128 : Shape := ⟨4, ![4, 128, 128, 128]⟩
abbrev S1x128 : Shape := ⟨2, ![1, 128]⟩
abbrev S128x1 : Shape := ⟨2, ![128, 1]⟩
abbrev S128x128 : Shape := ⟨2, ![128, 128]⟩
abbrev S1x128x128x1 : Shape := ⟨4, ![1, 128, 128, 1]⟩
abbrev S4x128x256x64 : Shape := ⟨4, ![4, 128, 256, 64]⟩

abbrev nBuf : Space → Nat
  | .hbm => 222
  | .vmem => 0
  | .smem => 0
  | _ => 0

abbrev hbmTy0_0 (i : Nat) : BufTy := match i % 128 with
  | 0 => ⟨S8192x512, .f32⟩
  | 1 => ⟨S8192x512, .f32⟩
  | 2 => ⟨S8192x1024, .f32⟩
  | 3 => ⟨S8192x16, .f32⟩
  | 4 => ⟨S16x512, .f32⟩
  | 5 => ⟨S1x512, .f32⟩
  | 6 => ⟨S8192x1024, .f32⟩
  | 7 => ⟨S8192x512, .f32⟩
  | 8 => ⟨S8192x512, .f32⟩
  | 9 => ⟨S8192x512, .f32⟩
  | 10 => ⟨S8192x512, .f32⟩
  | 11 => ⟨S_, .f32⟩
  | 12 => ⟨S8192x512, .f32⟩
  | 13 => ⟨S8192x512, .f32⟩
  | 14 => ⟨S8192x512, .f32⟩
  | 15 => ⟨S8192x512, .f32⟩
  | 16 => ⟨S8192x512, .i1⟩
  | 17 => ⟨S8192x512, .f32⟩
  | 18 => ⟨S8192x512, .f32⟩
  | 19 => ⟨S8192x512, .f32⟩
  | 20 => ⟨S8192x512, .f32⟩
  | 21 => ⟨S8192x512, .f32⟩
  | 22 => ⟨S8192x512, .f32⟩
  | 23 => ⟨S8192x512, .f32⟩
  | 24 => ⟨S8192x512, .f32⟩
  | 25 => ⟨S_, .f32⟩
  | 26 => ⟨S8192x512, .f32⟩
  | 27 => ⟨S8192x512, .i1⟩
  | 28 => ⟨S_, .f32⟩
  | 29 => ⟨S8192x512, .f32⟩
  | 30 => ⟨S8192x512, .f32⟩
  | 31 => ⟨S_, .f32⟩
  | 32 => ⟨S8192x512, .f32⟩
  | 33 => ⟨S8192x512, .i1⟩
  | 34 => ⟨S_, .f32⟩
  | 35 => ⟨S8192x512, .f32⟩
  | 36 => ⟨S8192x512, .f32⟩
  | 37 => ⟨S8192x512, .f32⟩
  | 38 => ⟨S8192x512, .f32⟩
  | 39 => ⟨S_, .f32⟩
  | 40 => ⟨S_, .f32⟩
  | 41 => ⟨S_, .i1⟩
  | 42 => ⟨S_, .f32⟩
  | 43 => ⟨S_, .f32⟩
  | 44 => ⟨S_, .f32⟩
  | 45 => ⟨S_, .f32⟩
  | 46 => ⟨S8192x512, .f32⟩
  | 47 => ⟨S8192x512, .i1⟩
  | 48 => ⟨S_, .f32⟩
  | 49 => ⟨S8192x512, .f32⟩
  | 50 => ⟨S8192x512, .f32⟩
  | 51 => ⟨S8192x512, .f32⟩
  | 52 => ⟨S8192x512, .f32⟩
  | 53 => ⟨S8192x512, .f32⟩
  | 54 => ⟨S_, .f32⟩
  | 55 => ⟨S8192x512, .f32⟩
  | 56 => ⟨S8192x512, .f32⟩
  | 57 => ⟨S8192x512, .f32⟩
  | 58 => ⟨S_, .f32⟩
  | 59 => ⟨S8192x512, .f32⟩
  | 60 => ⟨S8192x512, .f32⟩
  | 61 => ⟨S128x64x4x128, .f32⟩
  | 62 => ⟨S4x128x64x128, .f32⟩
  | 63 => ⟨S_, .f32⟩
  | 64 => ⟨S4x128x64x128, .f32⟩
  | 65 => ⟨S4x128x64x128, .f32⟩
  | 66 => ⟨S128x64x4x128, .f32⟩
  | 67 => ⟨S4x128x64x128, .f32⟩
  | 68 => ⟨S128x64x4x256, .f32⟩
  | 69 => ⟨S4x128x64x256, .f32⟩
  | 70 => ⟨S_, .i1⟩
  | 71 => ⟨S64x64, .i1⟩
  | 72 => ⟨S64x64, .i32⟩
  | 73 => ⟨S_, .i32⟩
  | 74 => ⟨S64x64, .i32⟩
  | 75 => ⟨S64x64, .i32⟩
  | 76 => ⟨S64x64, .i32⟩
  | 77 => ⟨S64x64, .i1⟩
  | 78 => ⟨S_, .i1⟩
  | 79 => ⟨S64x64, .i1⟩
  | 80 => ⟨S64x64, .i1⟩
  | 81 => ⟨S64x64, .f32⟩
  | 82 => ⟨S128x64x4x128, .f32⟩
  | 83 => ⟨S4x128x64x128, .f32⟩
  | 84 => ⟨S4x128x128x64, .f32⟩
  | 85 => ⟨S4x128x64x128, .f32⟩
  | 86 => ⟨S4x128x1x128, .f32⟩
  | 87 => ⟨S4x128x128, .f32⟩
  | 88 => ⟨S4x128x64x128, .f32⟩
  | 89 => ⟨S4x128x64x128, .f32⟩
  | 90 => ⟨S4x128x64x128, .f32⟩
  | 91 => ⟨S4x128x64x128, .f32⟩
  | 92 => ⟨S4x128x64x128, .f32⟩
  | 93 => ⟨S4x128x64x64, .f32⟩
  | 94 => ⟨S_, .f32⟩
  | 95 => ⟨S_, .f32⟩
  | 96 => ⟨S4x128x64x64, .i1⟩
  | 97 => ⟨S4x128x64x64, .f32⟩
  | 98 => ⟨S4x128x64x64, .f32⟩
  | 99 => ⟨S_, .f32⟩
  | 100 => ⟨S4x128x64x64, .f32⟩
  | 101 => ⟨S4x128x64x256, .f32⟩
  | 102 => ⟨S4x128x1x128, .f32⟩
  | 103 => ⟨S4x128x64x128, .f32⟩
  | 104 => ⟨S4x128x64x128, .f32⟩
  | 105 => ⟨S4x128x64x128, .f32⟩
  | 106 => ⟨S4x128x64x128, .f32⟩
  | 107 => ⟨S4x128x256x128, .f32⟩
  | 108 => ⟨S128, .i32⟩
  | 109 => ⟨S1x128x1, .i32⟩
  | 110 => ⟨S1x1x128, .i32⟩
  | 111 => ⟨S1x128x128, .i32⟩
  | 112 => ⟨S1x128x128, .i32⟩
  | 113 => ⟨S1x128x128, .i1⟩
  | 114 => ⟨S1x1x128, .i32⟩
  | 115 => ⟨S128x1x1, .i32⟩
  | 116 => ⟨S128x1x128, .i32⟩
  | 117 => ⟨S128x1x128, .i32⟩
  | 118 => ⟨S128x1x128, .i1⟩
  | 119 => ⟨S128x128x128, .i1⟩
  | 120 => ⟨S128x128x128, .i1⟩
  | 121 => ⟨S128x128x128, .i1⟩
  | 122 => ⟨S128x128x128, .f32⟩
  | 123 => ⟨S4x128x128x128, .f32⟩
  | 124 => ⟨S4x128x128x128, .f32⟩
  | 125 => ⟨S4x128x128x128, .f32⟩
  | 126 => ⟨S1x128, .i32⟩
  | 127 => ⟨S128x1, .i32⟩
  | _ => ⟨S8192x512, .f32⟩

abbrev hbmTy0_1 (i : Nat) : BufTy := match i % 128 with
  | 0 => ⟨S128x128, .i32⟩
  | 1 => ⟨S128x128, .i32⟩
  | 2 => ⟨S128x128, .i1⟩
  | 3 => ⟨S1x128x128x1, .i1⟩
  | 4 => ⟨S_, .f32⟩
  | 5 => ⟨S_, .f32⟩
  | 6 => ⟨S4x128x128x128, .i1⟩
  | 7 => ⟨S4x128x128x128, .f32⟩
  | 8 => ⟨S4x128x128x128, .f32⟩
  | 9 => ⟨S_, .f32⟩
  | 10 => ⟨S4x128x128x128, .f32⟩
  | 11 => ⟨S4x128x256x128, .f32⟩
  | 12 => ⟨S4x128x256x128, .f32⟩
  | 13 => ⟨S4x128x64x256, .f32⟩
  | 14 => ⟨S4x128x64x256, .f32⟩
  | 15 => ⟨S128x64x4x256, .f32⟩
  | 16 => ⟨S8192x1024, .f32⟩
  | 17 => ⟨S128x64x4x256, .f32⟩
  | 18 => ⟨S4x128x64x256, .f32⟩
  | 19 => ⟨S4x128x256x128, .f32⟩
  | 20 => ⟨S4x128x64x128, .f32⟩
  | 21 => ⟨S4x128x256x128, .f32⟩
  | 22 => ⟨S4x128x128x128, .f32⟩
  | 23 => ⟨S4x128x128x128, .f32⟩
  | 24 => ⟨S4x128x256x128, .f32⟩
  | 25 => ⟨S4x128x256x128, .f32⟩
  | 26 => ⟨S_, .f32⟩
  | 27 => ⟨S4x128x128x128, .f32⟩
  | 28 => ⟨S4x128x128x128, .f32⟩
  | 29 => ⟨S4x128x128x128, .f32⟩
  | 30 => ⟨S4x128x128x128, .f32⟩
  | 31 => ⟨S4x128x128, .f32⟩
  | 32 => ⟨S4x128x128, .f32⟩
  | 33 => ⟨S4x128x128x64, .f32⟩
  | 34 => ⟨S4x128x64x128, .f32⟩
  | 35 => ⟨S4x128x256x64, .f32⟩
  | 36 => ⟨S4x128x64x256, .f32⟩
  | 37 => ⟨S4x128x64x128, .f32⟩
  | 38 => ⟨S4x128x64x128, .f32⟩
  | 39 => ⟨S4x128x64x128, .f32⟩
  | 40 => ⟨S_, .f32⟩
  | 41 => ⟨S4x128x128, .f32⟩
  | 42 => ⟨S4x128x1x128, .f32⟩
  | 43 => ⟨S4x128x64x128, .f32⟩
  | 44 => ⟨S_, .f32⟩
  | 45 => ⟨S4x128x128, .f32⟩
  | 46 => ⟨S4x128x128, .f32⟩
  | 47 => ⟨S4x128x256x64, .f32⟩
  | 48 => ⟨S4x128x64x256, .f32⟩
  | 49 => ⟨S4x128x64x256, .f32⟩
  | 50 => ⟨S4x128x64x64, .f32⟩
  | 51 => ⟨S_, .f32⟩
  | 52 => ⟨S4x128x64x64, .f32⟩
  | 53 => ⟨S4x128x64x64, .f32⟩
  | 54 => ⟨S4x128x64x128, .f32⟩
  | 55 => ⟨S4x128x64x128, .f32⟩
  | 56 => ⟨S4x128x64x128, .f32⟩
  | 57 => ⟨S4x128x64x128, .f32⟩
  | 58 => ⟨S4x128x64x128, .f32⟩
  | 59 => ⟨S4x128x64x128, .f32⟩
  | 60 => ⟨S4x128x64x128, .f32⟩
  | 61 => ⟨S4x128x64x128, .f32⟩
  | 62 => ⟨S4x128x64x128, .f32⟩
  | 63 => ⟨S4x128x64x128, .f32⟩
  | 64 => ⟨S4x128x64x128, .f32⟩
  | 65 => ⟨S4x128x64x128, .f32⟩
  | 66 => ⟨S4x128x64x128, .f32⟩
  | 67 => ⟨S4x128x1x128, .f32⟩
  | 68 => ⟨S_, .f32⟩
  | 69 => ⟨S4x128x64x128, .f32⟩
  | 70 => ⟨S4x128x64x128, .f32⟩
  | 71 => ⟨S4x128x128x64, .f32⟩
  | 72 => ⟨S4x128x128x64, .f32⟩
  | 73 => ⟨S4x128x64x128, .f32⟩
  | 74 => ⟨S128x64x4x128, .f32⟩
  | 75 => ⟨S8192x512, .f32⟩
  | 76 => ⟨S128x64x4x256, .f32⟩
  | 77 => ⟨S8192x1024, .f32⟩
  | 78 => ⟨S128x64x4x128, .f32⟩
  | 79 => ⟨S8192x512, .f32⟩
  | 80 => ⟨S_, .f32⟩
  | 81 => ⟨S4x128x64x128, .f32⟩
  | 82 => ⟨S4x128x64x128, .f32⟩
  | 83 => ⟨S128x64x4x128, .f32⟩
  | 84 => ⟨S8192x512, .f32⟩
  | 85 => ⟨S_, .f32⟩
  | 86 => ⟨S8192x512, .f32⟩
  | 87 => ⟨S8192x512, .f32⟩
  | 88 => ⟨S8192x512, .f32⟩
  | 89 => ⟨S8192x512, .f32⟩
  | 90 => ⟨S8192x512, .f32⟩
  | 91 => ⟨S8192x512, .bf16⟩
  | 92 => ⟨S8192x512, .bf16⟩
  | 93 => ⟨S8192x1024, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_v1_0 : Ref sig .tc := ⟨.hbm, 24, rfl⟩
abbrev main_call0_call0_cst_0 : Ref sig .tc := ⟨.hbm, 25, rfl⟩
abbrev main_call0_call0_v13 : Ref sig .tc := ⟨.hbm, 26, rfl⟩
abbrev main_call0_call0_v14 : Ref sig .tc := ⟨.hbm, 27, rfl⟩
abbrev main_call0_call0_cst_1 : Ref sig .tc := ⟨.hbm, 28, rfl⟩
abbrev main_call0_call0_v15 : Ref sig .tc := ⟨.hbm, 29, rfl⟩
abbrev main_call0_call0_v16 : Ref sig .tc := ⟨.hbm, 30, rfl⟩
abbrev main_call0_call0_cst_2 : Ref sig .tc := ⟨.hbm, 31, rfl⟩
abbrev main_call0_call0_v17 : Ref sig .tc := ⟨.hbm, 32, rfl⟩
abbrev main_call0_call0_v18 : Ref sig .tc := ⟨.hbm, 33, rfl⟩
abbrev main_call0_call0_cst_3 : Ref sig .tc := ⟨.hbm, 34, rfl⟩
abbrev main_call0_call0_v19 : Ref sig .tc := ⟨.hbm, 35, rfl⟩
abbrev main_call0_call0_v20 : Ref sig .tc := ⟨.hbm, 36, rfl⟩
abbrev main_call0_call0_v21 : Ref sig .tc := ⟨.hbm, 37, rfl⟩
abbrev main_v3_1 : Ref sig .tc := ⟨.hbm, 38, rfl⟩
abbrev main_call0_call0_cst_4 : Ref sig .tc := ⟨.hbm, 39, rfl⟩
abbrev main_call0_call0_cst_5 : Ref sig .tc := ⟨.hbm, 40, rfl⟩
abbrev main_call0_call0_v23 : Ref sig .tc := ⟨.hbm, 41, rfl⟩
abbrev main_call0_call0_cst_6 : Ref sig .tc := ⟨.hbm, 42, rfl⟩
abbrev main_call0_call0_cst_7 : Ref sig .tc := ⟨.hbm, 43, rfl⟩
abbrev main_call0_call0_v24 : Ref sig .tc := ⟨.hbm, 44, rfl⟩
abbrev main_call0_call0_cst_8 : Ref sig .tc := ⟨.hbm, 45, rfl⟩
abbrev main_call0_call0_v25 : Ref sig .tc := ⟨.hbm, 46, rfl⟩
abbrev main_call0_call0_v26 : Ref sig .tc := ⟨.hbm, 47, rfl⟩
abbrev main_call0_call0_cst_9 : Ref sig .tc := ⟨.hbm, 48, rfl⟩
abbrev main_call0_call0_v27 : Ref sig .tc := ⟨.hbm, 49, rfl⟩
abbrev main_call0_call0_v28 : Ref sig .tc := ⟨.hbm, 50, rfl⟩
abbrev main_call0_call0_v29 : Ref sig .tc := ⟨.hbm, 51, rfl⟩
abbrev main_call0_call0_v30 : Ref sig .tc := ⟨.hbm, 52, rfl⟩
abbrev main_call0_call0_v31 : Ref sig .tc := ⟨.hbm, 53, rfl⟩
abbrev main_call0_call0_cst_10 : Ref sig .tc := ⟨.hbm, 54, rfl⟩
abbrev main_call0_call0_v32 : Ref sig .tc := ⟨.hbm, 55, rfl⟩
abbrev main_v3_2 : Ref sig .tc := ⟨.hbm, 56, rfl⟩
abbrev main_v3_0 : Ref sig .tc := ⟨.hbm, 57, rfl⟩
abbrev main_cst : Ref sig .tc := ⟨.hbm, 58, rfl⟩
abbrev main_v4 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_cst_0 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_c : Ref sig .tc := ⟨.hbm, 70, rfl⟩
abbrev main_v14 : Ref sig .tc := ⟨.hbm, 71, rfl⟩
abbrev main_call1_v0 : Ref sig .tc := ⟨.hbm, 72, rfl⟩
abbrev main_call1_c : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_c_0 : Ref sig .tc := ⟨.hbm, 78, rfl⟩
abbrev main_call1_v5 : Ref sig .tc := ⟨.hbm, 79, rfl⟩
abbrev main_v15 : Ref sig .tc := ⟨.hbm, 80, rfl⟩
abbrev main_v16 : Ref sig .tc := ⟨.hbm, 81, rfl⟩
abbrev main_v17 : Ref sig .tc := ⟨.hbm, 82, rfl⟩
abbrev main_v18 : Ref sig .tc := ⟨.hbm, 83, rfl⟩
abbrev main_v19 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_cst_1 : Ref sig .tc := ⟨.hbm, 94, rfl⟩
abbrev main_call2_v0 : Ref sig .tc := ⟨.hbm, 95, rfl⟩
abbrev main_v29_1 : Ref sig .tc := ⟨.hbm, 96, rfl⟩
abbrev main_call2_v2 : Ref sig .tc := ⟨.hbm, 97, rfl⟩
abbrev main_v29_0 : Ref sig .tc := ⟨.hbm, 98, rfl⟩
abbrev main_call2_cst : Ref sig .tc := ⟨.hbm, 99, rfl⟩
abbrev main_v29_2 : Ref sig .tc := ⟨.hbm, 100, rfl⟩
abbrev main_v30 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_cst_2 : Ref sig .tc := ⟨.hbm, 132, rfl⟩
abbrev main_call3_v0 : Ref sig .tc := ⟨.hbm, 133, rfl⟩
abbrev main_v61_1 : Ref sig .tc := ⟨.hbm, 134, rfl⟩
abbrev main_call3_v2 : Ref sig .tc := ⟨.hbm, 135, rfl⟩
abbrev main_v61_0 : Ref sig .tc := ⟨.hbm, 136, rfl⟩
abbrev main_call3_cst : Ref sig .tc := ⟨.hbm, 137, rfl⟩
abbrev main_v61_2 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_call4_cst : Ref sig .tc := ⟨.hbm, 154, rfl⟩
abbrev main_call4_v0 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_cst_3 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_cst_4 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_call5_cst : Ref sig .tc := ⟨.hbm, 179, rfl⟩
abbrev main_call5_v0 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_cst_5 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_cst_6 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_cst_7 : Ref sig .tc := ⟨.hbm, 213, rfl⟩
abbrev main_v128 : Ref sig .tc := ⟨.hbm, 214, rfl⟩
abbrev main_v129 : Ref sig .tc := ⟨.hbm, 215, rfl⟩
abbrev main_call6_v0 : Ref sig .tc := ⟨.hbm, 216, rfl⟩
abbrev main_call6_v1 : Ref sig .tc := ⟨.hbm, 217, rfl⟩
abbrev main_v130 : Ref sig .tc := ⟨.hbm, 218, rfl⟩
abbrev main_v131 : Ref sig .tc := ⟨.hbm, 219, rfl⟩
abbrev main_v132 : Ref sig .tc := ⟨.hbm, 220, rfl⟩
abbrev main_v133 : Ref sig .tc := ⟨.hbm, 221, rfl⟩

abbrev nD : Nat := 1
abbrev τ : Topo := Topo.v7x

variable {F : FTy → Type} [FloatOps F]
-- ==== GlaFwd.lean ====
abbrev S8192x512 : Shape := ⟨2, ![8192, 512]⟩
abbrev S8192x1024 : Shape := ⟨2, ![8192, 1024]⟩
abbrev S8192x16 : Shape := ⟨2, ![8192, 16]⟩
abbrev S16x512 : Shape := ⟨2, ![16, 512]⟩
abbrev S1x512 : Shape := ⟨2, ![1, 512]⟩
abbrev S_ : Shape := ⟨0, ![]⟩
abbrev S8192x7168 : Shape := ⟨2, ![8192, 7168]⟩
abbrev S8192x9216 : Shape := ⟨2, ![8192, 9216]⟩
abbrev S8192x112 : Shape := ⟨2, ![8192, 112]⟩
abbrev S8192x128 : Shape := ⟨2, ![8192, 128]⟩
abbrev S112x512 : Shape := ⟨2, ![112, 512]⟩
abbrev S128x512 : Shape := ⟨2, ![128, 512]⟩
abbrev S4x128x256x128 : Shape := ⟨4, ![4, 128, 256, 128]⟩
abbrev S512x512 : Shape := ⟨2, ![512, 512]⟩
abbrev S512x1024 : Shape := ⟨2, ![512, 1024]⟩
abbrev S512x128 : Shape := ⟨2, ![512, 128]⟩
abbrev S4x8x256x128 : Shape := ⟨4, ![4, 8, 256, 128]⟩
abbrev S4x256x128 : Shape := ⟨3, ![4, 256, 128]⟩
abbrev S64x64 : Shape := ⟨2, ![64, 64]⟩
abbrev S8x64x128 : Shape := ⟨3, ![8, 64, 128]⟩
abbrev S32x64x128 : Shape := ⟨3, ![32, 64, 128]⟩
abbrev S1x64x64 : Shape := ⟨3, ![1, 64, 64]⟩
abbrev S32x64x64 : Shape := ⟨3, ![32, 64, 64]⟩
abbrev S32x1x128 : Shape := ⟨3, ![32, 1, 128]⟩
abbrev S512x256 : Shape := ⟨2, ![512, 256]⟩
abbrev S8x64x256 : Shape := ⟨3, ![8, 64, 256]⟩
abbrev S32x64x256 : Shape := ⟨3, ![32, 64, 256]⟩
abbrev S32x256x128 : Shape := ⟨3, ![32, 256, 128]⟩
abbrev S1x256x128 : Shape := ⟨3, ![1, 256, 128]⟩
abbrev S256x128 : Shape := ⟨2, ![256, 128]⟩
abbrev S1x1x128 : Shape := ⟨3, ![1, 1, 128]⟩
abbrev S1x128 : Shape := ⟨2, ![1, 128]⟩

abbrev nBuf : Space → Nat
  | .hbm => 19
  | .vmem => 15
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S8192x16, .f32⟩
  | .hbm, ⟨4, _⟩ => ⟨S16x512, .f32⟩
  | .hbm, ⟨5, _⟩ => ⟨S1x512, .f32⟩
  | .hbm, ⟨6, _⟩ => ⟨S8192x1024, .f32⟩
  | .hbm, ⟨7, _⟩ => ⟨S_, .f32⟩
  | .hbm, ⟨8, _⟩ => ⟨S8192x7168, .f32⟩
  | .hbm, ⟨9, _⟩ => ⟨S8192x9216, .f32⟩
  | .hbm, ⟨10, _⟩ => ⟨S8192x9216, .bf16⟩
  | .hbm, ⟨11, _⟩ => ⟨S_, .f32⟩
  | .hbm, ⟨12, _⟩ => ⟨S8192x112, .f32⟩
  | .hbm, ⟨13, _⟩ => ⟨S8192x128, .f32⟩
  | .hbm, ⟨14, _⟩ => ⟨S_, .f32⟩
  | .hbm, ⟨15, _⟩ => ⟨S112x512, .f32⟩
  | .hbm, ⟨16, _⟩ => ⟨S128x512, .f32⟩
  | .hbm, ⟨17, _⟩ => ⟨S8192x1024, .bf16⟩
  | .hbm, ⟨18, _⟩ => ⟨S4x128x256x128, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .bf16⟩
  | .local _ .vmem, ⟨5, _⟩ => ⟨S512x1024, .bf16⟩
  | .local _ .vmem, ⟨6, _⟩ => ⟨S512x128, .f32⟩
  | .local _ .vmem, ⟨7, _⟩ => ⟨S512x128, .f32⟩
  | .local _ .vmem, ⟨8, _⟩ => ⟨S128x512, .f32⟩
  | .local _ .vmem, ⟨9, _⟩ => ⟨S1x512, .f32⟩
  | .local _ .vmem, ⟨10, _⟩ => ⟨S512x1024, .bf16⟩
  | .local _ .vmem, ⟨11, _⟩ => ⟨S512x1024, .bf16⟩
  | .local _ .vmem, ⟨12, _⟩ => ⟨S4x8x256x128, .bf16⟩
  | .local _ .vmem, ⟨13, _⟩ => ⟨S4x8x256x128, .bf16⟩
  | .local _ .vmem, ⟨14, _⟩ => ⟨S4x256x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x8x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GlaFwdRefIdeal.lean ====
abbrev S8192x512 : Shape := ⟨2, ![8192, 512]⟩
abbrev S8192x1024 : Shape := ⟨2, ![8192, 1024]⟩
abbrev S8192x16 : Shape := ⟨2, ![8192, 16]⟩
abbrev S16x512 : Shape := ⟨2, ![16, 512]⟩
abbrev S1x512 : Shape := ⟨2, ![1, 512]⟩
abbrev S_ : Shape := ⟨0, ![]⟩
abbrev S128x64x4x128 : Shape := ⟨4, ![128, 64, 4, 128]⟩
abbrev S4x128x64x128 : Shape := ⟨4, ![4, 128, 64, 128]⟩
abbrev S128x64x4x256 : Shape := ⟨4, ![128, 64, 4, 256]⟩
abbrev S4x128x64x256 : Shape := ⟨4, ![4, 128, 64, 256]⟩
abbrev S64x64 : Shape := ⟨2, ![64, 64]⟩
abbrev S4x128x128x64 : Shape := ⟨4, ![4, 128, 128, 64]⟩
abbrev S4x128x1x128 : Shape := ⟨4, ![4, 128, 1, 128]⟩
abbrev S4x128x128 : Shape := ⟨3, ![4, 128, 128]⟩
abbrev S4x128x64x64 : Shape := ⟨4, ![4, 128, 64, 64]⟩
abbrev S4x128x256x128 : Shape := ⟨4, ![4, 128, 256, 128]⟩
abbrev S128 : Shape := ⟨1, ![128]⟩
abbrev S1x128x1 : Shape := ⟨3, ![1, 128, 1]⟩
abbrev S1x1x128 : Shape := ⟨3, ![1, 1, 128]⟩
abbrev S1x128x128 : Shape := ⟨3, ![1, 128, 128]⟩
abbrev S128x1x1 : Shape := ⟨3, ![128, 1, 1]⟩
abbrev S128x1x128 : Shape := ⟨3, ![128, 1, 128]⟩
abbrev S128x128x128 : Shape := ⟨3, ![128, 128, 128]⟩
abbrev S4x128x128x128 : Shape := ⟨4, ![4, 128, 128, 128]⟩
abbrev S1x128 : Shape := ⟨2, ![1, 128]⟩
abbrev S128x1 : Shape := ⟨2, ![128, 1]⟩
abbrev S128x128 : Shape := ⟨2, ![128, 128]⟩
abbrev S1x128x128x1 : Shape := ⟨4, ![1, 128, 128, 1]⟩

abbrev nBuf : Space → Nat
  | .hbm => 110
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S8192x16, .f32⟩
  | .hbm, ⟨4, _⟩ => ⟨S16x512, .f32⟩
  | .hbm, ⟨5, _⟩ => ⟨S1x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x512, .i1⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S_, .f32⟩
  | .hbm, ⟨26, _⟩ => ⟨S8192x512, .f32⟩
  | .hbm, ⟨27, _⟩ => ⟨S8192x512, .f32⟩
  | .hbm, ⟨28, _⟩ => ⟨S128x64x4x128, .f32⟩
  | .hbm, ⟨29, _⟩ => ⟨S4x128x64x128, .f32⟩
  | .hbm, ⟨30, _⟩ => ⟨S_, .f32⟩
  | .hbm, ⟨31, _⟩ => ⟨S4x128x64x128, .f32⟩
  | .hbm, ⟨32, _⟩ => ⟨S4x128x64x128, .f32⟩
  | .hbm, ⟨33, _⟩ => ⟨S128x64x4x128, .f32⟩
  | .hbm, ⟨34, _⟩ => ⟨S4x128x64x128, .f32⟩
  | .hbm, ⟨35, _⟩ => ⟨S128x64x4x256, .f32⟩
  | .hbm, ⟨36, _⟩ => ⟨S4x128x64x256, .f32⟩
  | .hbm, ⟨37, _⟩ => ⟨S_, .i1⟩
  | .hbm, ⟨38, _⟩ => ⟨S64x64, .i1⟩
  | .hbm, ⟨39, _⟩ => ⟨S64x64, .i32⟩
  | .hbm, ⟨40, _⟩ => ⟨S_, .i32⟩
  | .hbm, ⟨41, _⟩ => ⟨S64x64, .i32⟩
  | .hbm, ⟨42, _⟩ => ⟨S64x64, .i32⟩
  | .hbm, ⟨43, _⟩ => ⟨S64x64, .i32⟩
  | .hbm, ⟨44, _⟩ => ⟨S64x64, .i1⟩
  | .hbm, ⟨45, _⟩ => ⟨S_, .i1⟩
  | .hbm, ⟨46, _⟩ => ⟨S64x64, .i1⟩
  | .hbm, ⟨47, _⟩ => ⟨S64x64, .i1⟩
  | .hbm, ⟨48, _⟩ => ⟨S64x64, .f32⟩
  | .hbm, ⟨49, _⟩ => ⟨S128x64x4x128, .f32⟩
  | .hbm, ⟨50, _⟩ => ⟨S4x128x64x128, .f32⟩
  | .hbm, ⟨51, _⟩ => ⟨S4x128x128x64, .f32⟩
  | .hbm, ⟨52, _⟩ => ⟨S4x128x64x128, .f32⟩
  | .hbm, ⟨53, _⟩ => ⟨S4x128x1x128, .f32⟩
  | .hbm, ⟨54, _⟩ => ⟨S4x128x128, .f32⟩
  | .hbm, ⟨55, _⟩ => ⟨S4x128x64x128, .f32⟩
  | .hbm, ⟨56, _⟩ => ⟨S4x128x64x128, .f32⟩
  | .hbm, ⟨57, _⟩ => ⟨S4x128x64x128, .f32⟩
  | .hbm, ⟨58, _⟩ => ⟨S4x128x64x128, .f32⟩
  | .hbm, ⟨59, _⟩ => ⟨S4x128x64x128, .f32⟩
  | .hbm, ⟨60, _⟩ => ⟨S4x128x64x64, .f32⟩
  | .hbm, ⟨61, _⟩ => ⟨S_, .f32⟩
  | .hbm, ⟨62, _⟩ => ⟨S_, .f32⟩
  | .hbm, ⟨63, _⟩ => ⟨S4x128x64x64, .i1⟩
  | .hbm, ⟨64, _⟩ => ⟨S4x128x64x64, .f32⟩
  | .hbm, ⟨65, _⟩ => ⟨S4x128x64x64, .f32⟩
  | .hbm, ⟨66, _⟩ => ⟨S4x128x64x256, .f32⟩
  | .hbm, ⟨67, _⟩ => ⟨S4x128x1x128, .f32⟩
  | .hbm, ⟨68, _⟩ => ⟨S4x128x64x128, .f32⟩
  | .hbm, ⟨69, _⟩ => ⟨S4x128x64x128, .f32⟩
  | .hbm, ⟨70, _⟩ => ⟨S4x128x64x128, .f32⟩
  | .hbm, ⟨71, _⟩ => ⟨S4x128x64x128, .f32⟩
  | .hbm, ⟨72, _⟩ => ⟨S4x128x256x128, .f32⟩
  | .hbm, ⟨73, _⟩ => ⟨S128, .i32⟩
  | .hbm, ⟨74, _⟩ => ⟨S1x128x1, .i32⟩
  | .hbm, ⟨75, _⟩ => ⟨S1x1x128, .i32⟩
  | .hbm, ⟨76, _⟩ => ⟨S1x128x128, .i32⟩
  | .hbm, ⟨77, _⟩ => ⟨S1x128x128, .i32⟩
  | .hbm, ⟨78, _⟩ => ⟨S1x128x128, .i1⟩
  | .hbm, ⟨79, _⟩ => ⟨S1x1x128, .i32⟩
  | .hbm, ⟨80, _⟩ => ⟨S128x1x1, .i32⟩
  | .hbm, ⟨81, _⟩ => ⟨S128x1x128, .i32⟩
  | .hbm, ⟨82, _⟩ => ⟨S128x1x128, .i32⟩
  | .hbm, ⟨83, _⟩ => ⟨S128x1x128, .i1⟩
  | .hbm, ⟨84, _⟩ => ⟨S128x128x128, .i1⟩
  | .hbm, ⟨85, _⟩ => ⟨S128x128x128, .i1⟩
  | .hbm, ⟨86, _⟩ => ⟨S128x128x128, .i1⟩
  | .hbm, ⟨87, _⟩ => ⟨S128x128x128, .f32⟩
  | .hbm, ⟨88, _⟩ => ⟨S4x128x128x128, .f32⟩
  | .hbm, ⟨89, _⟩ => ⟨S4x128x128x128, .f32⟩
  | .hbm, ⟨90, _⟩ => ⟨S4x128x128x128, .f32⟩
  | .hbm, ⟨91, _⟩ => ⟨S1x128, .i32⟩
  | .hbm, ⟨92, _⟩ => ⟨S128x1, .i32⟩
  | .hbm, ⟨93, _⟩ => ⟨S128x128, .i32⟩
  | .hbm, ⟨94, _⟩ => ⟨S128x128, .i32⟩
  | .hbm, ⟨95, _⟩ => ⟨S128x128, .i1⟩
  | .hbm, ⟨96, _⟩ => ⟨S1x128x128x1, .i1⟩
  | .hbm, ⟨97, _⟩ => ⟨S_, .f32⟩
  | .hbm, ⟨98, _⟩ => ⟨S_, .f32⟩
  | .hbm, ⟨99, _⟩ => ⟨S4x128x128x128, .i1⟩
  | .hbm, ⟨100, _⟩ => ⟨S4x128x128x128, .f32⟩
  | .hbm, ⟨101, _⟩ => ⟨S4x128x128x128, .f32⟩
  | .hbm, ⟨102, _⟩ => ⟨S4x128x256x128, .f32⟩
  | .hbm, ⟨103, _⟩ => ⟨S4x128x256x128, .f32⟩
  | .hbm, ⟨104, _⟩ => ⟨S4x128x64x256, .f32⟩
  | .hbm, ⟨105, _⟩ => ⟨S4x128x64x256, .f32⟩
  | .hbm, ⟨106, _⟩ => ⟨S128x64x4x256, .f32⟩
  | .hbm, ⟨107, _⟩ => ⟨S8192x1024, .f32⟩
  | .hbm, ⟨108, _⟩ => ⟨S8192x1024, .bf16⟩
  | .hbm, ⟨109, _⟩ => ⟨S4x128x256x128, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v1 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c : Ref sig .tc := ⟨.hbm, 37, rfl⟩
abbrev main_v14 : Ref sig .tc := ⟨.hbm, 38, rfl⟩
abbrev main_call1_v0 : Ref sig .tc := ⟨.hbm, 39, rfl⟩
abbrev main_call1_c : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_c_0 : Ref sig .tc := ⟨.hbm, 45, rfl⟩
abbrev main_call1_v5 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_1 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_2 : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩

abbrev nD : Nat := 1
abbrev τ : Topo := Topo.v7x

variable {F : FTy → Type} [FloatOps F]
-- ==== Merge.lean ====
abbrev S1x8192x9248 : Shape := ⟨3, ![1, 8192, 9248]⟩
abbrev S1x8192x1024 : Shape := ⟨3, ![1, 8192, 1024]⟩
abbrev S1x256 : Shape := ⟨2, ![1, 256]⟩
abbrev S1x128 : Shape := ⟨2, ![1, 128]⟩
abbrev S1024x1024 : Shape := ⟨2, ![1024, 1024]⟩
abbrev S8192x9248 : Shape := ⟨2, ![8192, 9248]⟩
abbrev S8192x3072 : Shape := ⟨2, ![8192, 3072]⟩
abbrev S8192x4096 : Shape := ⟨2, ![8192, 4096]⟩
abbrev S8192x2048 : Shape := ⟨2, ![8192, 2048]⟩
abbrev S8192x9216 : Shape := ⟨2, ![8192, 9216]⟩
abbrev S8192x16 : Shape := ⟨2, ![8192, 16]⟩
abbrev S_ : Shape := ⟨0, ![]⟩
abbrev S8192x96 : Shape := ⟨2, ![8192, 96]⟩
abbrev S8192x128 : Shape := ⟨2, ![8192, 128]⟩
abbrev S8192x1024 : Shape := ⟨2, ![8192, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S256x128 : Shape := ⟨2, ![256, 128]⟩
abbrev S128 : Shape := ⟨1, ![128]⟩

abbrev nBuf : Space → Nat
  | .hbm => 33
  | .vmem => 33
  | .smem => 0
  | _ => 0

abbrev bufTy : (tb : Table) → Fin (tcTables nBuf tb) → BufTy
  | .hbm, ⟨0, _⟩ => ⟨S1x8192x9248, .f32⟩
  | .hbm, ⟨1, _⟩ => ⟨S1x8192x1024, .f32⟩
  | .hbm, ⟨2, _⟩ => ⟨S1x8192x1024, .f32⟩
  | .hbm, ⟨3, _⟩ => ⟨S1x256, .f32⟩
  | .hbm, ⟨4, _⟩ => ⟨S1x128, .f32⟩
  | .hbm, ⟨5, _⟩ => ⟨S1024x1024, .f32⟩
  | .hbm, ⟨6, _⟩ => ⟨S1x8192x1024, .f32⟩
  | .hbm, ⟨7, _⟩ => ⟨S8192x9248, .f32⟩
  | .hbm, ⟨8, _⟩ => ⟨S8192x3072, .f32⟩
  | .hbm, ⟨9, _⟩ => ⟨S8192x4096, .f32⟩
  | .hbm, ⟨10, _⟩ => ⟨S8192x2048, .f32⟩
  | .hbm, ⟨11, _⟩ => ⟨S8192x9216, .f32⟩
  | .hbm, ⟨12, _⟩ => ⟨S8192x16, .f32⟩
  | .hbm, ⟨13, _⟩ => ⟨S8192x16, .f32⟩
  | .hbm, ⟨14, _⟩ => ⟨S_, .f32⟩
  | .hbm, ⟨15, _⟩ => ⟨S8192x96, .f32⟩
  | .hbm, ⟨16, _⟩ => ⟨S8192x128, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x1024, .f32⟩
  | .hbm, ⟨21, _⟩ => ⟨S8192x1024, .bf16⟩
  | .hbm, ⟨22, _⟩ => ⟨S8192x9216, .bf16⟩
  | .hbm, ⟨23, _⟩ => ⟨S1024x1024, .bf16⟩
  | .hbm, ⟨24, _⟩ => ⟨S8192x1024, .bf16⟩
  | .hbm, ⟨25, _⟩ => ⟨S8192x1024, .bf16⟩
  | .hbm, ⟨26, _⟩ => ⟨S8192x1024, .bf16⟩
  | .hbm, ⟨27, _⟩ => ⟨S8192x1024, .bf16⟩
  | .hbm, ⟨28, _⟩ => ⟨S8192x1024, .bf16⟩
  | .hbm, ⟨29, _⟩ => ⟨S8192x1024, .bf16⟩
  | .hbm, ⟨30, _⟩ => ⟨S1x256, .f32⟩
  | .hbm, ⟨31, _⟩ => ⟨S1x128, .f32⟩
  | .hbm, ⟨32, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S1x256, .f32⟩
  | .local _ .vmem, ⟨15, _⟩ => ⟨S1x128, .f32⟩
  | .local _ .vmem, ⟨16, _⟩ => ⟨S1024x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S1x256, .f32⟩
  | .local _ .vmem, ⟨30, _⟩ => ⟨S1x128, .f32⟩
  | .local _ .vmem, ⟨31, _⟩ => ⟨S256x1024, .bf16⟩
  | .local _ .vmem, ⟨32, _⟩ => ⟨S256x1024, .bf16⟩
  | _, _ => ⟨S1x8192x9248, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev main_v16_3 : Ref sig .tc := ⟨.hbm, 27, rfl⟩
abbrev main_v16_4 : Ref sig .tc := ⟨.hbm, 28, rfl⟩
abbrev main_v16_5 : Ref sig .tc := ⟨.hbm, 29, rfl⟩
abbrev main_v16_6 : Ref sig .tc := ⟨.hbm, 30, rfl⟩
abbrev main_v16_7 : Ref sig .tc := ⟨.hbm, 31, rfl⟩
abbrev main_v16_8 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg18_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem17_0 : DmaSem sig := 30
abbrev cc0_sem18_0 : DmaSem sig := 31
abbrev cc0_sem18_1 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_6 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== MergeRefIdeal.lean ====
abbrev S1x8192x9248 : Shape := ⟨3, ![1, 8192, 9248]⟩
abbrev S1x8192x1024 : Shape := ⟨3, ![1, 8192, 1024]⟩
abbrev S1x256 : Shape := ⟨2, ![1, 256]⟩
abbrev S1x128 : Shape := ⟨2, ![1, 128]⟩
abbrev S1024x1024 : Shape := ⟨2, ![1024, 1024]⟩
abbrev S1x8192x512 : Shape := ⟨3, ![1, 8192, 512]⟩
abbrev S1x8192x16 : Shape := ⟨3, ![1, 8192, 16]⟩
abbrev S1x8192x8 : Shape := ⟨3, ![1, 8192, 8]⟩
abbrev S256 : Shape := ⟨1, ![256]⟩
abbrev S128 : Shape := ⟨1, ![128]⟩
abbrev S1x8192x4x256 : Shape := ⟨4, ![1, 8192, 4, 256]⟩
abbrev S_ : Shape := ⟨0, ![]⟩
abbrev S1x8192x4 : Shape := ⟨3, ![1, 8192, 4]⟩
abbrev S1x8192x4x1 : Shape := ⟨4, ![1, 8192, 4, 1]⟩
abbrev S1x1x1x256 : Shape := ⟨4, ![1, 1, 1, 256]⟩
abbrev S1x8192x8x128 : Shape := ⟨4, ![1, 8192, 8, 128]⟩
abbrev S1x8192x8x1 : Shape := ⟨4, ![1, 8192, 8, 1]⟩
abbrev S1x1x1x128 : Shape := ⟨4, ![1, 1, 1, 128]⟩
abbrev S8192x8 : Shape := ⟨2, ![8192, 8]⟩
abbrev S8192x4 : Shape := ⟨2, ![8192, 4]⟩
abbrev S8192x1024 : Shape := ⟨2, ![8192, 1024]⟩

abbrev nBuf : Space → Nat
  | .hbm => 213
  | .vmem => 0
  | .smem => 0
  | _ => 0

abbrev hbmTy0_0 (i : Nat) : BufTy := match i % 128 with
  | 0 => ⟨S1x8192x9248, .f32⟩
  | 1 => ⟨S1x8192x1024, .f32⟩
  | 2 => ⟨S1x8192x1024, .f32⟩
  | 3 => ⟨S1x256, .f32⟩
  | 4 => ⟨S1x128, .f32⟩
  | 5 => ⟨S1024x1024, .f32⟩
  | 6 => ⟨S1x8192x1024, .f32⟩
  | 7 => ⟨S1x8192x512, .f32⟩
  | 8 => ⟨S1x8192x512, .f32⟩
  | 9 => ⟨S1x8192x1024, .f32⟩
  | 10 => ⟨S1x8192x1024, .f32⟩
  | 11 => ⟨S1x8192x16, .f32⟩
  | 12 => ⟨S1x8192x1024, .f32⟩
  | 13 => ⟨S1x8192x1024, .f32⟩
  | 14 => ⟨S1x8192x1024, .f32⟩
  | 15 => ⟨S1x8192x1024, .f32⟩
  | 16 => ⟨S1x8192x8, .f32⟩
  | 17 => ⟨S1x8192x8, .f32⟩
  | 18 => ⟨S1x8192x1024, .f32⟩
  | 19 => ⟨S1x8192x1024, .f32⟩
  | 20 => ⟨S256, .f32⟩
  | 21 => ⟨S128, .f32⟩
  | 22 => ⟨S1x8192x4x256, .f32⟩
  | 23 => ⟨S1x8192x4x256, .f32⟩
  | 24 => ⟨S_, .f32⟩
  | 25 => ⟨S1x8192x4, .f32⟩
  | 26 => ⟨S1x8192x4x1, .f32⟩
  | 27 => ⟨S_, .f32⟩
  | 28 => ⟨S1x8192x4x1, .f32⟩
  | 29 => ⟨S1x8192x4x1, .f32⟩
  | 30 => ⟨S_, .f32⟩
  | 31 => ⟨S1x8192x4x1, .f32⟩
  | 32 => ⟨S1x8192x4x1, .f32⟩
  | 33 => ⟨S1x8192x4x1, .f32⟩
  | 34 => ⟨S1x8192x4x1, .f32⟩
  | 35 => ⟨S_, .f32⟩
  | 36 => ⟨S1x8192x4x1, .f32⟩
  | 37 => ⟨S1x8192x4x1, .f32⟩
  | 38 => ⟨S1x8192x4x256, .f32⟩
  | 39 => ⟨S1x8192x4x256, .f32⟩
  | 40 => ⟨S1x1x1x256, .f32⟩
  | 41 => ⟨S1x8192x4x256, .f32⟩
  | 42 => ⟨S1x8192x4x256, .f32⟩
  | 43 => ⟨S1x8192x1024, .f32⟩
  | 44 => ⟨S1x8192x1024, .f32⟩
  | 45 => ⟨S1x8192x1024, .f32⟩
  | 46 => ⟨S_, .f32⟩
  | 47 => ⟨S1x8192x1024, .f32⟩
  | 48 => ⟨S1x8192x1024, .f32⟩
  | 49 => ⟨S_, .f32⟩
  | 50 => ⟨S1x8192x1024, .f32⟩
  | 51 => ⟨S1x8192x1024, .f32⟩
  | 52 => ⟨S_, .f32⟩
  | 53 => ⟨S1x8192x1024, .f32⟩
  | 54 => ⟨S1x8192x1024, .f32⟩
  | 55 => ⟨S1x8192x1024, .f32⟩
  | 56 => ⟨S1x8192x1024, .f32⟩
  | 57 => ⟨S1x8192x1024, .f32⟩
  | 58 => ⟨S1x8192x8x128, .f32⟩
  | 59 => ⟨S1x8192x8x128, .f32⟩
  | 60 => ⟨S_, .f32⟩
  | 61 => ⟨S1x8192x8, .f32⟩
  | 62 => ⟨S1x8192x8x1, .f32⟩
  | 63 => ⟨S_, .f32⟩
  | 64 => ⟨S1x8192x8x1, .f32⟩
  | 65 => ⟨S1x8192x8x1, .f32⟩
  | 66 => ⟨S_, .f32⟩
  | 67 => ⟨S1x8192x8x1, .f32⟩
  | 68 => ⟨S1x8192x8x1, .f32⟩
  | 69 => ⟨S1x8192x8x1, .f32⟩
  | 70 => ⟨S1x8192x8x1, .f32⟩
  | 71 => ⟨S_, .f32⟩
  | 72 => ⟨S1x8192x8x1, .f32⟩
  | 73 => ⟨S1x8192x8x1, .f32⟩
  | 74 => ⟨S1x8192x8x128, .f32⟩
  | 75 => ⟨S1x8192x8x128, .f32⟩
  | 76 => ⟨S1x1x1x128, .f32⟩
  | 77 => ⟨S1x8192x8x128, .f32⟩
  | 78 => ⟨S1x8192x8x128, .f32⟩
  | 79 => ⟨S1x8192x1024, .f32⟩
  | 80 => ⟨S1x8192x1024, .f32⟩
  | 81 => ⟨S1x8192x1024, .f32⟩
  | 82 => ⟨S_, .f32⟩
  | 83 => ⟨S1x8192x1024, .f32⟩
  | 84 => ⟨S1x8192x1024, .f32⟩
  | 85 => ⟨S_, .f32⟩
  | 86 => ⟨S1x8192x1024, .f32⟩
  | 87 => ⟨S1x8192x1024, .f32⟩
  | 88 => ⟨S_, .f32⟩
  | 89 => ⟨S1x8192x1024, .f32⟩
  | 90 => ⟨S1x8192x1024, .f32⟩
  | 91 => ⟨S1x8192x1024, .f32⟩
  | 92 => ⟨S1x8192x1024, .f32⟩
  | 93 => ⟨S1x8192x1024, .f32⟩
  | 94 => ⟨S1x8192x1024, .f32⟩
  | 95 => ⟨S1x8192x1024, .f32⟩
  | 96 => ⟨S_, .f32⟩
  | 97 => ⟨S1x8192x1024, .f32⟩
  | 98 => ⟨S1x8192x1024, .f32⟩
  | 99 => ⟨S_, .f32⟩
  | 100 => ⟨S1x8192x1024, .f32⟩
  | 101 => ⟨S1x8192x1024, .f32⟩
  | 102 => ⟨S_, .f32⟩
  | 103 => ⟨S1x8192x1024, .f32⟩
  | 104 => ⟨S1x8192x1024, .f32⟩
  | 105 => ⟨S1x8192x1024, .f32⟩
  | 106 => ⟨S1x8192x1024, .f32⟩
  | 107 => ⟨S1x8192x1024, .f32⟩
  | 108 => ⟨S1x8192x1024, .f32⟩
  | 109 => ⟨S_, .f32⟩
  | 110 => ⟨S1x8192x1024, .f32⟩
  | 111 => ⟨S1x8192x1024, .f32⟩
  | 112 => ⟨S_, .f32⟩
  | 113 => ⟨S1x8192x1024, .f32⟩
  | 114 => ⟨S1x8192x1024, .f32⟩
  | 115 => ⟨S_, .f32⟩
  | 116 => ⟨S1x8192x1024, .f32⟩
  | 117 => ⟨S1x8192x1024, .f32⟩
  | 118 => ⟨S1x8192x1024, .f32⟩
  | 119 => ⟨S1x8192x1024, .f32⟩
  | 120 => ⟨S1x8192x1024, .f32⟩
  | 121 => ⟨S1x8192x1024, .f32⟩
  | 122 => ⟨S1x8192x1024, .f32⟩
  | 123 => ⟨S1x8192x1024, .f32⟩
  | 124 => ⟨S1x8192x1024, .f32⟩
  | 125 => ⟨S1x8192x1024, .f32⟩
  | 126 => ⟨S1x8192x1024, .f32⟩
  | 127 => ⟨S1x8192x1024, .f32⟩
  | _ => ⟨S1x8192x9248, .f32⟩

abbrev hbmTy0_1 (i : Nat) : BufTy := match i % 128 with
  | 0 => ⟨S1x8192x1024, .f32⟩
  | 1 => ⟨S1x8192x1024, .f32⟩
  | 2 => ⟨S1x8192x1024, .f32⟩
  | 3 => ⟨S1x8192x1024, .f32⟩
  | 4 => ⟨S1x8192x1024, .f32⟩
  | 5 => ⟨S1x8192x1024, .f32⟩
  | 6 => ⟨S1x8192x1024, .f32⟩
  | 7 => ⟨S1x8192x8x128, .f32⟩
  | 8 => ⟨S1x8192x8x128, .f32⟩
  | 9 => ⟨S_, .f32⟩
  | 10 => ⟨S1x128, .f32⟩
  | 11 => ⟨S1x1x1x128, .f32⟩
  | 12 => ⟨S1x8192x8x128, .f32⟩
  | 13 => ⟨S1x8192x8x128, .f32⟩
  | 14 => ⟨S_, .f32⟩
  | 15 => ⟨S128, .f32⟩
  | 16 => ⟨S1x8192x8x128, .f32⟩
  | 17 => ⟨S_, .f32⟩
  | 18 => ⟨S1x8192x8, .f32⟩
  | 19 => ⟨S1x8192x8x1, .f32⟩
  | 20 => ⟨S1x8192x8x128, .f32⟩
  | 21 => ⟨S1x8192x8x128, .f32⟩
  | 22 => ⟨S1x8192x8x1, .f32⟩
  | 23 => ⟨S_, .f32⟩
  | 24 => ⟨S1x8192x8x1, .f32⟩
  | 25 => ⟨S1x8192x8x1, .f32⟩
  | 26 => ⟨S_, .f32⟩
  | 27 => ⟨S8192x8, .f32⟩
  | 28 => ⟨S1x8192x8, .f32⟩
  | 29 => ⟨S1x8192x8x128, .f32⟩
  | 30 => ⟨S1x8192x8x128, .f32⟩
  | 31 => ⟨S1x8192x8x128, .f32⟩
  | 32 => ⟨S1x8192x8x128, .f32⟩
  | 33 => ⟨S1x8192x8x128, .f32⟩
  | 34 => ⟨S1x8192x1024, .f32⟩
  | 35 => ⟨S1x8192x1024, .f32⟩
  | 36 => ⟨S1x8192x1024, .f32⟩
  | 37 => ⟨S1x8192x1024, .f32⟩
  | 38 => ⟨S1x8192x1024, .f32⟩
  | 39 => ⟨S1x8192x1024, .f32⟩
  | 40 => ⟨S1x8192x1024, .f32⟩
  | 41 => ⟨S1x8192x4x256, .f32⟩
  | 42 => ⟨S1x8192x4x256, .f32⟩
  | 43 => ⟨S_, .f32⟩
  | 44 => ⟨S1x256, .f32⟩
  | 45 => ⟨S1x1x1x256, .f32⟩
  | 46 => ⟨S1x8192x4x256, .f32⟩
  | 47 => ⟨S1x8192x4x256, .f32⟩
  | 48 => ⟨S_, .f32⟩
  | 49 => ⟨S256, .f32⟩
  | 50 => ⟨S1x8192x4x256, .f32⟩
  | 51 => ⟨S_, .f32⟩
  | 52 => ⟨S1x8192x4, .f32⟩
  | 53 => ⟨S1x8192x4x1, .f32⟩
  | 54 => ⟨S1x8192x4x256, .f32⟩
  | 55 => ⟨S1x8192x4x256, .f32⟩
  | 56 => ⟨S1x8192x4x1, .f32⟩
  | 57 => ⟨S_, .f32⟩
  | 58 => ⟨S1x8192x4x1, .f32⟩
  | 59 => ⟨S1x8192x4x1, .f32⟩
  | 60 => ⟨S_, .f32⟩
  | 61 => ⟨S8192x4, .f32⟩
  | 62 => ⟨S1x8192x4, .f32⟩
  | 63 => ⟨S1x8192x4x256, .f32⟩
  | 64 => ⟨S1x8192x4x256, .f32⟩
  | 65 => ⟨S1x8192x4x256, .f32⟩
  | 66 => ⟨S1x8192x4x256, .f32⟩
  | 67 => ⟨S1x8192x4x256, .f32⟩
  | 68 => ⟨S1x8192x1024, .f32⟩
  | 69 => ⟨S8192x1024, .f32⟩
  | 70 => ⟨S8192x1024, .bf16⟩
  | 71 => ⟨S8192x1024, .f32⟩
  | 72 => ⟨S8192x1024, .bf16⟩
  | 73 => ⟨S8192x1024, .f32⟩
  | 74 => ⟨S8192x1024, .bf16⟩
  | 75 => ⟨S8192x1024, .f32⟩
  | 76 => ⟨S8192x1024, .bf16⟩
  | 77 => ⟨S8192x1024, .f32⟩
  | 78 => ⟨S8192x1024, .bf16⟩
  | 79 => ⟨S8192x1024, .f32⟩
  | 80 => ⟨S8192x1024, .bf16⟩
  | 81 => ⟨S1x256, .f32⟩
  | 82 => ⟨S1x128, .f32⟩
  | 83 => ⟨S8192x1024, .f32⟩
  | 84 => ⟨S8192x1024, .bf16⟩
  | _ => ⟨S1x8192x9248, .f32⟩

abbrev hbmTy (i : Nat) : BufTy := match i / 128 with
  | 0 => hbmTy0_0 i
  | 1 => hbmTy0_1 i
  | _ => ⟨S1x8192x9248, .f32⟩

abbrev bufTy : (tb : Table) → Fin (tcTables nBuf tb) → BufTy
  | .hbm, ⟨i, _⟩ => hbmTy i
  | _, _ => ⟨S1x8192x9248, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_v33_2 : Ref sig .tc := ⟨.hbm, 51, rfl⟩
abbrev main_call0_cst_1 : Ref sig .tc := ⟨.hbm, 52, rfl⟩
abbrev main_call0_v6 : Ref sig .tc := ⟨.hbm, 53, rfl⟩
abbrev main_call0_v7 : Ref sig .tc := ⟨.hbm, 54, rfl⟩
abbrev main_v33_1 : Ref sig .tc := ⟨.hbm, 55, rfl⟩
abbrev main_v33_0 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_3 : Ref sig .tc := ⟨.hbm, 60, rfl⟩
abbrev main_v37 : Ref sig .tc := ⟨.hbm, 61, rfl⟩
abbrev main_v38 : Ref sig .tc := ⟨.hbm, 62, rfl⟩
abbrev main_cst_4 : Ref sig .tc := ⟨.hbm, 63, rfl⟩
abbrev main_v39 : Ref sig .tc := ⟨.hbm, 64, rfl⟩
abbrev main_v40 : Ref sig .tc := ⟨.hbm, 65, rfl⟩
abbrev main_cst_5 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call1_v0 : Ref sig .tc := ⟨.hbm, 80, rfl⟩
abbrev main_call1_v1 : Ref sig .tc := ⟨.hbm, 81, rfl⟩
abbrev main_call1_cst : Ref sig .tc := ⟨.hbm, 82, rfl⟩
abbrev main_call1_v2 : Ref sig .tc := ⟨.hbm, 83, rfl⟩
abbrev main_call1_v3 : Ref sig .tc := ⟨.hbm, 84, rfl⟩
abbrev main_call1_cst_0 : Ref sig .tc := ⟨.hbm, 85, rfl⟩
abbrev main_call1_v4 : Ref sig .tc := ⟨.hbm, 86, rfl⟩
abbrev main_v53_2 : Ref sig .tc := ⟨.hbm, 87, rfl⟩
abbrev main_call1_cst_1 : Ref sig .tc := ⟨.hbm, 88, rfl⟩
abbrev main_call1_v6 : Ref sig .tc := ⟨.hbm, 89, rfl⟩
abbrev main_call1_v7 : Ref sig .tc := ⟨.hbm, 90, rfl⟩
abbrev main_v53_1 : Ref sig .tc := ⟨.hbm, 91, rfl⟩
abbrev main_v53_0 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_7 : Ref sig .tc := ⟨.hbm, 96, rfl⟩
abbrev main_v57 : Ref sig .tc := ⟨.hbm, 97, rfl⟩
abbrev main_v58 : Ref sig .tc := ⟨.hbm, 98, rfl⟩
abbrev main_cst_8 : Ref sig .tc := ⟨.hbm, 99, rfl⟩
abbrev main_v59 : Ref sig .tc := ⟨.hbm, 100, rfl⟩
abbrev main_v60 : Ref sig .tc := ⟨.hbm, 101, rfl⟩
abbrev main_cst_9 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_10 : Ref sig .tc := ⟨.hbm, 109, rfl⟩
abbrev main_v67 : Ref sig .tc := ⟨.hbm, 110, rfl⟩
abbrev main_v68 : Ref sig .tc := ⟨.hbm, 111, rfl⟩
abbrev main_cst_11 : Ref sig .tc := ⟨.hbm, 112, rfl⟩
abbrev main_v69 : Ref sig .tc := ⟨.hbm, 113, rfl⟩
abbrev main_v70 : Ref sig .tc := ⟨.hbm, 114, rfl⟩
abbrev main_cst_12 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_call2_v0 : Ref sig .tc := ⟨.hbm, 131, rfl⟩
abbrev main_call2_v1 : Ref sig .tc := ⟨.hbm, 132, rfl⟩
abbrev main_call2_v2 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_cst_13 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_cst_14 : Ref sig .tc := ⟨.hbm, 142, rfl⟩
abbrev main_v93 : Ref sig .tc := ⟨.hbm, 143, rfl⟩
abbrev main_v94 : Ref sig .tc := ⟨.hbm, 144, rfl⟩
abbrev main_cst_15 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_cst_16 : Ref sig .tc := ⟨.hbm, 151, rfl⟩
abbrev main_v100 : Ref sig .tc := ⟨.hbm, 152, rfl⟩
abbrev main_v101 : Ref sig .tc := ⟨.hbm, 153, rfl⟩
abbrev main_cst_17 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_call3_v0 : Ref sig .tc := ⟨.hbm, 165, rfl⟩
abbrev main_call3_v1 : Ref sig .tc := ⟨.hbm, 166, rfl⟩
abbrev main_call3_v2 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_cst_18 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_cst_19 : Ref sig .tc := ⟨.hbm, 176, rfl⟩
abbrev main_v119 : Ref sig .tc := ⟨.hbm, 177, rfl⟩
abbrev main_v120 : Ref sig .tc := ⟨.hbm, 178, rfl⟩
abbrev main_cst_20 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_cst_21 : Ref sig .tc := ⟨.hbm, 185, rfl⟩
abbrev main_v126 : Ref sig .tc := ⟨.hbm, 186, rfl⟩
abbrev main_v127 : Ref sig .tc := ⟨.hbm, 187, rfl⟩
abbrev main_cst_22 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩

abbrev nD : Nat := 1
abbrev τ : Topo := Topo.v7x

variable {F : FTy → Type} [FloatOps F]
-- ==== MergeFwd.lean ====
abbrev S1x8192x1024 : Shape := ⟨3, ![1, 8192, 1024]⟩
abbrev S1x8192x9248 : Shape := ⟨3, ![1, 8192, 9248]⟩
abbrev S1x256 : Shape := ⟨2, ![1, 256]⟩
abbrev S1x128 : Shape := ⟨2, ![1, 128]⟩
abbrev S1024x1024 : Shape := ⟨2, ![1024, 1024]⟩
abbrev S8192x9248 : Shape := ⟨2, ![8192, 9248]⟩
abbrev S8192x3072 : Shape := ⟨2, ![8192, 3072]⟩
abbrev S8192x4096 : Shape := ⟨2, ![8192, 4096]⟩
abbrev S8192x2048 : Shape := ⟨2, ![8192, 2048]⟩
abbrev S8192x9216 : Shape := ⟨2, ![8192, 9216]⟩
abbrev S8192x16 : Shape := ⟨2, ![8192, 16]⟩
abbrev S_ : Shape := ⟨0, ![]⟩
abbrev S8192x96 : Shape := ⟨2, ![8192, 96]⟩
abbrev S8192x128 : Shape := ⟨2, ![8192, 128]⟩
abbrev S8192x1024 : Shape := ⟨2, ![8192, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S256x128 : Shape := ⟨2, ![256, 128]⟩

abbrev nBuf : Space → Nat
  | .hbm => 26
  | .vmem => 21
  | .smem => 0
  | _ => 0

abbrev bufTy : (tb : Table) → Fin (tcTables nBuf tb) → BufTy
  | .hbm, ⟨0, _⟩ => ⟨S1x8192x1024, .f32⟩
  | .hbm, ⟨1, _⟩ => ⟨S1x8192x9248, .f32⟩
  | .hbm, ⟨2, _⟩ => ⟨S1x8192x1024, .f32⟩
  | .hbm, ⟨3, _⟩ => ⟨S1x8192x1024, .f32⟩
  | .hbm, ⟨4, _⟩ => ⟨S1x256, .f32⟩
  | .hbm, ⟨5, _⟩ => ⟨S1x128, .f32⟩
  | .hbm, ⟨6, _⟩ => ⟨S1024x1024, .f32⟩
  | .hbm, ⟨7, _⟩ => ⟨S8192x9248, .f32⟩
  | .hbm, ⟨8, _⟩ => ⟨S8192x3072, .f32⟩
  | .hbm, ⟨9, _⟩ => ⟨S8192x4096, .f32⟩
  | .hbm, ⟨10, _⟩ => ⟨S8192x2048, .f32⟩
  | .hbm, ⟨11, _⟩ => ⟨S8192x9216, .f32⟩
  | .hbm, ⟨12, _⟩ => ⟨S8192x16, .f32⟩
  | .hbm, ⟨13, _⟩ => ⟨S8192x16, .f32⟩
  | .hbm, ⟨14, _⟩ => ⟨S_, .f32⟩
  | .hbm, ⟨15, _⟩ => ⟨S8192x96, .f32⟩
  | .hbm, ⟨16, _⟩ => ⟨S8192x128, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x1024, .f32⟩
  | .hbm, ⟨21, _⟩ => ⟨S8192x1024, .bf16⟩
  | .hbm, ⟨22, _⟩ => ⟨S8192x9216, .bf16⟩
  | .hbm, ⟨23, _⟩ => ⟨S1024x1024, .bf16⟩
  | .hbm, ⟨24, _⟩ => ⟨S8192x1024, .f32⟩
  | .hbm, ⟨25, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S1x256, .f32⟩
  | .local _ .vmem, ⟨15, _⟩ => ⟨S1x128, .f32⟩
  | .local _ .vmem, ⟨16, _⟩ => ⟨S1024x1024, .bf16⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_6 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeFwdRefIdeal.lean ====
abbrev S1x8192x1024 : Shape := ⟨3, ![1, 8192, 1024]⟩
abbrev S1x8192x9248 : Shape := ⟨3, ![1, 8192, 9248]⟩
abbrev S1x256 : Shape := ⟨2, ![1, 256]⟩
abbrev S1x128 : Shape := ⟨2, ![1, 128]⟩
abbrev S1024x1024 : Shape := ⟨2, ![1024, 1024]⟩
abbrev S1x8192x512 : Shape := ⟨3, ![1, 8192, 512]⟩
abbrev S1x8192x16 : Shape := ⟨3, ![1, 8192, 16]⟩
abbrev S1x8192x8 : Shape := ⟨3, ![1, 8192, 8]⟩
abbrev S256 : Shape := ⟨1, ![256]⟩
abbrev S1x8192x4x256 : Shape := ⟨4, ![1, 8192, 4, 256]⟩
abbrev S_ : Shape := ⟨0, ![]⟩
abbrev S1x8192x4 : Shape := ⟨3, ![1, 8192, 4]⟩
abbrev S1x8192x4x1 : Shape := ⟨4, ![1, 8192, 4, 1]⟩
abbrev S1x1x1x256 : Shape := ⟨4, ![1, 1, 1, 256]⟩
abbrev S128 : Shape := ⟨1, ![128]⟩
abbrev S1x8192x8x128 : Shape := ⟨4, ![1, 8192, 8, 128]⟩
abbrev S1x8192x8x1 : Shape := ⟨4, ![1, 8192, 8, 1]⟩
abbrev S1x1x1x128 : Shape := ⟨4, ![1, 1, 1, 128]⟩
abbrev S8192x1024 : Shape := ⟨2, ![8192, 1024]⟩

abbrev nBuf : Space → Nat
  | .hbm => 102
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x9248, .f32⟩
  | .hbm, ⟨2, _⟩ => ⟨S1x8192x1024, .f32⟩
  | .hbm, ⟨3, _⟩ => ⟨S1x8192x1024, .f32⟩
  | .hbm, ⟨4, _⟩ => ⟨S1x256, .f32⟩
  | .hbm, ⟨5, _⟩ => ⟨S1x128, .f32⟩
  | .hbm, ⟨6, _⟩ => ⟨S1024x1024, .f32⟩
  | .hbm, ⟨7, _⟩ => ⟨S1x8192x512, .f32⟩
  | .hbm, ⟨8, _⟩ => ⟨S1x8192x512, .f32⟩
  | .hbm, ⟨9, _⟩ => ⟨S1x8192x1024, .f32⟩
  | .hbm, ⟨10, _⟩ => ⟨S1x8192x1024, .f32⟩
  | .hbm, ⟨11, _⟩ => ⟨S1x8192x16, .f32⟩
  | .hbm, ⟨12, _⟩ => ⟨S1x8192x1024, .f32⟩
  | .hbm, ⟨13, _⟩ => ⟨S1x8192x1024, .f32⟩
  | .hbm, ⟨14, _⟩ => ⟨S1x8192x1024, .f32⟩
  | .hbm, ⟨15, _⟩ => ⟨S1x8192x1024, .f32⟩
  | .hbm, ⟨16, _⟩ => ⟨S1x8192x8, .f32⟩
  | .hbm, ⟨17, _⟩ => ⟨S1x8192x8, .f32⟩
  | .hbm, ⟨18, _⟩ => ⟨S1x8192x1024, .f32⟩
  | .hbm, ⟨19, _⟩ => ⟨S1x8192x1024, .f32⟩
  | .hbm, ⟨20, _⟩ => ⟨S256, .f32⟩
  | .hbm, ⟨21, _⟩ => ⟨S1x8192x4x256, .f32⟩
  | .hbm, ⟨22, _⟩ => ⟨S1x8192x4x256, .f32⟩
  | .hbm, ⟨23, _⟩ => ⟨S_, .f32⟩
  | .hbm, ⟨24, _⟩ => ⟨S1x8192x4, .f32⟩
  | .hbm, ⟨25, _⟩ => ⟨S1x8192x4x1, .f32⟩
  | .hbm, ⟨26, _⟩ => ⟨S_, .f32⟩
  | .hbm, ⟨27, _⟩ => ⟨S1x8192x4x1, .f32⟩
  | .hbm, ⟨28, _⟩ => ⟨S1x8192x4x1, .f32⟩
  | .hbm, ⟨29, _⟩ => ⟨S_, .f32⟩
  | .hbm, ⟨30, _⟩ => ⟨S1x8192x4x1, .f32⟩
  | .hbm, ⟨31, _⟩ => ⟨S1x8192x4x1, .f32⟩
  | .hbm, ⟨32, _⟩ => ⟨S1x8192x4x1, .f32⟩
  | .hbm, ⟨33, _⟩ => ⟨S1x8192x4x256, .f32⟩
  | .hbm, ⟨34, _⟩ => ⟨S1x8192x4x256, .f32⟩
  | .hbm, ⟨35, _⟩ => ⟨S1x1x1x256, .f32⟩
  | .hbm, ⟨36, _⟩ => ⟨S1x8192x4x256, .f32⟩
  | .hbm, ⟨37, _⟩ => ⟨S1x8192x4x256, .f32⟩
  | .hbm, ⟨38, _⟩ => ⟨S1x8192x1024, .f32⟩
  | .hbm, ⟨39, _⟩ => ⟨S1x8192x1024, .f32⟩
  | .hbm, ⟨40, _⟩ => ⟨S1x8192x1024, .f32⟩
  | .hbm, ⟨41, _⟩ => ⟨S_, .f32⟩
  | .hbm, ⟨42, _⟩ => ⟨S1x8192x1024, .f32⟩
  | .hbm, ⟨43, _⟩ => ⟨S1x8192x1024, .f32⟩
  | .hbm, ⟨44, _⟩ => ⟨S_, .f32⟩
  | .hbm, ⟨45, _⟩ => ⟨S1x8192x1024, .f32⟩
  | .hbm, ⟨46, _⟩ => ⟨S1x8192x1024, .f32⟩
  | .hbm, ⟨47, _⟩ => ⟨S1x8192x1024, .f32⟩
  | .hbm, ⟨48, _⟩ => ⟨S1x8192x1024, .f32⟩
  | .hbm, ⟨49, _⟩ => ⟨S128, .f32⟩
  | .hbm, ⟨50, _⟩ => ⟨S1x8192x8x128, .f32⟩
  | .hbm, ⟨51, _⟩ => ⟨S1x8192x8x128, .f32⟩
  | .hbm, ⟨52, _⟩ => ⟨S_, .f32⟩
  | .hbm, ⟨53, _⟩ => ⟨S1x8192x8, .f32⟩
  | .hbm, ⟨54, _⟩ => ⟨S1x8192x8x1, .f32⟩
  | .hbm, ⟨55, _⟩ => ⟨S_, .f32⟩
  | .hbm, ⟨56, _⟩ => ⟨S1x8192x8x1, .f32⟩
  | .hbm, ⟨57, _⟩ => ⟨S1x8192x8x1, .f32⟩
  | .hbm, ⟨58, _⟩ => ⟨S_, .f32⟩
  | .hbm, ⟨59, _⟩ => ⟨S1x8192x8x1, .f32⟩
  | .hbm, ⟨60, _⟩ => ⟨S1x8192x8x1, .f32⟩
  | .hbm, ⟨61, _⟩ => ⟨S1x8192x8x1, .f32⟩
  | .hbm, ⟨62, _⟩ => ⟨S1x8192x8x128, .f32⟩
  | .hbm, ⟨63, _⟩ => ⟨S1x8192x8x128, .f32⟩
  | .hbm, ⟨64, _⟩ => ⟨S1x1x1x128, .f32⟩
  | .hbm, ⟨65, _⟩ => ⟨S1x8192x8x128, .f32⟩
  | .hbm, ⟨66, _⟩ => ⟨S1x8192x8x128, .f32⟩
  | .hbm, ⟨67, _⟩ => ⟨S1x8192x1024, .f32⟩
  | .hbm, ⟨68, _⟩ => ⟨S1x8192x1024, .f32⟩
  | .hbm, ⟨69, _⟩ => ⟨S1x8192x1024, .f32⟩
  | .hbm, ⟨70, _⟩ => ⟨S_, .f32⟩
  | .hbm, ⟨71, _⟩ => ⟨S1x8192x1024, .f32⟩
  | .hbm, ⟨72, _⟩ => ⟨S1x8192x1024, .f32⟩
  | .hbm, ⟨73, _⟩ => ⟨S_, .f32⟩
  | .hbm, ⟨74, _⟩ => ⟨S1x8192x1024, .f32⟩
  | .hbm, ⟨75, _⟩ => ⟨S1x8192x1024, .f32⟩
  | .hbm, ⟨76, _⟩ => ⟨S1x8192x1024, .f32⟩
  | .hbm, ⟨77, _⟩ => ⟨S1x8192x1024, .f32⟩
  | .hbm, ⟨78, _⟩ => ⟨S1x8192x1024, .f32⟩
  | .hbm, ⟨79, _⟩ => ⟨S1x8192x1024, .f32⟩
  | .hbm, ⟨80, _⟩ => ⟨S_, .f32⟩
  | .hbm, ⟨81, _⟩ => ⟨S1x8192x1024, .f32⟩
  | .hbm, ⟨82, _⟩ => ⟨S1x8192x1024, .f32⟩
  | .hbm, ⟨83, _⟩ => ⟨S_, .f32⟩
  | .hbm, ⟨84, _⟩ => ⟨S1x8192x1024, .f32⟩
  | .hbm, ⟨85, _⟩ => ⟨S1x8192x1024, .f32⟩
  | .hbm, ⟨86, _⟩ => ⟨S1x8192x1024, .f32⟩
  | .hbm, ⟨87, _⟩ => ⟨S1x8192x1024, .f32⟩
  | .hbm, ⟨88, _⟩ => ⟨S1x8192x1024, .f32⟩
  | .hbm, ⟨89, _⟩ => ⟨S_, .f32⟩
  | .hbm, ⟨90, _⟩ => ⟨S1x8192x1024, .f32⟩
  | .hbm, ⟨91, _⟩ => ⟨S1x8192x1024, .f32⟩
  | .hbm, ⟨92, _⟩ => ⟨S_, .f32⟩
  | .hbm, ⟨93, _⟩ => ⟨S1x8192x1024, .f32⟩
  | .hbm, ⟨94, _⟩ => ⟨S1x8192x1024, .f32⟩
  | .hbm, ⟨95, _⟩ => ⟨S1x8192x1024, .f32⟩
  | .hbm, ⟨96, _⟩ => ⟨S1x8192x1024, .f32⟩
  | .hbm, ⟨97, _⟩ => ⟨S1x8192x1024, .f32⟩
  | .hbm, ⟨98, _⟩ => ⟨S1x8192x1024, .f32⟩
  | .hbm, ⟨99, _⟩ => ⟨S8192x1024, .f32⟩
  | .hbm, ⟨100, _⟩ => ⟨S8192x1024, .f32⟩
  | .hbm, ⟨101, _⟩ => ⟨S8192x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_2 : Ref sig .tc := ⟨.hbm, 52, rfl⟩
abbrev main_v34 : Ref sig .tc := ⟨.hbm, 53, rfl⟩
abbrev main_v35 : Ref sig .tc := ⟨.hbm, 54, rfl⟩
abbrev main_cst_3 : Ref sig .tc := ⟨.hbm, 55, rfl⟩
abbrev main_v36 : Ref sig .tc := ⟨.hbm, 56, rfl⟩
abbrev main_v37 : Ref sig .tc := ⟨.hbm, 57, rfl⟩
abbrev main_cst_4 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_call1_v5 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_5 : Ref sig .tc := ⟨.hbm, 80, rfl⟩
abbrev main_v51 : Ref sig .tc := ⟨.hbm, 81, rfl⟩
abbrev main_v52 : Ref sig .tc := ⟨.hbm, 82, rfl⟩
abbrev main_cst_6 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_7 : Ref sig .tc := ⟨.hbm, 89, rfl⟩
abbrev main_v58 : Ref sig .tc := ⟨.hbm, 90, rfl⟩
abbrev main_v59 : Ref sig .tc := ⟨.hbm, 91, rfl⟩
abbrev main_cst_8 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩

abbrev nD : Nat := 1
abbrev τ : Topo := Topo.v7x

variable {F : FTy → Type} [FloatOps F]
-- ==== ConvFwd.lean ====
abbrev S1x8192x9248 : Shape := ⟨3, ![1, 8192, 9248]⟩
abbrev S4x3072 : Shape := ⟨2, ![4, 3072]⟩
abbrev S8192x9248 : Shape := ⟨2, ![8192, 9248]⟩
abbrev S8192x3072 : Shape := ⟨2, ![8192, 3072]⟩
abbrev S8192x4096 : Shape := ⟨2, ![8192, 4096]⟩
abbrev S8192x2048 : Shape := ⟨2, ![8192, 2048]⟩
abbrev S8192x9216 : Shape := ⟨2, ![8192, 9216]⟩
abbrev S8192x16 : Shape := ⟨2, ![8192, 16]⟩
abbrev S_ : Shape := ⟨0, ![]⟩
abbrev S8192x96 : Shape := ⟨2, ![8192, 96]⟩
abbrev S8192x128 : Shape := ⟨2, ![8192, 128]⟩
abbrev S8x3072 : Shape := ⟨2, ![8, 3072]⟩
abbrev S1 : Shape := ⟨1, ![1]⟩
abbrev S256x3072 : Shape := ⟨2, ![256, 3072]⟩
abbrev S1x3072 : Shape := ⟨2, ![1, 3072]⟩
abbrev S248x3072 : Shape := ⟨2, ![248, 3072]⟩

abbrev nBuf : Space → Nat
  | .hbm => 19
  | .vmem => 6
  | .smem => 0
  | _ => 0

abbrev bufTy : (tb : Table) → Fin (tcTables nBuf tb) → BufTy
  | .hbm, ⟨0, _⟩ => ⟨S1x8192x9248, .f32⟩
  | .hbm, ⟨1, _⟩ => ⟨S4x3072, .f32⟩
  | .hbm, ⟨2, _⟩ => ⟨S8192x9248, .f32⟩
  | .hbm, ⟨3, _⟩ => ⟨S8192x3072, .f32⟩
  | .hbm, ⟨4, _⟩ => ⟨S8192x4096, .f32⟩
  | .hbm, ⟨5, _⟩ => ⟨S8192x2048, .f32⟩
  | .hbm, ⟨6, _⟩ => ⟨S8192x9216, .f32⟩
  | .hbm, ⟨7, _⟩ => ⟨S8192x16, .f32⟩
  | .hbm, ⟨8, _⟩ => ⟨S8192x16, .f32⟩
  | .hbm, ⟨9, _⟩ => ⟨S_, .f32⟩
  | .hbm, ⟨10, _⟩ => ⟨S8192x96, .f32⟩
  | .hbm, ⟨11, _⟩ => ⟨S8192x128, .f32⟩
  | .hbm, ⟨12, _⟩ => ⟨S_, .f32⟩
  | .hbm, ⟨13, _⟩ => ⟨S8x3072, .f32⟩
  | .hbm, ⟨14, _⟩ => ⟨S_, .i32⟩
  | .hbm, ⟨15, _⟩ => ⟨S1, .i32⟩
  | .hbm, ⟨16, _⟩ => ⟨S8x3072, .f32⟩
  | .hbm, ⟨17, _⟩ => ⟨S8192x9216, .bf16⟩
  | .hbm, ⟨18, _⟩ => ⟨S8192x3072, .bf16⟩
  | .local _ .vmem, ⟨0, _⟩ => ⟨S256x3072, .bf16⟩
  | .local _ .vmem, ⟨1, _⟩ => ⟨S256x3072, .bf16⟩
  | .local _ .vmem, ⟨2, _⟩ => ⟨S8x3072, .f32⟩
  | .local _ .vmem, ⟨3, _⟩ => ⟨S256x3072, .bf16⟩
  | .local _ .vmem, ⟨4, _⟩ => ⟨S256x3072, .bf16⟩
  | .local _ .vmem, ⟨5, _⟩ => ⟨S8x3072, .f32⟩
  | _, _ => ⟨S1x8192x9248, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ConvFwdRefIdeal.lean ====
abbrev S1x8192x9248 : Shape := ⟨3, ![1, 8192, 9248]⟩
abbrev S4x3072 : Shape := ⟨2, ![4, 3072]⟩
abbrev S1x8192x512 : Shape := ⟨3, ![1, 8192, 512]⟩
abbrev S1x8192x1024 : Shape := ⟨3, ![1, 8192, 1024]⟩
abbrev S1x8192x16 : Shape := ⟨3, ![1, 8192, 16]⟩
abbrev S1x8192x8 : Shape := ⟨3, ![1, 8192, 8]⟩
abbrev S1x8192x3072 : Shape := ⟨3, ![1, 8192, 3072]⟩
abbrev S_ : Shape := ⟨0, ![]⟩
abbrev S1x3x3072 : Shape := ⟨3, ![1, 3, 3072]⟩
abbrev S1x8195x3072 : Shape := ⟨3, ![1, 8195, 3072]⟩
abbrev S1x3072 : Shape := ⟨2, ![1, 3072]⟩
abbrev S1x1x3072 : Shape := ⟨3, ![1, 1, 3072]⟩
abbrev S8192x3072 : Shape := ⟨2, ![8192, 3072]⟩

abbrev nBuf : Space → Nat
  | .hbm => 47
  | .vmem => 0
  | .smem => 0
  | _ => 0

abbrev bufTy : (tb : Table) → Fin (tcTables nBuf tb) → BufTy
  | .hbm, ⟨0, _⟩ => ⟨S1x8192x9248, .f32⟩
  | .hbm, ⟨1, _⟩ => ⟨S4x3072, .f32⟩
  | .hbm, ⟨2, _⟩ => ⟨S1x8192x512, .f32⟩
  | .hbm, ⟨3, _⟩ => ⟨S1x8192x512, .f32⟩
  | .hbm, ⟨4, _⟩ => ⟨S1x8192x1024, .f32⟩
  | .hbm, ⟨5, _⟩ => ⟨S1x8192x1024, .f32⟩
  | .hbm, ⟨6, _⟩ => ⟨S1x8192x16, .f32⟩
  | .hbm, ⟨7, _⟩ => ⟨S1x8192x1024, .f32⟩
  | .hbm, ⟨8, _⟩ => ⟨S1x8192x1024, .f32⟩
  | .hbm, ⟨9, _⟩ => ⟨S1x8192x1024, .f32⟩
  | .hbm, ⟨10, _⟩ => ⟨S1x8192x1024, .f32⟩
  | .hbm, ⟨11, _⟩ => ⟨S1x8192x8, .f32⟩
  | .hbm, ⟨12, _⟩ => ⟨S1x8192x8, .f32⟩
  | .hbm, ⟨13, _⟩ => ⟨S1x8192x1024, .f32⟩
  | .hbm, ⟨14, _⟩ => ⟨S1x8192x1024, .f32⟩
  | .hbm, ⟨15, _⟩ => ⟨S1x8192x3072, .f32⟩
  | .hbm, ⟨16, _⟩ => ⟨S_, .f32⟩
  | .hbm, ⟨17, _⟩ => ⟨S1x3x3072, .f32⟩
  | .hbm, ⟨18, _⟩ => ⟨S1x8195x3072, .f32⟩
  | .hbm, ⟨19, _⟩ => ⟨S1x8192x3072, .f32⟩
  | .hbm, ⟨20, _⟩ => ⟨S1x3072, .f32⟩
  | .hbm, ⟨21, _⟩ => ⟨S1x1x3072, .f32⟩
  | .hbm, ⟨22, _⟩ => ⟨S1x8192x3072, .f32⟩
  | .hbm, ⟨23, _⟩ => ⟨S1x8192x3072, .f32⟩
  | .hbm, ⟨24, _⟩ => ⟨S_, .f32⟩
  | .hbm, ⟨25, _⟩ => ⟨S1x8192x3072, .f32⟩
  | .hbm, ⟨26, _⟩ => ⟨S1x8192x3072, .f32⟩
  | .hbm, ⟨27, _⟩ => ⟨S1x8192x3072, .f32⟩
  | .hbm, ⟨28, _⟩ => ⟨S1x3072, .f32⟩
  | .hbm, ⟨29, _⟩ => ⟨S1x1x3072, .f32⟩
  | .hbm, ⟨30, _⟩ => ⟨S1x8192x3072, .f32⟩
  | .hbm, ⟨31, _⟩ => ⟨S1x8192x3072, .f32⟩
  | .hbm, ⟨32, _⟩ => ⟨S1x8192x3072, .f32⟩
  | .hbm, ⟨33, _⟩ => ⟨S1x8192x3072, .f32⟩
  | .hbm, ⟨34, _⟩ => ⟨S1x3072, .f32⟩
  | .hbm, ⟨35, _⟩ => ⟨S1x1x3072, .f32⟩
  | .hbm, ⟨36, _⟩ => ⟨S1x8192x3072, .f32⟩
  | .hbm, ⟨37, _⟩ => ⟨S1x8192x3072, .f32⟩
  | .hbm, ⟨38, _⟩ => ⟨S1x8192x3072, .f32⟩
  | .hbm, ⟨39, _⟩ => ⟨S1x8192x3072, .f32⟩
  | .hbm, ⟨40, _⟩ => ⟨S1x3072, .f32⟩
  | .hbm, ⟨41, _⟩ => ⟨S1x1x3072, .f32⟩
  | .hbm, ⟨42, _⟩ => ⟨S1x8192x3072, .f32⟩
  | .hbm, ⟨43, _⟩ => ⟨S1x8192x3072, .f32⟩
  | .hbm, ⟨44, _⟩ => ⟨S1x8192x3072, .f32⟩
  | .hbm, ⟨45, _⟩ => ⟨S8192x3072, .f32⟩
  | .hbm, ⟨46, _⟩ => ⟨S8192x3072, .bf16⟩
  | _, _ => ⟨S1x8192x9248, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst_0 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩

abbrev nD : Nat := 1
abbrev τ : Topo := Topo.v7x

variable {F : FTy → Type} [FloatOps F]
-- ==== GdnBwd.lean ====
abbrev S8192x3072 : Shape := ⟨2, ![8192, 3072]⟩
abbrev S8192x128 : Shape := ⟨2, ![8192, 128]⟩
abbrev S8x8x128 : Shape := ⟨3, ![8, 8, 128]⟩
abbrev S8x128x128x128 : Shape := ⟨4, ![8, 128, 128, 128]⟩
abbrev S8192x1024 : Shape := ⟨2, ![8192, 1024]⟩
abbrev S8x128x64x64 : Shape := ⟨4, ![8, 128, 64, 64]⟩
abbrev S8x128x64x128 : Shape := ⟨4, ![8, 128, 64, 128]⟩
abbrev S1x8192x128 : Shape := ⟨3, ![1, 8192, 128]⟩
abbrev S256x1024 : Shape := ⟨2, ![256, 1024]⟩
abbrev S256x128 : Shape := ⟨2, ![256, 128]⟩
abbrev S8x4x128x128 : Shape := ⟨4, ![8, 4, 128, 128]⟩
abbrev S8x4x64x64 : Shape := ⟨4, ![8, 4, 64, 64]⟩
abbrev S8x4x64x128 : Shape := ⟨4, ![8, 4, 64, 128]⟩
abbrev S1x256x128 : Shape := ⟨3, ![1, 256, 128]⟩
abbrev S8x128x128 : Shape := ⟨3, ![8, 128, 128]⟩
abbrev S64x64 : Shape := ⟨2, ![64, 64]⟩
abbrev S64x128 : Shape := ⟨2, ![64, 128]⟩
abbrev S32x64x64 : Shape := ⟨3, ![32, 64, 64]⟩
abbrev S32x64x128 : Shape := ⟨3, ![32, 64, 128]⟩
abbrev S4x64x128 : Shape := ⟨3, ![4, 64, 128]⟩
abbrev S32x64 : Shape := ⟨2, ![32, 64]⟩
abbrev S32x64x1 : Shape := ⟨3, ![32, 64, 1]⟩
abbrev S256x1 : Shape := ⟨2, ![256, 1]⟩
abbrev S1x1x128 : Shape := ⟨3, ![1, 1, 128]⟩
abbrev S1x128 : Shape := ⟨2, ![1, 128]⟩
abbrev S4x1x128 : Shape := ⟨3, ![4, 1, 128]⟩
abbrev S32x1x128 : Shape := ⟨3, ![32, 1, 128]⟩
abbrev S1x64x64 : Shape := ⟨3, ![1, 64, 64]⟩
abbrev S32x1x64 : Shape := ⟨3, ![32, 1, 64]⟩
abbrev S32x128x128 : Shape := ⟨3, ![32, 128, 128]⟩
abbrev S1x128x128 : Shape := ⟨3, ![1, 128, 128]⟩
abbrev S128x128 : Shape := ⟨2, ![128, 128]⟩
abbrev S1x64x128 : Shape := ⟨3, ![1, 64, 128]⟩
abbrev S32x128 : Shape := ⟨2, ![32, 128]⟩
abbrev S32x128x1 : Shape := ⟨3, ![32, 128, 1]⟩
abbrev S32x1 : Shape := ⟨2, ![32, 1]⟩
abbrev S32x1x1 : Shape := ⟨3, ![32, 1, 1]⟩
abbrev S4x64x1 : Shape := ⟨3, ![4, 64, 1]⟩
abbrev S4x128 : Shape := ⟨2, ![4, 128]⟩
abbrev S1x8x128 : Shape := ⟨3, ![1, 8, 128]⟩
abbrev S8x128 : Shape := ⟨2, ![8, 128]⟩

abbrev nBuf : Space → Nat
  | .hbm => 13
  | .vmem => 29
  | .smem => 0
  | _ => 0

abbrev bufTy : (tb : Table) → Fin (tcTables nBuf tb) → BufTy
  | .hbm, ⟨0, _⟩ => ⟨S8192x3072, .bf16⟩
  | .hbm, ⟨1, _⟩ => ⟨S8192x128, .f32⟩
  | .hbm, ⟨2, _⟩ => ⟨S8x8x128, .f32⟩
  | .hbm, ⟨3, _⟩ => ⟨S8x128x128x128, .bf16⟩
  | .hbm, ⟨4, _⟩ => ⟨S8192x1024, .bf16⟩
  | .hbm, ⟨5, _⟩ => ⟨S8x128x64x64, .bf16⟩
  | .hbm, ⟨6, _⟩ => ⟨S8x128x64x128, .f32⟩
  | .hbm, ⟨7, _⟩ => ⟨S8x128x64x128, .bf16⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S1x8192x128, .f32⟩
  | .hbm, ⟨12, _⟩ => ⟨S8x8x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x128, .f32⟩
  | .local _ .vmem, ⟨7, _⟩ => ⟨S256x128, .f32⟩
  | .local _ .vmem, ⟨8, _⟩ => ⟨S8x8x128, .f32⟩
  | .local _ .vmem, ⟨9, _⟩ => ⟨S8x4x128x128, .bf16⟩
  | .local _ .vmem, ⟨10, _⟩ => ⟨S8x4x128x128, .bf16⟩
  | .local _ .vmem, ⟨11, _⟩ => ⟨S256x1024, .bf16⟩
  | .local _ .vmem, ⟨12, _⟩ => ⟨S256x1024, .bf16⟩
  | .local _ .vmem, ⟨13, _⟩ => ⟨S8x4x64x64, .bf16⟩
  | .local _ .vmem, ⟨14, _⟩ => ⟨S8x4x64x64, .bf16⟩
  | .local _ .vmem, ⟨15, _⟩ => ⟨S8x4x64x128, .f32⟩
  | .local _ .vmem, ⟨16, _⟩ => ⟨S8x4x64x128, .f32⟩
  | .local _ .vmem, ⟨17, _⟩ => ⟨S8x4x64x128, .bf16⟩
  | .local _ .vmem, ⟨18, _⟩ => ⟨S8x4x64x128, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S1x256x128, .f32⟩
  | .local _ .vmem, ⟨26, _⟩ => ⟨S1x256x128, .f32⟩
  | .local _ .vmem, ⟨27, _⟩ => ⟨S8x8x128, .f32⟩
  | .local _ .vmem, ⟨28, _⟩ => ⟨S8x128x128, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c1_i32 : BitVec 32 := 1#32
  let v1 : BitVec 32 := Scalar.addi c1_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c2_i32 : BitVec 32 := 2#32
  let v1 : BitVec 32 := Scalar.addi c2_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_7 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_13 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S8x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S8x4x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x4x64x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x4x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x4x64x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S8x8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, false]
-- ==== Head.lean ====
abbrev S1x8192x1024 : Shape := ⟨3, ![1, 8192, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S8192x1024 : Shape := ⟨2, ![8192, 1024]⟩
abbrev S1024x4x704 : Shape := ⟨3, ![1024, 4, 704]⟩
abbrev S4x1024x704 : Shape := ⟨3, ![4, 1024, 704]⟩
abbrev S4x704x1024 : Shape := ⟨3, ![4, 704, 1024]⟩
abbrev S4x8192x704 : Shape := ⟨3, ![4, 8192, 704]⟩
abbrev S8x128 : Shape := ⟨2, ![8, 128]⟩
abbrev S512x1024 : Shape := ⟨2, ![512, 1024]⟩
abbrev S4x512x704 : Shape := ⟨3, ![4, 512, 704]⟩
abbrev S3 : Shape := ⟨1, ![3]⟩
abbrev S1 : Shape := ⟨1, ![1]⟩
abbrev S_ : Shape := ⟨0, ![]⟩
abbrev S512 : Shape := ⟨1, ![512]⟩
abbrev S512x1 : Shape := ⟨2, ![512, 1]⟩
abbrev S1x1024x704 : Shape := ⟨3, ![1, 1024, 704]⟩
abbrev S1024x704 : Shape := ⟨2, ![1024, 704]⟩
abbrev S512x704 : Shape := ⟨2, ![512, 704]⟩
abbrev S1x512x704 : Shape := ⟨3, ![1, 512, 704]⟩
abbrev S1x704x1024 : Shape := ⟨3, ![1, 704, 1024]⟩
abbrev S704x1024 : Shape := ⟨2, ![704, 1024]⟩
abbrev S1x1 : Shape := ⟨2, ![1, 1]⟩

abbrev nBuf : Space → Nat
  | .hbm => 24
  | .vmem => 19
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1x8192x1024, .f32⟩
  | .hbm, ⟨7, _⟩ => ⟨S8192x1024, .f32⟩
  | .hbm, ⟨8, _⟩ => ⟨S1024x4x704, .f32⟩
  | .hbm, ⟨9, _⟩ => ⟨S4x1024x704, .f32⟩
  | .hbm, ⟨10, _⟩ => ⟨S4x1024x704, .bf16⟩
  | .hbm, ⟨11, _⟩ => ⟨S1024x4x704, .f32⟩
  | .hbm, ⟨12, _⟩ => ⟨S4x1024x704, .f32⟩
  | .hbm, ⟨13, _⟩ => ⟨S4x1024x704, .bf16⟩
  | .hbm, ⟨14, _⟩ => ⟨S4x704x1024, .f32⟩
  | .hbm, ⟨15, _⟩ => ⟨S4x704x1024, .bf16⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S4x8192x704, .bf16⟩
  | .hbm, ⟨21, _⟩ => ⟨S4x8192x704, .bf16⟩
  | .hbm, ⟨22, _⟩ => ⟨S8x128, .f32⟩
  | .hbm, ⟨23, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S4x512x704, .bf16⟩
  | .local _ .vmem, ⟨11, _⟩ => ⟨S4x512x704, .bf16⟩
  | .local _ .vmem, ⟨12, _⟩ => ⟨S4x512x704, .bf16⟩
  | .local _ .vmem, ⟨13, _⟩ => ⟨S4x512x704, .bf16⟩
  | .local _ .vmem, ⟨14, _⟩ => ⟨S8x128, .f32⟩
  | .local _ .vmem, ⟨15, _⟩ => ⟨S1x1024, .f32⟩
  | .local _ .vmem, ⟨16, _⟩ => ⟨S4x1024x704, .bf16⟩
  | .local _ .vmem, ⟨17, _⟩ => ⟨S4x1024x704, .bf16⟩
  | .local _ .vmem, ⟨18, _⟩ => ⟨S4x704x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev main_v11_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== HeadRefIdeal.lean ====
abbrev S1x8192x1024 : Shape := ⟨3, ![1, 8192, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x2816 : Shape := ⟨3, ![1, 8192, 2816]⟩
abbrev S8192 : Shape := ⟨1, ![8192]⟩
abbrev S8192x1024 : Shape := ⟨2, ![8192, 1024]⟩
abbrev S8192x2816 : Shape := ⟨2, ![8192, 2816]⟩
abbrev S8192x4x704 : Shape := ⟨3, ![8192, 4, 704]⟩
abbrev S4x8192x704 : Shape := ⟨3, ![4, 8192, 704]⟩
abbrev S8x128 : Shape := ⟨2, ![8, 128]⟩

abbrev nBuf : Space → Nat
  | .hbm => 123
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1x8192x1024, .f32⟩
  | .hbm, ⟨7, _⟩ => ⟨S1024, .f32⟩
  | .hbm, ⟨8, _⟩ => ⟨S1x8192x1024, .f32⟩
  | .hbm, ⟨9, _⟩ => ⟨S_, .f32⟩
  | .hbm, ⟨10, _⟩ => ⟨S1x8192, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S1x8192x1, .f32⟩
  | .hbm, ⟨19, _⟩ => ⟨S1x8192x1024, .f32⟩
  | .hbm, ⟨20, _⟩ => ⟨S1x8192x1024, .f32⟩
  | .hbm, ⟨21, _⟩ => ⟨S1x1x1024, .f32⟩
  | .hbm, ⟨22, _⟩ => ⟨S1x8192x1024, .f32⟩
  | .hbm, ⟨23, _⟩ => ⟨S1x8192x1024, .f32⟩
  | .hbm, ⟨24, _⟩ => ⟨S1x8192x2816, .f32⟩
  | .hbm, ⟨25, _⟩ => ⟨S1x8192x2816, .f32⟩
  | .hbm, ⟨26, _⟩ => ⟨S1x8192x2816, .f32⟩
  | .hbm, ⟨27, _⟩ => ⟨S1x8192x2816, .f32⟩
  | .hbm, ⟨28, _⟩ => ⟨S_, .f32⟩
  | .hbm, ⟨29, _⟩ => ⟨S1x8192x2816, .f32⟩
  | .hbm, ⟨30, _⟩ => ⟨S1x8192x2816, .f32⟩
  | .hbm, ⟨31, _⟩ => ⟨S_, .f32⟩
  | .hbm, ⟨32, _⟩ => ⟨S1x8192x2816, .f32⟩
  | .hbm, ⟨33, _⟩ => ⟨S1x8192x2816, .f32⟩
  | .hbm, ⟨34, _⟩ => ⟨S1x8192x2816, .f32⟩
  | .hbm, ⟨35, _⟩ => ⟨S1x8192x2816, .f32⟩
  | .hbm, ⟨36, _⟩ => ⟨S1x8192x1024, .f32⟩
  | .hbm, ⟨37, _⟩ => ⟨S_, .f32⟩
  | .hbm, ⟨38, _⟩ => ⟨S1x8192x1024, .f32⟩
  | .hbm, ⟨39, _⟩ => ⟨S1x8192x1024, .f32⟩
  | .hbm, ⟨40, _⟩ => ⟨S1x8192x1024, .f32⟩
  | .hbm, ⟨41, _⟩ => ⟨S1x8192x1024, .f32⟩
  | .hbm, ⟨42, _⟩ => ⟨S_, .f32⟩
  | .hbm, ⟨43, _⟩ => ⟨S1x8192, .f32⟩
  | .hbm, ⟨44, _⟩ => ⟨S1x8192x1, .f32⟩
  | .hbm, ⟨45, _⟩ => ⟨S_, .f32⟩
  | .hbm, ⟨46, _⟩ => ⟨S1x8192x1, .f32⟩
  | .hbm, ⟨47, _⟩ => ⟨S1x8192x1, .f32⟩
  | .hbm, ⟨48, _⟩ => ⟨S_, .f32⟩
  | .hbm, ⟨49, _⟩ => ⟨S1x8192x1, .f32⟩
  | .hbm, ⟨50, _⟩ => ⟨S1x8192x1, .f32⟩
  | .hbm, ⟨51, _⟩ => ⟨S1x8192x1, .f32⟩
  | .hbm, ⟨52, _⟩ => ⟨S1x8192x1, .f32⟩
  | .hbm, ⟨53, _⟩ => ⟨S_, .f32⟩
  | .hbm, ⟨54, _⟩ => ⟨S1x8192x1, .f32⟩
  | .hbm, ⟨55, _⟩ => ⟨S1x8192x1, .f32⟩
  | .hbm, ⟨56, _⟩ => ⟨S1x8192x1024, .f32⟩
  | .hbm, ⟨57, _⟩ => ⟨S1x8192x1024, .f32⟩
  | .hbm, ⟨58, _⟩ => ⟨S1x1x1024, .f32⟩
  | .hbm, ⟨59, _⟩ => ⟨S1x8192x1024, .f32⟩
  | .hbm, ⟨60, _⟩ => ⟨S1x8192x1024, .f32⟩
  | .hbm, ⟨61, _⟩ => ⟨S1x8192x1024, .f32⟩
  | .hbm, ⟨62, _⟩ => ⟨S1x8192x1024, .f32⟩
  | .hbm, ⟨63, _⟩ => ⟨S_, .f32⟩
  | .hbm, ⟨64, _⟩ => ⟨S1x8192x1024, .f32⟩
  | .hbm, ⟨65, _⟩ => ⟨S1x8192x1024, .f32⟩
  | .hbm, ⟨66, _⟩ => ⟨S_, .f32⟩
  | .hbm, ⟨67, _⟩ => ⟨S1x8192, .f32⟩
  | .hbm, ⟨68, _⟩ => ⟨S_, .f32⟩
  | .hbm, ⟨69, _⟩ => ⟨S1x8192, .f32⟩
  | .hbm, ⟨70, _⟩ => ⟨S1x8192, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S1x8192, .f32⟩
  | .hbm, ⟨79, _⟩ => ⟨S_, .f32⟩
  | .hbm, ⟨80, _⟩ => ⟨S1x8192, .f32⟩
  | .hbm, ⟨81, _⟩ => ⟨S1x8192, .f32⟩
  | .hbm, ⟨82, _⟩ => ⟨S1x8192x1024, .f32⟩
  | .hbm, ⟨83, _⟩ => ⟨S1x8192x1024, .f32⟩
  | .hbm, ⟨84, _⟩ => ⟨S1x8192x1024, .f32⟩
  | .hbm, ⟨85, _⟩ => ⟨S_, .f32⟩
  | .hbm, ⟨86, _⟩ => ⟨S1x1024, .f32⟩
  | .hbm, ⟨87, _⟩ => ⟨S1x1x1024, .f32⟩
  | .hbm, ⟨88, _⟩ => ⟨S1x8192x1024, .f32⟩
  | .hbm, ⟨89, _⟩ => ⟨S1x8192x1024, .f32⟩
  | .hbm, ⟨90, _⟩ => ⟨S_, .f32⟩
  | .hbm, ⟨91, _⟩ => ⟨S1024, .f32⟩
  | .hbm, ⟨92, _⟩ => ⟨S1x8192x1024, .f32⟩
  | .hbm, ⟨93, _⟩ => ⟨S_, .f32⟩
  | .hbm, ⟨94, _⟩ => ⟨S1x8192, .f32⟩
  | .hbm, ⟨95, _⟩ => ⟨S1x8192x1, .f32⟩
  | .hbm, ⟨96, _⟩ => ⟨S1x8192x1024, .f32⟩
  | .hbm, ⟨97, _⟩ => ⟨S1x8192x1024, .f32⟩
  | .hbm, ⟨98, _⟩ => ⟨S1x8192x1, .f32⟩
  | .hbm, ⟨99, _⟩ => ⟨S_, .f32⟩
  | .hbm, ⟨100, _⟩ => ⟨S1x8192x1, .f32⟩
  | .hbm, ⟨101, _⟩ => ⟨S1x8192x1, .f32⟩
  | .hbm, ⟨102, _⟩ => ⟨S_, .f32⟩
  | .hbm, ⟨103, _⟩ => ⟨S8192, .f32⟩
  | .hbm, ⟨104, _⟩ => ⟨S1x8192, .f32⟩
  | .hbm, ⟨105, _⟩ => ⟨S1x8192x1024, .f32⟩
  | .hbm, ⟨106, _⟩ => ⟨S1x8192x1024, .f32⟩
  | .hbm, ⟨107, _⟩ => ⟨S1x8192x1024, .f32⟩
  | .hbm, ⟨108, _⟩ => ⟨S1x8192x1024, .f32⟩
  | .hbm, ⟨109, _⟩ => ⟨S1x8192x1024, .f32⟩
  | .hbm, ⟨110, _⟩ => ⟨S8192x1024, .f32⟩
  | .hbm, ⟨111, _⟩ => ⟨S8192x1024, .f32⟩
  | .hbm, ⟨112, _⟩ => ⟨S8192x1024, .bf16⟩
  | .hbm, ⟨113, _⟩ => ⟨S8192x2816, .f32⟩
  | .hbm, ⟨114, _⟩ => ⟨S8192x4x704, .f32⟩
  | .hbm, ⟨115, _⟩ => ⟨S4x8192x704, .f32⟩
  | .hbm, ⟨116, _⟩ => ⟨S4x8192x704, .bf16⟩
  | .hbm, ⟨117, _⟩ => ⟨S8192x2816, .f32⟩
  | .hbm, ⟨118, _⟩ => ⟨S8192x4x704, .f32⟩
  | .hbm, ⟨119, _⟩ => ⟨S4x8192x704, .f32⟩
  | .hbm, ⟨120, _⟩ => ⟨S4x8192x704, .bf16⟩
  | .hbm, ⟨121, _⟩ => ⟨S8x128, .f32⟩
  | .hbm, ⟨122, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_cst_10 : Ref sig .tc := ⟨.hbm, 71, rfl⟩
abbrev main_v45 : Ref sig .tc := ⟨.hbm, 72, rfl⟩
abbrev main_cst_11 : Ref sig .tc := ⟨.hbm, 73, rfl⟩
abbrev main_v46 : Ref sig .tc := ⟨.hbm, 74, rfl⟩
abbrev main_cst_12 : Ref sig .tc := ⟨.hbm, 75, rfl⟩
abbrev main_cst_13 : Ref sig .tc := ⟨.hbm, 76, rfl⟩
abbrev main_v47 : Ref sig .tc := ⟨.hbm, 77, rfl⟩
abbrev main_v48 : Ref sig .tc := ⟨.hbm, 78, rfl⟩
abbrev main_cst_14 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_15 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_16 : Ref sig .tc := ⟨.hbm, 90, rfl⟩
abbrev main_v58 : Ref sig .tc := ⟨.hbm, 91, rfl⟩
abbrev main_v59 : Ref sig .tc := ⟨.hbm, 92, rfl⟩
abbrev main_cst_17 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_18 : Ref sig .tc := ⟨.hbm, 99, rfl⟩
abbrev main_v65 : Ref sig .tc := ⟨.hbm, 100, rfl⟩
abbrev main_v66 : Ref sig .tc := ⟨.hbm, 101, rfl⟩
abbrev main_cst_19 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩

abbrev nD : Nat := 1
abbrev τ : Topo := Topo.v7x

variable {F : FTy → Type} [FloatOps F]
-- ==== FfnFwd.lean ====
abbrev S1x8192x1024 : Shape := ⟨3, ![1, 8192, 1024]⟩
abbrev S1x1024 : Shape := ⟨2, ![1, 1024]⟩
abbrev S1024x2816 : Shape := ⟨2, ![1024, 2816]⟩
abbrev S2816x1024 : Shape := ⟨2, ![2816, 1024]⟩
abbrev S8192x1024 : Shape := ⟨2, ![8192, 1024]⟩
abbrev S1024x4x704 : Shape := ⟨3, ![1024, 4, 704]⟩
abbrev S4x1024x704 : Shape := ⟨3, ![4, 1024, 704]⟩
abbrev S4x704x1024 : Shape := ⟨3, ![4, 704, 1024]⟩
abbrev S4x8192x704 : Shape := ⟨3, ![4, 8192, 704]⟩
abbrev S512x1024 : Shape := ⟨2, ![512, 1024]⟩
abbrev S4x512x704 : Shape := ⟨3, ![4, 512, 704]⟩
abbrev S3 : Shape := ⟨1, ![3]⟩
abbrev S1 : Shape := ⟨1, ![1]⟩
abbrev S_ : Shape := ⟨0, ![]⟩
abbrev S512 : Shape := ⟨1, ![512]⟩
abbrev S512x1 : Shape := ⟨2, ![512, 1]⟩
abbrev S1x1024x704 : Shape := ⟨3, ![1, 1024, 704]⟩
abbrev S1024x704 : Shape := ⟨2, ![1024, 704]⟩
abbrev S512x704 : Shape := ⟨2, ![512, 704]⟩
abbrev S1x512x704 : Shape := ⟨3, ![1, 512, 704]⟩
abbrev S1x704x1024 : Shape := ⟨3, ![1, 704, 1024]⟩
abbrev S704x1024 : Shape := ⟨2, ![704, 1024]⟩

abbrev nBuf : Space → Nat
  | .hbm => 18
  | .vmem => 14
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S1024x4x704, .f32⟩
  | .hbm, ⟨7, _⟩ => ⟨S4x1024x704, .f32⟩
  | .hbm, ⟨8, _⟩ => ⟨S4x1024x704, .bf16⟩
  | .hbm, ⟨9, _⟩ => ⟨S1024x4x704, .f32⟩
  | .hbm, ⟨10, _⟩ => ⟨S4x1024x704, .f32⟩
  | .hbm, ⟨11, _⟩ => ⟨S4x1024x704, .bf16⟩
  | .hbm, ⟨12, _⟩ => ⟨S4x704x1024, .f32⟩
  | .hbm, ⟨13, _⟩ => ⟨S4x704x1024, .bf16⟩
  | .hbm, ⟨14, _⟩ => ⟨S8192x1024, .f32⟩
  | .hbm, ⟨15, _⟩ => ⟨S8192x1024, .bf16⟩
  | .hbm, ⟨16, _⟩ => ⟨S4x8192x704, .bf16⟩
  | .hbm, ⟨17, _⟩ => ⟨S4x8192x704, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S4x512x704, .bf16⟩
  | .local _ .vmem, ⟨8, _⟩ => ⟨S4x512x704, .bf16⟩
  | .local _ .vmem, ⟨9, _⟩ => ⟨S4x512x704, .bf16⟩
  | .local _ .vmem, ⟨10, _⟩ => ⟨S4x512x704, .bf16⟩
  | .local _ .vmem, ⟨11, _⟩ => ⟨S4x1024x704, .bf16⟩
  | .local _ .vmem, ⟨12, _⟩ => ⟨S4x1024x704, .bf16⟩
  | .local _ .vmem, ⟨13, _⟩ => ⟨S4x704x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnFwdRefIdeal.lean ====
abbrev S1x8192x1024 : Shape := ⟨3, ![1, 8192, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x2816 : Shape := ⟨3, ![1, 8192, 2816]⟩
abbrev S8192x1024 : Shape := ⟨2, ![8192, 1024]⟩
abbrev S8192x2816 : Shape := ⟨2, ![8192, 2816]⟩
abbrev S8192x4x704 : Shape := ⟨3, ![8192, 4, 704]⟩
abbrev S4x8192x704 : Shape := ⟨3, ![4, 8192, 704]⟩

abbrev nBuf : Space → Nat
  | .hbm => 50
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1x8192x1024, .f32⟩
  | .hbm, ⟨7, _⟩ => ⟨S_, .f32⟩
  | .hbm, ⟨8, _⟩ => ⟨S1x8192, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S1x8192x1024, .f32⟩
  | .hbm, ⟨18, _⟩ => ⟨S1x8192x1024, .f32⟩
  | .hbm, ⟨19, _⟩ => ⟨S1x1x1024, .f32⟩
  | .hbm, ⟨20, _⟩ => ⟨S1x8192x1024, .f32⟩
  | .hbm, ⟨21, _⟩ => ⟨S1x8192x1024, .f32⟩
  | .hbm, ⟨22, _⟩ => ⟨S1x8192x2816, .f32⟩
  | .hbm, ⟨23, _⟩ => ⟨S1x8192x2816, .f32⟩
  | .hbm, ⟨24, _⟩ => ⟨S1x8192x2816, .f32⟩
  | .hbm, ⟨25, _⟩ => ⟨S1x8192x2816, .f32⟩
  | .hbm, ⟨26, _⟩ => ⟨S_, .f32⟩
  | .hbm, ⟨27, _⟩ => ⟨S1x8192x2816, .f32⟩
  | .hbm, ⟨28, _⟩ => ⟨S1x8192x2816, .f32⟩
  | .hbm, ⟨29, _⟩ => ⟨S_, .f32⟩
  | .hbm, ⟨30, _⟩ => ⟨S1x8192x2816, .f32⟩
  | .hbm, ⟨31, _⟩ => ⟨S1x8192x2816, .f32⟩
  | .hbm, ⟨32, _⟩ => ⟨S1x8192x2816, .f32⟩
  | .hbm, ⟨33, _⟩ => ⟨S1x8192x2816, .f32⟩
  | .hbm, ⟨34, _⟩ => ⟨S1x8192x1024, .f32⟩
  | .hbm, ⟨35, _⟩ => ⟨S_, .f32⟩
  | .hbm, ⟨36, _⟩ => ⟨S1x8192x1024, .f32⟩
  | .hbm, ⟨37, _⟩ => ⟨S1x8192x1024, .f32⟩
  | .hbm, ⟨38, _⟩ => ⟨S1x8192x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | .hbm, ⟨42, _⟩ => ⟨S8192x2816, .f32⟩
  | .hbm, ⟨43, _⟩ => ⟨S8192x4x704, .f32⟩
  | .hbm, ⟨44, _⟩ => ⟨S4x8192x704, .f32⟩
  | .hbm, ⟨45, _⟩ => ⟨S4x8192x704, .bf16⟩
  | .hbm, ⟨46, _⟩ => ⟨S8192x2816, .f32⟩
  | .hbm, ⟨47, _⟩ => ⟨S8192x4x704, .f32⟩
  | .hbm, ⟨48, _⟩ => ⟨S4x8192x704, .f32⟩
  | .hbm, ⟨49, _⟩ => ⟨S4x8192x704, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== NormProj.lean ====
abbrev S1x8192x1024 : Shape := ⟨3, ![1, 8192, 1024]⟩
abbrev S1x1024 : Shape := ⟨2, ![1, 1024]⟩
abbrev S1024x9248 : Shape := ⟨2, ![1024, 9248]⟩
abbrev S1024x3072 : Shape := ⟨2, ![1024, 3072]⟩
abbrev S1024x4096 : Shape := ⟨2, ![1024, 4096]⟩
abbrev S1024x2048 : Shape := ⟨2, ![1024, 2048]⟩
abbrev S1024x9216 : Shape := ⟨2, ![1024, 9216]⟩
abbrev S1024x16 : Shape := ⟨2, ![1024, 16]⟩
abbrev S_ : Shape := ⟨0, ![]⟩
abbrev S1024x96 : Shape := ⟨2, ![1024, 96]⟩
abbrev S1024x128 : Shape := ⟨2, ![1024, 128]⟩
abbrev S8192x1024 : Shape := ⟨2, ![8192, 1024]⟩
abbrev S8192x9216 : Shape := ⟨2, ![8192, 9216]⟩
abbrev S8192x128 : Shape := ⟨2, ![8192, 128]⟩
abbrev S512x1024 : Shape := ⟨2, ![512, 1024]⟩
abbrev S512x9216 : Shape := ⟨2, ![512, 9216]⟩
abbrev S512x128 : Shape := ⟨2, ![512, 128]⟩
abbrev S1 : Shape := ⟨1, ![1]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩

abbrev nBuf : Space → Nat
  | .hbm => 19
  | .vmem => 13
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1024x9248, .f32⟩
  | .hbm, ⟨3, _⟩ => ⟨S1024x3072, .f32⟩
  | .hbm, ⟨4, _⟩ => ⟨S1024x4096, .f32⟩
  | .hbm, ⟨5, _⟩ => ⟨S1024x2048, .f32⟩
  | .hbm, ⟨6, _⟩ => ⟨S1024x9216, .f32⟩
  | .hbm, ⟨7, _⟩ => ⟨S1024x16, .f32⟩
  | .hbm, ⟨8, _⟩ => ⟨S1024x16, .f32⟩
  | .hbm, ⟨9, _⟩ => ⟨S_, .f32⟩
  | .hbm, ⟨10, _⟩ => ⟨S1024x96, .f32⟩
  | .hbm, ⟨11, _⟩ => ⟨S1024x128, .f32⟩
  | .hbm, ⟨12, _⟩ => ⟨S8192x1024, .f32⟩
  | .hbm, ⟨13, _⟩ => ⟨S1024x9216, .bf16⟩
  | .hbm, ⟨14, _⟩ => ⟨S1024x128, .bf16⟩
  | .hbm, ⟨15, _⟩ => ⟨S8192x9216, .bf16⟩
  | .hbm, ⟨16, _⟩ => ⟨S8192x128, .f32⟩
  | .hbm, ⟨17, _⟩ => ⟨S8192x1024, .bf16⟩
  | .hbm, ⟨18, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x128, .bf16⟩
  | .local _ .vmem, ⟨4, _⟩ => ⟨S512x9216, .bf16⟩
  | .local _ .vmem, ⟨5, _⟩ => ⟨S512x9216, .bf16⟩
  | .local _ .vmem, ⟨6, _⟩ => ⟨S512x128, .f32⟩
  | .local _ .vmem, ⟨7, _⟩ => ⟨S512x128, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S1024x9216, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev main_v11_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x9216 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormProjRefIdeal.lean ====
abbrev S1x8192x1024 : Shape := ⟨3, ![1, 8192, 1024]⟩
abbrev S1x1024 : Shape := ⟨2, ![1, 1024]⟩
abbrev S1024x9248 : Shape := ⟨2, ![1024, 9248]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S8192x1024 : Shape := ⟨2, ![8192, 1024]⟩
abbrev S8192x9248 : Shape := ⟨2, ![8192, 9248]⟩
abbrev S8192x3072 : Shape := ⟨2, ![8192, 3072]⟩
abbrev S8192x4096 : Shape := ⟨2, ![8192, 4096]⟩
abbrev S8192x2048 : Shape := ⟨2, ![8192, 2048]⟩
abbrev S8192x9216 : Shape := ⟨2, ![8192, 9216]⟩
abbrev S8192x16 : Shape := ⟨2, ![8192, 16]⟩
abbrev S8192x32 : Shape := ⟨2, ![8192, 32]⟩
abbrev S8192x128 : Shape := ⟨2, ![8192, 128]⟩

abbrev nBuf : Space → Nat
  | .hbm => 35
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1024x9248, .f32⟩
  | .hbm, ⟨3, _⟩ => ⟨S1024, .f32⟩
  | .hbm, ⟨4, _⟩ => ⟨S1x8192x1024, .f32⟩
  | .hbm, ⟨5, _⟩ => ⟨S_, .f32⟩
  | .hbm, ⟨6, _⟩ => ⟨S1x8192, .f32⟩
  | .hbm, ⟨7, _⟩ => ⟨S1x8192x1, .f32⟩
  | .hbm, ⟨8, _⟩ => ⟨S_, .f32⟩
  | .hbm, ⟨9, _⟩ => ⟨S1x8192x1, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S1x8192x1024, .f32⟩
  | .hbm, ⟨16, _⟩ => ⟨S1x8192x1024, .f32⟩
  | .hbm, ⟨17, _⟩ => ⟨S1x1x1024, .f32⟩
  | .hbm, ⟨18, _⟩ => ⟨S1x8192x1024, .f32⟩
  | .hbm, ⟨19, _⟩ => ⟨S1x8192x1024, .f32⟩
  | .hbm, ⟨20, _⟩ => ⟨S8192x1024, .f32⟩
  | .hbm, ⟨21, _⟩ => ⟨S8192x9248, .f32⟩
  | .hbm, ⟨22, _⟩ => ⟨S8192x3072, .f32⟩
  | .hbm, ⟨23, _⟩ => ⟨S8192x4096, .f32⟩
  | .hbm, ⟨24, _⟩ => ⟨S8192x2048, .f32⟩
  | .hbm, ⟨25, _⟩ => ⟨S8192x9216, .f32⟩
  | .hbm, ⟨26, _⟩ => ⟨S8192x16, .f32⟩
  | .hbm, ⟨27, _⟩ => ⟨S8192x16, .f32⟩
  | .hbm, ⟨28, _⟩ => ⟨S8192x32, .f32⟩
  | .hbm, ⟨29, _⟩ => ⟨S8192x9216, .bf16⟩
  | .hbm, ⟨30, _⟩ => ⟨S_, .i32⟩
  | .hbm, ⟨31, _⟩ => ⟨S_, .f32⟩
  | .hbm, ⟨32, _⟩ => ⟨S8192x128, .f32⟩
  | .hbm, ⟨33, _⟩ => ⟨S8192x1024, .bf16⟩
  | .hbm, ⟨34, _⟩ => ⟨S8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_call0_v0 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== GdnFwd.lean ====
abbrev S8192x3072 : Shape := ⟨2, ![8192, 3072]⟩
abbrev S8192x128 : Shape := ⟨2, ![8192, 128]⟩
abbrev S8x8x128 : Shape := ⟨3, ![8, 8, 128]⟩
abbrev S8192x1024 : Shape := ⟨2, ![8192, 1024]⟩
abbrev S8x128x128x128 : Shape := ⟨4, ![8, 128, 128, 128]⟩
abbrev S8x128x64x64 : Shape := ⟨4, ![8, 128, 64, 64]⟩
abbrev S8x128x64x128 : Shape := ⟨4, ![8, 128, 64, 128]⟩
abbrev S256x1024 : Shape := ⟨2, ![256, 1024]⟩
abbrev S256x128 : Shape := ⟨2, ![256, 128]⟩
abbrev S8x4x128x128 : Shape := ⟨4, ![8, 4, 128, 128]⟩
abbrev S8x4x64x64 : Shape := ⟨4, ![8, 4, 64, 64]⟩
abbrev S8x4x64x128 : Shape := ⟨4, ![8, 4, 64, 128]⟩
abbrev S8x128x128 : Shape := ⟨3, ![8, 128, 128]⟩
abbrev S64x64 : Shape := ⟨2, ![64, 64]⟩
abbrev S4x64x128 : Shape := ⟨3, ![4, 64, 128]⟩
abbrev S32x64x128 : Shape := ⟨3, ![32, 64, 128]⟩
abbrev S32x64 : Shape := ⟨2, ![32, 64]⟩
abbrev S32x64x1 : Shape := ⟨3, ![32, 64, 1]⟩
abbrev S256x1 : Shape := ⟨2, ![256, 1]⟩
abbrev S1x1x128 : Shape := ⟨3, ![1, 1, 128]⟩
abbrev S1x128 : Shape := ⟨2, ![1, 128]⟩
abbrev S4x1x128 : Shape := ⟨3, ![4, 1, 128]⟩
abbrev S32x1x128 : Shape := ⟨3, ![32, 1, 128]⟩
abbrev S1x64x64 : Shape := ⟨3, ![1, 64, 64]⟩
abbrev S32x64x64 : Shape := ⟨3, ![32, 64, 64]⟩
abbrev S32x1x64 : Shape := ⟨3, ![32, 1, 64]⟩
abbrev S32x128x128 : Shape := ⟨3, ![32, 128, 128]⟩
abbrev S1x128x128 : Shape := ⟨3, ![1, 128, 128]⟩
abbrev S128x128 : Shape := ⟨2, ![128, 128]⟩

abbrev nBuf : Space → Nat
  | .hbm => 8
  | .vmem => 20
  | .smem => 0
  | _ => 0

abbrev bufTy : (tb : Table) → Fin (tcTables nBuf tb) → BufTy
  | .hbm, ⟨0, _⟩ => ⟨S8192x3072, .bf16⟩
  | .hbm, ⟨1, _⟩ => ⟨S8192x128, .f32⟩
  | .hbm, ⟨2, _⟩ => ⟨S8x8x128, .f32⟩
  | .hbm, ⟨3, _⟩ => ⟨S8192x1024, .bf16⟩
  | .hbm, ⟨4, _⟩ => ⟨S8x128x128x128, .bf16⟩
  | .hbm, ⟨5, _⟩ => ⟨S8x128x64x64, .bf16⟩
  | .hbm, ⟨6, _⟩ => ⟨S8x128x64x128, .f32⟩
  | .hbm, ⟨7, _⟩ => ⟨S8x128x64x128, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x128, .f32⟩
  | .local _ .vmem, ⟨7, _⟩ => ⟨S256x128, .f32⟩
  | .local _ .vmem, ⟨8, _⟩ => ⟨S8x8x128, .f32⟩
  | .local _ .vmem, ⟨9, _⟩ => ⟨S256x1024, .bf16⟩
  | .local _ .vmem, ⟨10, _⟩ => ⟨S256x1024, .bf16⟩
  | .local _ .vmem, ⟨11, _⟩ => ⟨S8x4x128x128, .bf16⟩
  | .local _ .vmem, ⟨12, _⟩ => ⟨S8x4x128x128, .bf16⟩
  | .local _ .vmem, ⟨13, _⟩ => ⟨S8x4x64x64, .bf16⟩
  | .local _ .vmem, ⟨14, _⟩ => ⟨S8x4x64x64, .bf16⟩
  | .local _ .vmem, ⟨15, _⟩ => ⟨S8x4x64x128, .f32⟩
  | .local _ .vmem, ⟨16, _⟩ => ⟨S8x4x64x128, .f32⟩
  | .local _ .vmem, ⟨17, _⟩ => ⟨S8x4x64x128, .bf16⟩
  | .local _ .vmem, ⟨18, _⟩ => ⟨S8x4x64x128, .bf16⟩
  | .local _ .vmem, ⟨19, _⟩ => ⟨S8x128x128, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S8x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x4x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x4x64x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x4x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x4x64x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Dw.lean ====
abbrev S1x8192x1024 : Shape := ⟨3, ![1, 8192, 1024]⟩
abbrev S1x1024 : Shape := ⟨2, ![1, 1024]⟩
abbrev S8192x3072 : Shape := ⟨2, ![8192, 3072]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S8192x1024 : Shape := ⟨2, ![8192, 1024]⟩
abbrev S1024x3072 : Shape := ⟨2, ![1024, 3072]⟩
abbrev S2048x1024 : Shape := ⟨2, ![2048, 1024]⟩
abbrev S1024x1024 : Shape := ⟨2, ![1024, 1024]⟩

abbrev nBuf : Space → Nat
  | .hbm => 24
  | .vmem => 7
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S8192x3072, .f32⟩
  | .hbm, ⟨3, _⟩ => ⟨S1024, .f32⟩
  | .hbm, ⟨4, _⟩ => ⟨S1x8192x1024, .f32⟩
  | .hbm, ⟨5, _⟩ => ⟨S_, .f32⟩
  | .hbm, ⟨6, _⟩ => ⟨S1x8192, .f32⟩
  | .hbm, ⟨7, _⟩ => ⟨S1x8192x1, .f32⟩
  | .hbm, ⟨8, _⟩ => ⟨S_, .f32⟩
  | .hbm, ⟨9, _⟩ => ⟨S1x8192x1, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S1x8192x1024, .f32⟩
  | .hbm, ⟨16, _⟩ => ⟨S1x8192x1024, .f32⟩
  | .hbm, ⟨17, _⟩ => ⟨S1x1x1024, .f32⟩
  | .hbm, ⟨18, _⟩ => ⟨S1x8192x1024, .f32⟩
  | .hbm, ⟨19, _⟩ => ⟨S1x8192x1024, .f32⟩
  | .hbm, ⟨20, _⟩ => ⟨S8192x1024, .f32⟩
  | .hbm, ⟨21, _⟩ => ⟨S8192x1024, .bf16⟩
  | .hbm, ⟨22, _⟩ => ⟨S8192x3072, .bf16⟩
  | .hbm, ⟨23, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 3, 4], ![false, false, false, false]⟩

def k0_cond2 (i : grid0.Coords) : BitVec 1 :=
  let arg3 : BitVec 32 := BitVec.ofNat 32 (i 3).val
  let c3_i32 : BitVec 32 := 3#32
  let v13 : BitVec 1 := Scalar.cmpi .eq arg3 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== DwRefIdeal.lean ====
abbrev S1x8192x1024 : Shape := ⟨3, ![1, 8192, 1024]⟩
abbrev S1x1024 : Shape := ⟨2, ![1, 1024]⟩
abbrev S8192x3072 : Shape := ⟨2, ![8192, 3072]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S8192x1024 : Shape := ⟨2, ![8192, 1024]⟩
abbrev S1024x3072 : Shape := ⟨2, ![1024, 3072]⟩
abbrev S3072x1024 : Shape := ⟨2, ![3072, 1024]⟩

abbrev nBuf : Space → Nat
  | .hbm => 27
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S8192x3072, .f32⟩
  | .hbm, ⟨3, _⟩ => ⟨S1024, .f32⟩
  | .hbm, ⟨4, _⟩ => ⟨S1x8192x1024, .f32⟩
  | .hbm, ⟨5, _⟩ => ⟨S_, .f32⟩
  | .hbm, ⟨6, _⟩ => ⟨S1x8192, .f32⟩
  | .hbm, ⟨7, _⟩ => ⟨S1x8192x1, .f32⟩
  | .hbm, ⟨8, _⟩ => ⟨S_, .f32⟩
  | .hbm, ⟨9, _⟩ => ⟨S1x8192x1, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S1x8192x1024, .f32⟩
  | .hbm, ⟨16, _⟩ => ⟨S1x8192x1024, .f32⟩
  | .hbm, ⟨17, _⟩ => ⟨S1x1x1024, .f32⟩
  | .hbm, ⟨18, _⟩ => ⟨S1x8192x1024, .f32⟩
  | .hbm, ⟨19, _⟩ => ⟨S1x8192x1024, .f32⟩
  | .hbm, ⟨20, _⟩ => ⟨S8192x1024, .f32⟩
  | .hbm, ⟨21, _⟩ => ⟨S_, .f32⟩
  | .hbm, ⟨22, _⟩ => ⟨S1024x3072, .f32⟩
  | .hbm, ⟨23, _⟩ => ⟨S8192x3072, .f32⟩
  | .hbm, ⟨24, _⟩ => ⟨S3072x1024, .f32⟩
  | .hbm, ⟨25, _⟩ => ⟨S1024x3072, .f32⟩
  | .hbm, ⟨26, _⟩ => ⟨S1024x3072, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Proof.Conv.Pay.lean ====
/- One grid point of the convolution's backward kernel: what its stored values are, entry by entry. -/
module

public import proofs.«01_k».proof.Proof.Gen.ConvIdeal.Skeleton
public import Idealize.ShloMosaic.Lib.Pointwise
public import Idealize.ShloMosaic.Lib.ValueIdx

@[expose] public section

set_option maxRecDepth 16384

noncomputable section

namespace Cert.ConvProof

open Idealize.ShloMosaic Cert.ConvIdeal Cert.ConvIdeal.Gen

/-- Row `r + s` of a block of 256 rows continued below by the first rows `nxt` of the block after it. -/
def below (dc : Vec Ideal S256x3072 .f32) (nxt : Vec Ideal S8x3072 .f32) (s : ℕ) (r : Fin 256) (j : Fin 3072) : EReal :=
  if h : r.val + s < 256 then dc (ix2 ⟨r.val + s, h⟩ j) else nxt (ix2 ⟨(r.val + s - 256) % 8, Nat.mod_lt _ (by decide)⟩ j)

theorem pay1_at (dc : FVec Ideal S256x3072 .f32) (r : Fin 8) (j : Fin 3072) :
    k0_pay1 dc (ix2 r j) = dc (ix2 ⟨r.val, by omega⟩ j) := by
  pointwise [k0_pay1]

theorem pay2_at (r : Fin 8) (j : Fin 3072) : k0_pay2 (F := Ideal) (ix2 r j) = 0 := by
  pointwise [k0_pay2]

theorem pay3_at (r : Fin 8) (j : Fin 3072) : k0_pay3 (F := Ideal) (ix2 r j) = 0 := by
  pointwise [k0_pay3]

theorem pay5_at (x : Vec Ideal S256x3072 .bf16) (r : Fin 256) (j : Fin 3072) :
    k0_pay5 (F := Ideal) x (ix2 r j) = x (ix2 r j) := by
  pointwise [k0_pay5]

/-- The three column parts of a block, each read off one array `g`, laid side by side. -/
theorem pay4_at (q k v : Vec Ideal S256x1024 .bf16) (g : Fin 256 → Fin 3072 → EReal)
    (hq : ∀ r (l : Fin 1024), q (ix2 r l) = g r ⟨l.val, by omega⟩)
    (hk : ∀ r (l : Fin 1024), k (ix2 r l) = g r ⟨1024 + l.val, by omega⟩)
    (hv : ∀ r (l : Fin 1024), v (ix2 r l) = g r ⟨2048 + l.val, by omega⟩) (r : Fin 256) (j : Fin 3072) :
    k0_pay4 (F := Ideal) q k v (ix2 r j) = g r j := by
  pointwise [k0_pay4]
  have hj := j.isLt
  by_cases h : j.val < 1024
  · rw [dif_pos h, hq]
  · by_cases h' : j.val - 1024 < 1024
    · rw [dif_neg h, dif_pos h', hk]
      exact congrArg (g r) (Fin.ext (by dsimp only; omega))
    · rw [dif_neg h, dif_neg h', hv]
      exact congrArg (g r) (Fin.ext (by dsimp only; omega))

/-- A selection by the comparison of two small words is the comparison of their values. -/
theorem select_sge (n c : ℕ) (hn : n < 8) (hc : c < 8) (x y : EReal) :
    Scalar.select (IntOp.cmpi CmpIPredicate.sge (BitVec.ofNat 32 n) (BitVec.ofNat 32 c)) x y = if c ≤ n then x else y := by
  have h : ∀ a b : Fin 8, IntOp.cmpi CmpIPredicate.sge (BitVec.ofNat 32 a.val) (BitVec.ofNat 32 b.val) = if b ≤ a then 1#1 else 0#1 := by
    decide
  have e := h ⟨n, hn⟩ ⟨c, hc⟩
  dsimp only at e
  rw [e]
  by_cases hle : c ≤ n
  · rw [if_pos hle, if_pos (show (⟨c, hc⟩ : Fin 8) ≤ ⟨n, hn⟩ from hle)]; rfl
  · rw [if_neg hle, if_neg (show ¬ (⟨c, hc⟩ : Fin 8) ≤ ⟨n, hn⟩ from hle)]; rfl

/-- The rotation of a block upward by `s` rows, its last rows taken from the block after it. -/
theorem shift_at (dc : Vec Ideal S256x3072 .f32) (nxt : Vec Ideal S8x3072 .f32) (s : ℕ) (hs : 0 < s ∧ s < 4) (r : Fin 256) (j : Fin 3072)
    (w : BitVec 32) (hw : w = BitVec.ofNat 32 (8 - s)) (i1 : r.val < 248 → Fin 256) (i3 : ¬ r.val < 248 → Fin 256) (i2 : ¬ r.val < 248 → Fin 8)
    (h1 : ∀ h, (i1 h).val = r.val + s) (h2 : ∀ h, 256 ≤ r.val + s → (i2 h).val = r.val + s - 256)
    (h3 : ∀ h, r.val + s < 256 → (i3 h).val = r.val + s) :
    (if h : r.val < 248 then dc (ix2 (i1 h) j)
      else Scalar.select (IntOp.cmpi CmpIPredicate.sge (BitVec.ofNat 32 (r.val - 248)) w) (nxt (ix2 (i2 h) j)) (dc (ix2 (i3 h) j)) : EReal)
      = below dc nxt s r j := by
  unfold below
  have hr := r.isLt
  by_cases h : r.val < 248
  · rw [dif_pos h, dif_pos (by omega)]
    exact congrArg dc (congrArg (ix2 · j) (Fin.ext (h1 h)))
  · rw [dif_neg h, hw, select_sge _ _ (by omega) (by omega)]
    by_cases hc : 8 - s ≤ r.val - 248
    · rw [if_pos hc, dif_neg (by omega)]
      exact congrArg nxt (congrArg (ix2 · j) (Fin.ext ((h2 h (by omega)).trans (by show _ = (_ : ℕ) % 8; omega))))
    · rw [if_neg hc, dif_pos (by omega)]
      exact congrArg dc (congrArg (ix2 · j) (Fin.ext (h3 h (by omega))))

theorem pay7_at (q k v : Vec Ideal S256x1024 .bf16) (nxt : Vec Ideal S8x3072 .f32) (r : Fin 256) (j : Fin 3072) :
    k0_pay7 (F := Ideal) q k v nxt (ix2 r j) = below (k0_pay4 (F := Ideal) q k v) nxt 1 r j := by
  pointwise [k0_pay7]
  refine shift_at _ nxt 1 (by decide) r j 7#32 rfl _ _ _ ?_ ?_ ?_ <;> intros <;> dsimp only <;> omega

theorem pay10_at (dc : Vec Ideal S256x3072 .f32) (nxt : Vec Ideal S8x3072 .f32) (r : Fin 256) (j : Fin 3072) :
    k0_pay10 (F := Ideal) dc nxt (iota .tc S8x3072 32 [0] iota_S8x3072_d0_w32) (ix2 r j) = below dc nxt 2 r j := by
  pointwise [k0_pay10]
  refine shift_at dc nxt 2 (by decide) r j 6#32 rfl _ _ _ ?_ ?_ ?_ <;> intros <;> dsimp only <;> omega

theorem pay11_at (dc : Vec Ideal S256x3072 .f32) (nxt : Vec Ideal S8x3072 .f32) (r : Fin 256) (j : Fin 3072) :
    k0_pay11 (F := Ideal) dc nxt (iota .tc S8x3072 32 [0] iota_S8x3072_d0_w32) (ix2 r j) = below dc nxt 3 r j := by
  pointwise [k0_pay11]
  refine shift_at dc nxt 3 (by decide) r j 5#32 rfl _ _ _ ?_ ?_ ?_ <;> intros <;> dsimp only <;> omega

theorem below_zero (dc : Vec Ideal S256x3072 .f32) (nxt : Vec Ideal S8x3072 .f32) (r : Fin 256) (j : Fin 3072) :
    below dc nxt 0 r j = dc (ix2 r j) := by
  unfold below
  rw [dif_pos (show r.val + 0 < 256 from r.isLt)]
  rfl

/-- What a point stores of the input's gradient. -/
theorem dx_at (q k v : Vec Ideal S256x1024 .bf16) (nxt : Vec Ideal S8x3072 .f32) (w0 w1 w2 w3 : Vec Ideal S1x3072 .f32) (r : Fin 256) (j : Fin 3072) :
    k0_pay12 (F := Ideal) (k0_pay4 (F := Ideal) q k v) nxt (iota .tc S8x3072 32 [0] iota_S8x3072_d0_w32) (k0_pay8 (F := Ideal) q k v nxt w3 w2) w1 w0 (ix2 r j)
      = below (k0_pay4 (F := Ideal) q k v) nxt 0 r j * w3 (ix2 0 j) + below (k0_pay4 (F := Ideal) q k v) nxt 1 r j * w2 (ix2 0 j)
        + below (k0_pay4 (F := Ideal) q k v) nxt 2 r j * w1 (ix2 0 j) + below (k0_pay4 (F := Ideal) q k v) nxt 3 r j * w0 (ix2 0 j) := by
  pointwise [k0_pay12, k0_pay8]
  rw [pay7_at, pay10_at, pay11_at, below_zero]

/-- What a point adds to the weights' gradient: row `3 - s` has the sum over the block of the rows `s` further down times the inputs. -/
theorem dw_at (q k v : Vec Ideal S256x1024 .bf16) (x : Vec Ideal S256x3072 .bf16) (nxt acc : Vec Ideal S8x3072 .f32) (a : Fin 8) (j : Fin 3072) :
    k0_pay13 (F := Ideal) (k0_pay4 (F := Ideal) q k v) (k0_pay5 (F := Ideal) x) nxt (iota .tc S8x3072 32 [0] iota_S8x3072_d0_w32) (k0_pay6 (F := Ideal) q k v x)
        (k0_pay9 (F := Ideal) q k v x nxt) acc (ix2 a j)
      = acc (ix2 a j) + if a.val < 4 then ∑ r : Fin 256, below (k0_pay4 (F := Ideal) q k v) nxt (3 - a.val) r j * x (ix2 r j) else 0 := by
  pointwise [k0_pay13, k0_pay6, k0_pay9]
  simp only [pay11_at, pay10_at, pay7_at, pay5_at]
  rcases a with ⟨a, ha⟩
  dsimp only
  interval_cases a <;> simp [below_zero]
  · exact congrArg (acc (ix2 0 j) + ·) (Finset.sum_congr rfl fun r _ => congrArg (· * x (ix2 r j)) (pay11_at _ nxt r j))
  · exact congrArg (acc (ix2 1 j) + ·) (Finset.sum_congr rfl fun r _ => congrArg (· * x (ix2 r j)) (pay10_at _ nxt r j))

end Cert.ConvProof
-- ==== Proof.Lib.RowsSet.lean ====
/- Writing an array over the first rows of a larger one, as the host does it, read at an entry. -/
module

public import Idealize.ShloMosaic.Lib.Routing.OpsOne

@[expose] public section

noncomputable section

namespace Cert.RowsSet

open Idealize.ShloMosaic Idealize.ShloMosaic.StableHlo Idealize.ShloMosaic.StableHlo.Predicate Idealize.ShloMosaic.ValueIdx Idealize.ShloMosaic.Routing

/-- Where an update of the scatter that writes `A` whole rows from row 0 on lands: at its own row and column. -/
theorem lands {A B N : Nat} (d : ScatterDims (shape2 B N) (shape1 1) (shape2 A N)) (huw : d.updateWindowDims = [0, 1]) (hiw : d.insertedWindowDims = [])
    (hsd : d.scatterDimsToOperandDims = [0]) (idx : IVec (shape1 1) 32) (hidx : (idx (ix1 0)).toInt = 0) (a : Fin A) (l : Fin N) (b : Fin B) (e : Fin N) :
    d.resultIdx? (ix2 a l) idx = some (ix2 b e) ↔ a.val = b.val ∧ l = e := by
  have hkept : d.sKept = [0, 1] := by
    show (shape2 B N).kept d.insertedWindowDims = _
    rw [hiw]
    rfl
  obtain ⟨uw, iw, sd, iv, wf⟩ := d
  dsimp only at huw hiw hsd
  subst huw hiw hsd
  have hw0 : ScatterDims.window ⟨[0, 1], [], [0], iv, wf⟩ (ix2 a l) (0 : Fin 2) = a.val := by
    unfold ScatterDims.window
    rw [dif_pos (by rw [hkept]; simp)]
    rfl
  have hw1 : ScatterDims.window ⟨[0, 1], [], [0], iv, wf⟩ (ix2 a l) (1 : Fin 2) = l.val := by
    unfold ScatterDims.window
    rw [dif_pos (by rw [hkept]; simp)]
    rfl
  have hs1 : ScatterDims.start ⟨[0, 1], [], [0], iv, wf⟩ (ix2 a l) idx (1 : Fin 2) = 0 := by
    unfold ScatterDims.start
    rw [dif_neg (by simp)]
  have hs0 : ScatterDims.start ⟨[0, 1], [], [0], iv, wf⟩ (ix2 a l) idx (0 : Fin 2) = 0 := by
    unfold ScatterDims.start
    rw [dif_pos (by simp)]
    refine Eq.trans (congrArg (fun i => (idx i).toInt) ?_) hidx
    funext x
    match x with
    | ⟨0, _⟩ => exact Subsingleton.elim (α := Fin 1) _ _
  rw [resultIdx?_ix2, hs0, hs1, hw0, hw1, Fin.ext_iff]
  omega

/-- The scatter read at an entry: the update in its rows, the operand below them. -/
theorem read {α : Type} {A B N : Nat} (d : ScatterDims (shape2 B N) (shape1 1) (shape2 A N)) (huw : d.updateWindowDims = [0, 1])
    (hiw : d.insertedWindowDims = []) (hsd : d.scatterDimsToOperandDims = [0]) (x : (shape2 B N).Idx → α) (idx : IVec (shape1 1) 32)
    (hidx : (idx (ix1 0)).toInt = 0) (u : (shape2 A N).Idx → α) (b : Fin B) (e : Fin N) :
    Host.scatter d (fun _ y => y) x idx u (ix2 b e) = if h : b.val < A then u (ix2 ⟨b.val, h⟩ e) else x (ix2 b e) := by
  have key : ∀ k : (shape2 A N).Idx, d.resultIdx? k idx = some (ix2 b e) → (k 0).val = b.val ∧ k 1 = e := fun k hk =>
    (lands d huw hiw hsd idx hidx (k 0) (k 1) b e).1 ((congrArg (fun t => d.resultIdx? t idx) (eq_ix2 k).symm).trans hk)
  by_cases h : b.val < A
  · rw [dif_pos h]
    refine scatter_set_hit d x idx u _ _ (fun k hk => ?_) (ix2 ⟨b.val, h⟩ e) ((lands d huw hiw hsd idx hidx _ _ b e).2 ⟨rfl, rfl⟩)
    obtain ⟨h0, h1⟩ := key k hk
    exact congrArg u ((eq_ix2 k).trans (congrArg₂ ix2 (Fin.ext h0) h1))
  · rw [dif_neg h]
    exact scatter_set_miss d x idx u _ fun k hk => h ((key k hk).1 ▸ (k 0).isLt)

end Cert.RowsSet
-- ==== Proof.Conv.Entry.lean ====
/- The arrays the convolution's backward kernel is launched over, entry by entry in the program's own arguments, and the block each point sees of them. -/
module

public import proofs.«01_k».proof.Proof.Gen.ConvIdeal.Value
public import Idealize.ShloMosaic.Lib.Pipeline.ValueKit
public import Idealize.ShloMosaic.Lib.StableHlo.ReadAt
public import Idealize.ShloMosaic.Lib.Pointwise
public import proofs.«01_k».proof.Proof.Lib.RowsSet

@[expose] public section

set_option maxRecDepth 16384

noncomputable section

namespace Cert.ConvProof

open Idealize.ShloMosaic Idealize.ShloMosaic.TcCoe Idealize.SL.Sem Cert.ConvIdeal Cert.ConvIdeal.Gen
open Idealize.ShloMosaic.Pipeline (Dat)

variable (m : (ℓ : Loc nD τ sig) → Buf (Elt Ideal) ℓ) (c : Dev nD)

/-- The cotangent of the convolution's output. -/
def ct (r : Fin 8192) (j : Fin 3072) : EReal := m ((c : Thread nD τ).loc main_arg2) (ix3 0 r j)

/-- The convolution's input: 3072 columns of the projection. -/
def inp (r : Fin 8192) (j : Fin 3072) : EReal := m ((c : Thread nD τ).loc main_arg0) (ix3 0 r ⟨3088 + j.val, by omega⟩)

/-- The convolution's weights. -/
def wt (k : Fin 4) (j : Fin 3072) : EReal := m ((c : Thread nD τ).loc main_arg1) (ix2 k j)

theorem entry_q (r : Fin 8192) (l : Fin 1024) : V m c main_v14 (ix2 r l) = ct m c r ⟨l.val, by omega⟩ := by
  unfold V ct
  after_reads_at

theorem entry_k (r : Fin 8192) (l : Fin 1024) : V m c main_v15 (ix2 r l) = ct m c r ⟨1024 + l.val, by omega⟩ := by
  unfold V ct
  after_reads_at

theorem entry_v (r : Fin 8192) (l : Fin 1024) : V m c main_v16 (ix2 r l) = ct m c r ⟨2048 + l.val, by omega⟩ := by
  unfold V ct
  after_reads_at

theorem entry_x (r : Fin 8192) (l : Fin 3072) : V m c main_v17 (ix2 r ⟨3072 + l.val, by omega⟩) = inp m c r l := by
  unfold V inp
  after_reads_at
  rw [dif_pos (by omega)]
  after_reads_at

theorem entry_w (k : Fin 8) (l : Fin 3072) : V m c main_v11 (ix2 k l) = if h : k.val < 4 then wt m c ⟨k.val, h⟩ l else 0 := by
  unfold V wt
  after_reads_at
  refine (Cert.RowsSet.read _ rfl rfl rfl _ _ rfl _ k l).trans ?_
  pointwise
  by_cases h : k.val < 4
  · rw [dif_pos h, dif_pos h]; rfl
  · rw [dif_neg h, dif_neg h]

theorem idx : ∀ t : Fin cfg0.N, win0_0.index t = ![31 - t.val, 0] ∧ win0_1.index t = ![31 - t.val, 0] ∧ win0_2.index t = ![31 - t.val, 0]
    ∧ win0_3.index t = ![31 - t.val, 1] ∧ win0_4.index t = ![0, 0] ∧ win0_5.index t = ![31 - t.val, 0] ∧ win0_6.index t = ![0, 0] :=
  (by decide +kernel : ∀ t : Fin grid0.N, _)

/-- Row `r` of the block that point `t` works on, as a row of the arrays: the blocks are taken from the last to the first. -/
def row (t : Fin cfg0.N) (r : Fin 256) : Fin 8192 := ⟨(31 - t.val) * 256 + r.val, by omega⟩

theorem blk_q (t : Fin cfg0.N) (r : Fin 256) (l : Fin 1024) : iblk m c 0 t (ix2 r l) = ct m c (row t r) ⟨l.val, by omega⟩ := by
  refine Eq.trans ?_ (entry_q m c (row t r) l)
  unfold row
  blk_ext [iblk, idx t]

theorem blk_k (t : Fin cfg0.N) (r : Fin 256) (l : Fin 1024) : iblk m c 1 t (ix2 r l) = ct m c (row t r) ⟨1024 + l.val, by omega⟩ := by
  refine Eq.trans ?_ (entry_k m c (row t r) l)
  unfold row
  blk_ext [iblk, idx t]

theorem blk_v (t : Fin cfg0.N) (r : Fin 256) (l : Fin 1024) : iblk m c 2 t (ix2 r l) = ct m c (row t r) ⟨2048 + l.val, by omega⟩ := by
  refine Eq.trans ?_ (entry_v m c (row t r) l)
  unfold row
  blk_ext [iblk, idx t]

theorem blk_x (t : Fin cfg0.N) (r : Fin 256) (l : Fin 3072) : iblk m c 3 t (ix2 r l) = inp m c (row t r) l := by
  refine Eq.trans ?_ (entry_x m c (row t r) l)
  unfold row
  blk_ext [iblk, idx t]

theorem blk_w (t : Fin cfg0.N) (k : Fin 8) (l : Fin 3072) : iblk m c 4 t (ix2 k l) = if h : k.val < 4 then wt m c ⟨k.val, h⟩ l else 0 := by
  refine Eq.trans ?_ (entry_w m c k l)
  blk_ext [iblk, idx t]

end Cert.ConvProof
-- ==== Proof.Conv.Points.lean ====
/- What every point of the convolution's backward kernel leaves in its outputs and in the rows it carries to the next point. -/
module

public import proofs.«01_k».proof.Proof.Conv.Pay
public import proofs.«01_k».proof.Proof.Conv.Entry
public import Idealize.ShloMosaic.Lib.Pipeline.ReadBack

@[expose] public section

set_option maxRecDepth 16384

noncomputable section

namespace Cert.ConvProof

open Idealize.ShloMosaic Idealize.ShloMosaic.TcCoe Idealize.SL.Sem Cert.ConvIdeal Cert.ConvIdeal.Gen
open Idealize.ShloMosaic.Pipeline (Dat)

variable (m : (ℓ : Loc nD τ sig) → Buf (Elt Ideal) ℓ) (c : Dev nD)

/-- The cotangent continued by zero below its last row. -/
def ctz (n : ℕ) (j : Fin 3072) : EReal := if h : n < 8192 then ct m c ⟨n, h⟩ j else 0

/-- The row of the weights that a load of the row `k` reads. -/
theorem ld_w (t : Fin cfg0.N) (k : ℕ) (hk : k < 4) (inb : ∀ a, (![k, 0] : Fin 2 → ℕ) a + (![1, 3072] : Fin 2 → ℕ) a ≤ S8x3072.size a) (j : Fin 3072) :
    View.ld (iblk m c 4 t) (Rect.unit (s := S8x3072) ![k, 0] ![1, 3072] inb) (ix2 0 j) = wt m c ⟨k, hk⟩ j := by
  refine Eq.trans (congrArg (iblk m c 4 t) (?_ : _ = ix2 ⟨k, by omega⟩ j)) ((blk_w m c t _ j).trans (dif_pos hk))
  funext a
  match a with
  | ⟨0, _⟩ => exact Fin.ext (by show k + 1 * 0 = k; omega)
  | ⟨1, _⟩ => exact Fin.ext (by show 0 + 1 * j.val = j.val; omega)

/-- The cotangent block of point `t`. -/
theorem dc_at (t : Fin cfg0.N) (r : Fin 256) (j : Fin 3072) :
    k0_pay4 (F := Ideal) (iblk m c 0 t) (iblk m c 1 t) (iblk m c 2 t) (ix2 r j) = ct m c (row t r) j :=
  pay4_at _ _ _ (fun r j => ct m c (row t r) j) (blk_q m c t) (blk_k m c t) (blk_v m c t) r j

/-- Every point leaves its first eight rows for the next one. -/
theorem kept_at (t : Fin cfg0.N) (k : Fin 8) (j : Fin 3072) :
    (outsAt0 m c t.val t.isLt).2.2 (ix2 k j) = ct m c (row t ⟨k.val, by omega⟩) j := by
  by_cases h : t.val % 32 = 0
  · rw [outsAt0_A m c t h]
    dsimp only
    frame_out
    rw [pay1_at, dc_at]
  · rw [outsAt0_B m c t h]
    dsimp only
    frame_out
    rw [pay1_at, dc_at]

/-- The rows a point is handed from the one before: the first rows of the block below its own. -/
def carried (t : Fin cfg0.N) (nxt : Vec Ideal S8x3072 .f32) : Prop :=
  ∀ (k : Fin 8) (j : Fin 3072), nxt (ix2 k j) = ctz m c ((31 - t.val) * 256 + 256 + k.val) j

theorem carried_first (t : Fin cfg0.N) (h : t.val % 32 = 0) : carried m c t (k0_pay2 (F := Ideal)) := by
  intro k j
  have hN := lt_of_lt_of_eq t.isLt (show cfg0.N = 32 from N_0)
  rw [pay2_at]
  unfold ctz
  rw [dif_neg (by omega)]

theorem carried_next (t : Fin cfg0.N) (h : ¬ t.val % 32 = 0) :
    carried m c t (outsAt0 m c (t.val - 1) (Nat.lt_of_le_of_lt (Nat.sub_le _ _) t.isLt)).2.2 := by
  intro k j
  have hN := lt_of_lt_of_eq t.isLt (show cfg0.N = 32 from N_0)
  refine (kept_at m c ⟨t.val - 1, Nat.lt_of_le_of_lt (Nat.sub_le _ _) t.isLt⟩ k j).trans ?_
  unfold ctz row
  rw [dif_pos (by omega)]
  refine congrArg (ct m c · j) (Fin.ext ?_)
  dsimp only
  omega

theorem below_at (t : Fin cfg0.N) (nxt : Vec Ideal S8x3072 .f32) (h : carried m c t nxt) (s : ℕ) (hs : s < 4) (r : Fin 256) (j : Fin 3072) :
    below (k0_pay4 (F := Ideal) (iblk m c 0 t) (iblk m c 1 t) (iblk m c 2 t)) nxt s r j = ctz m c ((row t r).val + s) j := by
  have hN := lt_of_lt_of_eq t.isLt (show cfg0.N = 32 from N_0)
  unfold below
  by_cases hr : r.val + s < 256
  · rw [dif_pos hr, dc_at]
    unfold ctz row
    rw [dif_pos (by dsimp only; omega)]
    refine congrArg (ct m c · j) (Fin.ext ?_)
    dsimp only
    omega
  · rw [dif_neg hr, h]
    refine congrArg (ctz m c · j) ?_
    unfold row
    dsimp only
    omega

/-- The input's gradient at a row: the cotangent of that row and of the three below it, each times its weight. -/
def dxAt (n : ℕ) (j : Fin 3072) : EReal :=
  ctz m c n j * wt m c 3 j + ctz m c (n + 1) j * wt m c 2 j + ctz m c (n + 2) j * wt m c 1 j + ctz m c (n + 3) j * wt m c 0 j

/-- One block's part of the weights' gradient. -/
def dwPart (t : Fin cfg0.N) (k : Fin 8) (j : Fin 3072) : EReal :=
  if k.val < 4 then ∑ r : Fin 256, ctz m c ((row t r).val + (3 - k.val)) j * inp m c (row t r) j else 0

theorem dx_point (t : Fin cfg0.N) (nxt : Vec Ideal S8x3072 .f32) (h : carried m c t nxt) (r : Fin 256) (j : Fin 3072) :
    k0_pay12 (F := Ideal) (k0_pay4 (iblk m c 0 t) (iblk m c 1 t) (iblk m c 2 t)) nxt
      (iota Kind.tc S8x3072 32 [0] iota_S8x3072_d0_w32)
      (k0_pay8 (iblk m c 0 t) (iblk m c 1 t) (iblk m c 2 t) nxt
        (View.ld (iblk m c 4 t) (Rect.unit ![3, 0] ![1, 3072] inb_S8x3072_S1x3072_3_0))
        (View.ld (iblk m c 4 t) (Rect.unit ![2, 0] ![1, 3072] inb_S8x3072_S1x3072_2_0)))
      (View.ld (iblk m c 4 t) (Rect.unit ![1, 0] ![1, 3072] inb_S8x3072_S1x3072_1_0))
      (View.ld (iblk m c 4 t) (Rect.unit ![0, 0] ![1, 3072] inb_S8x3072_S1x3072_0_0)) (ix2 r j) = dxAt m c (row t r).val j := by
  refine (dx_at _ _ _ nxt _ _ _ _ r j).trans ?_
  rw [below_at m c t nxt h 0 (by decide), below_at m c t nxt h 1 (by decide), below_at m c t nxt h 2 (by decide), below_at m c t nxt h 3 (by decide)]
  rw [ld_w m c t 0 (by decide), ld_w m c t 1 (by decide), ld_w m c t 2 (by decide), ld_w m c t 3 (by decide)]
  rfl

theorem dw_point (t : Fin cfg0.N) (nxt acc : Vec Ideal S8x3072 .f32) (h : carried m c t nxt) (k : Fin 8) (j : Fin 3072) :
    k0_pay13 (F := Ideal) (k0_pay4 (iblk m c 0 t) (iblk m c 1 t) (iblk m c 2 t)) (k0_pay5 (iblk m c 3 t)) nxt
      (iota Kind.tc S8x3072 32 [0] iota_S8x3072_d0_w32)
      (k0_pay6 (iblk m c 0 t) (iblk m c 1 t) (iblk m c 2 t) (iblk m c 3 t))
      (k0_pay9 (iblk m c 0 t) (iblk m c 1 t) (iblk m c 2 t) (iblk m c 3 t) nxt) acc (ix2 k j)
      = acc (ix2 k j) + dwPart m c t k j := by
  refine (dw_at _ _ _ _ nxt acc k j).trans (congrArg (acc (ix2 k j) + ·) ?_)
  unfold dwPart
  by_cases hk : k.val < 4
  · rw [if_pos hk, if_pos hk]
    exact Finset.sum_congr rfl fun r _ => congrArg₂ (· * ·) (below_at m c t nxt h _ (by omega) r j) (blk_x m c t r j)
  · rw [if_neg hk, if_neg hk]

theorem out_dx (t : Fin cfg0.N) (r : Fin 256) (j : Fin 3072) :
    (outsAt0 m c t.val t.isLt).1 (ix2 r j) = dxAt m c (row t r).val j := by
  by_cases h : t.val % 32 = 0
  · rw [outsAt0_A m c t h]
    dsimp only
    frame_out
    exact dx_point m c t _ (carried_first m c t h) r j
  · rw [outsAt0_B m c t h]
    dsimp only
    frame_out
    rw [read_unread_whole]
    exact dx_point m c t _ (carried_next m c t h) r j

theorem out_dw_first (t : Fin cfg0.N) (h : t.val % 32 = 0) (k : Fin 8) (j : Fin 3072) :
    (outsAt0 m c t.val t.isLt).2.1 (ix2 k j) = 0 + dwPart m c t k j := by
  rw [outsAt0_A m c t h]
  dsimp only
  frame_out
  refine (dw_point m c t _ _ (carried_first m c t h) k j).trans ?_
  rw [pay3_at]

theorem out_dw_next (t : Fin cfg0.N) (h : ¬ t.val % 32 = 0) (k : Fin 8) (j : Fin 3072) :
    (outsAt0 m c t.val t.isLt).2.1 (ix2 k j)
      = (outsAt0 m c (t.val - 1) (Nat.lt_of_le_of_lt (Nat.sub_le _ _) t.isLt)).2.1 (ix2 k j) + dwPart m c t k j := by
  rw [outsAt0_B m c t h]
  dsimp only
  frame_out
  rw [read_unread_whole]
  exact dw_point m c t _ _ (carried_next m c t h) k j

end Cert.ConvProof
-- ==== Proof.Conv.Final.lean ====
module
public import proofs.«01_k».proof.Proof.Conv.Points
public import proofs.«01_k».proof.Proof.Gen.ConvIdeal.Value

/-! The two arrays the convolution's backward call leaves: the input's gradient row by row, and the
weights' gradient as one sum over all rows. -/

set_option maxRecDepth 16384

@[expose] public section
noncomputable section
namespace Cert.ConvProof
open Idealize.ShloMosaic Idealize.ShloMosaic.TcCoe Idealize.SL.Sem Cert.ConvIdeal Cert.ConvIdeal.Gen
open Idealize.ShloMosaic.Pipeline (Dat)

variable (m : (ℓ : Loc nD τ sig) → Buf (Elt Ideal) ℓ) (c : Dev nD)

/-- The weights' gradient: each row of the input times the cotangent `3 - k` rows further down. -/
def dwAt (k : Fin 8) (j : Fin 3072) : EReal :=
  if k.val < 4 then ∑ n : Fin 8192, ctz m c (n.val + (3 - k.val)) j * inp m c n j else 0

theorem sum_rows (F : Fin 8192 → EReal) : ∑ t : Fin cfg0.N, ∑ r : Fin 256, F (row t r) = ∑ n : Fin 8192, F n := by
  rw [← Fin.sum_mul_add_fin 32 256 F (by decide)]
  refine Fintype.sum_equiv ((finCongr N_0).trans Fin.revPerm) _ _ fun t => Finset.sum_congr rfl fun r _ => congrArg F (Fin.ext ?_)
  have hN := lt_of_lt_of_eq t.isLt (show cfg0.N = 32 from N_0)
  show (31 - t.val) * 256 + r.val = (32 - (t.val + 1)) * 256 + r.val
  omega

theorem sum_parts (k : Fin 8) (j : Fin 3072) : ∑ t : Fin cfg0.N, dwPart m c t k j = dwAt m c k j := by
  unfold dwPart dwAt
  by_cases h : k.val < 4
  · simp only [if_pos h]
    exact sum_rows fun n => ctz m c (n.val + (3 - k.val)) j * inp m c n j
  · simp only [if_neg h, Finset.sum_const_zero]

theorem last_dw (k : Fin 8) (j : Fin 3072) : (outsAt0 m c 31 (by decide)).2.1 (ix2 k j) = dwAt m c k j := by
  rw [← sum_parts, ← zero_add (∑ t : Fin cfg0.N, dwPart m c t k j)]
  exact Pipeline.eq_sum_fin_of_reset_step_apply_last (fun n hn (i : Fin 8 × Fin 3072) => (outsAt0 m c n hn).2.1 (ix2 i.1 i.2)) 32 (fun _ => 0)
    (fun t i => dwPart m c t i.1 i.2) (fun t h i => out_dw_first m c t h i.1 i.2) (fun t h i => out_dw_next m c t h i.1 i.2)
    (le_of_eq N_0) ⟨31, by decide⟩ (by decide) (k, j)

theorem idx_dx : ∀ t : Fin cfg0.N, win0_5.index t = ![31 - t.val, 0] :=
  (by decide +kernel : ∀ t : Fin grid0.N, _)

theorem final_dx : (dats m 0 c).arrAt 5 cfg0.N = fun i => dxAt m c (i 0).val (i 1) := by
  refine (dats m 0 c).arrAt_eq_of_covers 5 _ (by decide +kernel) fun t hf y => ?_
  rw [after0_5]
  blk_simp
  have hy : y = ix2 (y 0) (y 1) := by
    funext a
    match a with
    | ⟨0, _⟩ => rfl
    | ⟨1, _⟩ => rfl
  refine (congrArg (outsAt0 m c t.val t.isLt).1 hy).trans ((out_dx m c t (y 0) (y 1)).trans ?_)
  refine congrArg₂ (dxAt m c) ?_ ?_
  · rw [idx_dx t]; rfl
  · refine Fin.ext ?_
    blk_simp [idx_dx t]

theorem final_dw : (dats m 0 c).arrAt 6 cfg0.N = fun i => dwAt m c (i 0) (i 1) := by
  refine (dats m 0 c).arrAt_eq_of_after_last 6 (⟨31, by decide⟩ : Fin cfg0.N) (by decide +kernel) _ fun j => ?_
  rw [after0_6]
  refine Eq.trans ?_ (last_dw m c (j 0) (j 1))
  refine congrArg (outsAt0 m c 31 (by decide)).2.1 ?_
  funext a
  match a with
  | ⟨0, _⟩ => rfl
  | ⟨1, _⟩ => rfl

end Cert.ConvProof
-- ==== Proof.Conv.Ref.lean ====
/- The reference's two results read at an entry. -/
module
public import proofs.«01_k».proof.Proof.Gen.ConvRefIdeal.Run
public import Idealize.ShloMosaic.Lib.Pointwise
public import Idealize.ShloMosaic.Lib.ValueIdx

@[expose] public section

set_option maxRecDepth 16384

noncomputable section

namespace Cert.ConvProof.Ref

open Idealize.ShloMosaic Idealize.ShloMosaic.TcCoe Idealize.SL.Sem Cert.ConvRefIdeal Cert.ConvRefIdeal.Gen Cert.ConvRefIdeal.Value

/-- A sum over two axes of size one has one term. -/
theorem sum_ones (v : (⟨3, ![1, 1, 3072]⟩ : Shape).Idx → EReal) (init : EReal) (j : Fin 3072) :
    Ideal.hostReduceAdd reducesTo_S1x1x3072_S3072_d0_1 v init (ix1 j) = init + v (ix3 0 0 j) := by
  refine congrArg (init + ·) (Finset.sum_eq_single_of_mem (ix3 0 0 j) ?_ ?_)
  · refine Finset.mem_filter.2 ⟨Finset.mem_univ _, ?_⟩
    funext b
    apply Fin.ext
    match b with
    | ⟨0, _⟩ => rfl
  · intro i hi hne
    refine absurd ?_ hne
    funext a
    apply Fin.ext
    match a with
    | ⟨0, _⟩ => have h : (i 0).val < 1 := (i 0).isLt
                show (i 0).val = 0
                omega
    | ⟨1, _⟩ => have h : (i 1).val < 1 := (i 1).isLt
                show (i 1).val = 0
                omega
    | ⟨2, _⟩ => exact congrArg Fin.val (congrFun (Finset.mem_filter.1 hi).2 0)

/-- The sum over the rows of a sequence, as the run takes it. -/
def colSum (v : Vec Ideal S1x8192x3072 .f32) : Vec Ideal S3072 .f32 :=
  Host.reduceAdd (F := Ideal) (φ := .f32) (shapeCast S1x1x3072 (Host.reduceAdd (F := Ideal) (φ := .f32) v (constant (F := Ideal) S_ .f32 0x00000000#32) reducesTo_S1x8192x3072_S1x3072_d1 h_S_) shapeCasts_S1x3072_S1x1x3072) (constant (F := Ideal) S_ .f32 0x00000000#32) reducesTo_S1x1x3072_S3072_d0_1 h_S_

theorem colSum_at (v : Vec Ideal S1x8192x3072 .f32) (j : Fin 3072) : colSum v (ix1 j) = ∑ t : Fin 8192, v (ix3 0 t j) := by
  unfold colSum
  refine (sum_ones _ _ j).trans ?_
  pointwise

/-- A product of a sequence with another shifted down by `d` rows, summed: the shift may be moved to the other factor. -/
theorem sum_shift (N d : ℕ) (hd : d ≤ N) (a b : ℕ → EReal) (hb : ∀ n, N ≤ n → b n = 0) :
    ∑ t : Fin N, (if t.val < d then 0 else a (t.val - d)) * b t.val = ∑ n : Fin N, b (n.val + d) * a n.val := by
  rw [Fin.sum_univ_eq_sum_range (fun t => (if t < d then 0 else a (t - d)) * b t) N, Fin.sum_univ_eq_sum_range (fun n => b (n + d) * a n) N]
  obtain ⟨K, rfl⟩ := Nat.exists_eq_add_of_le hd
  rw [Finset.sum_range_add, Nat.add_comm d K, Finset.sum_range_add]
  rw [Finset.sum_eq_zero (s := Finset.range d) (f := fun t => (if t < d then 0 else a (t - d)) * b t)
      (fun t ht => by rw [if_pos (Finset.mem_range.1 ht), zero_mul]), zero_add]
  rw [Finset.sum_eq_zero (s := Finset.range d) (f := fun n => b (K + n + d) * a (K + n))
      (fun n _ => by rw [hb _ (by omega), zero_mul]), add_zero]
  refine Finset.sum_congr rfl fun n _ => ?_
  rw [if_neg (by omega), Nat.add_sub_cancel_left, Nat.add_comm d n, mul_comm]

variable (m : (ℓ : Loc nD τ sig) → Buf (Elt Ideal) ℓ) (c : Dev nD)

/-- The cotangent. -/
def ct (r : Fin 8192) (j : Fin 3072) : EReal := m ((c : Thread nD τ).loc main_arg2) (ix3 0 r j)

/-- The convolution's input: columns of the projection. -/
def inp (r : Fin 8192) (j : Fin 3072) : EReal := m ((c : Thread nD τ).loc main_arg0) (ix3 0 r ⟨3088 + j.val, by omega⟩)

/-- The weights. -/
def wt (k : Fin 4) (j : Fin 3072) : EReal := m ((c : Thread nD τ).loc main_arg1) (ix2 k j)

/-- The cotangent, zero below its last row. -/
def ctz (n : ℕ) (j : Fin 3072) : EReal := if h : n < 8192 then ct m c ⟨n, h⟩ j else 0

/-- The input's gradient as the run leaves it. -/
def dxTerm : Buf (Elt Ideal) ((c.tc : Thread nD τ).loc main_v89) := truncf (F := Ideal) .bf16 (shapeCast _ (extractStridedSlice S1x8192x3072 ![0, 3, 0] (addf (addf (addf (pad S1x8195x3072 ![0, 3, 0] ![0, 0, 0] ![0, 0, 0] (mulf (shapeCast _ (m ((c.tc : Thread nD τ).loc main_arg2)) shapeCasts_S1x8192x3072_S1x8192x3072) (broadcastInDim S1x8192x3072 ![0, 1, 2] bcast_S1x1x3072_S1x8192x3072_0_1_2 (broadcastInDim S1x1x3072 ![1, 2] bcast_S1x3072_S1x1x3072_1_2 (extractStridedSlice S1x3072 ![3, 0] (m ((c.tc : Thread nD τ).loc main_arg1)) slices_S4x3072_S1x3072_3_0)))) (constant (F := Ideal) S_ .f32 0x00000000#32) pads_S1x8192x3072_S1x8195x3072_000_300_000 h_S_) (pad S1x8195x3072 ![0, 2, 0] ![0, 1, 0] ![0, 0, 0] (mulf (shapeCast _ (m ((c.tc : Thread nD τ).loc main_arg2)) shapeCasts_S1x8192x3072_S1x8192x3072) (broadcastInDim S1x8192x3072 ![0, 1, 2] bcast_S1x1x3072_S1x8192x3072_0_1_2 (broadcastInDim S1x1x3072 ![1, 2] bcast_S1x3072_S1x1x3072_1_2 (extractStridedSlice S1x3072 ![2, 0] (m ((c.tc : Thread nD τ).loc main_arg1)) slices_S4x3072_S1x3072_2_0)))) (constant (F := Ideal) S_ .f32 0x00000000#32) pads_S1x8192x3072_S1x8195x3072_000_210_000 h_S_)) (pad S1x8195x3072 ![0, 1, 0] ![0, 2, 0] ![0, 0, 0] (mulf (shapeCast _ (m ((c.tc : Thread nD τ).loc main_arg2)) shapeCasts_S1x8192x3072_S1x8192x3072) (broadcastInDim S1x8192x3072 ![0, 1, 2] bcast_S1x1x3072_S1x8192x3072_0_1_2 (broadcastInDim S1x1x3072 ![1, 2] bcast_S1x3072_S1x1x3072_1_2 (extractStridedSlice S1x3072 ![1, 0] (m ((c.tc : Thread nD τ).loc main_arg1)) slices_S4x3072_S1x3072_1_0)))) (constant (F := Ideal) S_ .f32 0x00000000#32) pads_S1x8192x3072_S1x8195x3072_000_120_000 h_S_)) (pad S1x8195x3072 ![0, 0, 0] ![0, 3, 0] ![0, 0, 0] (mulf (shapeCast _ (m ((c.tc : Thread nD τ).loc main_arg2)) shapeCasts_S1x8192x3072_S1x8192x3072) (broadcastInDim S1x8192x3072 ![0, 1, 2] bcast_S1x1x3072_S1x8192x3072_0_1_2 (broadcastInDim S1x1x3072 ![1, 2] bcast_S1x3072_S1x1x3072_1_2 (extractStridedSlice S1x3072 ![0, 0] (m ((c.tc : Thread nD τ).loc main_arg1)) slices_S4x3072_S1x3072_0_0)))) (constant (F := Ideal) S_ .f32 0x00000000#32) pads_S1x8192x3072_S1x8195x3072_000_030_000 h_S_)) slices_S1x8195x3072_S1x8192x3072_0_3_0) shapeCasts_S1x8192x3072_S8192x3072) bitsLt_bf16_f32

theorem dx_at (r : Fin 8192) (j : Fin 3072) :
    dxTerm m c (ix2 r j) = ctz m c r.val j * wt m c 3 j + ctz m c (r.val + 1) j * wt m c 2 j + ctz m c (r.val + 2) j * wt m c 1 j
      + ctz m c (r.val + 3) j * wt m c 0 j := by
  unfold dxTerm
  pointwise
  have e : ∀ (d k : ℕ) (hk : k < 4) (p : Prop) [Decidable p] (f : p → Fin 8192), (p ↔ r.val + d < 8192) → (∀ h, (f h).val = r.val + d) →
      (if h : p then ct m c (f h) j * wt m c ⟨k, hk⟩ j else 0)
        = ctz m c (r.val + d) j * wt m c ⟨k, hk⟩ j := by
    intro d k hk p _ f hp hf
    unfold ctz
    by_cases h : p
    · rw [dif_pos h, dif_pos (hp.1 h)]
      exact congrArg (ct m c · j * wt m c ⟨k, hk⟩ j) (Fin.ext (hf h))
    · rw [dif_neg h, dif_neg fun g => h (hp.2 g), zero_mul]
  refine congrArg₂ (· + ·) (congrArg₂ (· + ·) (congrArg₂ (· + ·) ?_ ?_) ?_) ?_
  · exact congrArg (· * wt m c 3 j) ((dif_pos r.isLt).symm : _ = ctz m c r.val j)
  · exact e 1 2 (by decide) _ (fun h : 2 ≤ 3 + r.val ∧ 3 + r.val - 2 < 8192 => ⟨3 + r.val - 2, h.2⟩) (by omega) (fun h => by show 3 + r.val - 2 = r.val + 1; omega)
  · exact e 2 1 (by decide) _ (fun h : 1 ≤ 3 + r.val ∧ 3 + r.val - 1 < 8192 => ⟨3 + r.val - 1, h.2⟩) (by omega) (fun h => by show 3 + r.val - 1 = r.val + 2; omega)
  · exact e 3 0 (by decide) _ (fun h : 3 + r.val < 8192 => ⟨3 + r.val, h⟩) (by omega) (fun h => by show 3 + r.val = r.val + 3; omega)

/-- The convolution's input below three rows of zeros. -/
def xp : Vec Ideal S1x8195x3072 .f32 := (concatenate S1x8195x3072 1 [⟨S1x3x3072, (broadcastInDim S1x3x3072 ![] bcast_S_S1x3x3072 (constant (F := Ideal) S_ .f32 0x00000000#32))⟩, ⟨S1x8192x3072, ((concatenate S1x8192x3072 2 [⟨S1x8192x1024, ((extractStridedSlice S1x8192x1024 ![0, 0, 3088] (m ((c.tc : Thread nD τ).loc main_arg0)) slices_S1x8192x9248_S1x8192x1024_0_0_3088) : (⟨S1x8192x1024, .f32⟩ : BufTy).Contents (Elt Ideal))⟩, ⟨S1x8192x1024, ((extractStridedSlice S1x8192x1024 ![0, 0, 4112] (m ((c.tc : Thread nD τ).loc main_arg0)) slices_S1x8192x9248_S1x8192x1024_0_0_4112) : (⟨S1x8192x1024, .f32⟩ : BufTy).Contents (Elt Ideal))⟩, ⟨S1x8192x1024, ((extractStridedSlice S1x8192x1024 ![0, 0, 5136] (m ((c.tc : Thread nD τ).loc main_arg0)) slices_S1x8192x9248_S1x8192x1024_0_0_5136) : (⟨S1x8192x1024, .f32⟩ : BufTy).Contents (Elt Ideal))⟩] concatenates_S1x8192x1024_S1x8192x1024_S1x8192x1024_S1x8192x3072_d2 : (⟨S1x8192x3072, .f32⟩ : BufTy).Contents (Elt Ideal)))⟩] concatenates_S1x3x3072_S1x8192x3072_S1x8195x3072_d1)

theorem xp_at (n : Fin 8195) (j : Fin 3072) : xp m c (ix3 0 n j) = if h : n.val < 3 then 0 else inp m c ⟨n.val - 3, by omega⟩ j := by
  unfold xp inp
  pointwise
  by_cases h : n.val < 3
  · rw [dif_pos h, dif_pos h]
  · rw [dif_neg h, dif_neg h]
    by_cases h1 : j.val < 1024
    · rw [dif_pos h1]
    · rw [dif_neg h1]
      by_cases h2 : j.val - 1024 < 1024
      · rw [dif_pos h2]
        refine congrArg (fun x => m ((c : Thread nD τ).loc main_arg0) (ix3 0 (⟨n.val - 3, by omega⟩ : Fin 8192) x)) (Fin.ext ?_)
        show 4112 + (j.val - 1024) = 3088 + j.val
        omega
      · rw [dif_neg h2]
        refine congrArg (fun x => m ((c : Thread nD τ).loc main_arg0) (ix3 0 (⟨n.val - 3, by omega⟩ : Fin 8192) x)) (Fin.ext ?_)
        show 5136 + (j.val - 1024 - 1024) = 3088 + j.val
        omega

/-- The weights' gradient as the run leaves it, over the padded input. -/
def dwTerm : Buf (Elt Ideal) ((c.tc : Thread nD τ).loc main_v91) :=  concatenate S8x3072 0 [⟨S4x3072, (addf (addf (addf (pad S4x3072 ![3, 0] ![0, 0] ![0, 0] (broadcastInDim S1x3072 ![1] bcast_S3072_S1x3072_1 (colSum (mulf (F := Ideal) (φ := .f32) (extractStridedSlice S1x8192x3072 ![0, 3, 0] (xp m c) slices_S1x8195x3072_S1x8192x3072_0_3_0) (shapeCast _ (m ((c.tc : Thread nD τ).loc main_arg2)) shapeCasts_S1x8192x3072_S1x8192x3072)))) (constant (F := Ideal) S_ .f32 0x00000000#32) pads_S1x3072_S4x3072_300_000 h_S_) (pad S4x3072 ![2, 0] ![1, 0] ![0, 0] (broadcastInDim S1x3072 ![1] bcast_S3072_S1x3072_1 (colSum (mulf (F := Ideal) (φ := .f32) (extractStridedSlice S1x8192x3072 ![0, 2, 0] (xp m c) slices_S1x8195x3072_S1x8192x3072_0_2_0) (shapeCast _ (m ((c.tc : Thread nD τ).loc main_arg2)) shapeCasts_S1x8192x3072_S1x8192x3072)))) (constant (F := Ideal) S_ .f32 0x00000000#32) pads_S1x3072_S4x3072_210_000 h_S_)) (pad S4x3072 ![1, 0] ![2, 0] ![0, 0] (broadcastInDim S1x3072 ![1] bcast_S3072_S1x3072_1 (colSum (mulf (F := Ideal) (φ := .f32) (extractStridedSlice S1x8192x3072 ![0, 1, 0] (xp m c) slices_S1x8195x3072_S1x8192x3072_0_1_0) (shapeCast _ (m ((c.tc : Thread nD τ).loc main_arg2)) shapeCasts_S1x8192x3072_S1x8192x3072)))) (constant (F := Ideal) S_ .f32 0x00000000#32) pads_S1x3072_S4x3072_120_000 h_S_)) (pad S4x3072 ![0, 0] ![3, 0] ![0, 0] (broadcastInDim S1x3072 ![1] bcast_S3072_S1x3072_1 (colSum (mulf (F := Ideal) (φ := .f32) (extractStridedSlice S1x8192x3072 ![0, 0, 0] (xp m c) slices_S1x8195x3072_S1x8192x3072_0_0_0) (shapeCast _ (m ((c.tc : Thread nD τ).loc main_arg2)) shapeCasts_S1x8192x3072_S1x8192x3072)))) (constant (F := Ideal) S_ .f32 0x00000000#32) pads_S1x3072_S4x3072_030_000 h_S_))⟩, ⟨S4x3072, (broadcastInDim S4x3072 ![] bcast_S_S4x3072 (constant (F := Ideal) S_ .f32 0x00000000#32))⟩] concatenates_S4x3072_S4x3072_S8x3072_d0

theorem res_eq : res_main_v91 m c = dwTerm m c := rfl

/-- Three rows of zeros over a sequence, each row times the cotangent `s` rows further up. -/
theorem tap_sum (s : ℕ) (hs : s ≤ 3) (j : Fin 3072) :
    ∑ t : Fin 8192, xp m c (ix3 0 ⟨s + t.val, by omega⟩ j) * m ((c : Thread nD τ).loc main_arg2) (ix3 0 t j)
      = ∑ n : Fin 8192, ctz m c (n.val + (3 - s)) j * inp m c n j := by
  have h := sum_shift 8192 (3 - s) (by omega) (fun n => if h : n < 8192 then inp m c ⟨n, h⟩ j else 0) (fun n => ctz m c n j)
    (fun n hn => dif_neg (by omega))
  refine Eq.trans (Finset.sum_congr rfl fun t _ => ?_) (h.trans (Finset.sum_congr rfl fun n _ => ?_))
  · rw [xp_at]
    refine congrArg₂ (· * ·) ?_ ((dif_pos t.isLt).symm : _ = ctz m c t.val j)
    by_cases hc : t.val < 3 - s
    · rw [dif_pos (by dsimp only; omega), if_pos hc]
    · rw [dif_neg (by dsimp only; omega), if_neg hc, dif_pos (by omega)]
      refine congrArg (inp m c · j) (Fin.ext ?_)
      dsimp only
      omega
  · exact congrArg (ctz m c (n.val + (3 - s)) j * ·) (dif_pos n.isLt)

theorem tap_top (j : Fin 3072) :
    ∑ t : Fin 8192, xp m c (ix3 0 ⟨t.val, by omega⟩ j) * m ((c : Thread nD τ).loc main_arg2) (ix3 0 t j)
      = ∑ n : Fin 8192, ctz m c (n.val + 3) j * inp m c n j := by
  refine Eq.trans (Finset.sum_congr rfl fun t _ => ?_) (tap_sum m c 0 (by decide) j)
  refine congrArg (fun x => xp m c (ix3 0 x j) * _) (Fin.ext ?_)
  show t.val = 0 + t.val
  omega

theorem dw_at (k : Fin 8) (j : Fin 3072) :
    dwTerm m c (ix2 k j) = if k.val < 4 then ∑ n : Fin 8192, ctz m c (n.val + (3 - k.val)) j * inp m c n j else 0 := by
  unfold dwTerm
  pointwise
  simp only [colSum_at]
  pointwise
  by_cases h : k.val < 4
  · rw [dif_pos h, if_pos h]
    rcases (by omega : k.val = 0 ∨ k.val = 1 ∨ k.val = 2 ∨ k.val = 3) with e | e | e | e
    · rw [dif_neg (by omega), dif_neg (by omega), dif_neg (by omega), dif_pos (by omega), zero_add, zero_add, zero_add, e]
      exact tap_top m c j
    · rw [dif_neg (by omega), dif_neg (by omega), dif_pos (by omega), dif_neg (by omega), zero_add, zero_add, add_zero, e]
      exact tap_sum m c 1 (by decide) j
    · rw [dif_neg (by omega), dif_pos (by omega), dif_neg (by omega), dif_neg (by omega), zero_add, add_zero, add_zero, e]
      exact tap_sum m c 2 (by decide) j
    · rw [dif_pos (by omega), dif_neg (by omega), dif_neg (by omega), dif_neg (by omega), add_zero, add_zero, add_zero, e]
      exact tap_sum m c 3 (by decide) j
  · rw [dif_neg h, if_neg h]

/-- The reference's run. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v89) = dxTerm m c ∧ r.2.mem ((c.tc : Thread nD τ).loc main_v91) = dwTerm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := Value.run m ρ

end Cert.ConvProof.Ref
-- ==== Proof.Conv.Claim.lean ====
/- The convolution's backward call leaves what the reference's derivative leaves. -/
module
public import proofs.«01_k».proof.Proof.Conv.Final
public import proofs.«01_k».proof.Proof.Conv.Ref
public import proofs.«01_k».proof.Defs
public import Idealize.ShloMosaic.Lib.Claim

@[expose] public section

set_option maxRecDepth 16384

noncomputable section

namespace Cert.ConvProof

open Idealize.ShloMosaic Idealize.ShloMosaic.TcCoe Idealize.SL.Sem

section Agree

variable (m : (ℓ : Loc Cert.ConvIdeal.nD Cert.ConvIdeal.τ Cert.ConvIdeal.sig) → Buf (Elt Ideal) ℓ)
  (m' : (ℓ : Loc Cert.ConvRefIdeal.nD Cert.ConvRefIdeal.τ Cert.ConvRefIdeal.sig) → Buf (Elt Ideal) ℓ) (c : Dev Cert.ConvIdeal.nD)

theorem ctz_eq (h : m' ((c.tc : Thread Cert.ConvRefIdeal.nD Cert.ConvRefIdeal.τ).loc Cert.ConvRefIdeal.main_arg2)
      = m ((c.tc : Thread Cert.ConvIdeal.nD Cert.ConvIdeal.τ).loc Cert.ConvIdeal.main_arg2)) (n : ℕ) (j : Fin 3072) :
    Ref.ctz m' c n j = ctz m c n j := by
  unfold Ref.ctz ctz Ref.ct ct
  rw [h]

theorem wt_eq (h : m' ((c.tc : Thread Cert.ConvRefIdeal.nD Cert.ConvRefIdeal.τ).loc Cert.ConvRefIdeal.main_arg1)
      = m ((c.tc : Thread Cert.ConvIdeal.nD Cert.ConvIdeal.τ).loc Cert.ConvIdeal.main_arg1)) (k : Fin 4) (j : Fin 3072) :
    Ref.wt m' c k j = wt m c k j := congrFun h _

theorem inp_eq (h : m' ((c.tc : Thread Cert.ConvRefIdeal.nD Cert.ConvRefIdeal.τ).loc Cert.ConvRefIdeal.main_arg0)
      = m ((c.tc : Thread Cert.ConvIdeal.nD Cert.ConvIdeal.τ).loc Cert.ConvIdeal.main_arg0)) (n : Fin 8192) (j : Fin 3072) :
    Ref.inp m' c n j = inp m c n j := congrFun h _

theorem dx_pt (h1 : m' ((c.tc : Thread Cert.ConvRefIdeal.nD Cert.ConvRefIdeal.τ).loc Cert.ConvRefIdeal.main_arg1)
      = m ((c.tc : Thread Cert.ConvIdeal.nD Cert.ConvIdeal.τ).loc Cert.ConvIdeal.main_arg1))
    (h2 : m' ((c.tc : Thread Cert.ConvRefIdeal.nD Cert.ConvRefIdeal.τ).loc Cert.ConvRefIdeal.main_arg2)
      = m ((c.tc : Thread Cert.ConvIdeal.nD Cert.ConvIdeal.τ).loc Cert.ConvIdeal.main_arg2)) (r : Fin 8192) (j : Fin 3072) :
    Ref.dxTerm m' c (ix2 r j) = dxAt m c r.val j := by
  refine (Ref.dx_at m' c r j).trans ?_
  rw [ctz_eq m m' c h2, ctz_eq m m' c h2, ctz_eq m m' c h2, ctz_eq m m' c h2, wt_eq m m' c h1, wt_eq m m' c h1, wt_eq m m' c h1, wt_eq m m' c h1]
  rfl

theorem dw_pt (h0 : m' ((c.tc : Thread Cert.ConvRefIdeal.nD Cert.ConvRefIdeal.τ).loc Cert.ConvRefIdeal.main_arg0)
      = m ((c.tc : Thread Cert.ConvIdeal.nD Cert.ConvIdeal.τ).loc Cert.ConvIdeal.main_arg0))
    (h2 : m' ((c.tc : Thread Cert.ConvRefIdeal.nD Cert.ConvRefIdeal.τ).loc Cert.ConvRefIdeal.main_arg2)
      = m ((c.tc : Thread Cert.ConvIdeal.nD Cert.ConvIdeal.τ).loc Cert.ConvIdeal.main_arg2)) (k : Fin 8) (j : Fin 3072) :
    Ref.dwTerm m' c (ix2 k j) = dwAt m c k j := by
  refine (Ref.dw_at m' c k j).trans ?_
  unfold dwAt
  simp only [ctz_eq m m' c h2, inp_eq m m' c h0]

theorem dx_eq (h1 : m' ((c.tc : Thread Cert.ConvRefIdeal.nD Cert.ConvRefIdeal.τ).loc Cert.ConvRefIdeal.main_arg1)
      = m ((c.tc : Thread Cert.ConvIdeal.nD Cert.ConvIdeal.τ).loc Cert.ConvIdeal.main_arg1))
    (h2 : m' ((c.tc : Thread Cert.ConvRefIdeal.nD Cert.ConvRefIdeal.τ).loc Cert.ConvRefIdeal.main_arg2)
      = m ((c.tc : Thread Cert.ConvIdeal.nD Cert.ConvIdeal.τ).loc Cert.ConvIdeal.main_arg2)) :
    Ref.dxTerm m' c = (Cert.ConvIdeal.Gen.dats m 0 c).arrAt 5 Cert.ConvIdeal.cfg0.N := by
  rw [final_dx]
  refine funext fun i => ?_
  have hi : i = ix2 (i 0) (i 1) := by
    funext a
    match a with
    | ⟨0, _⟩ => rfl
    | ⟨1, _⟩ => rfl
  exact (congrArg (Ref.dxTerm m' c) hi).trans (dx_pt m m' c h1 h2 (i 0) (i 1))

theorem dw_eq (h0 : m' ((c.tc : Thread Cert.ConvRefIdeal.nD Cert.ConvRefIdeal.τ).loc Cert.ConvRefIdeal.main_arg0)
      = m ((c.tc : Thread Cert.ConvIdeal.nD Cert.ConvIdeal.τ).loc Cert.ConvIdeal.main_arg0))
    (h2 : m' ((c.tc : Thread Cert.ConvRefIdeal.nD Cert.ConvRefIdeal.τ).loc Cert.ConvRefIdeal.main_arg2)
      = m ((c.tc : Thread Cert.ConvIdeal.nD Cert.ConvIdeal.τ).loc Cert.ConvIdeal.main_arg2)) :
    Ref.dwTerm m' c = (Cert.ConvIdeal.Gen.dats m 0 c).arrAt 6 Cert.ConvIdeal.cfg0.N := by
  rw [final_dw]
  refine funext fun i => ?_
  have hi : i = ix2 (i 0) (i 1) := by
    funext a
    match a with
    | ⟨0, _⟩ => rfl
    | ⟨1, _⟩ => rfl
  exact (congrArg (Ref.dwTerm m' c) hi).trans (dw_pt m m' c h0 h2 (i 0) (i 1))

end Agree

theorem algebraic : Cert.algebraic_ConvIdeal_ConvRefIdeal := by
  intro m g m' g' _ hagree
  refine ⟨fun c => (Cert.ConvIdeal.Gen.dats m 0 c).arrAt 5 Cert.ConvIdeal.cfg0.N,
    fun c => (Cert.ConvIdeal.Gen.dats m 0 c).arrAt 6 Cert.ConvIdeal.cfg0.N, Cert.ConvIdeal.Value.run_blocks m g, ?_⟩
  exact (θ_run Cert.ConvRefIdeal.defs _ _).mono
    (fun r h c => ⟨(h c).1.trans (dx_eq m m' c (hagree c).2.1 (hagree c).2.2), (h c).2.1.trans (dw_eq m m' c (hagree c).1 (hagree c).2.2), (h c).2.2⟩)
    (Ref.run m' g')

end Cert.ConvProof
-- ==== Proof.Lib.NormBack.lean ====
/- The backward pass of a root-mean-square norm over a row of 1024 entries: the product form a kernel computes and the chain
   rule's form are one value when the row, its cotangent and the weight are finite. -/
module

public import Idealize.ShloMosaic.PureOps.Ideal
public import Idealize.ShloMosaic.Lib.IdealHost
public import Idealize.ShloMosaic.Lib.Pointwise
public import Mathlib.Tactic.FieldSimp
public import Mathlib.Tactic.Ring
public import Mathlib.Tactic.Positivity

@[expose] public section

noncomputable section

namespace Cert.NormBack

open Idealize.ShloMosaic

theorem coe_sum {n : ℕ} (f : Fin n → ℝ) : ∑ l, ((f l : ℝ) : EReal) = ((∑ l, f l : ℝ) : EReal) := by
  induction n with
  | zero => simp
  | succ n ih => rw [Fin.sum_univ_succ, Fin.sum_univ_succ, ih, EReal.coe_add]

/-- A value smaller than infinity in size is a real. -/
theorem real_of_abs (x : EReal) (h : max x (-x) < ⊤) : ∃ r : ℝ, x = r := by
  induction x using EReal.rec with
  | bot => exact absurd h (by simp)
  | top => exact absurd h (by simp)
  | coe r => exact ⟨r, rfl⟩

/-- An array all of whose entries are flagged smaller than infinity in size holds reals. -/
theorem real_of_flag {S : Shape} (x y : FVec Ideal S .f32) (hy : ∀ i, y i = Ideal.ofBits .f32 0x7F800000#32)
    (h : cmpf .olt (Host.absf x) y = fun _ => 1#1) (i : S.Idx) : ∃ r : ℝ, x i = r := by
  refine real_of_abs (x i) ?_
  have e := congrFun h i
  pointwise at e
  rw [hy i, show Ideal.ofBits .f32 0x7F800000#32 = ⊤ by simp [Ideal.ofBits, Ideal.ieee]] at e
  by_contra hn
  rw [show decide (FloatOps.absf (x i) < (⊤ : EReal)) = false from decide_eq_false hn] at e
  exact absurd e (by decide)

theorem real_add {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem real_sum {n : ℕ} {f : Fin n → EReal} (h : ∀ i, ∃ r : ℝ, f i = r) : ∃ r : ℝ, ∑ i, f i = r := by
  choose g hg using h
  exact ⟨∑ i, g i, by rw [← coe_sum]; exact Finset.sum_congr rfl fun i _ => hg i⟩

theorem c1024 : Ideal.ofBits .f32 0x44800000#32 = ((1024 : ℝ) : EReal) := by
  simp [Ideal.ofBits, Ideal.ieee, -EReal.coe_mul, -EReal.coe_neg]
  norm_num

theorem cneghalf : Ideal.ofBits .f32 0xBF000000#32 = ((-(1 / 2) : ℝ) : EReal) := by
  simp [Ideal.ofBits, Ideal.ieee, -EReal.coe_mul, -EReal.coe_neg]
  norm_num

theorem ceps : ∃ e : ℝ, 0 < e ∧ Ideal.ofBits .f32 0x358637BD#32 = (e : EReal) := by
  refine ⟨_, ?_, by simp [Ideal.ofBits, Ideal.ieee]; rfl⟩
  norm_num

/-- The mean of a row's squares and the norm's small constant. -/
def meanSq (x : Fin 1024 → EReal) : EReal :=
  Ideal.div (∑ l, x l * x l) (Ideal.ofBits .f32 0x44800000#32) + Ideal.ofBits .f32 0x358637BD#32

/-- The norm's factor of a row. -/
def rs (x : Fin 1024 → EReal) : EReal := Ideal.rsqrt (meanSq x)

/-- The row's gradient in the kernel's form: the factor times the cotangent less its part along the row. -/
def back (x d w : Fin 1024 → EReal) (j : Fin 1024) : EReal :=
  rs x * (d j * w j - x j * rs x * Ideal.div (∑ l, d l * w l * (x l * rs x)) (Ideal.ofBits .f32 0x44800000#32))

/-- The gradient of the squares' mean, by the chain rule. -/
def slope (x d w : Fin 1024 → EReal) : EReal :=
  Ideal.div ((∑ l, x l * (d l * w l)) * (Ideal.ofBits .f32 0xBF000000#32 * Ideal.div (rs x) (meanSq x))) (Ideal.ofBits .f32 0x44800000#32)

/-- The factor of a finite row is a real. -/
theorem rs_real {x : Fin 1024 → EReal} (hx : ∀ l, ∃ r : ℝ, x l = r) : ∃ r : ℝ, rs x = r := by
  choose x' hx using hx
  obtain rfl : x = fun l => (x' l : EReal) := funext hx
  obtain ⟨e, he, hee⟩ := ceps
  have hv : 0 < (∑ l, x' l * x' l) * (1 / 1024) + e :=
    add_pos_of_nonneg_of_pos (mul_nonneg (Finset.sum_nonneg fun l _ => mul_self_nonneg _) (by norm_num)) he
  have hm : meanSq (fun l => (x' l : EReal)) = (((∑ l, x' l * x' l) * (1 / 1024) + e : ℝ) : EReal) := by
    unfold meanSq
    rw [c1024, hee, Ideal.div_coe (by norm_num)]
    simp only [← EReal.coe_mul, coe_sum, ← EReal.coe_add]
  unfold rs
  rw [hm, Ideal.rsqrt_coe, if_neg (not_lt.2 hv.le), if_neg hv.ne']
  exact ⟨_, rfl⟩

theorem chain_eq (y : EReal) (x d w : Fin 1024 → EReal) (hx : ∀ l, ∃ r : ℝ, x l = r) (hd : ∀ l, ∃ r : ℝ, d l = r)
    (hw : ∀ l, ∃ r : ℝ, w l = r) (j : Fin 1024) :
    y + d j * w j * rs x + x j * slope x d w + slope x d w * x j = y + back x d w j := by
  choose x' hx using hx
  choose d' hd using hd
  choose w' hw using hw
  obtain rfl : x = fun l => (x' l : EReal) := funext hx
  obtain rfl : d = fun l => (d' l : EReal) := funext hd
  obtain rfl : w = fun l => (w' l : EReal) := funext hw
  obtain ⟨e, he, hee⟩ := ceps
  have hv : 0 < (∑ l, x' l * x' l) * (1 / 1024) + e :=
    add_pos_of_nonneg_of_pos (mul_nonneg (Finset.sum_nonneg fun l _ => mul_self_nonneg _) (by norm_num)) he
  have hm : meanSq (fun l => (x' l : EReal)) = (((∑ l, x' l * x' l) * (1 / 1024) + e : ℝ) : EReal) := by
    unfold meanSq
    rw [c1024, hee, Ideal.div_coe (by norm_num)]
    simp only [← EReal.coe_mul, coe_sum, ← EReal.coe_add]
  generalize (∑ l, x' l * x' l) * (1 / 1024) + e = v at hm hv
  have hr : rs (fun l => (x' l : EReal)) = (((Real.sqrt v)⁻¹ : ℝ) : EReal) := by
    unfold rs
    rw [hm, Ideal.rsqrt_coe, if_neg (not_lt.2 hv.le), if_neg hv.ne']
  have hsq : (Real.sqrt v)⁻¹ * (Real.sqrt v)⁻¹ = 1 / v := by
    rw [← mul_inv, Real.mul_self_sqrt hv.le, one_div]
  unfold back slope
  rw [hm, hr, c1024, cneghalf, Ideal.div_coe hv.ne']
  generalize (Real.sqrt v)⁻¹ = r at hsq
  rw [Ideal.div_coe (by norm_num), Ideal.div_coe (by norm_num)]
  simp only [← EReal.coe_mul, coe_sum, ← EReal.coe_sub, add_assoc, ← EReal.coe_add]
  refine congrArg (fun z : ℝ => y + (z : EReal)) ?_
  have hs : ∑ l, d' l * w' l * (x' l * r) = r * ∑ l, x' l * (d' l * w' l) := by
    rw [Finset.mul_sum]
    exact Finset.sum_congr rfl fun l _ => by ring
  rw [hs]
  generalize ∑ l, x' l * (d' l * w' l) = S
  rw [← hsq]
  ring

end Cert.NormBack
-- ==== Proof.FfnIn.Pay.lean ====
/- One grid point of the feed-forward input gradient: what its stored values are, entry by entry. -/
module

public import proofs.«01_k».proof.Proof.Gen.FfnInIdeal.Skeleton
public import Idealize.ShloMosaic.Lib.Pointwise
public import proofs.«01_k».proof.Proof.Lib.NormBack
public import Idealize.ShloMosaic.Lib.ValueIdx

@[expose] public section

set_option maxRecDepth 16384

noncomputable section

namespace Cert.FfnInProof

open Idealize.ShloMosaic Cert.FfnInIdeal Cert.FfnInIdeal.Gen

theorem pay6_at (a b : Vec Ideal S1x512x704 .bf16) (v w : Vec Ideal S1x1024x704 .bf16) (r : Fin 512) (j : Fin 1024) :
    k0_pay6 (F := Ideal) a v b w (ix2 r j) = ∑ x, a (ix3 0 r x) * v (ix3 0 j x) + ∑ x, b (ix3 0 r x) * w (ix3 0 j x) := by
  pointwise [k0_pay6]

theorem pay7_at (a b : Vec Ideal S1x512x704 .bf16) (v w : Vec Ideal S1x1024x704 .bf16) (r : Fin 512) (j : Fin 1024) :
    k0_pay7 (F := Ideal) a v b w (ix2 r j) = ∑ x, a (ix3 0 r x) * v (ix3 0 j x) + ∑ x, b (ix3 0 r x) * w (ix3 0 j x) := by
  pointwise [k0_pay7]

theorem pay8_at (a0 a1 b0 b1 : Vec Ideal S1x512x704 .bf16) (v w v2 w2 : Vec Ideal S1x1024x704 .bf16) (s t : FVec Ideal S512x1024 .f32)
    (r : Fin 512) (j : Fin 1024) :
    k0_pay8 (F := Ideal) s t a0 v a1 w b0 v2 b1 w2 (ix2 r j)
      = s (ix2 r j) + t (ix2 r j) + (∑ x, a0 (ix3 0 r x) * v (ix3 0 j x) + ∑ x, a1 (ix3 0 r x) * w (ix3 0 j x))
        + (∑ x, b0 (ix3 0 r x) * v2 (ix3 0 j x) + ∑ x, b1 (ix3 0 r x) * w2 (ix3 0 j x)) := by
  pointwise [k0_pay8]

theorem pay5_at (j : Fin 1024) : k0_pay5 (F := Ideal) (ix2 0 j) = 0 := by
  pointwise [k0_pay5]

theorem pay3_at (d x : FVec Ideal S512x1024 .f32) (acc : Vec Ideal S1x1024 .f32) (j : Fin 1024) :
    k0_pay3 (F := Ideal) d (k0_pay9 (F := Ideal) x) (k0_pay10 (F := Ideal) x) acc (ix2 0 j)
      = acc (ix2 0 j) + ∑ r : Fin 512, d (ix2 r j) * (x (ix2 r j) * NormBack.rs fun l => x (ix2 r l)) := by
  pointwise [k0_pay3, k0_pay2, k0_pay1, k0_pay9, k0_pay10]
  rfl

theorem pay4_at (d x : FVec Ideal S512x1024 .f32) (w : Vec Ideal S1x1024 .f32) (dh : Vec Ideal S512x1024 .f32) (r : Fin 512) (j : Fin 1024) :
    k0_pay4 (F := Ideal) d (k0_pay9 (F := Ideal) x) (k0_pay10 (F := Ideal) x) w dh (ix2 r j)
      = dh (ix2 r j) + NormBack.back (fun l => x (ix2 r l)) (fun l => d (ix2 r l)) (fun l => w (ix2 0 l)) j := by
  pointwise [k0_pay4, k0_pay2, k0_pay1, k0_pay9, k0_pay10]
  rfl

end Cert.FfnInProof
-- ==== Proof.FfnIn.Entry.lean ====
/- The arrays the feed-forward input gradient is launched over, entry by entry in the program's own arguments, and the block each
   point sees of them. -/
module

public import proofs.«01_k».proof.Proof.Gen.FfnInIdeal.Value
public import Idealize.ShloMosaic.Lib.Pipeline.ValueKit
public import Idealize.ShloMosaic.Lib.StableHlo.ReadAt
public import Idealize.ShloMosaic.Lib.Pointwise

@[expose] public section

set_option maxRecDepth 16384

noncomputable section

namespace Cert.FfnInProof

open Idealize.ShloMosaic Idealize.ShloMosaic.TcCoe Idealize.SL.Sem Cert.FfnInIdeal Cert.FfnInIdeal.Gen
open Idealize.ShloMosaic.Pipeline (Dat)

variable (m : (ℓ : Loc nD τ sig) → Buf (Elt Ideal) ℓ) (c : Dev nD)

/-- The cotangent of the residual stream. -/
def dh (r : Fin 8192) (j : Fin 1024) : EReal := m ((c : Thread nD τ).loc main_arg0) (ix3 0 r j)

/-- The norm's input. -/
def hid (r : Fin 8192) (j : Fin 1024) : EReal := m ((c : Thread nD τ).loc main_arg1) (ix3 0 r j)

/-- The norm's weight. -/
def nw (j : Fin 1024) : EReal := m ((c : Thread nD τ).loc main_arg2) (ix2 0 j)

/-- The cotangents of the two projections. -/
def dg (r : Fin 8192) (k : Fin 2816) : EReal := m ((c : Thread nD τ).loc main_arg3) (ix3 0 r k)
def du (r : Fin 8192) (k : Fin 2816) : EReal := m ((c : Thread nD τ).loc main_arg4) (ix3 0 r k)

/-- The two projections' weights. -/
def wg (j : Fin 1024) (k : Fin 2816) : EReal := m ((c : Thread nD τ).loc main_arg5) (ix2 j k)
def wu (j : Fin 1024) (k : Fin 2816) : EReal := m ((c : Thread nD τ).loc main_arg6) (ix2 j k)

/-- Column `x` of the `s`-th of four column groups. -/
def col (s : Fin 4) (x : Fin 704) : Fin 2816 := ⟨s.val * 704 + x.val, by omega⟩

theorem entry_dh (r : Fin 8192) (l : Fin 1024) : V m c main_v0 (ix2 r l) = dh m c r l := by
  unfold V dh
  after_reads_at

theorem entry_hid (r : Fin 8192) (l : Fin 1024) : V m c main_v1 (ix2 r l) = hid m c r l := by
  unfold V hid
  after_reads_at

theorem entry_nw (l : Fin 1024) : V m c main_arg2 (ix2 0 l) = nw m c l := by
  unfold V nw
  after_reads_at

theorem entry_dg (s : Fin 4) (r : Fin 8192) (x : Fin 704) : V m c main_v5 (ix3 s r x) = dg m c r (col s x) := by
  unfold V dg col
  after_reads_at

theorem entry_du (s : Fin 4) (r : Fin 8192) (x : Fin 704) : V m c main_v9 (ix3 s r x) = du m c r (col s x) := by
  unfold V du col
  after_reads_at

theorem entry_wg (s : Fin 4) (j : Fin 1024) (x : Fin 704) : V m c main_v12 (ix3 s j x) = wg m c j (col s x) := by
  unfold V wg col
  after_reads_at

theorem entry_wu (s : Fin 4) (j : Fin 1024) (x : Fin 704) : V m c main_v15 (ix3 s j x) = wu m c j (col s x) := by
  unfold V wu col
  after_reads_at

theorem idx : ∀ t : Fin cfg0.N, win0_0.index t = ![t.val, 0] ∧ win0_1.index t = ![t.val, 0] ∧ win0_2.index t = ![0, 0]
    ∧ win0_3.index t = ![0, t.val, 0] ∧ win0_4.index t = ![0, t.val, 0] ∧ win0_5.index t = ![t.val, 0] ∧ win0_6.index t = ![0, 0] :=
  (by decide +kernel : ∀ t : Fin grid0.N, _)

/-- Row `r` of the block that point `t` works on, as a row of the arrays. -/
def row (t : Fin cfg0.N) (r : Fin 512) : Fin 8192 :=
  ⟨t.val * 512 + r.val, by have hN := lt_of_lt_of_eq t.isLt (show cfg0.N = 16 from N_0); omega⟩

theorem blk_dh (t : Fin cfg0.N) (r : Fin 512) (l : Fin 1024) : iblk m c 0 t (ix2 r l) = dh m c (row t r) l := by
  refine Eq.trans ?_ (entry_dh m c (row t r) l)
  unfold row
  blk_ext [iblk, idx t]

theorem blk_hid (t : Fin cfg0.N) (r : Fin 512) (l : Fin 1024) : iblk m c 1 t (ix2 r l) = hid m c (row t r) l := by
  refine Eq.trans ?_ (entry_hid m c (row t r) l)
  unfold row
  blk_ext [iblk, idx t]

theorem blk_nw (t : Fin cfg0.N) (l : Fin 1024) : iblk m c 2 t (ix2 0 l) = nw m c l := by
  refine Eq.trans ?_ (entry_nw m c l)
  blk_ext [iblk, idx t]

theorem blk_dg (t : Fin cfg0.N) (s : Fin 4) (r : Fin 512) (x : Fin 704) : iblk m c 3 t (ix3 s r x) = dg m c (row t r) (col s x) := by
  refine Eq.trans ?_ (entry_dg m c s (row t r) x)
  unfold row
  blk_ext [iblk, idx t]

theorem blk_du (t : Fin cfg0.N) (s : Fin 4) (r : Fin 512) (x : Fin 704) : iblk m c 4 t (ix3 s r x) = du m c (row t r) (col s x) := by
  refine Eq.trans ?_ (entry_du m c s (row t r) x)
  unfold row
  blk_ext [iblk, idx t]

end Cert.FfnInProof
-- ==== Proof.Lib.Groups.lean ====
/- Loads of a buffer that one store has filled, whole or one of four groups at a time. -/
module

public import Idealize.ShloMosaic.Lib.Pipeline.ReadBack
public import Idealize.ShloMosaic.Lib.Pipeline.ValueKit
public import Idealize.ShloMosaic.Lib.ValueIdx
public import Idealize.ShloMosaic.Lib.Pipeline.CanonAppend

@[expose] public section

set_option maxRecDepth 16384

noncomputable section

namespace Cert.Groups

open Idealize.ShloMosaic Idealize.ShloMosaic.TcCoe Idealize.SL.Sem

/-- A load after one store over the whole buffer reads what was stored. -/
theorem readCov_whole {Val : EltTy → Type} [∀ e, Nonempty (Val e)] {S : Shape} {e : EltTy} {sig : RefSig} {κ : Kind} {sp : Space}
    (v : View sig κ sp S e) (w : S.Idx → Val e) (R : Rect S) : v.readCov [⟨Rect.whole S, w⟩] R.toLoadRect = View.ld w R := by
  rw [View.readCov_eq_canon_ld _ _ _ (fun y => ⟨_, List.mem_cons_self, by
    show _ ∈ (Rect.whole S).set; rw [Rect.set_whole]; exact Finset.mem_univ _⟩)]
  exact congrArg (View.ld · R) (View.canon_unit_zero rfl _ w)

/-- A load of one of four groups. -/
theorem ld_group {n p : ℕ} {Val : EltTy → Type} {e : EltTy} (A : (⟨3, ![4, n, p]⟩ : Shape).Idx → Val e) (k : ℕ) (hk : k < 4)
    (inb : ∀ a, (![k, 0, 0] : Fin 3 → ℕ) a + (![1, n, p] : Fin 3 → ℕ) a ≤ (⟨3, ![4, n, p]⟩ : Shape).size a) (r : Fin n) (x : Fin p) :
    View.ld A (Rect.unit (s := ⟨3, ![4, n, p]⟩) ![k, 0, 0] ![1, n, p] inb) (ix3 0 r x) = A (ix3 ⟨k, hk⟩ r x) := by
  refine congrArg A ?_
  funext a
  match a with
  | ⟨0, _⟩ => exact Fin.ext (by show k + 1 * 0 = k; omega)
  | ⟨1, _⟩ => exact Fin.ext (by show 0 + 1 * r.val = r.val; omega)
  | ⟨2, _⟩ => exact Fin.ext (by show 0 + 1 * x.val = x.val; omega)

/-- One store over the whole buffer leaves what it stored. -/
theorem canon_whole {Val : EltTy → Type} [∀ e, Nonempty (Val e)] {S : Shape} {e : EltTy} (w : S.Idx → Val e) :
    View.canon (Val := Val) (e := e) [⟨Rect.whole S, w⟩] = w := View.canon_unit_zero rfl _ w

/-- The index a store at group `k` puts its entry `(0, r, x)` at. -/
theorem emb_group {n p : ℕ} (k : ℕ) (hk : k < 4)
    (inb : ∀ a, (![k, 0, 0] : Fin 3 → ℕ) a + (![1, n, p] : Fin 3 → ℕ) a ≤ (⟨3, ![4, n, p]⟩ : Shape).size a) (r : Fin n) (x : Fin p) :
    (Rect.unit (s := ⟨3, ![4, n, p]⟩) ![k, 0, 0] ![1, n, p] inb).emb (ix3 0 r x) = ix3 ⟨k, hk⟩ r x := by
  funext a
  match a with
  | ⟨0, _⟩ => exact Fin.ext (by show k + 1 * 0 = k; omega)
  | ⟨1, _⟩ => exact Fin.ext (by show 0 + 1 * r.val = r.val; omega)
  | ⟨2, _⟩ => exact Fin.ext (by show 0 + 1 * x.val = x.val; omega)

/-- Four stores, one per group, leave in each group what its store put there, whatever was stored before. -/
theorem canon_groups_over {n p : ℕ} {Val : EltTy → Type} [∀ e, Nonempty (Val e)] {e : EltTy} (G : (⟨3, ![4, n, p]⟩ : Shape).Idx → Val e)
    (inb3 : ∀ a, (![3, 0, 0] : Fin 3 → ℕ) a + (![1, n, p] : Fin 3 → ℕ) a ≤ (⟨3, ![4, n, p]⟩ : Shape).size a)
    (inb2 : ∀ a, (![2, 0, 0] : Fin 3 → ℕ) a + (![1, n, p] : Fin 3 → ℕ) a ≤ (⟨3, ![4, n, p]⟩ : Shape).size a)
    (inb1 : ∀ a, (![1, 0, 0] : Fin 3 → ℕ) a + (![1, n, p] : Fin 3 → ℕ) a ≤ (⟨3, ![4, n, p]⟩ : Shape).size a)
    (inb0 : ∀ a, (![0, 0, 0] : Fin 3 → ℕ) a + (![1, n, p] : Fin 3 → ℕ) a ≤ (⟨3, ![4, n, p]⟩ : Shape).size a)
    (w3 w2 w1 w0 : (⟨3, ![1, n, p]⟩ : Shape).Idx → Val e)
    (h3 : ∀ r x, w3 (ix3 0 r x) = G (ix3 3 r x)) (h2 : ∀ r x, w2 (ix3 0 r x) = G (ix3 2 r x))
    (h1 : ∀ r x, w1 (ix3 0 r x) = G (ix3 1 r x)) (h0 : ∀ r x, w0 (ix3 0 r x) = G (ix3 0 r x))
    (L : List (View.Piece Val ⟨3, ![4, n, p]⟩ e)) (s : Fin 4) (r : Fin n) (x : Fin p) :
    View.canon (Val := Val) (e := e) ([⟨Rect.unit (s := ⟨3, ![4, n, p]⟩) ![3, 0, 0] ![1, n, p] inb3, w3⟩,
      ⟨Rect.unit ![2, 0, 0] ![1, n, p] inb2, w2⟩, ⟨Rect.unit ![1, 0, 0] ![1, n, p] inb1, w1⟩,
      ⟨Rect.unit ![0, 0, 0] ![1, n, p] inb0, w0⟩] ++ L) (ix3 s r x) = G (ix3 s r x) := by
  have one : ∀ y : (⟨3, ![1, n, p]⟩ : Shape).Idx, y = ix3 0 (y 1) (y 2) := fun y => by
    funext a
    match a with
    | ⟨0, _⟩ => exact Fin.ext (by have h : (y 0).val < 1 := (y 0).isLt; show (y 0).val = 0; omega)
    | ⟨1, _⟩ => rfl
    | ⟨2, _⟩ => rfl
  have at_ : ∀ (k : ℕ) (hk : k < 4) (inb : ∀ a, (![k, 0, 0] : Fin 3 → ℕ) a + (![1, n, p] : Fin 3 → ℕ) a ≤ (⟨3, ![4, n, p]⟩ : Shape).size a)
      (w : (⟨3, ![1, n, p]⟩ : Shape).Idx → Val e) (_ : ∀ r x, w (ix3 0 r x) = G (ix3 ⟨k, hk⟩ r x)) (y : (⟨3, ![1, n, p]⟩ : Shape).Idx),
      w y = G ((Rect.unit (s := ⟨3, ![4, n, p]⟩) ![k, 0, 0] ![1, n, p] inb).emb y) := fun k hk inb w h y => by
    rw [one y]
    exact (h _ _).trans (congrArg G (emb_group k hk inb _ _).symm)
  have mem : ∀ (k : ℕ) (hk : k < 4) (inb : ∀ a, (![k, 0, 0] : Fin 3 → ℕ) a + (![1, n, p] : Fin 3 → ℕ) a ≤ (⟨3, ![4, n, p]⟩ : Shape).size a),
      ix3 ⟨k, hk⟩ r x ∈ (Rect.unit (s := ⟨3, ![4, n, p]⟩) ![k, 0, 0] ![1, n, p] inb).set := fun k hk inb => by
    rw [← emb_group k hk inb r x]
    exact LoadRect.idx_mem _ _
  refine View.canon_append_of_pieces G _ _ (fun q hq => ?_) _ ?_
  · simp only [List.mem_cons, List.not_mem_nil, or_false] at hq
    rcases hq with rfl | rfl | rfl | rfl
    · exact at_ 3 (by decide) inb3 w3 h3
    · exact at_ 2 (by decide) inb2 w2 h2
    · exact at_ 1 (by decide) inb1 w1 h1
    · exact at_ 0 (by decide) inb0 w0 h0
  · match s with
    | ⟨3, _⟩ => exact ⟨_, List.mem_cons_self, mem 3 (by decide) inb3⟩
    | ⟨2, _⟩ => exact ⟨_, List.mem_cons_of_mem _ List.mem_cons_self, mem 2 (by decide) inb2⟩
    | ⟨1, _⟩ => exact ⟨_, List.mem_cons_of_mem _ (List.mem_cons_of_mem _ List.mem_cons_self), mem 1 (by decide) inb1⟩
    | ⟨0, _⟩ => exact ⟨_, List.mem_cons_of_mem _ (List.mem_cons_of_mem _ (List.mem_cons_of_mem _ List.mem_cons_self)), mem 0 (by decide) inb0⟩

theorem canon_groups {n p : ℕ} {Val : EltTy → Type} [∀ e, Nonempty (Val e)] {e : EltTy} (G : (⟨3, ![4, n, p]⟩ : Shape).Idx → Val e)
    (inb3 : ∀ a, (![3, 0, 0] : Fin 3 → ℕ) a + (![1, n, p] : Fin 3 → ℕ) a ≤ (⟨3, ![4, n, p]⟩ : Shape).size a)
    (inb2 : ∀ a, (![2, 0, 0] : Fin 3 → ℕ) a + (![1, n, p] : Fin 3 → ℕ) a ≤ (⟨3, ![4, n, p]⟩ : Shape).size a)
    (inb1 : ∀ a, (![1, 0, 0] : Fin 3 → ℕ) a + (![1, n, p] : Fin 3 → ℕ) a ≤ (⟨3, ![4, n, p]⟩ : Shape).size a)
    (inb0 : ∀ a, (![0, 0, 0] : Fin 3 → ℕ) a + (![1, n, p] : Fin 3 → ℕ) a ≤ (⟨3, ![4, n, p]⟩ : Shape).size a)
    (w3 w2 w1 w0 : (⟨3, ![1, n, p]⟩ : Shape).Idx → Val e)
    (h3 : ∀ r x, w3 (ix3 0 r x) = G (ix3 3 r x)) (h2 : ∀ r x, w2 (ix3 0 r x) = G (ix3 2 r x))
    (h1 : ∀ r x, w1 (ix3 0 r x) = G (ix3 1 r x)) (h0 : ∀ r x, w0 (ix3 0 r x) = G (ix3 0 r x))
    (s : Fin 4) (r : Fin n) (x : Fin p) :
    View.canon (Val := Val) (e := e) [⟨Rect.unit (s := ⟨3, ![4, n, p]⟩) ![3, 0, 0] ![1, n, p] inb3, w3⟩,
      ⟨Rect.unit ![2, 0, 0] ![1, n, p] inb2, w2⟩, ⟨Rect.unit ![1, 0, 0] ![1, n, p] inb1, w1⟩,
      ⟨Rect.unit ![0, 0, 0] ![1, n, p] inb0, w0⟩] (ix3 s r x) = G (ix3 s r x) :=
  canon_groups_over G inb3 inb2 inb1 inb0 w3 w2 w1 w0 h3 h2 h1 h0 [] s r x

/-- An index of one group lies outside a store to another. -/
theorem not_mem_group {n p : ℕ} (j : ℕ)
    (inb : ∀ a, (![j, 0, 0] : Fin 3 → ℕ) a + (![1, n, p] : Fin 3 → ℕ) a ≤ (⟨3, ![4, n, p]⟩ : Shape).size a) (s : Fin 4) (h : s.val ≠ j) (r : Fin n) (x : Fin p) :
    ix3 s r x ∉ (Rect.unit (s := ⟨3, ![4, n, p]⟩) ![j, 0, 0] ![1, n, p] inb).set := by
  intro hm
  obtain ⟨y, e⟩ := (Rect.unit (s := ⟨3, ![4, n, p]⟩) ![j, 0, 0] ![1, n, p] inb).exists_idx_of_mem hm
  have h0 : (y 0).val < 1 := (y 0).isLt
  have h1 : j + 1 * (y 0).val = s.val := congrArg Fin.val (congrFun e 0)
  omega

/-- A store over the whole buffer, at offset zero, puts every entry at its own index. -/
theorem emb_all {n p : ℕ} (inb' : ∀ a, (![0, 0, 0] : Fin 3 → ℕ) a + (![4, n, p] : Fin 3 → ℕ) a ≤ (⟨3, ![4, n, p]⟩ : Shape).size a)
    (s : Fin 4) (r : Fin n) (x : Fin p) : (Rect.unit (s := ⟨3, ![4, n, p]⟩) ![0, 0, 0] ![4, n, p] inb').emb (ix3 s r x) = ix3 s r x := by
  funext a
  match a with
  | ⟨0, _⟩ => exact Fin.ext (by show 0 + 1 * s.val = s.val; omega)
  | ⟨1, _⟩ => exact Fin.ext (by show 0 + 1 * r.val = r.val; omega)
  | ⟨2, _⟩ => exact Fin.ext (by show 0 + 1 * x.val = x.val; omega)

/-- After a store over the whole buffer and stores to other groups a group holds the whole store. -/
theorem canon_over {n p : ℕ} {Val : EltTy → Type} [∀ e, Nonempty (Val e)] {e : EltTy} (w : (⟨3, ![4, n, p]⟩ : Shape).Idx → Val e)
    (inb' : ∀ a, (![0, 0, 0] : Fin 3 → ℕ) a + (![4, n, p] : Fin 3 → ℕ) a ≤ (⟨3, ![4, n, p]⟩ : Shape).size a) (s : Fin 4) (r : Fin n) (x : Fin p) :
    ∀ (L : List (View.Piece Val ⟨3, ![4, n, p]⟩ e)) (_ : ∀ q ∈ L, ix3 s r x ∉ q.1.set),
      View.canon (L ++ [⟨Rect.unit (s := ⟨3, ![4, n, p]⟩) ![0, 0, 0] ![4, n, p] inb', w⟩]) (ix3 s r x) = w (ix3 s r x)
  | [], _ => by
    have h := View.canon_cons_emb (Val := Val) (Rect.unit (s := ⟨3, ![4, n, p]⟩) ![0, 0, 0] ![4, n, p] inb') w [] (ix3 s r x)
    rw [emb_all] at h
    exact h
  | q :: L, hL => by
    rw [List.cons_append, View.canon_cons_of_not_mem _ _ (hL q List.mem_cons_self)]
    exact canon_over w inb' s r x L fun q hq => hL q (List.mem_cons_of_mem _ hq)

theorem mem_all {n p : ℕ} (inb' : ∀ a, (![0, 0, 0] : Fin 3 → ℕ) a + (![4, n, p] : Fin 3 → ℕ) a ≤ (⟨3, ![4, n, p]⟩ : Shape).size a)
    (y : (⟨3, ![4, n, p]⟩ : Shape).Idx) : y ∈ (Rect.unit (s := ⟨3, ![4, n, p]⟩) ![0, 0, 0] ![4, n, p] inb').set := by
  have e : (Rect.unit (s := ⟨3, ![4, n, p]⟩) ![0, 0, 0] ![4, n, p] inb').idx y = y := by
    funext a
    match a with
    | ⟨0, _⟩ => exact Fin.ext ((Nat.zero_add _).trans (Nat.one_mul _))
    | ⟨1, _⟩ => exact Fin.ext ((Nat.zero_add _).trans (Nat.one_mul _))
    | ⟨2, _⟩ => exact Fin.ext ((Nat.zero_add _).trans (Nat.one_mul _))
  exact e ▸ LoadRect.idx_mem _ _

/-- A load after a store over the whole buffer and other stores reads what they leave. -/
theorem readCov_over {n p : ℕ} {Val : EltTy → Type} [∀ e, Nonempty (Val e)] {e : EltTy} {sig : RefSig} {κ : Kind} {sp : Space}
    (V : View sig κ sp ⟨3, ![4, n, p]⟩ e) (w : (⟨3, ![4, n, p]⟩ : Shape).Idx → Val e)
    (inb' : ∀ a, (![0, 0, 0] : Fin 3 → ℕ) a + (![4, n, p] : Fin 3 → ℕ) a ≤ (⟨3, ![4, n, p]⟩ : Shape).size a)
    (L : List (View.Piece Val ⟨3, ![4, n, p]⟩ e)) (R : Rect ⟨3, ![4, n, p]⟩) :
    V.readCov (L ++ [⟨Rect.unit (s := ⟨3, ![4, n, p]⟩) ![0, 0, 0] ![4, n, p] inb', w⟩]) R.toLoadRect =
      View.ld (View.canon (L ++ [⟨Rect.unit (s := ⟨3, ![4, n, p]⟩) ![0, 0, 0] ![4, n, p] inb', w⟩])) R :=
  View.readCov_eq_canon_ld _ _ _ (fun y => ⟨_, List.mem_append_right _ List.mem_cons_self, mem_all inb' y⟩)

end Cert.Groups
-- ==== Proof.FfnIn.Points.lean ====
/- What every point of the feed-forward input gradient leaves in its outputs and in the two weight buffers it carries. -/
module

public import proofs.«01_k».proof.Proof.FfnIn.Pay
public import proofs.«01_k».proof.Proof.FfnIn.Entry
public import proofs.«01_k».proof.Proof.Lib.Groups
public import Idealize.ShloMosaic.Lib.Pipeline.ReadBack

@[expose] public section

set_option maxRecDepth 16384

noncomputable section

namespace Cert.FfnInProof

open Idealize.ShloMosaic Idealize.ShloMosaic.TcCoe Idealize.SL.Sem Cert.FfnInIdeal Cert.FfnInIdeal.Gen
open Idealize.ShloMosaic.Pipeline (Dat)
open Cert.Groups

variable (m : (ℓ : Loc nD τ sig) → Buf (Elt Ideal) ℓ) (c : Dev nD)

/-- The gradient at the norm's output for one block of rows: the two projections' cotangents times their weights, group by group. -/
def dnBlk (g u : Vec Ideal S4x512x704 .bf16) (v w : Vec Ideal S4x1024x704 .bf16) : FVec Ideal S512x1024 .f32 :=
  k0_pay8
    (k0_pay6 (View.ld g (Rect.unit ![0, 0, 0] ![1, 512, 704] inb_S4x512x704_S1x512x704_0_0_0))
      (View.ld v (Rect.unit ![0, 0, 0] ![1, 1024, 704] inb_S4x1024x704_S1x1024x704_0_0_0))
      (View.ld u (Rect.unit ![0, 0, 0] ![1, 512, 704] inb_S4x512x704_S1x512x704_0_0_0))
      (View.ld w (Rect.unit ![0, 0, 0] ![1, 1024, 704] inb_S4x1024x704_S1x1024x704_0_0_0)))
    (k0_pay7 (View.ld g (Rect.unit ![1, 0, 0] ![1, 512, 704] inb_S4x512x704_S1x512x704_1_0_0))
      (View.ld v (Rect.unit ![1, 0, 0] ![1, 1024, 704] inb_S4x1024x704_S1x1024x704_1_0_0))
      (View.ld u (Rect.unit ![1, 0, 0] ![1, 512, 704] inb_S4x512x704_S1x512x704_1_0_0))
      (View.ld w (Rect.unit ![1, 0, 0] ![1, 1024, 704] inb_S4x1024x704_S1x1024x704_1_0_0)))
    (View.ld g (Rect.unit ![2, 0, 0] ![1, 512, 704] inb_S4x512x704_S1x512x704_2_0_0))
    (View.ld v (Rect.unit ![2, 0, 0] ![1, 1024, 704] inb_S4x1024x704_S1x1024x704_2_0_0))
    (View.ld u (Rect.unit ![2, 0, 0] ![1, 512, 704] inb_S4x512x704_S1x512x704_2_0_0))
    (View.ld w (Rect.unit ![2, 0, 0] ![1, 1024, 704] inb_S4x1024x704_S1x1024x704_2_0_0))
    (View.ld g (Rect.unit ![3, 0, 0] ![1, 512, 704] inb_S4x512x704_S1x512x704_3_0_0))
    (View.ld v (Rect.unit ![3, 0, 0] ![1, 1024, 704] inb_S4x1024x704_S1x1024x704_3_0_0))
    (View.ld u (Rect.unit ![3, 0, 0] ![1, 512, 704] inb_S4x512x704_S1x512x704_3_0_0))
    (View.ld w (Rect.unit ![3, 0, 0] ![1, 1024, 704] inb_S4x1024x704_S1x1024x704_3_0_0))

theorem dnBlk_at (g u : Vec Ideal S4x512x704 .bf16) (v w : Vec Ideal S4x1024x704 .bf16) (r : Fin 512) (j : Fin 1024) :
    dnBlk g u v w (ix2 r j) = ∑ s : Fin 4, (∑ x, g (ix3 s r x) * v (ix3 s j x) + ∑ x, u (ix3 s r x) * w (ix3 s j x)) := by
  unfold dnBlk
  refine (pay8_at _ _ _ _ _ _ _ _ _ _ r j).trans ?_
  rw [pay6_at, pay7_at, Fin.sum_univ_four]
  refine congrArg₂ (· + ·) (congrArg₂ (· + ·) (congrArg₂ (· + ·) ?_ ?_) ?_) ?_ <;>
    exact congrArg₂ (· + ·)
      (Finset.sum_congr rfl fun x _ => congrArg₂ (· * ·) (ld_group _ _ (by decide) _ r x) (ld_group _ _ (by decide) _ j x))
      (Finset.sum_congr rfl fun x _ => congrArg₂ (· * ·) (ld_group _ _ (by decide) _ r x) (ld_group _ _ (by decide) _ j x))

/-- The gradient at the norm's output. -/
def dn (r : Fin 8192) (j : Fin 1024) : EReal := ∑ k, dg m c r k * wg m c j k + ∑ k, du m c r k * wu m c j k

theorem dn_at (t : Fin cfg0.N) (r : Fin 512) (j : Fin 1024) :
    dnBlk (iblk m c 3 t) (iblk m c 4 t) (V m c main_v12) (V m c main_v15) (ix2 r j) = dn m c (row t r) j := by
  refine (dnBlk_at _ _ _ _ r j).trans ?_
  unfold dn
  rw [← Fin.sum_mul_add_fin 4 704 (fun k => dg m c (row t r) k * wg m c j k) (by decide),
    ← Fin.sum_mul_add_fin 4 704 (fun k => du m c (row t r) k * wu m c j k) (by decide), ← Finset.sum_add_distrib]
  refine Finset.sum_congr rfl fun s _ => congrArg₂ (· + ·) (Finset.sum_congr rfl fun x _ => congrArg₂ (· * ·) ?_ ?_)
    (Finset.sum_congr rfl fun x _ => congrArg₂ (· * ·) ?_ ?_)
  · exact blk_dg m c t s r x
  · exact entry_wg m c s j x
  · exact blk_du m c t s r x
  · exact entry_wu m c s j x

/-- The first point copies the weights in. -/
theorem kept_first (t : Fin cfg0.N) (h : t.val % 16 = 0) :
    (outsAt0 m c t.val t.isLt).2.2.1 = V m c main_v12 ∧ (outsAt0 m c t.val t.isLt).2.2.2 = V m c main_v15 := by
  rw [outsAt0_A m c t h]
  dsimp only
  refine ⟨?_, ?_⟩
  · frame_out
    rw [canon_whole]
    rfl
  · frame_out
    rw [canon_whole]
    rfl

/-- Every later point leaves them. -/
theorem kept_next (t : Fin cfg0.N) (h : ¬ t.val % 16 = 0) :
    (outsAt0 m c t.val t.isLt).2.2 = (outsAt0 m c (t.val - 1) (Nat.lt_of_le_of_lt (Nat.sub_le _ _) t.isLt)).2.2 := by
  rw [outsAt0_B m c t h]
  dsimp only
  rfl

theorem kept (n : ℕ) (hn : n < cfg0.N) :
    (outsAt0 m c n hn).2.2.1 = V m c main_v12 ∧ (outsAt0 m c n hn).2.2.2 = V m c main_v15 := by
  induction n with
  | zero => exact kept_first m c ⟨0, hn⟩ rfl
  | succ n ih =>
    by_cases h : (n + 1) % 16 = 0
    · exact kept_first m c ⟨n + 1, hn⟩ h
    · have e := kept_next m c ⟨n + 1, hn⟩ h
      exact ⟨(congrArg Prod.fst e).trans (ih _).1, (congrArg Prod.snd e).trans (ih _).2⟩

theorem dx_point (t : Fin cfg0.N) (r : Fin 512) (j : Fin 1024) :
    k0_pay4 (F := Ideal) (dnBlk (iblk m c 3 t) (iblk m c 4 t) (V m c main_v12) (V m c main_v15)) (k0_pay9 (iblk m c 1 t)) (k0_pay10 (iblk m c 1 t))
      (iblk m c 2 t) (iblk m c 0 t) (ix2 r j)
      = dh m c (row t r) j + NormBack.back (hid m c (row t r)) (dn m c (row t r)) (nw m c) j := by
  refine (pay4_at _ _ _ _ r j).trans ?_
  rw [show (fun l => dnBlk (iblk m c 3 t) (iblk m c 4 t) (V m c main_v12) (V m c main_v15) (ix2 r l)) = dn m c (row t r) from
      funext fun l => dn_at m c t r l,
    show (fun l => iblk m c 1 t (ix2 r l)) = hid m c (row t r) from funext fun l => blk_hid m c t r l,
    show (fun l => iblk m c 2 t (ix2 0 l)) = nw m c from funext fun l => blk_nw m c t l]
  exact congrArg (· + _) (blk_dh m c t r j)

/-- One block's part of the weight's gradient. -/
def dwPart (t : Fin cfg0.N) (j : Fin 1024) : EReal :=
  ∑ r : Fin 512, dn m c (row t r) j * (hid m c (row t r) j * NormBack.rs (hid m c (row t r)))

theorem dw_point (t : Fin cfg0.N) (acc : Vec Ideal S1x1024 .f32) (j : Fin 1024) :
    k0_pay3 (F := Ideal) (dnBlk (iblk m c 3 t) (iblk m c 4 t) (V m c main_v12) (V m c main_v15)) (k0_pay9 (iblk m c 1 t)) (k0_pay10 (iblk m c 1 t))
      acc (ix2 0 j) = acc (ix2 0 j) + dwPart m c t j := by
  refine (pay3_at _ _ acc j).trans (congrArg (acc (ix2 0 j) + ·) (Finset.sum_congr rfl fun r _ => ?_))
  rw [dn_at, show (fun l => iblk m c 1 t (ix2 r l)) = hid m c (row t r) from funext fun l => blk_hid m c t r l]
  exact congrArg (fun z => dn m c (row t r) j * (z * _)) (blk_hid m c t r j)

theorem out_dx (t : Fin cfg0.N) (r : Fin 512) (j : Fin 1024) :
    (outsAt0 m c t.val t.isLt).1 (ix2 r j) = dh m c (row t r) j + NormBack.back (hid m c (row t r)) (dn m c (row t r)) (nw m c) j := by
  refine Eq.trans ?_ (dx_point m c t r j)
  by_cases h : t.val % 16 = 0
  · rw [outsAt0_A m c t h]
    dsimp only
    frame_out
    simp only [readCov_whole]
    rfl
  · rw [outsAt0_B m c t h]
    dsimp only
    frame_out
    simp only [read_unread_whole, (kept m c (t.val - 1) (Nat.lt_of_le_of_lt (Nat.sub_le _ _) t.isLt)).1,
      (kept m c (t.val - 1) (Nat.lt_of_le_of_lt (Nat.sub_le _ _) t.isLt)).2]
    rfl

theorem out_dw_first (t : Fin cfg0.N) (h : t.val % 16 = 0) (j : Fin 1024) :
    (outsAt0 m c t.val t.isLt).2.1 (ix2 0 j) = 0 + dwPart m c t j := by
  refine Eq.trans ?_ ((dw_point m c t (k0_pay5 (F := Ideal)) j).trans (congrArg (· + _) (pay5_at j)))
  rw [outsAt0_A m c t h]
  dsimp only
  frame_out
  simp only [readCov_whole]
  rfl

theorem out_dw_next (t : Fin cfg0.N) (h : ¬ t.val % 16 = 0) (j : Fin 1024) :
    (outsAt0 m c t.val t.isLt).2.1 (ix2 0 j)
      = (outsAt0 m c (t.val - 1) (Nat.lt_of_le_of_lt (Nat.sub_le _ _) t.isLt)).2.1 (ix2 0 j) + dwPart m c t j := by
  refine Eq.trans ?_ (dw_point m c t _ j)
  rw [outsAt0_B m c t h]
  dsimp only
  frame_out
  simp only [read_unread_whole, (kept m c (t.val - 1) (Nat.lt_of_le_of_lt (Nat.sub_le _ _) t.isLt)).1,
    (kept m c (t.val - 1) (Nat.lt_of_le_of_lt (Nat.sub_le _ _) t.isLt)).2]
  rfl

end Cert.FfnInProof
-- ==== Proof.FfnIn.Final.lean ====
/- The two arrays the feed-forward input gradient leaves: the input's gradient row by row, and the norm weight's gradient as one sum
   over all rows. -/
module

public import proofs.«01_k».proof.Proof.FfnIn.Points

@[expose] public section

set_option maxRecDepth 16384

noncomputable section

namespace Cert.FfnInProof

open Idealize.ShloMosaic Idealize.ShloMosaic.TcCoe Idealize.SL.Sem Cert.FfnInIdeal Cert.FfnInIdeal.Gen
open Idealize.ShloMosaic.Pipeline (Dat)

variable (m : (ℓ : Loc nD τ sig) → Buf (Elt Ideal) ℓ) (c : Dev nD)

/-- The input's gradient. -/
def dxAt (r : Fin 8192) (j : Fin 1024) : EReal := dh m c r j + NormBack.back (hid m c r) (dn m c r) (nw m c) j

/-- The norm weight's gradient. -/
def dwAt (j : Fin 1024) : EReal := ∑ r : Fin 8192, dn m c r j * (hid m c r j * NormBack.rs (hid m c r))

theorem sum_parts (j : Fin 1024) : ∑ t : Fin cfg0.N, dwPart m c t j = dwAt m c j := by
  unfold dwPart dwAt
  rw [← Fin.sum_mul_add_fin 16 512 (fun r => dn m c r j * (hid m c r j * NormBack.rs (hid m c r))) (by decide)]
  exact Fintype.sum_equiv (finCongr N_0) _ _ fun t => rfl

theorem last_dw (j : Fin 1024) : (outsAt0 m c 15 (by decide)).2.1 (ix2 0 j) = dwAt m c j := by
  rw [← sum_parts, ← zero_add (∑ t : Fin cfg0.N, dwPart m c t j)]
  exact Pipeline.eq_sum_fin_of_reset_step_apply_last (fun n hn (i : Fin 1024) => (outsAt0 m c n hn).2.1 (ix2 0 i)) 16 (fun _ => 0)
    (fun t i => dwPart m c t i) (fun t h i => out_dw_first m c t h i) (fun t h i => out_dw_next m c t h i)
    (le_of_eq N_0) ⟨15, by decide⟩ (by decide) j

theorem final_dx : (dats m 0 c).arrAt 5 cfg0.N = fun i => dxAt m c (i 0) (i 1) := by
  refine (dats m 0 c).arrAt_eq_of_covers 5 _ (by decide +kernel) fun t hf y => ?_
  rw [after0_5]
  blk_simp
  have hy : y = ix2 (y 0) (y 1) := by
    funext a
    match a with
    | ⟨0, _⟩ => rfl
    | ⟨1, _⟩ => rfl
  refine (congrArg (outsAt0 m c t.val t.isLt).1 hy).trans ((out_dx m c t (y 0) (y 1)).trans ?_)
  refine congrArg₂ (dxAt m c) ?_ ?_
  · refine Fin.ext ?_
    unfold row
    blk_simp [idx t]
  · refine Fin.ext ?_
    blk_simp [idx t]

theorem final_dw : (dats m 0 c).arrAt 6 cfg0.N = fun i => dwAt m c (i 1) := by
  refine (dats m 0 c).arrAt_eq_of_after_last 6 (⟨15, by decide⟩ : Fin cfg0.N) (by decide +kernel) _ fun j => ?_
  rw [after0_6]
  refine Eq.trans ?_ (last_dw m c (j 1))
  refine congrArg (outsAt0 m c 15 (by decide)).2.1 ?_
  funext a
  match a with
  | ⟨0, _⟩ => exact Fin.ext (by have h : (j 0).val < 1 := (j 0).isLt; show (j 0).val = 0; omega)
  | ⟨1, _⟩ => rfl

end Cert.FfnInProof
-- ==== Proof.FfnIn.Ref.lean ====
/- The reference's two results read at an entry. -/
module
public import proofs.«01_k».proof.Proof.Gen.FfnInRefIdeal.Run
public import proofs.«01_k».proof.Proof.Lib.NormBack
public import Idealize.ShloMosaic.Lib.Pointwise
public import Idealize.ShloMosaic.Lib.ValueIdx

@[expose] public section

set_option maxRecDepth 16384

noncomputable section

namespace Cert.FfnInProof.Ref

open Idealize.ShloMosaic Idealize.ShloMosaic.TcCoe Idealize.SL.Sem Cert.FfnInRefIdeal Cert.FfnInRefIdeal.Gen Cert.FfnInRefIdeal.Value

/-- A sum over two axes of size one has one term. -/
theorem sum_ones (v : (⟨3, ![1, 1, 1024]⟩ : Shape).Idx → EReal) (init : EReal) (j : Fin 1024) :
    Ideal.hostReduceAdd reducesTo_S1x1x1024_S1024_d0_1 v init (ix1 j) = init + v (ix3 0 0 j) := by
  refine congrArg (init + ·) (Finset.sum_eq_single_of_mem (ix3 0 0 j) ?_ ?_)
  · refine Finset.mem_filter.2 ⟨Finset.mem_univ _, ?_⟩
    funext b
    apply Fin.ext
    match b with
    | ⟨0, _⟩ => rfl
  · intro i hi hne
    refine absurd ?_ hne
    funext a
    apply Fin.ext
    match a with
    | ⟨0, _⟩ => have h : (i 0).val < 1 := (i 0).isLt
                show (i 0).val = 0
                omega
    | ⟨1, _⟩ => have h : (i 1).val < 1 := (i 1).isLt
                show (i 1).val = 0
                omega
    | ⟨2, _⟩ => exact congrArg Fin.val (congrFun (Finset.mem_filter.1 hi).2 0)

/-- A sum over a first and a last axis of size one has one term. -/
theorem sum_outer (v : (⟨3, ![1, 8192, 1]⟩ : Shape).Idx → EReal) (init : EReal) (r : Fin 8192) :
    Ideal.hostReduceAdd reducesTo_S1x8192x1_S8192_d0_2 v init (ix1 r) = init + v (ix3 0 r 0) := by
  refine congrArg (init + ·) (Finset.sum_eq_single_of_mem (ix3 0 r 0) ?_ ?_)
  · refine Finset.mem_filter.2 ⟨Finset.mem_univ _, ?_⟩
    funext b
    apply Fin.ext
    match b with
    | ⟨0, _⟩ => rfl
  · intro i hi hne
    refine absurd ?_ hne
    funext a
    apply Fin.ext
    match a with
    | ⟨0, _⟩ => have h : (i 0).val < 1 := (i 0).isLt
                show (i 0).val = 0
                omega
    | ⟨1, _⟩ => exact congrArg Fin.val (congrFun (Finset.mem_filter.1 hi).2 0)
    | ⟨2, _⟩ => have h : (i 2).val < 1 := (i 2).isLt
                show (i 2).val = 0
                omega

variable (m : (ℓ : Loc nD τ sig) → Buf (Elt Ideal) ℓ) (c : Dev nD)

def dh (r : Fin 8192) (j : Fin 1024) : EReal := m ((c : Thread nD τ).loc main_arg0) (ix3 0 r j)
def hid (r : Fin 8192) (j : Fin 1024) : EReal := m ((c : Thread nD τ).loc main_arg1) (ix3 0 r j)
def nw (j : Fin 1024) : EReal := m ((c : Thread nD τ).loc main_arg2) (ix2 0 j)
def dg (r : Fin 8192) (k : Fin 2816) : EReal := m ((c : Thread nD τ).loc main_arg3) (ix3 0 r k)
def du (r : Fin 8192) (k : Fin 2816) : EReal := m ((c : Thread nD τ).loc main_arg4) (ix3 0 r k)
def wg (j : Fin 1024) (k : Fin 2816) : EReal := m ((c : Thread nD τ).loc main_arg5) (ix2 j k)
def wu (j : Fin 1024) (k : Fin 2816) : EReal := m ((c : Thread nD τ).loc main_arg6) (ix2 j k)

/-- The gradient at the norm's output. -/
def dn (r : Fin 8192) (j : Fin 1024) : EReal := ∑ k, du m c r k * wu m c j k + ∑ k, dg m c r k * wg m c j k

/-- The arrays of the run: the gradient at the norm's output, the rows' mean squares, factors, and slopes. -/
def dnArr : Vec Ideal S1x8192x1024 .f32 :=
  addf (F := Ideal) (φ := .f32) (Host.dotGeneral (F := Ideal) (φ₁ := .f32) (φ₂ := .f32) dot_S1x8192x2816_S1024x2816_S1x8192x1024_2_1_01_0_n_n none (m ((c.tc : Thread nD τ).loc main_arg4)) (m ((c.tc : Thread nD τ).loc main_arg6))) (Host.dotGeneral (F := Ideal) (φ₁ := .f32) (φ₂ := .f32) dot_S1x8192x2816_S1024x2816_S1x8192x1024_2_1_01_0_n_n none (m ((c.tc : Thread nD τ).loc main_arg3)) (m ((c.tc : Thread nD τ).loc main_arg5)))

def msArr : Vec Ideal S1x8192x1 .f32 :=
  addf (F := Ideal) (φ := .f32) (Host.divf (broadcastInDim S1x8192x1 ![0, 1] bcast_S1x8192_S1x8192x1_0_1 (Host.reduceAdd (mulf (F := Ideal) (φ := .f32) (m ((c.tc : Thread nD τ).loc main_arg1)) (m ((c.tc : Thread nD τ).loc main_arg1))) (constant (F := Ideal) S_ .f32 0x00000000#32) reducesTo_S1x8192x1024_S1x8192_d2 h_S_)) (broadcastInDim S1x8192x1 ![] bcast_S_S1x8192x1 (constant (F := Ideal) S_ .f32 0x44800000#32))) (broadcastInDim S1x8192x1 ![] bcast_S_S1x8192x1 (constant (F := Ideal) S_ .f32 0x358637BD#32))

def dwArr : Vec Ideal S1x8192x1024 .f32 :=
  mulf (F := Ideal) (φ := .f32) (dnArr m c) (broadcastInDim S1x8192x1024 ![0, 1, 2] bcast_S1x1x1024_S1x8192x1024_0_1_2 (broadcastInDim S1x1x1024 ![2] bcast_S1024_S1x1x1024_2 (shapeCast S1024 (m ((c.tc : Thread nD τ).loc main_arg2)) shapeCasts_S1x1024_S1024)))

def slopeArr : Vec Ideal S1x8192x1024 .f32 :=
  broadcastInDim S1x8192x1024 ![0, 1] bcast_S1x8192_S1x8192x1024_0_1 (broadcastInDim S1x8192 ![1] bcast_S8192_S1x8192_1 (Host.reduceAdd (F := Ideal) (φ := .f32) (Host.divf (mulf (F := Ideal) (φ := .f32) (shapeCast S1x8192x1 (Host.reduceAdd (F := Ideal) (φ := .f32) (mulf (F := Ideal) (φ := .f32) (m ((c.tc : Thread nD τ).loc main_arg1)) (dwArr m c)) (constant (F := Ideal) S_ .f32 0x00000000#32) reducesTo_S1x8192x1024_S1x8192_d2 h_S_) shapeCasts_S1x8192_S1x8192x1) (mulf (F := Ideal) (φ := .f32) (broadcastInDim S1x8192x1 ![] bcast_S_S1x8192x1 (constant (F := Ideal) S_ .f32 0xBF000000#32)) (Host.divf (F := Ideal) (φ := .f32) (Host.rsqrt (F := Ideal) (φ := .f32) (msArr m c)) (msArr m c)))) (broadcastInDim S1x8192x1 ![] bcast_S_S1x8192x1 (constant (F := Ideal) S_ .f32 0x44800000#32))) (constant (F := Ideal) S_ .f32 0x00000000#32) reducesTo_S1x8192x1_S8192_d0_2 h_S_))

def dxArr : Vec Ideal S1x8192x1024 .f32 :=
  addf (F := Ideal) (φ := .f32) (addf (F := Ideal) (φ := .f32) (addf (F := Ideal) (φ := .f32) (m ((c.tc : Thread nD τ).loc main_arg0)) (mulf (F := Ideal) (φ := .f32) (dwArr m c) (broadcastInDim S1x8192x1024 ![0, 1, 2] bcast_S1x8192x1_S1x8192x1024_0_1_2 (Host.rsqrt (F := Ideal) (φ := .f32) (msArr m c))))) (mulf (F := Ideal) (φ := .f32) (m ((c.tc : Thread nD τ).loc main_arg1)) (slopeArr m c))) (mulf (F := Ideal) (φ := .f32) (slopeArr m c) (m ((c.tc : Thread nD τ).loc main_arg1)))

def dxTerm : Buf (Elt Ideal) ((c.tc : Thread nD τ).loc main_v44) := shapeCast S8192x1024 (dxArr m c) shapeCasts_S1x8192x1024_S8192x1024

theorem res_eq : res_main_v44 m c = dxTerm m c := by
  unfold res_main_v44 dxTerm dxArr slopeArr dwArr msArr dnArr
  rfl

/-- The sum over the rows of a sequence, as the run takes it. -/
def colSum (v : Vec Ideal S1x8192x1024 .f32) : Vec Ideal S1024 .f32 :=
  Host.reduceAdd (F := Ideal) (φ := .f32) (shapeCast S1x1x1024 (Host.reduceAdd (F := Ideal) (φ := .f32) v (constant (F := Ideal) S_ .f32 0x00000000#32) reducesTo_S1x8192x1024_S1x1024_d1 h_S_) shapeCasts_S1x1024_S1x1x1024) (constant (F := Ideal) S_ .f32 0x00000000#32) reducesTo_S1x1x1024_S1024_d0_1 h_S_

theorem colSum_at (v : Vec Ideal S1x8192x1024 .f32) (j : Fin 1024) : colSum v (ix1 j) = ∑ t : Fin 8192, v (ix3 0 t j) := by
  unfold colSum
  refine (sum_ones _ _ j).trans ?_
  pointwise

/-- The norm weight's gradient as the run leaves it. -/
def dwTerm : Buf (Elt Ideal) ((c.tc : Thread nD τ).loc main_v45) :=
  broadcastInDim S1x1024 ![1] bcast_S1024_S1x1024_1 (colSum (mulf (F := Ideal) (φ := .f32) (mulf (F := Ideal) (φ := .f32) (m ((c.tc : Thread nD τ).loc main_arg1)) (broadcastInDim S1x8192x1024 ![0, 1, 2] bcast_S1x8192x1_S1x8192x1024_0_1_2 (Host.rsqrt (F := Ideal) (φ := .f32) (msArr m c)))) (dnArr m c)))

theorem dnArr_at (r : Fin 8192) (j : Fin 1024) : dnArr m c (ix3 0 r j) = dn m c r j := by
  unfold dnArr dn du wu dg wg
  pointwise

theorem msArr_at (r : Fin 8192) : msArr m c (ix3 0 r 0) = NormBack.meanSq (hid m c r) := by
  unfold msArr
  pointwise
  rfl

theorem dwArr_at (r : Fin 8192) (j : Fin 1024) : dwArr m c (ix3 0 r j) = dn m c r j * nw m c j := by
  unfold dwArr
  pointwise
  rw [dnArr_at]
  rfl

theorem slopeArr_at (r : Fin 8192) (j : Fin 1024) : slopeArr m c (ix3 0 r j) = NormBack.slope (hid m c r) (dn m c r) (nw m c) := by
  unfold slopeArr
  pointwise
  refine (sum_outer _ _ r).trans ?_
  pointwise
  rw [msArr_at]
  simp only [dwArr_at]
  rfl

theorem dxArr_at (r : Fin 8192) (j : Fin 1024) :
    dxArr m c (ix3 0 r j) = dh m c r j + dn m c r j * nw m c j * NormBack.rs (hid m c r)
      + hid m c r j * NormBack.slope (hid m c r) (dn m c r) (nw m c) + NormBack.slope (hid m c r) (dn m c r) (nw m c) * hid m c r j := by
  unfold dxArr
  pointwise
  rw [slopeArr_at, dwArr_at, msArr_at]
  rfl

theorem dx_at (r : Fin 8192) (j : Fin 1024) : dxTerm m c (ix2 r j) = dxArr m c (ix3 0 r j) := by
  unfold dxTerm
  pointwise

theorem dw_at (j : Fin 1024) :
    dwTerm m c (ix2 0 j) = ∑ r : Fin 8192, hid m c r j * NormBack.rs (hid m c r) * dn m c r j := by
  unfold dwTerm
  pointwise
  refine (colSum_at _ j).trans (Finset.sum_congr rfl fun r _ => ?_)
  pointwise
  rw [msArr_at, dnArr_at]
  rfl

/-- The reference's run. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v44) = dxTerm m c ∧ r.2.mem ((c.tc : Thread nD τ).loc main_v45) = dwTerm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := Value.run m ρ

end Cert.FfnInProof.Ref
-- ==== Proof.FfnIn.Claim.lean ====
/- The feed-forward input gradient's call leaves what the reference's derivative leaves. -/
module
public import proofs.«01_k».proof.Proof.FfnIn.Final
public import proofs.«01_k».proof.Proof.FfnIn.Ref
public import proofs.«01_k».proof.Defs
public import Idealize.ShloMosaic.Lib.Claim

@[expose] public section

set_option maxRecDepth 16384

noncomputable section

namespace Cert.FfnInProof

open Idealize.ShloMosaic Idealize.ShloMosaic.TcCoe Idealize.SL.Sem

section Agree

variable (m : (ℓ : Loc Cert.FfnInIdeal.nD Cert.FfnInIdeal.τ Cert.FfnInIdeal.sig) → Buf (Elt Ideal) ℓ)
  (m' : (ℓ : Loc Cert.FfnInRefIdeal.nD Cert.FfnInRefIdeal.τ Cert.FfnInRefIdeal.sig) → Buf (Elt Ideal) ℓ) (c : Dev Cert.FfnInIdeal.nD)

/-- The two programs' arguments are the same arrays. -/
def Same : Prop :=
  Ref.dh m' c = dh m c ∧ Ref.hid m' c = hid m c ∧ Ref.nw m' c = nw m c ∧ Ref.dg m' c = dg m c ∧ Ref.du m' c = du m c
    ∧ Ref.wg m' c = wg m c ∧ Ref.wu m' c = wu m c

/-- Every argument but the residual stream's cotangent holds reals. -/
def Real : Prop :=
  (∀ r j, ∃ x : ℝ, hid m c r j = x) ∧ (∀ j, ∃ x : ℝ, nw m c j = x) ∧ (∀ r k, ∃ x : ℝ, dg m c r k = x) ∧ (∀ r k, ∃ x : ℝ, du m c r k = x)
    ∧ (∀ j k, ∃ x : ℝ, wg m c j k = x) ∧ (∀ j k, ∃ x : ℝ, wu m c j k = x)

theorem dn_eq (h : Same m m' c) : Ref.dn m' c = dn m c := by
  obtain ⟨_, _, _, h3, h4, h5, h6⟩ := h
  unfold Ref.dn dn
  rw [h3, h4, h5, h6]
  exact funext fun r => funext fun j => add_comm _ _

theorem dn_real (h : Real m c) (r : Fin 8192) (j : Fin 1024) : ∃ x : ℝ, dn m c r j = x := by
  obtain ⟨_, _, h3, h4, h5, h6⟩ := h
  exact NormBack.real_add (NormBack.real_sum fun k => NormBack.real_mul (h3 r k) (h5 j k))
    (NormBack.real_sum fun k => NormBack.real_mul (h4 r k) (h6 j k))

theorem dx_pt (h : Same m m' c) (hr : Real m c) (r : Fin 8192) (j : Fin 1024) : Ref.dxTerm m' c (ix2 r j) = dxAt m c r j := by
  refine (Ref.dx_at m' c r j).trans ((Ref.dxArr_at m' c r j).trans ?_)
  rw [dn_eq m m' c h, h.1, h.2.1, h.2.2.1]
  exact NormBack.chain_eq _ _ _ _ (hr.1 r) (dn_real m c hr r) hr.2.1 j

theorem dw_pt (h : Same m m' c) (j : Fin 1024) : Ref.dwTerm m' c (ix2 0 j) = dwAt m c j := by
  refine (Ref.dw_at m' c j).trans ?_
  rw [dn_eq m m' c h, h.2.1]
  exact Finset.sum_congr (M := EReal) rfl fun r _ => mul_comm (G := EReal) _ _

theorem dx_eq (h : Same m m' c) (hr : Real m c) :
    Ref.dxTerm m' c = (Cert.FfnInIdeal.Gen.dats m 0 c).arrAt 5 Cert.FfnInIdeal.cfg0.N := by
  rw [final_dx]
  refine funext fun i => ?_
  have hi : i = ix2 (i 0) (i 1) := by
    funext a
    match a with
    | ⟨0, _⟩ => rfl
    | ⟨1, _⟩ => rfl
  exact (congrArg (Ref.dxTerm m' c) hi).trans (dx_pt m m' c h hr (i 0) (i 1))

theorem dw_eq (h : Same m m' c) : Ref.dwTerm m' c = (Cert.FfnInIdeal.Gen.dats m 0 c).arrAt 6 Cert.FfnInIdeal.cfg0.N := by
  rw [final_dw]
  refine funext fun i => ?_
  have hi : i = ix2 0 (i 1) := by
    funext a
    match a with
    | ⟨0, _⟩ => exact Fin.ext (by have h : (i 0).val < 1 := (i 0).isLt; show (i 0).val = 0; omega)
    | ⟨1, _⟩ => rfl
  exact (congrArg (Ref.dwTerm m' c) hi).trans (dw_pt m m' c h (i 1))

end Agree

theorem real_of_pre [Cert.Pre_ffn_in_finite.Facts] (m : (ℓ : Loc Cert.FfnInIdeal.nD Cert.FfnInIdeal.τ Cert.FfnInIdeal.sig) → Buf (Elt Ideal) ℓ)
    (h : Cert.Pre_FfnInIdeal_ffn_in_finite m) (c : Dev Cert.FfnInIdeal.nD) : Real m c := by
  obtain ⟨h1, h2, h3, h4, h5, h6⟩ := h c
  exact ⟨fun r j => NormBack.real_of_flag _ _ (fun _ => rfl) h1 _, fun j => NormBack.real_of_flag _ _ (fun _ => rfl) h2 _,
    fun r k => NormBack.real_of_flag _ _ (fun _ => rfl) h3 _, fun r k => NormBack.real_of_flag _ _ (fun _ => rfl) h4 _,
    fun j k => NormBack.real_of_flag _ _ (fun _ => rfl) h5 _, fun j k => NormBack.real_of_flag _ _ (fun _ => rfl) h6 _⟩

theorem algebraic [Cert.Pre_ffn_in_finite.Facts] : Cert.algebraic_FfnInIdeal_FfnInRefIdeal_pre_ffn_in_finite := by
  intro m g m' g' hpre hagree
  have hs : ∀ c, Same m m' c := fun c => by
    obtain ⟨h0, h1, h2, h3, h4, h5, h6⟩ := hagree c
    exact ⟨funext fun r => funext fun j => congrFun h0 _, funext fun r => funext fun j => congrFun h1 _, funext fun j => congrFun h2 _,
      funext fun r => funext fun k => congrFun h3 _, funext fun r => funext fun k => congrFun h4 _,
      funext fun j => funext fun k => congrFun h5 _, funext fun j => funext fun k => congrFun h6 _⟩
  refine ⟨fun c => (Cert.FfnInIdeal.Gen.dats m 0 c).arrAt 5 Cert.FfnInIdeal.cfg0.N,
    fun c => (Cert.FfnInIdeal.Gen.dats m 0 c).arrAt 6 Cert.FfnInIdeal.cfg0.N, Cert.FfnInIdeal.Value.run_blocks m g, ?_⟩
  exact (θ_run Cert.FfnInRefIdeal.defs _ _).mono
    (fun r h c => ⟨(h c).1.trans (dx_eq m m' c (hs c) (real_of_pre m hpre c)), (h c).2.1.trans (dw_eq m m' c (hs c)), (h c).2.2⟩)
    (Ref.run m' g')

end Cert.FfnInProof
-- ==== Proof.Lib.Silu.lean ====
/- The gated unit `g σ(g) u` and its derivative in `g`: the product form a kernel computes and the chain rule's form are one value
   when what multiplies the derivative is finite; `g` may be anything. -/
module

public import proofs.«01_k».proof.Proof.Lib.NormBack

@[expose] public section

noncomputable section

namespace Cert.Silu

open Idealize.ShloMosaic

/-- The logistic function. -/
def sg (g : EReal) : EReal := Ideal.div 1 (1 + Ideal.exp (-g))

/-- The gated unit. -/
def act (g u : EReal) : EReal := g * sg g * u

/-- Its derivative in `g` times the cotangent `d`, in the kernel's form. -/
def back (d g u : EReal) : EReal := d * u * (sg g * (1 + g * (1 - sg g)))

theorem sg_bot : sg ⊥ = 0 := by
  unfold sg
  rw [EReal.neg_bot, Ideal.exp_top, show (1 : EReal) + ⊤ = ⊤ from EReal.add_top_of_ne_bot (EReal.coe_ne_bot 1)]
  simp [Ideal.div]

theorem sg_top : sg ⊤ = 1 := by
  unfold sg
  rw [EReal.neg_top, Ideal.exp_bot, add_zero, ← EReal.coe_one, Ideal.div_coe one_ne_zero]
  simp

theorem sg_coe (g : ℝ) : sg (g : EReal) = ((1 / (1 + Real.exp (-g)) : ℝ) : EReal) := by
  unfold sg
  have h : 1 + Real.exp (-g) ≠ 0 := (add_pos one_pos (Real.exp_pos _)).ne'
  rw [← EReal.coe_neg, Ideal.exp_coe, ← EReal.coe_one, ← EReal.coe_add, Ideal.div_coe h, ← EReal.coe_mul, one_mul]

/-- The chain rule's form of the derivative is the kernel's. -/
theorem chain_eq (y g : EReal) (hy : ∃ r : ℝ, y = r) :
    y * sg g + g * y * (sg g * (1 - sg g)) = y * (sg g * (1 + g * (1 - sg g))) := by
  obtain ⟨y, rfl⟩ := hy
  induction g using EReal.rec with
  | bot => simp [sg_bot]
  | top =>
    have h : (1 : EReal) - 1 = 0 := by rw [← EReal.coe_one, ← EReal.coe_sub, sub_self, EReal.coe_zero]
    simp [sg_top, h]
  | coe g =>
    rw [sg_coe]
    generalize (1 / (1 + Real.exp (-g)) : ℝ) = s
    rw [← EReal.coe_one]
    simp only [← EReal.coe_mul, ← EReal.coe_sub, ← EReal.coe_add]
    exact congrArg _ (by ring)

end Cert.Silu
-- ==== Proof.FfnHid.Pay.lean ====
/- One grid point of the feed-forward hidden gradient: what it stores for each of the four column groups, entry by entry. -/
module

public import proofs.«01_k».proof.Proof.Gen.FfnHidIdeal.Skeleton
public import proofs.«01_k».proof.Proof.Lib.Silu
public import Idealize.ShloMosaic.Lib.Pointwise
public import Idealize.ShloMosaic.Lib.ValueIdx

@[expose] public section

set_option maxRecDepth 16384

noncomputable section

namespace Cert.FfnHidProof

open Idealize.ShloMosaic Cert.FfnHidIdeal Cert.FfnHidIdeal.Gen

theorem pay6_at (d : Vec Ideal S512x1024 .f32) (r : Fin 512) (j : Fin 1024) :
    k0_pay6 (F := Ideal) d (ix2 r j) = Ideal.ofBits .f32 0x3F000000#32 * d (ix2 r j) := by
  pointwise [k0_pay6]

/-- What a point stores for a column group: the gated unit, and the gradients at the gate and at the up projection. -/
def actPay (g u : Vec Ideal S1x512x704 .bf16) : FVec Ideal S1x512x704 .bf16 := k0_pay12 g u
def dgPay (d : Vec Ideal S512x1024 .f32) (w : Vec Ideal S1x704x1024 .bf16) (g u : Vec Ideal S1x512x704 .bf16) : FVec Ideal S1x512x704 .bf16 :=
  k0_pay14 (k0_pay8 g) (k0_pay10 g) (k0_pay13 d w u) (Scalar.ofBits .f32 0x3F800000#32)
def duPay (d : Vec Ideal S512x1024 .f32) (w : Vec Ideal S1x704x1024 .bf16) (g : Vec Ideal S1x512x704 .bf16) : FVec Ideal S1x512x704 .bf16 :=
  k0_pay15 (k0_pay7 d w) (k0_pay11 g)

theorem actPay_at (g u : Vec Ideal S1x512x704 .bf16) (r : Fin 512) (x : Fin 704) :
    actPay g u (ix3 0 r x) = Silu.act (g (ix3 0 r x)) (u (ix3 0 r x)) := by
  unfold actPay Silu.act Silu.sg
  pointwise [k0_pay12, k0_pay11, k0_pay10, k0_pay9, k0_pay8]
  rw [zero_sub]

theorem dgPay_at (d : Vec Ideal S512x1024 .f32) (w : Vec Ideal S1x704x1024 .bf16) (g u : Vec Ideal S1x512x704 .bf16)
    (r : Fin 512) (x : Fin 704) :
    dgPay d w g u (ix3 0 r x)
      = Silu.back (∑ j, Ideal.ofBits .f32 0x3F000000#32 * d (ix2 r j) * w (ix3 0 x j)) (g (ix3 0 r x)) (u (ix3 0 r x)) := by
  unfold dgPay Silu.back Silu.sg
  pointwise [k0_pay14, k0_pay13, k0_pay7, k0_pay6, k0_pay10, k0_pay9, k0_pay8]
  rw [zero_sub]

theorem duPay_at (d : Vec Ideal S512x1024 .f32) (w : Vec Ideal S1x704x1024 .bf16) (g : Vec Ideal S1x512x704 .bf16)
    (r : Fin 512) (x : Fin 704) :
    duPay d w g (ix3 0 r x)
      = (∑ j, Ideal.ofBits .f32 0x3F000000#32 * d (ix2 r j) * w (ix3 0 x j)) * (g (ix3 0 r x) * Silu.sg (g (ix3 0 r x))) := by
  unfold duPay Silu.sg
  pointwise [k0_pay15, k0_pay7, k0_pay6, k0_pay11, k0_pay10, k0_pay8]
  rw [zero_sub]

end Cert.FfnHidProof
-- ==== Proof.FfnHid.Entry.lean ====
/- The arrays the feed-forward hidden gradient is launched over, entry by entry in the program's own arguments, and the block each
   point sees of them. -/
module

public import proofs.«01_k».proof.Proof.Gen.FfnHidIdeal.Value
public import proofs.«01_k».proof.Proof.Lib.NormBack
public import Idealize.ShloMosaic.Lib.Pipeline.ValueKit
public import Idealize.ShloMosaic.Lib.StableHlo.ReadAt
public import Idealize.ShloMosaic.Lib.Pointwise

@[expose] public section

set_option maxRecDepth 16384

noncomputable section

namespace Cert.FfnHidProof

open Idealize.ShloMosaic Idealize.ShloMosaic.TcCoe Idealize.SL.Sem Cert.FfnHidIdeal Cert.FfnHidIdeal.Gen
open Idealize.ShloMosaic.Pipeline (Dat)

variable (m : (ℓ : Loc nD τ sig) → Buf (Elt Ideal) ℓ) (c : Dev nD)

/-- The cotangent of the residual stream. -/
def dh (r : Fin 8192) (j : Fin 1024) : EReal := m ((c : Thread nD τ).loc main_arg0) (ix3 0 r j)

/-- The norm's input. -/
def hid (r : Fin 8192) (j : Fin 1024) : EReal := m ((c : Thread nD τ).loc main_arg1) (ix3 0 r j)

/-- The norm's weight. -/
def nw (j : Fin 1024) : EReal := m ((c : Thread nD τ).loc main_arg2) (ix2 0 j)

/-- The weights of the gate, the up and the down projection. -/
def wg (j : Fin 1024) (k : Fin 2816) : EReal := m ((c : Thread nD τ).loc main_arg3) (ix2 j k)
def wu (j : Fin 1024) (k : Fin 2816) : EReal := m ((c : Thread nD τ).loc main_arg4) (ix2 j k)
def wd (k : Fin 2816) (j : Fin 1024) : EReal := m ((c : Thread nD τ).loc main_arg5) (ix2 k j)

/-- The normed row. -/
def nrm (r : Fin 8192) (j : Fin 1024) : EReal := hid m c r j * NormBack.rs (hid m c r) * nw m c j

/-- The gate's and the up projection's values. -/
def gv (r : Fin 8192) (k : Fin 2816) : EReal := ∑ j, nrm m c r j * wg m c j k
def uv (r : Fin 8192) (k : Fin 2816) : EReal := ∑ j, nrm m c r j * wu m c j k

/-- Column `x` of the `s`-th of four column groups. -/
def col (s : Fin 4) (x : Fin 704) : Fin 2816 := ⟨s.val * 704 + x.val, by omega⟩

theorem entry_dh (r : Fin 8192) (l : Fin 1024) : V m c main_v14 (ix2 r l) = dh m c r l := by
  unfold V dh
  after_reads_at

theorem entry_gv (s : Fin 4) (r : Fin 8192) (x : Fin 704) : V m c main_v19 (ix3 s r x) = gv m c r (col s x) := by
  unfold V gv nrm nw hid wg col NormBack.rs NormBack.meanSq
  after_reads_at

theorem entry_uv (s : Fin 4) (r : Fin 8192) (x : Fin 704) : V m c main_v24 (ix3 s r x) = uv m c r (col s x) := by
  unfold V uv nrm nw hid wu col NormBack.rs NormBack.meanSq
  after_reads_at

theorem entry_wd (s : Fin 4) (x : Fin 704) (j : Fin 1024) : V m c main_v26 (ix3 s x j) = wd m c (col s x) j := by
  unfold V wd col
  after_reads_at

theorem idx : ∀ t : Fin cfg0.N, win0_0.index t = ![t.val, 0] ∧ win0_1.index t = ![0, t.val, 0] ∧ win0_2.index t = ![0, t.val, 0]
    ∧ win0_3.index t = ![0, t.val, 0] ∧ win0_4.index t = ![0, t.val, 0] ∧ win0_5.index t = ![0, t.val, 0] ∧ win0_6.index t = ![t.val, 0] :=
  (by decide +kernel : ∀ t : Fin grid0.N, _)

/-- Row `r` of the block that point `t` works on, as a row of the arrays. -/
def row (t : Fin cfg0.N) (r : Fin 512) : Fin 8192 :=
  ⟨t.val * 512 + r.val, by have hN := lt_of_lt_of_eq t.isLt (show cfg0.N = 16 from N_0); omega⟩

theorem blk_dh (t : Fin cfg0.N) (r : Fin 512) (l : Fin 1024) : iblk m c 0 t (ix2 r l) = dh m c (row t r) l := by
  refine Eq.trans ?_ (entry_dh m c (row t r) l)
  unfold row
  blk_ext [iblk, idx t]

theorem blk_gv (t : Fin cfg0.N) (s : Fin 4) (r : Fin 512) (x : Fin 704) : iblk m c 1 t (ix3 s r x) = gv m c (row t r) (col s x) := by
  refine Eq.trans ?_ (entry_gv m c s (row t r) x)
  unfold row
  blk_ext [iblk, idx t]

theorem blk_uv (t : Fin cfg0.N) (s : Fin 4) (r : Fin 512) (x : Fin 704) : iblk m c 2 t (ix3 s r x) = uv m c (row t r) (col s x) := by
  refine Eq.trans ?_ (entry_uv m c s (row t r) x)
  unfold row
  blk_ext [iblk, idx t]

end Cert.FfnHidProof
-- ==== Proof.FfnHid.Points.lean ====
/- What every point of the feed-forward hidden gradient leaves in its four outputs and in the weight buffer it carries. -/
module

public import proofs.«01_k».proof.Proof.FfnHid.Pay
public import proofs.«01_k».proof.Proof.FfnHid.Entry
public import proofs.«01_k».proof.Proof.Lib.Groups
public import Idealize.ShloMosaic.Lib.Pipeline.ReadBack

@[expose] public section

set_option maxRecDepth 16384

noncomputable section

namespace Cert.FfnHidProof

open Idealize.ShloMosaic Idealize.ShloMosaic.TcCoe Idealize.SL.Sem Cert.FfnHidIdeal Cert.FfnHidIdeal.Gen
open Idealize.ShloMosaic.Pipeline (Dat)
open Cert.Groups

variable (m : (ℓ : Loc nD τ sig) → Buf (Elt Ideal) ℓ) (c : Dev nD)

/-- The first point copies the weights in. -/
theorem kept_first (t : Fin cfg0.N) (h : t.val % 16 = 0) : (outsAt0 m c t.val t.isLt).2.2.2.2 = V m c main_v26 := by
  rw [outsAt0_A m c t h]
  dsimp only
  frame_out
  rw [canon_whole]
  rfl

/-- Every later point leaves them. -/
theorem kept_next (t : Fin cfg0.N) (h : ¬ t.val % 16 = 0) :
    (outsAt0 m c t.val t.isLt).2.2.2.2 = (outsAt0 m c (t.val - 1) (Nat.lt_of_le_of_lt (Nat.sub_le _ _) t.isLt)).2.2.2.2 := by
  rw [outsAt0_B m c t h]
  dsimp only
  rfl

theorem kept (n : ℕ) (hn : n < cfg0.N) : (outsAt0 m c n hn).2.2.2.2 = V m c main_v26 := by
  induction n with
  | zero => exact kept_first m c ⟨0, hn⟩ rfl
  | succ n ih =>
    by_cases h : (n + 1) % 16 = 0
    · exact kept_first m c ⟨n + 1, hn⟩ h
    · exact (kept_next m c ⟨n + 1, hn⟩ h).trans (ih _)

/-- The cotangent at the hidden layer, and the three results. -/
def da (r : Fin 8192) (k : Fin 2816) : EReal := ∑ j, Ideal.ofBits .f32 0x3F000000#32 * dh m c r j * wd m c k j
def dgAt (r : Fin 8192) (k : Fin 2816) : EReal := Silu.back (da m c r k) (gv m c r k) (uv m c r k)
def duAt (r : Fin 8192) (k : Fin 2816) : EReal := da m c r k * (gv m c r k * Silu.sg (gv m c r k))
def actAt (r : Fin 8192) (k : Fin 2816) : EReal := Silu.act (gv m c r k) (uv m c r k)

/-- Group `k` of the point's blocks. -/
abbrev gp (b : Vec Ideal S4x512x704 .bf16) (k : ℕ) (inb : ∀ a, (![k, 0, 0] : Fin 3 → ℕ) a + (![1, 512, 704] : Fin 3 → ℕ) a ≤ S4x512x704.size a) :
    Vec Ideal S1x512x704 .bf16 := View.ld b (Rect.unit (s := S4x512x704) ![k, 0, 0] ![1, 512, 704] inb)
abbrev wp (b : Vec Ideal S4x704x1024 .bf16) (k : ℕ) (inb : ∀ a, (![k, 0, 0] : Fin 3 → ℕ) a + (![1, 704, 1024] : Fin 3 → ℕ) a ≤ S4x704x1024.size a) :
    Vec Ideal S1x704x1024 .bf16 := View.ld b (Rect.unit (s := S4x704x1024) ![k, 0, 0] ![1, 704, 1024] inb)

section Group

variable (t : Fin cfg0.N) (k : ℕ) (hk : k < 4)
  (i : ∀ a, (![k, 0, 0] : Fin 3 → ℕ) a + (![1, 512, 704] : Fin 3 → ℕ) a ≤ S4x512x704.size a)
  (j : ∀ a, (![k, 0, 0] : Fin 3 → ℕ) a + (![1, 704, 1024] : Fin 3 → ℕ) a ≤ S4x704x1024.size a)

theorem da_group (r : Fin 512) (x : Fin 704) :
    ∑ l, Ideal.ofBits .f32 0x3F000000#32 * iblk m c 0 t (ix2 r l) * wp (V m c main_v26) k j (ix3 0 x l) = da m c (row t r) (col ⟨k, hk⟩ x) :=
  Finset.sum_congr (M := EReal) rfl fun l _ => congrArg₂ (· * ·) (congrArg _ (blk_dh m c t r l))
    ((ld_group _ k hk j x l).trans (entry_wd m c ⟨k, hk⟩ x l))

theorem act_group (r : Fin 512) (x : Fin 704) :
    actPay (gp (iblk m c 1 t) k i) (gp (iblk m c 2 t) k i) (ix3 0 r x) = actAt m c (row t r) (col ⟨k, hk⟩ x) :=
  (actPay_at _ _ r x).trans (congrArg₂ Silu.act ((ld_group _ k hk i r x).trans (blk_gv m c t ⟨k, hk⟩ r x))
    ((ld_group _ k hk i r x).trans (blk_uv m c t ⟨k, hk⟩ r x)))

theorem dg_group (r : Fin 512) (x : Fin 704) :
    dgPay (iblk m c 0 t) (wp (V m c main_v26) k j) (gp (iblk m c 1 t) k i) (gp (iblk m c 2 t) k i) (ix3 0 r x)
      = dgAt m c (row t r) (col ⟨k, hk⟩ x) := by
  refine (dgPay_at _ _ _ _ r x).trans ?_
  rw [da_group m c t k hk j r x]
  exact congrArg₂ (Silu.back _) ((ld_group _ k hk i r x).trans (blk_gv m c t ⟨k, hk⟩ r x))
    ((ld_group _ k hk i r x).trans (blk_uv m c t ⟨k, hk⟩ r x))

theorem du_group (r : Fin 512) (x : Fin 704) :
    duPay (iblk m c 0 t) (wp (V m c main_v26) k j) (gp (iblk m c 1 t) k i) (ix3 0 r x) = duAt m c (row t r) (col ⟨k, hk⟩ x) := by
  refine (duPay_at _ _ _ r x).trans ?_
  rw [da_group m c t k hk j r x]
  exact congrArg (fun z => _ * (z * Silu.sg z)) ((ld_group _ k hk i r x).trans (blk_gv m c t ⟨k, hk⟩ r x))

end Group

/-- The four groups of a point's blocks as one array over the groups. -/
def spread (t : Fin cfg0.N) (f : Fin 8192 → Fin 2816 → EReal) : Vec Ideal S4x512x704 .bf16 := fun y => f (row t (y 1)) (col (y 0) (y 2))

theorem out_dg (t : Fin cfg0.N) (s : Fin 4) (r : Fin 512) (x : Fin 704) :
    (outsAt0 m c t.val t.isLt).1 (ix3 s r x) = dgAt m c (row t r) (col s x) := by
  refine Eq.trans ?_ (canon_groups (spread t (dgAt m c)) inb_S4x512x704_S1x512x704_3_0_0 inb_S4x512x704_S1x512x704_2_0_0
    inb_S4x512x704_S1x512x704_1_0_0 inb_S4x512x704_S1x512x704_0_0_0 _ _ _ _
    (dg_group m c t 3 (by decide) inb_S4x512x704_S1x512x704_3_0_0 inb_S4x704x1024_S1x704x1024_3_0_0)
    (dg_group m c t 2 (by decide) inb_S4x512x704_S1x512x704_2_0_0 inb_S4x704x1024_S1x704x1024_2_0_0)
    (dg_group m c t 1 (by decide) inb_S4x512x704_S1x512x704_1_0_0 inb_S4x704x1024_S1x704x1024_1_0_0)
    (dg_group m c t 0 (by decide) inb_S4x512x704_S1x512x704_0_0_0 inb_S4x704x1024_S1x704x1024_0_0_0) s r x)
  by_cases h : t.val % 16 = 0
  · rw [outsAt0_A m c t h]
    dsimp only
    frame_out
    simp only [readCov_whole]
    rfl
  · rw [outsAt0_B m c t h]
    dsimp only
    frame_out
    simp only [read_unread_whole, kept m c (t.val - 1) (Nat.lt_of_le_of_lt (Nat.sub_le _ _) t.isLt)]
    rfl

theorem out_du (t : Fin cfg0.N) (s : Fin 4) (r : Fin 512) (x : Fin 704) :
    (outsAt0 m c t.val t.isLt).2.1 (ix3 s r x) = duAt m c (row t r) (col s x) := by
  refine Eq.trans ?_ (canon_groups (spread t (duAt m c)) inb_S4x512x704_S1x512x704_3_0_0 inb_S4x512x704_S1x512x704_2_0_0
    inb_S4x512x704_S1x512x704_1_0_0 inb_S4x512x704_S1x512x704_0_0_0 _ _ _ _
    (du_group m c t 3 (by decide) inb_S4x512x704_S1x512x704_3_0_0 inb_S4x704x1024_S1x704x1024_3_0_0)
    (du_group m c t 2 (by decide) inb_S4x512x704_S1x512x704_2_0_0 inb_S4x704x1024_S1x704x1024_2_0_0)
    (du_group m c t 1 (by decide) inb_S4x512x704_S1x512x704_1_0_0 inb_S4x704x1024_S1x704x1024_1_0_0)
    (du_group m c t 0 (by decide) inb_S4x512x704_S1x512x704_0_0_0 inb_S4x704x1024_S1x704x1024_0_0_0) s r x)
  by_cases h : t.val % 16 = 0
  · rw [outsAt0_A m c t h]
    dsimp only
    frame_out
    simp only [readCov_whole]
    rfl
  · rw [outsAt0_B m c t h]
    dsimp only
    frame_out
    simp only [read_unread_whole, kept m c (t.val - 1) (Nat.lt_of_le_of_lt (Nat.sub_le _ _) t.isLt)]
    rfl

theorem out_act (t : Fin cfg0.N) (s : Fin 4) (r : Fin 512) (x : Fin 704) :
    (outsAt0 m c t.val t.isLt).2.2.1 (ix3 s r x) = actAt m c (row t r) (col s x) := by
  refine Eq.trans ?_ (canon_groups (spread t (actAt m c)) inb_S4x512x704_S1x512x704_3_0_0 inb_S4x512x704_S1x512x704_2_0_0
    inb_S4x512x704_S1x512x704_1_0_0 inb_S4x512x704_S1x512x704_0_0_0 _ _ _ _
    (act_group m c t 3 (by decide) inb_S4x512x704_S1x512x704_3_0_0) (act_group m c t 2 (by decide) inb_S4x512x704_S1x512x704_2_0_0)
    (act_group m c t 1 (by decide) inb_S4x512x704_S1x512x704_1_0_0) (act_group m c t 0 (by decide) inb_S4x512x704_S1x512x704_0_0_0) s r x)
  by_cases h : t.val % 16 = 0
  · rw [outsAt0_A m c t h]
    dsimp only
    frame_out
    rfl
  · rw [outsAt0_B m c t h]
    dsimp only
    frame_out
    rfl

/-- The scaled cotangent of the residual stream. -/
def dfAt (r : Fin 8192) (j : Fin 1024) : EReal := Ideal.ofBits .f32 0x3F000000#32 * dh m c r j

theorem out_df (t : Fin cfg0.N) (r : Fin 512) (j : Fin 1024) : (outsAt0 m c t.val t.isLt).2.2.2.1 (ix2 r j) = dfAt m c (row t r) j := by
  refine Eq.trans ?_ ((pay6_at (iblk m c 0 t) r j).trans (congrArg (_ * ·) (blk_dh m c t r j)))
  by_cases h : t.val % 16 = 0
  · rw [outsAt0_A m c t h]
    dsimp only
    frame_out
  · rw [outsAt0_B m c t h]
    dsimp only
    frame_out

end Cert.FfnHidProof
-- ==== Proof.FfnHid.Final.lean ====
/- The four arrays the feed-forward hidden gradient leaves. -/
module

public import proofs.«01_k».proof.Proof.FfnHid.Points

@[expose] public section

set_option maxRecDepth 16384

noncomputable section

namespace Cert.FfnHidProof

open Idealize.ShloMosaic Idealize.ShloMosaic.TcCoe Idealize.SL.Sem Cert.FfnHidIdeal Cert.FfnHidIdeal.Gen
open Idealize.ShloMosaic.Pipeline (Dat)

variable (m : (ℓ : Loc nD τ sig) → Buf (Elt Ideal) ℓ) (c : Dev nD)

theorem idx3 {a b d : ℕ} (y : (⟨3, ![a, b, d]⟩ : Shape).Idx) : y = ix3 (y 0) (y 1) (y 2) := by
  funext a
  match a with
  | ⟨0, _⟩ => rfl
  | ⟨1, _⟩ => rfl
  | ⟨2, _⟩ => rfl

theorem final_dg : (dats m 0 c).arrAt 3 cfg0.N = fun i => dgAt m c (i 1) (col (i 0) (i 2)) := by
  refine (dats m 0 c).arrAt_eq_of_covers 3 _ (by decide +kernel) fun t hf y => ?_
  rw [after0_3]
  blk_simp
  refine (congrArg (outsAt0 m c t.val t.isLt).1 (idx3 y)).trans ((out_dg m c t (y 0) (y 1) (y 2)).trans ?_)
  refine congrArg₂ (dgAt m c) ?_ ?_
  · refine Fin.ext ?_
    unfold row
    blk_simp [idx t]
  · refine Fin.ext ?_
    unfold col
    blk_simp [idx t]

theorem final_du : (dats m 0 c).arrAt 4 cfg0.N = fun i => duAt m c (i 1) (col (i 0) (i 2)) := by
  refine (dats m 0 c).arrAt_eq_of_covers 4 _ (by decide +kernel) fun t hf y => ?_
  rw [after0_4]
  blk_simp
  refine (congrArg (outsAt0 m c t.val t.isLt).2.1 (idx3 y)).trans ((out_du m c t (y 0) (y 1) (y 2)).trans ?_)
  refine congrArg₂ (duAt m c) ?_ ?_
  · refine Fin.ext ?_
    unfold row
    blk_simp [idx t]
  · refine Fin.ext ?_
    unfold col
    blk_simp [idx t]

theorem final_act : (dats m 0 c).arrAt 5 cfg0.N = fun i => actAt m c (i 1) (col (i 0) (i 2)) := by
  refine (dats m 0 c).arrAt_eq_of_covers 5 _ (by decide +kernel) fun t hf y => ?_
  rw [after0_5]
  blk_simp
  refine (congrArg (outsAt0 m c t.val t.isLt).2.2.1 (idx3 y)).trans ((out_act m c t (y 0) (y 1) (y 2)).trans ?_)
  refine congrArg₂ (actAt m c) ?_ ?_
  · refine Fin.ext ?_
    unfold row
    blk_simp [idx t]
  · refine Fin.ext ?_
    unfold col
    blk_simp [idx t]

theorem final_df : (dats m 0 c).arrAt 6 cfg0.N = fun i => dfAt m c (i 0) (i 1) := by
  refine (dats m 0 c).arrAt_eq_of_covers 6 _ (by decide +kernel) fun t hf y => ?_
  rw [after0_6]
  blk_simp
  have hy : y = ix2 (y 0) (y 1) := by
    funext a
    match a with
    | ⟨0, _⟩ => rfl
    | ⟨1, _⟩ => rfl
  refine (congrArg (outsAt0 m c t.val t.isLt).2.2.2.1 hy).trans ((out_df m c t (y 0) (y 1)).trans ?_)
  refine congrArg₂ (dfAt m c) ?_ ?_
  · refine Fin.ext ?_
    unfold row
    blk_simp [idx t]
  · refine Fin.ext ?_
    blk_simp [idx t]

end Cert.FfnHidProof
-- ==== Proof.FfnHid.Ref.lean ====
/- The reference's four results read at an entry. -/
module
public import proofs.«01_k».proof.Proof.Gen.FfnHidRefIdeal.Run
public import proofs.«01_k».proof.Proof.Lib.NormBack
public import proofs.«01_k».proof.Proof.Lib.Silu
public import Idealize.ShloMosaic.Lib.Pointwise
public import Idealize.ShloMosaic.Lib.ValueIdx

@[expose] public section

set_option maxRecDepth 16384

noncomputable section

namespace Cert.FfnHidProof.Ref

open Idealize.ShloMosaic Idealize.ShloMosaic.TcCoe Idealize.SL.Sem Cert.FfnHidRefIdeal Cert.FfnHidRefIdeal.Gen Cert.FfnHidRefIdeal.Value

variable (m : (ℓ : Loc nD τ sig) → Buf (Elt Ideal) ℓ) (c : Dev nD)

def dh (r : Fin 8192) (j : Fin 1024) : EReal := m ((c : Thread nD τ).loc main_arg0) (ix3 0 r j)
def hid (r : Fin 8192) (j : Fin 1024) : EReal := m ((c : Thread nD τ).loc main_arg1) (ix3 0 r j)
def nw (j : Fin 1024) : EReal := m ((c : Thread nD τ).loc main_arg2) (ix2 0 j)
def wg (j : Fin 1024) (k : Fin 2816) : EReal := m ((c : Thread nD τ).loc main_arg3) (ix2 j k)
def wu (j : Fin 1024) (k : Fin 2816) : EReal := m ((c : Thread nD τ).loc main_arg4) (ix2 j k)
def wd (k : Fin 2816) (j : Fin 1024) : EReal := m ((c : Thread nD τ).loc main_arg5) (ix2 k j)

def nrm (r : Fin 8192) (j : Fin 1024) : EReal := hid m c r j * NormBack.rs (hid m c r) * nw m c j
def gv (r : Fin 8192) (k : Fin 2816) : EReal := ∑ j, nrm m c r j * wg m c j k
def uv (r : Fin 8192) (k : Fin 2816) : EReal := ∑ j, nrm m c r j * wu m c j k
def da (r : Fin 8192) (k : Fin 2816) : EReal := ∑ j, Ideal.ofBits .f32 0x3F000000#32 * dh m c r j * wd m c k j

/-- Column `x` of the `s`-th of four column groups. -/
def col (s : Fin 4) (x : Fin 704) : Fin 2816 := ⟨s.val * 704 + x.val, by omega⟩

/-- The arrays of the run: the normed rows, the two projections, the hidden layer's cotangent, the logistic values. -/
def nrmArr : Vec Ideal S1x8192x1024 .f32 :=
  mulf (F := Ideal) (φ := .f32) (mulf (F := Ideal) (φ := .f32) (m ((c.tc : Thread nD τ).loc main_arg1)) (broadcastInDim S1x8192x1024 ![0, 1, 2] bcast_S1x8192x1_S1x8192x1024_0_1_2 (Host.rsqrt (F := Ideal) (φ := .f32) (addf (F := Ideal) (φ := .f32) (Host.divf (broadcastInDim S1x8192x1 ![0, 1] bcast_S1x8192_S1x8192x1_0_1 (Host.reduceAdd (mulf (F := Ideal) (φ := .f32) (m ((c.tc : Thread nD τ).loc main_arg1)) (m ((c.tc : Thread nD τ).loc main_arg1))) (constant (F := Ideal) S_ .f32 0x00000000#32) reducesTo_S1x8192x1024_S1x8192_d2 h_S_)) (broadcastInDim S1x8192x1 ![] bcast_S_S1x8192x1 (constant (F := Ideal) S_ .f32 0x44800000#32))) (broadcastInDim S1x8192x1 ![] bcast_S_S1x8192x1 (constant (F := Ideal) S_ .f32 0x358637BD#32)))))) (broadcastInDim S1x8192x1024 ![0, 1, 2] bcast_S1x1x1024_S1x8192x1024_0_1_2 (broadcastInDim S1x1x1024 ![2] bcast_S1024_S1x1x1024_2 (shapeCast S1024 (m ((c.tc : Thread nD τ).loc main_arg2)) shapeCasts_S1x1024_S1024)))

def gArr : Vec Ideal S1x8192x2816 .f32 := Host.dotGeneral (F := Ideal) (φ₁ := .f32) (φ₂ := .f32) dot_S1x8192x1024_S1024x2816_S1x8192x2816_2_0_01_1_n_n none (nrmArr m c) (m ((c.tc : Thread nD τ).loc main_arg3))
def uArr : Vec Ideal S1x8192x2816 .f32 := Host.dotGeneral (F := Ideal) (φ₁ := .f32) (φ₂ := .f32) dot_S1x8192x1024_S1024x2816_S1x8192x2816_2_0_01_1_n_n none (nrmArr m c) (m ((c.tc : Thread nD τ).loc main_arg4))
def daArr : Vec Ideal S1x8192x2816 .f32 :=
  Host.dotGeneral (F := Ideal) (φ₁ := .f32) (φ₂ := .f32) dot_S1x8192x1024_S2816x1024_S1x8192x2816_2_1_01_0_n_n none (mulf (F := Ideal) (φ := .f32) (broadcastInDim S1x8192x1024 ![] bcast_S_S1x8192x1024 (constant (F := Ideal) S_ .f32 0x3F000000#32)) (m ((c.tc : Thread nD τ).loc main_arg0))) (m ((c.tc : Thread nD τ).loc main_arg5))
def sgArr : Vec Ideal S1x8192x2816 .f32 := Host.divf (F := Ideal) (φ := .f32) (broadcastInDim S1x8192x2816 ![] bcast_S_S1x8192x2816 (constant (F := Ideal) S_ .f32 0x3F800000#32)) (addf (F := Ideal) (φ := .f32) (broadcastInDim S1x8192x2816 ![] bcast_S_S1x8192x2816 (constant (F := Ideal) S_ .f32 0x3F800000#32)) (Host.exp (F := Ideal) (φ := .f32) (Host.negf (F := Ideal) (φ := .f32) (gArr m c))))
def dgArr : Vec Ideal S1x8192x2816 .f32 :=
  addf (F := Ideal) (φ := .f32) (mulf (F := Ideal) (φ := .f32) (mulf (F := Ideal) (φ := .f32) (daArr m c) (uArr m c)) (sgArr m c)) (mulf (F := Ideal) (φ := .f32) (mulf (F := Ideal) (φ := .f32) (gArr m c) (mulf (F := Ideal) (φ := .f32) (daArr m c) (uArr m c))) (mulf (F := Ideal) (φ := .f32) (sgArr m c) (subf (F := Ideal) (φ := .f32) (broadcastInDim S1x8192x2816 ![] bcast_S_S1x8192x2816 (constant (F := Ideal) S_ .f32 0x3F800000#32)) (sgArr m c))))
def duArr : Vec Ideal S1x8192x2816 .f32 := mulf (F := Ideal) (φ := .f32) (mulf (F := Ideal) (φ := .f32) (gArr m c) (sgArr m c)) (daArr m c)
def actArr : Vec Ideal S1x8192x2816 .f32 := mulf (F := Ideal) (φ := .f32) (mulf (F := Ideal) (φ := .f32) (gArr m c) (sgArr m c)) (uArr m c)

/-- The columns cut into four groups. -/
def cutArr (v : Vec Ideal S1x8192x2816 .f32) : Vec Ideal S4x8192x704 .bf16 := truncf (F := Ideal) (φ := .f32) .bf16 (transpose S4x8192x704 [1, 0, 2] (shapeCast S8192x4x704 (shapeCast S8192x2816 (v) shapeCasts_S1x8192x2816_S8192x2816) shapeCasts_S8192x2816_S8192x4x704) transposes_S8192x4x704_S4x8192x704_1_0_2) bitsLt_bf16_f32

theorem cutArr_at (v : Vec Ideal S1x8192x2816 .f32) (s : Fin 4) (r : Fin 8192) (x : Fin 704) : cutArr v (ix3 s r x) = v (ix3 0 r (col s x)) := by
  unfold cutArr col
  pointwise

def dgTerm : Buf (Elt Ideal) ((c.tc : Thread nD τ).loc main_v30) := cutArr (dgArr m c)
def duTerm : Buf (Elt Ideal) ((c.tc : Thread nD τ).loc main_v34) := cutArr (duArr m c)
def actTerm : Buf (Elt Ideal) ((c.tc : Thread nD τ).loc main_v40) := cutArr (actArr m c)
/-- The scaled rows. -/
def halfArr (v : Vec Ideal S1x8192x1024 .f32) : Vec Ideal S8192x1024 .bf16 :=
  truncf (F := Ideal) (φ := .f32) .bf16 (mulf (F := Ideal) (φ := .f32) (broadcastInDim S8192x1024 ![] bcast_S_S8192x1024 (constant (F := Ideal) S_ .f32 0x3F000000#32)) (shapeCast S8192x1024 v shapeCasts_S1x8192x1024_S8192x1024)) bitsLt_bf16_f32

theorem halfArr_at (v : Vec Ideal S1x8192x1024 .f32) (r : Fin 8192) (j : Fin 1024) :
    halfArr v (ix2 r j) = Ideal.ofBits .f32 0x3F000000#32 * v (ix3 0 r j) := by
  unfold halfArr
  pointwise

def dfTerm : Buf (Elt Ideal) ((c.tc : Thread nD τ).loc main_v44) := halfArr (m ((c.tc : Thread nD τ).loc main_arg0))

theorem res_eq : res_main_v30 m c = dgTerm m c := by
  unfold res_main_v30 dgTerm cutArr dgArr sgArr daArr gArr uArr nrmArr
  rfl

theorem nrmArr_at (r : Fin 8192) (j : Fin 1024) : nrmArr m c (ix3 0 r j) = nrm m c r j := by
  unfold nrmArr nrm
  pointwise
  rfl

theorem gArr_at (r : Fin 8192) (k : Fin 2816) : gArr m c (ix3 0 r k) = gv m c r k := by
  unfold gArr gv
  pointwise
  simp only [nrmArr_at]
  rfl

theorem uArr_at (r : Fin 8192) (k : Fin 2816) : uArr m c (ix3 0 r k) = uv m c r k := by
  unfold uArr uv
  pointwise
  simp only [nrmArr_at]
  rfl

theorem daArr_at (r : Fin 8192) (k : Fin 2816) : daArr m c (ix3 0 r k) = da m c r k := by
  unfold daArr da
  pointwise
  rfl

theorem sgArr_at (r : Fin 8192) (k : Fin 2816) : sgArr m c (ix3 0 r k) = Silu.sg (gv m c r k) := by
  unfold sgArr
  pointwise
  rw [gArr_at]
  rfl

theorem dgArr_at (r : Fin 8192) (k : Fin 2816) :
    dgArr m c (ix3 0 r k) = da m c r k * uv m c r k * Silu.sg (gv m c r k)
      + gv m c r k * (da m c r k * uv m c r k) * (Silu.sg (gv m c r k) * (1 - Silu.sg (gv m c r k))) := by
  unfold dgArr
  pointwise
  rw [gArr_at, uArr_at, daArr_at, sgArr_at]

theorem duArr_at (r : Fin 8192) (k : Fin 2816) : duArr m c (ix3 0 r k) = gv m c r k * Silu.sg (gv m c r k) * da m c r k := by
  unfold duArr
  pointwise
  rw [gArr_at, daArr_at, sgArr_at]

theorem actArr_at (r : Fin 8192) (k : Fin 2816) : actArr m c (ix3 0 r k) = Silu.act (gv m c r k) (uv m c r k) := by
  unfold actArr
  pointwise
  rw [gArr_at, uArr_at, sgArr_at]
  rfl

theorem dg_at (s : Fin 4) (r : Fin 8192) (x : Fin 704) : dgTerm m c (ix3 s r x) = dgArr m c (ix3 0 r (col s x)) :=
  cutArr_at _ s r x

theorem du_at (s : Fin 4) (r : Fin 8192) (x : Fin 704) : duTerm m c (ix3 s r x) = duArr m c (ix3 0 r (col s x)) :=
  cutArr_at _ s r x

theorem act_at (s : Fin 4) (r : Fin 8192) (x : Fin 704) : actTerm m c (ix3 s r x) = actArr m c (ix3 0 r (col s x)) :=
  cutArr_at _ s r x

theorem df_at (r : Fin 8192) (j : Fin 1024) : dfTerm m c (ix2 r j) = Ideal.ofBits .f32 0x3F000000#32 * dh m c r j :=
  halfArr_at _ r j

/-- The reference's run. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v30) = dgTerm m c ∧ r.2.mem ((c.tc : Thread nD τ).loc main_v34) = duTerm m c
      ∧ r.2.mem ((c.tc : Thread nD τ).loc main_v40) = actTerm m c ∧ r.2.mem ((c.tc : Thread nD τ).loc main_v44) = dfTerm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := Value.run m ρ

end Cert.FfnHidProof.Ref
-- ==== Proof.FfnHid.Claim.lean ====
/- The feed-forward hidden gradient's call leaves what the reference's derivative leaves. -/
module
public import proofs.«01_k».proof.Proof.FfnHid.Final
public import proofs.«01_k».proof.Proof.FfnHid.Ref
public import proofs.«01_k».proof.Defs
public import Idealize.ShloMosaic.Lib.Claim

@[expose] public section

set_option maxRecDepth 16384

noncomputable section

namespace Cert.FfnHidProof

open Idealize.ShloMosaic Idealize.ShloMosaic.TcCoe Idealize.SL.Sem

section Agree

variable (m : (ℓ : Loc Cert.FfnHidIdeal.nD Cert.FfnHidIdeal.τ Cert.FfnHidIdeal.sig) → Buf (Elt Ideal) ℓ)
  (m' : (ℓ : Loc Cert.FfnHidRefIdeal.nD Cert.FfnHidRefIdeal.τ Cert.FfnHidRefIdeal.sig) → Buf (Elt Ideal) ℓ) (c : Dev Cert.FfnHidIdeal.nD)

/-- The two programs' arguments are the same arrays. -/
def Same : Prop :=
  Ref.dh m' c = dh m c ∧ Ref.hid m' c = hid m c ∧ Ref.nw m' c = nw m c ∧ Ref.wg m' c = wg m c ∧ Ref.wu m' c = wu m c ∧ Ref.wd m' c = wd m c

/-- Every argument but the gate's weights holds reals. -/
def Real : Prop :=
  (∀ r j, ∃ x : ℝ, dh m c r j = x) ∧ (∀ r j, ∃ x : ℝ, hid m c r j = x) ∧ (∀ j, ∃ x : ℝ, nw m c j = x) ∧ (∀ j k, ∃ x : ℝ, wu m c j k = x)
    ∧ (∀ k j, ∃ x : ℝ, wd m c k j = x)

theorem nrm_eq (h : Same m m' c) : Ref.nrm m' c = nrm m c := by
  unfold Ref.nrm nrm
  rw [h.2.1, h.2.2.1]

theorem gv_eq (h : Same m m' c) : Ref.gv m' c = gv m c := by
  unfold Ref.gv gv
  rw [nrm_eq m m' c h, h.2.2.2.1]

theorem uv_eq (h : Same m m' c) : Ref.uv m' c = uv m c := by
  unfold Ref.uv uv
  rw [nrm_eq m m' c h, h.2.2.2.2.1]

theorem da_eq (h : Same m m' c) : Ref.da m' c = da m c := by
  unfold Ref.da da
  rw [h.1, h.2.2.2.2.2]

theorem half_real : ∃ x : ℝ, Ideal.ofBits .f32 0x3F000000#32 = (x : EReal) :=
  ⟨_, by simp [Ideal.ofBits, Ideal.ieee]; rfl⟩

theorem da_real (h : Real m c) (r : Fin 8192) (k : Fin 2816) : ∃ x : ℝ, da m c r k = x :=
  NormBack.real_sum fun j => NormBack.real_mul (NormBack.real_mul half_real (h.1 r j)) (h.2.2.2.2 k j)

theorem uv_real (h : Real m c) (r : Fin 8192) (k : Fin 2816) : ∃ x : ℝ, uv m c r k = x :=
  NormBack.real_sum fun j => NormBack.real_mul (NormBack.real_mul (NormBack.real_mul (h.2.1 r j) (NormBack.rs_real (h.2.1 r))) (h.2.2.1 j))
    (h.2.2.2.1 j k)

theorem dg_eq (h : Same m m' c) (hr : Real m c) :
    Ref.dgTerm m' c = (Cert.FfnHidIdeal.Gen.dats m 0 c).arrAt 3 Cert.FfnHidIdeal.cfg0.N := by
  rw [final_dg]
  refine funext fun i => ?_
  refine (congrArg (Ref.dgTerm m' c) (idx3 i)).trans ((Ref.dg_at m' c (i 0) (i 1) (i 2)).trans ((Ref.dgArr_at m' c _ _).trans ?_))
  rw [da_eq m m' c h, uv_eq m m' c h, gv_eq m m' c h]
  exact Silu.chain_eq _ _ (NormBack.real_mul (da_real m c hr _ _) (uv_real m c hr _ _))

theorem du_eq (h : Same m m' c) : Ref.duTerm m' c = (Cert.FfnHidIdeal.Gen.dats m 0 c).arrAt 4 Cert.FfnHidIdeal.cfg0.N := by
  rw [final_du]
  refine funext fun i => ?_
  refine (congrArg (Ref.duTerm m' c) (idx3 i)).trans ((Ref.du_at m' c (i 0) (i 1) (i 2)).trans ((Ref.duArr_at m' c _ _).trans ?_))
  rw [da_eq m m' c h, gv_eq m m' c h]
  exact mul_comm (G := EReal) _ _

theorem act_eq (h : Same m m' c) : Ref.actTerm m' c = (Cert.FfnHidIdeal.Gen.dats m 0 c).arrAt 5 Cert.FfnHidIdeal.cfg0.N := by
  rw [final_act]
  refine funext fun i => ?_
  refine (congrArg (Ref.actTerm m' c) (idx3 i)).trans ((Ref.act_at m' c (i 0) (i 1) (i 2)).trans ((Ref.actArr_at m' c _ _).trans ?_))
  rw [gv_eq m m' c h, uv_eq m m' c h]
  rfl

theorem df_eq (h : Same m m' c) : Ref.dfTerm m' c = (Cert.FfnHidIdeal.Gen.dats m 0 c).arrAt 6 Cert.FfnHidIdeal.cfg0.N := by
  rw [final_df]
  refine funext fun i => ?_
  have hi : i = ix2 (i 0) (i 1) := by
    funext a
    match a with
    | ⟨0, _⟩ => rfl
    | ⟨1, _⟩ => rfl
  refine (congrArg (Ref.dfTerm m' c) hi).trans ((Ref.df_at m' c (i 0) (i 1)).trans ?_)
  rw [h.1]
  rfl

end Agree

theorem real_of_pre [Cert.Pre_ffn_hid_finite.Facts] (m : (ℓ : Loc Cert.FfnHidIdeal.nD Cert.FfnHidIdeal.τ Cert.FfnHidIdeal.sig) → Buf (Elt Ideal) ℓ)
    (h : Cert.Pre_FfnHidIdeal_ffn_hid_finite m) (c : Dev Cert.FfnHidIdeal.nD) : Real m c := by
  obtain ⟨h0, h1, h2, h4, h5⟩ := h c
  exact ⟨fun r j => NormBack.real_of_flag _ _ (fun _ => rfl) h0 _, fun r j => NormBack.real_of_flag _ _ (fun _ => rfl) h1 _,
    fun j => NormBack.real_of_flag _ _ (fun _ => rfl) h2 _, fun j k => NormBack.real_of_flag _ _ (fun _ => rfl) h4 _,
    fun k j => NormBack.real_of_flag _ _ (fun _ => rfl) h5 _⟩

theorem algebraic [Cert.Pre_ffn_hid_finite.Facts] : Cert.algebraic_FfnHidIdeal_FfnHidRefIdeal_pre_ffn_hid_finite := by
  intro m g m' g' hpre hagree
  have hs : ∀ c, Same m m' c := fun c => by
    obtain ⟨h0, h1, h2, h3, h4, h5⟩ := hagree c
    exact ⟨funext fun r => funext fun j => congrFun h0 _, funext fun r => funext fun j => congrFun h1 _, funext fun j => congrFun h2 _,
      funext fun j => funext fun k => congrFun h3 _, funext fun j => funext fun k => congrFun h4 _, funext fun k => funext fun j => congrFun h5 _⟩
  refine ⟨fun c => (Cert.FfnHidIdeal.Gen.dats m 0 c).arrAt 3 Cert.FfnHidIdeal.cfg0.N,
    fun c => (Cert.FfnHidIdeal.Gen.dats m 0 c).arrAt 4 Cert.FfnHidIdeal.cfg0.N,
    fun c => (Cert.FfnHidIdeal.Gen.dats m 0 c).arrAt 5 Cert.FfnHidIdeal.cfg0.N,
    fun c => (Cert.FfnHidIdeal.Gen.dats m 0 c).arrAt 6 Cert.FfnHidIdeal.cfg0.N, Cert.FfnHidIdeal.Value.run_blocks m g, ?_⟩
  exact (θ_run Cert.FfnHidRefIdeal.defs _ _).mono
    (fun r h c => ⟨(h c).1.trans (dg_eq m m' c (hs c) (real_of_pre m hpre c)), (h c).2.1.trans (du_eq m m' c (hs c)),
      (h c).2.2.1.trans (act_eq m m' c (hs c)), (h c).2.2.2.1.trans (df_eq m m' c (hs c)), (h c).2.2.2.2⟩)
    (Ref.run m' g')

end Cert.FfnHidProof
-- ==== Proof.Proj.Pay.lean ====
/- One grid point of the projections' input gradient: what its stored values are, entry by entry. -/
module

public import proofs.«01_k».proof.Proof.Gen.ProjIdeal.Skeleton
public import Idealize.ShloMosaic.Lib.Pointwise
public import proofs.«01_k».proof.Proof.Lib.NormBack
public import Idealize.ShloMosaic.Lib.ValueIdx

@[expose] public section

set_option maxRecDepth 16384

noncomputable section

namespace Cert.ProjProof

open Idealize.ShloMosaic Cert.ProjIdeal Cert.ProjIdeal.Gen

/-- A load of columns `lo` on. -/
theorem ld_cols {n p w : ℕ} {Val : EltTy → Type} {e : EltTy} (A : (⟨2, ![n, p]⟩ : Shape).Idx → Val e) (lo : ℕ)
    (inb : ∀ a, (![0, lo] : Fin 2 → ℕ) a + (![n, w] : Fin 2 → ℕ) a ≤ (⟨2, ![n, p]⟩ : Shape).size a) (r : Fin n) (x : Fin w)
    (h : lo + x.val < p) :
    View.ld A (Rect.unit (s := ⟨2, ![n, p]⟩) ![0, lo] ![n, w] inb) (ix2 r x) = A (ix2 r ⟨lo + x.val, h⟩) := by
  refine congrArg A ?_
  funext a
  match a with
  | ⟨0, _⟩ => exact Fin.ext (by show 0 + 1 * r.val = r.val; omega)
  | ⟨1, _⟩ => exact Fin.ext (by show lo + 1 * x.val = lo + x.val; omega)

theorem pay4_at (s : Vec Ideal S512x128 .f32) (ws : Vec Ideal S1024x128 .bf16) (p0 p1 : Vec Ideal S512x512 .bf16)
    (w0 w1 : Vec Ideal S1024x512 .bf16) (p2 p3 : Vec Ideal S512x1024 .bf16) (w2 w3 : Vec Ideal S1024x1024 .bf16) (r : Fin 512) (j : Fin 1024) :
    k0_pay4 (F := Ideal) s ws p0 w0 p1 w1 p2 w2 p3 w3 (ix2 r j)
      = ∑ x, s (ix2 r x) * ws (ix2 j x) + ∑ x, p0 (ix2 r x) * w0 (ix2 j x) + ∑ x, p1 (ix2 r x) * w1 (ix2 j x)
        + ∑ x, p2 (ix2 r x) * w2 (ix2 j x) + ∑ x, p3 (ix2 r x) * w3 (ix2 j x) := by
  pointwise [k0_pay4]

theorem pay5_at (s : FVec Ideal S512x1024 .f32) (p4 : Vec Ideal S512x3072 .bf16) (w4 : Vec Ideal S1024x3072 .bf16)
    (p5 p6 p7 : Vec Ideal S512x1024 .bf16) (w5 w6 w7 : Vec Ideal S1024x1024 .bf16) (r : Fin 512) (j : Fin 1024) :
    k0_pay5 (F := Ideal) s p4 w4 p5 w5 p6 w6 p7 w7 (ix2 r j)
      = s (ix2 r j) + ∑ x, p4 (ix2 r x) * w4 (ix2 j x) + ∑ x, p5 (ix2 r x) * w5 (ix2 j x)
        + ∑ x, p6 (ix2 r x) * w6 (ix2 j x) + ∑ x, p7 (ix2 r x) * w7 (ix2 j x) := by
  pointwise [k0_pay5]

theorem pay3_at (j : Fin 1024) : k0_pay3 (F := Ideal) (ix2 0 j) = 0 := by
  pointwise [k0_pay3]

theorem pay1_at (d x : FVec Ideal S512x1024 .f32) (acc : Vec Ideal S1x1024 .f32) (j : Fin 1024) :
    k0_pay1 (F := Ideal) (k0_pay9 (F := Ideal) acc) (mulf d (k0_pay8 (F := Ideal) x)) (ix2 0 j)
      = acc (ix2 0 j) + ∑ r : Fin 512, d (ix2 r j) * (x (ix2 r j) * NormBack.rs fun l => x (ix2 r l)) := by
  pointwise [k0_pay1, k0_pay9, k0_pay8, k0_pay7, k0_pay6]
  rfl

theorem pay2_at (d x : FVec Ideal S512x1024 .f32) (w : Vec Ideal S1x1024 .f32) (dh : Vec Ideal S512x1024 .f32) (r : Fin 512) (j : Fin 1024) :
    k0_pay2 (F := Ideal) d (k0_pay7 (F := Ideal) x) (k0_pay8 (F := Ideal) x) w dh (ix2 r j)
      = dh (ix2 r j) + NormBack.back (fun l => x (ix2 r l)) (fun l => d (ix2 r l)) (fun l => w (ix2 0 l)) j := by
  pointwise [k0_pay2, k0_pay8, k0_pay7, k0_pay6]
  rfl

end Cert.ProjProof
-- ==== Proof.Lib.Ffn.lean ====
/- One row of the feed-forward: the normed row, a projection of it, and the residual stream after the gated down projection. -/
module

public import proofs.«01_k».proof.Proof.Lib.Silu

@[expose] public section

noncomputable section

namespace Cert.Ffn

open Idealize.ShloMosaic

/-- Column `x` of the `s`-th of four column groups. -/
def col (s : Fin 4) (x : Fin 704) : Fin 2816 := ⟨s.val * 704 + x.val, by omega⟩

/-- The row `h` over the root of its mean square, times the norm's weight `v`. -/
def nrm (h v : Fin 1024 → EReal) (j : Fin 1024) : EReal := h j * NormBack.rs h * v j

/-- Entry `k` of the normed row's product with the weights `a`. -/
def pr {n : ℕ} (h v : Fin 1024 → EReal) (a : Fin 1024 → Fin n → EReal) (k : Fin n) : EReal := ∑ j, nrm h v j * a j k

/-- The row after the feed-forward. -/
def out (h v : Fin 1024 → EReal) (g u : Fin 1024 → Fin 2816 → EReal) (d : Fin 2816 → Fin 1024 → EReal) (j : Fin 1024) : EReal :=
  h j + Ideal.ofBits .f32 0x3F000000#32 * ∑ k, Silu.act (pr h v g k) (pr h v u k) * d k j

end Cert.Ffn
-- ==== Proof.Lib.Split.lean ====
/- The order the version keeps the input projection's columns in: the wide groups put together, and the two narrow ones. -/
module

public import proofs.«01_k».proof.Proof.Lib.Ffn

@[expose] public section

noncomputable section

namespace Cert.Split

/-- Column `k` of the wide columns put together, as a column of the projection: the two narrow groups of sixteen are left out. -/
def bigCol (k : Fin 9216) : Fin 9248 :=
  if k.val < 3072 then ⟨k.val, by omega⟩ else if k.val < 7168 then ⟨k.val + 16, by omega⟩ else ⟨k.val + 32, by omega⟩

/-- The narrow columns put together: the two groups of sixteen, and columns of zeros behind them. -/
def small (f : Fin 9248 → EReal) (l : Fin 128) : EReal :=
  if h : l.val < 16 then f ⟨3072 + l.val, by omega⟩ else if h' : l.val < 32 then f ⟨7184 + (l.val - 16), by omega⟩ else 0

/-- The normed row's product with the narrow columns is the narrow columns of its product. -/
theorem pr_small (h v : Fin 1024 → EReal) (a : Fin 1024 → Fin 9248 → EReal) (l : Fin 128) :
    Ffn.pr h v (fun j => small (a j)) l = small (Ffn.pr h v a) l := by
  by_cases h1 : l.val < 16
  · have e : ∀ f : Fin 9248 → EReal, small f l = f ⟨3072 + l.val, by omega⟩ := fun f => dif_pos h1
    rw [e]
    exact Finset.sum_congr rfl fun j _ => congrArg (Ffn.nrm h v j * ·) (e (a j))
  by_cases h2 : l.val < 32
  · have e : ∀ f : Fin 9248 → EReal, small f l = f ⟨7184 + (l.val - 16), by omega⟩ := fun f => (dif_neg h1).trans (dif_pos h2)
    rw [e]
    exact Finset.sum_congr rfl fun j _ => congrArg (Ffn.nrm h v j * ·) (e (a j))
  · have e : ∀ f : Fin 9248 → EReal, small f l = 0 := fun f => (dif_neg h1).trans (dif_neg h2)
    rw [e]
    exact Finset.sum_eq_zero fun j _ => (congrArg (Ffn.nrm h v j * ·) (e (a j))).trans (mul_zero _)

end Cert.Split
-- ==== Proof.Proj.Entry.lean ====
/- The arrays the projections' input gradient is launched over, entry by entry in the program's own arguments, and the block each
   point sees of them. -/
module

public import proofs.«01_k».proof.Proof.Gen.ProjIdeal.Value
public import proofs.«01_k».proof.Proof.Lib.Split
public import Idealize.ShloMosaic.Lib.Pipeline.ValueKit
public import Idealize.ShloMosaic.Lib.StableHlo.ReadAt
public import Idealize.ShloMosaic.Lib.Pointwise

@[expose] public section

set_option maxRecDepth 16384

noncomputable section

namespace Cert.ProjProof

open Idealize.ShloMosaic Idealize.ShloMosaic.TcCoe Idealize.SL.Sem Cert.ProjIdeal Cert.ProjIdeal.Gen
open Idealize.ShloMosaic.Pipeline (Dat)
open Cert.Split

variable (m : (ℓ : Loc nD τ sig) → Buf (Elt Ideal) ℓ) (c : Dev nD)

/-- The cotangent of the residual stream. -/
def dh (r : Fin 8192) (j : Fin 1024) : EReal := m ((c : Thread nD τ).loc main_arg0) (ix3 0 r j)

/-- The norm's input. -/
def hid (r : Fin 8192) (j : Fin 1024) : EReal := m ((c : Thread nD τ).loc main_arg1) (ix3 0 r j)

/-- The norm's weight. -/
def nw (j : Fin 1024) : EReal := m ((c : Thread nD τ).loc main_arg2) (ix2 0 j)

/-- The cotangent of the projection, in the projection's own order of columns. -/
def ct (r : Fin 8192) (k : Fin 9248) : EReal := m ((c : Thread nD τ).loc main_arg3) (ix3 0 r k)

/-- The projection's weight. -/
def wi (j : Fin 1024) (k : Fin 9248) : EReal := m ((c : Thread nD τ).loc main_arg4) (ix2 j k)

theorem entry_dh (r : Fin 8192) (l : Fin 1024) : V m c main_v26 (ix2 r l) = dh m c r l := by
  unfold V dh
  after_reads_at

theorem entry_hid (r : Fin 8192) (l : Fin 1024) : V m c main_v27 (ix2 r l) = hid m c r l := by
  unfold V hid
  after_reads_at

theorem entry_nw (l : Fin 1024) : V m c main_arg2 (ix2 0 l) = nw m c l := by
  unfold V nw
  after_reads_at

theorem entry_ws (j : Fin 1024) (l : Fin 128) : V m c main_v29 (ix2 j l) = small (wi m c j) l := by
  unfold V small wi
  after_reads_at
  have hl := l.isLt
  repeat' split
  all_goals first
    | omega
    | (after_reads_at; done)
    | (after_reads_at
       refine congrArg (fun z => m (c, Proc.tc.devRef main_arg4) (ix2 j z)) (Fin.ext ?_)
       dsimp only
       omega)

theorem entry_ds (r : Fin 8192) (l : Fin 128) : V m c main_v16 (ix2 r l) = small (ct m c r) l := by
  unfold V small ct
  after_reads_at
  have hl := l.isLt
  repeat' split
  all_goals first
    | omega
    | (after_reads_at; done)
    | (after_reads_at
       refine congrArg (fun z => m (c, Proc.tc.devRef main_arg3) (ix3 0 r z)) (Fin.ext ?_)
       dsimp only
       omega)

theorem entry_wb (j : Fin 1024) (k : Fin 9216) : V m c main_v28 (ix2 j k) = wi m c j (bigCol k) := by
  unfold V bigCol wi
  after_reads_at
  have hk := k.isLt
  repeat' split
  all_goals first
    | omega
    | (after_reads_at; done)
    | (after_reads_at
       refine congrArg (fun z => m (c, Proc.tc.devRef main_arg4) (ix2 j z)) (Fin.ext ?_)
       dsimp only
       omega)

theorem entry_p0 (r : Fin 8192) (x : Fin 512) : V m c main_v18 (ix2 r x) = ct m c r (bigCol ⟨0 + x.val, by omega⟩) := by
  unfold V bigCol ct
  after_reads_at
  have hx := x.isLt
  repeat' split
  all_goals first
    | omega
    | (after_reads_at; done)
    | (after_reads_at
       refine congrArg (fun z => m (c, Proc.tc.devRef main_arg3) (ix3 0 r z)) (Fin.ext ?_)
       dsimp only
       omega)

theorem entry_p1 (r : Fin 8192) (x : Fin 512) : V m c main_v19 (ix2 r x) = ct m c r (bigCol ⟨512 + x.val, by omega⟩) := by
  unfold V bigCol ct
  after_reads_at
  have hx := x.isLt
  repeat' split
  all_goals first
    | omega
    | (after_reads_at; done)
    | (after_reads_at
       refine congrArg (fun z => m (c, Proc.tc.devRef main_arg3) (ix3 0 r z)) (Fin.ext ?_)
       dsimp only
       omega)

theorem entry_p2 (r : Fin 8192) (x : Fin 1024) : V m c main_v20 (ix2 r x) = ct m c r (bigCol ⟨1024 + x.val, by omega⟩) := by
  unfold V bigCol ct
  after_reads_at
  have hx := x.isLt
  repeat' split
  all_goals first
    | omega
    | (after_reads_at; done)
    | (after_reads_at
       refine congrArg (fun z => m (c, Proc.tc.devRef main_arg3) (ix3 0 r z)) (Fin.ext ?_)
       dsimp only
       omega)

theorem entry_p3 (r : Fin 8192) (x : Fin 1024) : V m c main_v21 (ix2 r x) = ct m c r (bigCol ⟨2048 + x.val, by omega⟩) := by
  unfold V bigCol ct
  after_reads_at
  have hx := x.isLt
  repeat' split
  all_goals first
    | omega
    | (after_reads_at; done)
    | (after_reads_at
       refine congrArg (fun z => m (c, Proc.tc.devRef main_arg3) (ix3 0 r z)) (Fin.ext ?_)
       dsimp only
       omega)

theorem entry_p4 (r : Fin 8192) (x : Fin 3072) : V m c main_v22 (ix2 r x) = ct m c r (bigCol ⟨3072 + x.val, by omega⟩) := by
  unfold V bigCol ct
  after_reads_at
  have hx := x.isLt
  repeat' split
  all_goals first
    | omega
    | (after_reads_at; done)
    | (after_reads_at
       refine congrArg (fun z => m (c, Proc.tc.devRef main_arg3) (ix3 0 r z)) (Fin.ext ?_)
       dsimp only
       omega)

theorem entry_p5 (r : Fin 8192) (x : Fin 1024) : V m c main_v23 (ix2 r x) = ct m c r (bigCol ⟨6144 + x.val, by omega⟩) := by
  unfold V bigCol ct
  after_reads_at
  have hx := x.isLt
  repeat' split
  all_goals first
    | omega
    | (after_reads_at; done)
    | (after_reads_at
       refine congrArg (fun z => m (c, Proc.tc.devRef main_arg3) (ix3 0 r z)) (Fin.ext ?_)
       dsimp only
       omega)

theorem entry_p6 (r : Fin 8192) (x : Fin 1024) : V m c main_v24 (ix2 r x) = ct m c r (bigCol ⟨7168 + x.val, by omega⟩) := by
  unfold V bigCol ct
  after_reads_at
  have hx := x.isLt
  repeat' split
  all_goals first
    | omega
    | (after_reads_at; done)
    | (after_reads_at
       refine congrArg (fun z => m (c, Proc.tc.devRef main_arg3) (ix3 0 r z)) (Fin.ext ?_)
       dsimp only
       omega)

theorem entry_p7 (r : Fin 8192) (x : Fin 1024) : V m c main_v25 (ix2 r x) = ct m c r (bigCol ⟨8192 + x.val, by omega⟩) := by
  unfold V bigCol ct
  after_reads_at
  have hx := x.isLt
  repeat' split
  all_goals first
    | omega
    | (after_reads_at; done)
    | (after_reads_at
       refine congrArg (fun z => m (c, Proc.tc.devRef main_arg3) (ix3 0 r z)) (Fin.ext ?_)
       dsimp only
       omega)

theorem idx : ∀ t : Fin cfg0.N, win0_0.index t = ![t.val, 0] ∧ win0_1.index t = ![t.val, 0] ∧ win0_2.index t = ![0, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![0, 0] ∧ win0_13.index t = ![t.val, 0] ∧ win0_14.index t = ![0, 0] :=
  (by decide +kernel : ∀ t : Fin grid0.N, _)

/-- Row `r` of the block that point `t` works on, as a row of the arrays. -/
def row (t : Fin cfg0.N) (r : Fin 512) : Fin 8192 :=
  ⟨t.val * 512 + r.val, by have hN := lt_of_lt_of_eq t.isLt (show cfg0.N = 16 from N_0); omega⟩

theorem blk_dh (t : Fin cfg0.N) (r : Fin 512) (l : Fin 1024) : iblk m c 0 t (ix2 r l) = dh m c (row t r) l := by
  refine Eq.trans ?_ (entry_dh m c (row t r) l)
  unfold row
  blk_ext [iblk, idx t]

theorem blk_hid (t : Fin cfg0.N) (r : Fin 512) (l : Fin 1024) : iblk m c 1 t (ix2 r l) = hid m c (row t r) l := by
  refine Eq.trans ?_ (entry_hid m c (row t r) l)
  unfold row
  blk_ext [iblk, idx t]

theorem blk_nw (t : Fin cfg0.N) (l : Fin 1024) : iblk m c 2 t (ix2 0 l) = nw m c l := by
  refine Eq.trans ?_ (entry_nw m c l)
  blk_ext [iblk, idx t]

theorem blk_p0 (t : Fin cfg0.N) (r : Fin 512) (l : Fin 512) : iblk m c 3 t (ix2 r l) = ct m c (row t r) (bigCol ⟨0 + l.val, by omega⟩) := by
  refine Eq.trans ?_ (entry_p0 m c (row t r) l)
  unfold row
  blk_ext [iblk, idx t]

theorem blk_p1 (t : Fin cfg0.N) (r : Fin 512) (l : Fin 512) : iblk m c 4 t (ix2 r l) = ct m c (row t r) (bigCol ⟨512 + l.val, by omega⟩) := by
  refine Eq.trans ?_ (entry_p1 m c (row t r) l)
  unfold row
  blk_ext [iblk, idx t]

theorem blk_p2 (t : Fin cfg0.N) (r : Fin 512) (l : Fin 1024) : iblk m c 5 t (ix2 r l) = ct m c (row t r) (bigCol ⟨1024 + l.val, by omega⟩) := by
  refine Eq.trans ?_ (entry_p2 m c (row t r) l)
  unfold row
  blk_ext [iblk, idx t]

theorem blk_p3 (t : Fin cfg0.N) (r : Fin 512) (l : Fin 1024) : iblk m c 6 t (ix2 r l) = ct m c (row t r) (bigCol ⟨2048 + l.val, by omega⟩) := by
  refine Eq.trans ?_ (entry_p3 m c (row t r) l)
  unfold row
  blk_ext [iblk, idx t]

theorem blk_p4 (t : Fin cfg0.N) (r : Fin 512) (l : Fin 3072) : iblk m c 7 t (ix2 r l) = ct m c (row t r) (bigCol ⟨3072 + l.val, by omega⟩) := by
  refine Eq.trans ?_ (entry_p4 m c (row t r) l)
  unfold row
  blk_ext [iblk, idx t]

theorem blk_p5 (t : Fin cfg0.N) (r : Fin 512) (l : Fin 1024) : iblk m c 8 t (ix2 r l) = ct m c (row t r) (bigCol ⟨6144 + l.val, by omega⟩) := by
  refine Eq.trans ?_ (entry_p5 m c (row t r) l)
  unfold row
  blk_ext [iblk, idx t]

theorem blk_p6 (t : Fin cfg0.N) (r : Fin 512) (l : Fin 1024) : iblk m c 9 t (ix2 r l) = ct m c (row t r) (bigCol ⟨7168 + l.val, by omega⟩) := by
  refine Eq.trans ?_ (entry_p6 m c (row t r) l)
  unfold row
  blk_ext [iblk, idx t]

theorem blk_p7 (t : Fin cfg0.N) (r : Fin 512) (l : Fin 1024) : iblk m c 10 t (ix2 r l) = ct m c (row t r) (bigCol ⟨8192 + l.val, by omega⟩) := by
  refine Eq.trans ?_ (entry_p7 m c (row t r) l)
  unfold row
  blk_ext [iblk, idx t]

theorem blk_ds (t : Fin cfg0.N) (r : Fin 512) (l : Fin 128) : iblk m c 11 t (ix2 r l) = small (ct m c (row t r)) l := by
  refine Eq.trans ?_ (entry_ds m c (row t r) l)
  unfold row
  blk_ext [iblk, idx t]

theorem blk_ws (t : Fin cfg0.N) (r : Fin 1024) (l : Fin 128) : iblk m c 12 t (ix2 r l) = small (wi m c r) l := by
  refine Eq.trans ?_ (entry_ws m c r l)
  blk_ext [iblk, idx t]

end Cert.ProjProof
-- ==== Proof.Proj.Cols.lean ====
/- A sum over the projection's columns, group by group in the order the version keeps them. -/
module

public import proofs.«01_k».proof.Proof.Proj.Entry

@[expose] public section

set_option maxRecDepth 16384

noncomputable section

namespace Cert.ProjProof

open Idealize.ShloMosaic
open Cert.Split

/-- The sum of `w` columns from `lo` on, over a function of all numbers. -/
theorem sum_cols (G : ℕ → EReal) (lo w : ℕ) : ∑ x : Fin w, G (lo + x.val) = ∑ k ∈ Finset.Ico lo (lo + w), G k := by
  rw [Finset.sum_Ico_eq_sum_range, Nat.add_sub_cancel_left, Fin.sum_univ_eq_sum_range (fun x => G (lo + x))]

/-- A product of two narrow groups is the narrow group of the products. -/
theorem small_mul (f g : Fin 9248 → EReal) (l : Fin 128) : small f l * small g l = small (fun k => f k * g k) l := by
  unfold small
  split
  · rfl
  · split
    · rfl
    · exact mul_zero _

theorem sum_small (G : ℕ → EReal) :
    ∑ l : Fin 128, small (fun k => G k.val) l = ∑ k ∈ Finset.Ico 3072 3088, G k + ∑ k ∈ Finset.Ico 7184 7200, G k := by
  have e1 : ∑ l : Fin 128, small (fun k => G k.val) l
      = ∑ l ∈ Finset.range 128, (if l < 16 then G (3072 + l) else if l < 32 then G (7184 + (l - 16)) else 0) := by
    rw [← Fin.sum_univ_eq_sum_range (fun l => if l < 16 then G (3072 + l) else if l < 32 then G (7184 + (l - 16)) else 0)]
    refine Finset.sum_congr rfl fun l _ => ?_
    unfold small
    split_ifs <;> rfl
  rw [e1, Finset.range_eq_Ico, ← Finset.sum_Ico_consecutive _ (show 0 ≤ 16 by omega) (show 16 ≤ 128 by omega),
    ← Finset.sum_Ico_consecutive _ (show 16 ≤ 32 by omega) (show 32 ≤ 128 by omega)]
  rw [Finset.sum_Ico_eq_sum_range (fun k => G k) 3072 3088, Finset.sum_Ico_eq_sum_range (fun k => G k) 7184 7200,
    Finset.sum_eq_zero (s := Finset.Ico 32 128), add_zero, Finset.sum_Ico_eq_sum_range _ 0 16, Finset.sum_Ico_eq_sum_range _ 16 32]
  · refine congrArg₂ (· + ·) (Finset.sum_congr rfl fun l hl => ?_) (Finset.sum_congr rfl fun l hl => ?_)
    · have h := Finset.mem_range.1 hl
      rw [if_pos (by omega), Nat.zero_add]
    · have h := Finset.mem_range.1 hl
      rw [if_neg (by omega), if_pos (by omega), Nat.add_sub_cancel_left]
  · intro l hl
    have h := Finset.mem_Ico.1 hl
    rw [if_neg (by omega), if_neg (by omega)]

/-- A group of wide columns lies before, between or behind the narrow ones. -/
theorem sum_big (G : ℕ → EReal) (lo w sh : ℕ) (h : lo + w ≤ 9216)
    (hs : ∀ x : Fin w, (bigCol ⟨lo + x.val, by omega⟩).val = lo + sh + x.val) :
    ∑ x : Fin w, G (bigCol ⟨lo + x.val, by omega⟩).val = ∑ k ∈ Finset.Ico (lo + sh) (lo + sh + w), G k := by
  rw [← sum_cols]
  exact Finset.sum_congr rfl fun x _ => congrArg G (hs x)

/-- All the columns: the narrow ones, then the wide ones group by group. -/
theorem sum_all (f : Fin 9248 → EReal) :
    ∑ k, f k = ∑ l, small f l + ∑ x : Fin 512, f (bigCol ⟨0 + x.val, by omega⟩) + ∑ x : Fin 512, f (bigCol ⟨512 + x.val, by omega⟩) + ∑ x : Fin 1024, f (bigCol ⟨1024 + x.val, by omega⟩) + ∑ x : Fin 1024, f (bigCol ⟨2048 + x.val, by omega⟩) + ∑ x : Fin 3072, f (bigCol ⟨3072 + x.val, by omega⟩) + ∑ x : Fin 1024, f (bigCol ⟨6144 + x.val, by omega⟩) + ∑ x : Fin 1024, f (bigCol ⟨7168 + x.val, by omega⟩) + ∑ x : Fin 1024, f (bigCol ⟨8192 + x.val, by omega⟩) := by
  obtain ⟨G, rfl⟩ : ∃ G : ℕ → EReal, f = fun k => G k.val :=
    ⟨fun k => if h : k < 9248 then f ⟨k, h⟩ else 0, funext fun k => by
      show f k = if h : k.val < 9248 then f ⟨k.val, h⟩ else 0
      rw [dif_pos k.isLt]⟩
  rw [sum_small, Fin.sum_univ_eq_sum_range G, Finset.range_eq_Ico]
  have e0 := sum_big G 0 512 0 (by omega) fun x => by
    have hx := x.isLt
    unfold bigCol
    dsimp only
    split_ifs <;> first | omega | (dsimp only; done) | (dsimp only; omega)
  have e1 := sum_big G 512 512 0 (by omega) fun x => by
    have hx := x.isLt
    unfold bigCol
    dsimp only
    split_ifs <;> first | omega | (dsimp only; done) | (dsimp only; omega)
  have e2 := sum_big G 1024 1024 0 (by omega) fun x => by
    have hx := x.isLt
    unfold bigCol
    dsimp only
    split_ifs <;> first | omega | (dsimp only; done) | (dsimp only; omega)
  have e3 := sum_big G 2048 1024 0 (by omega) fun x => by
    have hx := x.isLt
    unfold bigCol
    dsimp only
    split_ifs <;> first | omega | (dsimp only; done) | (dsimp only; omega)
  have e4 := sum_big G 3072 3072 16 (by omega) fun x => by
    have hx := x.isLt
    unfold bigCol
    dsimp only
    split_ifs <;> first | omega | (dsimp only; done) | (dsimp only; omega)
  have e5 := sum_big G 6144 1024 16 (by omega) fun x => by
    have hx := x.isLt
    unfold bigCol
    dsimp only
    split_ifs <;> first | omega | (dsimp only; done) | (dsimp only; omega)
  have e6 := sum_big G 7168 1024 32 (by omega) fun x => by
    have hx := x.isLt
    unfold bigCol
    dsimp only
    split_ifs <;> first | omega | (dsimp only; done) | (dsimp only; omega)
  have e7 := sum_big G 8192 1024 32 (by omega) fun x => by
    have hx := x.isLt
    unfold bigCol
    dsimp only
    split_ifs <;> first | omega | (dsimp only; done) | (dsimp only; omega)
  rw [e0, e1, e2, e3, e4, e5, e6, e7]
  simp only [Nat.reduceAdd]
  rw [← Finset.sum_Ico_consecutive G (show 0 ≤ 512 by omega) (show 512 ≤ 9248 by omega), ← Finset.sum_Ico_consecutive G (show 512 ≤ 1024 by omega) (show 1024 ≤ 9248 by omega), ← Finset.sum_Ico_consecutive G (show 1024 ≤ 2048 by omega) (show 2048 ≤ 9248 by omega), ← Finset.sum_Ico_consecutive G (show 2048 ≤ 3072 by omega) (show 3072 ≤ 9248 by omega), ← Finset.sum_Ico_consecutive G (show 3072 ≤ 3088 by omega) (show 3088 ≤ 9248 by omega), ← Finset.sum_Ico_consecutive G (show 3088 ≤ 6160 by omega) (show 6160 ≤ 9248 by omega), ← Finset.sum_Ico_consecutive G (show 6160 ≤ 7184 by omega) (show 7184 ≤ 9248 by omega), ← Finset.sum_Ico_consecutive G (show 7184 ≤ 7200 by omega) (show 7200 ≤ 9248 by omega), ← Finset.sum_Ico_consecutive G (show 7200 ≤ 8224 by omega) (show 8224 ≤ 9248 by omega)]
  ac_rfl

end Cert.ProjProof
-- ==== Proof.Proj.Points.lean ====
/- What every point of the projections' input gradient leaves in its outputs and in the weight buffer it carries. -/
module

public import proofs.«01_k».proof.Proof.Proj.Pay
public import proofs.«01_k».proof.Proof.Proj.Cols
public import proofs.«01_k».proof.Proof.Lib.Groups
public import Idealize.ShloMosaic.Lib.Pipeline.ReadBack

@[expose] public section

set_option maxRecDepth 16384

noncomputable section

namespace Cert.ProjProof

open Idealize.ShloMosaic Idealize.ShloMosaic.TcCoe Idealize.SL.Sem Cert.ProjIdeal Cert.ProjIdeal.Gen
open Idealize.ShloMosaic.Pipeline (Dat)
open Cert.Groups

variable (m : (ℓ : Loc nD τ sig) → Buf (Elt Ideal) ℓ) (c : Dev nD)

/-- The gradient at the norm's output for one block of rows: the projection's cotangents times its weights, piece by piece. -/
def dnBlk (s : Vec Ideal S512x128 .f32) (ws : Vec Ideal S1024x128 .bf16) (p0 p1 : Vec Ideal S512x512 .bf16) (p2 p3 : Vec Ideal S512x1024 .bf16)
    (p4 : Vec Ideal S512x3072 .bf16) (p5 p6 p7 : Vec Ideal S512x1024 .bf16) (w : Vec Ideal S1024x9216 .bf16) : FVec Ideal S512x1024 .f32 :=
  k0_pay5
    (k0_pay4 s ws p0 (View.ld w (Rect.unit ![0, 0] ![1024, 512] inb_S1024x9216_S1024x512_0_0))
      p1 (View.ld w (Rect.unit ![0, 512] ![1024, 512] inb_S1024x9216_S1024x512_0_512))
      p2 (View.ld w (Rect.unit ![0, 1024] ![1024, 1024] inb_S1024x9216_S1024x1024_0_1024))
      p3 (View.ld w (Rect.unit ![0, 2048] ![1024, 1024] inb_S1024x9216_S1024x1024_0_2048)))
    p4 (View.ld w (Rect.unit ![0, 3072] ![1024, 3072] inb_S1024x9216_S1024x3072_0_3072))
    p5 (View.ld w (Rect.unit ![0, 6144] ![1024, 1024] inb_S1024x9216_S1024x1024_0_6144))
    p6 (View.ld w (Rect.unit ![0, 7168] ![1024, 1024] inb_S1024x9216_S1024x1024_0_7168))
    p7 (View.ld w (Rect.unit ![0, 8192] ![1024, 1024] inb_S1024x9216_S1024x1024_0_8192))

theorem dnBlk_at (s : Vec Ideal S512x128 .f32) (ws : Vec Ideal S1024x128 .bf16) (p0 p1 : Vec Ideal S512x512 .bf16) (p2 p3 : Vec Ideal S512x1024 .bf16)
    (p4 : Vec Ideal S512x3072 .bf16) (p5 p6 p7 : Vec Ideal S512x1024 .bf16) (w : Vec Ideal S1024x9216 .bf16)
    (r : Fin 512) (j : Fin 1024) :
    dnBlk s ws p0 p1 p2 p3 p4 p5 p6 p7 w (ix2 r j) = ∑ x, s (ix2 r x) * ws (ix2 j x)
      + ∑ x : Fin 512, p0 (ix2 r x) * w (ix2 j ⟨0 + x.val, by omega⟩)
      + ∑ x : Fin 512, p1 (ix2 r x) * w (ix2 j ⟨512 + x.val, by omega⟩)
      + ∑ x : Fin 1024, p2 (ix2 r x) * w (ix2 j ⟨1024 + x.val, by omega⟩)
      + ∑ x : Fin 1024, p3 (ix2 r x) * w (ix2 j ⟨2048 + x.val, by omega⟩)
      + ∑ x : Fin 3072, p4 (ix2 r x) * w (ix2 j ⟨3072 + x.val, by omega⟩)
      + ∑ x : Fin 1024, p5 (ix2 r x) * w (ix2 j ⟨6144 + x.val, by omega⟩)
      + ∑ x : Fin 1024, p6 (ix2 r x) * w (ix2 j ⟨7168 + x.val, by omega⟩)
      + ∑ x : Fin 1024, p7 (ix2 r x) * w (ix2 j ⟨8192 + x.val, by omega⟩) := by
  unfold dnBlk
  refine (pay5_at _ _ _ _ _ _ _ _ _ r j).trans ?_
  rw [pay4_at]
  refine congrArg₂ (· + ·) (congrArg₂ (· + ·) (congrArg₂ (· + ·) (congrArg₂ (· + ·) (congrArg₂ (· + ·) (congrArg₂ (· + ·) (congrArg₂ (· + ·) (congrArg₂ (· + ·) rfl (Finset.sum_congr rfl fun x _ => congrArg (_ * ·) (ld_cols _ _ _ j x _))) (Finset.sum_congr rfl fun x _ => congrArg (_ * ·) (ld_cols _ _ _ j x _))) (Finset.sum_congr rfl fun x _ => congrArg (_ * ·) (ld_cols _ _ _ j x _))) (Finset.sum_congr rfl fun x _ => congrArg (_ * ·) (ld_cols _ _ _ j x _))) (Finset.sum_congr rfl fun x _ => congrArg (_ * ·) (ld_cols _ _ _ j x _))) (Finset.sum_congr rfl fun x _ => congrArg (_ * ·) (ld_cols _ _ _ j x _))) (Finset.sum_congr rfl fun x _ => congrArg (_ * ·) (ld_cols _ _ _ j x _))) (Finset.sum_congr rfl fun x _ => congrArg (_ * ·) (ld_cols _ _ _ j x _))

/-- The gradient at the norm's output. -/
def dn (r : Fin 8192) (j : Fin 1024) : EReal := ∑ k, ct m c r k * wi m c j k

/-- … for the rows of a point. -/
def dnPt (t : Fin cfg0.N) : FVec Ideal S512x1024 .f32 :=
  dnBlk (iblk m c 11 t) (iblk m c 12 t) (iblk m c 3 t) (iblk m c 4 t) (iblk m c 5 t) (iblk m c 6 t) (iblk m c 7 t) (iblk m c 8 t)
    (iblk m c 9 t) (iblk m c 10 t) (V m c main_v28)

theorem dn_at (t : Fin cfg0.N) (r : Fin 512) (j : Fin 1024) : dnPt m c t (ix2 r j) = dn m c (row t r) j := by
  refine (dnBlk_at _ _ _ _ _ _ _ _ _ _ _ r j).trans ?_
  unfold dn
  rw [sum_all]
  refine congrArg₂ (· + ·) (congrArg₂ (· + ·) (congrArg₂ (· + ·) (congrArg₂ (· + ·) (congrArg₂ (· + ·) (congrArg₂ (· + ·) (congrArg₂ (· + ·) (congrArg₂ (· + ·) (Finset.sum_congr rfl fun x _ => (congrArg₂ (fun a b : EReal => a * b) (blk_ds m c t r x) (blk_ws m c t j x)).trans (small_mul _ _ x))
    (Finset.sum_congr rfl fun x _ => congrArg₂ (fun a b : EReal => a * b) (blk_p0 m c t r x) (entry_wb m c j _)))
    (Finset.sum_congr rfl fun x _ => congrArg₂ (fun a b : EReal => a * b) (blk_p1 m c t r x) (entry_wb m c j _)))
    (Finset.sum_congr rfl fun x _ => congrArg₂ (fun a b : EReal => a * b) (blk_p2 m c t r x) (entry_wb m c j _)))
    (Finset.sum_congr rfl fun x _ => congrArg₂ (fun a b : EReal => a * b) (blk_p3 m c t r x) (entry_wb m c j _)))
    (Finset.sum_congr rfl fun x _ => congrArg₂ (fun a b : EReal => a * b) (blk_p4 m c t r x) (entry_wb m c j _)))
    (Finset.sum_congr rfl fun x _ => congrArg₂ (fun a b : EReal => a * b) (blk_p5 m c t r x) (entry_wb m c j _)))
    (Finset.sum_congr rfl fun x _ => congrArg₂ (fun a b : EReal => a * b) (blk_p6 m c t r x) (entry_wb m c j _)))
    (Finset.sum_congr rfl fun x _ => congrArg₂ (fun a b : EReal => a * b) (blk_p7 m c t r x) (entry_wb m c j _))

/-- The first point copies the weights in. -/
theorem kept_first (t : Fin cfg0.N) (h : t.val % 16 = 0) : (outsAt0 m c t.val t.isLt).2.2 = V m c main_v28 := by
  rw [outsAt0_A m c t h]
  dsimp only
  frame_out
  rw [canon_whole]
  rfl

/-- Every later point leaves them. -/
theorem kept_next (t : Fin cfg0.N) (h : ¬ t.val % 16 = 0) :
    (outsAt0 m c t.val t.isLt).2.2 = (outsAt0 m c (t.val - 1) (Nat.lt_of_le_of_lt (Nat.sub_le _ _) t.isLt)).2.2 := by
  rw [outsAt0_B m c t h]
  dsimp only
  rfl

theorem kept (n : ℕ) (hn : n < cfg0.N) : (outsAt0 m c n hn).2.2 = V m c main_v28 := by
  induction n with
  | zero => exact kept_first m c ⟨0, hn⟩ rfl
  | succ n ih =>
    by_cases h : (n + 1) % 16 = 0
    · exact kept_first m c ⟨n + 1, hn⟩ h
    · exact (kept_next m c ⟨n + 1, hn⟩ h).trans (ih _)

theorem dx_point (t : Fin cfg0.N) (r : Fin 512) (j : Fin 1024) :
    k0_pay2 (F := Ideal) (dnPt m c t) (k0_pay7 (iblk m c 1 t)) (k0_pay8 (iblk m c 1 t))
      (iblk m c 2 t) (iblk m c 0 t) (ix2 r j)
      = dh m c (row t r) j + NormBack.back (hid m c (row t r)) (dn m c (row t r)) (nw m c) j := by
  refine (pay2_at _ _ _ _ r j).trans ?_
  rw [show (fun l => dnPt m c t (ix2 r l)) = dn m c (row t r) from
      funext fun l => dn_at m c t r l,
    show (fun l => iblk m c 1 t (ix2 r l)) = hid m c (row t r) from funext fun l => blk_hid m c t r l,
    show (fun l => iblk m c 2 t (ix2 0 l)) = nw m c from funext fun l => blk_nw m c t l]
  exact congrArg (· + _) (blk_dh m c t r j)

/-- One block's part of the weight's gradient. -/
def dwPart (t : Fin cfg0.N) (j : Fin 1024) : EReal :=
  ∑ r : Fin 512, dn m c (row t r) j * (hid m c (row t r) j * NormBack.rs (hid m c (row t r)))

theorem dw_point (t : Fin cfg0.N) (acc : Vec Ideal S1x1024 .f32) (j : Fin 1024) :
    k0_pay1 (F := Ideal) (k0_pay9 (F := Ideal) acc) (mulf (dnPt m c t) (k0_pay8 (F := Ideal) (iblk m c 1 t))) (ix2 0 j) = acc (ix2 0 j) + dwPart m c t j := by
  refine (pay1_at _ _ acc j).trans (congrArg (acc (ix2 0 j) + ·) (Finset.sum_congr rfl fun r _ => ?_))
  rw [dn_at, show (fun l => iblk m c 1 t (ix2 r l)) = hid m c (row t r) from funext fun l => blk_hid m c t r l]
  exact congrArg (fun z => dn m c (row t r) j * (z * _)) (blk_hid m c t r j)

theorem out_dx (t : Fin cfg0.N) (r : Fin 512) (j : Fin 1024) :
    (outsAt0 m c t.val t.isLt).1 (ix2 r j) = dh m c (row t r) j + NormBack.back (hid m c (row t r)) (dn m c (row t r)) (nw m c) j := by
  refine Eq.trans ?_ (dx_point m c t r j)
  by_cases h : t.val % 16 = 0
  · rw [outsAt0_A m c t h]
    dsimp only
    frame_out
    simp only [readCov_whole]
    rfl
  · rw [outsAt0_B m c t h]
    dsimp only
    frame_out
    simp only [read_unread_whole, kept m c (t.val - 1) (Nat.lt_of_le_of_lt (Nat.sub_le _ _) t.isLt)]
    rfl

theorem out_dw_first (t : Fin cfg0.N) (h : t.val % 16 = 0) (j : Fin 1024) :
    (outsAt0 m c t.val t.isLt).2.1 (ix2 0 j) = 0 + dwPart m c t j := by
  refine Eq.trans ?_ ((dw_point m c t (k0_pay3 (F := Ideal)) j).trans (congrArg (· + _) (pay3_at j)))
  rw [outsAt0_A m c t h]
  dsimp only
  frame_out
  simp only [readCov_whole]
  rfl

theorem out_dw_next (t : Fin cfg0.N) (h : ¬ t.val % 16 = 0) (j : Fin 1024) :
    (outsAt0 m c t.val t.isLt).2.1 (ix2 0 j)
      = (outsAt0 m c (t.val - 1) (Nat.lt_of_le_of_lt (Nat.sub_le _ _) t.isLt)).2.1 (ix2 0 j) + dwPart m c t j := by
  refine Eq.trans ?_ (dw_point m c t _ j)
  rw [outsAt0_B m c t h]
  dsimp only
  frame_out
  simp only [read_unread_whole, kept m c (t.val - 1) (Nat.lt_of_le_of_lt (Nat.sub_le _ _) t.isLt)]
  rfl

end Cert.ProjProof
-- ==== Proof.Proj.Final.lean ====
/- The two arrays the projections' input gradient leaves: the input's gradient row by row, and the norm weight's gradient as one sum
   over all rows. -/
module

public import proofs.«01_k».proof.Proof.Proj.Points

@[expose] public section

set_option maxRecDepth 16384

noncomputable section

namespace Cert.ProjProof

open Idealize.ShloMosaic Idealize.ShloMosaic.TcCoe Idealize.SL.Sem Cert.ProjIdeal Cert.ProjIdeal.Gen
open Idealize.ShloMosaic.Pipeline (Dat)

variable (m : (ℓ : Loc nD τ sig) → Buf (Elt Ideal) ℓ) (c : Dev nD)

/-- The input's gradient. -/
def dxAt (r : Fin 8192) (j : Fin 1024) : EReal := dh m c r j + NormBack.back (hid m c r) (dn m c r) (nw m c) j

/-- The norm weight's gradient. -/
def dwAt (j : Fin 1024) : EReal := ∑ r : Fin 8192, dn m c r j * (hid m c r j * NormBack.rs (hid m c r))

theorem sum_parts (j : Fin 1024) : ∑ t : Fin cfg0.N, dwPart m c t j = dwAt m c j := by
  unfold dwPart dwAt
  rw [← Fin.sum_mul_add_fin 16 512 (fun r => dn m c r j * (hid m c r j * NormBack.rs (hid m c r))) (by decide)]
  exact Fintype.sum_equiv (finCongr N_0) _ _ fun t => rfl

theorem last_dw (j : Fin 1024) : (outsAt0 m c 15 (by decide)).2.1 (ix2 0 j) = dwAt m c j := by
  rw [← sum_parts, ← zero_add (∑ t : Fin cfg0.N, dwPart m c t j)]
  exact Pipeline.eq_sum_fin_of_reset_step_apply_last (fun n hn (i : Fin 1024) => (outsAt0 m c n hn).2.1 (ix2 0 i)) 16 (fun _ => 0)
    (fun t i => dwPart m c t i) (fun t h i => out_dw_first m c t h i) (fun t h i => out_dw_next m c t h i)
    (le_of_eq N_0) ⟨15, by decide⟩ (by decide) j

theorem final_dx : (dats m 0 c).arrAt 13 cfg0.N = fun i => dxAt m c (i 0) (i 1) := by
  refine (dats m 0 c).arrAt_eq_of_covers 13 _ (by decide +kernel) fun t hf y => ?_
  rw [after0_13]
  blk_simp
  have hy : y = ix2 (y 0) (y 1) := by
    funext a
    match a with
    | ⟨0, _⟩ => rfl
    | ⟨1, _⟩ => rfl
  refine (congrArg (outsAt0 m c t.val t.isLt).1 hy).trans ((out_dx m c t (y 0) (y 1)).trans ?_)
  refine congrArg₂ (dxAt m c) ?_ ?_
  · refine Fin.ext ?_
    unfold row
    blk_simp [idx t]
  · refine Fin.ext ?_
    blk_simp [idx t]

theorem final_dw : (dats m 0 c).arrAt 14 cfg0.N = fun i => dwAt m c (i 1) := by
  refine (dats m 0 c).arrAt_eq_of_after_last 14 (⟨15, by decide⟩ : Fin cfg0.N) (by decide +kernel) _ fun j => ?_
  rw [after0_14]
  refine Eq.trans ?_ (last_dw m c (j 1))
  refine congrArg (outsAt0 m c 15 (by decide)).2.1 ?_
  funext a
  match a with
  | ⟨0, _⟩ => exact Fin.ext (by have h : (j 0).val < 1 := (j 0).isLt; show (j 0).val = 0; omega)
  | ⟨1, _⟩ => rfl

end Cert.ProjProof
-- ==== Proof.Proj.Ref.lean ====
/- The reference's two results read at an entry. -/
module
public import proofs.«01_k».proof.Proof.Gen.ProjRefIdeal.Run
public import proofs.«01_k».proof.Proof.FfnIn.Ref
public import Idealize.ShloMosaic.Lib.Pointwise
public import Idealize.ShloMosaic.Lib.ValueIdx

@[expose] public section

set_option maxRecDepth 16384

noncomputable section

namespace Cert.ProjProof.Ref

open Idealize.ShloMosaic Idealize.ShloMosaic.TcCoe Idealize.SL.Sem Cert.ProjRefIdeal Cert.ProjRefIdeal.Gen Cert.ProjRefIdeal.Value

variable (m : (ℓ : Loc nD τ sig) → Buf (Elt Ideal) ℓ) (c : Dev nD)

def dh (r : Fin 8192) (j : Fin 1024) : EReal := m ((c : Thread nD τ).loc main_arg0) (ix3 0 r j)
def hid (r : Fin 8192) (j : Fin 1024) : EReal := m ((c : Thread nD τ).loc main_arg1) (ix3 0 r j)
def nw (j : Fin 1024) : EReal := m ((c : Thread nD τ).loc main_arg2) (ix2 0 j)
def ct (r : Fin 8192) (k : Fin 9248) : EReal := m ((c : Thread nD τ).loc main_arg3) (ix3 0 r k)
def wi (j : Fin 1024) (k : Fin 9248) : EReal := m ((c : Thread nD τ).loc main_arg4) (ix2 j k)

/-- The gradient at the norm's output. -/
def dn (r : Fin 8192) (j : Fin 1024) : EReal := ∑ k, ct m c r k * wi m c j k

/-- The arrays of the run: the gradient at the norm's output, the rows' mean squares, factors, and slopes. -/
def dnArr : Vec Ideal S1x8192x1024 .f32 :=
  Host.dotGeneral (F := Ideal) (φ₁ := .f32) (φ₂ := .f32) dot_S1x8192x9248_S1024x9248_S1x8192x1024_2_1_01_0_n_n none (m ((c.tc : Thread nD τ).loc main_arg3)) (m ((c.tc : Thread nD τ).loc main_arg4))

def msArr : Vec Ideal S1x8192x1 .f32 :=
  addf (F := Ideal) (φ := .f32) (Host.divf (broadcastInDim S1x8192x1 ![0, 1] bcast_S1x8192_S1x8192x1_0_1 (Host.reduceAdd (mulf (F := Ideal) (φ := .f32) (m ((c.tc : Thread nD τ).loc main_arg1)) (m ((c.tc : Thread nD τ).loc main_arg1))) (constant (F := Ideal) S_ .f32 0x00000000#32) reducesTo_S1x8192x1024_S1x8192_d2 h_S_)) (broadcastInDim S1x8192x1 ![] bcast_S_S1x8192x1 (constant (F := Ideal) S_ .f32 0x44800000#32))) (broadcastInDim S1x8192x1 ![] bcast_S_S1x8192x1 (constant (F := Ideal) S_ .f32 0x358637BD#32))

def dwArr : Vec Ideal S1x8192x1024 .f32 :=
  mulf (F := Ideal) (φ := .f32) (dnArr m c) (broadcastInDim S1x8192x1024 ![0, 1, 2] bcast_S1x1x1024_S1x8192x1024_0_1_2 (broadcastInDim S1x1x1024 ![2] bcast_S1024_S1x1x1024_2 (shapeCast S1024 (m ((c.tc : Thread nD τ).loc main_arg2)) shapeCasts_S1x1024_S1024)))

def slopeArr : Vec Ideal S1x8192x1024 .f32 :=
  broadcastInDim S1x8192x1024 ![0, 1] bcast_S1x8192_S1x8192x1024_0_1 (broadcastInDim S1x8192 ![1] bcast_S8192_S1x8192_1 (Host.reduceAdd (F := Ideal) (φ := .f32) (Host.divf (mulf (F := Ideal) (φ := .f32) (shapeCast S1x8192x1 (Host.reduceAdd (F := Ideal) (φ := .f32) (mulf (F := Ideal) (φ := .f32) (m ((c.tc : Thread nD τ).loc main_arg1)) (dwArr m c)) (constant (F := Ideal) S_ .f32 0x00000000#32) reducesTo_S1x8192x1024_S1x8192_d2 h_S_) shapeCasts_S1x8192_S1x8192x1) (mulf (F := Ideal) (φ := .f32) (broadcastInDim S1x8192x1 ![] bcast_S_S1x8192x1 (constant (F := Ideal) S_ .f32 0xBF000000#32)) (Host.divf (F := Ideal) (φ := .f32) (Host.rsqrt (F := Ideal) (φ := .f32) (msArr m c)) (msArr m c)))) (broadcastInDim S1x8192x1 ![] bcast_S_S1x8192x1 (constant (F := Ideal) S_ .f32 0x44800000#32))) (constant (F := Ideal) S_ .f32 0x00000000#32) reducesTo_S1x8192x1_S8192_d0_2 h_S_))

def dxArr : Vec Ideal S1x8192x1024 .f32 :=
  addf (F := Ideal) (φ := .f32) (addf (F := Ideal) (φ := .f32) (addf (F := Ideal) (φ := .f32) (m ((c.tc : Thread nD τ).loc main_arg0)) (mulf (F := Ideal) (φ := .f32) (dwArr m c) (broadcastInDim S1x8192x1024 ![0, 1, 2] bcast_S1x8192x1_S1x8192x1024_0_1_2 (Host.rsqrt (F := Ideal) (φ := .f32) (msArr m c))))) (mulf (F := Ideal) (φ := .f32) (m ((c.tc : Thread nD τ).loc main_arg1)) (slopeArr m c))) (mulf (F := Ideal) (φ := .f32) (slopeArr m c) (m ((c.tc : Thread nD τ).loc main_arg1)))

def dxTerm : Buf (Elt Ideal) ((c.tc : Thread nD τ).loc main_v41) := shapeCast S8192x1024 (dxArr m c) shapeCasts_S1x8192x1024_S8192x1024

theorem res_eq : res_main_v41 m c = dxTerm m c := by
  unfold res_main_v41 dxTerm dxArr slopeArr dwArr msArr dnArr
  rfl

/-- The norm weight's gradient as the run leaves it. -/
def dwTerm : Buf (Elt Ideal) ((c.tc : Thread nD τ).loc main_v42) :=
  broadcastInDim S1x1024 ![1] bcast_S1024_S1x1024_1 (FfnInProof.Ref.colSum (mulf (F := Ideal) (φ := .f32) (mulf (F := Ideal) (φ := .f32) (m ((c.tc : Thread nD τ).loc main_arg1)) (broadcastInDim S1x8192x1024 ![0, 1, 2] bcast_S1x8192x1_S1x8192x1024_0_1_2 (Host.rsqrt (F := Ideal) (φ := .f32) (msArr m c)))) (dnArr m c)))

theorem dnArr_at (r : Fin 8192) (j : Fin 1024) : dnArr m c (ix3 0 r j) = dn m c r j := by
  unfold dnArr dn ct wi
  pointwise

theorem msArr_at (r : Fin 8192) : msArr m c (ix3 0 r 0) = NormBack.meanSq (hid m c r) := by
  unfold msArr
  pointwise
  rfl

theorem dwArr_at (r : Fin 8192) (j : Fin 1024) : dwArr m c (ix3 0 r j) = dn m c r j * nw m c j := by
  unfold dwArr
  pointwise
  rw [dnArr_at]
  rfl

theorem slopeArr_at (r : Fin 8192) (j : Fin 1024) : slopeArr m c (ix3 0 r j) = NormBack.slope (hid m c r) (dn m c r) (nw m c) := by
  unfold slopeArr
  pointwise
  refine (FfnInProof.Ref.sum_outer _ _ r).trans ?_
  pointwise
  rw [msArr_at]
  simp only [dwArr_at]
  rfl

theorem dxArr_at (r : Fin 8192) (j : Fin 1024) :
    dxArr m c (ix3 0 r j) = dh m c r j + dn m c r j * nw m c j * NormBack.rs (hid m c r)
      + hid m c r j * NormBack.slope (hid m c r) (dn m c r) (nw m c) + NormBack.slope (hid m c r) (dn m c r) (nw m c) * hid m c r j := by
  unfold dxArr
  pointwise
  rw [slopeArr_at, dwArr_at, msArr_at]
  rfl

theorem dx_at (r : Fin 8192) (j : Fin 1024) : dxTerm m c (ix2 r j) = dxArr m c (ix3 0 r j) := by
  unfold dxTerm
  pointwise

theorem dw_at (j : Fin 1024) :
    dwTerm m c (ix2 0 j) = ∑ r : Fin 8192, hid m c r j * NormBack.rs (hid m c r) * dn m c r j := by
  unfold dwTerm
  pointwise
  refine (FfnInProof.Ref.colSum_at _ j).trans (Finset.sum_congr rfl fun r _ => ?_)
  pointwise
  rw [msArr_at, dnArr_at]
  rfl

/-- The reference's run. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v41) = dxTerm m c ∧ r.2.mem ((c.tc : Thread nD τ).loc main_v42) = dwTerm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := Value.run m ρ

end Cert.ProjProof.Ref
-- ==== Proof.Proj.Claim.lean ====
/- The projections' input gradient's call leaves what the reference's derivative leaves. -/
module
public import proofs.«01_k».proof.Proof.Proj.Final
public import proofs.«01_k».proof.Proof.Proj.Ref
public import proofs.«01_k».proof.Defs
public import Idealize.ShloMosaic.Lib.Claim

@[expose] public section

set_option maxRecDepth 16384

noncomputable section

namespace Cert.ProjProof

open Idealize.ShloMosaic Idealize.ShloMosaic.TcCoe Idealize.SL.Sem

section Agree

variable (m : (ℓ : Loc Cert.ProjIdeal.nD Cert.ProjIdeal.τ Cert.ProjIdeal.sig) → Buf (Elt Ideal) ℓ)
  (m' : (ℓ : Loc Cert.ProjRefIdeal.nD Cert.ProjRefIdeal.τ Cert.ProjRefIdeal.sig) → Buf (Elt Ideal) ℓ) (c : Dev Cert.ProjIdeal.nD)

/-- The two programs' arguments are the same arrays. -/
def Same : Prop :=
  Ref.dh m' c = dh m c ∧ Ref.hid m' c = hid m c ∧ Ref.nw m' c = nw m c ∧ Ref.ct m' c = ct m c ∧ Ref.wi m' c = wi m c

/-- Every argument but the residual stream's cotangent holds reals. -/
def Real : Prop :=
  (∀ r j, ∃ x : ℝ, hid m c r j = x) ∧ (∀ j, ∃ x : ℝ, nw m c j = x) ∧ (∀ r k, ∃ x : ℝ, ct m c r k = x) ∧ ∀ j k, ∃ x : ℝ, wi m c j k = x

theorem dn_eq (h : Same m m' c) : Ref.dn m' c = dn m c := by
  obtain ⟨_, _, _, h3, h4⟩ := h
  unfold Ref.dn dn
  rw [h3, h4]

theorem dn_real (h : Real m c) (r : Fin 8192) (j : Fin 1024) : ∃ x : ℝ, dn m c r j = x := by
  obtain ⟨_, _, h3, h4⟩ := h
  exact NormBack.real_sum fun k => NormBack.real_mul (h3 r k) (h4 j k)

theorem dx_pt (h : Same m m' c) (hr : Real m c) (r : Fin 8192) (j : Fin 1024) : Ref.dxTerm m' c (ix2 r j) = dxAt m c r j := by
  refine (Ref.dx_at m' c r j).trans ((Ref.dxArr_at m' c r j).trans ?_)
  rw [dn_eq m m' c h, h.1, h.2.1, h.2.2.1]
  exact NormBack.chain_eq _ _ _ _ (hr.1 r) (dn_real m c hr r) hr.2.1 j

theorem dw_pt (h : Same m m' c) (j : Fin 1024) : Ref.dwTerm m' c (ix2 0 j) = dwAt m c j := by
  refine (Ref.dw_at m' c j).trans ?_
  rw [dn_eq m m' c h, h.2.1]
  exact Finset.sum_congr (M := EReal) rfl fun r _ => mul_comm (G := EReal) _ _

theorem dx_eq (h : Same m m' c) (hr : Real m c) :
    Ref.dxTerm m' c = (Cert.ProjIdeal.Gen.dats m 0 c).arrAt 13 Cert.ProjIdeal.cfg0.N := by
  rw [final_dx]
  refine funext fun i => ?_
  have hi : i = ix2 (i 0) (i 1) := by
    funext a
    match a with
    | ⟨0, _⟩ => rfl
    | ⟨1, _⟩ => rfl
  exact (congrArg (Ref.dxTerm m' c) hi).trans (dx_pt m m' c h hr (i 0) (i 1))

theorem dw_eq (h : Same m m' c) : Ref.dwTerm m' c = (Cert.ProjIdeal.Gen.dats m 0 c).arrAt 14 Cert.ProjIdeal.cfg0.N := by
  rw [final_dw]
  refine funext fun i => ?_
  have hi : i = ix2 0 (i 1) := by
    funext a
    match a with
    | ⟨0, _⟩ => exact Fin.ext (by have h : (i 0).val < 1 := (i 0).isLt; show (i 0).val = 0; omega)
    | ⟨1, _⟩ => rfl
  exact (congrArg (Ref.dwTerm m' c) hi).trans (dw_pt m m' c h (i 1))

end Agree

theorem real_of_pre [Cert.Pre_proj_finite.Facts] (m : (ℓ : Loc Cert.ProjIdeal.nD Cert.ProjIdeal.τ Cert.ProjIdeal.sig) → Buf (Elt Ideal) ℓ)
    (h : Cert.Pre_ProjIdeal_proj_finite m) (c : Dev Cert.ProjIdeal.nD) : Real m c := by
  obtain ⟨h1, h2, h3, h4⟩ := h c
  exact ⟨fun r j => NormBack.real_of_flag _ _ (fun _ => rfl) h1 _, fun j => NormBack.real_of_flag _ _ (fun _ => rfl) h2 _,
    fun r k => NormBack.real_of_flag _ _ (fun _ => rfl) h3 _, fun j k => NormBack.real_of_flag _ _ (fun _ => rfl) h4 _⟩

theorem algebraic [Cert.Pre_proj_finite.Facts] : Cert.algebraic_ProjIdeal_ProjRefIdeal_pre_proj_finite := by
  intro m g m' g' hpre hagree
  have hs : ∀ c, Same m m' c := fun c => by
    obtain ⟨h0, h1, h2, h3, h4⟩ := hagree c
    exact ⟨funext fun r => funext fun j => congrFun h0 _, funext fun r => funext fun j => congrFun h1 _, funext fun j => congrFun h2 _,
      funext fun r => funext fun k => congrFun h3 _, funext fun j => funext fun k => congrFun h4 _⟩
  refine ⟨fun c => (Cert.ProjIdeal.Gen.dats m 0 c).arrAt 13 Cert.ProjIdeal.cfg0.N,
    fun c => (Cert.ProjIdeal.Gen.dats m 0 c).arrAt 14 Cert.ProjIdeal.cfg0.N, Cert.ProjIdeal.Value.run_blocks m g, ?_⟩
  exact (θ_run Cert.ProjRefIdeal.defs _ _).mono
    (fun r h c => ⟨(h c).1.trans (dx_eq m m' c (hs c) (real_of_pre m hpre c)), (h c).2.1.trans (dw_eq m m' c (hs c)), (h c).2.2⟩)
    (Ref.run m' g')

end Cert.ProjProof
-- ==== Proof.Gate.Pay.lean ====
/- One grid point of the gate's gradient: what its stored values are, entry by entry. -/
module

public import proofs.«01_k».proof.Proof.Gen.GateIdeal.Skeleton
public import Idealize.ShloMosaic.Lib.Pointwise
public import Idealize.ShloMosaic.Lib.ValueIdx

@[expose] public section

set_option maxRecDepth 16384

noncomputable section

namespace Cert.GateProof

open Idealize.ShloMosaic Cert.GateIdeal Cert.GateIdeal.Gen

theorem pay1_at (l : Fin 128) (j : Fin 512) : k0_pay1 (F := Ideal) (ix2 l j) = 0 := by
  pointwise [k0_pay1]

theorem pay2_at (j : Fin 512) : k0_pay2 (F := Ideal) (ix2 0 j) = 0 := by
  pointwise [k0_pay2]

theorem pay4_at (d : Vec Ideal S512x512 .f32) (w : Vec Ideal S128x512 .f32) (s : Vec Ideal S1x512x128 .f32) (r : Fin 512) (l : Fin 128) :
    k0_pay4 (F := Ideal) d w s (ix2 r l) = ∑ x, d (ix2 r x) * w (ix2 l x) + s (ix3 0 r l) := by
  pointwise [k0_pay4, k0_pay3]

theorem pay5_at (d : Vec Ideal S512x512 .f32) (acc : Vec Ideal S128x512 .f32) (p : Vec Ideal S512x128 .f32) (l : Fin 128) (j : Fin 512) :
    k0_pay5 (F := Ideal) d acc p (ix2 l j) = acc (ix2 l j) + ∑ r, p (ix2 r l) * d (ix2 r j) := by
  pointwise [k0_pay5, k0_pay3]

theorem pay6_at (d : Vec Ideal S512x512 .f32) (acc : Vec Ideal S1x512 .f32) (j : Fin 512) :
    k0_pay6 (F := Ideal) d acc (ix2 0 j) = acc (ix2 0 j) + ∑ r, d (ix2 r j) := by
  pointwise [k0_pay6, k0_pay3]

end Cert.GateProof
-- ==== Proof.Gate.Entry.lean ====
/- The arrays the gate's gradient is launched over, entry by entry in the program's own arguments, and the block each
   point sees of them. -/
module

public import proofs.«01_k».proof.Proof.Gen.GateIdeal.Value
public import Idealize.ShloMosaic.Lib.Pipeline.ValueKit
public import Idealize.ShloMosaic.Lib.StableHlo.ReadAt
public import Idealize.ShloMosaic.Lib.Pointwise

@[expose] public section

set_option maxRecDepth 16384

noncomputable section

namespace Cert.GateProof

open Idealize.ShloMosaic Idealize.ShloMosaic.TcCoe Idealize.SL.Sem Cert.GateIdeal Cert.GateIdeal.Gen
open Idealize.ShloMosaic.Pipeline (Dat)

variable (m : (ℓ : Loc nD τ sig) → Buf (Elt Ideal) ℓ) (c : Dev nD)

/-- The narrow projections, with columns of zeros behind them. -/
def sm (r : Fin 8192) (l : Fin 128) : EReal :=
  if h : l.val < 32 then m ((c : Thread nD τ).loc main_arg0) (ix3 0 r ⟨l.val, h⟩) else 0

/-- The gate's weight, with rows of zeros behind it. -/
def wg (l : Fin 128) (j : Fin 512) : EReal :=
  if h : l.val < 16 then m ((c : Thread nD τ).loc main_arg1) (ix2 ⟨l.val, h⟩ j) else 0

/-- The cotangent of the gate before its activation. -/
def dp (r : Fin 8192) (j : Fin 512) : EReal := m ((c : Thread nD τ).loc main_arg3) (ix3 0 r j)

/-- The cotangent of the other narrow projections, in their place between columns of zeros. -/
def dsm (r : Fin 8192) (l : Fin 128) : EReal :=
  if l.val < 16 then 0 else if h : l.val - 16 < 16 then m ((c : Thread nD τ).loc main_arg4) (ix3 0 r ⟨l.val - 16, h⟩) else 0

theorem entry_dp (r : Fin 8192) (j : Fin 512) : V m c main_v8 (ix2 r j) = dp m c r j := by
  unfold V dp
  after_reads_at

theorem entry_sm (r : Fin 8192) (l : Fin 128) : V m c main_v2 (ix2 r l) = sm m c r l := by
  unfold V sm
  after_reads_at

theorem entry_wg (l : Fin 128) (j : Fin 512) : V m c main_v4 (ix2 l j) = wg m c l j := by
  unfold V wg
  after_reads_at

theorem entry_dsm (r : Fin 8192) (l : Fin 128) : V m c main_v7 (ix3 0 r l) = dsm m c r l := by
  unfold V dsm
  after_reads_at
  repeat' split
  all_goals after_reads_at

theorem idx : ∀ t : Fin cfg0.N, win0_0.index t = ![t.val, 0] ∧ win0_1.index t = ![t.val, 0] ∧ win0_2.index t = ![0, 0]
    ∧ win0_3.index t = ![0, t.val, 0] ∧ win0_4.index t = ![t.val, 0] ∧ win0_5.index t = ![0, 0] ∧ win0_6.index t = ![0, 0] :=
  (by decide +kernel : ∀ t : Fin grid0.N, _)

/-- Row `r` of the block that point `t` works on, as a row of the arrays. -/
def row (t : Fin cfg0.N) (r : Fin 512) : Fin 8192 :=
  ⟨t.val * 512 + r.val, by have hN := lt_of_lt_of_eq t.isLt (show cfg0.N = 16 from N_0); omega⟩

theorem blk_dp (t : Fin cfg0.N) (r : Fin 512) (j : Fin 512) : iblk m c 0 t (ix2 r j) = dp m c (row t r) j := by
  refine Eq.trans ?_ (entry_dp m c (row t r) j)
  unfold row
  blk_ext [iblk, idx t]

theorem blk_sm (t : Fin cfg0.N) (r : Fin 512) (l : Fin 128) : iblk m c 1 t (ix2 r l) = sm m c (row t r) l := by
  refine Eq.trans ?_ (entry_sm m c (row t r) l)
  unfold row
  blk_ext [iblk, idx t]

theorem blk_wg (t : Fin cfg0.N) (l : Fin 128) (j : Fin 512) : iblk m c 2 t (ix2 l j) = wg m c l j := by
  refine Eq.trans ?_ (entry_wg m c l j)
  blk_ext [iblk, idx t]

theorem blk_dsm (t : Fin cfg0.N) (r : Fin 512) (l : Fin 128) : iblk m c 3 t (ix3 0 r l) = dsm m c (row t r) l := by
  refine Eq.trans ?_ (entry_dsm m c (row t r) l)
  unfold row
  blk_ext [iblk, idx t]

end Cert.GateProof
-- ==== Proof.Gate.Points.lean ====
/- What every point of the gate's gradient leaves in its outputs. -/
module

public import proofs.«01_k».proof.Proof.Gate.Pay
public import proofs.«01_k».proof.Proof.Gate.Entry
public import proofs.«01_k».proof.Proof.Lib.Groups
public import Idealize.ShloMosaic.Lib.Pipeline.ReadBack

@[expose] public section

set_option maxRecDepth 16384

noncomputable section

namespace Cert.GateProof

open Idealize.ShloMosaic Idealize.ShloMosaic.TcCoe Idealize.SL.Sem Cert.GateIdeal Cert.GateIdeal.Gen
open Idealize.ShloMosaic.Pipeline (Dat)
open Cert.Groups

variable (m : (ℓ : Loc nD τ sig) → Buf (Elt Ideal) ℓ) (c : Dev nD)

/-- The narrow projections' gradient. -/
def dsAt (r : Fin 8192) (l : Fin 128) : EReal := ∑ x, dp m c r x * wg m c l x + dsm m c r l

/-- One block's part of the weight's and of the bias's gradient. -/
def dwPart (t : Fin cfg0.N) (l : Fin 128) (j : Fin 512) : EReal := ∑ r : Fin 512, sm m c (row t r) l * dp m c (row t r) j
def dbPart (t : Fin cfg0.N) (j : Fin 512) : EReal := ∑ r : Fin 512, dp m c (row t r) j

theorem ds_point (t : Fin cfg0.N) (r : Fin 512) (l : Fin 128) :
    k0_pay4 (F := Ideal) (iblk m c 0 t) (iblk m c 2 t) (iblk m c 3 t) (ix2 r l) = dsAt m c (row t r) l :=
  (pay4_at _ _ _ r l).trans (congrArg₂ (· + ·)
    (Finset.sum_congr rfl fun x _ => congrArg₂ (· * ·) (blk_dp m c t r x) (blk_wg m c t l x)) (blk_dsm m c t r l))

theorem dw_point (t : Fin cfg0.N) (acc : Vec Ideal S128x512 .f32) (l : Fin 128) (j : Fin 512) :
    k0_pay5 (F := Ideal) (iblk m c 0 t) acc (iblk m c 1 t) (ix2 l j) = acc (ix2 l j) + dwPart m c t l j :=
  (pay5_at _ acc _ l j).trans (congrArg (acc (ix2 l j) + ·)
    (Finset.sum_congr rfl fun r _ => congrArg₂ (· * ·) (blk_sm m c t r l) (blk_dp m c t r j)))

theorem db_point (t : Fin cfg0.N) (acc : Vec Ideal S1x512 .f32) (j : Fin 512) :
    k0_pay6 (F := Ideal) (iblk m c 0 t) acc (ix2 0 j) = acc (ix2 0 j) + dbPart m c t j :=
  (pay6_at _ acc j).trans (congrArg (acc (ix2 0 j) + ·) (Finset.sum_congr rfl fun r _ => blk_dp m c t r j))

theorem out_ds (t : Fin cfg0.N) (r : Fin 512) (l : Fin 128) : (outsAt0 m c t.val t.isLt).1 (ix2 r l) = dsAt m c (row t r) l := by
  refine Eq.trans ?_ (ds_point m c t r l)
  by_cases h : t.val % 16 = 0
  · rw [outsAt0_A m c t h]
    dsimp only
    frame_out

  · rw [outsAt0_B m c t h]
    dsimp only
    frame_out

theorem out_dw_first (t : Fin cfg0.N) (h : t.val % 16 = 0) (l : Fin 128) (j : Fin 512) :
    (outsAt0 m c t.val t.isLt).2.1 (ix2 l j) = 0 + dwPart m c t l j := by
  refine Eq.trans ?_ ((dw_point m c t (k0_pay1 (F := Ideal)) l j).trans (congrArg (· + _) (pay1_at l j)))
  rw [outsAt0_A m c t h]
  dsimp only
  frame_out

theorem out_dw_next (t : Fin cfg0.N) (h : ¬ t.val % 16 = 0) (l : Fin 128) (j : Fin 512) :
    (outsAt0 m c t.val t.isLt).2.1 (ix2 l j)
      = (outsAt0 m c (t.val - 1) (Nat.lt_of_le_of_lt (Nat.sub_le _ _) t.isLt)).2.1 (ix2 l j) + dwPart m c t l j := by
  refine Eq.trans ?_ (dw_point m c t _ l j)
  rw [outsAt0_B m c t h]
  dsimp only
  frame_out

theorem out_db_first (t : Fin cfg0.N) (h : t.val % 16 = 0) (j : Fin 512) :
    (outsAt0 m c t.val t.isLt).2.2 (ix2 0 j) = 0 + dbPart m c t j := by
  refine Eq.trans ?_ ((db_point m c t (k0_pay2 (F := Ideal)) j).trans (congrArg (· + _) (pay2_at j)))
  rw [outsAt0_A m c t h]
  dsimp only
  frame_out

theorem out_db_next (t : Fin cfg0.N) (h : ¬ t.val % 16 = 0) (j : Fin 512) :
    (outsAt0 m c t.val t.isLt).2.2 (ix2 0 j)
      = (outsAt0 m c (t.val - 1) (Nat.lt_of_le_of_lt (Nat.sub_le _ _) t.isLt)).2.2 (ix2 0 j) + dbPart m c t j := by
  refine Eq.trans ?_ (db_point m c t _ j)
  rw [outsAt0_B m c t h]
  dsimp only
  frame_out

end Cert.GateProof
-- ==== Proof.Gate.Final.lean ====
/- The three arrays the gate's gradient leaves. -/
module

public import proofs.«01_k».proof.Proof.Gate.Points

@[expose] public section

set_option maxRecDepth 16384

noncomputable section

namespace Cert.GateProof

open Idealize.ShloMosaic Idealize.ShloMosaic.TcCoe Idealize.SL.Sem Cert.GateIdeal Cert.GateIdeal.Gen
open Idealize.ShloMosaic.Pipeline (Dat)

variable (m : (ℓ : Loc nD τ sig) → Buf (Elt Ideal) ℓ) (c : Dev nD)

/-- The weight's gradient and the bias's. -/
def dwAt (l : Fin 128) (j : Fin 512) : EReal := ∑ r : Fin 8192, sm m c r l * dp m c r j
def dbAt (j : Fin 512) : EReal := ∑ r : Fin 8192, dp m c r j

theorem sum_dw (l : Fin 128) (j : Fin 512) : ∑ t : Fin cfg0.N, dwPart m c t l j = dwAt m c l j := by
  unfold dwPart dwAt
  rw [← Fin.sum_mul_add_fin 16 512 (fun r => sm m c r l * dp m c r j) (by decide)]
  exact Fintype.sum_equiv (finCongr N_0) _ _ fun t => rfl

theorem sum_db (j : Fin 512) : ∑ t : Fin cfg0.N, dbPart m c t j = dbAt m c j := by
  unfold dbPart dbAt
  rw [← Fin.sum_mul_add_fin 16 512 (fun r => dp m c r j) (by decide)]
  exact Fintype.sum_equiv (finCongr N_0) _ _ fun t => rfl

theorem last_dw (l : Fin 128) (j : Fin 512) : (outsAt0 m c 15 (by decide)).2.1 (ix2 l j) = dwAt m c l j := by
  rw [← sum_dw, ← zero_add (∑ t : Fin cfg0.N, dwPart m c t l j)]
  exact Pipeline.eq_sum_fin_of_reset_step_apply_last (fun n hn (i : Fin 128 × Fin 512) => (outsAt0 m c n hn).2.1 (ix2 i.1 i.2)) 16
    (fun _ => 0) (fun t i => dwPart m c t i.1 i.2) (fun t h i => out_dw_first m c t h i.1 i.2) (fun t h i => out_dw_next m c t h i.1 i.2)
    (le_of_eq N_0) ⟨15, by decide⟩ (by decide) (l, j)

theorem last_db (j : Fin 512) : (outsAt0 m c 15 (by decide)).2.2 (ix2 0 j) = dbAt m c j := by
  rw [← sum_db, ← zero_add (∑ t : Fin cfg0.N, dbPart m c t j)]
  exact Pipeline.eq_sum_fin_of_reset_step_apply_last (fun n hn (i : Fin 512) => (outsAt0 m c n hn).2.2 (ix2 0 i)) 16 (fun _ => 0)
    (fun t i => dbPart m c t i) (fun t h i => out_db_first m c t h i) (fun t h i => out_db_next m c t h i)
    (le_of_eq N_0) ⟨15, by decide⟩ (by decide) j

theorem final_ds : (dats m 0 c).arrAt 4 cfg0.N = fun i => dsAt m c (i 0) (i 1) := by
  refine (dats m 0 c).arrAt_eq_of_covers 4 _ (by decide +kernel) fun t hf y => ?_
  rw [after0_4]
  blk_simp
  have hy : y = ix2 (y 0) (y 1) := by
    funext a
    match a with
    | ⟨0, _⟩ => rfl
    | ⟨1, _⟩ => rfl
  refine (congrArg (outsAt0 m c t.val t.isLt).1 hy).trans ((out_ds m c t (y 0) (y 1)).trans ?_)
  refine congrArg₂ (dsAt m c) ?_ ?_
  · refine Fin.ext ?_
    unfold row
    blk_simp [idx t]
  · refine Fin.ext ?_
    blk_simp [idx t]

theorem final_dw : (dats m 0 c).arrAt 5 cfg0.N = fun i => dwAt m c (i 0) (i 1) := by
  refine (dats m 0 c).arrAt_eq_of_after_last 5 (⟨15, by decide⟩ : Fin cfg0.N) (by decide +kernel) _ fun j => ?_
  rw [after0_5]
  refine Eq.trans ?_ (last_dw m c (j 0) (j 1))
  refine congrArg (outsAt0 m c 15 (by decide)).2.1 ?_
  funext a
  match a with
  | ⟨0, _⟩ => rfl
  | ⟨1, _⟩ => rfl

theorem final_db : (dats m 0 c).arrAt 6 cfg0.N = fun i => dbAt m c (i 1) := by
  refine (dats m 0 c).arrAt_eq_of_after_last 6 (⟨15, by decide⟩ : Fin cfg0.N) (by decide +kernel) _ fun j => ?_
  rw [after0_6]
  refine Eq.trans ?_ (last_db m c (j 1))
  refine congrArg (outsAt0 m c 15 (by decide)).2.2 ?_
  funext a
  match a with
  | ⟨0, _⟩ => exact Fin.ext (by have h : (j 0).val < 1 := (j 0).isLt; show (j 0).val = 0; omega)
  | ⟨1, _⟩ => rfl

end Cert.GateProof
-- ==== Proof.Gate.Ref.lean ====
/- The reference's three results read at an entry. -/
module
public import proofs.«01_k».proof.Proof.Gen.GateRefIdeal.Run
public import Idealize.ShloMosaic.Lib.Pointwise
public import Idealize.ShloMosaic.Lib.ValueIdx

@[expose] public section

set_option maxRecDepth 16384

noncomputable section

namespace Cert.GateProof.Ref

open Idealize.ShloMosaic Idealize.ShloMosaic.TcCoe Idealize.SL.Sem Cert.GateRefIdeal Cert.GateRefIdeal.Gen Cert.GateRefIdeal.Value

/-- A sum over two axes of size one has one term. -/
theorem sum_ones (v : (⟨3, ![1, 1, 512]⟩ : Shape).Idx → EReal) (init : EReal) (j : Fin 512) :
    Ideal.hostReduceAdd reducesTo_S1x1x512_S512_d0_1 v init (ix1 j) = init + v (ix3 0 0 j) := by
  refine congrArg (init + ·) (Finset.sum_eq_single_of_mem (ix3 0 0 j) ?_ ?_)
  · refine Finset.mem_filter.2 ⟨Finset.mem_univ _, ?_⟩
    funext b
    apply Fin.ext
    match b with
    | ⟨0, _⟩ => rfl
  · intro i hi hne
    refine absurd ?_ hne
    funext a
    apply Fin.ext
    match a with
    | ⟨0, _⟩ => have h : (i 0).val < 1 := (i 0).isLt
                show (i 0).val = 0
                omega
    | ⟨1, _⟩ => have h : (i 1).val < 1 := (i 1).isLt
                show (i 1).val = 0
                omega
    | ⟨2, _⟩ => exact congrArg Fin.val (congrFun (Finset.mem_filter.1 hi).2 0)

/-- The narrow projections with columns of zeros behind them, and the weight with rows of zeros behind it. -/
def padCols (v : Vec Ideal S1x8192x32 .f32) : Vec Ideal S1x8192x128 .f32 :=
  concatenate S1x8192x128 2 [⟨S1x8192x32, v⟩, ⟨S1x8192x96, broadcastInDim S1x8192x96 ![] bcast_S_S1x8192x96 (constant (F := Ideal) S_ .f32 0x00000000#32)⟩] concatenates_S1x8192x32_S1x8192x96_S1x8192x128_d2

def padRows (v : Vec Ideal S16x512 .f32) : Vec Ideal S128x512 .f32 :=
  concatenate S128x512 0 [⟨S16x512, v⟩, ⟨S112x512, broadcastInDim S112x512 ![] bcast_S_S112x512 (constant (F := Ideal) S_ .f32 0x00000000#32)⟩] concatenates_S16x512_S112x512_S128x512_d0

theorem padCols_at (v : Vec Ideal S1x8192x32 .f32) (r : Fin 8192) (l : Fin 128) :
    padCols v (ix3 0 r l) = if h : l.val < 32 then v (ix3 0 r ⟨l.val, h⟩) else 0 := by
  unfold padCols
  pointwise

theorem padRows_at (v : Vec Ideal S16x512 .f32) (l : Fin 128) (j : Fin 512) :
    padRows v (ix2 l j) = if h : l.val < 16 then v (ix2 ⟨l.val, h⟩ j) else 0 := by
  unfold padRows
  pointwise

/-- The narrow projections' gradient as a function of the arrays it reads. -/
def dsArr (d : Vec Ideal S1x8192x512 .f32) (w : Vec Ideal S128x512 .f32) (s : Vec Ideal S1x8192x16 .f32) : Vec Ideal S8192x128 .f32 :=
  shapeCast S8192x128 (addf (F := Ideal) (φ := .f32) (pad S1x8192x128 ![0, 0, 16] ![0, 0, 96] ![0, 0, 0] s (constant (F := Ideal) S_ .f32 0x00000000#32) pads_S1x8192x16_S1x8192x128_000_000_16960 h_S_) (Host.dotGeneral (F := Ideal) (φ₁ := .f32) (φ₂ := .f32) dot_S1x8192x512_S128x512_S1x8192x128_2_1_01_0_n_n none (shapeCast S1x8192x512 d shapeCasts_S1x8192x512_S1x8192x512) w)) shapeCasts_S1x8192x128_S8192x128

theorem dsArr_at (d : Vec Ideal S1x8192x512 .f32) (w : Vec Ideal S128x512 .f32) (s : Vec Ideal S1x8192x16 .f32) (r : Fin 8192) (l : Fin 128) :
    dsArr d w s (ix2 r l) = (if h : 16 ≤ l.val ∧ l.val - 16 < 16 then s (ix3 0 r ⟨l.val - 16, h.2⟩) else 0) + ∑ x, d (ix3 0 r x) * w (ix2 l x) := by
  unfold dsArr
  pointwise

def dwArr (d : Vec Ideal S1x8192x512 .f32) (p : Vec Ideal S1x8192x128 .f32) : Vec Ideal S128x512 .f32 :=
  transpose S128x512 [1, 0] (Host.dotGeneral (F := Ideal) (φ₁ := .f32) (φ₂ := .f32) dot_S1x8192x512_S1x8192x128_S512x128_01_01_2_2_n_n none (shapeCast S1x8192x512 d shapeCasts_S1x8192x512_S1x8192x512) p) transposes_S512x128_S128x512_1_0

theorem dwArr_at (d : Vec Ideal S1x8192x512 .f32) (p : Vec Ideal S1x8192x128 .f32) (l : Fin 128) (j : Fin 512) :
    dwArr d p (ix2 l j) = ∑ r : Fin 8192, d (ix3 0 r j) * p (ix3 0 r l) := by
  unfold dwArr
  pointwise
  rw [Fin.sum_univ_one]

def dbArr (d : Vec Ideal S1x8192x512 .f32) : Vec Ideal S1x512 .f32 :=
  broadcastInDim S1x512 ![1] bcast_S512_S1x512_1 (Host.reduceAdd (F := Ideal) (φ := .f32) (shapeCast S1x1x512 (Host.reduceAdd (F := Ideal) (φ := .f32) d (constant (F := Ideal) S_ .f32 0x00000000#32) reducesTo_S1x8192x512_S1x512_d1 h_S_) shapeCasts_S1x512_S1x1x512) (constant (F := Ideal) S_ .f32 0x00000000#32) reducesTo_S1x1x512_S512_d0_1 h_S_)

theorem dbArr_at (d : Vec Ideal S1x8192x512 .f32) (j : Fin 512) : dbArr d (ix2 0 j) = ∑ r : Fin 8192, d (ix3 0 r j) := by
  unfold dbArr
  pointwise
  refine (sum_ones _ _ j).trans ?_
  pointwise

variable (m : (ℓ : Loc nD τ sig) → Buf (Elt Ideal) ℓ) (c : Dev nD)

def dsTerm : Buf (Elt Ideal) ((c.tc : Thread nD τ).loc main_v19) :=
  dsArr (m ((c.tc : Thread nD τ).loc main_arg3)) (padRows (m ((c.tc : Thread nD τ).loc main_arg1))) (m ((c.tc : Thread nD τ).loc main_arg4))

def dwTerm : Buf (Elt Ideal) ((c.tc : Thread nD τ).loc main_v16) :=
  dwArr (m ((c.tc : Thread nD τ).loc main_arg3)) (padCols (m ((c.tc : Thread nD τ).loc main_arg0)))

def dbTerm : Buf (Elt Ideal) ((c.tc : Thread nD τ).loc main_v20) := dbArr (m ((c.tc : Thread nD τ).loc main_arg3))

/-- The reference's run. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v19) = dsTerm m c ∧ r.2.mem ((c.tc : Thread nD τ).loc main_v16) = dwTerm m c
      ∧ r.2.mem ((c.tc : Thread nD τ).loc main_v20) = dbTerm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := Value.run m ρ

end Cert.GateProof.Ref
-- ==== Proof.Gate.Claim.lean ====
/- The gate's gradient leaves what the reference's derivative leaves, whatever the arguments. -/
module
public import proofs.«01_k».proof.Proof.Gate.Final
public import proofs.«01_k».proof.Proof.Gate.Ref
public import proofs.«01_k».proof.Defs
public import Idealize.ShloMosaic.Lib.Claim

@[expose] public section

set_option maxRecDepth 16384

noncomputable section

namespace Cert.GateProof

open Idealize.ShloMosaic Idealize.ShloMosaic.TcCoe Idealize.SL.Sem

section Agree

variable (m : (ℓ : Loc Cert.GateIdeal.nD Cert.GateIdeal.τ Cert.GateIdeal.sig) → Buf (Elt Ideal) ℓ)
  (m' : (ℓ : Loc Cert.GateRefIdeal.nD Cert.GateRefIdeal.τ Cert.GateRefIdeal.sig) → Buf (Elt Ideal) ℓ) (c : Dev Cert.GateIdeal.nD)

theorem split_ix {a b : ℕ} (i : (⟨2, ![a, b]⟩ : Shape).Idx) : i = ix2 (i 0) (i 1) := by
  funext k
  match k with
  | ⟨0, _⟩ => rfl
  | ⟨1, _⟩ => rfl

theorem split_row {b : ℕ} (i : (⟨2, ![1, b]⟩ : Shape).Idx) : i = ix2 0 (i 1) := by
  funext k
  match k with
  | ⟨0, _⟩ => exact Fin.ext (by have h : (i 0).val < 1 := (i 0).isLt; show (i 0).val = 0; omega)
  | ⟨1, _⟩ => rfl

open Cert.GateIdeal in
theorem ds_eq (h1 : m' ((c : Thread nD τ).loc Cert.GateRefIdeal.main_arg1) = m ((c : Thread nD τ).loc main_arg1))
    (h3 : m' ((c : Thread nD τ).loc Cert.GateRefIdeal.main_arg3) = m ((c : Thread nD τ).loc main_arg3))
    (h4 : m' ((c : Thread nD τ).loc Cert.GateRefIdeal.main_arg4) = m ((c : Thread nD τ).loc main_arg4)) :
    Ref.dsTerm m' c = (Cert.GateIdeal.Gen.dats m 0 c).arrAt 4 Cert.GateIdeal.cfg0.N := by
  rw [final_ds]
  refine funext fun i => ?_
  refine (congrArg (Ref.dsTerm m' c) (split_ix i)).trans ((Ref.dsArr_at _ _ _ (i 0) (i 1)).trans ?_)
  refine (add_comm (G := EReal) _ _).trans ?_
  unfold dsAt
  refine congrArg₂ (fun a b : EReal => a + b) (Finset.sum_congr (M := EReal) rfl fun x _ => congrArg₂ (fun a b : EReal => a * b) (congrFun h3 _) ?_) ?_
  · refine (Ref.padRows_at _ (i 1) x).trans ?_
    unfold wg
    split
    · exact congrFun h1 _
    · rfl
  · unfold dsm
    have hl : (i 1).val < 128 := (i 1).isLt
    by_cases a : (i 1).val < 16
    · rw [dif_neg (fun h => absurd h.1 (by omega)), if_pos a]
    · rw [if_neg a]
      by_cases b : (i 1).val - 16 < 16
      · rw [dif_pos ⟨by omega, b⟩, dif_pos b]
        exact congrFun h4 _
      · rw [dif_neg (fun h => b h.2), dif_neg b]

open Cert.GateIdeal in
theorem dw_eq (h0 : m' ((c : Thread nD τ).loc Cert.GateRefIdeal.main_arg0) = m ((c : Thread nD τ).loc main_arg0))
    (h3 : m' ((c : Thread nD τ).loc Cert.GateRefIdeal.main_arg3) = m ((c : Thread nD τ).loc main_arg3)) :
    Ref.dwTerm m' c = (Cert.GateIdeal.Gen.dats m 0 c).arrAt 5 Cert.GateIdeal.cfg0.N := by
  rw [final_dw]
  refine funext fun i => ?_
  refine (congrArg (Ref.dwTerm m' c) (split_ix i)).trans ((Ref.dwArr_at _ _ (i 0) (i 1)).trans ?_)
  unfold dwAt
  refine Finset.sum_congr (M := EReal) rfl fun r _ => (mul_comm (G := EReal) _ _).trans
    (congrArg₂ (fun a b : EReal => a * b) ?_ (congrFun h3 _))
  refine (Ref.padCols_at _ r (i 0)).trans ?_
  unfold sm
  split
  · exact congrFun h0 _
  · rfl

open Cert.GateIdeal in
theorem db_eq (h3 : m' ((c : Thread nD τ).loc Cert.GateRefIdeal.main_arg3) = m ((c : Thread nD τ).loc main_arg3)) :
    Ref.dbTerm m' c = (Cert.GateIdeal.Gen.dats m 0 c).arrAt 6 Cert.GateIdeal.cfg0.N := by
  rw [final_db]
  refine funext fun i => ?_
  refine (congrArg (Ref.dbTerm m' c) (split_row i)).trans ((Ref.dbArr_at _ (i 1)).trans ?_)
  exact Finset.sum_congr (M := EReal) rfl fun r _ => congrFun h3 _

end Agree

theorem algebraic : Cert.algebraic_GateIdeal_GateRefIdeal := by
  intro m g m' g' _ hagree
  refine ⟨fun c => (Cert.GateIdeal.Gen.dats m 0 c).arrAt 4 Cert.GateIdeal.cfg0.N,
    fun c => (Cert.GateIdeal.Gen.dats m 0 c).arrAt 5 Cert.GateIdeal.cfg0.N,
    fun c => (Cert.GateIdeal.Gen.dats m 0 c).arrAt 6 Cert.GateIdeal.cfg0.N, Cert.GateIdeal.Value.run_blocks m g, ?_⟩
  refine (θ_run Cert.GateRefIdeal.defs _ _).mono (fun r h c => ?_) (Ref.run m' g')
  obtain ⟨h0, h1, _, h3, h4⟩ := hagree c
  exact ⟨(h c).1.trans (ds_eq m m' c h1 h3 h4), (h c).2.1.trans (dw_eq m m' c h0 h3), (h c).2.2.1.trans (db_eq m m' c h3), (h c).2.2.2⟩

end Cert.GateProof
-- ==== Proof.Gla.Math.lean ====
/- Gated linear attention of one head, cut into 128 chunks of 64 rows, over the reals: what the forward pass computes, its gradients as
   the kernel writes them, and the gradient of the decay's logits as the chain rule writes it. -/
module

public import Mathlib.Analysis.SpecialFunctions.Log.Basic
public import Mathlib.Analysis.SpecialFunctions.Exp
public import Mathlib.Tactic.Ring
public import Mathlib.Tactic.FieldSimp
public import Mathlib.Tactic.Positivity
public import Mathlib.Algebra.BigOperators.Fin

@[expose] public section

noncomputable section

namespace Cert.GlaProof

/-- One head's queries, keys, decay logits, values and output cotangent, by chunk, row and column, and the queries' factor. -/
structure Head where
  q : Fin 128 → Fin 64 → Fin 128 → ℝ
  k : Fin 128 → Fin 64 → Fin 128 → ℝ
  p : Fin 128 → Fin 64 → Fin 128 → ℝ
  v : Fin 128 → Fin 64 → Fin 256 → ℝ
  o : Fin 128 → Fin 64 → Fin 256 → ℝ
  sc : ℝ

namespace Head

variable (X : Head)

/-- The logarithm of the logistic function. -/
def lsg (x : ℝ) : ℝ := -Real.log (1 + Real.exp (-x))

/-- The logarithm of a row's decay. -/
def la (n : Fin 128) (i : Fin 64) (d : Fin 128) : ℝ := lsg (X.p n i d) * (1 / 16)

/-- Its sum from the chunk's first row on. -/
def b (n : Fin 128) (i : Fin 64) (d : Fin 128) : ℝ := ∑ j, if j ≤ i then X.la n j d else 0

/-- The whole chunk's. -/
def bl (n d : Fin 128) : ℝ := X.b n 63 d

def qin (n : Fin 128) (i : Fin 64) (d : Fin 128) : ℝ := X.q n i d * X.sc * Real.exp (X.b n i d)

def kout (n : Fin 128) (i : Fin 64) (d : Fin 128) : ℝ := X.k n i d * Real.exp (-X.b n i d)

def kst (n : Fin 128) (i : Fin 64) (d : Fin 128) : ℝ := X.k n i d * Real.exp (X.bl n d - X.b n i d)

/-- What a chunk adds to the state. -/
def kv (n : Fin 128) (v : Fin 256) (d : Fin 128) : ℝ := ∑ i, X.v n i v * X.kst n i d

/-- The logarithm of the decay of the chunks between `m` and `n`. -/
def diff (n m d : Fin 128) : ℝ := ∑ j, if m < j ∧ j < n then X.bl j d else 0

/-- What of chunk `m`'s part is left in the state before chunk `n`. -/
def dec (n m d : Fin 128) : ℝ := if m < n then Real.exp (X.diff n m d) else 0

/-- The state before chunk `n`. -/
def st (n : Fin 128) (v : Fin 256) (d : Fin 128) : ℝ := ∑ m, X.kv m v d * X.dec n m d

/-- The cotangent of the state before chunk `n` that comes from the chunk's own rows. -/
def qdo (n : Fin 128) (v : Fin 256) (d : Fin 128) : ℝ := ∑ i, X.o n i v * X.qin n i d

/-- The cotangent of what chunk `n` adds to the state. -/
def aft (n : Fin 128) (v : Fin 256) (d : Fin 128) : ℝ := ∑ l, X.qdo l v d * X.dec l n d

def scores (n : Fin 128) (i j : Fin 64) : ℝ := if j ≤ i then ∑ d, X.qin n i d * X.kout n j d else 0

def dsc (n : Fin 128) (i j : Fin 64) : ℝ := if j ≤ i then ∑ v, X.o n i v * X.v n j v else 0

def dqin (n : Fin 128) (i : Fin 64) (d : Fin 128) : ℝ := ∑ v, X.o n i v * X.st n v d + ∑ j, X.dsc n i j * X.kout n j d

def dkout (n : Fin 128) (j : Fin 64) (d : Fin 128) : ℝ := ∑ i, X.dsc n i j * X.qin n i d

def dkst (n : Fin 128) (i : Fin 64) (d : Fin 128) : ℝ := ∑ v, X.v n i v * X.aft n v d

/-- The gradient of the queries. -/
def dq (n : Fin 128) (i : Fin 64) (d : Fin 128) : ℝ := X.dqin n i d * X.sc * Real.exp (X.b n i d)

/-- The gradient of the keys. -/
def dk (n : Fin 128) (i : Fin 64) (d : Fin 128) : ℝ :=
  X.dkout n i d * Real.exp (-X.b n i d) + X.dkst n i d * Real.exp (X.bl n d - X.b n i d)

/-- The gradient of the values. -/
def dv (n : Fin 128) (j : Fin 64) (v : Fin 256) : ℝ := ∑ i, X.scores n i j * X.o n i v + ∑ d, X.kst n j d * X.aft n v d

/-- The cotangent of the running sum, the whole chunk's sum apart. -/
def db (n : Fin 128) (i : Fin 64) (d : Fin 128) : ℝ :=
  X.dqin n i d * X.qin n i d - X.dkout n i d * X.kout n i d - X.dkst n i d * X.kst n i d

/-- The cotangent of the whole chunk's sum. -/
def dbl (n d : Fin 128) : ℝ := ∑ i, X.dkst n i d * X.kst n i d + (∑ v, X.st n v d * X.aft n v d) * Real.exp (X.bl n d)

/-- The gradient of the decay's logits, as the kernel writes it. -/
def dpre (n : Fin 128) (i : Fin 64) (d : Fin 128) : ℝ :=
  (∑ j, (if i ≤ j then X.db n j d else 0) + X.dbl n d) * (1 / 16) * (1 / (1 + Real.exp (X.p n i d)))

/-- The cotangent of the whole chunk's sum by the chain rule: of each stretch of chunks that holds the chunk, and of its own keys. -/
def dbl' (n d : Fin 128) : ℝ :=
  (∑ l, ∑ m, (if m < l then ∑ v, X.qdo l v d * X.kv m v d else 0) * Real.exp (X.diff l m d) * (if m < n ∧ n < l then 1 else 0)) +
    ∑ i, X.k n i d * X.dkst n i d * Real.exp (X.bl n d - X.b n i d)

/-- The cotangent of the running sum by the chain rule. -/
def db' (n : Fin 128) (i : Fin 64) (d : Fin 128) : ℝ :=
  -(X.k n i d * X.dkst n i d * Real.exp (X.bl n d - X.b n i d)) + -(X.k n i d * X.dkout n i d * Real.exp (-X.b n i d)) +
    X.q n i d * X.sc * X.dqin n i d * Real.exp (X.b n i d) + (if i = 63 then X.dbl' n d else 0)

/-- The gradient of the decay's logits by the chain rule. -/
def dpre' (n : Fin 128) (i : Fin 64) (d : Fin 128) : ℝ :=
  -(-((∑ j, X.db' n j d * (if i ≤ j then 1 else 0)) * (1 / 16)) * Real.exp (-X.p n i d - Real.log (1 + Real.exp (-X.p n i d))))

theorem dec_lt {n m : Fin 128} (d : Fin 128) (h : m < n) : X.dec n m d = Real.exp (X.diff n m d) := if_pos h

theorem dec_ge {n m : Fin 128} (d : Fin 128) (h : n ≤ m) : X.dec n m d = 0 := if_neg (not_lt.2 h)

/-- A stretch of chunks that holds `n` is the stretch up to it, itself, and the stretch after it. -/
theorem diff_split {m n l : Fin 128} (d : Fin 128) (h1 : m < n) (h2 : n < l) : X.diff l m d = X.diff n m d + X.bl n d + X.diff l n d := by
  unfold diff
  have e : X.bl n d = ∑ j, if j = n then X.bl j d else 0 := by simp
  rw [e, ← Finset.sum_add_distrib, ← Finset.sum_add_distrib]
  refine Finset.sum_congr rfl fun j _ => ?_
  simp only [Fin.lt_def, Fin.ext_iff] at *
  rcases lt_trichotomy j.val n.val with h | h | h
  · simp [show j.val < l.val by omega, show ¬ n.val < j.val by omega, show j.val ≠ n.val by omega, h]
  · simp [show j.val < l.val by omega, show m.val < j.val by omega, h, h2]
    intro h
    omega
  · simp [show m.val < j.val by omega, show ¬ j.val < n.val by omega, show j.val ≠ n.val by omega, h]

theorem dec_split {m n l : Fin 128} (d : Fin 128) :
    (if m < n ∧ n < l then X.dec l m d else 0) = X.dec n m d * X.dec l n d * Real.exp (X.bl n d) := by
  by_cases h1 : m < n
  · by_cases h2 : n < l
    · rw [if_pos ⟨h1, h2⟩, X.dec_lt d (h1.trans h2), X.dec_lt d h1, X.dec_lt d h2, X.diff_split d h1 h2, Real.exp_add, Real.exp_add]
      ring
    · rw [if_neg (fun h => h2 h.2), X.dec_ge d (not_lt.1 h2)]
      ring
  · rw [if_neg (fun h => h1 h.1), X.dec_ge d (not_lt.1 h1)]
    ring

/-- The states' part of the whole chunk's cotangent, the two ways. -/
theorem states_part (n d : Fin 128) :
    (∑ l, ∑ m, (if m < l then ∑ v, X.qdo l v d * X.kv m v d else 0) * Real.exp (X.diff l m d) * (if m < n ∧ n < l then 1 else 0)) =
      (∑ v, X.st n v d * X.aft n v d) * Real.exp (X.bl n d) := by
  have e : ∀ l m : Fin 128, (if m < l then ∑ v, X.qdo l v d * X.kv m v d else 0) * Real.exp (X.diff l m d) *
      (if m < n ∧ n < l then 1 else 0) = ∑ v, X.qdo l v d * X.kv m v d * (X.dec n m d * X.dec l n d * Real.exp (X.bl n d)) := by
    intro l m
    rw [← X.dec_split, ← Finset.sum_mul]
    by_cases h : m < n ∧ n < l
    · rw [if_pos h, if_pos h, if_pos (h.1.trans h.2), X.dec_lt d (h.1.trans h.2), mul_one]
    · rw [if_neg h, if_neg h, mul_zero, mul_zero]
  simp only [e]
  rw [Finset.sum_mul]
  have e2 : ∀ l : Fin 128, ∑ m, ∑ v, X.qdo l v d * X.kv m v d * (X.dec n m d * X.dec l n d * Real.exp (X.bl n d)) =
      ∑ v, ∑ m, X.qdo l v d * X.kv m v d * (X.dec n m d * X.dec l n d * Real.exp (X.bl n d)) := fun l => Finset.sum_comm
  simp only [e2]
  rw [Finset.sum_comm]
  refine Finset.sum_congr rfl fun v _ => ?_
  unfold st aft
  rw [Finset.sum_mul_sum, Finset.sum_mul, Finset.sum_comm]
  refine Finset.sum_congr rfl fun m _ => ?_
  rw [Finset.sum_mul]
  refine Finset.sum_congr rfl fun l _ => ?_
  ring

theorem dbl_eq (n d : Fin 128) : X.dbl' n d = X.dbl n d := by
  unfold dbl' dbl kst
  rw [X.states_part, add_comm]
  refine congrArg (· + _) (Finset.sum_congr rfl fun i _ => ?_)
  ring

theorem db_eq (n : Fin 128) (i : Fin 64) (d : Fin 128) : X.db' n i d = X.db n i d + (if i = 63 then X.dbl n d else 0) := by
  unfold db' db
  rw [X.dbl_eq]
  refine congrArg (· + _) ?_
  unfold qin kout kst
  ring

theorem logistic_eq (x : ℝ) : Real.exp (-x - Real.log (1 + Real.exp (-x))) = 1 / (1 + Real.exp x) := by
  have h : 0 < 1 + Real.exp (-x) := by positivity
  rw [Real.exp_sub, Real.exp_log h, Real.exp_neg]
  have := Real.exp_pos x
  field_simp
  ring

/-- The gradient of the decay's logits is one value, the two ways. -/
theorem dpre_eq (n : Fin 128) (i : Fin 64) (d : Fin 128) : X.dpre' n i d = X.dpre n i d := by
  unfold dpre' dpre
  rw [logistic_eq]
  have e : ∑ j, X.db' n j d * (if i ≤ j then 1 else 0) = ∑ j, (if i ≤ j then X.db n j d else 0) + X.dbl n d := by
    have e1 : X.dbl n d = ∑ j : Fin 64, if j = 63 then X.dbl n d else 0 := by simp
    conv_rhs => rw [e1]
    rw [← Finset.sum_add_distrib]
    refine Finset.sum_congr rfl fun j _ => ?_
    rw [X.db_eq]
    by_cases h : i ≤ j
    · rw [if_pos h, if_pos h, mul_one]
    · rw [if_neg h, if_neg h, mul_zero, if_neg (fun hj => h (by subst hj; exact Fin.le_last i)), add_zero]
  rw [e]
  ring

/-- The cotangent of the state walks down the chunks. -/
theorem aft_last (v : Fin 256) (d : Fin 128) : X.aft 127 v d = 0 := by
  unfold aft
  refine Finset.sum_eq_zero fun l _ => ?_
  rw [show X.dec l 127 d = 0 from X.dec_ge d (Fin.le_last l), mul_zero]

theorem aft_step {n n' : Fin 128} (h : n.val + 1 = n'.val) (v : Fin 256) (d : Fin 128) :
    X.aft n v d = X.aft n' v d * Real.exp (X.bl n' d) + X.qdo n' v d := by
  unfold aft
  have e : X.qdo n' v d = ∑ l, if l = n' then X.qdo l v d else 0 := by simp
  rw [e, Finset.sum_mul, ← Finset.sum_add_distrib]
  refine Finset.sum_congr rfl fun l _ => ?_
  rcases lt_trichotomy l n' with hl | rfl | hl
  · rw [X.dec_ge d (Fin.le_def.2 (by have := Fin.lt_def.1 hl; omega)), X.dec_ge d hl.le, if_neg hl.ne]
    ring
  · have e0 : X.diff l n d = 0 := by
      unfold diff
      refine Finset.sum_eq_zero fun j _ => if_neg fun hj => ?_
      have h1 := Fin.lt_def.1 hj.1
      have h2 := Fin.lt_def.1 hj.2
      omega
    rw [X.dec_lt d (Fin.lt_def.2 (by omega)), X.dec_ge d le_rfl, if_pos rfl, e0, Real.exp_zero]
    ring
  · have hn : n < l := Fin.lt_def.2 (by have := Fin.lt_def.1 hl; omega)
    have e0 : X.diff l n d = X.bl n' d + X.diff l n' d := by
      unfold diff
      have e : X.bl n' d = ∑ j, if j = n' then X.bl j d else 0 := by simp
      rw [e, ← Finset.sum_add_distrib]
      refine Finset.sum_congr rfl fun j _ => ?_
      have hl' := Fin.lt_def.1 hl
      simp only [Fin.lt_def, Fin.ext_iff]
      split_ifs <;> first | omega | simp
    rw [X.dec_lt d hn, X.dec_lt d hl, if_neg hl.ne', e0, Real.exp_add]
    ring

end Head

end Cert.GlaProof
-- ==== Proof.Gla.Coe.lean ====
/- The real values of the functions and constants that the gated linear attention's programs use. -/
module

public import proofs.«01_k».proof.Proof.Lib.NormBack
public import proofs.«01_k».proof.Proof.Gla.Math

@[expose] public section

noncomputable section

namespace Cert.GlaProof

open Idealize.ShloMosaic

/-- The queries' factor: the float word both programs multiply by. -/
def scale : ℝ := (Ideal.ofBits .f32 0x3DB504F3#32).toReal

theorem cscale : Ideal.ofBits .f32 0x3DB504F3#32 = (scale : EReal) := by
  have h : ∃ r : ℝ, Ideal.ofBits .f32 0x3DB504F3#32 = (r : EReal) := ⟨_, by simp [Ideal.ofBits, Ideal.ieee]; rfl⟩
  obtain ⟨r, hr⟩ := h
  unfold scale
  rw [hr, EReal.toReal_coe]

theorem c16th : Ideal.ofBits .f32 0x3D800000#32 = ((1 / 16 : ℝ) : EReal) := by
  simp [Ideal.ofBits, Ideal.ieee, -EReal.coe_mul, -EReal.coe_neg]
  norm_num

theorem c16 : Ideal.ofBits .f32 0x41800000#32 = ((16 : ℝ) : EReal) := by
  simp [Ideal.ofBits, Ideal.ieee, -EReal.coe_mul, -EReal.coe_neg]
  norm_num

theorem coe_if (c : Prop) [Decidable c] (a : ℝ) : (if c then (a : EReal) else 0) = ((if c then a else 0 : ℝ) : EReal) := by
  split_ifs <;> simp

theorem select_if (c : Prop) [Decidable c] (a b : EReal) : Scalar.select (if c then 1#1 else 0#1) a b = if c then a else b := by
  split_ifs <;> rfl

theorem coe_max' (a b : ℝ) : max (a : EReal) b = ((max a b : ℝ) : EReal) := (EReal.coe_strictMono.monotone.map_max).symm

theorem coe_min' (a b : ℝ) : min (a : EReal) b = ((min a b : ℝ) : EReal) := (EReal.coe_strictMono.monotone.map_min).symm

theorem absf_coe (x : ℝ) : (FloatOps.absf (F := Ideal) (φ := .f32) (x : EReal) : EReal) = ((|x| : ℝ) : EReal) := by
  show max (x : EReal) (-(x : EReal)) = _
  rw [← EReal.coe_neg, coe_max']
  rfl

theorem log_pos {x : ℝ} (h : 0 < x) : Ideal.log (x : EReal) = ((Real.log x : ℝ) : EReal) := by
  rw [Ideal.log_coe, if_neg (not_le.2 h)]

/-- The logarithm of the logistic function as the kernel computes it. -/
theorem lsg_eq (x : ℝ) : min (x : EReal) 0 - Ideal.log (1 + Ideal.exp (0 - FloatOps.absf (F := Ideal) (φ := .f32) (x : EReal))) = ((Head.lsg x : ℝ) : EReal) := by
  rw [absf_coe, ← EReal.coe_zero, ← EReal.coe_sub, Ideal.exp_coe, ← EReal.coe_one, ← EReal.coe_add, log_pos (by positivity), coe_min', ← EReal.coe_sub]
  refine congrArg _ ?_
  unfold Head.lsg
  rcases le_total x 0 with h | h
  · rw [min_eq_left h, abs_of_nonpos h, zero_sub, neg_neg]
    have e : 1 + Real.exp (-x) = Real.exp (-x) * (1 + Real.exp x) := by
      rw [mul_add, mul_one, ← Real.exp_add, neg_add_cancel, Real.exp_zero, add_comm]
    rw [e, Real.log_mul (Real.exp_ne_zero _) (by positivity), Real.log_exp]
    ring
  · rw [min_eq_right h, abs_of_nonneg h, zero_sub, zero_sub]

/-- The logistic function of the negated logit. -/
theorem logistic_coe (x : ℝ) : Ideal.div 1 (1 + Ideal.exp (-(-(x : EReal)))) = ((1 / (1 + Real.exp x) : ℝ) : EReal) := by
  have h : 1 + Real.exp x ≠ 0 := (add_pos one_pos (Real.exp_pos _)).ne'
  rw [neg_neg, Ideal.exp_coe, ← EReal.coe_one, ← EReal.coe_add, Ideal.div_coe h, ← EReal.coe_mul, one_mul]

end Cert.GlaProof
-- ==== Proof.Gla.Data.lean ====
/- The layer's real inputs and the heads they give. -/
module

public import proofs.«01_k».proof.Proof.Gla.Coe
public import proofs.«01_k».proof.Proof.Lib.NormBack

@[expose] public section

set_option maxRecDepth 16384

noncomputable section

namespace Cert.GlaProof

open Idealize.ShloMosaic Cert.NormBack

/-- Queries, keys, values, the narrow projection, the gate's weight and bias, and the output's cotangent. -/
structure Data where
  q : Fin 8192 → Fin 512 → ℝ
  k : Fin 8192 → Fin 512 → ℝ
  v : Fin 8192 → Fin 1024 → ℝ
  g : Fin 8192 → Fin 16 → ℝ
  w : Fin 16 → Fin 512 → ℝ
  b : Fin 512 → ℝ
  o : Fin 8192 → Fin 1024 → ℝ

/-- A chunk's row, and a head's column of width 128 or 256. -/
def row (n : Fin 128) (i : Fin 64) : Fin 8192 := ⟨64 * n.val + i.val, by omega⟩
def kc (h : Fin 4) (d : Fin 128) : Fin 512 := ⟨128 * h.val + d.val, by omega⟩
def vc (h : Fin 4) (d : Fin 256) : Fin 1024 := ⟨256 * h.val + d.val, by omega⟩

/-- The chunk, its row, the head and its column an index is of. -/
def rn (r : Fin 8192) : Fin 128 := ⟨r.val / 64, by omega⟩
def ro (r : Fin 8192) : Fin 64 := ⟨r.val % 64, by omega⟩
def kh (l : Fin 512) : Fin 4 := ⟨l.val / 128, by omega⟩
def kd (l : Fin 512) : Fin 128 := ⟨l.val % 128, by omega⟩
def vh (l : Fin 1024) : Fin 4 := ⟨l.val / 256, by omega⟩
def vd (l : Fin 1024) : Fin 256 := ⟨l.val % 256, by omega⟩

/-- The decay's logit. -/
def Data.pre (D : Data) (r : Fin 8192) (l : Fin 512) : ℝ := ∑ x, D.g r x * D.w x l + D.b l

def Data.head (D : Data) (h : Fin 4) : Head where
  q n i d := D.q (row n i) (kc h d)
  k n i d := D.k (row n i) (kc h d)
  p n i d := D.pre (row n i) (kc h d)
  v n i d := D.v (row n i) (vc h d)
  o n i d := D.o (row n i) (vc h d)
  sc := scale

/-- The logarithm of the logistic function from the softplus of the negated argument. -/
theorem softplus_coe (x : ℝ) : -(if (-(x : EReal)) ≠ -(x : EReal) then -(x : EReal) else max (-(x : EReal)) 0 +
    Ideal.log1p (Ideal.exp (-FloatOps.absf (F := Ideal) (φ := .f32) (-(x : EReal))))) = ((Head.lsg x : ℝ) : EReal) := by
  rw [if_neg (fun h => h rfl), ← EReal.coe_neg, absf_coe, ← EReal.coe_neg, Ideal.exp_coe]
  have e : Ideal.log1p ((Real.exp (-|(-x)|) : ℝ) : EReal) = ((Real.log (1 + Real.exp (-|(-x)|)) : ℝ) : EReal) := by
    show Ideal.log (1 + _) = _
    rw [← EReal.coe_one, ← EReal.coe_add, log_pos (by positivity)]
  rw [e, ← EReal.coe_zero, coe_max', ← EReal.coe_add, ← EReal.coe_neg]
  refine congrArg _ ?_
  have h := lsg_eq x
  rw [absf_coe, ← EReal.coe_zero, ← EReal.coe_sub, Ideal.exp_coe, ← EReal.coe_one, ← EReal.coe_add, log_pos (by positivity), coe_min', ← EReal.coe_sub,
    EReal.coe_eq_coe_iff, zero_sub] at h
  rw [← h, abs_neg]
  rcases le_total x 0 with h' | h'
  · rw [min_eq_left h', max_eq_left (by linarith)]
    ring
  · rw [min_eq_right h', max_eq_right (by linarith)]
    ring

/-- A product with columns and rows of zeros behind. -/
theorem sum_pad (a b : Fin 16 → ℝ) : ∑ x : Fin 128, (if h : x.val < 16 then a ⟨x.val, h⟩ else 0) * (if h : x.val < 16 then b ⟨x.val, h⟩ else 0) = ∑ x, a x * b x := by
  rw [show (128 : ℕ) = 16 + 112 from rfl, Fin.sum_univ_add]
  have h : ∀ x : Fin 112, ¬ ((Fin.natAdd 16 x).val < 16) := fun x => by rw [Fin.val_natAdd]; omega
  have h' : ∀ x : Fin 16, ((Fin.castAdd 112 x).val < 16) := fun x => x.isLt
  simp only [h, h', dif_pos, dif_neg, not_false_eq_true, mul_zero, Finset.sum_const_zero, add_zero]
  rfl

end Cert.GlaProof
-- ==== Proof.Gla.Index.lean ====
/- A block's rows and columns against the heads' chunks, rows and columns, and the masks' bits. -/
module

public import proofs.«01_k».proof.Proof.Gla.Coe
public import Idealize.ShloMosaic.Lib.ValueIdx

@[expose] public section

set_option maxRecDepth 16384

noncomputable section

namespace Cert.GlaProof

open Idealize.ShloMosaic

/-- The head of a block's batch entry. -/
def hd (β : Fin 32) : Fin 4 := ⟨β.val / 8, by omega⟩

/-- The chunk of a block's batch entry, among the sequence's. -/
def ch (r : Fin 16) (β : Fin 32) : Fin 128 := ⟨8 * r.val + β.val % 8, by omega⟩

/-- The block's row of a batch entry's row. -/
def rw' (β : Fin 32) (i : Fin 64) : Fin 512 := ⟨64 * (β.val % 8) + i.val, by omega⟩

/-- The column of a batch entry's column, keys. -/
def ck (β : Fin 32) (d : Fin 128) : Fin 512 := ⟨128 * (β.val / 8) + d.val, by omega⟩

/-- The column of a batch entry's column, values. -/
def cv (β : Fin 32) (d : Fin 256) : Fin 1024 := ⟨256 * (β.val / 8) + d.val, by omega⟩

/-- The batch entry of a block's row and column, keys. -/
def bk (r : Fin 512) (l : Fin 512) : Fin 32 := ⟨8 * (l.val / 128) + r.val / 64, by omega⟩

/-- The batch entry of a block's row and column, values. -/
def bv (r : Fin 512) (l : Fin 1024) : Fin 32 := ⟨8 * (l.val / 256) + r.val / 64, by omega⟩

def ri (r : Fin 512) : Fin 64 := ⟨r.val % 64, by omega⟩

def dk' (l : Fin 512) : Fin 128 := ⟨l.val % 128, by omega⟩

def dv' (l : Fin 1024) : Fin 256 := ⟨l.val % 256, by omega⟩

theorem cong2 {A B : ℕ} (f : Fin A → Fin B → EReal) {a a' : Fin A} {b b' : Fin B} (h : a.val = a'.val) (h' : b.val = b'.val) : f a b = f a' b' := by
  rw [Fin.ext h, Fin.ext h']

theorem cong3 {A B C : ℕ} (f : Fin A → Fin B → Fin C → EReal) {a a' : Fin A} {b b' : Fin B} {c c' : Fin C} (h : a.val = a'.val)
    (h' : b.val = b'.val) (h'' : c.val = c'.val) : f a b c = f a' b' c' := by
  rw [Fin.ext h, Fin.ext h', Fin.ext h'']

/-- A cell of a matrix is named by the values of its coordinates. -/
theorem cell {N M : Nat} {α : Type} (f : (⟨2, ![N, M]⟩ : Shape).Idx → α) {a b : Fin N} {p q : Fin M}
    (h : a.val = b.val) (h' : p.val = q.val) : f (ix2 a p) = f (ix2 b q) := by rw [Fin.ext h, Fin.ext h']

/-- A real or zero, picked by a mask. -/
theorem picked (p : Prop) [Decidable p] (a : ℝ) :
    Scalar.select (if p then 1#1 else 0#1) (a : EReal) (0 : EReal) = ((if p then a else 0 : ℝ) : EReal) := by
  rw [select_if, coe_if]

/-- One of thirty-two arrays put one behind the other. -/
theorem pick {β : Fin 32} {k : ℕ} {a b c : EReal} (h : k ≤ β.val) (ha : β.val = k → a = c) (hb : k + 1 ≤ β.val → b = c) :
    (if _h : β.val - k < 1 then a else b) = c := by
  split_ifs with hh
  · exact ha (by omega)
  · exact hb (by omega)

/-- Small numbers compare as words the way they compare as numbers. -/
theorem less (a b : Fin 128) : IntOp.cmpi .slt (BitVec.ofNat 32 a.val) (BitVec.ofNat 32 b.val) = if a < b then 1#1 else 0#1 := by
  revert a b
  decide +kernel

theorem both (p q : Prop) [Decidable p] [Decidable q] :
    IntOp.andi (if p then 1#1 else 0#1) (if q then 1#1 else 0#1) = if p ∧ q then 1#1 else 0#1 := by
  by_cases h1 : p <;> by_cases h2 : q <;> simp [h1, h2, IntOp.andi]

theorem bit (p : Prop) [Decidable p] :
    FloatOps.uitofp (F := Ideal) .f32 (if p then 1#1 else 0#1) = ((if p then 1 else 0 : ℝ) : EReal) := by
  split_ifs
  · show (((1#1 : BitVec 1).toNat : ℝ) : EReal) = _
    norm_num
  · show (((0#1 : BitVec 1).toNat : ℝ) : EReal) = _
    norm_num

theorem sitofp_one : (FloatOps.sitofp .f32 (BitVec.setWidth 32 1#1) : Ideal .f32) = ((1 : ℝ) : EReal) := by
  simp [FloatOps.sitofp]

theorem sitofp_zero : (FloatOps.sitofp .f32 (BitVec.setWidth 32 0#1) : Ideal .f32) = ((0 : ℝ) : EReal) := by
  simp [FloatOps.sitofp]

end Cert.GlaProof
-- ==== Proof.Gla.States.lean ====
/- The states the kernel is handed: what the host's lines compute from the layer's real inputs. -/
module

public import proofs.«01_k».proof.Proof.Gla.Data
public import proofs.«01_k».proof.Proof.Gla.Index
public import proofs.«01_k».proof.Proof.Gen.GlaIdeal.Value
public import Idealize.ShloMosaic.Lib.Pipeline.ValueKit
public import Idealize.ShloMosaic.Lib.StableHlo.ReadAt
public import Idealize.ShloMosaic.Lib.Pointwise

@[expose] public section

set_option maxRecDepth 16384

noncomputable section

namespace Cert.GlaProof

open Idealize.ShloMosaic Idealize.ShloMosaic.TcCoe Idealize.SL.Sem Cert.GlaIdeal Cert.GlaIdeal.Gen Cert.NormBack
open Idealize.ShloMosaic.StableHlo

variable (m : (ℓ : Loc nD τ sig) → Buf (Elt Ideal) ℓ) (c : Dev nD)

/-- What the buffers hold before the host's lines, and after each stretch of them. -/
def A0 : Valuation τ sig (Elt Ideal) := fun b => m (c, b)
def A1 : Valuation τ sig (Elt Ideal) := after (hostOps0 (F := Ideal)) (A0 m c)
def A2 : Valuation τ sig (Elt Ideal) := after (hostOps0_1 (F := Ideal)) (A1 m c)
def A3 : Valuation τ sig (Elt Ideal) := after (hostOps0_2 (F := Ideal)) (A2 m c)
def A4 : Valuation τ sig (Elt Ideal) := after (hostOps0_3 (F := Ideal)) (A3 m c)
def A5 : Valuation τ sig (Elt Ideal) := after (hostOps0_4 (F := Ideal)) (A4 m c)
def A6 : Valuation τ sig (Elt Ideal) := after (hostOps0_5 (F := Ideal)) (A5 m c)
def A7 : Valuation τ sig (Elt Ideal) := after (hostOps0_6 (F := Ideal)) (A6 m c)
def A8 : Valuation τ sig (Elt Ideal) := after (hostOps0_7 (F := Ideal)) (A7 m c)
def A9 : Valuation τ sig (Elt Ideal) := after (hostOps0_8 (F := Ideal)) (A8 m c)
def A10 : Valuation τ sig (Elt Ideal) := after (hostOps0_9 (F := Ideal)) (A9 m c)
def A11 : Valuation τ sig (Elt Ideal) := after (hostOps0_10 (F := Ideal)) (A10 m c)

theorem V_eq (b : Ref sig .tc) : V m c b = A11 m c (Proc.tc.devRef b) := by
  unfold V A11 A10 A9 A8 A7 A6 A5 A4 A3 A2 A1 A0
  simp only [List.flatten_cons, List.flatten_nil, List.append_nil, after_append]

variable (D : Data)

/-- The arguments hold the real inputs. -/
structure Is : Prop where
  q : ∀ r l, A0 m c (Proc.tc.devRef main_arg0) (ix2 r l) = ((D.q r l : ℝ) : EReal)
  k : ∀ r l, A0 m c (Proc.tc.devRef main_arg1) (ix2 r l) = ((D.k r l : ℝ) : EReal)
  v : ∀ r l, A0 m c (Proc.tc.devRef main_arg2) (ix2 r l) = ((D.v r l : ℝ) : EReal)
  g : ∀ r l, A0 m c (Proc.tc.devRef main_arg3) (ix2 r l) = ((D.g r l : ℝ) : EReal)
  w : ∀ r l, A0 m c (Proc.tc.devRef main_arg4) (ix2 r l) = ((D.w r l : ℝ) : EReal)
  b : ∀ l, A0 m c (Proc.tc.devRef main_arg5) (ix2 0 l) = ((D.b l : ℝ) : EReal)
  o : ∀ r l, A0 m c (Proc.tc.devRef main_arg6) (ix2 r l) = ((D.o r l : ℝ) : EReal)

variable {m c D} (H : Is m c D)

include H

theorem pre_at (r : Fin 8192) (l : Fin 512) : A1 m c (Proc.tc.devRef main_v10) (ix2 r l) = ((D.pre r l : ℝ) : EReal) := by
  unfold A1
  after_reads_at
  simp only [H.g, H.w, H.b, ← EReal.coe_mul, coe_sum, ← EReal.coe_add]
  rfl

theorem lsg_at (r : Fin 8192) (l : Fin 512) : A2 m c (Proc.tc.devRef main_v11) (ix2 r l) = ((Head.lsg (D.pre r l) : ℝ) : EReal) := by
  unfold A2
  after_reads_at
  rw [pre_at H]
  exact softplus_coe _

theorem la_at (r : Fin 8192) (l : Fin 512) : A3 m c (Proc.tc.devRef main_v13) (ix2 r l) = ((Head.lsg (D.pre r l) * (1 / 16) : ℝ) : EReal) := by
  unfold A3
  after_reads_at
  rw [lsg_at H, c16, Ideal.div_coe (by norm_num), ← EReal.coe_mul]

theorem k_at (h : Fin 4) (n : Fin 128) (i : Fin 64) (d : Fin 128) : A6 m c (Proc.tc.devRef main_v15) (ix4 h n i d) = (((D.head h).k n i d : ℝ) : EReal) := by
  unfold A6 A5 A4 A3 A2 A1
  after_reads_at
  exact (cell (A0 m c (Proc.tc.devRef main_arg1)) (by dsimp only [row]; omega) (by dsimp only [kc]; omega)).trans (H.k (row n i) (kc h d))

theorem v_at (h : Fin 4) (n : Fin 128) (i : Fin 64) (d : Fin 256) : A6 m c (Proc.tc.devRef main_v17) (ix4 h n i d) = (((D.head h).v n i d : ℝ) : EReal) := by
  unfold A6 A5 A4 A3 A2 A1
  after_reads_at
  exact (cell (A0 m c (Proc.tc.devRef main_arg2)) (by dsimp only [row]; omega) (by dsimp only [vc]; omega)).trans (H.v (row n i) (vc h d))

omit H in
theorem earlier_at (i j : Fin 64) : A4 m c (Proc.tc.devRef main_v19) (ix2 i j) = if j ≤ i then 1#1 else 0#1 := by
  unfold A4 A3
  after_reads_at
  revert i j
  decide +kernel

theorem masked_at (h : Fin 4) (n : Fin 128) (i j : Fin 64) (d : Fin 128) :
    A6 m c (Proc.tc.devRef main_v24) (ix5 h n i j d) = ((if j ≤ i then (D.head h).la n j d else 0 : ℝ) : EReal) := by
  unfold A6 A5
  after_reads_at
  rw [earlier_at, cell (A4 m c (Proc.tc.devRef main_v13)) (b := row n j) (q := kc h d) (by dsimp only [row]; omega) (by dsimp only [kc]; omega)]
  have e : A4 m c (Proc.tc.devRef main_v13) (ix2 (row n j) (kc h d)) = (((D.head h).la n j d : ℝ) : EReal) := by
    unfold A4
    after_reads_at
    exact la_at H _ _
  rw [e]
  exact (congrArg (Scalar.select _ _) Ideal.ofBits_zero_f32).trans (picked _ _)

theorem b_at (h : Fin 4) (n : Fin 128) (i : Fin 64) (d : Fin 128) :
    (∑ j, A6 m c (Proc.tc.devRef main_v24) (ix5 h n i j d) : EReal) = (((D.head h).b n i d : ℝ) : EReal) := by
  simp only [masked_at H, coe_sum]
  rfl

theorem kv_at (h : Fin 4) (n : Fin 128) (v : Fin 256) (d : Fin 128) :
    A7 m c (Proc.tc.devRef main_v33) (ix4 h n v d) = (((D.head h).kv n v d : ℝ) : EReal) := by
  unfold A7
  after_reads_at
  rw [b_at H]
  refine (Finset.sum_congr (M := EReal) rfl fun x _ => ?_).trans (coe_sum _)
  rw [b_at H, v_at H, k_at H, ← EReal.coe_sub, Ideal.exp_coe, ← EReal.coe_mul, ← EReal.coe_mul]
  rfl

theorem bl_at (h : Fin 4) (j : Fin 128) (d : Fin 128) :
    A7 m c (Proc.tc.devRef main_v48) (ix5 h 0 0 j d) = (((D.head h).bl j d : ℝ) : EReal) := by
  unfold A7
  after_reads_at
  exact b_at H h j 63 d

omit H in
theorem between_at (n k j : Fin 128) : A7 m c (Proc.tc.devRef main_v47) (ix5 0 n k j 0) = if k < j ∧ j < n then 1#1 else 0#1 := by
  unfold A7
  after_reads_at
  rw [less, less]
  by_cases h1 : k < j <;> by_cases h2 : j < n <;> simp [h1, h2, IntOp.andi]

theorem masked2_at (h : Fin 4) (n k j d : Fin 128) :
    A8 m c (Proc.tc.devRef main_v49) (ix5 h n k j d) = ((if k < j ∧ j < n then (D.head h).bl j d else 0 : ℝ) : EReal) := by
  unfold A8
  after_reads_at
  rw [between_at, bl_at H]
  have e : (A7 m c (Proc.tc.devRef main_cst_5) ix0 : EReal) = (0 : EReal) := by
    unfold A7
    after_reads_at
  exact (congrArg (Scalar.select _ _) e).trans (picked _ _)

theorem dec_at (h : Fin 4) (n k d : Fin 128) :
    A10 m c (Proc.tc.devRef main_v58) (ix4 h n k d) = (((D.head h).dec n k d : ℝ) : EReal) := by
  unfold A10 A9
  after_reads_at
  have e : ∀ x, A8 m c (Proc.tc.devRef main_v34) (ix1 x) = BitVec.ofNat 32 x.val := fun x => by
    unfold A8 A7
    after_reads_at
  rw [e, e, less]
  simp only [masked2_at H, coe_sum, Ideal.exp_coe]
  exact (congrArg (Scalar.select _ _) Ideal.ofBits_zero_f32).trans (picked _ _)

theorem st_at (h : Fin 4) (n : Fin 128) (v : Fin 256) (d : Fin 128) :
    A11 m c (Proc.tc.devRef main_v61) (ix4 h n v d) = (((D.head h).st n v d : ℝ) : EReal) := by
  unfold A11
  after_reads_at
  refine (Finset.sum_congr (M := EReal) rfl fun x _ => ?_).trans (coe_sum _)
  have e : A10 m c (Proc.tc.devRef main_v33) (ix4 h x v d) = A7 m c (Proc.tc.devRef main_v33) (ix4 h x v d) := by
    unfold A10 A9 A8
    after_reads_at
  rw [e, kv_at H, dec_at H, ← EReal.coe_mul]

end Cert.GlaProof
-- ==== Proof.Gla.Pay.lean ====
/- The values one grid point of the gated linear attention's gradient computes from its block, as real functions of the head, the chunk,
   the row and the column. -/
module

public import proofs.«01_k».proof.Proof.Gen.GlaIdeal.Value
public import proofs.«01_k».proof.Proof.Gla.Index
public import Idealize.ShloMosaic.Lib.Pipeline.ValueKit
public import Idealize.ShloMosaic.Lib.Pointwise

@[expose] public section

set_option maxRecDepth 16384

noncomputable section

namespace Cert.GlaProof

open Idealize.ShloMosaic Idealize.ShloMosaic.TcCoe Idealize.SL.Sem Cert.GlaIdeal Cert.GlaIdeal.Gen Cert.NormBack

/- Heads first. -/

theorem p6 (x : Vec Ideal S512x512 .f32) (β : Fin 32) (i : Fin 64) (d : Fin 128) : k0_pay6 x (ix3 β i d) = x (ix2 (rw' β i) (ck β d)) := by
  pointwise [k0_pay6]
  repeat' split
  all_goals exact cong2 (fun a b => x (ix2 a b)) (by simp only [rw']; omega) (by simp only [ck]; omega)

theorem p10 (v42 : FVec Ideal S512x512 .f32) (β : Fin 32) (i : Fin 64) (d : Fin 128) :
    k0_pay10 v42 (shapeCast S8x64x128 (extractStridedSlice S512x128 ![0, 0] v42 slices_S512x512_o0_0_S512x128) shapeCasts_S512x128_S8x64x128) (ix3 β i d) =
      v42 (ix2 (rw' β i) (ck β d)) := by
  pointwise [k0_pay10]
  repeat' split
  all_goals exact cong2 (fun a b => v42 (ix2 a b)) (by simp only [rw']; omega) (by simp only [ck]; omega)

theorem p22 (x : FVec Ideal S512x1024 .bf16) (β : Fin 32) (i : Fin 64) (d : Fin 256) : k0_pay22 x (ix3 β i d) = x (ix2 (rw' β i) (cv β d)) := by
  pointwise [k0_pay22]
  repeat' split
  all_goals exact cong2 (fun a b => x (ix2 a b)) (by simp only [rw']; omega) (by simp only [cv]; omega)

theorem p8 (x3 : Vec Ideal S512x128 .f32) (x4 : Vec Ideal S128x512 .f32) (x5 : Vec Ideal S1x512 .f32) (r l : Fin 512) :
    k0_pay8 x3 x4 x5 (ix2 r l) = ∑ x, x3 (ix2 r x) * x4 (ix2 x l) + x5 (ix2 0 l) := by
  pointwise [k0_pay8]

/-- The decay's logits of the block. -/
theorem p10' (x3 : Vec Ideal S512x128 .f32) (x4 : Vec Ideal S128x512 .f32) (x5 : Vec Ideal S1x512 .f32) (β : Fin 32) (i : Fin 64) (d : Fin 128) :
    k0_pay10 (k0_pay8 x3 x4 x5) (k0_pay9 x3 x4 x5) (ix3 β i d) =
      ∑ x, x3 (ix2 (rw' β i) x) * x4 (ix2 x (ck β d)) + x5 (ix2 0 (ck β d)) :=
  (p10 (k0_pay8 x3 x4 x5) β i d).trans (p8 x3 x4 x5 _ _)

/- The masks. -/

theorem p3 (i j : Fin 64) : k0_pay3 (ix2 i j) = if j ≤ i then 1#1 else 0#1 := by
  pointwise [k0_pay3]
  revert i j
  decide +kernel

theorem p5 (i j : Fin 64) : k0_pay5 (F := Ideal) (ix2 i j) = ((if j ≤ i then 1 else 0 : ℝ) : EReal) := by
  pointwise [k0_pay5]
  rw [p3]
  split_ifs
  · exact sitofp_one
  · exact sitofp_zero

theorem p4 (i j : Fin 64) : k0_pay4 (F := Ideal) (ix2 i j) = ((if i ≤ j then 1 else 0 : ℝ) : EReal) := by
  pointwise [k0_pay4]
  have h : IntOp.cmpi CmpIPredicate.sle (BitVec.ofNat 32 i.val) (BitVec.ofNat 32 j.val) = if i ≤ j then 1#1 else 0#1 := by
    revert i j
    decide +kernel
  rw [h]
  split_ifs
  · exact sitofp_one
  · exact sitofp_zero

section Block

variable (X : Fin 4 → Head) (r : Fin 16)
variable (v12 : FVec Ideal S64x64 .f32) (v42 : FVec Ideal S512x512 .f32) (v44 : FVec Ideal S8x64x128 .f32)
variable (h12 : ∀ i j, v12 (ix2 i j) = ((if j ≤ i then 1 else 0 : ℝ) : EReal))
variable (hp : ∀ β i d, k0_pay10 v42 v44 (ix3 β i d) = (((X (hd β)).p (ch r β) i d : ℝ) : EReal))

include h12 hp

theorem p11 (β : Fin 32) (i : Fin 64) (d : Fin 128) : k0_pay11 v12 v42 v44 (ix3 β i d) = (((X (hd β)).b (ch r β) i d : ℝ) : EReal) := by
  pointwise [k0_pay11]
  simp only [hp, h12, lsg_eq, c16th, ← EReal.coe_mul, coe_sum]
  refine congrArg _ (Finset.sum_congr rfl fun j _ => ?_)
  unfold Head.la
  split_ifs <;> ring

theorem p12 (β : Fin 32) (d : Fin 128) : k0_pay12 v12 v42 v44 (ix3 β 0 d) = (((X (hd β)).bl (ch r β) d : ℝ) : EReal) := by
  pointwise [k0_pay12]
  exact p11 X r v12 v42 v44 h12 hp β 63 d

theorem p13 (β : Fin 32) (i : Fin 64) (d : Fin 128) : k0_pay13 v12 v42 v44 (ix3 β i d) = ((Real.exp ((X (hd β)).b (ch r β) i d) : ℝ) : EReal) := by
  pointwise [k0_pay13]
  rw [p11 X r v12 v42 v44 h12 hp, Ideal.exp_coe]

theorem p14 (β : Fin 32) (i : Fin 64) (d : Fin 128) : k0_pay14 v12 v42 v44 (ix3 β i d) = ((Real.exp (-(X (hd β)).b (ch r β) i d) : ℝ) : EReal) := by
  pointwise [k0_pay14]
  rw [p11 X r v12 v42 v44 h12 hp, zero_sub, ← EReal.coe_neg, Ideal.exp_coe]

theorem p15 (β : Fin 32) (i : Fin 64) (d : Fin 128) :
    k0_pay15 v12 v42 v44 (ix3 β i d) = ((Real.exp ((X (hd β)).bl (ch r β) d - (X (hd β)).b (ch r β) i d) : ℝ) : EReal) := by
  pointwise [k0_pay15]
  rw [p11 X r v12 v42 v44 h12 hp, p12 X r v12 v42 v44 h12 hp, ← EReal.coe_sub, Ideal.exp_coe]

theorem p19 (β : Fin 32) (d : Fin 128) : k0_pay19 v12 v42 v44 (ix3 β 0 d) = ((Real.exp ((X (hd β)).bl (ch r β) d) : ℝ) : EReal) := by
  pointwise [k0_pay19]
  rw [p12 X r v12 v42 v44 h12 hp, Ideal.exp_coe]

theorem p16 (v23 : FVec Ideal S32x64x128 .f32) (h : ∀ β i d, v23 (ix3 β i d) = (((X (hd β)).q (ch r β) i d : ℝ) : EReal))
    (hs : ∀ h, (X h).sc = scale) (β : Fin 32) (i : Fin 64) (d : Fin 128) :
    k0_pay16 v12 v23 v42 v44 (ix3 β i d) = (((X (hd β)).qin (ch r β) i d : ℝ) : EReal) := by
  pointwise [k0_pay16]
  rw [p13 X r v12 v42 v44 h12 hp, h, cscale, ← EReal.coe_mul, ← EReal.coe_mul, ← hs (hd β)]
  rfl

theorem p17 (v34 : FVec Ideal S32x64x128 .f32) (h : ∀ β i d, v34 (ix3 β i d) = (((X (hd β)).k (ch r β) i d : ℝ) : EReal))
    (β : Fin 32) (i : Fin 64) (d : Fin 128) : k0_pay17 v12 v34 v42 v44 (ix3 β i d) = (((X (hd β)).kout (ch r β) i d : ℝ) : EReal) := by
  pointwise [k0_pay17]
  rw [p14 X r v12 v42 v44 h12 hp, h, ← EReal.coe_mul]
  rfl

theorem p18 (v34 : FVec Ideal S32x64x128 .f32) (h : ∀ β i d, v34 (ix3 β i d) = (((X (hd β)).k (ch r β) i d : ℝ) : EReal))
    (β : Fin 32) (i : Fin 64) (d : Fin 128) : k0_pay18 v12 v34 v42 v44 (ix3 β i d) = (((X (hd β)).kst (ch r β) i d : ℝ) : EReal) := by
  pointwise [k0_pay18]
  rw [p15 X r v12 v42 v44 h12 hp, h, ← EReal.coe_mul]
  rfl

end Block

end Cert.GlaProof
-- ==== Proof.Gla.Chain.lean ====
/- The cotangent of the state, walked down the eight chunks of a block for each head, and the thirty-two of them put into one array. -/
module

public import proofs.«01_k».proof.Proof.Gla.Pay

@[expose] public section

set_option maxRecDepth 16384

noncomputable section

namespace Cert.GlaProof

open Idealize.ShloMosaic Idealize.ShloMosaic.TcCoe Idealize.SL.Sem Cert.GlaIdeal Cert.GlaIdeal.Gen Cert.NormBack

/-- The first head's arrays, chunk by chunk. -/
def arr0 (v77 : FVec Ideal S32x64x128 .f32) (v80 : FVec Ideal S32x1x128 .f32) (v93 : FVec Ideal S512x1024 .bf16) (s : Vec Ideal S1x256x128 .f32) : Fin 8 → FVec Ideal S256x128 .f32 :=
  ![k0_pay37 v80 (k0_pay27 v77 v93) (k0_pay33 v77 v80 v93 s) (k0_pay34 v77 v93),
    k0_pay36 v80 (k0_pay27 v77 v93) (k0_pay33 v77 v80 v93 s) (k0_pay34 v77 v93),
    k0_pay35 (k0_pay33 v77 v80 v93 s) (k0_pay34 v77 v93),
    k0_pay32 v77 v80 v93 s,
    k0_pay31 v77 v80 v93 s,
    k0_pay30 v77 v80 v93 s,
    k0_pay29 v77 v80 v93 s,
    k0_pay28 s]

/-- The second head's arrays, chunk by chunk. -/
def arr1 (v80 : FVec Ideal S32x1x128 .f32) (v110 : FVec Ideal S32x256x128 .f32) (s : Vec Ideal S1x256x128 .f32) : Fin 8 → FVec Ideal S256x128 .f32 :=
  ![k0_pay47 v80 v110 (k0_pay43 v80 v110 s),
    k0_pay46 v80 v110 (k0_pay43 v80 v110 s),
    k0_pay45 v80 v110 (k0_pay43 v80 v110 s),
    k0_pay44 v110 (k0_pay43 v80 v110 s),
    k0_pay42 v80 v110 s,
    k0_pay41 v80 v110 s,
    k0_pay40 v80 v110 s,
    k0_pay39 s]

/-- The third head's arrays, chunk by chunk. -/
def arr2 (v80 : FVec Ideal S32x1x128 .f32) (v110 : FVec Ideal S32x256x128 .f32) (s : Vec Ideal S1x256x128 .f32) : Fin 8 → FVec Ideal S256x128 .f32 :=
  ![k0_pay57 v80 v110 (k0_pay51 v80 v110 s) (k0_pay52 v80),
    k0_pay56 v80 v110 (k0_pay51 v80 v110 s) (k0_pay52 v80),
    k0_pay55 v80 v110 (k0_pay51 v80 v110 s) (k0_pay52 v80),
    k0_pay54 v80 v110 (k0_pay51 v80 v110 s) (k0_pay52 v80),
    k0_pay53 v110 (k0_pay51 v80 v110 s) (k0_pay52 v80),
    k0_pay51 v80 v110 s,
    k0_pay50 v80 v110 s,
    k0_pay49 s]

/-- The fourth head's arrays, chunk by chunk. -/
def arr3 (v80 : FVec Ideal S32x1x128 .f32) (v110 : FVec Ideal S32x256x128 .f32) (s : Vec Ideal S1x256x128 .f32) : Fin 8 → FVec Ideal S256x128 .f32 :=
  ![k0_pay67 v80 v110 (k0_pay60 v80 v110 s) (k0_pay61 v80),
    k0_pay66 v80 v110 (k0_pay60 v80 v110 s) (k0_pay61 v80),
    k0_pay65 v80 v110 (k0_pay60 v80 v110 s) (k0_pay61 v80),
    k0_pay64 v80 v110 (k0_pay60 v80 v110 s) (k0_pay61 v80),
    k0_pay63 v80 v110 (k0_pay60 v80 v110 s) (k0_pay61 v80),
    k0_pay62 v110 (k0_pay60 v80 v110 s) (k0_pay61 v80),
    k0_pay60 v80 v110 s,
    k0_pay59 s]

variable (X : Fin 4 → Head) (r : Fin 16)

/-- The array holds the cotangent of what batch entry `β`'s chunk adds to the state. -/
def Holds (β : Fin 32) (A : FVec Ideal S256x128 .f32) : Prop := ∀ v d, A (ix2 v d) = (((X (hd β)).aft (ch r β) v d : ℝ) : EReal)

/-- What the head's scratch holds after a block: the cotangent one chunk further down. -/
def below (h : Fin 4) (v : Fin 256) (d : Fin 128) : ℝ :=
  (X h).aft ⟨8 * r.val, by omega⟩ v d * Real.exp ((X h).bl ⟨8 * r.val, by omega⟩ d) + (X h).qdo ⟨8 * r.val, by omega⟩ v d

/-- Before a block that another follows, the scratch holds the block's last chunk's. -/
theorem below_next {r r' : Fin 16} (hr : r.val + 1 = r'.val) (h : Fin 4) (v : Fin 256) (d : Fin 128) :
    below X r' h v d = (X h).aft ⟨8 * r.val + 7, by omega⟩ v d := by
  unfold below
  exact ((X h).aft_step (by dsimp only; omega) v d).symm

variable (v80 : FVec Ideal S32x1x128 .f32) (v110 : FVec Ideal S32x256x128 .f32)
variable (h80 : ∀ β d, v80 (ix3 β 0 d) = ((Real.exp ((X (hd β)).bl (ch r β) d) : ℝ) : EReal))
variable (h110 : ∀ β v d, v110 (ix3 β v d) = (((X (hd β)).qdo (ch r β) v d : ℝ) : EReal))

include h80 h110

/-- One step down the chunks. -/
theorem step (β : Fin 32) (hβ : β.val % 8 ≠ 7) {A A' : FVec Ideal S256x128 .f32} (hA : Holds X r ⟨β.val + 1, by omega⟩ A)
    (h : ∀ v d, A' (ix2 v d) = A (ix2 v d) * v80 (ix3 ⟨β.val + 1, by omega⟩ 0 d) + v110 (ix3 ⟨β.val + 1, by omega⟩ v d)) : Holds X r β A' := by
  intro v d
  rw [h, hA, h80, h110, ← EReal.coe_mul, ← EReal.coe_add]
  have e : hd ⟨β.val + 1, by omega⟩ = hd β := Fin.ext (by simp only [hd]; omega)
  rw [e]
  refine congrArg _ ((X (hd β)).aft_step ?_ v d).symm
  simp only [ch]
  omega

/-- The step from the block's first chunk to the scratch. -/
theorem last (h : Fin 4) {A : FVec Ideal S256x128 .f32} {A' : FVec Ideal S1x256x128 .f32} (hA : Holds X r ⟨8 * h.val, by omega⟩ A)
    (e : ∀ v d, A' (ix3 0 v d) = A (ix2 v d) * v80 (ix3 ⟨8 * h.val, by omega⟩ 0 d) + v110 (ix3 ⟨8 * h.val, by omega⟩ v d)) (v : Fin 256) (d : Fin 128) :
    A' (ix3 0 v d) = ((below X r h v d : ℝ) : EReal) := by
  rw [e, hA, h80, h110, ← EReal.coe_mul, ← EReal.coe_add]
  have e1 : hd ⟨8 * h.val, by omega⟩ = h := Fin.ext (by simp only [hd]; omega)
  have e2 : ch r ⟨8 * h.val, by omega⟩ = ⟨8 * r.val, by omega⟩ := Fin.ext (by simp only [ch]; omega)
  rw [e1, e2]
  rfl

omit h80 h110 in
/-- The block's last chunk's, read from the scratch. -/
theorem first (h : Fin 4) {A : FVec Ideal S256x128 .f32} {s : Vec Ideal S1x256x128 .f32}
    (hs : ∀ v d, s (ix3 0 v d) = (((X h).aft ⟨8 * r.val + 7, by omega⟩ v d : ℝ) : EReal)) (e : ∀ v d, A (ix2 v d) = s (ix3 0 v d)) :
    Holds X r ⟨8 * h.val + 7, by omega⟩ A := by
  intro v d
  rw [e, hs]
  have e1 : hd ⟨8 * h.val + 7, by omega⟩ = h := Fin.ext (by simp only [hd]; omega)
  have e2 : ch r ⟨8 * h.val + 7, by omega⟩ = ⟨8 * r.val + 7, by omega⟩ := Fin.ext (by simp only [ch]; omega)
  rw [e1, e2]

omit h110 in
theorem holds0 (v77 : FVec Ideal S32x64x128 .f32) (v93 : FVec Ideal S512x1024 .bf16)
    (h27 : ∀ β v d, k0_pay27 v77 v93 (ix3 β v d) = (((X (hd β)).qdo (ch r β) v d : ℝ) : EReal))
    (s : Vec Ideal S1x256x128 .f32)
    (hs : ∀ v d, s (ix3 0 v d) = (((X 0).aft ⟨8 * r.val + 7, by omega⟩ v d : ℝ) : EReal)) :
    (∀ c : Fin 8, Holds X r ⟨8 * 0 + c.val, by omega⟩ (arr0 v77 v80 v93 s c)) ∧ ∀ v d, k0_pay38 v80 (k0_pay27 v77 v93) (k0_pay33 v77 v80 v93 s) (k0_pay34 v77 v93) (ix3 0 v d) = ((below X r 0 v d : ℝ) : EReal) := by
  have a7 : Holds X r 7 (arr0 v77 v80 v93 s 7) := first X r 0 hs fun v d => by pointwise [arr0, k0_pay28]
  have a6 : Holds X r 6 (arr0 v77 v80 v93 s 6) := step X r v80 (k0_pay27 v77 v93) h80 h27 6 (by decide) a7 fun v d => by pointwise [arr0, k0_pay29]
  have a5 : Holds X r 5 (arr0 v77 v80 v93 s 5) := step X r v80 (k0_pay27 v77 v93) h80 h27 5 (by decide) a6 fun v d => by pointwise [arr0, k0_pay30]
  have a4 : Holds X r 4 (arr0 v77 v80 v93 s 4) := step X r v80 (k0_pay27 v77 v93) h80 h27 4 (by decide) a5 fun v d => by pointwise [arr0, k0_pay31]
  have a3 : Holds X r 3 (arr0 v77 v80 v93 s 3) := step X r v80 (k0_pay27 v77 v93) h80 h27 3 (by decide) a4 fun v d => by pointwise [arr0, k0_pay32]
  have a2 : Holds X r 2 (arr0 v77 v80 v93 s 2) := step X r v80 (k0_pay27 v77 v93) h80 h27 2 (by decide) a3 fun v d => by pointwise [arr0, k0_pay35, k0_pay33, k0_pay34]
  have a1 : Holds X r 1 (arr0 v77 v80 v93 s 1) := step X r v80 (k0_pay27 v77 v93) h80 h27 1 (by decide) a2 fun v d => by pointwise [arr0, k0_pay36]
  have a0 : Holds X r 0 (arr0 v77 v80 v93 s 0) := step X r v80 (k0_pay27 v77 v93) h80 h27 0 (by decide) a1 fun v d => by pointwise [arr0, k0_pay37]
  refine ⟨fun c => ?_, last X r v80 (k0_pay27 v77 v93) h80 h27 0 a0 fun v d => by pointwise [arr0, k0_pay38]⟩
  match c with
  | 0 => exact a0
  | 1 => exact a1
  | 2 => exact a2
  | 3 => exact a3
  | 4 => exact a4
  | 5 => exact a5
  | 6 => exact a6
  | 7 => exact a7

theorem holds1 (s : Vec Ideal S1x256x128 .f32)
    (hs : ∀ v d, s (ix3 0 v d) = (((X 1).aft ⟨8 * r.val + 7, by omega⟩ v d : ℝ) : EReal)) :
    (∀ c : Fin 8, Holds X r ⟨8 * 1 + c.val, by omega⟩ (arr1 v80 v110 s c)) ∧ ∀ v d, k0_pay48 v80 v110 (k0_pay43 v80 v110 s) (ix3 0 v d) = ((below X r 1 v d : ℝ) : EReal) := by
  have a7 : Holds X r 15 (arr1 v80 v110 s 7) := first X r 1 hs fun v d => by pointwise [arr1, k0_pay39]
  have a6 : Holds X r 14 (arr1 v80 v110 s 6) := step X r v80 v110 h80 h110 14 (by decide) a7 fun v d => by pointwise [arr1, k0_pay40]
  have a5 : Holds X r 13 (arr1 v80 v110 s 5) := step X r v80 v110 h80 h110 13 (by decide) a6 fun v d => by pointwise [arr1, k0_pay41]
  have a4 : Holds X r 12 (arr1 v80 v110 s 4) := step X r v80 v110 h80 h110 12 (by decide) a5 fun v d => by pointwise [arr1, k0_pay42]
  have a3 : Holds X r 11 (arr1 v80 v110 s 3) := step X r v80 v110 h80 h110 11 (by decide) a4 fun v d => by pointwise [arr1, k0_pay44, k0_pay43]
  have a2 : Holds X r 10 (arr1 v80 v110 s 2) := step X r v80 v110 h80 h110 10 (by decide) a3 fun v d => by pointwise [arr1, k0_pay45]
  have a1 : Holds X r 9 (arr1 v80 v110 s 1) := step X r v80 v110 h80 h110 9 (by decide) a2 fun v d => by pointwise [arr1, k0_pay46]
  have a0 : Holds X r 8 (arr1 v80 v110 s 0) := step X r v80 v110 h80 h110 8 (by decide) a1 fun v d => by pointwise [arr1, k0_pay47]
  refine ⟨fun c => ?_, last X r v80 v110 h80 h110 1 a0 fun v d => by pointwise [arr1, k0_pay48]⟩
  match c with
  | 0 => exact a0
  | 1 => exact a1
  | 2 => exact a2
  | 3 => exact a3
  | 4 => exact a4
  | 5 => exact a5
  | 6 => exact a6
  | 7 => exact a7

theorem holds2 (s : Vec Ideal S1x256x128 .f32)
    (hs : ∀ v d, s (ix3 0 v d) = (((X 2).aft ⟨8 * r.val + 7, by omega⟩ v d : ℝ) : EReal)) :
    (∀ c : Fin 8, Holds X r ⟨8 * 2 + c.val, by omega⟩ (arr2 v80 v110 s c)) ∧ ∀ v d, k0_pay58 v80 v110 (k0_pay51 v80 v110 s) (k0_pay52 v80) (ix3 0 v d) = ((below X r 2 v d : ℝ) : EReal) := by
  have a7 : Holds X r 23 (arr2 v80 v110 s 7) := first X r 2 hs fun v d => by pointwise [arr2, k0_pay49]
  have a6 : Holds X r 22 (arr2 v80 v110 s 6) := step X r v80 v110 h80 h110 22 (by decide) a7 fun v d => by pointwise [arr2, k0_pay50]
  have a5 : Holds X r 21 (arr2 v80 v110 s 5) := step X r v80 v110 h80 h110 21 (by decide) a6 fun v d => by pointwise [arr2, k0_pay51]
  have a4 : Holds X r 20 (arr2 v80 v110 s 4) := step X r v80 v110 h80 h110 20 (by decide) a5 fun v d => by pointwise [arr2, k0_pay53, k0_pay52]
  have a3 : Holds X r 19 (arr2 v80 v110 s 3) := step X r v80 v110 h80 h110 19 (by decide) a4 fun v d => by pointwise [arr2, k0_pay54]
  have a2 : Holds X r 18 (arr2 v80 v110 s 2) := step X r v80 v110 h80 h110 18 (by decide) a3 fun v d => by pointwise [arr2, k0_pay55]
  have a1 : Holds X r 17 (arr2 v80 v110 s 1) := step X r v80 v110 h80 h110 17 (by decide) a2 fun v d => by pointwise [arr2, k0_pay56]
  have a0 : Holds X r 16 (arr2 v80 v110 s 0) := step X r v80 v110 h80 h110 16 (by decide) a1 fun v d => by pointwise [arr2, k0_pay57]
  refine ⟨fun c => ?_, last X r v80 v110 h80 h110 2 a0 fun v d => by pointwise [arr2, k0_pay58]⟩
  match c with
  | 0 => exact a0
  | 1 => exact a1
  | 2 => exact a2
  | 3 => exact a3
  | 4 => exact a4
  | 5 => exact a5
  | 6 => exact a6
  | 7 => exact a7

theorem holds3 (s : Vec Ideal S1x256x128 .f32)
    (hs : ∀ v d, s (ix3 0 v d) = (((X 3).aft ⟨8 * r.val + 7, by omega⟩ v d : ℝ) : EReal)) :
    (∀ c : Fin 8, Holds X r ⟨8 * 3 + c.val, by omega⟩ (arr3 v80 v110 s c)) ∧ ∀ v d, k0_pay68 v80 v110 (k0_pay60 v80 v110 s) (k0_pay61 v80) (ix3 0 v d) = ((below X r 3 v d : ℝ) : EReal) := by
  have a7 : Holds X r 31 (arr3 v80 v110 s 7) := first X r 3 hs fun v d => by pointwise [arr3, k0_pay59]
  have a6 : Holds X r 30 (arr3 v80 v110 s 6) := step X r v80 v110 h80 h110 30 (by decide) a7 fun v d => by pointwise [arr3, k0_pay60]
  have a5 : Holds X r 29 (arr3 v80 v110 s 5) := step X r v80 v110 h80 h110 29 (by decide) a6 fun v d => by pointwise [arr3, k0_pay62, k0_pay61]
  have a4 : Holds X r 28 (arr3 v80 v110 s 4) := step X r v80 v110 h80 h110 28 (by decide) a5 fun v d => by pointwise [arr3, k0_pay63]
  have a3 : Holds X r 27 (arr3 v80 v110 s 3) := step X r v80 v110 h80 h110 27 (by decide) a4 fun v d => by pointwise [arr3, k0_pay64]
  have a2 : Holds X r 26 (arr3 v80 v110 s 2) := step X r v80 v110 h80 h110 26 (by decide) a3 fun v d => by pointwise [arr3, k0_pay65]
  have a1 : Holds X r 25 (arr3 v80 v110 s 1) := step X r v80 v110 h80 h110 25 (by decide) a2 fun v d => by pointwise [arr3, k0_pay66]
  have a0 : Holds X r 24 (arr3 v80 v110 s 0) := step X r v80 v110 h80 h110 24 (by decide) a1 fun v d => by pointwise [arr3, k0_pay67]
  refine ⟨fun c => ?_, last X r v80 v110 h80 h110 3 a0 fun v d => by pointwise [arr3, k0_pay68]⟩
  match c with
  | 0 => exact a0
  | 1 => exact a1
  | 2 => exact a2
  | 3 => exact a3
  | 4 => exact a4
  | 5 => exact a5
  | 6 => exact a6
  | 7 => exact a7

omit h80 h110 in
theorem held {β β' : Fin 32} {A : FVec Ideal S256x128 .f32} (H : Holds X r β' A) (e : β.val = β'.val) (v : Fin 256) (d : Fin 128) :
    A (ix2 v d) = (((X (hd β)).aft (ch r β) v d : ℝ) : EReal) := by
  rw [Fin.ext e]
  exact H v d

omit h80 h110 in
/-- The thirty-two arrays in one. -/
theorem p75 (A0 A1 A2 A3 : Fin 8 → FVec Ideal S256x128 .f32) (H0 : ∀ c : Fin 8, Holds X r ⟨8 * 0 + c.val, by omega⟩ (A0 c))
    (H1 : ∀ c : Fin 8, Holds X r ⟨8 * 1 + c.val, by omega⟩ (A1 c)) (H2 : ∀ c : Fin 8, Holds X r ⟨8 * 2 + c.val, by omega⟩ (A2 c))
    (H3 : ∀ c : Fin 8, Holds X r ⟨8 * 3 + c.val, by omega⟩ (A3 c)) (β : Fin 32) (v : Fin 256) (d : Fin 128) :
    k0_pay75 (A0 7) (A0 6) (A1 7) (A1 6) (A1 5) (A1 4) (A1 3) (A1 2) (A1 1) (A1 0)
      (A2 7) (A2 6) (A2 5) (A2 4) (A2 3) (A2 2) (A2 1) (A2 0) (A3 7) (A3 6) (A3 5) (A3 4) (A3 3) (A3 2) (A3 1) (A3 0)
      (k0_pay69 (A0 0)) (k0_pay70 (A0 1)) (k0_pay71 (A0 2)) (k0_pay72 (A0 3)) (k0_pay73 (A0 4)) (k0_pay74 (A0 5)) (ix3 β v d) =
      (((X (hd β)).aft (ch r β) v d : ℝ) : EReal) := by
  pointwise [k0_pay75, k0_pay69, k0_pay70, k0_pay71, k0_pay72, k0_pay73, k0_pay74]
  rw [← Nat.sub_zero β.val]
  simp only [Nat.sub_sub, Nat.reduceAdd]
  have hβ : 0 ≤ β.val := Nat.zero_le _
  have hlt := β.isLt
  iterate 31
    refine pick (by assumption) (fun e => by
      first
        | exact held X r (H0 _) e v d
        | exact held X r (H1 _) e v d
        | exact held X r (H2 _) e v d
        | exact held X r (H3 _) e v d) fun hβ => ?_
  exact held X r (H3 7) (le_antisymm (Nat.le_of_lt_succ hlt) hβ) v d

end Cert.GlaProof
-- ==== Proof.Gla.Pay2.lean ====
/- The gradients one grid point computes from its block, as the real functions' values. -/
module

public import proofs.«01_k».proof.Proof.Gla.Chain

@[expose] public section

set_option maxRecDepth 16384

noncomputable section

namespace Cert.GlaProof

open Idealize.ShloMosaic Idealize.ShloMosaic.TcCoe Idealize.SL.Sem Cert.GlaIdeal Cert.GlaIdeal.Gen Cert.NormBack

variable (X : Fin 4 → Head) (r : Fin 16)
variable (v5 : IVec S64x64 1) (h5 : ∀ i j, v5 (ix2 i j) = if j ≤ i then 1#1 else 0#1)
variable (v10 : FVec Ideal S64x64 .f32) (h10 : ∀ i j, v10 (ix2 i j) = ((if i ≤ j then 1 else 0 : ℝ) : EReal))
variable (v51 v68 v71 v74 v77 v78 v79 : FVec Ideal S32x64x128 .f32) (v80 : FVec Ideal S32x1x128 .f32) (v106 v387 : FVec Ideal S32x256x128 .f32)
variable (v91 v102 : FVec Ideal S32x64x256 .bf16)
variable (h51 : ∀ β i d, v51 (ix3 β i d) = (((X (hd β)).p (ch r β) i d : ℝ) : EReal))
variable (h68 : ∀ β i d, v68 (ix3 β i d) = ((Real.exp ((X (hd β)).b (ch r β) i d) : ℝ) : EReal))
variable (h71 : ∀ β i d, v71 (ix3 β i d) = ((Real.exp (-(X (hd β)).b (ch r β) i d) : ℝ) : EReal))
variable (h74 : ∀ β i d, v74 (ix3 β i d) = ((Real.exp ((X (hd β)).bl (ch r β) d - (X (hd β)).b (ch r β) i d) : ℝ) : EReal))
variable (h77 : ∀ β i d, v77 (ix3 β i d) = (((X (hd β)).qin (ch r β) i d : ℝ) : EReal))
variable (h78 : ∀ β i d, v78 (ix3 β i d) = (((X (hd β)).kout (ch r β) i d : ℝ) : EReal))
variable (h79 : ∀ β i d, v79 (ix3 β i d) = (((X (hd β)).kst (ch r β) i d : ℝ) : EReal))
variable (h80 : ∀ β d, v80 (ix3 β 0 d) = ((Real.exp ((X (hd β)).bl (ch r β) d) : ℝ) : EReal))
variable (h91 : ∀ β i v, v91 (ix3 β i v) = (((X (hd β)).v (ch r β) i v : ℝ) : EReal))
variable (h102 : ∀ β i v, v102 (ix3 β i v) = (((X (hd β)).o (ch r β) i v : ℝ) : EReal))
variable (h106 : ∀ β v d, v106 (ix3 β v d) = (((X (hd β)).st (ch r β) v d : ℝ) : EReal))
variable (h387 : ∀ β v d, v387 (ix3 β v d) = (((X (hd β)).aft (ch r β) v d : ℝ) : EReal))

include h77 in
theorem p27 (v93 : FVec Ideal S512x1024 .bf16) (h : ∀ β i v, k0_pay22 v93 (ix3 β i v) = (((X (hd β)).o (ch r β) i v : ℝ) : EReal))
    (β : Fin 32) (v : Fin 256) (d : Fin 128) : k0_pay27 v77 v93 (ix3 β v d) = (((X (hd β)).qdo (ch r β) v d : ℝ) : EReal) := by
  pointwise [k0_pay27, k0_pay24]
  simp only [h, h77, ← EReal.coe_mul, coe_sum]
  rfl

include h5 h91 h102

theorem p77 (β : Fin 32) (i j : Fin 64) : k0_pay77 v5 v91 v102 (ix3 β i j) = (((X (hd β)).dsc (ch r β) i j : ℝ) : EReal) := by
  pointwise [k0_pay77]
  simp only [h5, h91, h102, ← EReal.coe_mul, coe_sum, select_if, coe_if]
  rfl

include h78 h106 in
theorem p78 (β : Fin 32) (i : Fin 64) (d : Fin 128) :
    k0_pay78 v5 v91 v102 v106 (k0_pay25 v78) (ix3 β i d) = (((X (hd β)).dqin (ch r β) i d : ℝ) : EReal) := by
  pointwise [k0_pay78, k0_pay25]
  simp only [p77 X r v5 h5 v91 v102 h91 h102, h102, h106, h78, ← EReal.coe_mul, coe_sum, ← EReal.coe_add]
  rfl

include h77 in
theorem p79 (β : Fin 32) (i : Fin 64) (d : Fin 128) :
    k0_pay79 v5 v91 v102 (k0_pay24 v77) (ix3 β i d) = (((X (hd β)).dkout (ch r β) i d : ℝ) : EReal) := by
  pointwise [k0_pay79, k0_pay24]
  simp only [p77 X r v5 h5 v91 v102 h91 h102, h77, ← EReal.coe_mul, coe_sum]
  rfl

omit h5 h91 h102

/- The outputs, heads last, from the entries of the arrays they are put together from. -/

include h51 h10 in
theorem p1 (v428 : FVec Ideal S32x64x128 .f32) (v432 : FVec Ideal S32x1x128 .f32)
    (h428 : ∀ β i d, v428 (ix3 β i d) = (((X (hd β)).db (ch r β) i d : ℝ) : EReal))
    (h432 : ∀ β d, v432 (ix3 β 0 d) = (((X (hd β)).dbl (ch r β) d : ℝ) : EReal)) (a l : Fin 512) :
    k0_pay1 v10 v51 v428 v432 (ix2 a l) = (((X (hd (bk a l))).dpre (ch r (bk a l)) (ri a) (dk' l) : ℝ) : EReal) := by
  have e : k0_pay1 v10 v51 v428 v432 (ix2 a l) =
      (fun (β : Fin 32) (i : Fin 64) (d : Fin 128) => (∑ x, v10 (ix2 i x) * v428 (ix3 β x d) + v432 (ix3 β 0 d)) * Ideal.ofBits .f32 0x3D800000#32 *
        Ideal.div 1 (1 + Ideal.exp (-(-(v51 (ix3 β i d)))))) (bk a l) (ri a) (dk' l) := by
    pointwise [k0_pay1]
    simp only [zero_sub]
    repeat' split
    all_goals
      refine cong3 (fun (β : Fin 32) (i : Fin 64) (d : Fin 128) => (∑ x, v10 (ix2 i x) * v428 (ix3 β x d) + v432 (ix3 β 0 d)) *
        Ideal.ofBits .f32 0x3D800000#32 * Ideal.div 1 (1 + Ideal.exp (-(-(v51 (ix3 β i d)))))) ?_ ?_ ?_ <;> simp only [bk, ri, dk'] <;> omega
  rw [e]
  simp only [h10, h51, h428, h432, logistic_coe, c16th, ← EReal.coe_mul, coe_sum, ← EReal.coe_add]
  refine congrArg _ ?_
  unfold Head.dpre
  simp only [ite_mul, one_mul, zero_mul]

include h68 in
theorem p87 (hs : ∀ h, (X h).sc = scale) (v403 : FVec Ideal S32x64x128 .f32) (h403 : ∀ β i d, v403 (ix3 β i d) = (((X (hd β)).dqin (ch r β) i d : ℝ) : EReal)) (a l : Fin 512) :
    k0_pay87 v68 v403 (ix2 a l) = (((X (hd (bk a l))).dq (ch r (bk a l)) (ri a) (dk' l) : ℝ) : EReal) := by
  have e : k0_pay87 v68 v403 (ix2 a l) =
      (fun (β : Fin 32) (i : Fin 64) (d : Fin 128) => v403 (ix3 β i d) * Ideal.ofBits .f32 0x3DB504F3#32 * v68 (ix3 β i d)) (bk a l) (ri a) (dk' l) := by
    pointwise [k0_pay87]
    repeat' split
    all_goals
      refine cong3 (fun (β : Fin 32) (i : Fin 64) (d : Fin 128) => v403 (ix3 β i d) * Ideal.ofBits .f32 0x3DB504F3#32 * v68 (ix3 β i d)) ?_ ?_ ?_ <;> simp only [bk, ri, dk'] <;> omega
  rw [e]
  simp only [h68, h403, cscale, ← EReal.coe_mul]
  rw [← hs (hd (bk a l))]
  rfl

include h71 h74 in
theorem p88 (v404 v405 : FVec Ideal S32x64x128 .f32) (h404 : ∀ β i d, v404 (ix3 β i d) = (((X (hd β)).dkout (ch r β) i d : ℝ) : EReal))
    (h405 : ∀ β i d, v405 (ix3 β i d) = (((X (hd β)).dkst (ch r β) i d : ℝ) : EReal)) (a l : Fin 512) :
    k0_pay88 v71 v74 v404 v405 (ix2 a l) = (((X (hd (bk a l))).dk (ch r (bk a l)) (ri a) (dk' l) : ℝ) : EReal) := by
  have e : k0_pay88 v71 v74 v404 v405 (ix2 a l) =
      (fun (β : Fin 32) (i : Fin 64) (d : Fin 128) => v404 (ix3 β i d) * v71 (ix3 β i d) + v405 (ix3 β i d) * v74 (ix3 β i d)) (bk a l) (ri a) (dk' l) := by
    pointwise [k0_pay88]
    repeat' split
    all_goals
      refine cong3 (fun (β : Fin 32) (i : Fin 64) (d : Fin 128) => v404 (ix3 β i d) * v71 (ix3 β i d) + v405 (ix3 β i d) * v74 (ix3 β i d)) ?_ ?_ ?_ <;> simp only [bk, ri, dk'] <;> omega
  rw [e]
  simp only [h71, h74, h404, h405, ← EReal.coe_mul, ← EReal.coe_add]
  rfl

theorem p83 (v409 : FVec Ideal S32x64x256 .f32) (a : Fin 512) (l : Fin 1024) :
    k0_pay83 v409 (extractStridedSlice S8x64x256 ![0, 0, 0] v409 slices_S32x64x256_o0_0_0_S8x64x256) (ix2 a l) = v409 (ix3 (bv a l) (ri a) (dv' l)) := by
  pointwise [k0_pay83]
  repeat' split
  all_goals exact cong3 (fun a b c => v409 (ix3 a b c)) (by simp only [bv]; omega) (by simp only [ri]) (by simp only [dv']; omega)

include h77 h78 h79 in
theorem p85 (v403 v404 v405 : FVec Ideal S32x64x128 .f32) (h403 : ∀ β i d, v403 (ix3 β i d) = (((X (hd β)).dqin (ch r β) i d : ℝ) : EReal))
    (h404 : ∀ β i d, v404 (ix3 β i d) = (((X (hd β)).dkout (ch r β) i d : ℝ) : EReal))
    (h405 : ∀ β i d, v405 (ix3 β i d) = (((X (hd β)).dkst (ch r β) i d : ℝ) : EReal)) (β : Fin 32) (i : Fin 64) (d : Fin 128) :
    k0_pay85 v77 v78 v79 v403 v404 v405 (ix3 β i d) = (((X (hd β)).db (ch r β) i d : ℝ) : EReal) := by
  pointwise [k0_pay85, k0_pay84]
  simp only [h77, h78, h79, h403, h404, h405, ← EReal.coe_mul, ← EReal.coe_sub]
  rfl

include h79 h80 h106 h387 in
theorem p86 (v405 : FVec Ideal S32x64x128 .f32) (h405 : ∀ β i d, v405 (ix3 β i d) = (((X (hd β)).dkst (ch r β) i d : ℝ) : EReal))
    (β : Fin 32) (d : Fin 128) : k0_pay86 v79 v80 v106 v387 v405 (ix3 β 0 d) = (((X (hd β)).dbl (ch r β) d : ℝ) : EReal) := by
  pointwise [k0_pay86, k0_pay84]
  simp only [h79, h80, h106, h387, h405, ← EReal.coe_mul, coe_sum, ← EReal.coe_add]
  rfl

end Cert.GlaProof
-- ==== Proof.Gla.Pay3.lean ====
/- Everything one grid point computes, from its blocks and the scratch it is handed. -/
module

public import proofs.«01_k».proof.Proof.Gla.Pay2

@[expose] public section

set_option maxRecDepth 16384

noncomputable section

namespace Cert.GlaProof

open Idealize.ShloMosaic Idealize.ShloMosaic.TcCoe Idealize.SL.Sem Cert.GlaIdeal Cert.GlaIdeal.Gen Cert.NormBack

/-- The blocks of the grid point at block `r`, and the scratch it is handed, hold the heads' arrays. -/
structure Blk (X : Fin 4 → Head) (r : Fin 16) (x0 x1 : Vec Ideal S512x512 .f32) (x2 : Vec Ideal S512x1024 .bf16) (x3 : Vec Ideal S512x128 .f32)
    (x4 : Vec Ideal S128x512 .f32) (x5 : Vec Ideal S1x512 .f32) (x6 : Vec Ideal S4x8x256x128 .bf16) (x7 : Vec Ideal S512x1024 .bf16)
    (s0 s1 s2 s3 : Vec Ideal S1x256x128 .f32) : Prop where
  sc : ∀ h, (X h).sc = scale
  q : ∀ β i d, x0 (ix2 (rw' β i) (ck β d)) = (((X (hd β)).q (ch r β) i d : ℝ) : EReal)
  k : ∀ β i d, x1 (ix2 (rw' β i) (ck β d)) = (((X (hd β)).k (ch r β) i d : ℝ) : EReal)
  v : ∀ β i v, x2 (ix2 (rw' β i) (cv β v)) = (((X (hd β)).v (ch r β) i v : ℝ) : EReal)
  p : ∀ β i d, ∑ x, x3 (ix2 (rw' β i) x) * x4 (ix2 x (ck β d)) + x5 (ix2 0 (ck β d)) = (((X (hd β)).p (ch r β) i d : ℝ) : EReal)
  st : ∀ (β : Fin 32) v d, x6 (ix4 (hd β) ⟨β.val % 8, Nat.mod_lt _ (by decide)⟩ v d) = (((X (hd β)).st (ch r β) v d : ℝ) : EReal)
  o : ∀ β i v, x7 (ix2 (rw' β i) (cv β v)) = (((X (hd β)).o (ch r β) i v : ℝ) : EReal)
  s0 : ∀ v d, s0 (ix3 0 v d) = (((X 0).aft ⟨8 * r.val + 7, by omega⟩ v d : ℝ) : EReal)
  s1 : ∀ v d, s1 (ix3 0 v d) = (((X 1).aft ⟨8 * r.val + 7, by omega⟩ v d : ℝ) : EReal)
  s2 : ∀ v d, s2 (ix3 0 v d) = (((X 2).aft ⟨8 * r.val + 7, by omega⟩ v d : ℝ) : EReal)
  s3 : ∀ v d, s3 (ix3 0 v d) = (((X 3).aft ⟨8 * r.val + 7, by omega⟩ v d : ℝ) : EReal)

section

variable (X : Fin 4 → Head) (r : Fin 16)
variable (v5 : IVec S64x64 1) (h5 : ∀ i j, v5 (ix2 i j) = if j ≤ i then 1#1 else 0#1)
variable (v77 v78 v79 : FVec Ideal S32x64x128 .f32) (v91 v102 : FVec Ideal S32x64x256 .bf16)
variable (h77 : ∀ β i d, v77 (ix3 β i d) = (((X (hd β)).qin (ch r β) i d : ℝ) : EReal))
variable (h78 : ∀ β i d, v78 (ix3 β i d) = (((X (hd β)).kout (ch r β) i d : ℝ) : EReal))
variable (h79 : ∀ β i d, v79 (ix3 β i d) = (((X (hd β)).kst (ch r β) i d : ℝ) : EReal))
variable (h91 : ∀ β i v, v91 (ix3 β i v) = (((X (hd β)).v (ch r β) i v : ℝ) : EReal))
variable (h102 : ∀ β i v, v102 (ix3 β i v) = (((X (hd β)).o (ch r β) i v : ℝ) : EReal))
variable (A0 A1 A2 A3 : Fin 8 → FVec Ideal S256x128 .f32) (H0 : ∀ c : Fin 8, Holds X r ⟨8 * 0 + c.val, by omega⟩ (A0 c))
variable (H1 : ∀ c : Fin 8, Holds X r ⟨8 * 1 + c.val, by omega⟩ (A1 c)) (H2 : ∀ c : Fin 8, Holds X r ⟨8 * 2 + c.val, by omega⟩ (A2 c))
variable (H3 : ∀ c : Fin 8, Holds X r ⟨8 * 3 + c.val, by omega⟩ (A3 c))

include H0 H1 H2 H3

include h91 in
theorem p80 (β : Fin 32) (i : Fin 64) (d : Fin 128) :
    k0_pay80 v91 (A0 7) (A0 6) (A1 7) (A1 6) (A1 5) (A1 4) (A1 3) (A1 2) (A1 1) (A1 0)
      (A2 7) (A2 6) (A2 5) (A2 4) (A2 3) (A2 2) (A2 1) (A2 0) (A3 7) (A3 6) (A3 5) (A3 4) (A3 3) (A3 2) (A3 1) (A3 0)
      (k0_pay69 (A0 0)) (k0_pay70 (A0 1)) (k0_pay71 (A0 2)) (k0_pay72 (A0 3)) (k0_pay73 (A0 4)) (k0_pay74 (A0 5)) (ix3 β i d) =
      (((X (hd β)).dkst (ch r β) i d : ℝ) : EReal) := by
  pointwise [k0_pay80, k0_pay76]
  simp only [p75 X r A0 A1 A2 A3 H0 H1 H2 H3, h91, ← EReal.coe_mul, coe_sum]
  rfl

include h5 h77 h78 h79 h102 in
theorem p81 (β : Fin 32) (i : Fin 64) (v : Fin 256) :
    k0_pay81 v5 v102 (k0_pay24 v77) (k0_pay25 v78) (k0_pay26 v79) (A0 7) (A0 6) (A1 7) (A1 6) (A1 5) (A1 4) (A1 3) (A1 2) (A1 1) (A1 0)
      (A2 7) (A2 6) (A2 5) (A2 4) (A2 3) (A2 2) (A2 1) (A2 0) (A3 7) (A3 6) (A3 5) (A3 4) (A3 3) (A3 2) (A3 1) (A3 0)
      (k0_pay69 (A0 0)) (k0_pay70 (A0 1)) (k0_pay71 (A0 2)) (k0_pay72 (A0 3)) (k0_pay73 (A0 4)) (k0_pay74 (A0 5)) (ix3 β i v) =
      (((X (hd β)).dv (ch r β) i v : ℝ) : EReal) := by
  pointwise [k0_pay81, k0_pay76, k0_pay24, k0_pay25, k0_pay26]
  simp only [p75 X r A0 A1 A2 A3 H0 H1 H2 H3, h5, h77, h78, h79, h102, ← EReal.coe_mul, coe_sum, select_if, coe_if, ← EReal.coe_add]
  refine congrArg _ ?_
  unfold Head.dv Head.scores
  simp only [ite_mul, zero_mul]

end

theorem p20 (x : Vec Ideal S512x1024 .bf16) (β : Fin 32) (i : Fin 64) (d : Fin 256) : k0_pay20 x (ix3 β i d) = x (ix2 (rw' β i) (cv β d)) := by
  pointwise [k0_pay20]
  repeat' split
  all_goals exact cong2 (fun a b => x (ix2 a b)) (by simp only [rw']; omega) (by simp only [cv]; omega)

theorem p23 (x : Vec Ideal S4x8x256x128 .bf16) (β : Fin 32) (v : Fin 256) (d : Fin 128) :
    k0_pay23 x (ix3 β v d) = x (ix4 (hd β) ⟨β.val % 8, Nat.mod_lt _ (by decide)⟩ v d) := by
  pointwise [k0_pay23]
  try rfl

section

variable (x0 x1 : Vec Ideal S512x512 .f32) (x2 : Vec Ideal S512x1024 .bf16) (x3 : Vec Ideal S512x128 .f32)
    (x4 : Vec Ideal S128x512 .f32) (x5 : Vec Ideal S1x512 .f32) (x6 : Vec Ideal S4x8x256x128 .bf16) (x7 : Vec Ideal S512x1024 .bf16)
    (s0 s1 s2 s3 : Vec Ideal S1x256x128 .f32)

/-- The decayed queries, keys and the chunks' decays. -/
abbrev a68 := k0_pay13 k0_pay5 (k0_pay8 x3 x4 x5) (k0_pay9 x3 x4 x5)
abbrev a77 := k0_pay16 k0_pay5 (k0_pay6 x0) (k0_pay8 x3 x4 x5) (k0_pay9 x3 x4 x5)
abbrev a78 := k0_pay17 k0_pay5 (k0_pay7 x1) (k0_pay8 x3 x4 x5) (k0_pay9 x3 x4 x5)
abbrev a79 := k0_pay18 k0_pay5 (k0_pay7 x1) (k0_pay8 x3 x4 x5) (k0_pay9 x3 x4 x5)
abbrev a80 := k0_pay19 k0_pay5 (k0_pay8 x3 x4 x5) (k0_pay9 x3 x4 x5)
abbrev a110 := k0_pay27 (a77 x0 x3 x4 x5) (k0_pay21 x7)
abbrev b0 := arr0 (a77 x0 x3 x4 x5) (a80 x3 x4 x5) (k0_pay21 x7) s0
abbrev b1 := arr1 (a80 x3 x4 x5) (a110 x0 x3 x4 x5 x7) s1
abbrev b2 := arr2 (a80 x3 x4 x5) (a110 x0 x3 x4 x5 x7) s2
abbrev b3 := arr3 (a80 x3 x4 x5) (a110 x0 x3 x4 x5 x7) s3

/-- A payload of the thirty-two arrays. -/
abbrev of32 {α : Type} (f : FVec Ideal S256x128 .f32 → FVec Ideal S256x128 .f32 → FVec Ideal S256x128 .f32 → FVec Ideal S256x128 .f32 → FVec Ideal S256x128 .f32 → FVec Ideal S256x128 .f32 → FVec Ideal S256x128 .f32 → FVec Ideal S256x128 .f32 → FVec Ideal S256x128 .f32 → FVec Ideal S256x128 .f32 → FVec Ideal S256x128 .f32 → FVec Ideal S256x128 .f32 → FVec Ideal S256x128 .f32 → FVec Ideal S256x128 .f32 → FVec Ideal S256x128 .f32 → FVec Ideal S256x128 .f32 → FVec Ideal S256x128 .f32 → FVec Ideal S256x128 .f32 → FVec Ideal S256x128 .f32 → FVec Ideal S256x128 .f32 → FVec Ideal S256x128 .f32 → FVec Ideal S256x128 .f32 → FVec Ideal S256x128 .f32 → FVec Ideal S256x128 .f32 → FVec Ideal S256x128 .f32 → FVec Ideal S256x128 .f32 → FVec Ideal S1x256x128 .f32 → FVec Ideal S1x256x128 .f32 → FVec Ideal S1x256x128 .f32 → FVec Ideal S1x256x128 .f32 → FVec Ideal S1x256x128 .f32 → FVec Ideal S1x256x128 .f32 → α)
    (A0 A1 A2 A3 : Fin 8 → FVec Ideal S256x128 .f32) : α :=
  f (A0 7) (A0 6) (A1 7) (A1 6) (A1 5) (A1 4) (A1 3) (A1 2) (A1 1) (A1 0)
      (A2 7) (A2 6) (A2 5) (A2 4) (A2 3) (A2 2) (A2 1) (A2 0) (A3 7) (A3 6) (A3 5) (A3 4) (A3 3) (A3 2) (A3 1) (A3 0)
      (k0_pay69 (A0 0)) (k0_pay70 (A0 1)) (k0_pay71 (A0 2)) (k0_pay72 (A0 3)) (k0_pay73 (A0 4)) (k0_pay74 (A0 5))

abbrev a403 := k0_pay78 k0_pay3 (k0_pay20 x2) (k0_pay22 (k0_pay21 x7)) (k0_pay23 x6) (k0_pay25 (a78 x1 x3 x4 x5))
abbrev a404 := k0_pay79 k0_pay3 (k0_pay20 x2) (k0_pay22 (k0_pay21 x7)) (k0_pay24 (a77 x0 x3 x4 x5))
abbrev a387 := of32 k0_pay75 (b0 x0 x3 x4 x5 x7 s0) (b1 x0 x3 x4 x5 x7 s1) (b2 x0 x3 x4 x5 x7 s2) (b3 x0 x3 x4 x5 x7 s3)
abbrev a405 := of32 (k0_pay80 (k0_pay20 x2)) (b0 x0 x3 x4 x5 x7 s0) (b1 x0 x3 x4 x5 x7 s1) (b2 x0 x3 x4 x5 x7 s2) (b3 x0 x3 x4 x5 x7 s3)
abbrev a409 := of32 (k0_pay81 k0_pay3 (k0_pay22 (k0_pay21 x7)) (k0_pay24 (a77 x0 x3 x4 x5)) (k0_pay25 (a78 x1 x3 x4 x5)) (k0_pay26 (a79 x1 x3 x4 x5)))
  (b0 x0 x3 x4 x5 x7 s0) (b1 x0 x3 x4 x5 x7 s1) (b2 x0 x3 x4 x5 x7 s2) (b3 x0 x3 x4 x5 x7 s3)

/-- The four results. -/
abbrev rdq := k0_pay87 (a68 x3 x4 x5) (a403 x1 x2 x3 x4 x5 x6 x7)
abbrev rdk := k0_pay88 (k0_pay14 k0_pay5 (k0_pay8 x3 x4 x5) (k0_pay9 x3 x4 x5)) (k0_pay15 k0_pay5 (k0_pay8 x3 x4 x5) (k0_pay9 x3 x4 x5))
  (a404 x0 x2 x3 x4 x5 x7) (a405 x0 x2 x3 x4 x5 x7 s0 s1 s2 s3)
abbrev rdv := k0_pay83 (a409 x0 x1 x3 x4 x5 x7 s0 s1 s2 s3)
  (extractStridedSlice S8x64x256 ![0, 0, 0] (a409 x0 x1 x3 x4 x5 x7 s0 s1 s2 s3) slices_S32x64x256_o0_0_0_S8x64x256)
abbrev rdp := k0_pay1 k0_pay4 (k0_pay10 (k0_pay8 x3 x4 x5) (k0_pay9 x3 x4 x5))
  (k0_pay85 (a77 x0 x3 x4 x5) (a78 x1 x3 x4 x5) (a79 x1 x3 x4 x5) (a403 x1 x2 x3 x4 x5 x6 x7) (a404 x0 x2 x3 x4 x5 x7) (a405 x0 x2 x3 x4 x5 x7 s0 s1 s2 s3))
  (k0_pay86 (a79 x1 x3 x4 x5) (a80 x3 x4 x5) (k0_pay23 x6) (a387 x0 x3 x4 x5 x7 s0 s1 s2 s3) (a405 x0 x2 x3 x4 x5 x7 s0 s1 s2 s3))

variable {x0 x1 x2 x3 x4 x5 x6 x7 s0 s1 s2 s3} {X : Fin 4 → Head} {r : Fin 16} (B : Blk X r x0 x1 x2 x3 x4 x5 x6 x7 s0 s1 s2 s3)

include B

theorem Blk.hp (β : Fin 32) (i : Fin 64) (d : Fin 128) : k0_pay10 (k0_pay8 x3 x4 x5) (k0_pay9 x3 x4 x5) (ix3 β i d) = (((X (hd β)).p (ch r β) i d : ℝ) : EReal) :=
  (p10' x3 x4 x5 β i d).trans (B.p β i d)

theorem Blk.hk (β : Fin 32) (i : Fin 64) (d : Fin 128) : k0_pay7 x1 (ix3 β i d) = (((X (hd β)).k (ch r β) i d : ℝ) : EReal) :=
  (p6 x1 β i d).trans (B.k β i d)

theorem Blk.h77 (β : Fin 32) (i : Fin 64) (d : Fin 128) : a77 x0 x3 x4 x5 (ix3 β i d) = (((X (hd β)).qin (ch r β) i d : ℝ) : EReal) :=
  p16 X r _ _ _ p5 B.hp _ (fun β i d => (p6 x0 β i d).trans (B.q β i d)) B.sc β i d

theorem Blk.h78 (β : Fin 32) (i : Fin 64) (d : Fin 128) : a78 x1 x3 x4 x5 (ix3 β i d) = (((X (hd β)).kout (ch r β) i d : ℝ) : EReal) :=
  p17 X r _ _ _ p5 B.hp _ B.hk β i d

theorem Blk.h79 (β : Fin 32) (i : Fin 64) (d : Fin 128) : a79 x1 x3 x4 x5 (ix3 β i d) = (((X (hd β)).kst (ch r β) i d : ℝ) : EReal) :=
  p18 X r _ _ _ p5 B.hp _ B.hk β i d

theorem Blk.h80 (β : Fin 32) (d : Fin 128) : a80 x3 x4 x5 (ix3 β 0 d) = ((Real.exp ((X (hd β)).bl (ch r β) d) : ℝ) : EReal) :=
  p19 X r _ _ _ p5 B.hp β d

theorem Blk.h91 (β : Fin 32) (i : Fin 64) (v : Fin 256) : k0_pay20 x2 (ix3 β i v) = (((X (hd β)).v (ch r β) i v : ℝ) : EReal) :=
  (p20 x2 β i v).trans (B.v β i v)

theorem Blk.h102 (β : Fin 32) (i : Fin 64) (v : Fin 256) : k0_pay22 (k0_pay21 x7) (ix3 β i v) = (((X (hd β)).o (ch r β) i v : ℝ) : EReal) := by
  rw [p22]
  pointwise [k0_pay21]
  exact B.o β i v

theorem Blk.h106 (β : Fin 32) (v : Fin 256) (d : Fin 128) : k0_pay23 x6 (ix3 β v d) = (((X (hd β)).st (ch r β) v d : ℝ) : EReal) :=
  (p23 x6 β v d).trans (B.st β v d)

theorem Blk.h110 (β : Fin 32) (v : Fin 256) (d : Fin 128) : a110 x0 x3 x4 x5 x7 (ix3 β v d) = (((X (hd β)).qdo (ch r β) v d : ℝ) : EReal) :=
  p27 X r _ B.h77 _ B.h102 β v d

theorem Blk.g0 (c : Fin 8) : Holds X r ⟨8 * 0 + c.val, by omega⟩ (b0 x0 x3 x4 x5 x7 s0 c) :=
  (holds0 X r _ B.h80 _ _ B.h110 s0 B.s0).1 c
theorem Blk.g1 (c : Fin 8) : Holds X r ⟨8 * 1 + c.val, by omega⟩ (b1 x0 x3 x4 x5 x7 s1 c) :=
  (holds1 X r _ _ B.h80 B.h110 s1 B.s1).1 c
theorem Blk.g2 (c : Fin 8) : Holds X r ⟨8 * 2 + c.val, by omega⟩ (b2 x0 x3 x4 x5 x7 s2 c) :=
  (holds2 X r _ _ B.h80 B.h110 s2 B.s2).1 c
theorem Blk.g3 (c : Fin 8) : Holds X r ⟨8 * 3 + c.val, by omega⟩ (b3 x0 x3 x4 x5 x7 s3 c) :=
  (holds3 X r _ _ B.h80 B.h110 s3 B.s3).1 c

/- What is stored to the four heads' scratch. -/

theorem Blk.w0 (v : Fin 256) (d : Fin 128) : k0_pay38 (a80 x3 x4 x5) (a110 x0 x3 x4 x5 x7) (k0_pay33 (a77 x0 x3 x4 x5) (a80 x3 x4 x5) (k0_pay21 x7) s0)
    (k0_pay34 (a77 x0 x3 x4 x5) (k0_pay21 x7)) (ix3 0 v d) = ((below X r 0 v d : ℝ) : EReal) :=
  (holds0 X r _ B.h80 _ _ B.h110 s0 B.s0).2 v d
theorem Blk.w1 (v : Fin 256) (d : Fin 128) : k0_pay48 (a80 x3 x4 x5) (a110 x0 x3 x4 x5 x7) (k0_pay43 (a80 x3 x4 x5) (a110 x0 x3 x4 x5 x7) s1)
    (ix3 0 v d) = ((below X r 1 v d : ℝ) : EReal) :=
  (holds1 X r _ _ B.h80 B.h110 s1 B.s1).2 v d
theorem Blk.w2 (v : Fin 256) (d : Fin 128) : k0_pay58 (a80 x3 x4 x5) (a110 x0 x3 x4 x5 x7) (k0_pay51 (a80 x3 x4 x5) (a110 x0 x3 x4 x5 x7) s2)
    (k0_pay52 (a80 x3 x4 x5)) (ix3 0 v d) = ((below X r 2 v d : ℝ) : EReal) :=
  (holds2 X r _ _ B.h80 B.h110 s2 B.s2).2 v d
theorem Blk.w3 (v : Fin 256) (d : Fin 128) : k0_pay68 (a80 x3 x4 x5) (a110 x0 x3 x4 x5 x7) (k0_pay60 (a80 x3 x4 x5) (a110 x0 x3 x4 x5 x7) s3)
    (k0_pay61 (a80 x3 x4 x5)) (ix3 0 v d) = ((below X r 3 v d : ℝ) : EReal) :=
  (holds3 X r _ _ B.h80 B.h110 s3 B.s3).2 v d

theorem Blk.h403 (β : Fin 32) (i : Fin 64) (d : Fin 128) : a403 x1 x2 x3 x4 x5 x6 x7 (ix3 β i d) = (((X (hd β)).dqin (ch r β) i d : ℝ) : EReal) :=
  p78 X r _ p3 _ _ _ _ B.h78 B.h91 B.h102 B.h106 β i d

theorem Blk.h404 (β : Fin 32) (i : Fin 64) (d : Fin 128) : a404 x0 x2 x3 x4 x5 x7 (ix3 β i d) = (((X (hd β)).dkout (ch r β) i d : ℝ) : EReal) :=
  p79 X r _ p3 _ _ _ B.h77 B.h91 B.h102 β i d

theorem Blk.h405 (β : Fin 32) (i : Fin 64) (d : Fin 128) : a405 x0 x2 x3 x4 x5 x7 s0 s1 s2 s3 (ix3 β i d) = (((X (hd β)).dkst (ch r β) i d : ℝ) : EReal) :=
  p80 X r _ B.h91 _ _ _ _ B.g0 B.g1 B.g2 B.g3 β i d

theorem Blk.h387 (β : Fin 32) (v : Fin 256) (d : Fin 128) : a387 x0 x3 x4 x5 x7 s0 s1 s2 s3 (ix3 β v d) = (((X (hd β)).aft (ch r β) v d : ℝ) : EReal) :=
  p75 X r _ _ _ _ B.g0 B.g1 B.g2 B.g3 β v d

theorem Blk.dq (a l : Fin 512) : rdq x1 x2 x3 x4 x5 x6 x7 (ix2 a l) = (((X (hd (bk a l))).dq (ch r (bk a l)) (ri a) (dk' l) : ℝ) : EReal) :=
  p87 X r _ (p13 X r _ _ _ p5 B.hp) B.sc _ B.h403 a l

theorem Blk.dk (a l : Fin 512) : rdk x0 x2 x3 x4 x5 x7 s0 s1 s2 s3 (ix2 a l) = (((X (hd (bk a l))).dk (ch r (bk a l)) (ri a) (dk' l) : ℝ) : EReal) :=
  p88 X r _ _ (p14 X r _ _ _ p5 B.hp) (p15 X r _ _ _ p5 B.hp) _ _ B.h404 B.h405 a l

theorem Blk.dv (a : Fin 512) (l : Fin 1024) :
    rdv x0 x1 x3 x4 x5 x7 s0 s1 s2 s3 (ix2 a l) = (((X (hd (bv a l))).dv (ch r (bv a l)) (ri a) (dv' l) : ℝ) : EReal) :=
  (p83 _ a l).trans (p81 X r _ p3 _ _ _ _ B.h77 B.h78 B.h79 B.h102 _ _ _ _ B.g0 B.g1 B.g2 B.g3 _ _ _)

theorem Blk.dp (a l : Fin 512) :
    rdp x0 x1 x2 x3 x4 x5 x6 x7 s0 s1 s2 s3 (ix2 a l) = (((X (hd (bk a l))).dpre (ch r (bk a l)) (ri a) (dk' l) : ℝ) : EReal) :=
  p1 X r _ p4 _ B.hp _ _ (p85 X r _ _ _ B.h77 B.h78 B.h79 _ _ _ B.h403 B.h404 B.h405)
    (p86 X r _ _ _ _ B.h79 B.h80 B.h106 B.h387 _ B.h405) a l

end

end Cert.GlaProof
-- ==== Proof.Lib.Loads.lean ====
/- Loads of one of a buffer's four groups, made after a store over the whole buffer and stores to other groups. -/
module

public import proofs.«01_k».proof.Proof.Lib.Groups

@[expose] public section

set_option maxRecDepth 16384

noncomputable section

namespace Cert.Groups

open Idealize.ShloMosaic Idealize.ShloMosaic.TcCoe Idealize.SL.Sem

variable {n p : ℕ} {Val : EltTy → Type} [∀ e, Nonempty (Val e)] {e : EltTy}
variable (inb0 : ∀ a, (![0, 0, 0] : Fin 3 → ℕ) a + (![1, n, p] : Fin 3 → ℕ) a ≤ (⟨3, ![4, n, p]⟩ : Shape).size a)
variable (inb1 : ∀ a, (![1, 0, 0] : Fin 3 → ℕ) a + (![1, n, p] : Fin 3 → ℕ) a ≤ (⟨3, ![4, n, p]⟩ : Shape).size a)
variable (inb2 : ∀ a, (![2, 0, 0] : Fin 3 → ℕ) a + (![1, n, p] : Fin 3 → ℕ) a ≤ (⟨3, ![4, n, p]⟩ : Shape).size a)
variable (inb3 : ∀ a, (![3, 0, 0] : Fin 3 → ℕ) a + (![1, n, p] : Fin 3 → ℕ) a ≤ (⟨3, ![4, n, p]⟩ : Shape).size a)
variable (inb' : ∀ a, (![0, 0, 0] : Fin 3 → ℕ) a + (![4, n, p] : Fin 3 → ℕ) a ≤ (⟨3, ![4, n, p]⟩ : Shape).size a)
variable {sg : RefSig} {κ : Kind} {sp : Space} (V : View sg κ sp ⟨3, ![4, n, p]⟩ e)
variable (w : (⟨3, ![4, n, p]⟩ : Shape).Idx → Val e) (w0 w1 w2 : (⟨3, ![1, n, p]⟩ : Shape).Idx → Val e) (r : Fin n) (x : Fin p)

/-- Such a load reads what the store over the whole buffer put there. -/
theorem load_over (L : List (View.Piece Val ⟨3, ![4, n, p]⟩ e)) (k : ℕ) (hk : k < 4)
    (inb : ∀ a, (![k, 0, 0] : Fin 3 → ℕ) a + (![1, n, p] : Fin 3 → ℕ) a ≤ (⟨3, ![4, n, p]⟩ : Shape).size a)
    (hL : ∀ q ∈ L, ix3 ⟨k, hk⟩ r x ∉ q.1.set) :
    V.readCov (L ++ [⟨Rect.unit ![0, 0, 0] ![4, n, p] inb', w⟩]) (Rect.unit (s := ⟨3, ![4, n, p]⟩) ![k, 0, 0] ![1, n, p] inb).toLoadRect (ix3 0 r x) =
      w (ix3 ⟨k, hk⟩ r x) :=
  (congrFun (readCov_over V w inb' L _) _).trans ((ld_group _ k hk inb r x).trans (canon_over w inb' _ r x L hL))

/- The four groups in turn. -/

theorem load0 : V.readCov [⟨Rect.unit ![0, 0, 0] ![4, n, p] inb', w⟩] (Rect.unit (s := ⟨3, ![4, n, p]⟩) ![0, 0, 0] ![1, n, p] inb0).toLoadRect (ix3 0 r x) =
    w (ix3 0 r x) :=
  load_over inb' V w r x [] 0 (by decide) inb0 fun _ hq => absurd hq List.not_mem_nil

theorem load1 : V.readCov [⟨Rect.unit ![0, 0, 0] ![1, n, p] inb0, w0⟩, ⟨Rect.unit ![0, 0, 0] ![4, n, p] inb', w⟩]
    (Rect.unit (s := ⟨3, ![4, n, p]⟩) ![1, 0, 0] ![1, n, p] inb1).toLoadRect (ix3 0 r x) = w (ix3 1 r x) :=
  load_over inb' V w r x [⟨Rect.unit ![0, 0, 0] ![1, n, p] inb0, w0⟩] 1 (by decide) inb1 fun q hq => by
    simp only [List.mem_cons, List.not_mem_nil, or_false] at hq
    subst hq
    exact not_mem_group _ inb0 _ (by decide) r x

theorem load2 : V.readCov [⟨Rect.unit ![1, 0, 0] ![1, n, p] inb1, w1⟩, ⟨Rect.unit ![0, 0, 0] ![1, n, p] inb0, w0⟩,
      ⟨Rect.unit ![0, 0, 0] ![4, n, p] inb', w⟩]
    (Rect.unit (s := ⟨3, ![4, n, p]⟩) ![2, 0, 0] ![1, n, p] inb2).toLoadRect (ix3 0 r x) = w (ix3 2 r x) :=
  load_over inb' V w r x [⟨Rect.unit ![1, 0, 0] ![1, n, p] inb1, w1⟩, ⟨Rect.unit ![0, 0, 0] ![1, n, p] inb0, w0⟩] 2 (by decide) inb2 fun q hq => by
    simp only [List.mem_cons, List.not_mem_nil, or_false] at hq
    rcases hq with rfl | rfl
    · exact not_mem_group _ inb1 _ (by decide) r x
    · exact not_mem_group _ inb0 _ (by decide) r x

theorem load3 : V.readCov [⟨Rect.unit ![2, 0, 0] ![1, n, p] inb2, w2⟩, ⟨Rect.unit ![1, 0, 0] ![1, n, p] inb1, w1⟩,
      ⟨Rect.unit ![0, 0, 0] ![1, n, p] inb0, w0⟩, ⟨Rect.unit ![0, 0, 0] ![4, n, p] inb', w⟩]
    (Rect.unit (s := ⟨3, ![4, n, p]⟩) ![3, 0, 0] ![1, n, p] inb3).toLoadRect (ix3 0 r x) = w (ix3 3 r x) :=
  load_over inb' V w r x [⟨Rect.unit ![2, 0, 0] ![1, n, p] inb2, w2⟩, ⟨Rect.unit ![1, 0, 0] ![1, n, p] inb1, w1⟩,
    ⟨Rect.unit ![0, 0, 0] ![1, n, p] inb0, w0⟩] 3 (by decide) inb3 fun q hq => by
    simp only [List.mem_cons, List.not_mem_nil, or_false] at hq
    rcases hq with rfl | rfl | rfl
    · exact not_mem_group _ inb2 _ (by decide) r x
    · exact not_mem_group _ inb1 _ (by decide) r x
    · exact not_mem_group _ inb0 _ (by decide) r x

end Cert.Groups
-- ==== Proof.Gla.Points.lean ====
/- What every grid point of the attention's backward kernel leaves in its outputs and in the scratch it hands to the next point. -/
module

public import proofs.«01_k».proof.Proof.Gla.Pay3
public import proofs.«01_k».proof.Proof.Lib.Loads
public import proofs.«01_k».proof.Proof.Gen.GlaIdeal.Value
public import Idealize.ShloMosaic.Lib.Pipeline.ReadBack

@[expose] public section

set_option maxRecDepth 16384

noncomputable section

namespace Cert.GlaProof

open Idealize.ShloMosaic Idealize.ShloMosaic.TcCoe Idealize.SL.Sem Cert.GlaIdeal Cert.GlaIdeal.Gen Cert.Groups
open Idealize.ShloMosaic.Pipeline (Dat)

variable (m : (ℓ : Loc nD τ sig) → Buf (Elt Ideal) ℓ) (c : Dev nD) (X : Fin 4 → Head)

/-- The block of rows a grid point works on: the last one first. -/
def rb (t : Fin cfg0.N) : Fin 16 := ⟨15 - t.val, by omega⟩

/-- What a block's scratch has to hold when its point starts. -/
def Due (t : Fin cfg0.N) (h : Fin 4) (s : Vec Ideal S1x256x128 .f32) : Prop :=
  ∀ v d, s (ix3 0 v d) = (((X h).aft ⟨8 * (rb t).val + 7, by have := (rb t).isLt; omega⟩ v d : ℝ) : EReal)

variable (E : ∀ (t : Fin cfg0.N) (s0 s1 s2 s3 : Vec Ideal S1x256x128 .f32), Due X t 0 s0 → Due X t 1 s1 → Due X t 2 s2 → Due X t 3 s3 →
  Blk X (rb t) (iblk m c 0 t) (iblk m c 1 t) (iblk m c 2 t) (iblk m c 3 t) (iblk m c 4 t) (iblk m c 5 t) (iblk m c 6 t) (iblk m c 7 t) s0 s1 s2 s3)

/-- The four heads' scratch as one array. -/
def belows (t : Fin cfg0.N) : S4x256x128.Idx → EReal := fun y => ((below X (rb t) (y 0) (y 1) (y 2) : ℝ) : EReal)

/-- At the first point the scratch is zero, as nothing follows the last chunk. -/
theorem due_first (t : Fin cfg0.N) (ht : t.val % 16 = 0) (h : Fin 4) (s : Vec Ideal S1x256x128 .f32) (hs : ∀ v d, s (ix3 0 v d) = 0) : Due X t h s := by
  intro v d
  have hN := lt_of_lt_of_eq t.isLt (show cfg0.N = 16 from N_0)
  rw [hs, show (⟨8 * (rb t).val + 7, by have := (rb t).isLt; omega⟩ : Fin 128) = 127 from Fin.ext (by unfold rb; dsimp only; show _ = 127; omega),
    (X h).aft_last, EReal.coe_zero]

/-- A later point is handed what the point before left. -/
theorem due_next (t t' : Fin cfg0.N) (ht : t'.val = t.val + 1) (h : Fin 4) (s : Vec Ideal S1x256x128 .f32)
    (hs : ∀ v d, s (ix3 0 v d) = ((below X (rb t) h v d : ℝ) : EReal)) : Due X t' h s := by
  intro v d
  have hN := lt_of_lt_of_eq t'.isLt (show cfg0.N = 16 from N_0)
  rw [hs, below_next X (r := rb t') (r' := rb t) (by unfold rb; dsimp only; omega)]

theorem zero_at (h : Fin 4) (v : Fin 256) (d : Fin 128) : (k0_pay2 (F := Ideal)) (ix3 h v d) = 0 := by
  pointwise [k0_pay2]

/- The four loads at the first point. -/

section

variable {sg : RefSig} {κ : Kind} {sp : Space} (V : View sg κ sp S4x256x128 .f32) (t : Fin cfg0.N) (ht : t.val % 16 = 0)
variable (w0 w1 w2 : S1x256x128.Idx → Elt Ideal .f32)

include ht

theorem due0 : Due X t 0 (V.readCov [⟨Rect.unit ![0, 0, 0] ![4, 256, 128] inb_S4x256x128_S4x256x128_0_0_0, k0_pay2 (F := Ideal)⟩]
    (Rect.unit (s := S4x256x128) ![0, 0, 0] ![1, 256, 128] inb_S4x256x128_S1x256x128_0_0_0).toLoadRect) :=
  due_first X t ht _ _ fun v d => (load0 _ _ V _ v d).trans (zero_at _ v d)

theorem due1 : Due X t 1 (V.readCov [⟨Rect.unit ![0, 0, 0] ![1, 256, 128] inb_S4x256x128_S1x256x128_0_0_0, w0⟩,
      ⟨Rect.unit ![0, 0, 0] ![4, 256, 128] inb_S4x256x128_S4x256x128_0_0_0, k0_pay2 (F := Ideal)⟩]
    (Rect.unit (s := S4x256x128) ![1, 0, 0] ![1, 256, 128] inb_S4x256x128_S1x256x128_1_0_0).toLoadRect) :=
  due_first X t ht _ _ fun v d => (load1 _ _ _ V _ w0 v d).trans (zero_at _ v d)

theorem due2 : Due X t 2 (V.readCov [⟨Rect.unit ![1, 0, 0] ![1, 256, 128] inb_S4x256x128_S1x256x128_1_0_0, w1⟩,
      ⟨Rect.unit ![0, 0, 0] ![1, 256, 128] inb_S4x256x128_S1x256x128_0_0_0, w0⟩,
      ⟨Rect.unit ![0, 0, 0] ![4, 256, 128] inb_S4x256x128_S4x256x128_0_0_0, k0_pay2 (F := Ideal)⟩]
    (Rect.unit (s := S4x256x128) ![2, 0, 0] ![1, 256, 128] inb_S4x256x128_S1x256x128_2_0_0).toLoadRect) :=
  due_first X t ht _ _ fun v d => (load2 _ _ _ _ V _ w0 w1 v d).trans (zero_at _ v d)

theorem due3 : Due X t 3 (V.readCov [⟨Rect.unit ![2, 0, 0] ![1, 256, 128] inb_S4x256x128_S1x256x128_2_0_0, w2⟩,
      ⟨Rect.unit ![1, 0, 0] ![1, 256, 128] inb_S4x256x128_S1x256x128_1_0_0, w1⟩,
      ⟨Rect.unit ![0, 0, 0] ![1, 256, 128] inb_S4x256x128_S1x256x128_0_0_0, w0⟩,
      ⟨Rect.unit ![0, 0, 0] ![4, 256, 128] inb_S4x256x128_S4x256x128_0_0_0, k0_pay2 (F := Ideal)⟩]
    (Rect.unit (s := S4x256x128) ![3, 0, 0] ![1, 256, 128] inb_S4x256x128_S1x256x128_3_0_0).toLoadRect) :=
  due_first X t ht _ _ fun v d => (load3 _ _ _ _ _ V _ w0 w1 w2 v d).trans (zero_at _ v d)

theorem dueZ (h : Fin 4) : Due X t h (fun _ => 0) := due_first X t ht h _ fun _ _ => rfl

end

theorem ld_next (t t' : Fin cfg0.N) (ht : t'.val = t.val + 1) (s : Vec Ideal S4x256x128 .f32) (hs : ∀ h v d, s (ix3 h v d) = belows X t (ix3 h v d))
    (k : ℕ) (hk : k < 4) (inb : ∀ a, (![k, 0, 0] : Fin 3 → ℕ) a + (![1, 256, 128] : Fin 3 → ℕ) a ≤ S4x256x128.size a) :
    Due X t' ⟨k, hk⟩ (View.ld s (Rect.unit (s := S4x256x128) ![k, 0, 0] ![1, 256, 128] inb)) :=
  due_next X t t' ht _ _ fun v d => (ld_group _ k hk inb v d).trans (hs _ v d)

include E

theorem kept_first (t : Fin cfg0.N) (h : t.val % 16 = 0) (i : Fin 4) (v : Fin 256) (d : Fin 128) :
    (outsAt0 m c t.val t.isLt).2.2.2.2 (ix3 i v d) = belows X t (ix3 i v d) := by
  rw [outsAt0_A m c t h]
  dsimp only
  frame_out
  refine canon_groups_over (Val := Elt Ideal) (e := .f32) (n := 256) (p := 128) (belows X t) inb_S4x256x128_S1x256x128_3_0_0 inb_S4x256x128_S1x256x128_2_0_0 inb_S4x256x128_S1x256x128_1_0_0
    inb_S4x256x128_S1x256x128_0_0_0 _ _ _ _ ?_ ?_ ?_ ?_
    [⟨Rect.unit ![0, 0, 0] ![4, 256, 128] inb_S4x256x128_S4x256x128_0_0_0, k0_pay2 (F := Ideal)⟩] i v d
  · exact (E t _ _ _ _ (dueZ X t h 0) (dueZ X t h 1) (dueZ X t h 2) (due3 X (View.whole cc0_scratch0) t h _ _ _)).w3
  · exact (E t _ _ _ _ (dueZ X t h 0) (dueZ X t h 1) (due2 X (View.whole cc0_scratch0) t h _ _) (dueZ X t h 3)).w2
  · exact (E t _ _ _ _ (dueZ X t h 0) (due1 X (View.whole cc0_scratch0) t h _) (dueZ X t h 2) (dueZ X t h 3)).w1
  · exact (E t _ _ _ _ (due0 X (View.whole cc0_scratch0) t h) (dueZ X t h 1) (dueZ X t h 2) (dueZ X t h 3)).w0

theorem kept_next (t t' : Fin cfg0.N) (ht : t'.val = t.val + 1) (hs : ∀ i v d, (outsAt0 m c t.val t.isLt).2.2.2.2 (ix3 i v d) = belows X t (ix3 i v d))
    (i : Fin 4) (v : Fin 256) (d : Fin 128) : (outsAt0 m c t'.val t'.isLt).2.2.2.2 (ix3 i v d) = belows X t' (ix3 i v d) := by
  have hN := lt_of_lt_of_eq t'.isLt (show cfg0.N = 16 from N_0)
  have e : (outsAt0 m c (t'.val - 1) (Nat.lt_of_le_of_lt (Nat.sub_le _ _) t'.isLt)) = outsAt0 m c t.val t.isLt := by
    have : t'.val - 1 = t.val := by omega
    simp only [this]
  rw [outsAt0_B m c t' (by omega)]
  dsimp only
  frame_out
  rw [e, read_unread_whole]
  have B := E t' _ _ _ _ (ld_next X t t' ht _ hs 0 (by decide) inb_S4x256x128_S1x256x128_0_0_0) (ld_next X t t' ht _ hs 1 (by decide) inb_S4x256x128_S1x256x128_1_0_0)
    (ld_next X t t' ht _ hs 2 (by decide) inb_S4x256x128_S1x256x128_2_0_0) (ld_next X t t' ht _ hs 3 (by decide) inb_S4x256x128_S1x256x128_3_0_0)
  refine canon_groups (Val := Elt Ideal) (e := .f32) (n := 256) (p := 128) (belows X t') inb_S4x256x128_S1x256x128_3_0_0 inb_S4x256x128_S1x256x128_2_0_0 inb_S4x256x128_S1x256x128_1_0_0
    inb_S4x256x128_S1x256x128_0_0_0 _ _ _ _ ?_ ?_ ?_ ?_ i v d
  · exact B.w3
  · exact B.w2
  · exact B.w1
  · exact B.w0

/-- Every point leaves in its scratch the state's cotangent one chunk below its block. -/
theorem kept (n : ℕ) : ∀ (h : n < cfg0.N) (i : Fin 4) (v : Fin 256) (d : Fin 128),
    (outsAt0 m c n h).2.2.2.2 (ix3 i v d) = belows X ⟨n, h⟩ (ix3 i v d) := by
  induction n with
  | zero => exact fun h i v d => kept_first m c X E ⟨0, h⟩ rfl i v d
  | succ n ih => exact fun h i v d => kept_next m c X E ⟨n, Nat.lt_of_succ_lt h⟩ ⟨n + 1, h⟩ rfl (ih _) i v d

/-- What a point leaves in its four outputs. -/
structure Left (t : Fin cfg0.N) : Prop where
  dq : ∀ a l, (outsAt0 m c t.val t.isLt).1 (ix2 a l) = (((X (hd (bk a l))).dq (ch (rb t) (bk a l)) (ri a) (dk' l) : ℝ) : EReal)
  dk : ∀ a l, (outsAt0 m c t.val t.isLt).2.1 (ix2 a l) = (((X (hd (bk a l))).dk (ch (rb t) (bk a l)) (ri a) (dk' l) : ℝ) : EReal)
  dv : ∀ a l, (outsAt0 m c t.val t.isLt).2.2.1 (ix2 a l) = (((X (hd (bv a l))).dv (ch (rb t) (bv a l)) (ri a) (dv' l) : ℝ) : EReal)
  dp : ∀ a l, (outsAt0 m c t.val t.isLt).2.2.2.1 (ix2 a l) = (((X (hd (bk a l))).dpre (ch (rb t) (bk a l)) (ri a) (dk' l) : ℝ) : EReal)

set_option maxHeartbeats 1000000 in
theorem first_dq (t : Fin cfg0.N) (h : t.val % 16 = 0) (a : Fin 512) (l : Fin 512) :
    (outsAt0 m c t.val t.isLt).1 (ix2 a l) = (((X (hd (bk a l))).dq (ch (rb t) (bk a l)) (ri a) (dk' l) : ℝ) : EReal) := by
  rw [outsAt0_A m c t h]
  dsimp only
  frame_out
  exact (E t _ _ _ _ (dueZ X t h 0) (dueZ X t h 1) (dueZ X t h 2) (dueZ X t h 3)).dq a l

set_option maxHeartbeats 1000000 in
theorem first_dk (t : Fin cfg0.N) (h : t.val % 16 = 0) (a : Fin 512) (l : Fin 512) :
    (outsAt0 m c t.val t.isLt).2.1 (ix2 a l) = (((X (hd (bk a l))).dk (ch (rb t) (bk a l)) (ri a) (dk' l) : ℝ) : EReal) := by
  rw [outsAt0_A m c t h]
  dsimp only
  frame_out
  generalize e3 : View.readCov (Val := Elt Ideal) (View.whole cc0_scratch0) _ (Rect.unit (s := S4x256x128) ![3, 0, 0] ![1, 256, 128] inb_S4x256x128_S1x256x128_3_0_0).toLoadRect = s3
  have d3 : Due X t 3 s3 := e3 ▸ due3 X (View.whole cc0_scratch0) t h _ _ _
  clear e3
  generalize e2 : View.readCov (Val := Elt Ideal) (View.whole cc0_scratch0) _ (Rect.unit (s := S4x256x128) ![2, 0, 0] ![1, 256, 128] inb_S4x256x128_S1x256x128_2_0_0).toLoadRect = s2
  have d2 : Due X t 2 s2 := e2 ▸ due2 X (View.whole cc0_scratch0) t h _ _
  clear e2
  generalize e1 : View.readCov (Val := Elt Ideal) (View.whole cc0_scratch0) _ (Rect.unit (s := S4x256x128) ![1, 0, 0] ![1, 256, 128] inb_S4x256x128_S1x256x128_1_0_0).toLoadRect = s1
  have d1 : Due X t 1 s1 := e1 ▸ due1 X (View.whole cc0_scratch0) t h _
  clear e1
  generalize e0 : View.readCov (Val := Elt Ideal) (View.whole cc0_scratch0) _ (Rect.unit (s := S4x256x128) ![0, 0, 0] ![1, 256, 128] inb_S4x256x128_S1x256x128_0_0_0).toLoadRect = s0
  have d0 : Due X t 0 s0 := e0 ▸ due0 X (View.whole cc0_scratch0) t h
  clear e0
  exact (E t s0 s1 s2 s3 d0 d1 d2 d3).dk a l

set_option maxHeartbeats 1000000 in
theorem first_dv (t : Fin cfg0.N) (h : t.val % 16 = 0) (a : Fin 512) (l : Fin 1024) :
    (outsAt0 m c t.val t.isLt).2.2.1 (ix2 a l) = (((X (hd (bv a l))).dv (ch (rb t) (bv a l)) (ri a) (dv' l) : ℝ) : EReal) := by
  rw [outsAt0_A m c t h]
  dsimp only
  frame_out
  generalize e3 : View.readCov (Val := Elt Ideal) (View.whole cc0_scratch0) _ (Rect.unit (s := S4x256x128) ![3, 0, 0] ![1, 256, 128] inb_S4x256x128_S1x256x128_3_0_0).toLoadRect = s3
  have d3 : Due X t 3 s3 := e3 ▸ due3 X (View.whole cc0_scratch0) t h _ _ _
  clear e3
  generalize e2 : View.readCov (Val := Elt Ideal) (View.whole cc0_scratch0) _ (Rect.unit (s := S4x256x128) ![2, 0, 0] ![1, 256, 128] inb_S4x256x128_S1x256x128_2_0_0).toLoadRect = s2
  have d2 : Due X t 2 s2 := e2 ▸ due2 X (View.whole cc0_scratch0) t h _ _
  clear e2
  generalize e1 : View.readCov (Val := Elt Ideal) (View.whole cc0_scratch0) _ (Rect.unit (s := S4x256x128) ![1, 0, 0] ![1, 256, 128] inb_S4x256x128_S1x256x128_1_0_0).toLoadRect = s1
  have d1 : Due X t 1 s1 := e1 ▸ due1 X (View.whole cc0_scratch0) t h _
  clear e1
  generalize e0 : View.readCov (Val := Elt Ideal) (View.whole cc0_scratch0) _ (Rect.unit (s := S4x256x128) ![0, 0, 0] ![1, 256, 128] inb_S4x256x128_S1x256x128_0_0_0).toLoadRect = s0
  have d0 : Due X t 0 s0 := e0 ▸ due0 X (View.whole cc0_scratch0) t h
  clear e0
  exact (E t s0 s1 s2 s3 d0 d1 d2 d3).dv a l

set_option maxHeartbeats 1000000 in
theorem first_dp (t : Fin cfg0.N) (h : t.val % 16 = 0) (a : Fin 512) (l : Fin 512) :
    (outsAt0 m c t.val t.isLt).2.2.2.1 (ix2 a l) = (((X (hd (bk a l))).dpre (ch (rb t) (bk a l)) (ri a) (dk' l) : ℝ) : EReal) := by
  rw [outsAt0_A m c t h]
  dsimp only
  frame_out
  generalize e3 : View.readCov (Val := Elt Ideal) (View.whole cc0_scratch0) _ (Rect.unit (s := S4x256x128) ![3, 0, 0] ![1, 256, 128] inb_S4x256x128_S1x256x128_3_0_0).toLoadRect = s3
  have d3 : Due X t 3 s3 := e3 ▸ due3 X (View.whole cc0_scratch0) t h _ _ _
  clear e3
  generalize e2 : View.readCov (Val := Elt Ideal) (View.whole cc0_scratch0) _ (Rect.unit (s := S4x256x128) ![2, 0, 0] ![1, 256, 128] inb_S4x256x128_S1x256x128_2_0_0).toLoadRect = s2
  have d2 : Due X t 2 s2 := e2 ▸ due2 X (View.whole cc0_scratch0) t h _ _
  clear e2
  generalize e1 : View.readCov (Val := Elt Ideal) (View.whole cc0_scratch0) _ (Rect.unit (s := S4x256x128) ![1, 0, 0] ![1, 256, 128] inb_S4x256x128_S1x256x128_1_0_0).toLoadRect = s1
  have d1 : Due X t 1 s1 := e1 ▸ due1 X (View.whole cc0_scratch0) t h _
  clear e1
  generalize e0 : View.readCov (Val := Elt Ideal) (View.whole cc0_scratch0) _ (Rect.unit (s := S4x256x128) ![0, 0, 0] ![1, 256, 128] inb_S4x256x128_S1x256x128_0_0_0).toLoadRect = s0
  have d0 : Due X t 0 s0 := e0 ▸ due0 X (View.whole cc0_scratch0) t h
  clear e0
  exact (E t s0 s1 s2 s3 d0 d1 d2 d3).dp a l

theorem left_first (t : Fin cfg0.N) (h : t.val % 16 = 0) : Left m c X t :=
  ⟨first_dq m c X E t h, first_dk m c X E t h, first_dv m c X E t h, first_dp m c X E t h⟩

set_option maxHeartbeats 1000000 in
theorem left_next (t : Fin cfg0.N) (h : ¬ t.val % 16 = 0) : Left m c X t := by
  have hN := lt_of_lt_of_eq t.isLt (show cfg0.N = 16 from N_0)
  have hs := kept m c X E (t.val - 1) (Nat.lt_of_le_of_lt (Nat.sub_le _ _) t.isLt)
  have B := E t _ _ _ _ (ld_next X ⟨t.val - 1, Nat.lt_of_le_of_lt (Nat.sub_le _ _) t.isLt⟩ t (by dsimp only; omega) _ hs 0 (by decide) inb_S4x256x128_S1x256x128_0_0_0)
    (ld_next X ⟨t.val - 1, Nat.lt_of_le_of_lt (Nat.sub_le _ _) t.isLt⟩ t (by dsimp only; omega) _ hs 1 (by decide) inb_S4x256x128_S1x256x128_1_0_0)
    (ld_next X ⟨t.val - 1, Nat.lt_of_le_of_lt (Nat.sub_le _ _) t.isLt⟩ t (by dsimp only; omega) _ hs 2 (by decide) inb_S4x256x128_S1x256x128_2_0_0)
    (ld_next X ⟨t.val - 1, Nat.lt_of_le_of_lt (Nat.sub_le _ _) t.isLt⟩ t (by dsimp only; omega) _ hs 3 (by decide) inb_S4x256x128_S1x256x128_3_0_0)
  constructor <;> intro a l <;> rw [outsAt0_B m c t h] <;> dsimp only <;> frame_out <;> try rw [read_unread_whole]
  · exact B.dq a l
  · exact B.dk a l
  · exact B.dv a l
  · exact B.dp a l

theorem left_at (t : Fin cfg0.N) : Left m c X t := by
  by_cases h : t.val % 16 = 0
  · exact left_first m c X E t h
  · exact left_next m c X E t h

end Cert.GlaProof
-- ==== Proof.Gla.Entry.lean ====
/- The blocks the kernel's points are handed, of the layer's real inputs. -/
module

public import proofs.«01_k».proof.Proof.Gla.States
public import proofs.«01_k».proof.Proof.Gla.Points

@[expose] public section

set_option maxRecDepth 16384

noncomputable section

namespace Cert.GlaProof

open Idealize.ShloMosaic Idealize.ShloMosaic.TcCoe Idealize.SL.Sem Cert.GlaIdeal Cert.GlaIdeal.Gen Cert.NormBack
open Idealize.ShloMosaic.StableHlo

variable {m : (ℓ : Loc nD τ sig) → Buf (Elt Ideal) ℓ} {c : Dev nD} {D : Data} (H : Is m c D)

theorem idx : ∀ t : Fin cfg0.N, win0_0.index t = ![15 - t.val, 0] ∧ win0_1.index t = ![15 - t.val, 1] ∧ win0_2.index t = ![15 - t.val, 1]
    ∧ win0_3.index t = ![15 - t.val, 0] ∧ win0_4.index t = ![0, 0] ∧ win0_5.index t = ![0, 0] ∧ win0_6.index t = ![0, 15 - t.val, 0, 0]
    ∧ win0_7.index t = ![15 - t.val, 0] ∧ win0_8.index t = ![15 - t.val, 0] ∧ win0_9.index t = ![15 - t.val, 0]
    ∧ win0_10.index t = ![15 - t.val, 0] ∧ win0_11.index t = ![15 - t.val, 0] :=
  (by decide +kernel : ∀ t : Fin grid0.N, _)

/-- Row `a` of the block that point `t` works on, as a row of the arrays. -/
def gr (t : Fin cfg0.N) (a : Fin 512) : Fin 8192 := ⟨(15 - t.val) * 512 + a.val, by omega⟩

theorem gr_rw (t : Fin cfg0.N) (β : Fin 32) (i : Fin 64) : gr t (rw' β i) = row (ch (rb t) β) i :=
  Fin.ext (by unfold gr rw' row ch rb; dsimp only; omega)

include H

theorem entry_q (r : Fin 8192) (h : Fin 4) (d : Fin 128) :
    V m c main_v0 (ix2 r (⟨128 * h.val + d.val, by omega⟩ : Fin 1024)) = ((D.q r (kc h d) : ℝ) : EReal) := by
  rw [V_eq]
  unfold A11 A10 A9 A8 A7 A6 A5 A4 A3 A2 A1
  after_reads_at
  exact (dif_pos (by omega)).trans (H.q r (kc h d))

theorem entry_k (r : Fin 8192) (h : Fin 4) (d : Fin 128) :
    V m c main_v0 (ix2 r (⟨512 + (128 * h.val + d.val), by omega⟩ : Fin 1024)) = ((D.k r (kc h d) : ℝ) : EReal) := by
  rw [V_eq]
  unfold A11 A10 A9 A8 A7 A6 A5 A4 A3 A2 A1
  after_reads_at
  exact H.k r (kc h d)

theorem entry_v (r : Fin 8192) (h : Fin 4) (d : Fin 256) :
    V m c main_v3 (ix2 r (⟨1024 + (256 * h.val + d.val), by omega⟩ : Fin 9216)) = ((D.v r (vc h d) : ℝ) : EReal) := by
  rw [V_eq]
  unfold A11 A10 A9 A8 A7 A6 A5 A4 A3 A2 A1
  after_reads_at
  rw [dif_neg (by omega), dif_neg (by omega), dif_pos (by omega)]
  after_reads_at
  exact (cell (A0 m c (Proc.tc.devRef main_arg2)) rfl (by dsimp only [vc]; omega)).trans (H.v r (vc h d))

theorem entry_g (r : Fin 8192) (x : Fin 128) :
    V m c main_v5 (ix2 r x) = ((if h : x.val < 16 then ((D.g r ⟨x.val, h⟩ : ℝ) : EReal) else 0 : EReal)) := by
  rw [V_eq]
  unfold A11 A10 A9 A8 A7 A6 A5 A4 A3 A2 A1
  after_reads_at
  exact dite_congr rfl (fun h => H.g r ⟨x.val, h⟩) fun _ => rfl

theorem entry_w (x : Fin 128) (l : Fin 512) :
    V m c main_v7 (ix2 x l) = ((if h : x.val < 16 then ((D.w ⟨x.val, h⟩ l : ℝ) : EReal) else 0 : EReal)) := by
  rw [V_eq]
  unfold A11 A10 A9 A8 A7 A6 A5 A4 A3 A2 A1
  after_reads_at
  exact dite_congr rfl (fun h => H.w ⟨x.val, h⟩ l) fun _ => rfl

theorem entry_b (l : Fin 512) : V m c main_arg5 (ix2 0 l) = ((D.b l : ℝ) : EReal) := by
  rw [V_eq, ← H.b]
  unfold A11 A10 A9 A8 A7 A6 A5 A4 A3 A2 A1
  after_reads_at

theorem entry_o (r : Fin 8192) (l : Fin 1024) : V m c main_v62 (ix2 r l) = ((D.o r l : ℝ) : EReal) := by
  rw [V_eq, ← H.o]
  unfold A11 A10 A9 A8 A7 A6 A5 A4 A3 A2 A1
  after_reads_at

theorem blk_q (t : Fin cfg0.N) (β : Fin 32) (i : Fin 64) (d : Fin 128) :
    iblk m c 0 t (ix2 (rw' β i) (ck β d)) = (((D.head (hd β)).q (ch (rb t) β) i d : ℝ) : EReal) := by
  have e := entry_q H (gr t (rw' β i)) (hd β) d
  rw [gr_rw] at e
  refine Eq.trans ?_ e
  rw [← gr_rw]
  unfold gr ck hd
  blk_ext [iblk, idx t]

theorem blk_k (t : Fin cfg0.N) (β : Fin 32) (i : Fin 64) (d : Fin 128) :
    iblk m c 1 t (ix2 (rw' β i) (ck β d)) = (((D.head (hd β)).k (ch (rb t) β) i d : ℝ) : EReal) := by
  have e := entry_k H (gr t (rw' β i)) (hd β) d
  rw [gr_rw] at e
  refine Eq.trans ?_ e
  rw [← gr_rw]
  unfold gr ck hd
  blk_ext [iblk, idx t]

theorem blk_v (t : Fin cfg0.N) (β : Fin 32) (i : Fin 64) (d : Fin 256) :
    iblk m c 2 t (ix2 (rw' β i) (cv β d)) = (((D.head (hd β)).v (ch (rb t) β) i d : ℝ) : EReal) := by
  have e := entry_v H (gr t (rw' β i)) (hd β) d
  rw [gr_rw] at e
  refine Eq.trans ?_ e
  rw [← gr_rw]
  unfold gr cv hd
  blk_ext [iblk, idx t]

theorem blk_g (t : Fin cfg0.N) (a : Fin 512) (x : Fin 128) :
    iblk m c 3 t (ix2 a x) = ((if h : x.val < 16 then ((D.g (gr t a) ⟨x.val, h⟩ : ℝ) : EReal) else 0 : EReal)) := by
  refine Eq.trans ?_ (entry_g H (gr t a) x)
  unfold gr
  blk_ext [iblk, idx t]

theorem blk_w (t : Fin cfg0.N) (x : Fin 128) (l : Fin 512) :
    iblk m c 4 t (ix2 x l) = ((if h : x.val < 16 then ((D.w ⟨x.val, h⟩ l : ℝ) : EReal) else 0 : EReal)) := by
  refine Eq.trans ?_ (entry_w H x l)
  blk_ext [iblk, idx t]

theorem blk_b (t : Fin cfg0.N) (l : Fin 512) : iblk m c 5 t (ix2 0 l) = ((D.b l : ℝ) : EReal) := by
  refine Eq.trans ?_ (entry_b H l)
  blk_ext [iblk, idx t]

omit H in
theorem idx6 : ∀ t : Fin cfg0.N, win0_6.index t = ![0, 15 - t.val, 0, 0] :=
  (by decide +kernel : ∀ t : Fin grid0.N, _)

omit H in
theorem blk_states (t : Fin cfg0.N) (h : Fin 4) (e : Fin 8) (v : Fin 256) (d n : Fin 128) (hn : n.val = (15 - t.val) * 8 + e.val) :
    iblk m c 6 t (ix4 h e v d) = V m c main_v61 (ix4 h n v d) := by
  unfold iblk
  generalize V m c = W
  blk_ext [idx6 t]

theorem blk_st (t : Fin cfg0.N) (β : Fin 32) (v : Fin 256) (d : Fin 128) :
    iblk m c 6 t (ix4 (hd β) (⟨β.val % 8, Nat.mod_lt _ (by decide)⟩ : Fin 8) v d) = (((D.head (hd β)).st (ch (rb t) β) v d : ℝ) : EReal) := by
  rw [blk_states t _ _ v d (ch (rb t) β) (by unfold ch rb; dsimp only; omega), V_eq, st_at H]

theorem blk_o (t : Fin cfg0.N) (β : Fin 32) (i : Fin 64) (d : Fin 256) :
    iblk m c 7 t (ix2 (rw' β i) (cv β d)) = (((D.head (hd β)).o (ch (rb t) β) i d : ℝ) : EReal) := by
  refine Eq.trans ?_ (entry_o H (row (ch (rb t) β) i) (vc (hd β) d))
  rw [← gr_rw]
  unfold gr cv vc hd
  blk_ext [iblk, idx t]

omit H in
theorem blk_p (x3 : Vec Ideal S512x128 .f32) (x4 : Vec Ideal S128x512 .f32) (x5 : Vec Ideal S1x512 .f32) (t : Fin cfg0.N)
    (h3 : ∀ a x, x3 (ix2 a x) = ((if h : x.val < 16 then ((D.g (gr t a) ⟨x.val, h⟩ : ℝ) : EReal) else 0 : EReal)))
    (h4 : ∀ x l, x4 (ix2 x l) = ((if h : x.val < 16 then ((D.w ⟨x.val, h⟩ l : ℝ) : EReal) else 0 : EReal)))
    (h5 : ∀ l, x5 (ix2 0 l) = ((D.b l : ℝ) : EReal)) (β : Fin 32) (i : Fin 64) (d : Fin 128) :
    ∑ x, x3 (ix2 (rw' β i) x) * x4 (ix2 x (ck β d)) + x5 (ix2 0 (ck β d)) = (((D.head (hd β)).p (ch (rb t) β) i d : ℝ) : EReal) := by
  have e3 : ∀ a x, x3 (ix2 a x) = ((if h : x.val < 16 then D.g (gr t a) ⟨x.val, h⟩ else 0 : ℝ) : EReal) := fun a x =>
    (h3 a x).trans (by split_ifs <;> simp)
  have e4 : ∀ x l, x4 (ix2 x l) = ((if h : x.val < 16 then D.w ⟨x.val, h⟩ l else 0 : ℝ) : EReal) := fun x l =>
    (h4 x l).trans (by split_ifs <;> simp)
  simp only [e3, e4, h5, ← EReal.coe_mul, coe_sum]
  rw [sum_pad (fun x => D.g (gr t (rw' β i)) x) (fun x => D.w x (ck β d)), gr_rw, ← EReal.coe_add]
  rfl

/-- What a point is handed. -/
theorem handed (t : Fin cfg0.N) (s0 s1 s2 s3 : Vec Ideal S1x256x128 .f32) (h0 : Due D.head t 0 s0) (h1 : Due D.head t 1 s1)
    (h2 : Due D.head t 2 s2) (h3 : Due D.head t 3 s3) :
    Blk D.head (rb t) (iblk m c 0 t) (iblk m c 1 t) (iblk m c 2 t) (iblk m c 3 t) (iblk m c 4 t) (iblk m c 5 t) (iblk m c 6 t)
      (iblk m c 7 t) s0 s1 s2 s3 where
  sc _ := rfl
  q := blk_q H t
  k := blk_k H t
  v := blk_v H t
  p := blk_p (iblk m c 3 t) (iblk m c 4 t) (iblk m c 5 t) t (blk_g H t) (blk_w H t) (blk_b H t)
  st := blk_st H t
  o := blk_o H t
  s0 := h0
  s1 := h1
  s2 := h2
  s3 := h3

theorem left (t : Fin cfg0.N) : Left m c D.head t := left_at m c D.head (handed H) t

end Cert.GlaProof
-- ==== Proof.Gla.Final.lean ====
/- The four arrays the kernel leaves. -/
module

public import proofs.«01_k».proof.Proof.Gla.Entry

@[expose] public section

set_option maxRecDepth 16384

noncomputable section

namespace Cert.GlaProof

open Idealize.ShloMosaic Idealize.ShloMosaic.TcCoe Idealize.SL.Sem Cert.GlaIdeal Cert.GlaIdeal.Gen Cert.NormBack
open Idealize.ShloMosaic.Pipeline (Dat)

/-- A gradient of the queries or keys, or of the decay's logit, as a matrix; and the values' gradient. -/
def narrow (f : Fin 4 → Fin 128 → Fin 64 → Fin 128 → ℝ) (r : Fin 8192) (l : Fin 512) : EReal := ((f (kh l) (rn r) (ro r) (kd l) : ℝ) : EReal)
def wide (f : Fin 4 → Fin 128 → Fin 64 → Fin 256 → ℝ) (r : Fin 8192) (l : Fin 1024) : EReal := ((f (vh l) (rn r) (ro r) (vd l) : ℝ) : EReal)

theorem narrow_at (f : Fin 4 → Fin 128 → Fin 64 → Fin 128 → ℝ) (t : Fin cfg0.N) (a : Fin 512) (l : Fin 512) :
    narrow f (gr t a) l = ((f (hd (bk a l)) (ch (rb t) (bk a l)) (ri a) (dk' l) : ℝ) : EReal) := by
  have e1 : kh l = hd (bk a l) := Fin.ext (by unfold kh hd bk; dsimp only; omega)
  have e2 : rn (gr t a) = ch (rb t) (bk a l) := Fin.ext (by unfold rn gr ch rb bk; dsimp only; omega)
  have e3 : ro (gr t a) = ri a := Fin.ext (by unfold ro gr ri; dsimp only; omega)
  have e4 : kd l = dk' l := Fin.ext (by unfold kd dk'; rfl)
  unfold narrow
  rw [e1, e2, e3, e4]

theorem wide_at (f : Fin 4 → Fin 128 → Fin 64 → Fin 256 → ℝ) (t : Fin cfg0.N) (a : Fin 512) (l : Fin 1024) :
    wide f (gr t a) l = ((f (hd (bv a l)) (ch (rb t) (bv a l)) (ri a) (dv' l) : ℝ) : EReal) := by
  have e1 : vh l = hd (bv a l) := Fin.ext (by unfold vh hd bv; dsimp only; omega)
  have e2 : rn (gr t a) = ch (rb t) (bv a l) := Fin.ext (by unfold rn gr ch rb bv; dsimp only; omega)
  have e3 : ro (gr t a) = ri a := Fin.ext (by unfold ro gr ri; dsimp only; omega)
  have e4 : vd l = dv' l := Fin.ext (by unfold vd dv'; rfl)
  unfold wide
  rw [e1, e2, e3, e4]

variable {m : (ℓ : Loc nD τ sig) → Buf (Elt Ideal) ℓ} {c : Dev nD} {D : Data} (H : Is m c D)

include H

theorem final_dq : (dats m 0 c).arrAt 8 cfg0.N = fun i => narrow (fun h => (D.head h).dq) (i 0) (i 1) := by
  refine (dats m 0 c).arrAt_eq_of_covers 8 _ (by decide +kernel) fun t hf y => ?_
  rw [after0_8]
  blk_simp
  have hy : y = ix2 (y 0) (y 1) := by
    funext a
    match a with
    | ⟨0, _⟩ => rfl
    | ⟨1, _⟩ => rfl
  refine (congrArg (outsAt0 m c t.val t.isLt).1 hy).trans (((left H t).dq (y 0) (y 1)).trans ?_)
  refine (narrow_at (fun h => (D.head h).dq) t (y 0) (y 1)).symm.trans ?_
  refine congrArg₂ (narrow fun h => (D.head h).dq) ?_ ?_
  · refine Fin.ext ?_
    unfold gr
    blk_simp [idx t]
  · refine Fin.ext ?_
    blk_simp [idx t]

theorem final_dk : (dats m 0 c).arrAt 9 cfg0.N = fun i => narrow (fun h => (D.head h).dk) (i 0) (i 1) := by
  refine (dats m 0 c).arrAt_eq_of_covers 9 _ (by decide +kernel) fun t hf y => ?_
  rw [after0_9]
  blk_simp
  have hy : y = ix2 (y 0) (y 1) := by
    funext a
    match a with
    | ⟨0, _⟩ => rfl
    | ⟨1, _⟩ => rfl
  refine (congrArg (outsAt0 m c t.val t.isLt).2.1 hy).trans (((left H t).dk (y 0) (y 1)).trans ?_)
  refine (narrow_at (fun h => (D.head h).dk) t (y 0) (y 1)).symm.trans ?_
  refine congrArg₂ (narrow fun h => (D.head h).dk) ?_ ?_
  · refine Fin.ext ?_
    unfold gr
    blk_simp [idx t]
  · refine Fin.ext ?_
    blk_simp [idx t]

theorem final_dv : (dats m 0 c).arrAt 10 cfg0.N = fun i => wide (fun h => (D.head h).dv) (i 0) (i 1) := by
  refine (dats m 0 c).arrAt_eq_of_covers 10 _ (by decide +kernel) fun t hf y => ?_
  rw [after0_10]
  blk_simp
  have hy : y = ix2 (y 0) (y 1) := by
    funext a
    match a with
    | ⟨0, _⟩ => rfl
    | ⟨1, _⟩ => rfl
  refine (congrArg (outsAt0 m c t.val t.isLt).2.2.1 hy).trans (((left H t).dv (y 0) (y 1)).trans ?_)
  refine (wide_at (fun h => (D.head h).dv) t (y 0) (y 1)).symm.trans ?_
  refine congrArg₂ (wide fun h => (D.head h).dv) ?_ ?_
  · refine Fin.ext ?_
    unfold gr
    blk_simp [idx t]
  · refine Fin.ext ?_
    blk_simp [idx t]

theorem final_dp : (dats m 0 c).arrAt 11 cfg0.N = fun i => narrow (fun h => (D.head h).dpre) (i 0) (i 1) := by
  refine (dats m 0 c).arrAt_eq_of_covers 11 _ (by decide +kernel) fun t hf y => ?_
  rw [after0_11]
  blk_simp
  have hy : y = ix2 (y 0) (y 1) := by
    funext a
    match a with
    | ⟨0, _⟩ => rfl
    | ⟨1, _⟩ => rfl
  refine (congrArg (outsAt0 m c t.val t.isLt).2.2.2.1 hy).trans (((left H t).dp (y 0) (y 1)).trans ?_)
  refine (narrow_at (fun h => (D.head h).dpre) t (y 0) (y 1)).symm.trans ?_
  refine congrArg₂ (narrow fun h => (D.head h).dpre) ?_ ?_
  · refine Fin.ext ?_
    unfold gr
    blk_simp [idx t]
  · refine Fin.ext ?_
    blk_simp [idx t]

end Cert.GlaProof
-- ==== Proof.Gla.Ref.lean ====
/- The reference's arrays of real inputs, read at an entry. -/
module

public import proofs.«01_k».proof.Proof.Gla.Data
public import proofs.«01_k».proof.Proof.Gla.Index
public import proofs.«01_k».proof.Proof.Gen.GlaRefIdeal.Run
public import Idealize.ShloMosaic.Lib.Pointwise
public import Idealize.ShloMosaic.Lib.ValueIdx

@[expose] public section

set_option maxRecDepth 16384

noncomputable section

namespace Cert.GlaProof.Ref

open Idealize.ShloMosaic Idealize.ShloMosaic.TcCoe Idealize.SL.Sem Cert.GlaRefIdeal Cert.GlaRefIdeal.Gen Cert.GlaRefIdeal.Value Cert.NormBack

variable (V0 : Valuation τ sig (Elt Ideal)) (D : Data)

/-- The arguments hold the real inputs. -/
structure Is : Prop where
  q : ∀ r l, V0 (Proc.tc.devRef main_arg0) (ix2 r l) = ((D.q r l : ℝ) : EReal)
  k : ∀ r l, V0 (Proc.tc.devRef main_arg1) (ix2 r l) = ((D.k r l : ℝ) : EReal)
  v : ∀ r l, V0 (Proc.tc.devRef main_arg2) (ix2 r l) = ((D.v r l : ℝ) : EReal)
  g : ∀ r l, V0 (Proc.tc.devRef main_arg3) (ix2 r l) = ((D.g r l : ℝ) : EReal)
  w : ∀ r l, V0 (Proc.tc.devRef main_arg4) (ix2 r l) = ((D.w r l : ℝ) : EReal)
  b : ∀ l, V0 (Proc.tc.devRef main_arg5) (ix2 0 l) = ((D.b l : ℝ) : EReal)
  o : ∀ r l, V0 (Proc.tc.devRef main_arg6) (ix2 r l) = ((D.o r l : ℝ) : EReal)

variable {V0 D} (H : Is V0 D)

include H

theorem neg_at (r : Fin 8192) (l : Fin 512) : res_main_call0_v0 V0 (ix2 r l) = ((-D.pre r l : ℝ) : EReal) := by
  unfold res_main_call0_v0
  pointwise
  simp only [H.g, H.w, H.b, ← EReal.coe_mul, coe_sum, ← EReal.coe_add, ← EReal.coe_neg]
  rfl

theorem neg0_at (r : Fin 8192) (l : Fin 512) : res_main_call0_call0_v3 V0 (ix2 r l) = ((-D.pre r l : ℝ) : EReal) := by
  unfold res_main_call0_call0_v3 res_main_call0_call0_cst
  pointwise
  exact neg_at H r l

theorem soft_at (r : Fin 8192) (l : Fin 512) : res_main_call0_v1_0 V0 (ix2 r l) = ((-Head.lsg (D.pre r l) : ℝ) : EReal) := by
  unfold res_main_call0_v1_0 res_main_call0_call0_cst
  pointwise
  rw [neg_at H, neg0_at H, EReal.coe_neg, EReal.coe_neg, ← softplus_coe, neg_neg]

theorem soft4 (h : Fin 4) (n : Fin 128) (i : Fin 64) (d : Fin 128) (h1 : n.val * 64 + i.val < 8192) (h2 : h.val * 128 + d.val < 512) :
    res_main_call0_v1_0 V0 (ix2 (⟨n.val * 64 + i.val, h1⟩ : Fin 8192) (⟨h.val * 128 + d.val, h2⟩ : Fin 512)) = ((-Head.lsg ((D.head h).p n i d) : ℝ) : EReal) :=
  (cell (res_main_call0_v1_0 V0) (by dsimp only [row]; omega) (by dsimp only [kc]; omega)).trans (soft_at H (row n i) (kc h d))

theorem q_at (h : Fin 4) (n : Fin 128) (i : Fin 64) (d : Fin 128) :
    res_main_v9 V0 (ix4 h n i d) = (((D.head h).q n i d * (D.head h).sc : ℝ) : EReal) := by
  unfold res_main_v9
  pointwise
  rw [cell (V0 (Proc.tc.devRef main_arg0)) (b := row n i) (q := kc h d) (by dsimp only [row]; omega) (by dsimp only [kc]; omega), H.q, cscale, ← EReal.coe_mul]
  rfl

theorem k_at (h : Fin 4) (n : Fin 128) (i : Fin 64) (d : Fin 128) : res_main_v11 V0 (ix4 h n i d) = (((D.head h).k n i d : ℝ) : EReal) := by
  unfold res_main_v11
  pointwise
  exact (cell (V0 (Proc.tc.devRef main_arg1)) (by dsimp only [row]; omega) (by dsimp only [kc]; omega)).trans (H.k (row n i) (kc h d))

theorem v_at (h : Fin 4) (n : Fin 128) (i : Fin 64) (d : Fin 256) : res_main_v13 V0 (ix4 h n i d) = (((D.head h).v n i d : ℝ) : EReal) := by
  unfold res_main_v13
  pointwise
  exact (cell (V0 (Proc.tc.devRef main_arg2)) (by dsimp only [row]; omega) (by dsimp only [vc]; omega)).trans (H.v (row n i) (vc h d))

omit H in
theorem m_at (i j : Fin 64) : res_main_v15 V0 (ix2 i j) = if j ≤ i then 1#1 else 0#1 := by
  unfold res_main_v15
  pointwise
  revert i j
  decide +kernel

omit H in
theorem fm_at (i j : Fin 64) : res_main_v16 V0 (ix2 i j) = ((if j ≤ i then 1 else 0 : ℝ) : EReal) := by
  unfold res_main_v16
  pointwise
  rw [m_at, bit]

theorem b_at (h : Fin 4) (n : Fin 128) (i : Fin 64) (d : Fin 128) : res_main_v20 V0 (ix4 h n i d) = (((D.head h).b n i d : ℝ) : EReal) := by
  unfold res_main_v20
  pointwise
  simp only [soft4 H, fm_at, ← EReal.coe_neg, c16, Ideal.div_coe (show (16 : ℝ) ≠ 0 by norm_num), ← EReal.coe_mul, coe_sum]
  refine congrArg _ ?_
  unfold Head.b
  refine Finset.sum_congr rfl fun j _ => ?_
  rw [mul_ite, mul_one, mul_zero, neg_neg]
  rfl

theorem bl_at (h : Fin 4) (n d : Fin 128) : res_main_v22 V0 (ix3 h n d) = (((D.head h).bl n d : ℝ) : EReal) := by
  unfold res_main_v22
  pointwise
  exact b_at H h n 63 d

theorem eb_at (h : Fin 4) (n : Fin 128) (i : Fin 64) (d : Fin 128) :
    res_main_v23 V0 (ix4 h n i d) = ((Real.exp ((D.head h).b n i d) : ℝ) : EReal) := by
  unfold res_main_v23
  pointwise
  rw [b_at H, Ideal.exp_coe]

theorem qin_at (h : Fin 4) (n : Fin 128) (i : Fin 64) (d : Fin 128) : res_main_v24 V0 (ix4 h n i d) = (((D.head h).qin n i d : ℝ) : EReal) := by
  unfold res_main_v24
  pointwise
  rw [q_at H, eb_at H, ← EReal.coe_mul]
  rfl

theorem enb_at (h : Fin 4) (n : Fin 128) (i : Fin 64) (d : Fin 128) :
    res_main_v26 V0 (ix4 h n i d) = ((Real.exp (-(D.head h).b n i d) : ℝ) : EReal) := by
  unfold res_main_v26
  pointwise
  rw [b_at H, ← EReal.coe_neg, Ideal.exp_coe]

theorem kout_at (h : Fin 4) (n : Fin 128) (i : Fin 64) (d : Fin 128) : res_main_v27 V0 (ix4 h n i d) = (((D.head h).kout n i d : ℝ) : EReal) := by
  unfold res_main_v27
  pointwise
  rw [k_at H, enb_at H, ← EReal.coe_mul]
  rfl

omit H in
theorem m4_at (h : Fin 4) (n : Fin 128) (i j : Fin 64) : res_main_v29_1 V0 (ix4 h n i j) = if j ≤ i then 1#1 else 0#1 := by
  unfold res_main_v29_1
  pointwise
  exact m_at i j

theorem scores_at (h : Fin 4) (n : Fin 128) (i j : Fin 64) : res_main_v29_0 V0 (ix4 h n i j) = (((D.head h).scores n i j : ℝ) : EReal) := by
  unfold res_main_v29_0
  pointwise
  rw [m4_at]
  simp only [qin_at H, kout_at H, ← EReal.coe_mul, coe_sum]
  exact (congrArg (Scalar.select _ _) Ideal.ofBits_zero_f32).trans (picked _ _)

theorem est_at (h : Fin 4) (n : Fin 128) (i : Fin 64) (d : Fin 128) :
    res_main_v34 V0 (ix4 h n i d) = ((Real.exp ((D.head h).bl n d - (D.head h).b n i d) : ℝ) : EReal) := by
  unfold res_main_v34
  pointwise
  rw [b_at H, bl_at H, ← EReal.coe_sub, Ideal.exp_coe]

theorem kst_at (h : Fin 4) (n : Fin 128) (i : Fin 64) (d : Fin 128) : res_main_v35 V0 (ix4 h n i d) = (((D.head h).kst n i d : ℝ) : EReal) := by
  unfold res_main_v35
  pointwise
  rw [k_at H, est_at H, ← EReal.coe_mul]
  rfl

theorem kv_at (h : Fin 4) (n : Fin 128) (v : Fin 256) (d : Fin 128) : res_main_v36 V0 (ix4 h n v d) = (((D.head h).kv n v d : ℝ) : EReal) := by
  unfold res_main_v36
  pointwise
  simp only [v_at H, kst_at H, ← EReal.coe_mul, coe_sum]
  rfl

omit H in
theorem fbetween_at (n k j : Fin 128) : res_main_v51 V0 (ix3 n k j) = ((if k < j ∧ j < n then 1 else 0 : ℝ) : EReal) := by
  unfold res_main_v51 res_main_v37
  pointwise
  rw [less, less, both, bit]

theorem ediff_at (h : Fin 4) (n k d : Fin 128) : res_main_v54 V0 (ix4 h n k d) = ((Real.exp ((D.head h).diff n k d) : ℝ) : EReal) := by
  unfold res_main_v54
  pointwise
  simp only [fbetween_at, bl_at H, ← EReal.coe_mul, coe_sum, Ideal.exp_coe, mul_ite, mul_one, mul_zero]
  rfl

omit H in
theorem less_at (h : Fin 4) (n k d : Fin 128) : res_main_v61_1 V0 (ix4 h n k d) = if k < n then 1#1 else 0#1 := by
  unfold res_main_v61_1 res_main_v37
  pointwise
  exact less k n

theorem dec_at (h : Fin 4) (n k d : Fin 128) : res_main_v61_0 V0 (ix4 h n k d) = (((D.head h).dec n k d : ℝ) : EReal) := by
  unfold res_main_v61_0
  pointwise
  rw [less_at, ediff_at H]
  exact (congrArg (Scalar.select _ _) Ideal.ofBits_zero_f32).trans (picked _ _)

theorem st_at (h : Fin 4) (n : Fin 128) (v : Fin 256) (d : Fin 128) : res_main_v63 V0 (ix4 h n v d) = (((D.head h).st n v d : ℝ) : EReal) := by
  unfold res_main_v63
  pointwise
  simp only [kv_at H, dec_at H, ← EReal.coe_mul, coe_sum]
  rfl

theorem o_at (h : Fin 4) (n : Fin 128) (i : Fin 64) (d : Fin 256) : res_main_v69 V0 (ix4 h n i d) = (((D.head h).o n i d : ℝ) : EReal) := by
  unfold res_main_v69
  pointwise
  exact (cell (V0 (Proc.tc.devRef main_arg6)) (by dsimp only [row]; omega) (by dsimp only [vc]; omega)).trans (H.o (row n i) (vc h d))

theorem qdo_at (h : Fin 4) (n : Fin 128) (v : Fin 256) (d : Fin 128) : res_main_v72 V0 (ix4 h d v n) = (((D.head h).qdo n v d : ℝ) : EReal) := by
  unfold res_main_v72
  pointwise
  simp only [o_at H, qin_at H, ← EReal.coe_mul, coe_sum]
  rfl

theorem aft_at (h : Fin 4) (n : Fin 128) (v : Fin 256) (d : Fin 128) : res_main_v76 V0 (ix4 h n v d) = (((D.head h).aft n v d : ℝ) : EReal) := by
  unfold res_main_v76
  pointwise
  simp only [qdo_at H, dec_at H, ← EReal.coe_mul, coe_sum]
  rfl

theorem dkst_at (h : Fin 4) (n : Fin 128) (i : Fin 64) (d : Fin 128) : res_main_v83 V0 (ix4 h n i d) = (((D.head h).dkst n i d : ℝ) : EReal) := by
  unfold res_main_v83
  pointwise
  simp only [aft_at H, v_at H, ← EReal.coe_mul, coe_sum]
  exact congrArg _ (Finset.sum_congr rfl fun _ _ => mul_comm _ _)

theorem kd_at (h : Fin 4) (n : Fin 128) (i : Fin 64) (d : Fin 128) : res_main_v88 V0 (ix4 h n i d)
    = (((D.head h).k n i d * (D.head h).dkst n i d * Real.exp ((D.head h).bl n d - (D.head h).b n i d) : ℝ) : EReal) := by
  unfold res_main_v88
  pointwise
  rw [k_at H, dkst_at H, est_at H, ← EReal.coe_mul, ← EReal.coe_mul]

theorem dsc_at (h : Fin 4) (n : Fin 128) (i j : Fin 64) : res_main_v98 V0 (ix4 h n i j) = (((D.head h).dsc n i j : ℝ) : EReal) := by
  unfold res_main_v98
  pointwise
  rw [m4_at]
  simp only [o_at H, v_at H, ← EReal.coe_mul, coe_sum]
  exact picked _ _

theorem dkout_at (h : Fin 4) (n : Fin 128) (j : Fin 64) (d : Fin 128) : res_main_v99 V0 (ix4 h n j d) = (((D.head h).dkout n j d : ℝ) : EReal) := by
  unfold res_main_v99
  pointwise
  simp only [dsc_at H, qin_at H, ← EReal.coe_mul, coe_sum]
  rfl

theorem dqin_at (h : Fin 4) (n : Fin 128) (i : Fin 64) (d : Fin 128) : res_main_v101 V0 (ix4 h n i d) = (((D.head h).dqin n i d : ℝ) : EReal) := by
  unfold res_main_v101
  pointwise
  simp only [o_at H, st_at H, dsc_at H, kout_at H, ← EReal.coe_mul, coe_sum, ← EReal.coe_add]
  rfl

/-- The three results that are products of what is above. -/
def dqTerm (V0 : Valuation τ sig (Elt Ideal)) : Vec Ideal S8192x512 .bf16 :=
  truncf (F := Ideal) .bf16 (shapeCast _ (transpose S128x64x4x128 [1, 2, 0, 3] (mulf (mulf (res_main_v101 V0) (res_main_v23 V0)) (broadcastInDim S4x128x64x128 ![] bcast_S_S4x128x64x128 (constant S_ .f32 0x3DB504F3#32))) transposes_S4x128x64x128_S128x64x4x128_1_2_0_3) shapeCasts_S128x64x4x128_S8192x512) bitsLt_bf16_f32
def dkTerm (V0 : Valuation τ sig (Elt Ideal)) : Vec Ideal S8192x512 .bf16 :=
  truncf (F := Ideal) .bf16 (shapeCast _ (transpose S128x64x4x128 [1, 2, 0, 3] (addf (mulf (res_main_v83 V0) (res_main_v34 V0)) (mulf (res_main_v99 V0) (res_main_v26 V0))) transposes_S4x128x64x128_S128x64x4x128_1_2_0_3) shapeCasts_S128x64x4x128_S8192x512) bitsLt_bf16_f32
def dvTerm (V0 : Valuation τ sig (Elt Ideal)) : Vec Ideal S8192x1024 .bf16 :=
  truncf (F := Ideal) .bf16 (shapeCast _ (transpose S128x64x4x256 [1, 2, 0, 3] (addf (transpose S4x128x64x256 [0, 1, 3, 2] (Host.dotGeneral (F := Ideal) (φ₁ := .f32) (φ₂ := .f32) dot_S4x128x256x128_S4x128x64x128_S4x128x256x64_3_3_2_2_01_01 none (res_main_v76 V0) (res_main_v35 V0)) transposes_S4x128x256x64_S4x128x64x256_0_1_3_2) (transpose S4x128x64x256 [0, 1, 3, 2] (Host.dotGeneral (F := Ideal) (φ₁ := .f32) (φ₂ := .f32) dot_S4x128x64x256_S4x128x64x64_S4x128x256x64_2_2_3_3_01_01 none (res_main_v69 V0) (res_main_v29_0 V0)) transposes_S4x128x256x64_S4x128x64x256_0_1_3_2)) transposes_S4x128x64x256_S128x64x4x256_1_2_0_3) shapeCasts_S128x64x4x256_S8192x1024) bitsLt_bf16_f32

theorem dq_at (r : Fin 8192) (l : Fin 512) : dqTerm V0 (ix2 r l) = (((D.head (kh l)).dq (rn r) (ro r) (kd l) : ℝ) : EReal) := by
  unfold dqTerm
  pointwise
  rw [dqin_at H, eb_at H, cscale, ← EReal.coe_mul, ← EReal.coe_mul]
  refine congrArg _ ?_
  unfold Head.dq
  exact mul_right_comm _ _ _

theorem dk_at (r : Fin 8192) (l : Fin 512) : dkTerm V0 (ix2 r l) = (((D.head (kh l)).dk (rn r) (ro r) (kd l) : ℝ) : EReal) := by
  unfold dkTerm
  pointwise
  rw [dkst_at H, est_at H, dkout_at H, enb_at H, ← EReal.coe_mul, ← EReal.coe_mul, ← EReal.coe_add, add_comm]
  rfl

theorem dv_at (r : Fin 8192) (l : Fin 1024) : dvTerm V0 (ix2 r l) = (((D.head (vh l)).dv (rn r) (ro r) (vd l) : ℝ) : EReal) := by
  unfold dvTerm
  pointwise
  simp only [aft_at H, kst_at H, o_at H, scores_at H, ← EReal.coe_mul, coe_sum, ← EReal.coe_add]
  refine congrArg _ ?_
  unfold Head.dv
  rw [add_comm]
  exact congrArg₂ (· + ·) (Finset.sum_congr rfl fun _ _ => mul_comm _ _) (Finset.sum_congr rfl fun _ _ => mul_comm _ _)

end Cert.GlaProof.Ref
-- ==== Proof.Gla.RefGate.lean ====
/- The reference's gradient of the decay's logit, read at an entry. -/
module

public import proofs.«01_k».proof.Proof.Gla.Ref
public import Idealize.ShloMosaic.Lib.MatmulPlain
public import Idealize.ShloMosaic.Lib.KernelVsHost
public import Idealize.ShloMosaic.Lib.TwoAxisContraction

@[expose] public section

set_option maxRecDepth 16384

noncomputable section

namespace Cert.GlaProof.Ref

open Idealize.ShloMosaic Idealize.ShloMosaic.TcCoe Idealize.SL.Sem Cert.GlaRefIdeal Cert.GlaRefIdeal.Gen Cert.GlaRefIdeal.Value Cert.NormBack

/-- A product contracted over two axes. -/
def twoArr (L : Vec Ideal S4x128x128x128 .f32) (R : Vec Ideal S128x128x128 .f32) : Vec Ideal S4x128x128 .f32 :=
  Host.dotGeneral (F := Ideal) (φ₁ := .f32) (φ₂ := .f32) dot_S4x128x128x128_S128x128x128_S4x128x128_23_01_01_2_n_n none L R

theorem twoArr_at (L : Vec Ideal S4x128x128x128 .f32) (R : Vec Ideal S128x128x128 .f32) (h : Fin 4) (d j : Fin 128) :
    twoArr L R (ix3 h d j) = ∑ n : Fin 128, ∑ k : Fin 128, (L (ix4 h d n k) * R (ix3 n k j) : EReal) := by
  unfold twoArr
  simp only [Host.dotGeneral]
  let Dd := dot_S4x128x128x128_S128x128x128_S4x128x128_23_01_01_2_n_n
  have hr : Dd.contr.rank = 2 := rfl
  have c0 : Dd.contr.size ⟨0, by rw [hr]; omega⟩ = 128 := rfl
  have c1 : Dd.contr.size ⟨1, by rw [hr]; omega⟩ = 128 := rfl
  rw [Ideal.dotGeneral_apply, ← Equiv.sum_comp (ValueIdx.contrEquiv2 Dd 128 128 hr c0 c1).symm, Fintype.sum_prod_type]
  refine Finset.sum_congr rfl fun n _ => Finset.sum_congr rfl fun k _ => ?_
  have h0 := ValueIdx.contrEquiv2_symm_val0 Dd 128 128 hr c0 c1 (n, k)
  have h1 := ValueIdx.contrEquiv2_symm_val1 Dd 128 128 hr c0 c1 (n, k)
  have el : Dd.lhsIdx (ix3 h d j) ((ValueIdx.contrEquiv2 Dd 128 128 hr c0 c1).symm (n, k)) = ix4 h d n k := by
    funext a
    apply Fin.ext
    match a with
    | ⟨0, _⟩ => rfl
    | ⟨1, _⟩ => rfl
    | ⟨2, _⟩ => exact h0
    | ⟨3, _⟩ => exact h1
  have er : Dd.rhsIdx (ix3 h d j) ((ValueIdx.contrEquiv2 Dd 128 128 hr c0 c1).symm (n, k)) = ix3 n k j := by
    funext a
    apply Fin.ext
    match a with
    | ⟨0, _⟩ => exact h0
    | ⟨1, _⟩ => exact h1
    | ⟨2, _⟩ => rfl
  exact congrArg₂ (fun a b : EReal => a * b) (congrArg L el) (congrArg R er)

/-- An array put at a chunk's last row, zeros above it. -/
def padArr (x : Vec Ideal S4x128x128 .f32) : Vec Ideal S4x128x64x128 .f32 :=
  pad S4x128x64x128 ![0, 0, 63, 0] ![0, 0, 0, 0] ![0, 0, 0, 0] (broadcastInDim S4x128x1x128 ![0, 1, 3] bcast_S4x128x128_S4x128x1x128_0_1_3 x) (constant (F := Ideal) S_ .f32 0x00000000#32) pads_S4x128x1x128_S4x128x64x128_000_000_6300_000 h_S_

theorem padArr_at (x : Vec Ideal S4x128x128 .f32) (h : Fin 4) (n : Fin 128) (i : Fin 64) (d : Fin 128) :
    padArr x (ix4 h n i d) = if i = 63 then x (ix3 h n d) else (0 : EReal) := by
  unfold padArr
  pointwise
  by_cases e : i = 63
  · rw [if_pos e, dif_pos (by subst e; decide)]
  · rw [if_neg e, dif_neg fun a => e (Fin.ext (by have := a.1; have := i.isLt; show i.val = 63; omega))]

/-- The sum of an array over a chunk's rows. -/
def rowsArr (x : Vec Ideal S4x128x64x128 .f32) : Vec Ideal S4x128x128 .f32 :=
  Host.reduceAdd (F := Ideal) (shapeCast _ (Host.reduceAdd (F := Ideal) x (constant S_ .f32 0x00000000#32) reducesTo_S4x128x64x128_S4x128x128_d2 h_S_) shapeCasts_S4x128x128_S4x128x1x128) (constant S_ .f32 0x00000000#32) reducesTo_S4x128x1x128_S4x128x128_d2 h_S_

theorem rowsArr_at (x : Vec Ideal S4x128x64x128 .f32) (h : Fin 4) (n d : Fin 128) :
    rowsArr x (ix3 h n d) = (∑ i, x (ix4 h n i d) : EReal) := by
  unfold rowsArr
  pointwise
  exact Fin.sum_univ_one _

variable {V0 : Valuation τ sig (Elt Ideal)} {D : Data} (H : Is V0 D)

/-- The products whose sums between two chunks are the gradient of the decay between them. -/
def betweenArr (V0 : Valuation τ sig (Elt Ideal)) : Vec Ideal S4x128x128x128 .f32 :=
  transpose S4x128x128x128 [0, 3, 1, 2] (mulf (F := Ideal) (φ := .f32) (select (res_main_v61_1 V0) (transpose S4x128x128x128 [0, 2, 3, 1] (Host.dotGeneral (F := Ideal) (φ₁ := .f32) (φ₂ := .f32) dot_S4x128x256x128_S4x128x256x128_S4x128x128x128_2_2_3_1_01_03 none (res_main_v72 V0) (res_main_v36 V0)) transposes_S4x128x128x128_S4x128x128x128_0_2_3_1) (broadcastInDim S4x128x128x128 ![] bcast_S_S4x128x128x128 (constant (F := Ideal) S_ .f32 0x00000000#32))) (res_main_v54 V0)) transposes_S4x128x128x128_S4x128x128x128_0_3_1_2

/-- The gradient of the decay's sum over a chunk. -/
def dblArr (V0 : Valuation τ sig (Elt Ideal)) : Vec Ideal S4x128x128 .f32 :=
  addf (F := Ideal) (φ := .f32) (transpose S4x128x128 [0, 2, 1] (twoArr (betweenArr V0) (res_main_v51 V0)) transposes_S4x128x128_S4x128x128_0_2_1) (rowsArr (res_main_v88 V0))

/-- The gradient of the decay's running sum. -/
def dbArr (V0 : Valuation τ sig (Elt Ideal)) : Vec Ideal S4x128x64x128 .f32 :=
  addf (F := Ideal) (φ := .f32) (addf (F := Ideal) (φ := .f32) (addf (F := Ideal) (φ := .f32) (Host.negf (F := Ideal) (φ := .f32) (res_main_v88 V0)) (Host.negf (F := Ideal) (φ := .f32) (mulf (F := Ideal) (φ := .f32) (mulf (F := Ideal) (φ := .f32) (res_main_v11 V0) (res_main_v99 V0)) (res_main_v26 V0)))) (mulf (F := Ideal) (φ := .f32) (mulf (F := Ideal) (φ := .f32) (res_main_v9 V0) (res_main_v101 V0)) (res_main_v23 V0))) (padArr (dblArr V0))

/-- The gradient of the decay's logarithm, of an array of the running sum's gradient. -/
def revArr (V0 : Valuation τ sig (Elt Ideal)) (x : Vec Ideal S4x128x64x128 .f32) : Vec Ideal S8192x512 .f32 :=
  Host.divf (F := Ideal) (φ := .f32) (shapeCast _ (transpose S128x64x4x128 [1, 2, 0, 3] (transpose S4x128x64x128 [0, 1, 3, 2] (Host.dotGeneral (F := Ideal) (φ₁ := .f32) (φ₂ := .f32) dot_S4x128x128x64_S64x64_S4x128x128x64_3_0_012_1_n_n none (transpose S4x128x128x64 [0, 1, 3, 2] x transposes_S4x128x64x128_S4x128x128x64_0_1_3_2) (res_main_v16 V0)) transposes_S4x128x128x64_S4x128x64x128_0_1_3_2) transposes_S4x128x64x128_S128x64x4x128_1_2_0_3) shapeCasts_S128x64x4x128_S8192x512) (broadcastInDim S8192x512 ![] bcast_S_S8192x512 (constant (F := Ideal) S_ .f32 0x41800000#32))

/-- The logistic of the logit. -/
def sigArr (V0 : Valuation τ sig (Elt Ideal)) : Vec Ideal S8192x512 .f32 :=
  Host.exp (F := Ideal) (φ := .f32) (subf (F := Ideal) (φ := .f32) (select (cmpf (F := Ideal) (φ := .f32) .oeq (res_main_call0_v0 V0) (broadcastInDim S8192x512 ![] bcast_S_S8192x512 (constant (F := Ideal) S_ .f32 0x7F800000#32))) (broadcastInDim S8192x512 ![] bcast_S_S8192x512 (constant (F := Ideal) S_ .f32 0x00000000#32)) (res_main_call0_v0 V0)) (select (cmpf (F := Ideal) (φ := .f32) .oeq (res_main_call0_v1_0 V0) (broadcastInDim S8192x512 ![] bcast_S_S8192x512 (constant (F := Ideal) S_ .f32 0x7F800000#32))) (broadcastInDim S8192x512 ![] bcast_S_S8192x512 (constant (F := Ideal) S_ .f32 0x00000000#32)) (res_main_call0_v1_0 V0)))

def dpTerm (V0 : Valuation τ sig (Elt Ideal)) : Vec Ideal S8192x512 .f32 :=
  Host.negf (F := Ideal) (φ := .f32) (mulf (F := Ideal) (φ := .f32) (Host.negf (F := Ideal) (φ := .f32) (revArr V0 (dbArr V0))) (sigArr V0))

include H

theorem betweenArr_at (h : Fin 4) (d l k : Fin 128) : betweenArr V0 (ix4 h d l k)
    = (((if k < l then ∑ v, (D.head h).qdo l v d * (D.head h).kv k v d else 0) * Real.exp ((D.head h).diff l k d) : ℝ) : EReal) := by
  unfold betweenArr
  pointwise
  rw [less_at, ediff_at H]
  simp only [qdo_at H, kv_at H, ← EReal.coe_mul, coe_sum]
  rw [ite_mul, zero_mul]
  exact picked _ _

theorem dblArr_at (h : Fin 4) (n d : Fin 128) : dblArr V0 (ix3 h n d) = (((D.head h).dbl' n d : ℝ) : EReal) := by
  unfold dblArr
  pointwise
  rw [rowsArr_at, twoArr_at]
  simp only [betweenArr_at H, fbetween_at, kd_at H, ← EReal.coe_mul, coe_sum, ← EReal.coe_add]
  rfl

theorem dbArr_at (h : Fin 4) (n : Fin 128) (i : Fin 64) (d : Fin 128) : dbArr V0 (ix4 h n i d) = (((D.head h).db' n i d : ℝ) : EReal) := by
  unfold dbArr
  pointwise
  rw [padArr_at, dblArr_at H, coe_if]
  simp only [kd_at H, k_at H, dkout_at H, enb_at H, q_at H, dqin_at H, eb_at H, ← EReal.coe_mul, ← EReal.coe_neg, ← EReal.coe_add]
  rfl

theorem sigArr_at (r : Fin 8192) (l : Fin 512) :
    sigArr V0 (ix2 r l) = ((Real.exp (-D.pre r l - Real.log (1 + Real.exp (-D.pre r l))) : ℝ) : EReal) := by
  unfold sigArr
  pointwise
  have inf : Ideal.ofBits .f32 0x7F800000#32 = (⊤ : EReal) := by simp [Ideal.ofBits, Ideal.ieee]
  rw [neg_at H, soft_at H, inf, if_neg (EReal.coe_ne_top _), if_neg (EReal.coe_ne_top _), ← EReal.coe_sub, Ideal.exp_coe]
  unfold Head.lsg
  rw [neg_neg]

omit H in
theorem revArr_at (x : Vec Ideal S4x128x64x128 .f32) (f : Fin 4 → Fin 128 → Fin 64 → Fin 128 → ℝ)
    (hx : ∀ h n i d, x (ix4 h n i d) = ((f h n i d : ℝ) : EReal)) (r : Fin 8192) (l : Fin 512) :
    revArr V0 x (ix2 r l) = (((∑ j, f (kh l) (rn r) j (kd l) * (if ro r ≤ j then 1 else 0)) * (1 / 16) : ℝ) : EReal) := by
  unfold revArr
  pointwise
  simp only [hx, fm_at, ← EReal.coe_mul, coe_sum]
  refine (congrArg (Ideal.div _) c16).trans ((Ideal.div_coe (show (16 : ℝ) ≠ 0 by norm_num) _).trans ?_)
  exact (EReal.coe_mul _ _).symm

omit H in
theorem coe_chain (x y : ℝ) : (-(-(x : EReal) * (y : EReal)) : EReal) = ((-(-x * y) : ℝ) : EReal) := by
  rw [← EReal.coe_neg, ← EReal.coe_mul, ← EReal.coe_neg]

omit H in
/-- The last three operations at an entry. -/
theorem chain_at (a b : Vec Ideal S8192x512 .f32) (i : S8192x512.Idx) (x y : ℝ) (ha : a i = (x : EReal)) (hb : b i = (y : EReal)) :
    Host.negf (F := Ideal) (φ := .f32) (mulf (F := Ideal) (φ := .f32) (Host.negf (F := Ideal) (φ := .f32) a) b) i = ((-(-x * y) : ℝ) : EReal) := by
  refine Eq.trans ?_ (coe_chain x y)
  exact congrArg₂ (fun x y : EReal => -(-x * y)) ha hb

theorem dp_at (r : Fin 8192) (l : Fin 512) : dpTerm V0 (ix2 r l) = (((D.head (kh l)).dpre (rn r) (ro r) (kd l) : ℝ) : EReal) := by
  have e : D.pre r l = (D.head (kh l)).p (rn r) (ro r) (kd l) :=
    congrArg₂ D.pre (Fin.ext (by dsimp only [row, rn, ro]; omega)) (Fin.ext (by dsimp only [kc, kh, kd]; omega))
  have e1 := revArr_at (V0 := V0) (dbArr V0) (fun h => (D.head h).db') (dbArr_at H) r l
  have e2 := sigArr_at H r l
  rw [e] at e2
  rw [← Head.dpre_eq]
  exact chain_at _ _ _ _ _ e1 e2

end Cert.GlaProof.Ref
-- ==== Proof.Gla.Claim.lean ====
/- The layer's backward call leaves what the reference's derivative leaves, of real arguments. -/
module
public import proofs.«01_k».proof.Proof.Gla.Final
public import proofs.«01_k».proof.Proof.Gla.RefGate
public import proofs.«01_k».proof.Defs
public import Idealize.ShloMosaic.Lib.Claim

@[expose] public section

set_option maxRecDepth 16384

noncomputable section

namespace Cert.GlaProof

open Idealize.ShloMosaic Idealize.ShloMosaic.TcCoe Idealize.SL.Sem
open Idealize.ShloMosaic.StableHlo (launchContents)

section Agree

variable (m : (ℓ : Loc Cert.GlaIdeal.nD Cert.GlaIdeal.τ Cert.GlaIdeal.sig) → Buf (Elt Ideal) ℓ) (c : Dev Cert.GlaIdeal.nD)

open Cert.GlaIdeal in
/-- The reals the arguments hold. -/
def dataOf : Data where
  q r l := EReal.toReal (A0 m c (Proc.tc.devRef main_arg0) (ix2 r l))
  k r l := EReal.toReal (A0 m c (Proc.tc.devRef main_arg1) (ix2 r l))
  v r l := EReal.toReal (A0 m c (Proc.tc.devRef main_arg2) (ix2 r l))
  g r l := EReal.toReal (A0 m c (Proc.tc.devRef main_arg3) (ix2 r l))
  w r l := EReal.toReal (A0 m c (Proc.tc.devRef main_arg4) (ix2 r l))
  b l := EReal.toReal (A0 m c (Proc.tc.devRef main_arg5) (ix2 0 l))
  o r l := EReal.toReal (A0 m c (Proc.tc.devRef main_arg6) (ix2 r l))

theorem real_back {x : EReal} (h : ∃ y : ℝ, x = y) : x = ((x.toReal : ℝ) : EReal) := by
  obtain ⟨y, rfl⟩ := h
  rw [EReal.toReal_coe]

theorem is_of_pre [Cert.Pre_gla_finite.Facts] (h : Cert.Pre_GlaIdeal_gla_finite m) : Is m c (dataOf m c) := by
  obtain ⟨h0, h1, h2, h3, h4, h5, h6⟩ := h c
  exact ⟨fun r l => real_back (NormBack.real_of_flag _ _ (fun _ => rfl) h0 _), fun r l => real_back (NormBack.real_of_flag _ _ (fun _ => rfl) h1 _),
    fun r l => real_back (NormBack.real_of_flag _ _ (fun _ => rfl) h2 _), fun r l => real_back (NormBack.real_of_flag _ _ (fun _ => rfl) h3 _),
    fun r l => real_back (NormBack.real_of_flag _ _ (fun _ => rfl) h4 _), fun l => real_back (NormBack.real_of_flag _ _ (fun _ => rfl) h5 _),
    fun r l => real_back (NormBack.real_of_flag _ _ (fun _ => rfl) h6 _)⟩

theorem split_ix {a b : ℕ} (i : (⟨2, ![a, b]⟩ : Shape).Idx) : i = ix2 (i 0) (i 1) := by
  funext k
  match k with
  | ⟨0, _⟩ => rfl
  | ⟨1, _⟩ => rfl

variable {m c} {D : Data} (H : Is m c D) {V0 : Valuation Cert.GlaRefIdeal.τ Cert.GlaRefIdeal.sig (Elt Ideal)} (R : Ref.Is V0 D)

include H R

open Cert.GlaIdeal

theorem dq_eq : Ref.dqTerm V0 = (Gen.dats m 0 c).arrAt 8 cfg0.N := by
  rw [final_dq H]
  exact funext fun i => (congrArg (Ref.dqTerm V0) (split_ix i)).trans (Ref.dq_at R (i 0) (i 1))

theorem dk_eq : Ref.dkTerm V0 = (Gen.dats m 0 c).arrAt 9 cfg0.N := by
  rw [final_dk H]
  exact funext fun i => (congrArg (Ref.dkTerm V0) (split_ix i)).trans (Ref.dk_at R (i 0) (i 1))

theorem dv_eq : Ref.dvTerm V0 = (Gen.dats m 0 c).arrAt 10 cfg0.N := by
  rw [final_dv H]
  exact funext fun i => (congrArg (Ref.dvTerm V0) (split_ix i)).trans (Ref.dv_at R (i 0) (i 1))

theorem dp_eq : Ref.dpTerm V0 = (Gen.dats m 0 c).arrAt 11 cfg0.N := by
  rw [final_dp H]
  exact funext fun i => (congrArg (Ref.dpTerm V0) (split_ix i)).trans (Ref.dp_at R (i 0) (i 1))

end Agree

section Run

open Cert.GlaRefIdeal Cert.GlaRefIdeal.Gen

/-- The reference's run, its results by their short names. -/
theorem Ref.run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v131) = Ref.dqTerm (launchContents m c)
      ∧ r.2.mem ((c.tc : Thread nD τ).loc main_v132) = Ref.dkTerm (launchContents m c)
      ∧ r.2.mem ((c.tc : Thread nD τ).loc main_v133) = Ref.dvTerm (launchContents m c)
      ∧ r.2.mem ((c.tc : Thread nD τ).loc main_v130) = Ref.dpTerm (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1, (h c).2.1, (h c).2.2.1, (h c).2.2.2.1, (h c).2.2.2.2⟩) (Value.run m ρ)

end Run

theorem algebraic [Cert.Pre_gla_finite.Facts] : Cert.algebraic_GlaIdeal_GlaRefIdeal_pre_gla_finite := by
  intro m g m' g' hpre hagree
  have hr : ∀ c, Ref.Is (launchContents m' c) (dataOf m c) := fun c => by
    obtain ⟨h0, h1, h2, h3, h4, h5, h6⟩ := hagree c
    have H := is_of_pre m c hpre
    exact ⟨fun r l => (congrFun h0 _).trans (H.q r l), fun r l => (congrFun h1 _).trans (H.k r l), fun r l => (congrFun h2 _).trans (H.v r l),
      fun r l => (congrFun h3 _).trans (H.g r l), fun r l => (congrFun h4 _).trans (H.w r l), fun l => (congrFun h5 _).trans (H.b l),
      fun r l => (congrFun h6 _).trans (H.o r l)⟩
  refine ⟨fun c => (Cert.GlaIdeal.Gen.dats m 0 c).arrAt 8 Cert.GlaIdeal.cfg0.N, fun c => (Cert.GlaIdeal.Gen.dats m 0 c).arrAt 9 Cert.GlaIdeal.cfg0.N,
    fun c => (Cert.GlaIdeal.Gen.dats m 0 c).arrAt 10 Cert.GlaIdeal.cfg0.N, fun c => (Cert.GlaIdeal.Gen.dats m 0 c).arrAt 11 Cert.GlaIdeal.cfg0.N,
    Cert.GlaIdeal.Value.run_blocks m g, ?_⟩
  exact (θ_run Cert.GlaRefIdeal.defs _ _).mono
    (fun r h c => ⟨(h c).1.trans (dq_eq (is_of_pre m c hpre) (hr c)), (h c).2.1.trans (dk_eq (is_of_pre m c hpre) (hr c)),
      (h c).2.2.1.trans (dv_eq (is_of_pre m c hpre) (hr c)), (h c).2.2.2.1.trans (dp_eq (is_of_pre m c hpre) (hr c)), (h c).2.2.2.2⟩)
    (Ref.run m' g')

end Cert.GlaProof
-- ==== Proof.GlaFwd.Math.lean ====
/- The state of one head's gated linear attention, walked up the chunks, and the output it gives. -/
module

public import proofs.«01_k».proof.Proof.Gla.Math

@[expose] public section

noncomputable section

namespace Cert.GlaProof.Head

variable (X : Head)

/-- The output: the chunk's own values by their scores, and the state before the chunk. -/
def out (n : Fin 128) (i : Fin 64) (v : Fin 256) : ℝ := ∑ j, X.scores n i j * X.v n j v + ∑ d, X.qin n i d * X.st n v d

/-- Before the first chunk the state is zero. -/
theorem st_zero (v : Fin 256) (d : Fin 128) : X.st 0 v d = 0 := by
  unfold st
  refine Finset.sum_eq_zero fun m _ => ?_
  rw [show X.dec 0 m d = 0 from X.dec_ge d (Fin.zero_le m), mul_zero]

/-- The next chunk's state: this one's, decayed, and what this chunk adds. -/
theorem st_step {n n' : Fin 128} (h : n.val + 1 = n'.val) (v : Fin 256) (d : Fin 128) :
    X.st n' v d = X.st n v d * Real.exp (X.bl n d) + X.kv n v d := by
  unfold st
  have e : X.kv n v d = ∑ m, if m = n then X.kv m v d else 0 := by simp
  rw [e, Finset.sum_mul, ← Finset.sum_add_distrib]
  refine Finset.sum_congr rfl fun m _ => ?_
  rcases lt_trichotomy m n with hm | rfl | hm
  · have hn : m < n' := Fin.lt_def.2 (by have := Fin.lt_def.1 hm; omega)
    have hnn : n < n' := Fin.lt_def.2 (by omega)
    have e0 : X.diff n' n d = 0 := by
      unfold diff
      refine Finset.sum_eq_zero fun j _ => if_neg fun hj => ?_
      have h1 := Fin.lt_def.1 hj.1
      have h2 := Fin.lt_def.1 hj.2
      omega
    rw [X.dec_lt d hm, X.dec_lt d hn, if_neg hm.ne, X.diff_split d hm hnn, e0, add_zero, Real.exp_add]
    ring
  · have e0 : X.diff n' m d = 0 := by
      unfold diff
      refine Finset.sum_eq_zero fun j _ => if_neg fun hj => ?_
      have h1 := Fin.lt_def.1 hj.1
      have h2 := Fin.lt_def.1 hj.2
      omega
    rw [X.dec_lt d (Fin.lt_def.2 (by omega)), X.dec_ge d le_rfl, if_pos rfl, e0, Real.exp_zero]
    ring
  · rw [X.dec_ge d (Fin.le_def.2 (by have := Fin.lt_def.1 hm; omega)), X.dec_ge d hm.le, if_neg hm.ne']
    ring

end Cert.GlaProof.Head
-- ==== Proof.GlaFwd.Pay.lean ====
/- The values one grid point of the gated linear attention computes from its block, as real functions of the head, the chunk, the row and
   the column. -/
module

public import proofs.«01_k».proof.Proof.Gen.GlaFwdIdeal.Value
public import proofs.«01_k».proof.Proof.Gla.Index
public import proofs.«01_k».proof.Proof.GlaFwd.Math
public import Idealize.ShloMosaic.Lib.Pipeline.ValueKit
public import Idealize.ShloMosaic.Lib.Pointwise

@[expose] public section

set_option maxRecDepth 16384

noncomputable section

namespace Cert.GlaFwdProof

open Idealize.ShloMosaic Idealize.ShloMosaic.TcCoe Idealize.SL.Sem Cert.GlaFwdIdeal Cert.GlaFwdIdeal.Gen Cert.NormBack Cert.GlaProof

/- Heads first. -/

theorem p7 (x : Vec Ideal S512x512 .f32) (β : Fin 32) (i : Fin 64) (d : Fin 128) : k0_pay7 x (ix3 β i d) = x (ix2 (rw' β i) (ck β d)) := by
  pointwise [k0_pay7]
  repeat' split
  all_goals exact cong2 (fun a b => x (ix2 a b)) (by simp only [rw']; omega) (by simp only [ck]; omega)

theorem p18 (x : Vec Ideal S512x1024 .bf16) (β : Fin 32) (i : Fin 64) (d : Fin 256) : k0_pay18 x (ix3 β i d) = x (ix2 (rw' β i) (cv β d)) := by
  pointwise [k0_pay18]
  repeat' split
  all_goals exact cong2 (fun a b => x (ix2 a b)) (by simp only [rw']; omega) (by simp only [cv]; omega)

theorem p9 (x3 : Vec Ideal S512x128 .f32) (x4 : Vec Ideal S128x512 .f32) (x5 : Vec Ideal S1x512 .f32) (r l : Fin 512) :
    k0_pay9 x3 x4 x5 (ix2 r l) = ∑ x, x3 (ix2 r x) * x4 (ix2 x l) + x5 (ix2 0 l) := by
  pointwise [k0_pay9]

/-- The four heads' decay logits, one head behind the other. -/
abbrev cat (v39 v41 v43 : FVec Ideal S8x64x128 .f32) (v44 : FVec Ideal S512x128 .f32) : FVec Ideal S32x64x128 .f32 :=
  concatenate S32x64x128 0 [⟨S8x64x128, v39⟩, ⟨S8x64x128, v41⟩, ⟨S8x64x128, v43⟩, ⟨S8x64x128, shapeCast S8x64x128 v44 shapeCasts_S512x128_S8x64x128⟩]
    concatenates_S8x64x128_S8x64x128_S8x64x128_S8x64x128_S32x64x128_d0

theorem cat_at (x3 : Vec Ideal S512x128 .f32) (x4 : Vec Ideal S128x512 .f32) (x5 : Vec Ideal S1x512 .f32) (β : Fin 32) (i : Fin 64) (d : Fin 128) :
    cat (k0_pay10 x3 x4 x5) (k0_pay11 x3 x4 x5) (k0_pay12 x3 x4 x5) (k0_pay13 x3 x4 x5) (ix3 β i d) =
      ∑ x, x3 (ix2 (rw' β i) x) * x4 (ix2 x (ck β d)) + x5 (ix2 0 (ck β d)) := by
  rw [← p9]
  generalize e : k0_pay9 x3 x4 x5 = y
  unfold k0_pay10 k0_pay11 k0_pay12 k0_pay13
  rw [e]
  pointwise [cat]
  repeat' split
  all_goals exact cong2 (fun a b => y (ix2 a b)) (by simp only [rw']; omega) (by simp only [ck]; omega)

/- The masks. -/

theorem p5 (i j : Fin 64) : k0_pay5 (ix2 i j) = if j ≤ i then 1#1 else 0#1 := by
  pointwise [k0_pay5]
  revert i j
  decide +kernel

theorem p6 (i j : Fin 64) : k0_pay6 (F := Ideal) (ix2 i j) = ((if j ≤ i then 1 else 0 : ℝ) : EReal) := by
  pointwise [k0_pay6]
  rw [p5]
  split_ifs
  · exact sitofp_one
  · exact sitofp_zero

section Block

variable (X : Fin 4 → Head) (r : Fin 16)
variable (v7 : FVec Ideal S64x64 .f32) (v39 v41 v43 : FVec Ideal S8x64x128 .f32) (v44 : FVec Ideal S512x128 .f32)
variable (h7 : ∀ i j, v7 (ix2 i j) = ((if j ≤ i then 1 else 0 : ℝ) : EReal))
variable (hp : ∀ β i d, cat v39 v41 v43 v44 (ix3 β i d) = (((X (hd β)).p (ch r β) i d : ℝ) : EReal))

include h7 hp

theorem p14 (β : Fin 32) (i : Fin 64) (d : Fin 128) : k0_pay14 v7 v39 v41 v43 v44 (ix3 β i d) = (((X (hd β)).b (ch r β) i d : ℝ) : EReal) := by
  unfold cat at hp
  dsimp only [k0_pay14]
  generalize concatenate S32x64x128 0 [⟨S8x64x128, v39⟩, ⟨S8x64x128, v41⟩, ⟨S8x64x128, v43⟩,
    ⟨S8x64x128, shapeCast S8x64x128 v44 shapeCasts_S512x128_S8x64x128⟩] concatenates_S8x64x128_S8x64x128_S8x64x128_S8x64x128_S32x64x128_d0 = C at hp ⊢
  pointwise
  simp only [hp, h7, lsg_eq, c16th, ← EReal.coe_mul, coe_sum]
  refine congrArg _ (Finset.sum_congr rfl fun j _ => ?_)
  unfold Head.la
  split_ifs <;> ring

theorem p15 (β : Fin 32) (d : Fin 128) : k0_pay15 v7 v39 v41 v43 v44 (ix3 β 0 d) = (((X (hd β)).bl (ch r β) d : ℝ) : EReal) := by
  pointwise [k0_pay15]
  exact p14 X r v7 v39 v41 v43 v44 h7 hp β 63 d

theorem p17 (β : Fin 32) (d : Fin 128) : k0_pay17 v7 v39 v41 v43 v44 (ix3 β 0 d) = ((Real.exp ((X (hd β)).bl (ch r β) d) : ℝ) : EReal) := by
  pointwise [k0_pay17]
  rw [p15 X r v7 v39 v41 v43 v44 h7 hp, Ideal.exp_coe]

theorem p16 (v29 : FVec Ideal S32x64x128 .f32) (h : ∀ β i d, v29 (ix3 β i d) = (((X (hd β)).k (ch r β) i d : ℝ) : EReal))
    (β : Fin 32) (i : Fin 64) (d : Fin 128) : k0_pay16 v7 v29 v39 v41 v43 v44 (ix3 β i d) = (((X (hd β)).kst (ch r β) i d : ℝ) : EReal) := by
  pointwise [k0_pay16]
  rw [p14 X r v7 v39 v41 v43 v44 h7 hp, p15 X r v7 v39 v41 v43 v44 h7 hp, h, ← EReal.coe_sub, Ideal.exp_coe, ← EReal.coe_mul]
  rfl

variable (v18 : FVec Ideal S32x64x128 .f32) (hq : ∀ β i d, v18 (ix3 β i d) = (((X (hd β)).q (ch r β) i d : ℝ) : EReal))
variable (hs : ∀ h, (X h).sc = scale)

include hq hs

theorem p19 (β : Fin 32) (i : Fin 64) (d : Fin 128) :
    k0_pay19 v7 v18 v39 v41 v43 v44 (ix3 β i d) = (((X (hd β)).qin (ch r β) i d : ℝ) : EReal) := by
  pointwise [k0_pay19]
  rw [p14 X r v7 v39 v41 v43 v44 h7 hp, Ideal.exp_coe, hq, cscale, ← EReal.coe_mul, ← EReal.coe_mul, ← hs (hd β)]
  rfl

theorem p20 (v5 : IVec S64x64 1) (h5 : ∀ i j, v5 (ix2 i j) = if j ≤ i then 1#1 else 0#1)
    (v29 : FVec Ideal S32x64x128 .f32) (h : ∀ β i d, v29 (ix3 β i d) = (((X (hd β)).k (ch r β) i d : ℝ) : EReal))
    (β : Fin 32) (i j : Fin 64) : k0_pay20 v5 v7 v18 v29 v39 v41 v43 v44 (ix3 β i j) = (((X (hd β)).scores (ch r β) i j : ℝ) : EReal) := by
  pointwise [k0_pay20]
  simp only [p19 X r v7 v39 v41 v43 v44 h7 hp v18 hq hs, p14 X r v7 v39 v41 v43 v44 h7 hp, h, h5, zero_sub, ← EReal.coe_neg, Ideal.exp_coe,
    ← EReal.coe_mul, coe_sum, select_if, coe_if]
  rfl

end Block

section Out

variable (X : Fin 4 → Head) (r : Fin 16)
variable (v86 : FVec Ideal S32x64x256 .bf16) (h86 : ∀ β i v, v86 (ix3 β i v) = (((X (hd β)).v (ch r β) i v : ℝ) : EReal))

include h86

theorem p21 (v74 : FVec Ideal S32x64x128 .f32) (h74 : ∀ β i d, v74 (ix3 β i d) = (((X (hd β)).kst (ch r β) i d : ℝ) : EReal))
    (β : Fin 32) (v : Fin 256) (d : Fin 128) : k0_pay21 v74 v86 (ix3 β v d) = (((X (hd β)).kv (ch r β) v d : ℝ) : EReal) := by
  pointwise [k0_pay21]
  simp only [h86, h74, ← EReal.coe_mul, coe_sum]
  rfl

/-- The output, heads last. -/
theorem p3 (v87 : FVec Ideal S32x64x128 .bf16) (v93 : FVec Ideal S32x64x64 .f32) (v372 : FVec Ideal S32x256x128 .f32)
    (h87 : ∀ β i d, v87 (ix3 β i d) = (((X (hd β)).qin (ch r β) i d : ℝ) : EReal))
    (h93 : ∀ β i j, v93 (ix3 β i j) = (((X (hd β)).scores (ch r β) i j : ℝ) : EReal))
    (h372 : ∀ β v d, v372 (ix3 β v d) = (((X (hd β)).st (ch r β) v d : ℝ) : EReal)) (a : Fin 512) (l : Fin 1024) :
    k0_pay3 v86 v87 v93 v372 (ix2 a l) = (((X (hd (bv a l))).out (ch r (bv a l)) (ri a) (dv' l) : ℝ) : EReal) := by
  have e : k0_pay3 v86 v87 v93 v372 (ix2 a l) =
      (fun (β : Fin 32) (i : Fin 64) (v : Fin 256) => ∑ j, v93 (ix3 β i j) * v86 (ix3 β j v) + ∑ d, v87 (ix3 β i d) * v372 (ix3 β v d)) (bv a l) (ri a) (dv' l) := by
    pointwise [k0_pay3]
    repeat' split
    all_goals
      refine cong3 (fun (β : Fin 32) (i : Fin 64) (v : Fin 256) => ∑ j, v93 (ix3 β i j) * v86 (ix3 β j v) + ∑ d, v87 (ix3 β i d) * v372 (ix3 β v d)) ?_ ?_ ?_ <;>
        simp only [bv, ri, dv'] <;> omega
  rw [e]
  simp only [h86, h87, h93, h372, ← EReal.coe_mul, coe_sum, ← EReal.coe_add]
  rfl

end Out

/-- The states before the block's chunks, by head and chunk. -/
theorem p2 (v372 : FVec Ideal S32x256x128 .f32) (h : Fin 4) (e : Fin 8) (v : Fin 256) (d : Fin 128) :
    k0_pay2 v372 (ix4 h e v d) = v372 (ix3 (⟨8 * h.val + e.val, by omega⟩ : Fin 32) v d) := by
  pointwise [k0_pay2]
  try exact cong3 (fun a b c => v372 (ix3 a b c)) (by dsimp only; omega) rfl rfl

end Cert.GlaFwdProof
-- ==== Proof.GlaFwd.Chain.lean ====
/- The state, walked up the eight chunks of a block for each head, and the thirty-two of them put into one array. -/
module

public import proofs.«01_k».proof.Proof.GlaFwd.Pay

@[expose] public section

set_option maxRecDepth 16384

noncomputable section

namespace Cert.GlaFwdProof

open Idealize.ShloMosaic Idealize.ShloMosaic.TcCoe Idealize.SL.Sem Cert.GlaFwdIdeal Cert.GlaFwdIdeal.Gen Cert.NormBack Cert.GlaProof

/-- The first head's arrays, chunk by chunk. -/
def arr0 (v74 : FVec Ideal S32x64x128 .f32) (v75 : FVec Ideal S32x1x128 .f32) (v86 : FVec Ideal S32x64x256 .bf16) (s : Vec Ideal S1x256x128 .f32) : Fin 8 → FVec Ideal S256x128 .f32 :=
  ![k0_pay22 s,
    k0_pay23 v74 v75 v86 s,
    k0_pay24 v74 v75 v86 s,
    k0_pay25 v74 v75 v86 s,
    k0_pay26 v74 v75 v86 s,
    k0_pay27 v74 v75 v86 s,
    k0_pay28 v74 v75 v86 s,
    k0_pay29 v74 v75 v86 s]

/-- The second head's arrays, chunk by chunk. -/
def arr1 (v75 : FVec Ideal S32x1x128 .f32) (v95 : FVec Ideal S32x256x128 .f32) (s : Vec Ideal S1x256x128 .f32) : Fin 8 → FVec Ideal S256x128 .f32 :=
  ![k0_pay32 s,
    k0_pay33 v75 v95 s,
    k0_pay34 v75 v95 s,
    k0_pay35 v75 v95 s,
    k0_pay36 v75 v95 s,
    k0_pay37 v75 v95 s,
    k0_pay38 v75 v95 s,
    k0_pay40 v95 (k0_pay38 v75 v95 s) (k0_pay39 v75)]

/-- The third head's arrays, chunk by chunk. -/
def arr2 (v75 : FVec Ideal S32x1x128 .f32) (v95 : FVec Ideal S32x256x128 .f32) (s : Vec Ideal S1x256x128 .f32) : Fin 8 → FVec Ideal S256x128 .f32 :=
  ![k0_pay42 s,
    k0_pay43 v75 v95 s,
    k0_pay44 v75 v95 s,
    k0_pay45 v75 v95 s,
    k0_pay46 v75 v95 s,
    k0_pay47 v75 v95 s,
    k0_pay49 v95 (k0_pay47 v75 v95 s) (k0_pay48 v75),
    k0_pay50 v75 v95 (k0_pay47 v75 v95 s) (k0_pay48 v75)]

/-- The fourth head's arrays, chunk by chunk. -/
def arr3 (v75 : FVec Ideal S32x1x128 .f32) (v95 : FVec Ideal S32x256x128 .f32) (s : Vec Ideal S1x256x128 .f32) : Fin 8 → FVec Ideal S256x128 .f32 :=
  ![k0_pay52 s,
    k0_pay53 v75 v95 s,
    k0_pay54 v75 v95 s,
    k0_pay55 v75 v95 s,
    k0_pay56 v75 v95 s,
    k0_pay57 v75 v95 (k0_pay56 v75 v95 s),
    k0_pay58 v75 v95 (k0_pay56 v75 v95 s),
    k0_pay59 v75 v95 (k0_pay56 v75 v95 s)]

variable (X : Fin 4 → Head) (r : Fin 16)

/-- The array holds the state before batch entry `β`'s chunk. -/
def Holds (β : Fin 32) (A : FVec Ideal S256x128 .f32) : Prop := ∀ v d, A (ix2 v d) = (((X (hd β)).st (ch r β) v d : ℝ) : EReal)

/-- What the head's scratch holds after a block: the state after the block's last chunk. -/
def above (h : Fin 4) (v : Fin 256) (d : Fin 128) : ℝ :=
  (X h).st ⟨8 * r.val + 7, by omega⟩ v d * Real.exp ((X h).bl ⟨8 * r.val + 7, by omega⟩ d) + (X h).kv ⟨8 * r.val + 7, by omega⟩ v d

/-- After a block that another follows, the scratch holds the state before the next block's first chunk. -/
theorem above_next {r r' : Fin 16} (hr : r.val + 1 = r'.val) (h : Fin 4) (v : Fin 256) (d : Fin 128) :
    above X r h v d = (X h).st ⟨8 * r'.val, by omega⟩ v d := by
  unfold above
  exact ((X h).st_step (by dsimp only; omega) v d).symm

variable (v75 : FVec Ideal S32x1x128 .f32) (v95 : FVec Ideal S32x256x128 .f32)
variable (h75 : ∀ β d, v75 (ix3 β 0 d) = ((Real.exp ((X (hd β)).bl (ch r β) d) : ℝ) : EReal))
variable (h95 : ∀ β v d, v95 (ix3 β v d) = (((X (hd β)).kv (ch r β) v d : ℝ) : EReal))

include h75 h95

/-- One step up the chunks. -/
theorem step (β : Fin 32) (hβ : β.val % 8 ≠ 7) {A A' : FVec Ideal S256x128 .f32} (hA : Holds X r β A)
    (h : ∀ v d, A' (ix2 v d) = A (ix2 v d) * v75 (ix3 β 0 d) + v95 (ix3 β v d)) : Holds X r ⟨β.val + 1, by omega⟩ A' := by
  intro v d
  rw [h, hA, h75, h95, ← EReal.coe_mul, ← EReal.coe_add]
  have e : hd ⟨β.val + 1, by omega⟩ = hd β := Fin.ext (by simp only [hd]; omega)
  rw [e]
  refine congrArg _ ((X (hd β)).st_step ?_ v d).symm
  simp only [ch]
  omega

/-- The step from the block's last chunk to the scratch. -/
theorem last (h : Fin 4) {A : FVec Ideal S256x128 .f32} {A' : FVec Ideal S1x256x128 .f32} (hA : Holds X r ⟨8 * h.val + 7, by omega⟩ A)
    (e : ∀ v d, A' (ix3 0 v d) = A (ix2 v d) * v75 (ix3 ⟨8 * h.val + 7, by omega⟩ 0 d) + v95 (ix3 ⟨8 * h.val + 7, by omega⟩ v d)) (v : Fin 256) (d : Fin 128) :
    A' (ix3 0 v d) = ((above X r h v d : ℝ) : EReal) := by
  rw [e, hA, h75, h95, ← EReal.coe_mul, ← EReal.coe_add]
  have e1 : hd ⟨8 * h.val + 7, by omega⟩ = h := Fin.ext (by simp only [hd]; omega)
  have e2 : ch r ⟨8 * h.val + 7, by omega⟩ = ⟨8 * r.val + 7, by omega⟩ := Fin.ext (by simp only [ch]; omega)
  rw [e1, e2]
  rfl

omit h75 h95 in
/-- The block's first chunk's, read from the scratch. -/
theorem first (h : Fin 4) {A : FVec Ideal S256x128 .f32} {s : Vec Ideal S1x256x128 .f32}
    (hs : ∀ v d, s (ix3 0 v d) = (((X h).st ⟨8 * r.val, by omega⟩ v d : ℝ) : EReal)) (e : ∀ v d, A (ix2 v d) = s (ix3 0 v d)) :
    Holds X r ⟨8 * h.val, by omega⟩ A := by
  intro v d
  rw [e, hs]
  have e1 : hd ⟨8 * h.val, by omega⟩ = h := Fin.ext (by simp only [hd]; omega)
  have e2 : ch r ⟨8 * h.val, by omega⟩ = ⟨8 * r.val, by omega⟩ := Fin.ext (by simp only [ch]; omega)
  rw [e1, e2]

omit h75 h95 in
theorem all8 {P : Fin 8 → Prop} (a0 : P 0) (a1 : P 1) (a2 : P 2) (a3 : P 3) (a4 : P 4) (a5 : P 5) (a6 : P 6) (a7 : P 7) (c : Fin 8) : P c :=
  match c with
  | 0 => a0
  | 1 => a1
  | 2 => a2
  | 3 => a3
  | 4 => a4
  | 5 => a5
  | 6 => a6
  | 7 => a7

omit h95 in
theorem holds0 (v74 : FVec Ideal S32x64x128 .f32) (v86 : FVec Ideal S32x64x256 .bf16)
    (h21 : ∀ β v d, k0_pay21 v74 v86 (ix3 β v d) = (((X (hd β)).kv (ch r β) v d : ℝ) : EReal))
    (s : Vec Ideal S1x256x128 .f32)
    (hs : ∀ v d, s (ix3 0 v d) = (((X 0).st ⟨8 * r.val, by omega⟩ v d : ℝ) : EReal)) :
    (∀ c : Fin 8, Holds X r ⟨8 * 0 + c.val, by omega⟩ (arr0 v74 v75 v86 s c)) ∧ ∀ v d, k0_pay31 (k0_pay21 v74 v86) (k0_pay29 v74 v75 v86 s) (k0_pay30 v75) (ix3 0 v d) = ((above X r 0 v d : ℝ) : EReal) := by
  have a0 : Holds X r 0 (arr0 v74 v75 v86 s 0) := first X r 0 hs fun v d => by pointwise [arr0, k0_pay22]
  have a1 : Holds X r 1 (arr0 v74 v75 v86 s 1) := step X r v75 (k0_pay21 v74 v86) h75 h21 0 (by decide) a0 fun v d => by pointwise [arr0, k0_pay23]
  have a2 : Holds X r 2 (arr0 v74 v75 v86 s 2) := step X r v75 (k0_pay21 v74 v86) h75 h21 1 (by decide) a1 fun v d => by pointwise [arr0, k0_pay24]
  have a3 : Holds X r 3 (arr0 v74 v75 v86 s 3) := step X r v75 (k0_pay21 v74 v86) h75 h21 2 (by decide) a2 fun v d => by pointwise [arr0, k0_pay25]
  have a4 : Holds X r 4 (arr0 v74 v75 v86 s 4) := step X r v75 (k0_pay21 v74 v86) h75 h21 3 (by decide) a3 fun v d => by pointwise [arr0, k0_pay26]
  have a5 : Holds X r 5 (arr0 v74 v75 v86 s 5) := step X r v75 (k0_pay21 v74 v86) h75 h21 4 (by decide) a4 fun v d => by pointwise [arr0, k0_pay27]
  have a6 : Holds X r 6 (arr0 v74 v75 v86 s 6) := step X r v75 (k0_pay21 v74 v86) h75 h21 5 (by decide) a5 fun v d => by pointwise [arr0, k0_pay28]
  have a7 : Holds X r 7 (arr0 v74 v75 v86 s 7) := step X r v75 (k0_pay21 v74 v86) h75 h21 6 (by decide) a6 fun v d => by pointwise [arr0, k0_pay29]
  exact ⟨all8 a0 a1 a2 a3 a4 a5 a6 a7, last X r v75 (k0_pay21 v74 v86) h75 h21 0 a7 fun v d => by pointwise [arr0, k0_pay31, k0_pay30]⟩

theorem holds1 (s : Vec Ideal S1x256x128 .f32)
    (hs : ∀ v d, s (ix3 0 v d) = (((X 1).st ⟨8 * r.val, by omega⟩ v d : ℝ) : EReal)) :
    (∀ c : Fin 8, Holds X r ⟨8 * 1 + c.val, by omega⟩ (arr1 v75 v95 s c)) ∧ ∀ v d, k0_pay41 v75 v95 (k0_pay38 v75 v95 s) (k0_pay39 v75) (ix3 0 v d) = ((above X r 1 v d : ℝ) : EReal) := by
  have a0 : Holds X r 8 (arr1 v75 v95 s 0) := first X r 1 hs fun v d => by pointwise [arr1, k0_pay32]
  have a1 : Holds X r 9 (arr1 v75 v95 s 1) := step X r v75 v95 h75 h95 8 (by decide) a0 fun v d => by pointwise [arr1, k0_pay33]
  have a2 : Holds X r 10 (arr1 v75 v95 s 2) := step X r v75 v95 h75 h95 9 (by decide) a1 fun v d => by pointwise [arr1, k0_pay34]
  have a3 : Holds X r 11 (arr1 v75 v95 s 3) := step X r v75 v95 h75 h95 10 (by decide) a2 fun v d => by pointwise [arr1, k0_pay35]
  have a4 : Holds X r 12 (arr1 v75 v95 s 4) := step X r v75 v95 h75 h95 11 (by decide) a3 fun v d => by pointwise [arr1, k0_pay36]
  have a5 : Holds X r 13 (arr1 v75 v95 s 5) := step X r v75 v95 h75 h95 12 (by decide) a4 fun v d => by pointwise [arr1, k0_pay37]
  have a6 : Holds X r 14 (arr1 v75 v95 s 6) := step X r v75 v95 h75 h95 13 (by decide) a5 fun v d => by pointwise [arr1, k0_pay38]
  have a7 : Holds X r 15 (arr1 v75 v95 s 7) := step X r v75 v95 h75 h95 14 (by decide) a6 fun v d => by pointwise [arr1, k0_pay40, k0_pay39]
  exact ⟨all8 a0 a1 a2 a3 a4 a5 a6 a7, last X r v75 v95 h75 h95 1 a7 fun v d => by pointwise [arr1, k0_pay41]⟩

theorem holds2 (s : Vec Ideal S1x256x128 .f32)
    (hs : ∀ v d, s (ix3 0 v d) = (((X 2).st ⟨8 * r.val, by omega⟩ v d : ℝ) : EReal)) :
    (∀ c : Fin 8, Holds X r ⟨8 * 2 + c.val, by omega⟩ (arr2 v75 v95 s c)) ∧ ∀ v d, k0_pay51 v75 v95 (k0_pay47 v75 v95 s) (k0_pay48 v75) (ix3 0 v d) = ((above X r 2 v d : ℝ) : EReal) := by
  have a0 : Holds X r 16 (arr2 v75 v95 s 0) := first X r 2 hs fun v d => by pointwise [arr2, k0_pay42]
  have a1 : Holds X r 17 (arr2 v75 v95 s 1) := step X r v75 v95 h75 h95 16 (by decide) a0 fun v d => by pointwise [arr2, k0_pay43]
  have a2 : Holds X r 18 (arr2 v75 v95 s 2) := step X r v75 v95 h75 h95 17 (by decide) a1 fun v d => by pointwise [arr2, k0_pay44]
  have a3 : Holds X r 19 (arr2 v75 v95 s 3) := step X r v75 v95 h75 h95 18 (by decide) a2 fun v d => by pointwise [arr2, k0_pay45]
  have a4 : Holds X r 20 (arr2 v75 v95 s 4) := step X r v75 v95 h75 h95 19 (by decide) a3 fun v d => by pointwise [arr2, k0_pay46]
  have a5 : Holds X r 21 (arr2 v75 v95 s 5) := step X r v75 v95 h75 h95 20 (by decide) a4 fun v d => by pointwise [arr2, k0_pay47]
  have a6 : Holds X r 22 (arr2 v75 v95 s 6) := step X r v75 v95 h75 h95 21 (by decide) a5 fun v d => by pointwise [arr2, k0_pay49, k0_pay48]
  have a7 : Holds X r 23 (arr2 v75 v95 s 7) := step X r v75 v95 h75 h95 22 (by decide) a6 fun v d => by pointwise [arr2, k0_pay50]
  exact ⟨all8 a0 a1 a2 a3 a4 a5 a6 a7, last X r v75 v95 h75 h95 2 a7 fun v d => by pointwise [arr2, k0_pay51]⟩

theorem holds3 (s : Vec Ideal S1x256x128 .f32)
    (hs : ∀ v d, s (ix3 0 v d) = (((X 3).st ⟨8 * r.val, by omega⟩ v d : ℝ) : EReal)) :
    (∀ c : Fin 8, Holds X r ⟨8 * 3 + c.val, by omega⟩ (arr3 v75 v95 s c)) ∧ ∀ v d, k0_pay60 v75 v95 (k0_pay56 v75 v95 s) (ix3 0 v d) = ((above X r 3 v d : ℝ) : EReal) := by
  have a0 : Holds X r 24 (arr3 v75 v95 s 0) := first X r 3 hs fun v d => by pointwise [arr3, k0_pay52]
  have a1 : Holds X r 25 (arr3 v75 v95 s 1) := step X r v75 v95 h75 h95 24 (by decide) a0 fun v d => by pointwise [arr3, k0_pay53]
  have a2 : Holds X r 26 (arr3 v75 v95 s 2) := step X r v75 v95 h75 h95 25 (by decide) a1 fun v d => by pointwise [arr3, k0_pay54]
  have a3 : Holds X r 27 (arr3 v75 v95 s 3) := step X r v75 v95 h75 h95 26 (by decide) a2 fun v d => by pointwise [arr3, k0_pay55]
  have a4 : Holds X r 28 (arr3 v75 v95 s 4) := step X r v75 v95 h75 h95 27 (by decide) a3 fun v d => by pointwise [arr3, k0_pay56]
  have a5 : Holds X r 29 (arr3 v75 v95 s 5) := step X r v75 v95 h75 h95 28 (by decide) a4 fun v d => by pointwise [arr3, k0_pay57]
  have a6 : Holds X r 30 (arr3 v75 v95 s 6) := step X r v75 v95 h75 h95 29 (by decide) a5 fun v d => by pointwise [arr3, k0_pay58]
  have a7 : Holds X r 31 (arr3 v75 v95 s 7) := step X r v75 v95 h75 h95 30 (by decide) a6 fun v d => by pointwise [arr3, k0_pay59]
  exact ⟨all8 a0 a1 a2 a3 a4 a5 a6 a7, last X r v75 v95 h75 h95 3 a7 fun v d => by pointwise [arr3, k0_pay60]⟩

omit h75 h95 in
theorem held {β β' : Fin 32} {A : FVec Ideal S256x128 .f32} (H : Holds X r β' A) (e : β.val = β'.val) (v : Fin 256) (d : Fin 128) :
    A (ix2 v d) = (((X (hd β)).st (ch r β) v d : ℝ) : EReal) := by
  rw [Fin.ext e]
  exact H v d

/-- The thirty-two arrays in one. -/
def all32 (A0 A1 A2 A3 : Fin 8 → FVec Ideal S256x128 .f32) : FVec Ideal S32x256x128 .f32 :=
  k0_pay1 (A3 1) (A3 2) (A3 3) (A3 4) (A3 5) (A3 6) (A3 7) (k0_pay61 (A0 0)) (k0_pay62 (A0 1)) (k0_pay63 (A0 2)) (k0_pay64 (A0 3)) (k0_pay65 (A0 4)) (k0_pay66 (A0 5)) (k0_pay67 (A0 6)) (k0_pay68 (A0 7))
    (k0_pay69 (A1 0)) (k0_pay70 (A1 1)) (k0_pay71 (A1 2)) (k0_pay72 (A1 3)) (k0_pay73 (A1 4)) (k0_pay74 (A1 5)) (k0_pay75 (A1 6)) (k0_pay76 (A1 7))
    (k0_pay77 (A2 0)) (k0_pay78 (A2 1)) (k0_pay79 (A2 2)) (k0_pay80 (A2 3)) (k0_pay81 (A2 4)) (k0_pay82 (A2 5)) (k0_pay83 (A2 6)) (k0_pay84 (A2 7)) (k0_pay85 (A3 0))

omit h75 h95 in
theorem all32_at (A0 A1 A2 A3 : Fin 8 → FVec Ideal S256x128 .f32) (H0 : ∀ c : Fin 8, Holds X r ⟨8 * 0 + c.val, by omega⟩ (A0 c))
    (H1 : ∀ c : Fin 8, Holds X r ⟨8 * 1 + c.val, by omega⟩ (A1 c)) (H2 : ∀ c : Fin 8, Holds X r ⟨8 * 2 + c.val, by omega⟩ (A2 c))
    (H3 : ∀ c : Fin 8, Holds X r ⟨8 * 3 + c.val, by omega⟩ (A3 c)) (β : Fin 32) (v : Fin 256) (d : Fin 128) :
    all32 A0 A1 A2 A3 (ix3 β v d) = (((X (hd β)).st (ch r β) v d : ℝ) : EReal) := by
  pointwise [all32, k0_pay1, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
  rw [← Nat.sub_zero β.val]
  simp only [Nat.sub_sub, Nat.reduceAdd]
  have hβ : 0 ≤ β.val := Nat.zero_le _
  have hlt := β.isLt
  iterate 31
    refine pick (by assumption) (fun e => by
      first
        | exact held X r (H0 _) e v d
        | exact held X r (H1 _) e v d
        | exact held X r (H2 _) e v d
        | exact held X r (H3 _) e v d) fun hβ => ?_
  exact held X r (H3 7) (le_antisymm (Nat.le_of_lt_succ hlt) hβ) v d

end Cert.GlaFwdProof
-- ==== Proof.GlaFwd.Block.lean ====
/- Everything one grid point computes, from its blocks and the scratch it is handed. -/
module

public import proofs.«01_k».proof.Proof.GlaFwd.Chain

@[expose] public section

set_option maxRecDepth 16384

noncomputable section

namespace Cert.GlaFwdProof

open Idealize.ShloMosaic Idealize.ShloMosaic.TcCoe Idealize.SL.Sem Cert.GlaFwdIdeal Cert.GlaFwdIdeal.Gen Cert.NormBack Cert.GlaProof

/-- The blocks of the grid point at block `r`, and the scratch it is handed, hold the heads' arrays. -/
structure Blk (X : Fin 4 → Head) (r : Fin 16) (x0 x1 : Vec Ideal S512x512 .f32) (x2 : Vec Ideal S512x1024 .bf16) (x3 : Vec Ideal S512x128 .f32)
    (x4 : Vec Ideal S128x512 .f32) (x5 : Vec Ideal S1x512 .f32) (s0 s1 s2 s3 : Vec Ideal S1x256x128 .f32) : Prop where
  sc : ∀ h, (X h).sc = scale
  q : ∀ β i d, x0 (ix2 (rw' β i) (ck β d)) = (((X (hd β)).q (ch r β) i d : ℝ) : EReal)
  k : ∀ β i d, x1 (ix2 (rw' β i) (ck β d)) = (((X (hd β)).k (ch r β) i d : ℝ) : EReal)
  v : ∀ β i v, x2 (ix2 (rw' β i) (cv β v)) = (((X (hd β)).v (ch r β) i v : ℝ) : EReal)
  p : ∀ β i d, ∑ x, x3 (ix2 (rw' β i) x) * x4 (ix2 x (ck β d)) + x5 (ix2 0 (ck β d)) = (((X (hd β)).p (ch r β) i d : ℝ) : EReal)
  s0 : ∀ v d, s0 (ix3 0 v d) = (((X 0).st ⟨8 * r.val, by omega⟩ v d : ℝ) : EReal)
  s1 : ∀ v d, s1 (ix3 0 v d) = (((X 1).st ⟨8 * r.val, by omega⟩ v d : ℝ) : EReal)
  s2 : ∀ v d, s2 (ix3 0 v d) = (((X 2).st ⟨8 * r.val, by omega⟩ v d : ℝ) : EReal)
  s3 : ∀ v d, s3 (ix3 0 v d) = (((X 3).st ⟨8 * r.val, by omega⟩ v d : ℝ) : EReal)

section

variable (x0 x1 : Vec Ideal S512x512 .f32) (x2 : Vec Ideal S512x1024 .bf16) (x3 : Vec Ideal S512x128 .f32)
    (x4 : Vec Ideal S128x512 .f32) (x5 : Vec Ideal S1x512 .f32) (s0 s1 s2 s3 : Vec Ideal S1x256x128 .f32)

/-- The decayed queries and keys, the scores, the chunks' decays and their own parts of the state. -/
abbrev a87 := k0_pay19 k0_pay6 (k0_pay7 x0) (k0_pay10 x3 x4 x5) (k0_pay11 x3 x4 x5) (k0_pay12 x3 x4 x5) (k0_pay13 x3 x4 x5)
abbrev a93 := k0_pay20 k0_pay5 k0_pay6 (k0_pay7 x0) (k0_pay8 x1) (k0_pay10 x3 x4 x5) (k0_pay11 x3 x4 x5) (k0_pay12 x3 x4 x5) (k0_pay13 x3 x4 x5)
abbrev a74 := k0_pay16 k0_pay6 (k0_pay8 x1) (k0_pay10 x3 x4 x5) (k0_pay11 x3 x4 x5) (k0_pay12 x3 x4 x5) (k0_pay13 x3 x4 x5)
abbrev a75 := k0_pay17 k0_pay6 (k0_pay10 x3 x4 x5) (k0_pay11 x3 x4 x5) (k0_pay12 x3 x4 x5) (k0_pay13 x3 x4 x5)
abbrev a95 := k0_pay21 (a74 x1 x3 x4 x5) (k0_pay18 x2)

/-- The states before the block's chunks. -/
abbrev a372 := all32 (arr0 (a74 x1 x3 x4 x5) (a75 x3 x4 x5) (k0_pay18 x2) s0) (arr1 (a75 x3 x4 x5) (a95 x1 x2 x3 x4 x5) s1)
  (arr2 (a75 x3 x4 x5) (a95 x1 x2 x3 x4 x5) s2) (arr3 (a75 x3 x4 x5) (a95 x1 x2 x3 x4 x5) s3)

variable {x0 x1 x2 x3 x4 x5 s0 s1 s2 s3} {X : Fin 4 → Head} {r : Fin 16} (B : Blk X r x0 x1 x2 x3 x4 x5 s0 s1 s2 s3)

include B

theorem Blk.hp (β : Fin 32) (i : Fin 64) (d : Fin 128) :
    cat (k0_pay10 x3 x4 x5) (k0_pay11 x3 x4 x5) (k0_pay12 x3 x4 x5) (k0_pay13 x3 x4 x5) (ix3 β i d) = (((X (hd β)).p (ch r β) i d : ℝ) : EReal) :=
  (cat_at x3 x4 x5 β i d).trans (B.p β i d)

theorem Blk.hq (β : Fin 32) (i : Fin 64) (d : Fin 128) : k0_pay7 x0 (ix3 β i d) = (((X (hd β)).q (ch r β) i d : ℝ) : EReal) :=
  (p7 x0 β i d).trans (B.q β i d)

theorem Blk.hk (β : Fin 32) (i : Fin 64) (d : Fin 128) : k0_pay8 x1 (ix3 β i d) = (((X (hd β)).k (ch r β) i d : ℝ) : EReal) :=
  (p7 x1 β i d).trans (B.k β i d)

theorem Blk.h86 (β : Fin 32) (i : Fin 64) (v : Fin 256) : k0_pay18 x2 (ix3 β i v) = (((X (hd β)).v (ch r β) i v : ℝ) : EReal) :=
  (p18 x2 β i v).trans (B.v β i v)

theorem Blk.h87 (β : Fin 32) (i : Fin 64) (d : Fin 128) : a87 x0 x3 x4 x5 (ix3 β i d) = (((X (hd β)).qin (ch r β) i d : ℝ) : EReal) :=
  p19 X r _ _ _ _ _ p6 B.hp _ B.hq B.sc β i d

theorem Blk.h93 (β : Fin 32) (i j : Fin 64) : a93 x0 x1 x3 x4 x5 (ix3 β i j) = (((X (hd β)).scores (ch r β) i j : ℝ) : EReal) :=
  p20 X r _ _ _ _ _ p6 B.hp _ B.hq B.sc _ p5 _ B.hk β i j

theorem Blk.h74 (β : Fin 32) (i : Fin 64) (d : Fin 128) : a74 x1 x3 x4 x5 (ix3 β i d) = (((X (hd β)).kst (ch r β) i d : ℝ) : EReal) :=
  p16 X r _ _ _ _ _ p6 B.hp _ B.hk β i d

theorem Blk.h75 (β : Fin 32) (d : Fin 128) : a75 x3 x4 x5 (ix3 β 0 d) = ((Real.exp ((X (hd β)).bl (ch r β) d) : ℝ) : EReal) :=
  p17 X r _ _ _ _ _ p6 B.hp β d

theorem Blk.h95 (β : Fin 32) (v : Fin 256) (d : Fin 128) : a95 x1 x2 x3 x4 x5 (ix3 β v d) = (((X (hd β)).kv (ch r β) v d : ℝ) : EReal) :=
  p21 X r _ B.h86 _ B.h74 β v d

/- The states, and what is stored to the four heads' scratch. -/

theorem Blk.g0 (c : Fin 8) : Holds X r ⟨8 * 0 + c.val, by omega⟩ (arr0 (a74 x1 x3 x4 x5) (a75 x3 x4 x5) (k0_pay18 x2) s0 c) := (holds0 X r _ B.h75 _ _ B.h95 s0 B.s0).1 c
theorem Blk.g1 (c : Fin 8) : Holds X r ⟨8 * 1 + c.val, by omega⟩ (arr1 (a75 x3 x4 x5) (a95 x1 x2 x3 x4 x5) s1 c) := (holds1 X r _ _ B.h75 B.h95 s1 B.s1).1 c
theorem Blk.g2 (c : Fin 8) : Holds X r ⟨8 * 2 + c.val, by omega⟩ (arr2 (a75 x3 x4 x5) (a95 x1 x2 x3 x4 x5) s2 c) := (holds2 X r _ _ B.h75 B.h95 s2 B.s2).1 c
theorem Blk.g3 (c : Fin 8) : Holds X r ⟨8 * 3 + c.val, by omega⟩ (arr3 (a75 x3 x4 x5) (a95 x1 x2 x3 x4 x5) s3 c) := (holds3 X r _ _ B.h75 B.h95 s3 B.s3).1 c

theorem Blk.w0 (v : Fin 256) (d : Fin 128) :
    k0_pay31 (a95 x1 x2 x3 x4 x5) (k0_pay29 (a74 x1 x3 x4 x5) (a75 x3 x4 x5) (k0_pay18 x2) s0) (k0_pay30 (a75 x3 x4 x5)) (ix3 0 v d) = ((above X r 0 v d : ℝ) : EReal) :=
  (holds0 X r _ B.h75 _ _ B.h95 s0 B.s0).2 v d
theorem Blk.w1 (v : Fin 256) (d : Fin 128) :
    k0_pay41 (a75 x3 x4 x5) (a95 x1 x2 x3 x4 x5) (k0_pay38 (a75 x3 x4 x5) (a95 x1 x2 x3 x4 x5) s1) (k0_pay39 (a75 x3 x4 x5)) (ix3 0 v d) = ((above X r 1 v d : ℝ) : EReal) :=
  (holds1 X r _ _ B.h75 B.h95 s1 B.s1).2 v d
theorem Blk.w2 (v : Fin 256) (d : Fin 128) :
    k0_pay51 (a75 x3 x4 x5) (a95 x1 x2 x3 x4 x5) (k0_pay47 (a75 x3 x4 x5) (a95 x1 x2 x3 x4 x5) s2) (k0_pay48 (a75 x3 x4 x5)) (ix3 0 v d) = ((above X r 2 v d : ℝ) : EReal) :=
  (holds2 X r _ _ B.h75 B.h95 s2 B.s2).2 v d
theorem Blk.w3 (v : Fin 256) (d : Fin 128) :
    k0_pay60 (a75 x3 x4 x5) (a95 x1 x2 x3 x4 x5) (k0_pay56 (a75 x3 x4 x5) (a95 x1 x2 x3 x4 x5) s3) (ix3 0 v d) = ((above X r 3 v d : ℝ) : EReal) :=
  (holds3 X r _ _ B.h75 B.h95 s3 B.s3).2 v d

theorem Blk.h372 (β : Fin 32) (v : Fin 256) (d : Fin 128) :
    a372 x1 x2 x3 x4 x5 s0 s1 s2 s3 (ix3 β v d) = (((X (hd β)).st (ch r β) v d : ℝ) : EReal) :=
  all32_at X r _ _ _ _ B.g0 B.g1 B.g2 B.g3 β v d

/- The two results. -/

theorem Blk.o (a : Fin 512) (l : Fin 1024) :
    k0_pay3 (k0_pay18 x2) (a87 x0 x3 x4 x5) (a93 x0 x1 x3 x4 x5) (a372 x1 x2 x3 x4 x5 s0 s1 s2 s3) (ix2 a l) =
      (((X (hd (bv a l))).out (ch r (bv a l)) (ri a) (dv' l) : ℝ) : EReal) :=
  p3 X r _ B.h86 _ _ _ B.h87 B.h93 B.h372 a l

theorem Blk.ss (h : Fin 4) (e : Fin 8) (v : Fin 256) (d : Fin 128) :
    k0_pay2 (a372 x1 x2 x3 x4 x5 s0 s1 s2 s3) (ix4 h e v d) = (((X h).st ⟨8 * r.val + e.val, by omega⟩ v d : ℝ) : EReal) := by
  rw [p2, B.h372]
  have e1 : hd ⟨8 * h.val + e.val, by omega⟩ = h := Fin.ext (by simp only [hd]; omega)
  have e2 : ch r ⟨8 * h.val + e.val, by omega⟩ = ⟨8 * r.val + e.val, by omega⟩ := Fin.ext (by simp only [ch]; omega)
  rw [e1, e2]

end

end Cert.GlaFwdProof
-- ==== Proof.GlaFwd.Points.lean ====
/- What every grid point of the attention's forward kernel leaves in its two outputs and in the scratch it hands to the next point. -/
module

public import proofs.«01_k».proof.Proof.GlaFwd.Block
public import proofs.«01_k».proof.Proof.Lib.Loads
public import proofs.«01_k».proof.Proof.Gen.GlaFwdIdeal.Value
public import Idealize.ShloMosaic.Lib.Pipeline.ReadBack

@[expose] public section

set_option maxRecDepth 16384

noncomputable section

namespace Cert.GlaFwdProof

open Idealize.ShloMosaic Idealize.ShloMosaic.TcCoe Idealize.SL.Sem Cert.GlaFwdIdeal Cert.GlaFwdIdeal.Gen Cert.Groups Cert.GlaProof
open Idealize.ShloMosaic.Pipeline (Dat)

variable (m : (ℓ : Loc nD τ sig) → Buf (Elt Ideal) ℓ) (c : Dev nD) (X : Fin 4 → Head)

/-- The block of rows a grid point works on. -/
def rb (t : Fin cfg0.N) : Fin 16 := ⟨t.val, lt_of_lt_of_eq t.isLt (show cfg0.N = 16 from N_0)⟩

/-- What a head's scratch has to hold when its point starts. -/
def Due (t : Fin cfg0.N) (h : Fin 4) (s : Vec Ideal S1x256x128 .f32) : Prop :=
  ∀ v d, s (ix3 0 v d) = (((X h).st ⟨8 * (rb t).val, by have := (rb t).isLt; omega⟩ v d : ℝ) : EReal)

variable (E : ∀ (t : Fin cfg0.N) (s0 s1 s2 s3 : Vec Ideal S1x256x128 .f32), Due X t 0 s0 → Due X t 1 s1 → Due X t 2 s2 → Due X t 3 s3 →
  Blk X (rb t) (iblk m c 0 t) (iblk m c 1 t) (iblk m c 2 t) (iblk m c 3 t) (iblk m c 4 t) (iblk m c 5 t) s0 s1 s2 s3)

/-- The four heads' scratch after a point as one array. -/
def aboves (t : Fin cfg0.N) : S4x256x128.Idx → EReal := fun y => ((above X (rb t) (y 0) (y 1) (y 2) : ℝ) : EReal)

/-- At the first point the scratch is zero, as nothing comes before the first chunk. -/
theorem due_first (t : Fin cfg0.N) (ht : t.val % 16 = 0) (h : Fin 4) (s : Vec Ideal S1x256x128 .f32) (hs : ∀ v d, s (ix3 0 v d) = 0) : Due X t h s := by
  intro v d
  have hN := lt_of_lt_of_eq t.isLt (show cfg0.N = 16 from N_0)
  rw [hs, show (⟨8 * (rb t).val, by have := (rb t).isLt; omega⟩ : Fin 128) = 0 from Fin.ext (by unfold rb; dsimp only; show _ = 0; omega),
    (X h).st_zero, EReal.coe_zero]

/-- A later point is handed what the point before left. -/
theorem due_next (t t' : Fin cfg0.N) (ht : t'.val = t.val + 1) (h : Fin 4) (s : Vec Ideal S1x256x128 .f32)
    (hs : ∀ v d, s (ix3 0 v d) = ((above X (rb t) h v d : ℝ) : EReal)) : Due X t' h s := by
  intro v d
  rw [hs, above_next X (r := rb t) (r' := rb t') (by unfold rb; dsimp only; omega)]

theorem zero_at (h : Fin 4) (v : Fin 256) (d : Fin 128) : (k0_pay4 (F := Ideal)) (ix3 h v d) = 0 := by
  pointwise [k0_pay4]

theorem ld_next (t t' : Fin cfg0.N) (ht : t'.val = t.val + 1) (s : Vec Ideal S4x256x128 .f32) (hs : ∀ h v d, s (ix3 h v d) = aboves X t (ix3 h v d))
    (k : ℕ) (hk : k < 4) (inb : ∀ a, (![k, 0, 0] : Fin 3 → ℕ) a + (![1, 256, 128] : Fin 3 → ℕ) a ≤ S4x256x128.size a) :
    Due X t' ⟨k, hk⟩ (View.ld s (Rect.unit (s := S4x256x128) ![k, 0, 0] ![1, 256, 128] inb)) :=
  due_next X t t' ht _ _ fun v d => (ld_group _ k hk inb v d).trans (hs _ v d)

/- The four loads at the first point. -/

section

variable (t : Fin cfg0.N) (ht : t.val % 16 = 0) (w0 w1 w2 : S1x256x128.Idx → Elt Ideal .f32)

include ht

theorem due0 : Due X t 0 ((View.whole cc0_scratch0).readCov [⟨Rect.unit ![0, 0, 0] ![4, 256, 128] inb_S4x256x128_S4x256x128_0_0_0, k0_pay4 (F := Ideal)⟩]
    (Rect.unit (s := S4x256x128) ![0, 0, 0] ![1, 256, 128] inb_S4x256x128_S1x256x128_0_0_0).toLoadRect) :=
  due_first X t ht _ _ fun v d => (load0 _ _ _ _ v d).trans (zero_at _ v d)

theorem due1 : Due X t 1 ((View.whole cc0_scratch0).readCov [⟨Rect.unit ![0, 0, 0] ![1, 256, 128] inb_S4x256x128_S1x256x128_0_0_0, w0⟩,
      ⟨Rect.unit ![0, 0, 0] ![4, 256, 128] inb_S4x256x128_S4x256x128_0_0_0, k0_pay4 (F := Ideal)⟩]
    (Rect.unit (s := S4x256x128) ![1, 0, 0] ![1, 256, 128] inb_S4x256x128_S1x256x128_1_0_0).toLoadRect) :=
  due_first X t ht _ _ fun v d => (load1 _ _ _ _ _ w0 v d).trans (zero_at _ v d)

theorem due2 : Due X t 2 ((View.whole cc0_scratch0).readCov [⟨Rect.unit ![1, 0, 0] ![1, 256, 128] inb_S4x256x128_S1x256x128_1_0_0, w1⟩,
      ⟨Rect.unit ![0, 0, 0] ![1, 256, 128] inb_S4x256x128_S1x256x128_0_0_0, w0⟩,
      ⟨Rect.unit ![0, 0, 0] ![4, 256, 128] inb_S4x256x128_S4x256x128_0_0_0, k0_pay4 (F := Ideal)⟩]
    (Rect.unit (s := S4x256x128) ![2, 0, 0] ![1, 256, 128] inb_S4x256x128_S1x256x128_2_0_0).toLoadRect) :=
  due_first X t ht _ _ fun v d => (load2 _ _ _ _ _ _ w0 w1 v d).trans (zero_at _ v d)

theorem due3 : Due X t 3 ((View.whole cc0_scratch0).readCov [⟨Rect.unit ![2, 0, 0] ![1, 256, 128] inb_S4x256x128_S1x256x128_2_0_0, w2⟩,
      ⟨Rect.unit ![1, 0, 0] ![1, 256, 128] inb_S4x256x128_S1x256x128_1_0_0, w1⟩,
      ⟨Rect.unit ![0, 0, 0] ![1, 256, 128] inb_S4x256x128_S1x256x128_0_0_0, w0⟩,
      ⟨Rect.unit ![0, 0, 0] ![4, 256, 128] inb_S4x256x128_S4x256x128_0_0_0, k0_pay4 (F := Ideal)⟩]
    (Rect.unit (s := S4x256x128) ![3, 0, 0] ![1, 256, 128] inb_S4x256x128_S1x256x128_3_0_0).toLoadRect) :=
  due_first X t ht _ _ fun v d => (load3 _ _ _ _ _ _ _ w0 w1 w2 v d).trans (zero_at _ v d)

theorem dueZ (h : Fin 4) : Due X t h (fun _ => 0) := due_first X t ht h _ fun _ _ => rfl

end

include E

set_option maxHeartbeats 1000000 in
theorem kept_first (t : Fin cfg0.N) (h : t.val % 16 = 0) (i : Fin 4) (v : Fin 256) (d : Fin 128) :
    (outsAt0 m c t.val t.isLt).2.2 (ix3 i v d) = aboves X t (ix3 i v d) := by
  rw [outsAt0_A m c t h]
  dsimp only
  frame_out
  refine canon_groups_over (Val := Elt Ideal) (e := .f32) (n := 256) (p := 128) (aboves X t) inb_S4x256x128_S1x256x128_3_0_0 inb_S4x256x128_S1x256x128_2_0_0 inb_S4x256x128_S1x256x128_1_0_0
    inb_S4x256x128_S1x256x128_0_0_0 _ _ _ _ ?_ ?_ ?_ ?_
    [⟨Rect.unit ![0, 0, 0] ![4, 256, 128] inb_S4x256x128_S4x256x128_0_0_0, k0_pay4 (F := Ideal)⟩] i v d
  · exact (E t _ _ _ _ (dueZ X t h 0) (dueZ X t h 1) (dueZ X t h 2) (due3 X t h _ _ _)).w3
  · exact (E t _ _ _ _ (dueZ X t h 0) (dueZ X t h 1) (due2 X t h _ _) (dueZ X t h 3)).w2
  · exact (E t _ _ _ _ (dueZ X t h 0) (due1 X t h _) (dueZ X t h 2) (dueZ X t h 3)).w1
  · exact (E t _ _ _ _ (due0 X t h) (dueZ X t h 1) (dueZ X t h 2) (dueZ X t h 3)).w0

theorem kept_next (t t' : Fin cfg0.N) (ht : t'.val = t.val + 1) (hs : ∀ i v d, (outsAt0 m c t.val t.isLt).2.2 (ix3 i v d) = aboves X t (ix3 i v d))
    (i : Fin 4) (v : Fin 256) (d : Fin 128) : (outsAt0 m c t'.val t'.isLt).2.2 (ix3 i v d) = aboves X t' (ix3 i v d) := by
  have hN := lt_of_lt_of_eq t'.isLt (show cfg0.N = 16 from N_0)
  have e : (outsAt0 m c (t'.val - 1) (Nat.lt_of_le_of_lt (Nat.sub_le _ _) t'.isLt)) = outsAt0 m c t.val t.isLt := by
    have : t'.val - 1 = t.val := by omega
    simp only [this]
  rw [outsAt0_B m c t' (by omega)]
  dsimp only
  frame_out
  rw [e, read_unread_whole]
  have B := E t' _ _ _ _ (ld_next X t t' ht _ hs 0 (by decide) inb_S4x256x128_S1x256x128_0_0_0) (ld_next X t t' ht _ hs 1 (by decide) inb_S4x256x128_S1x256x128_1_0_0)
    (ld_next X t t' ht _ hs 2 (by decide) inb_S4x256x128_S1x256x128_2_0_0) (ld_next X t t' ht _ hs 3 (by decide) inb_S4x256x128_S1x256x128_3_0_0)
  refine canon_groups (Val := Elt Ideal) (e := .f32) (n := 256) (p := 128) (aboves X t') inb_S4x256x128_S1x256x128_3_0_0 inb_S4x256x128_S1x256x128_2_0_0 inb_S4x256x128_S1x256x128_1_0_0
    inb_S4x256x128_S1x256x128_0_0_0 _ _ _ _ ?_ ?_ ?_ ?_ i v d
  · exact B.w3
  · exact B.w2
  · exact B.w1
  · exact B.w0

/-- Every point leaves in its scratch the state after its block. -/
theorem kept (n : ℕ) : ∀ (h : n < cfg0.N) (i : Fin 4) (v : Fin 256) (d : Fin 128),
    (outsAt0 m c n h).2.2 (ix3 i v d) = aboves X ⟨n, h⟩ (ix3 i v d) := by
  induction n with
  | zero => exact fun h i v d => kept_first m c X E ⟨0, h⟩ rfl i v d
  | succ n ih => exact fun h i v d => kept_next m c X E ⟨n, Nat.lt_of_succ_lt h⟩ ⟨n + 1, h⟩ rfl (ih _) i v d

/-- What a point leaves in its two outputs. -/
structure Left (t : Fin cfg0.N) : Prop where
  o : ∀ a l, (outsAt0 m c t.val t.isLt).1 (ix2 a l) = (((X (hd (bv a l))).out (ch (rb t) (bv a l)) (ri a) (dv' l) : ℝ) : EReal)
  ss : ∀ (h : Fin 4) (e : Fin 8) (v : Fin 256) (d : Fin 128), (outsAt0 m c t.val t.isLt).2.1 (ix4 h e v d) =
    (((X h).st ⟨8 * (rb t).val + e.val, by have := (rb t).isLt; omega⟩ v d : ℝ) : EReal)

set_option maxHeartbeats 1000000 in
theorem left_first (t : Fin cfg0.N) (h : t.val % 16 = 0) : Left m c X t := by
  constructor
  all_goals
    intros
    rw [outsAt0_A m c t h]
    dsimp only
    frame_out
    generalize e3 : View.readCov (Val := Elt Ideal) (View.whole cc0_scratch0) _ (Rect.unit (s := S4x256x128) ![3, 0, 0] ![1, 256, 128] inb_S4x256x128_S1x256x128_3_0_0).toLoadRect = s3
    have d3 : Due X t 3 s3 := e3 ▸ due3 X t h _ _ _
    clear e3
    generalize e2 : View.readCov (Val := Elt Ideal) (View.whole cc0_scratch0) _ (Rect.unit (s := S4x256x128) ![2, 0, 0] ![1, 256, 128] inb_S4x256x128_S1x256x128_2_0_0).toLoadRect = s2
    have d2 : Due X t 2 s2 := e2 ▸ due2 X t h _ _
    clear e2
    generalize e1 : View.readCov (Val := Elt Ideal) (View.whole cc0_scratch0) _ (Rect.unit (s := S4x256x128) ![1, 0, 0] ![1, 256, 128] inb_S4x256x128_S1x256x128_1_0_0).toLoadRect = s1
    have d1 : Due X t 1 s1 := e1 ▸ due1 X t h _
    clear e1
    generalize e0 : View.readCov (Val := Elt Ideal) (View.whole cc0_scratch0) _ (Rect.unit (s := S4x256x128) ![0, 0, 0] ![1, 256, 128] inb_S4x256x128_S1x256x128_0_0_0).toLoadRect = s0
    have d0 : Due X t 0 s0 := e0 ▸ due0 X t h
    clear e0
  · exact (E t s0 s1 s2 s3 d0 d1 d2 d3).o _ _
  · exact (E t s0 s1 s2 s3 d0 d1 d2 d3).ss _ _ _ _

set_option maxHeartbeats 1000000 in
theorem left_next (t : Fin cfg0.N) (h : ¬ t.val % 16 = 0) : Left m c X t := by
  have hN := lt_of_lt_of_eq t.isLt (show cfg0.N = 16 from N_0)
  have hs := kept m c X E (t.val - 1) (Nat.lt_of_le_of_lt (Nat.sub_le _ _) t.isLt)
  have B := E t _ _ _ _ (ld_next X ⟨t.val - 1, Nat.lt_of_le_of_lt (Nat.sub_le _ _) t.isLt⟩ t (by dsimp only; omega) _ hs 0 (by decide) inb_S4x256x128_S1x256x128_0_0_0)
    (ld_next X ⟨t.val - 1, Nat.lt_of_le_of_lt (Nat.sub_le _ _) t.isLt⟩ t (by dsimp only; omega) _ hs 1 (by decide) inb_S4x256x128_S1x256x128_1_0_0)
    (ld_next X ⟨t.val - 1, Nat.lt_of_le_of_lt (Nat.sub_le _ _) t.isLt⟩ t (by dsimp only; omega) _ hs 2 (by decide) inb_S4x256x128_S1x256x128_2_0_0)
    (ld_next X ⟨t.val - 1, Nat.lt_of_le_of_lt (Nat.sub_le _ _) t.isLt⟩ t (by dsimp only; omega) _ hs 3 (by decide) inb_S4x256x128_S1x256x128_3_0_0)
  constructor <;> intros <;> rw [outsAt0_B m c t h] <;> dsimp only <;> frame_out <;> try rw [read_unread_whole]
  · exact B.o _ _
  · exact B.ss _ _ _ _

theorem left_at (t : Fin cfg0.N) : Left m c X t := by
  by_cases h : t.val % 16 = 0
  · exact left_first m c X E t h
  · exact left_next m c X E t h

end Cert.GlaFwdProof
-- ==== Proof.GlaFwd.Entry.lean ====
/- The blocks the forward kernel's points are handed, of the layer's real inputs. -/
module

public import proofs.«01_k».proof.Proof.GlaFwd.Points
public import proofs.«01_k».proof.Proof.Gla.Data
public import Idealize.ShloMosaic.Lib.Pipeline.ValueKit
public import Idealize.ShloMosaic.Lib.StableHlo.ReadAt
public import Idealize.ShloMosaic.Lib.Pointwise

@[expose] public section

set_option maxRecDepth 16384

noncomputable section

namespace Cert.GlaFwdProof

open Idealize.ShloMosaic Idealize.ShloMosaic.TcCoe Idealize.SL.Sem Cert.GlaFwdIdeal Cert.GlaFwdIdeal.Gen Cert.NormBack Cert.GlaProof
open Idealize.ShloMosaic.StableHlo

variable (m : (ℓ : Loc nD τ sig) → Buf (Elt Ideal) ℓ) (c : Dev nD) (D : Data)

/-- The arguments hold the real inputs. -/
structure Is : Prop where
  q : ∀ r l, m (c, Proc.tc.devRef main_arg0) (ix2 r l) = ((D.q r l : ℝ) : EReal)
  k : ∀ r l, m (c, Proc.tc.devRef main_arg1) (ix2 r l) = ((D.k r l : ℝ) : EReal)
  v : ∀ r l, m (c, Proc.tc.devRef main_arg2) (ix2 r l) = ((D.v r l : ℝ) : EReal)
  g : ∀ r x, m (c, Proc.tc.devRef main_arg3) (ix2 r x) = ((D.g r x : ℝ) : EReal)
  w : ∀ x l, m (c, Proc.tc.devRef main_arg4) (ix2 x l) = ((D.w x l : ℝ) : EReal)
  b : ∀ l, m (c, Proc.tc.devRef main_arg5) (ix2 0 l) = ((D.b l : ℝ) : EReal)

variable {m c D} (H : Is m c D)

theorem idx : ∀ t : Fin cfg0.N, win0_0.index t = ![t.val, 0] ∧ win0_1.index t = ![t.val, 1] ∧ win0_2.index t = ![t.val, 1]
    ∧ win0_3.index t = ![t.val, 0] ∧ win0_4.index t = ![0, 0] ∧ win0_5.index t = ![0, 0] ∧ win0_6.index t = ![t.val, 0] :=
  (by decide +kernel : ∀ t : Fin grid0.N, _)

theorem idx7 : ∀ t : Fin cfg0.N, win0_7.index t = ![0, t.val, 0, 0] :=
  (by decide +kernel : ∀ t : Fin grid0.N, _)

/-- Row `a` of the block that point `t` works on, as a row of the arrays. -/
def gr (t : Fin cfg0.N) (a : Fin 512) : Fin 8192 :=
  ⟨t.val * 512 + a.val, by have := lt_of_lt_of_eq t.isLt (show cfg0.N = 16 from N_0); omega⟩

theorem gr_rw (t : Fin cfg0.N) (β : Fin 32) (i : Fin 64) : gr t (rw' β i) = row (ch (rb t) β) i :=
  Fin.ext (by unfold gr rw' row ch rb; dsimp only; omega)

include H

theorem entry_q (r : Fin 8192) (h : Fin 4) (d : Fin 128) :
    V m c main_v0 (ix2 r (⟨128 * h.val + d.val, by omega⟩ : Fin 1024)) = ((D.q r (kc h d) : ℝ) : EReal) := by
  unfold V
  after_reads_at
  exact (dif_pos (by omega)).trans (H.q r (kc h d))

theorem entry_k (r : Fin 8192) (h : Fin 4) (d : Fin 128) :
    V m c main_v0 (ix2 r (⟨512 + (128 * h.val + d.val), by omega⟩ : Fin 1024)) = ((D.k r (kc h d) : ℝ) : EReal) := by
  unfold V
  after_reads_at
  exact H.k r (kc h d)

theorem entry_v (r : Fin 8192) (h : Fin 4) (d : Fin 256) :
    V m c main_v3 (ix2 r (⟨1024 + (256 * h.val + d.val), by omega⟩ : Fin 9216)) = ((D.v r (vc h d) : ℝ) : EReal) := by
  unfold V
  after_reads_at
  rw [dif_neg (by omega), dif_neg (by omega), dif_pos (by omega)]
  after_reads_at
  exact (cell (m (c, Proc.tc.devRef main_arg2)) rfl (by dsimp only [vc]; omega)).trans (H.v r (vc h d))

theorem entry_g (r : Fin 8192) (x : Fin 128) :
    V m c main_v5 (ix2 r x) = ((if h : x.val < 16 then ((D.g r ⟨x.val, h⟩ : ℝ) : EReal) else 0 : EReal)) := by
  unfold V
  after_reads_at
  exact dite_congr rfl (fun h => H.g r ⟨x.val, h⟩) fun _ => rfl

theorem entry_w (x : Fin 128) (l : Fin 512) :
    V m c main_v7 (ix2 x l) = ((if h : x.val < 16 then ((D.w ⟨x.val, h⟩ l : ℝ) : EReal) else 0 : EReal)) := by
  unfold V
  after_reads_at
  exact dite_congr rfl (fun h => H.w ⟨x.val, h⟩ l) fun _ => rfl

theorem entry_b (l : Fin 512) : V m c main_arg5 (ix2 0 l) = ((D.b l : ℝ) : EReal) := by
  rw [← H.b]
  unfold V
  after_reads_at

theorem blk_q (t : Fin cfg0.N) (β : Fin 32) (i : Fin 64) (d : Fin 128) :
    iblk m c 0 t (ix2 (rw' β i) (ck β d)) = (((D.head (hd β)).q (ch (rb t) β) i d : ℝ) : EReal) := by
  have e := entry_q H (gr t (rw' β i)) (hd β) d
  rw [gr_rw] at e
  refine Eq.trans ?_ e
  rw [← gr_rw]
  unfold gr ck hd
  blk_ext [iblk, idx t]

theorem blk_k (t : Fin cfg0.N) (β : Fin 32) (i : Fin 64) (d : Fin 128) :
    iblk m c 1 t (ix2 (rw' β i) (ck β d)) = (((D.head (hd β)).k (ch (rb t) β) i d : ℝ) : EReal) := by
  have e := entry_k H (gr t (rw' β i)) (hd β) d
  rw [gr_rw] at e
  refine Eq.trans ?_ e
  rw [← gr_rw]
  unfold gr ck hd
  blk_ext [iblk, idx t]

theorem blk_v (t : Fin cfg0.N) (β : Fin 32) (i : Fin 64) (d : Fin 256) :
    iblk m c 2 t (ix2 (rw' β i) (cv β d)) = (((D.head (hd β)).v (ch (rb t) β) i d : ℝ) : EReal) := by
  have e := entry_v H (gr t (rw' β i)) (hd β) d
  rw [gr_rw] at e
  refine Eq.trans ?_ e
  rw [← gr_rw]
  unfold gr cv hd
  blk_ext [iblk, idx t]

theorem blk_g (t : Fin cfg0.N) (a : Fin 512) (x : Fin 128) :
    iblk m c 3 t (ix2 a x) = ((if h : x.val < 16 then ((D.g (gr t a) ⟨x.val, h⟩ : ℝ) : EReal) else 0 : EReal)) := by
  refine Eq.trans ?_ (entry_g H (gr t a) x)
  unfold gr
  blk_ext [iblk, idx t]

theorem blk_w (t : Fin cfg0.N) (x : Fin 128) (l : Fin 512) :
    iblk m c 4 t (ix2 x l) = ((if h : x.val < 16 then ((D.w ⟨x.val, h⟩ l : ℝ) : EReal) else 0 : EReal)) := by
  refine Eq.trans ?_ (entry_w H x l)
  blk_ext [iblk, idx t]

theorem blk_b (t : Fin cfg0.N) (l : Fin 512) : iblk m c 5 t (ix2 0 l) = ((D.b l : ℝ) : EReal) := by
  refine Eq.trans ?_ (entry_b H l)
  blk_ext [iblk, idx t]

omit H in
theorem blk_p (x3 : Vec Ideal S512x128 .f32) (x4 : Vec Ideal S128x512 .f32) (x5 : Vec Ideal S1x512 .f32) (t : Fin cfg0.N)
    (h3 : ∀ a x, x3 (ix2 a x) = ((if h : x.val < 16 then ((D.g (gr t a) ⟨x.val, h⟩ : ℝ) : EReal) else 0 : EReal)))
    (h4 : ∀ x l, x4 (ix2 x l) = ((if h : x.val < 16 then ((D.w ⟨x.val, h⟩ l : ℝ) : EReal) else 0 : EReal)))
    (h5 : ∀ l, x5 (ix2 0 l) = ((D.b l : ℝ) : EReal)) (β : Fin 32) (i : Fin 64) (d : Fin 128) :
    ∑ x, x3 (ix2 (rw' β i) x) * x4 (ix2 x (ck β d)) + x5 (ix2 0 (ck β d)) = (((D.head (hd β)).p (ch (rb t) β) i d : ℝ) : EReal) := by
  have e3 : ∀ a x, x3 (ix2 a x) = ((if h : x.val < 16 then D.g (gr t a) ⟨x.val, h⟩ else 0 : ℝ) : EReal) := fun a x =>
    (h3 a x).trans (by split_ifs <;> simp)
  have e4 : ∀ x l, x4 (ix2 x l) = ((if h : x.val < 16 then D.w ⟨x.val, h⟩ l else 0 : ℝ) : EReal) := fun x l =>
    (h4 x l).trans (by split_ifs <;> simp)
  simp only [e3, e4, h5, ← EReal.coe_mul, coe_sum]
  rw [sum_pad (fun x => D.g (gr t (rw' β i)) x) (fun x => D.w x (ck β d)), gr_rw, ← EReal.coe_add]
  rfl

/-- What a point is handed. -/
theorem handed (t : Fin cfg0.N) (s0 s1 s2 s3 : Vec Ideal S1x256x128 .f32) (h0 : Due D.head t 0 s0) (h1 : Due D.head t 1 s1)
    (h2 : Due D.head t 2 s2) (h3 : Due D.head t 3 s3) :
    Blk D.head (rb t) (iblk m c 0 t) (iblk m c 1 t) (iblk m c 2 t) (iblk m c 3 t) (iblk m c 4 t) (iblk m c 5 t) s0 s1 s2 s3 where
  sc _ := rfl
  q := blk_q H t
  k := blk_k H t
  v := blk_v H t
  p := blk_p (iblk m c 3 t) (iblk m c 4 t) (iblk m c 5 t) t (blk_g H t) (blk_w H t) (blk_b H t)
  s0 := h0
  s1 := h1
  s2 := h2
  s3 := h3

theorem left (t : Fin cfg0.N) : Left m c D.head t := left_at m c D.head (handed H) t

end Cert.GlaFwdProof
-- ==== Proof.GlaFwd.Final.lean ====
/- The two arrays the forward kernel leaves. -/
module

public import proofs.«01_k».proof.Proof.GlaFwd.Entry

@[expose] public section

set_option maxRecDepth 16384

noncomputable section

namespace Cert.GlaFwdProof

open Idealize.ShloMosaic Idealize.ShloMosaic.TcCoe Idealize.SL.Sem Cert.GlaFwdIdeal Cert.GlaFwdIdeal.Gen Cert.NormBack Cert.GlaProof
open Idealize.ShloMosaic.Pipeline (Dat)

variable (D : Data)

/-- The output as a matrix, heads along the columns. -/
def outAt (r : Fin 8192) (l : Fin 1024) : EReal := (((D.head (vh l)).out (rn r) (ro r) (vd l) : ℝ) : EReal)

/-- The state before each chunk. -/
def stAt (h : Fin 4) (n : Fin 128) (v : Fin 256) (d : Fin 128) : EReal := (((D.head h).st n v d : ℝ) : EReal)

theorem outAt_at (t : Fin cfg0.N) (a : Fin 512) (l : Fin 1024) :
    outAt D (gr t a) l = (((D.head (hd (bv a l))).out (ch (rb t) (bv a l)) (ri a) (dv' l) : ℝ) : EReal) := by
  have e1 : vh l = hd (bv a l) := Fin.ext (by unfold vh hd bv; dsimp only; omega)
  have e2 : rn (gr t a) = ch (rb t) (bv a l) := Fin.ext (by unfold rn gr ch rb bv; dsimp only; omega)
  have e3 : ro (gr t a) = ri a := Fin.ext (by unfold ro gr ri; dsimp only; omega)
  have e4 : vd l = dv' l := Fin.ext (by unfold vd dv'; rfl)
  unfold outAt
  rw [e1, e2, e3, e4]

variable {m : (ℓ : Loc nD τ sig) → Buf (Elt Ideal) ℓ} {c : Dev nD} {D : Data} (H : Is m c D)

include H

theorem final_o : (dats m 0 c).arrAt 6 cfg0.N = fun i => outAt D (i 0) (i 1) := by
  refine (dats m 0 c).arrAt_eq_of_covers 6 _ (by decide +kernel) fun t hf y => ?_
  rw [after0_6]
  blk_simp
  have hy : y = ix2 (y 0) (y 1) := by
    funext a
    match a with
    | ⟨0, _⟩ => rfl
    | ⟨1, _⟩ => rfl
  refine (congrArg (outsAt0 m c t.val t.isLt).1 hy).trans (((left H t).o (y 0) (y 1)).trans ?_)
  refine (outAt_at D t (y 0) (y 1)).symm.trans ?_
  refine congrArg₂ (outAt D) ?_ ?_
  · refine Fin.ext ?_
    unfold gr
    blk_simp [idx t]
  · refine Fin.ext ?_
    blk_simp [idx t]

theorem final_ss : (dats m 0 c).arrAt 7 cfg0.N = fun i => stAt D (i 0) (i 1) (i 2) (i 3) := by
  refine (dats m 0 c).arrAt_eq_of_covers 7 _ (by decide +kernel) fun t hf y => ?_
  rw [after0_7]
  blk_simp
  have hy : y = ix4 (y 0) (y 1) (y 2) (y 3) := by
    funext a
    match a with
    | ⟨0, _⟩ => rfl
    | ⟨1, _⟩ => rfl
    | ⟨2, _⟩ => rfl
    | ⟨3, _⟩ => rfl
  refine (congrArg (outsAt0 m c t.val t.isLt).2.1 hy).trans (((left H t).ss (y 0) (y 1) (y 2) (y 3)).trans ?_)
  have e : ∀ {h h' : Fin 4} {n n' : Fin 128} {v v' : Fin 256} {d d' : Fin 128}, h.val = h'.val → n.val = n'.val → v.val = v'.val → d.val = d'.val →
      stAt D h n v d = stAt D h' n' v' d' := fun a b c d => by rw [Fin.ext a, Fin.ext b, Fin.ext c, Fin.ext d]
  refine e ?_ ?_ ?_ ?_
  · blk_simp [idx7 t]
  · unfold rb
    blk_simp [idx7 t]
    dsimp only
    omega
  · blk_simp [idx7 t]
  · blk_simp [idx7 t]

end Cert.GlaFwdProof
-- ==== Proof.GlaFwd.Ref.lean ====
/- The forward reference's arrays of real inputs, read at an entry. -/
module

public import proofs.«01_k».proof.Proof.GlaFwd.Math
public import proofs.«01_k».proof.Proof.Gla.Data
public import proofs.«01_k».proof.Proof.Gla.Index
public import proofs.«01_k».proof.Proof.Gen.GlaFwdRefIdeal.Run
public import Idealize.ShloMosaic.Lib.Pointwise
public import Idealize.ShloMosaic.Lib.ValueIdx

@[expose] public section

set_option maxRecDepth 16384

noncomputable section

namespace Cert.GlaFwdProof.Ref

open Idealize.ShloMosaic Idealize.ShloMosaic.TcCoe Idealize.SL.Sem Cert.GlaFwdRefIdeal Cert.GlaFwdRefIdeal.Gen Cert.GlaFwdRefIdeal.Value Cert.NormBack Cert.GlaProof

/- The reference's lines, stage by stage. -/

section

variable (q k : FVec Ideal S8192x512 .f32) (v : FVec Ideal S8192x1024 .f32) (g : FVec Ideal S8192x16 .f32) (w : FVec Ideal S16x512 .f32) (b : FVec Ideal S1x512 .f32)

/-- An array of zeros over the rows. -/
def zeros : FVec Ideal S8192x512 .f32 := broadcastInDim S8192x512 ![] bcast_S_S8192x512 (constant (F := Ideal) S_ .f32 0x00000000#32)

/-- The negated logit of the decay, and the softplus of it. -/
def neg : FVec Ideal S8192x512 .f32 :=
  Host.negf (F := Ideal) (φ := .f32) (addf (F := Ideal) (φ := .f32) (Host.dotGeneral (F := Ideal) (φ₁ := .f32) (φ₂ := .f32) dot_S8192x16_S16x512_S8192x512_1_0_0_1_n_n none g w) (broadcastInDim S8192x512 ![0, 1] bcast_S1x512_S8192x512_0_1 b))
def neg0 : FVec Ideal S8192x512 .f32 := subf (F := Ideal) (φ := .f32) (neg g w b) zeros
def soft : FVec Ideal S8192x512 .f32 :=
  select (cmpf (F := Ideal) (φ := .f32) .une (neg0 g w b) (neg0 g w b)) (addf (F := Ideal) (φ := .f32) (neg g w b) zeros)
    (addf (F := Ideal) (φ := .f32) (maximumf (F := Ideal) (φ := .f32) (neg g w b) zeros) (Host.log1p (F := Ideal) (φ := .f32) (Host.exp (F := Ideal) (φ := .f32) (Host.negf (F := Ideal) (φ := .f32) (Host.absf (F := Ideal) (φ := .f32) (neg0 g w b))))))

/-- The causal mask within a chunk. -/
def mask : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

/-- The decays summed within a chunk, and a chunk's last. -/
def bArr : FVec Ideal S4x128x64x128 .f32 :=
  transpose S4x128x64x128 [0, 1, 3, 2]
    (Host.dotGeneral (F := Ideal) (φ₁ := .f32) (φ₂ := .f32) dot_S4x128x64x128_S64x64_S4x128x128x64_2_1_013_0_n_n none
      (transpose S4x128x64x128 [2, 0, 1, 3] (shapeCast S128x64x4x128 (Host.divf (F := Ideal) (φ := .f32) (Host.negf (F := Ideal) (φ := .f32) (soft g w b)) (broadcastInDim S8192x512 ![] bcast_S_S8192x512 (constant (F := Ideal) S_ .f32 0x41800000#32))) shapeCasts_S8192x512_S128x64x4x128) transposes_S128x64x4x128_S4x128x64x128_2_0_1_3)
      (uitofp (F := Ideal) .f32 mask))
    transposes_S4x128x128x64_S4x128x64x128_0_1_3_2
def blArr : FVec Ideal S4x128x128 .f32 :=
  shapeCast S4x128x128 (extractStridedSlice S4x128x1x128 ![0, 0, 63, 0] (bArr g w b) slices_S4x128x64x128_S4x128x1x128_0_0_63_0) shapeCasts_S4x128x1x128_S4x128x128

/-- The queries, keys and values by head and chunk. -/
def heads (x : FVec Ideal S8192x512 .f32) : FVec Ideal S4x128x64x128 .f32 :=
  transpose S4x128x64x128 [2, 0, 1, 3] (shapeCast S128x64x4x128 x shapeCasts_S8192x512_S128x64x4x128) transposes_S128x64x4x128_S4x128x64x128_2_0_1_3
def vArr : FVec Ideal S4x128x64x256 .f32 :=
  transpose S4x128x64x256 [2, 0, 1, 3] (shapeCast S128x64x4x256 v shapeCasts_S8192x1024_S128x64x4x256) transposes_S128x64x4x256_S4x128x64x256_2_0_1_3

/-- The queries with their decay, the keys against theirs, and a chunk's own part of the state. -/
def qinArr : FVec Ideal S4x128x64x128 .f32 :=
  mulf (F := Ideal) (φ := .f32) (mulf (F := Ideal) (φ := .f32) (heads q) (broadcastInDim S4x128x64x128 ![] bcast_S_S4x128x64x128 (constant (F := Ideal) S_ .f32 0x3DB504F3#32))) (Host.exp (F := Ideal) (φ := .f32) (bArr g w b))
def koutArr : FVec Ideal S4x128x64x128 .f32 :=
  mulf (F := Ideal) (φ := .f32) (heads k) (Host.exp (F := Ideal) (φ := .f32) (Host.negf (F := Ideal) (φ := .f32) (bArr g w b)))
def kstArr : FVec Ideal S4x128x64x128 .f32 :=
  mulf (F := Ideal) (φ := .f32) (heads k) (Host.exp (F := Ideal) (φ := .f32) (subf (F := Ideal) (φ := .f32)
    (broadcastInDim S4x128x64x128 ![0, 1, 2, 3] bcast_S4x128x1x128_S4x128x64x128_0_1_2_3 (broadcastInDim S4x128x1x128 ![0, 1, 3] bcast_S4x128x128_S4x128x1x128_0_1_3 (blArr g w b)))
    (bArr g w b)))
def kvArr : FVec Ideal S4x128x256x128 .f32 :=
  Host.dotGeneral (F := Ideal) (φ₁ := .f32) (φ₂ := .f32) dot_S4x128x64x256_S4x128x64x128_S4x128x256x128_2_2_3_3_01_01 none (vArr v) (kstArr k g w b)

/-- The decay between two chunks: where the second comes after the first, the exponential of the chunks' decays in between. -/
def betweenArr : IVec S128x128x128 1 :=
  andi
    (broadcastInDim S128x128x128 ![0, 1, 2] bcast_S1x128x128_S128x128x128_0_1_2
      (cmpi .slt (broadcastInDim S1x128x128 ![0, 1, 2] bcast_S1x128x1_S1x128x128_0_1_2 (broadcastInDim S1x128x1 ![1] bcast_S128_S1x128x1_1 (iotaInDim S128 32 0)))
        (broadcastInDim S1x128x128 ![0, 1, 2] bcast_S1x1x128_S1x128x128_0_1_2 (broadcastInDim S1x1x128 ![2] bcast_S128_S1x1x128_2 (iotaInDim S128 32 0)))))
    (broadcastInDim S128x128x128 ![0, 1, 2] bcast_S128x1x128_S128x128x128_0_1_2
      (cmpi .slt (broadcastInDim S128x1x128 ![0, 1, 2] bcast_S1x1x128_S128x1x128_0_1_2 (broadcastInDim S1x1x128 ![2] bcast_S128_S1x1x128_2 (iotaInDim S128 32 0)))
        (broadcastInDim S128x1x128 ![0, 1, 2] bcast_S128x1x1_S128x1x128_0_1_2 (broadcastInDim S128x1x1 ![0] bcast_S128_S128x1x1_0 (iotaInDim S128 32 0)))))
def lessArr : IVec S4x128x128x128 1 :=
  broadcastInDim S4x128x128x128 ![0, 1, 2, 3] bcast_S1x128x128x1_S4x128x128x128_0_1_2_3 (broadcastInDim S1x128x128x1 ![1, 2] bcast_S128x128_S1x128x128x1_1_2
    (cmpi .slt (broadcastInDim S128x128 ![0, 1] bcast_S1x128_S128x128_0_1 (broadcastInDim S1x128 ![1] bcast_S128_S1x128_1 (iotaInDim S128 32 0)))
      (broadcastInDim S128x128 ![0, 1] bcast_S128x1_S128x128_0_1 (broadcastInDim S128x1 ![0] bcast_S128_S128x1_0 (iotaInDim S128 32 0)))))
def decArr : FVec Ideal S4x128x128x128 .f32 :=
  select lessArr
    (Host.exp (F := Ideal) (φ := .f32) (transpose S4x128x128x128 [0, 2, 3, 1]
      (Host.dotGeneral (F := Ideal) (φ₁ := .f32) (φ₂ := .f32) dot_S4x128x128_S128x128x128_S4x128x128x128_1_2_02_01_n_n none (blArr g w b) (uitofp (F := Ideal) .f32 betweenArr))
      transposes_S4x128x128x128_S4x128x128x128_0_2_3_1))
    (broadcastInDim S4x128x128x128 ![] bcast_S_S4x128x128x128 (id (constant (F := Ideal) S_ .f32 0x00000000#32)))

/-- The states, the scores and the output. -/
def stArr : FVec Ideal S4x128x256x128 .f32 :=
  transpose S4x128x256x128 [0, 3, 2, 1]
    (Host.dotGeneral (F := Ideal) (φ₁ := .f32) (φ₂ := .f32) dot_S4x128x256x128_S4x128x128x128_S4x128x256x128_1_2_2_1_03_03 none (kvArr k v g w b) (decArr g w b))
    transposes_S4x128x256x128_S4x128x256x128_0_3_2_1
def scoresArr : FVec Ideal S4x128x64x64 .f32 :=
  select (broadcastInDim S4x128x64x64 ![2, 3] bcast_S64x64_S4x128x64x64_2_3 mask)
    (Host.dotGeneral (F := Ideal) (φ₁ := .f32) (φ₂ := .f32) dot_S4x128x64x128_S4x128x64x128_S4x128x64x64_3_3_2_2_01_01 none (qinArr q g w b) (koutArr k g w b))
    (broadcastInDim S4x128x64x64 ![] bcast_S_S4x128x64x64 (id (constant (F := Ideal) S_ .f32 0x00000000#32)))
def outArr : FVec Ideal S8192x1024 .bf16 :=
  truncf (F := Ideal) .bf16
    (shapeCast S8192x1024 (transpose S128x64x4x256 [1, 2, 0, 3]
      (addf (F := Ideal) (φ := .f32)
        (Host.dotGeneral (F := Ideal) (φ₁ := .f32) (φ₂ := .f32) dot_S4x128x64x64_S4x128x64x256_S4x128x64x256_3_2_2_3_01_01 none (scoresArr q k g w b) (vArr v))
        (Host.dotGeneral (F := Ideal) (φ₁ := .f32) (φ₂ := .f32) dot_S4x128x64x128_S4x128x256x128_S4x128x64x256_3_3_2_2_01_01 none (qinArr q g w b) (stArr k v g w b)))
      transposes_S4x128x64x256_S128x64x4x256_1_2_0_3) shapeCasts_S128x64x4x256_S8192x1024) bitsLt_bf16_f32
def statesArr : FVec Ideal S4x128x256x128 .bf16 := truncf (F := Ideal) .bf16 (stArr k v g w b) bitsLt_bf16_f32

end

/- The stages at an entry, of real inputs. -/

variable (q k : FVec Ideal S8192x512 .f32) (v : FVec Ideal S8192x1024 .f32) (g : FVec Ideal S8192x16 .f32) (w : FVec Ideal S16x512 .f32) (b : FVec Ideal S1x512 .f32)
variable (D : Data)

/-- The arguments hold the real inputs. -/
structure Is : Prop where
  q : ∀ r l, q (ix2 r l) = ((D.q r l : ℝ) : EReal)
  k : ∀ r l, k (ix2 r l) = ((D.k r l : ℝ) : EReal)
  v : ∀ r l, v (ix2 r l) = ((D.v r l : ℝ) : EReal)
  g : ∀ r l, g (ix2 r l) = ((D.g r l : ℝ) : EReal)
  w : ∀ r l, w (ix2 r l) = ((D.w r l : ℝ) : EReal)
  b : ∀ l, b (ix2 0 l) = ((D.b l : ℝ) : EReal)

variable {q k v g w b D} (H : Is q k v g w b D)

include H

theorem neg_at (r : Fin 8192) (l : Fin 512) : neg g w b (ix2 r l) = ((-D.pre r l : ℝ) : EReal) := by
  unfold neg
  pointwise
  simp only [H.g, H.w, H.b, ← EReal.coe_mul, coe_sum, ← EReal.coe_add, ← EReal.coe_neg]
  rfl

theorem neg0_at (r : Fin 8192) (l : Fin 512) : neg0 g w b (ix2 r l) = ((-D.pre r l : ℝ) : EReal) := by
  unfold neg0 zeros
  pointwise
  exact neg_at H r l

theorem soft_at (r : Fin 8192) (l : Fin 512) : soft g w b (ix2 r l) = ((-Head.lsg (D.pre r l) : ℝ) : EReal) := by
  unfold soft zeros
  pointwise
  rw [neg_at H, neg0_at H, EReal.coe_neg, EReal.coe_neg, ← softplus_coe, neg_neg]

theorem soft4 (h : Fin 4) (n : Fin 128) (i : Fin 64) (d : Fin 128) (h1 : n.val * 64 + i.val < 8192) (h2 : h.val * 128 + d.val < 512) :
    soft g w b (ix2 (⟨n.val * 64 + i.val, h1⟩ : Fin 8192) (⟨h.val * 128 + d.val, h2⟩ : Fin 512)) = ((-Head.lsg ((D.head h).p n i d) : ℝ) : EReal) :=
  (cell (soft g w b) (by dsimp only [row]; omega) (by dsimp only [kc]; omega)).trans (soft_at H (row n i) (kc h d))

omit H in
theorem heads_at (x : FVec Ideal S8192x512 .f32) (h : Fin 4) (n : Fin 128) (i : Fin 64) (d : Fin 128) : heads x (ix4 h n i d) = x (ix2 (row n i) (kc h d)) := by
  unfold heads
  pointwise
  exact cell x (by dsimp only [row]; omega) (by dsimp only [kc]; omega)

theorem v_at (h : Fin 4) (n : Fin 128) (i : Fin 64) (d : Fin 256) : vArr v (ix4 h n i d) = (((D.head h).v n i d : ℝ) : EReal) := by
  unfold vArr
  pointwise
  exact (cell v (by dsimp only [row]; omega) (by dsimp only [vc]; omega)).trans (H.v (row n i) (vc h d))

omit H in
theorem m_at (i j : Fin 64) : mask (ix2 i j) = if j ≤ i then 1#1 else 0#1 := by
  unfold mask
  pointwise
  revert i j
  decide +kernel

theorem b_at (h : Fin 4) (n : Fin 128) (i : Fin 64) (d : Fin 128) : bArr g w b (ix4 h n i d) = (((D.head h).b n i d : ℝ) : EReal) := by
  unfold bArr
  pointwise
  simp only [soft4 H, m_at, bit, ← EReal.coe_neg, c16, Ideal.div_coe (show (16 : ℝ) ≠ 0 by norm_num), ← EReal.coe_mul, coe_sum]
  refine congrArg _ ?_
  unfold Head.b
  refine Finset.sum_congr rfl fun j _ => ?_
  rw [mul_ite, mul_one, mul_zero, neg_neg]
  rfl

theorem bl_at (h : Fin 4) (n d : Fin 128) : blArr g w b (ix3 h n d) = (((D.head h).bl n d : ℝ) : EReal) := by
  unfold blArr
  pointwise
  exact b_at H h n 63 d

theorem qin_at (h : Fin 4) (n : Fin 128) (i : Fin 64) (d : Fin 128) : qinArr q g w b (ix4 h n i d) = (((D.head h).qin n i d : ℝ) : EReal) := by
  unfold qinArr
  pointwise
  rw [heads_at, H.q, cscale, b_at H, Ideal.exp_coe, ← EReal.coe_mul, ← EReal.coe_mul]
  rfl

theorem kout_at (h : Fin 4) (n : Fin 128) (i : Fin 64) (d : Fin 128) : koutArr k g w b (ix4 h n i d) = (((D.head h).kout n i d : ℝ) : EReal) := by
  unfold koutArr
  pointwise
  rw [heads_at, H.k, b_at H, ← EReal.coe_neg, Ideal.exp_coe, ← EReal.coe_mul]
  rfl

theorem kst_at (h : Fin 4) (n : Fin 128) (i : Fin 64) (d : Fin 128) : kstArr k g w b (ix4 h n i d) = (((D.head h).kst n i d : ℝ) : EReal) := by
  unfold kstArr
  pointwise
  rw [heads_at, H.k, b_at H, bl_at H, ← EReal.coe_sub, Ideal.exp_coe, ← EReal.coe_mul]
  rfl

theorem kv_at (h : Fin 4) (n : Fin 128) (x : Fin 256) (d : Fin 128) : kvArr k v g w b (ix4 h n x d) = (((D.head h).kv n x d : ℝ) : EReal) := by
  unfold kvArr
  pointwise
  simp only [v_at H, kst_at H, ← EReal.coe_mul, coe_sum]
  rfl

omit H in
theorem between_at (n k j : Fin 128) : betweenArr (ix3 n k j) = if k < j ∧ j < n then 1#1 else 0#1 := by
  unfold betweenArr
  pointwise
  rw [less, less, both]

omit H in
theorem less_at (h : Fin 4) (n k d : Fin 128) : lessArr (ix4 h n k d) = if k < n then 1#1 else 0#1 := by
  unfold lessArr
  pointwise
  exact less k n

theorem dec_at (h : Fin 4) (n k d : Fin 128) : decArr g w b (ix4 h n k d) = (((D.head h).dec n k d : ℝ) : EReal) := by
  unfold decArr
  pointwise
  simp only [less_at, between_at, bit, bl_at H, ← EReal.coe_mul, coe_sum, Ideal.exp_coe, mul_ite, mul_one, mul_zero]
  exact (congrArg (Scalar.select _ _) Ideal.ofBits_zero_f32).trans (picked _ _)

theorem st_at (h : Fin 4) (n : Fin 128) (x : Fin 256) (d : Fin 128) : stArr k v g w b (ix4 h n x d) = (((D.head h).st n x d : ℝ) : EReal) := by
  unfold stArr
  pointwise
  simp only [kv_at H, dec_at H, ← EReal.coe_mul, coe_sum]
  rfl

theorem scores_at (h : Fin 4) (n : Fin 128) (i j : Fin 64) : scoresArr q k g w b (ix4 h n i j) = (((D.head h).scores n i j : ℝ) : EReal) := by
  unfold scoresArr
  pointwise
  simp only [m_at, qin_at H, kout_at H, ← EReal.coe_mul, coe_sum]
  exact (congrArg (Scalar.select _ _) Ideal.ofBits_zero_f32).trans (picked _ _)

theorem out_at (r : Fin 8192) (l : Fin 1024) : outArr q k v g w b (ix2 r l) = (((D.head (vh l)).out (rn r) (ro r) (vd l) : ℝ) : EReal) := by
  unfold outArr
  pointwise
  simp only [scores_at H, v_at H, qin_at H, st_at H, ← EReal.coe_mul, coe_sum, ← EReal.coe_add]
  rfl

theorem states_at (h : Fin 4) (n : Fin 128) (x : Fin 256) (d : Fin 128) : statesArr k v g w b (ix4 h n x d) = (((D.head h).st n x d : ℝ) : EReal) := by
  unfold statesArr
  pointwise
  exact st_at H h n x d

omit H in
/-- The reference's two results are these arrays of its arguments. -/
theorem res_o (m : (ℓ : Loc nD τ sig) → Buf (Elt Ideal) ℓ) (c : Dev nD) :
    res_main_v68 m c = outArr (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold res_main_v68 outArr scoresArr stArr decArr kvArr kstArr koutArr qinArr vArr heads blArr bArr soft neg0 neg zeros lessArr betweenArr mask
  rfl

omit H in
theorem res_ss (m : (ℓ : Loc nD τ sig) → Buf (Elt Ideal) ℓ) (c : Dev nD) :
    res_main_v69 m c = statesArr (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold res_main_v69 statesArr stArr decArr kvArr kstArr vArr heads blArr bArr soft neg0 neg zeros lessArr betweenArr mask
  rfl

end Cert.GlaFwdProof.Ref
-- ==== Proof.GlaFwd.Claim.lean ====
/- The layer's forward call leaves what the reference's lines leave, of real arguments. -/
module
public import proofs.«01_k».proof.Proof.GlaFwd.Final
public import proofs.«01_k».proof.Proof.GlaFwd.Ref
public import proofs.«01_k».proof.Defs
public import Idealize.ShloMosaic.Lib.Claim

@[expose] public section

set_option maxRecDepth 16384

noncomputable section

namespace Cert.GlaFwdProof

open Idealize.ShloMosaic Idealize.ShloMosaic.TcCoe Idealize.SL.Sem Cert.GlaProof

section Agree

variable (m : (ℓ : Loc Cert.GlaFwdIdeal.nD Cert.GlaFwdIdeal.τ Cert.GlaFwdIdeal.sig) → Buf (Elt Ideal) ℓ) (c : Dev Cert.GlaFwdIdeal.nD)

open Cert.GlaFwdIdeal in
/-- The reals the arguments hold; there is no cotangent. -/
def dataOf : Data where
  q r l := EReal.toReal (m (c, Proc.tc.devRef main_arg0) (ix2 r l))
  k r l := EReal.toReal (m (c, Proc.tc.devRef main_arg1) (ix2 r l))
  v r l := EReal.toReal (m (c, Proc.tc.devRef main_arg2) (ix2 r l))
  g r l := EReal.toReal (m (c, Proc.tc.devRef main_arg3) (ix2 r l))
  w r l := EReal.toReal (m (c, Proc.tc.devRef main_arg4) (ix2 r l))
  b l := EReal.toReal (m (c, Proc.tc.devRef main_arg5) (ix2 0 l))
  o _ _ := 0

theorem real_back {x : EReal} (h : ∃ y : ℝ, x = y) : x = ((x.toReal : ℝ) : EReal) := by
  obtain ⟨y, rfl⟩ := h
  rw [EReal.toReal_coe]

theorem is_of_pre [Cert.Pre_gla_fwd_finite.Facts] (h : Cert.Pre_GlaFwdIdeal_gla_fwd_finite m) : Is m c (dataOf m c) := by
  obtain ⟨h0, h1, h2, h3, h4, h5⟩ := h c
  exact ⟨fun r l => real_back (NormBack.real_of_flag _ _ (fun _ => rfl) h0 _), fun r l => real_back (NormBack.real_of_flag _ _ (fun _ => rfl) h1 _),
    fun r l => real_back (NormBack.real_of_flag _ _ (fun _ => rfl) h2 _), fun r l => real_back (NormBack.real_of_flag _ _ (fun _ => rfl) h3 _),
    fun r l => real_back (NormBack.real_of_flag _ _ (fun _ => rfl) h4 _), fun l => real_back (NormBack.real_of_flag _ _ (fun _ => rfl) h5 _)⟩

theorem split_ix {a b : ℕ} (i : (⟨2, ![a, b]⟩ : Shape).Idx) : i = ix2 (i 0) (i 1) := by
  funext k
  match k with
  | ⟨0, _⟩ => rfl
  | ⟨1, _⟩ => rfl

theorem split_ix4 {a b c d : ℕ} (i : (⟨4, ![a, b, c, d]⟩ : Shape).Idx) : i = ix4 (i 0) (i 1) (i 2) (i 3) := by
  funext k
  match k with
  | ⟨0, _⟩ => rfl
  | ⟨1, _⟩ => rfl
  | ⟨2, _⟩ => rfl
  | ⟨3, _⟩ => rfl

variable {m c} {D : Data} (H : Is m c D)
variable {m' : (ℓ : Loc Cert.GlaFwdRefIdeal.nD Cert.GlaFwdRefIdeal.τ Cert.GlaFwdRefIdeal.sig) → Buf (Elt Ideal) ℓ} {c' : Dev Cert.GlaFwdRefIdeal.nD}

open Cert.GlaFwdRefIdeal in
/-- The reference's arguments hold the real inputs. -/
abbrev RefIs (m' : (ℓ : Loc nD τ sig) → Buf (Elt Ideal) ℓ) (c' : Dev nD) (D : Data) : Prop :=
  Ref.Is (m' ((c'.tc : Thread nD τ).loc main_arg0)) (m' ((c'.tc : Thread nD τ).loc main_arg1)) (m' ((c'.tc : Thread nD τ).loc main_arg2))
    (m' ((c'.tc : Thread nD τ).loc main_arg3)) (m' ((c'.tc : Thread nD τ).loc main_arg4)) (m' ((c'.tc : Thread nD τ).loc main_arg5)) D

variable (R : RefIs m' c' D)

include H R

open Cert.GlaFwdIdeal

theorem o_eq : Cert.GlaFwdRefIdeal.Value.res_main_v68 m' c' = (Gen.dats m 0 c).arrAt 6 cfg0.N := by
  rw [final_o H, Ref.res_o]
  exact funext fun i => (congrArg (Ref.outArr _ _ _ _ _ _) (split_ix i)).trans (Ref.out_at R (i 0) (i 1))

theorem ss_eq : Cert.GlaFwdRefIdeal.Value.res_main_v69 m' c' = (Gen.dats m 0 c).arrAt 7 cfg0.N := by
  rw [final_ss H, Ref.res_ss]
  exact funext fun i => (congrArg (Ref.statesArr _ _ _ _ _) (split_ix4 i)).trans (Ref.states_at R (i 0) (i 1) (i 2) (i 3))

end Agree

theorem algebraic [Cert.Pre_gla_fwd_finite.Facts] : Cert.algebraic_GlaFwdIdeal_GlaFwdRefIdeal_pre_gla_fwd_finite := by
  intro m g m' g' hpre hagree
  have hr : ∀ c, RefIs m' c (dataOf m c) := fun c => by
    obtain ⟨h0, h1, h2, h3, h4, h5⟩ := hagree c
    have H := is_of_pre m c hpre
    exact ⟨fun r l => (congrFun h0 _).trans (H.q r l), fun r l => (congrFun h1 _).trans (H.k r l), fun r l => (congrFun h2 _).trans (H.v r l),
      fun r l => (congrFun h3 _).trans (H.g r l), fun r l => (congrFun h4 _).trans (H.w r l), fun l => (congrFun h5 _).trans (H.b l)⟩
  refine ⟨fun c => (Cert.GlaFwdIdeal.Gen.dats m 0 c).arrAt 6 Cert.GlaFwdIdeal.cfg0.N, fun c => (Cert.GlaFwdIdeal.Gen.dats m 0 c).arrAt 7 Cert.GlaFwdIdeal.cfg0.N,
    Cert.GlaFwdIdeal.Value.run_blocks m g, ?_⟩
  exact (θ_run Cert.GlaFwdRefIdeal.defs _ _).mono
    (fun r h c => ⟨(h c).1.trans (o_eq (is_of_pre m c hpre) (hr c)), (h c).2.1.trans (ss_eq (is_of_pre m c hpre) (hr c)), (h c).2.2⟩)
    (Cert.GlaFwdRefIdeal.Value.run m' g')

end Cert.GlaFwdProof
-- ==== Proof.Lib.HeadNorm.lean ====
/- A norm over one head's entries and its gradient: the form a kernel computes and the chain rule's form are one value for a row of
   reals. `N` is the number of entries the mean divides by. -/
module

public import proofs.«01_k».proof.Proof.Lib.NormBack

@[expose] public section

noncomputable section

namespace Cert.HeadNorm

open Idealize.ShloMosaic

variable {n : ℕ} (N : EReal)

/-- The mean of a row's squares and the norm's small constant. -/
def meanSq (x : Fin n → EReal) : EReal := Ideal.div (∑ l, x l * x l) N + Ideal.ofBits .f32 0x358637BD#32

/-- The norm's factor of a row. -/
def rs (x : Fin n → EReal) : EReal := Ideal.rsqrt (meanSq N x)

/-- The row's gradient: the factor times the weighted cotangent less its part along the row. -/
def back (x d w : Fin n → EReal) (j : Fin n) : EReal :=
  rs N x * (d j * w j - x j * rs N x * Ideal.div (∑ l, d l * w l * (x l * rs N x)) N)

/-- The gradient of the squares' mean, by the chain rule. -/
def slope (x d w : Fin n → EReal) : EReal :=
  Ideal.div ((∑ l, x l * (d l * w l)) * (Ideal.ofBits .f32 0xBF000000#32 * Ideal.div (rs N x) (meanSq N x))) N

variable (k : ℝ) (hk : 0 < k) (hN : N = (k : EReal))

include hk hN

theorem meanSq_real (x : Fin n → ℝ) : ∃ v : ℝ, 0 < v ∧ meanSq N (fun l => (x l : EReal)) = (v : EReal) := by
  obtain ⟨e, he, hee⟩ := NormBack.ceps
  refine ⟨(∑ l, x l * x l) * (1 / k) + e,
    add_pos_of_nonneg_of_pos (mul_nonneg (Finset.sum_nonneg fun l _ => mul_self_nonneg _) (one_div_nonneg.2 hk.le)) he, ?_⟩
  unfold meanSq
  rw [hN, hee, Ideal.div_coe hk.ne']
  simp only [← EReal.coe_mul, NormBack.coe_sum, ← EReal.coe_add]

/-- The factor of a finite row is a real. -/
theorem rs_real {x : Fin n → EReal} (hx : ∀ l, ∃ r : ℝ, x l = r) : ∃ r : ℝ, rs N x = r := by
  choose x' hx using hx
  obtain rfl : x = fun l => (x' l : EReal) := funext hx
  obtain ⟨v, hv, hm⟩ := meanSq_real N k hk hN x'
  unfold rs
  rw [hm, Ideal.rsqrt_coe, if_neg (not_lt.2 hv.le), if_neg hv.ne']
  exact ⟨_, rfl⟩

theorem chain_eq (x d w : Fin n → EReal) (hx : ∀ l, ∃ r : ℝ, x l = r) (hd : ∀ l, ∃ r : ℝ, d l = r)
    (hw : ∀ l, ∃ r : ℝ, w l = r) (j : Fin n) :
    d j * w j * rs N x + x j * slope N x d w + slope N x d w * x j = back N x d w j := by
  choose x' hx using hx
  choose d' hd using hd
  choose w' hw using hw
  obtain rfl : x = fun l => (x' l : EReal) := funext hx
  obtain rfl : d = fun l => (d' l : EReal) := funext hd
  obtain rfl : w = fun l => (w' l : EReal) := funext hw
  obtain ⟨v, hv, hm⟩ := meanSq_real N k hk hN x'
  have hr : rs N (fun l => (x' l : EReal)) = (((Real.sqrt v)⁻¹ : ℝ) : EReal) := by
    unfold rs
    rw [hm, Ideal.rsqrt_coe, if_neg (not_lt.2 hv.le), if_neg hv.ne']
  have hsq : (Real.sqrt v)⁻¹ * (Real.sqrt v)⁻¹ = 1 / v := by
    rw [← mul_inv, Real.mul_self_sqrt hv.le, one_div]
  unfold back slope
  rw [hm, hr, hN, NormBack.cneghalf, Ideal.div_coe hv.ne']
  generalize (Real.sqrt v)⁻¹ = r at hsq
  rw [Ideal.div_coe hk.ne', Ideal.div_coe hk.ne']
  simp only [← EReal.coe_mul, NormBack.coe_sum, ← EReal.coe_sub, ← EReal.coe_add]
  refine congrArg (fun z : ℝ => (z : EReal)) ?_
  have hs : ∑ l, d' l * w' l * (x' l * r) = r * ∑ l, x' l * (d' l * w' l) := by
    rw [Finset.mul_sum]
    exact Finset.sum_congr rfl fun l _ => by ring
  rw [hs]
  generalize ∑ l, x' l * (d' l * w' l) = S
  rw [← hsq]
  ring

end Cert.HeadNorm
-- ==== Proof.Merge.PayA.lean ====
/- One grid point of the merge's gradient, the first head group: what its stored values are, entry by entry. -/
module

public import proofs.«01_k».proof.Proof.Gen.MergeIdeal.Skeleton
public import Idealize.ShloMosaic.Lib.Pointwise
public import Idealize.ShloMosaic.Lib.ValueIdx
public import proofs.«01_k».proof.Proof.Lib.HeadNorm
public import proofs.«01_k».proof.Proof.Lib.Silu

@[expose] public section

set_option maxRecDepth 16384

noncomputable section

namespace Cert.MergeProof

open Idealize.ShloMosaic Cert.MergeIdeal Cert.MergeIdeal.Gen

/-- The number of a head's entries, as the kernel's word for it. -/
def NA : EReal := Ideal.ofBits .f32 0x43800000#32

/-- Entry `x` of head `i`, as a column. -/
def ca (i : Fin 4) (x : Fin 256) : Fin 1024 := ⟨i.val * 256 + x.val, by omega⟩

theorem ca0 (x : Fin 256) (h : x.val < 1024) : (⟨x.val, h⟩ : Fin 1024) = ca 0 x := Fin.ext (by unfold ca; simp)
theorem ca1 (x : Fin 256) (h : 256 + x.val < 1024) : (⟨256 + x.val, h⟩ : Fin 1024) = ca 1 x := Fin.ext (by unfold ca; simp)
theorem ca2 (x : Fin 256) (h : 512 + x.val < 1024) : (⟨512 + x.val, h⟩ : Fin 1024) = ca 2 x := Fin.ext (by unfold ca; simp)
theorem ca3 (x : Fin 256) (h : 768 + x.val < 1024) : (⟨768 + x.val, h⟩ : Fin 1024) = ca 3 x := Fin.ext (by unfold ca; simp)

/-- Four heads side by side, read at an entry of one. -/
theorem cat_a (v0 v1 v2 v3 : FVec Ideal S256x256 .f32) (i : Fin 4) (r x : Fin 256) :
    concatenate S256x1024 1 [⟨S256x256, v0⟩, ⟨S256x256, v1⟩, ⟨S256x256, v2⟩, ⟨S256x256, v3⟩]
      concatenates_S256x256_S256x256_S256x256_S256x256_S256x1024_d1 (ix2 r (ca i x)) = ![v0, v1, v2, v3] i (ix2 r x) := by
  have hx := x.isLt
  unfold ca
  match i with
  | 0 => pointwise
  | 1 =>
    pointwise
  | 2 =>
    pointwise
    rw [dif_neg (by omega), dif_neg (by omega), dif_pos (by omega)]
    exact congrArg (fun z => v2 (ix2 r z)) (Fin.ext (by dsimp only; omega))
  | 3 =>
    pointwise
    rw [dif_neg (by omega), dif_neg (by omega), dif_neg (by omega)]
    exact congrArg (fun z => v3 (ix2 r z)) (Fin.ext (by dsimp only; omega))

/-- The four heads' factors, and the four heads divided by their norms. -/
def fa (o : Vec Ideal S256x1024 .bf16) : Fin 4 → FVec Ideal S256x1 .f32 :=
  ![k0_pay10 o, k0_pay13 o, k0_pay17 (k0_pay16 o), k0_pay20 (k0_pay8 o)]
def na (o : Vec Ideal S256x1024 .bf16) : Fin 4 → FVec Ideal S256x256 .f32 :=
  ![k0_pay11 o, k0_pay14 o, k0_pay18 (k0_pay15 o) (k0_pay16 o), k0_pay21 (k0_pay8 o)]

theorem fa_at (o : Vec Ideal S256x1024 .bf16) (i : Fin 4) (r : Fin 256) : fa o i (ix2 r 0) = HeadNorm.rs NA fun l => o (ix2 r (ca i l)) := by
  match i with
  | 0 =>
    show k0_pay10 o (ix2 r 0) = _
    pointwise [k0_pay10, k0_pay9, k0_pay8]
    simp only [ca0]
    rfl
  | 1 =>
    show k0_pay13 o (ix2 r 0) = _
    pointwise [k0_pay13, k0_pay12, k0_pay8]
    simp only [ca1]
    rfl
  | 2 =>
    show k0_pay17 (k0_pay16 o) (ix2 r 0) = _
    pointwise [k0_pay17, k0_pay16, k0_pay15, k0_pay8]
    simp only [ca2]
    rfl
  | 3 =>
    show k0_pay20 (k0_pay8 o) (ix2 r 0) = _
    pointwise [k0_pay20, k0_pay19, k0_pay8]
    simp only [ca3]
    rfl

theorem pay8_eq (o : Vec Ideal S256x1024 .bf16) : k0_pay8 (F := Ideal) o = o := by
  refine funext fun i => ?_
  have hi : i = ix2 (i 0) (i 1) := by
    funext a
    match a with
    | ⟨0, _⟩ => rfl
    | ⟨1, _⟩ => rfl
  rw [hi]
  pointwise [k0_pay8]

theorem na_at (o : Vec Ideal S256x1024 .bf16) (i : Fin 4) (r x : Fin 256) :
    na o i (ix2 r x) = o (ix2 r (ca i x)) * HeadNorm.rs NA fun l => o (ix2 r (ca i l)) := by
  match i with
  | 0 =>
    show k0_pay11 o (ix2 r x) = _
    pointwise [k0_pay11, k0_pay9, k0_pay8]
    exact congrArg₂ (· * ·) (congrArg (fun z => o (ix2 r z)) (ca0 x _)) (fa_at o 0 r)
  | 1 =>
    show k0_pay14 o (ix2 r x) = _
    pointwise [k0_pay14, k0_pay12, k0_pay8]
    exact congrArg₂ (· * ·) (congrArg (fun z => o (ix2 r z)) (ca1 x _)) (fa_at o 1 r)
  | 2 =>
    show k0_pay18 (k0_pay15 o) (k0_pay16 o) (ix2 r x) = _
    pointwise [k0_pay18, k0_pay15, k0_pay8]
    exact congrArg₂ (· * ·) (congrArg (fun z => o (ix2 r z)) (ca2 x _)) (fa_at o 2 r)
  | 3 =>
    have e : k0_pay20 (k0_pay8 o) (ix2 r 0) = _ := fa_at o 3 r
    show k0_pay21 (k0_pay8 o) (ix2 r x) = _
    rw [pay8_eq] at e ⊢
    pointwise [k0_pay21, k0_pay19]
    exact congrArg₂ (· * ·) (congrArg (fun z => o (ix2 r z)) (ca3 x _)) e

/-- The cotangent of the merged heads. -/
theorem pay7_at (d : Vec Ideal S256x1024 .f32) (w : Vec Ideal S1024x1024 .bf16) (r : Fin 256) (j : Fin 1024) :
    k0_pay7 (F := Ideal) d w (ix2 r j) = ∑ k, d (ix2 r k) * w (ix2 j k) := by
  pointwise [k0_pay7, k0_pay6]

theorem pay24_at (g : Vec Ideal S256x1024 .bf16) (r : Fin 256) (j : Fin 1024) :
    k0_pay24 (F := Ideal) g (ix2 r j) = Silu.sg (g (ix2 r j)) := by
  unfold Silu.sg
  pointwise [k0_pay24]
  rw [zero_sub]

theorem pay23_at (g : Vec Ideal S256x1024 .bf16) (r : Fin 256) (j : Fin 1024) :
    k0_pay23 (F := Ideal) g (ix2 r j) = Silu.sg (g (ix2 r j)) := by
  unfold Silu.sg
  pointwise [k0_pay23, k0_pay22]
  rw [zero_sub]

theorem pay25_at (g : Vec Ideal S256x1024 .bf16) (r : Fin 256) (j : Fin 1024) :
    k0_pay25 (F := Ideal) g (ix2 r j) = g (ix2 r j) * Silu.sg (g (ix2 r j)) := by
  pointwise [k0_pay25, k0_pay22]
  rw [pay23_at]

/-- The normed and weighted heads side by side. -/
def hna (w : Vec Ideal S1x256 .f32) (o : Vec Ideal S256x1024 .bf16) : FVec Ideal S256x1024 .f32 :=
  k0_pay28 w (k0_pay14 o) (k0_pay18 (k0_pay15 o) (k0_pay16 o)) (k0_pay21 (k0_pay8 o)) (k0_pay26 w (k0_pay11 o)) (k0_pay27 w)

theorem hna_at (w : Vec Ideal S1x256 .f32) (o : Vec Ideal S256x1024 .bf16) (i : Fin 4) (r x : Fin 256) :
    hna w o (ix2 r (ca i x)) = na o i (ix2 r x) * w (ix2 0 x) := by
  unfold hna k0_pay28
  refine (cat_a _ _ _ _ i r x).trans ?_
  match i with
  | 0 => show k0_pay26 w (na o 0) (ix2 r x) = _; pointwise [k0_pay26]
  | 1 => show mulf (na o 1) (k0_pay27 w) (ix2 r x) = _; pointwise [k0_pay27]
  | 2 => show mulf (na o 2) (broadcastTo S256x256 w broadcasts_S1x256_S256x256) (ix2 r x) = _; pointwise
  | 3 => show mulf (na o 3) (broadcastTo S256x256 w broadcasts_S1x256_S256x256) (ix2 r x) = _; pointwise

/-- The blocks a point stores: the mixing columns' gradient, the gate's, and the heads'. -/
def dmaBlk (d : Vec Ideal S256x1024 .f32) (o g q : Vec Ideal S256x1024 .bf16) (w : Vec Ideal S1x256 .f32) (z : Vec Ideal S1024x1024 .bf16) :
    FVec Ideal S256x1024 .bf16 :=
  k0_pay106 (k0_pay30 (k0_pay7 d z) w (k0_pay14 o) (k0_pay18 (k0_pay15 o) (k0_pay16 o)) (k0_pay21 (k0_pay8 o))
    (k0_pay24 q) (k0_pay25 g) (k0_pay26 w (k0_pay11 o)) (k0_pay27 w))
def dgaBlk (d : Vec Ideal S256x1024 .f32) (o g q : Vec Ideal S256x1024 .bf16) (w : Vec Ideal S1x256 .f32) (z : Vec Ideal S1024x1024 .bf16) :
    FVec Ideal S256x1024 .bf16 :=
  k0_pay104 (k0_pay32 (k0_pay7 d z) w (k0_pay14 o) (k0_pay18 (k0_pay15 o) (k0_pay16 o)) (k0_pay21 (k0_pay8 o))
    (k0_pay22 g) (k0_pay23 g) (k0_pay24 q) (k0_pay26 w (k0_pay11 o)) (k0_pay27 w))
/-- The cotangent of the normed heads. -/
def dhaBlk (d : Vec Ideal S256x1024 .f32) (g q : Vec Ideal S256x1024 .bf16) (z : Vec Ideal S1024x1024 .bf16) : FVec Ideal S256x1024 .f32 :=
  k0_pay31 (k0_pay7 d z) (k0_pay24 q) (k0_pay25 g)
def doaBlk (d : Vec Ideal S256x1024 .f32) (o g q : Vec Ideal S256x1024 .bf16) (w : Vec Ideal S1x256 .f32) (z : Vec Ideal S1024x1024 .bf16) :
    FVec Ideal S256x1024 .bf16 :=
  k0_pay102 (k0_pay42 w (k0_pay13 o) (k0_pay14 o) (k0_pay17 (k0_pay16 o)) (k0_pay18 (k0_pay15 o) (k0_pay16 o)) (k0_pay20 (k0_pay8 o))
    (k0_pay21 (k0_pay8 o)) (dhaBlk d g q z)
    (k0_pay34 (k0_pay7 d z) w (k0_pay10 o) (k0_pay11 o) (k0_pay24 q) (k0_pay25 g))
    (k0_pay37 (k0_pay7 d z) w (k0_pay24 q) (k0_pay25 g)) (k0_pay38 (k0_pay7 d z) w (k0_pay14 o) (k0_pay24 q) (k0_pay25 g))
    (FloatOps.ofBits FTy.f32 0x43800000#32))
/-- The block's part of the weight's gradient. -/
def dwaBlk (d : Vec Ideal S256x1024 .f32) (o g q : Vec Ideal S256x1024 .bf16) (z : Vec Ideal S1024x1024 .bf16) (acc : Vec Ideal S1x256 .f32) :
    FVec Ideal S1x256 .f32 :=
  k0_pay2 (k0_pay41 (k0_pay18 (k0_pay15 o) (k0_pay16 o)) (k0_pay21 (k0_pay8 o)) (dhaBlk d g q z)
    (k0_pay36 (k0_pay7 d z) (k0_pay11 o) (k0_pay14 o) (k0_pay24 q) (k0_pay25 g))) acc

section At

variable (d : Vec Ideal S256x1024 .f32) (o g q : Vec Ideal S256x1024 .bf16) (w : Vec Ideal S1x256 .f32) (z : Vec Ideal S1024x1024 .bf16)

theorem dhaBlk_at (r : Fin 256) (j : Fin 1024) :
    dhaBlk d g q z (ix2 r j) = k0_pay7 d z (ix2 r j) * Silu.sg (q (ix2 r j)) * (g (ix2 r j) * Silu.sg (g (ix2 r j))) := by
  unfold dhaBlk
  pointwise [k0_pay31, k0_pay29]
  rw [pay24_at, pay25_at]

theorem dmaBlk_at (r : Fin 256) (j : Fin 1024) :
    dmaBlk d o g q w z (ix2 r j) = k0_pay7 d z (ix2 r j) * hna w o (ix2 r j) * (g (ix2 r j) * Silu.sg (g (ix2 r j))) * Silu.sg (q (ix2 r j))
      * (1 - Silu.sg (q (ix2 r j))) := by
  unfold dmaBlk hna
  pointwise [k0_pay106, k0_pay30]
  rw [pay24_at, pay25_at]

theorem dgaBlk_at (r : Fin 256) (j : Fin 1024) :
    dgaBlk d o g q w z (ix2 r j) = k0_pay7 d z (ix2 r j) * Silu.sg (q (ix2 r j)) * hna w o (ix2 r j)
      * (Silu.sg (g (ix2 r j)) * (1 + g (ix2 r j) * (1 - Silu.sg (g (ix2 r j))))) := by
  unfold dgaBlk hna
  pointwise [k0_pay104, k0_pay32, k0_pay29, k0_pay22]
  rw [pay24_at, pay23_at]

theorem doaBlk_at (i : Fin 4) (r x : Fin 256) :
    doaBlk d o g q w z (ix2 r (ca i x)) = HeadNorm.back NA (fun l => o (ix2 r (ca i l))) (fun l => dhaBlk d g q z (ix2 r (ca i l)))
      (fun l => w (ix2 0 l)) x := by
  have h : doaBlk d o g q w z (ix2 r (ca i x)) = fa o i (ix2 r 0) * (dhaBlk d g q z (ix2 r (ca i x)) * w (ix2 0 x)
      - na o i (ix2 r x) * Ideal.div (∑ l, dhaBlk d g q z (ix2 r (ca i l)) * w (ix2 0 l) * na o i (ix2 r l)) NA) := by
    unfold doaBlk k0_pay102 k0_pay42
    refine (cat_a _ _ _ _ i r x).trans ?_
    match i with
    | 0 =>
      show k0_pay34 (k0_pay7 d z) w (fa o 0) (na o 0) (k0_pay24 q) (k0_pay25 g) (ix2 r x) = _
      pointwise [k0_pay34, k0_pay33]
      simp only [ca0]
      rfl
    | 1 =>
      dsimp only [Matrix.cons_val]
      pointwise [k0_pay37, k0_pay38, k0_pay35]
      simp only [ca1]
      rfl
    | 2 =>
      dsimp only [Matrix.cons_val]
      pointwise [k0_pay39]
      simp only [ca2]
      rfl
    | 3 =>
      dsimp only [Matrix.cons_val]
      pointwise [k0_pay40]
      simp only [ca3]
      rfl
  unfold HeadNorm.back
  rw [h, fa_at]
  simp only [na_at]

theorem dwaBlk_at (acc : Vec Ideal S1x256 .f32) (x : Fin 256) :
    dwaBlk d o g q z acc (ix2 0 x) = acc (ix2 0 x) + ∑ i : Fin 4, ∑ r : Fin 256, dhaBlk d g q z (ix2 r (ca i x)) * na o i (ix2 r x) := by
  rw [Fin.sum_univ_four]
  unfold dwaBlk
  pointwise [k0_pay2, k0_pay41, k0_pay36, k0_pay33, k0_pay35, k0_pay39, k0_pay40]
  simp only [ca0, ca1, ca2, ca3]
  rfl

end At

end Cert.MergeProof
-- ==== Proof.Merge.PayB.lean ====
/- One grid point of the merge's gradient, the second head group: what its stored values are, entry by entry. -/
module

public import proofs.«01_k».proof.Proof.Merge.PayA

@[expose] public section

set_option maxRecDepth 16384

noncomputable section

namespace Cert.MergeProof

open Idealize.ShloMosaic Cert.MergeIdeal Cert.MergeIdeal.Gen

/-- The number of a head's entries, as the kernel's word for it. -/
def NB : EReal := Ideal.ofBits .f32 0x43000000#32

/-- Entry `x` of head `i`, as a column. -/
def cb (i : Fin 8) (x : Fin 128) : Fin 1024 := ⟨i.val * 128 + x.val, by omega⟩

theorem cb0 (x : Fin 128) (h : x.val < 1024) : (⟨x.val, h⟩ : Fin 1024) = cb 0 x := Fin.ext (by unfold cb; simp)
theorem cb1 (x : Fin 128) (h : 128 + x.val < 1024) : (⟨128 + x.val, h⟩ : Fin 1024) = cb 1 x := Fin.ext (by unfold cb; simp)
theorem cb2 (x : Fin 128) (h : 256 + x.val < 1024) : (⟨256 + x.val, h⟩ : Fin 1024) = cb 2 x := Fin.ext (by unfold cb; simp)
theorem cb3 (x : Fin 128) (h : 384 + x.val < 1024) : (⟨384 + x.val, h⟩ : Fin 1024) = cb 3 x := Fin.ext (by unfold cb; simp)
theorem cb4 (x : Fin 128) (h : 512 + x.val < 1024) : (⟨512 + x.val, h⟩ : Fin 1024) = cb 4 x := Fin.ext (by unfold cb; simp)
theorem cb5 (x : Fin 128) (h : 640 + x.val < 1024) : (⟨640 + x.val, h⟩ : Fin 1024) = cb 5 x := Fin.ext (by unfold cb; simp)
theorem cb6 (x : Fin 128) (h : 768 + x.val < 1024) : (⟨768 + x.val, h⟩ : Fin 1024) = cb 6 x := Fin.ext (by unfold cb; simp)
theorem cb7 (x : Fin 128) (h : 896 + x.val < 1024) : (⟨896 + x.val, h⟩ : Fin 1024) = cb 7 x := Fin.ext (by unfold cb; simp)

/-- Eight heads side by side, read at an entry of one. -/
theorem cat_b (v0 v1 v2 v3 v4 v5 v6 v7 : FVec Ideal S256x128 .f32) (i : Fin 8) (r : Fin 256) (x : Fin 128) :
    concatenate S256x1024 1 [⟨S256x128, v0⟩, ⟨S256x128, v1⟩, ⟨S256x128, v2⟩, ⟨S256x128, v3⟩, ⟨S256x128, v4⟩, ⟨S256x128, v5⟩, ⟨S256x128, v6⟩, ⟨S256x128, v7⟩]
      concatenates_S256x128_S256x128_S256x128_S256x128_S256x128_S256x128_S256x128_S256x128_S256x1024_d1 (ix2 r (cb i x))
      = ![v0, v1, v2, v3, v4, v5, v6, v7] i (ix2 r x) := by
  have hx := x.isLt
  unfold cb
  match i with
  | 0 => pointwise
  | 1 => pointwise
  | 2 =>
    pointwise
    rw [dif_neg (by omega), dif_neg (by omega), dif_pos (by omega)]
    exact congrArg (fun z => v2 (ix2 r z)) (Fin.ext (by dsimp only; omega))
  | 3 =>
    pointwise
    rw [dif_neg (by omega), dif_neg (by omega), dif_neg (by omega), dif_pos (by omega)]
    exact congrArg (fun z => v3 (ix2 r z)) (Fin.ext (by dsimp only; omega))
  | 4 =>
    pointwise
    rw [dif_neg (by omega), dif_neg (by omega), dif_neg (by omega), dif_neg (by omega), dif_pos (by omega)]
    exact congrArg (fun z => v4 (ix2 r z)) (Fin.ext (by dsimp only; omega))
  | 5 =>
    pointwise
    rw [dif_neg (by omega), dif_neg (by omega), dif_neg (by omega), dif_neg (by omega), dif_neg (by omega), dif_pos (by omega)]
    exact congrArg (fun z => v5 (ix2 r z)) (Fin.ext (by dsimp only; omega))
  | 6 =>
    pointwise
    rw [dif_neg (by omega), dif_neg (by omega), dif_neg (by omega), dif_neg (by omega), dif_neg (by omega), dif_neg (by omega), dif_pos (by omega)]
    exact congrArg (fun z => v6 (ix2 r z)) (Fin.ext (by dsimp only; omega))
  | 7 =>
    pointwise
    rw [dif_neg (by omega), dif_neg (by omega), dif_neg (by omega), dif_neg (by omega), dif_neg (by omega), dif_neg (by omega), dif_neg (by omega)]
    exact congrArg (fun z => v7 (ix2 r z)) (Fin.ext (by dsimp only; omega))

/-- The eight heads' factors, and the eight heads divided by their norms. -/
def fb (o : Vec Ideal S256x1024 .bf16) : Fin 8 → FVec Ideal S256x1 .f32 :=
  ![k0_pay46 (k0_pay45 o), k0_pay49 (k0_pay43 o), k0_pay52 (k0_pay43 o), k0_pay55 (k0_pay43 o), k0_pay59 (k0_pay58 (k0_pay43 o)), k0_pay62 (k0_pay43 o), k0_pay65 (k0_pay43 o), k0_pay68 (k0_pay43 o)]
def nb (o : Vec Ideal S256x1024 .bf16) : Fin 8 → FVec Ideal S256x128 .f32 :=
  ![k0_pay47 (k0_pay44 o) (k0_pay45 o), k0_pay50 (k0_pay43 o), k0_pay53 (k0_pay43 o), k0_pay56 (k0_pay43 o),
    k0_pay60 (k0_pay57 (k0_pay43 o)) (k0_pay58 (k0_pay43 o)), k0_pay63 (k0_pay43 o), k0_pay66 (k0_pay43 o), k0_pay69 (k0_pay43 o)]

theorem fb_at (o : Vec Ideal S256x1024 .bf16) (i : Fin 8) (r : Fin 256) : fb o i (ix2 r 0) = HeadNorm.rs NB fun l => o (ix2 r (cb i l)) := by
  match i with
  | 0 =>
    show k0_pay46 (k0_pay45 o) (ix2 r 0) = _
    pointwise [k0_pay46, k0_pay45, k0_pay44, k0_pay43]
    simp only [cb0]
    rfl
  | 1 =>
    show k0_pay49 (k0_pay43 o) (ix2 r 0) = _
    pointwise [k0_pay49, k0_pay48, k0_pay43]
    simp only [cb1]
    rfl
  | 2 =>
    show k0_pay52 (k0_pay43 o) (ix2 r 0) = _
    pointwise [k0_pay52, k0_pay51, k0_pay43]
    simp only [cb2]
    rfl
  | 3 =>
    show k0_pay55 (k0_pay43 o) (ix2 r 0) = _
    pointwise [k0_pay55, k0_pay54, k0_pay43]
    simp only [cb3]
    rfl
  | 4 =>
    show k0_pay59 (k0_pay58 (k0_pay43 o)) (ix2 r 0) = _
    pointwise [k0_pay59, k0_pay58, k0_pay57, k0_pay43]
    simp only [cb4]
    rfl
  | 5 =>
    show k0_pay62 (k0_pay43 o) (ix2 r 0) = _
    pointwise [k0_pay62, k0_pay61, k0_pay43]
    simp only [cb5]
    rfl
  | 6 =>
    show k0_pay65 (k0_pay43 o) (ix2 r 0) = _
    pointwise [k0_pay65, k0_pay64, k0_pay43]
    simp only [cb6]
    rfl
  | 7 =>
    show k0_pay68 (k0_pay43 o) (ix2 r 0) = _
    pointwise [k0_pay68, k0_pay67, k0_pay43]
    simp only [cb7]
    rfl

theorem nb_at (o : Vec Ideal S256x1024 .bf16) (i : Fin 8) (r : Fin 256) (x : Fin 128) :
    nb o i (ix2 r x) = o (ix2 r (cb i x)) * HeadNorm.rs NB fun l => o (ix2 r (cb i l)) := by
  match i with
  | 0 =>
    have e : k0_pay46 (k0_pay45 o) (ix2 r 0) = _ := fb_at o 0 r
    show k0_pay47 (k0_pay44 o) (k0_pay45 o) (ix2 r x) = _
    pointwise [k0_pay47, k0_pay44]
    rw [e]
    pointwise [k0_pay43]
    exact congrArg (· * _) (congrArg (fun z => o (ix2 r z)) (cb0 x _))
  | 1 =>
    have e : k0_pay49 (k0_pay43 o) (ix2 r 0) = _ := fb_at o 1 r
    show k0_pay50 (k0_pay43 o) (ix2 r x) = _
    pointwise [k0_pay50, k0_pay48]
    rw [e]
    pointwise [k0_pay43]
    exact congrArg (· * _) (congrArg (fun z => o (ix2 r z)) (cb1 x _))
  | 2 =>
    have e : k0_pay52 (k0_pay43 o) (ix2 r 0) = _ := fb_at o 2 r
    show k0_pay53 (k0_pay43 o) (ix2 r x) = _
    pointwise [k0_pay53, k0_pay51]
    rw [e]
    pointwise [k0_pay43]
    exact congrArg (· * _) (congrArg (fun z => o (ix2 r z)) (cb2 x _))
  | 3 =>
    have e : k0_pay55 (k0_pay43 o) (ix2 r 0) = _ := fb_at o 3 r
    show k0_pay56 (k0_pay43 o) (ix2 r x) = _
    pointwise [k0_pay56, k0_pay54]
    rw [e]
    pointwise [k0_pay43]
    exact congrArg (· * _) (congrArg (fun z => o (ix2 r z)) (cb3 x _))
  | 4 =>
    have e : k0_pay59 (k0_pay58 (k0_pay43 o)) (ix2 r 0) = _ := fb_at o 4 r
    show k0_pay60 (k0_pay57 (k0_pay43 o)) (k0_pay58 (k0_pay43 o)) (ix2 r x) = _
    pointwise [k0_pay60, k0_pay57]
    rw [e]
    pointwise [k0_pay43]
    exact congrArg (· * _) (congrArg (fun z => o (ix2 r z)) (cb4 x _))
  | 5 =>
    have e : k0_pay62 (k0_pay43 o) (ix2 r 0) = _ := fb_at o 5 r
    show k0_pay63 (k0_pay43 o) (ix2 r x) = _
    pointwise [k0_pay63, k0_pay61]
    rw [e]
    pointwise [k0_pay43]
    exact congrArg (· * _) (congrArg (fun z => o (ix2 r z)) (cb5 x _))
  | 6 =>
    have e : k0_pay65 (k0_pay43 o) (ix2 r 0) = _ := fb_at o 6 r
    show k0_pay66 (k0_pay43 o) (ix2 r x) = _
    pointwise [k0_pay66, k0_pay64]
    rw [e]
    pointwise [k0_pay43]
    exact congrArg (· * _) (congrArg (fun z => o (ix2 r z)) (cb6 x _))
  | 7 =>
    have e : k0_pay68 (k0_pay43 o) (ix2 r 0) = _ := fb_at o 7 r
    show k0_pay69 (k0_pay43 o) (ix2 r x) = _
    pointwise [k0_pay69, k0_pay67]
    rw [e]
    pointwise [k0_pay43]
    exact congrArg (· * _) (congrArg (fun z => o (ix2 r z)) (cb7 x _))

theorem pay70_at (g : Vec Ideal S256x1024 .bf16) (r : Fin 256) (j : Fin 1024) : k0_pay70 (F := Ideal) g (ix2 r j) = g (ix2 r j) := by
  pointwise [k0_pay70]

theorem pay74_at (g : Vec Ideal S256x1024 .bf16) (r : Fin 256) (j : Fin 1024) :
    k0_pay74 (F := Ideal) (k0_pay71 g) (ix2 r j) = Silu.sg (g (ix2 r j)) := by
  unfold Silu.sg
  pointwise [k0_pay74, k0_pay71]
  rw [zero_sub]

theorem pay73_at (g : Vec Ideal S256x1024 .bf16) (r : Fin 256) (j : Fin 1024) :
    k0_pay73 (F := Ideal) (k0_pay70 g) k0_pay72 (ix2 r j) = Silu.sg (g (ix2 r j)) := by
  unfold Silu.sg
  pointwise [k0_pay73, k0_pay70, k0_pay72]
  rw [zero_sub]

theorem pay75_at (g : Vec Ideal S256x1024 .bf16) (r : Fin 256) (j : Fin 1024) :
    k0_pay75 (F := Ideal) (k0_pay70 g) k0_pay72 (ix2 r j) = g (ix2 r j) * Silu.sg (g (ix2 r j)) := by
  pointwise [k0_pay75]
  rw [pay73_at, pay70_at]

/-- The normed and weighted heads side by side. -/
def hnb (w : Vec Ideal S1x128 .f32) (o : Vec Ideal S256x1024 .bf16) : FVec Ideal S256x1024 .f32 :=
  k0_pay76 w (nb o 0) (nb o 1) (nb o 2) (nb o 3) (nb o 4) (nb o 5) (nb o 6) (nb o 7)

theorem hnb_at (w : Vec Ideal S1x128 .f32) (o : Vec Ideal S256x1024 .bf16) (i : Fin 8) (r : Fin 256) (x : Fin 128) :
    hnb w o (ix2 r (cb i x)) = nb o i (ix2 r x) * w (ix2 0 x) := by
  unfold hnb k0_pay76
  refine (cat_b _ _ _ _ _ _ _ _ i r x).trans ?_
  match i with
  | 0 => show mulf (nb o 0) (broadcastTo S256x128 w broadcasts_S1x128_S256x128) (ix2 r x) = _; pointwise
  | 1 => show mulf (nb o 1) (broadcastTo S256x128 w broadcasts_S1x128_S256x128) (ix2 r x) = _; pointwise
  | 2 => show mulf (nb o 2) (broadcastTo S256x128 w broadcasts_S1x128_S256x128) (ix2 r x) = _; pointwise
  | 3 => show mulf (nb o 3) (broadcastTo S256x128 w broadcasts_S1x128_S256x128) (ix2 r x) = _; pointwise
  | 4 => show mulf (nb o 4) (broadcastTo S256x128 w broadcasts_S1x128_S256x128) (ix2 r x) = _; pointwise
  | 5 => show mulf (nb o 5) (broadcastTo S256x128 w broadcasts_S1x128_S256x128) (ix2 r x) = _; pointwise
  | 6 => show mulf (nb o 6) (broadcastTo S256x128 w broadcasts_S1x128_S256x128) (ix2 r x) = _; pointwise
  | 7 => show mulf (nb o 7) (broadcastTo S256x128 w broadcasts_S1x128_S256x128) (ix2 r x) = _; pointwise

/-- The cotangent of the normed heads. -/
def dhbBlk (d : Vec Ideal S256x1024 .f32) (g q : Vec Ideal S256x1024 .bf16) (z : Vec Ideal S1024x1024 .bf16) : FVec Ideal S256x1024 .f32 :=
  k0_pay79 (k0_pay7 d z) (k0_pay70 g) (k0_pay71 q) k0_pay72
/-- The blocks a point stores: the mixing columns' gradient, the gate's, and the heads'. -/
def dmbBlk (d : Vec Ideal S256x1024 .f32) (o g q : Vec Ideal S256x1024 .bf16) (w : Vec Ideal S1x128 .f32) (z : Vec Ideal S1024x1024 .bf16) :
    FVec Ideal S256x1024 .bf16 :=
  k0_pay1 (k0_pay78 (k0_pay7 d z) w (nb o 0) (nb o 1) (nb o 2) (nb o 3) (nb o 4) (nb o 5) (nb o 6) (nb o 7) (k0_pay70 g) (k0_pay71 q) k0_pay72)
def dgbBlk (d : Vec Ideal S256x1024 .f32) (o g q : Vec Ideal S256x1024 .bf16) (w : Vec Ideal S1x128 .f32) (z : Vec Ideal S1024x1024 .bf16) :
    FVec Ideal S256x1024 .bf16 :=
  k0_pay105 (k0_pay80 (k0_pay7 d z) w (nb o 0) (nb o 1) (nb o 2) (nb o 3) (nb o 4) (nb o 5) (nb o 6) (nb o 7) (k0_pay70 g) (k0_pay71 q) k0_pay72)
def dobBlk (d : Vec Ideal S256x1024 .f32) (o g q : Vec Ideal S256x1024 .bf16) (w : Vec Ideal S1x128 .f32) (z : Vec Ideal S1024x1024 .bf16) :
    FVec Ideal S256x1024 .bf16 :=
  k0_pay103 w (fb o 6) (nb o 6) (fb o 7) (nb o 7) (dhbBlk d g q z)
    (k0_pay84 w (fb o 0) (nb o 0) (k0_pay82 (k0_pay7 d z) (k0_pay70 g) (k0_pay71 q) k0_pay72))
    (k0_pay86 w (fb o 1) (nb o 1) (dhbBlk d g q z)) (k0_pay89 w (fb o 2) (nb o 2) (dhbBlk d g q z))
    (k0_pay92 w (fb o 3) (nb o 3) (k0_pay90 (dhbBlk d g q z))) (k0_pay94 w (fb o 4) (nb o 4) (dhbBlk d g q z))
    (k0_pay97 w (fb o 5) (nb o 5) (dhbBlk d g q z)) (k0_pay98 (dhbBlk d g q z))
/-- The block's part of the weight's gradient. -/
def dwbBlk (d : Vec Ideal S256x1024 .f32) (o g q : Vec Ideal S256x1024 .bf16) (z : Vec Ideal S1024x1024 .bf16) (acc : Vec Ideal S1x128 .f32) :
    FVec Ideal S1x128 .f32 :=
  k0_pay3 (k0_pay101 (nb o 7) (dhbBlk d g q z)
    (k0_pay96 (nb o 4) (nb o 5) (dhbBlk d g q z)
      (k0_pay88 (nb o 1) (nb o 2) (dhbBlk d g q z) k0_pay81 (k0_pay83 (k0_pay7 d z) (nb o 0) (k0_pay70 g) (k0_pay71 q) k0_pay72))
      (k0_pay91 (nb o 3) (dhbBlk d g q z)))
    (k0_pay99 (nb o 6) (dhbBlk d g q z))) acc

section At

variable (d : Vec Ideal S256x1024 .f32) (o g q : Vec Ideal S256x1024 .bf16) (w : Vec Ideal S1x128 .f32) (z : Vec Ideal S1024x1024 .bf16)

theorem dhbBlk_at (r : Fin 256) (j : Fin 1024) :
    dhbBlk d g q z (ix2 r j) = k0_pay7 d z (ix2 r j) * Silu.sg (q (ix2 r j)) * (g (ix2 r j) * Silu.sg (g (ix2 r j))) := by
  unfold dhbBlk
  pointwise [k0_pay79, k0_pay77]
  rw [pay74_at, pay75_at]

theorem dmbBlk_at (r : Fin 256) (j : Fin 1024) :
    dmbBlk d o g q w z (ix2 r j) = k0_pay7 d z (ix2 r j) * hnb w o (ix2 r j) * (g (ix2 r j) * Silu.sg (g (ix2 r j))) * Silu.sg (q (ix2 r j))
      * (1 - Silu.sg (q (ix2 r j))) := by
  unfold dmbBlk hnb
  pointwise [k0_pay1, k0_pay78]
  rw [pay74_at, pay75_at]

theorem dgbBlk_at (r : Fin 256) (j : Fin 1024) :
    dgbBlk d o g q w z (ix2 r j) = k0_pay7 d z (ix2 r j) * Silu.sg (q (ix2 r j)) * hnb w o (ix2 r j)
      * (Silu.sg (g (ix2 r j)) * (1 + g (ix2 r j) * (1 - Silu.sg (g (ix2 r j))))) := by
  unfold dgbBlk hnb
  pointwise [k0_pay105, k0_pay80, k0_pay77]
  rw [pay74_at, pay73_at, pay70_at]

theorem dobBlk_at (i : Fin 8) (r : Fin 256) (x : Fin 128) :
    dobBlk d o g q w z (ix2 r (cb i x)) = HeadNorm.back NB (fun l => o (ix2 r (cb i l))) (fun l => dhbBlk d g q z (ix2 r (cb i l)))
      (fun l => w (ix2 0 l)) x := by
  have h : dobBlk d o g q w z (ix2 r (cb i x)) = fb o i (ix2 r 0) * (dhbBlk d g q z (ix2 r (cb i x)) * w (ix2 0 x)
      - nb o i (ix2 r x) * Ideal.div (∑ l, dhbBlk d g q z (ix2 r (cb i l)) * w (ix2 0 l) * nb o i (ix2 r l)) NB) := by
    unfold dobBlk k0_pay103
    refine (cat_b _ _ _ _ _ _ _ _ i r x).trans ?_
    match i with
    | 0 =>
      dsimp only [Matrix.cons_val]
      pointwise [k0_pay84, k0_pay82]
      simp only [cb0]
      rfl
    | 1 =>
      dsimp only [Matrix.cons_val]
      pointwise [k0_pay86, k0_pay85]
      simp only [cb1]
      rfl
    | 2 =>
      dsimp only [Matrix.cons_val]
      pointwise [k0_pay89, k0_pay87]
      simp only [cb2]
      rfl
    | 3 =>
      dsimp only [Matrix.cons_val]
      pointwise [k0_pay92, k0_pay90]
      simp only [cb3]
      rfl
    | 4 =>
      dsimp only [Matrix.cons_val]
      pointwise [k0_pay94, k0_pay93]
      simp only [cb4]
      rfl
    | 5 =>
      dsimp only [Matrix.cons_val]
      pointwise [k0_pay97, k0_pay95]
      simp only [cb5]
      rfl
    | 6 =>
      dsimp only [Matrix.cons_val]
      pointwise [k0_pay98]
      simp only [cb6]
      rfl
    | 7 =>
      dsimp only [Matrix.cons_val]
      pointwise [k0_pay100]
      simp only [cb7]
      rfl
  unfold HeadNorm.back
  rw [h, fb_at]
  simp only [nb_at]

theorem dwbBlk_at (acc : Vec Ideal S1x128 .f32) (x : Fin 128) :
    dwbBlk d o g q z acc (ix2 0 x) = acc (ix2 0 x) + ∑ i : Fin 8, ∑ r : Fin 256, dhbBlk d g q z (ix2 r (cb i x)) * nb o i (ix2 r x) := by
  rw [Fin.sum_univ_eight]
  unfold dwbBlk
  pointwise [k0_pay3, k0_pay101, k0_pay96, k0_pay88, k0_pay81, k0_pay83, k0_pay82, k0_pay91, k0_pay99, k0_pay85, k0_pay87, k0_pay90, k0_pay93, k0_pay95, k0_pay98, k0_pay100]
  simp only [cb0, cb1, cb2, cb3, cb4, cb5, cb6, cb7, zero_add]
  rfl

end At

end Cert.MergeProof
-- ==== Proof.Merge.Entry.lean ====
/- The arrays the merge's gradient is launched over, entry by entry in the program's own arguments, and the block each point
   sees of them. -/
module

public import proofs.«01_k».proof.Proof.Gen.MergeIdeal.Value
public import Idealize.ShloMosaic.Lib.Pipeline.ValueKit
public import Idealize.ShloMosaic.Lib.StableHlo.ReadAt
public import Idealize.ShloMosaic.Lib.Pointwise

@[expose] public section

set_option maxRecDepth 16384

noncomputable section

namespace Cert.MergeProof

open Idealize.ShloMosaic Idealize.ShloMosaic.TcCoe Idealize.SL.Sem Cert.MergeIdeal Cert.MergeIdeal.Gen
open Idealize.ShloMosaic.Pipeline (Dat)

variable (m : (ℓ : Loc nD τ sig) → Buf (Elt Ideal) ℓ) (c : Dev nD)

/-- The projection, in its own order of columns. -/
def pr (r : Fin 8192) (k : Fin 9248) : EReal := m ((c : Thread nD τ).loc main_arg0) (ix3 0 r k)

/-- The two heads' outputs. -/
def oa (r : Fin 8192) (j : Fin 1024) : EReal := m ((c : Thread nD τ).loc main_arg1) (ix3 0 r j)
def ob (r : Fin 8192) (j : Fin 1024) : EReal := m ((c : Thread nD τ).loc main_arg2) (ix3 0 r j)

/-- The weights of the two norms. -/
def wa (j : Fin 256) : EReal := m ((c : Thread nD τ).loc main_arg3) (ix2 0 j)
def wb (j : Fin 128) : EReal := m ((c : Thread nD τ).loc main_arg4) (ix2 0 j)

/-- The output weight and the cotangent of its product. -/
def wo (j k : Fin 1024) : EReal := m ((c : Thread nD τ).loc main_arg5) (ix2 j k)
def ct (r : Fin 8192) (k : Fin 1024) : EReal := m ((c : Thread nD τ).loc main_arg6) (ix3 0 r k)

/-- The columns of the projection that gate the two outputs and mix them. -/
def ga (r : Fin 8192) (j : Fin 1024) : EReal := pr m c r ⟨2048 + j.val, by omega⟩
def gb (r : Fin 8192) (j : Fin 1024) : EReal := pr m c r ⟨6160 + j.val, by omega⟩
def ma (r : Fin 8192) (j : Fin 1024) : EReal := pr m c r ⟨7200 + j.val, by omega⟩
def mb (r : Fin 8192) (j : Fin 1024) : EReal := pr m c r ⟨8224 + j.val, by omega⟩

theorem entry_ct (r : Fin 8192) (l : Fin 1024) : V m c main_v9 (ix2 r l) = ct m c r l := by
  unfold V ct
  after_reads_at

theorem entry_oa (r : Fin 8192) (l : Fin 1024) : V m c main_v11 (ix2 r l) = oa m c r l := by
  unfold V oa
  after_reads_at

theorem entry_ob (r : Fin 8192) (l : Fin 1024) : V m c main_v13 (ix2 r l) = ob m c r l := by
  unfold V ob
  after_reads_at

theorem entry_wa (l : Fin 256) : V m c main_arg3 (ix2 0 l) = wa m c l := by
  unfold V wa
  after_reads_at

theorem entry_wb (l : Fin 128) : V m c main_arg4 (ix2 0 l) = wb m c l := by
  unfold V wb
  after_reads_at

theorem entry_wo (j k : Fin 1024) : V m c main_v15 (ix2 j k) = wo m c j k := by
  unfold V wo
  after_reads_at

/-- Column `k` of the wide columns put together, as a column of the projection. -/
def bigCol (k : Fin 9216) : Fin 9248 :=
  if k.val < 3072 then ⟨k.val, by omega⟩ else if k.val < 7168 then ⟨k.val + 16, by omega⟩ else ⟨k.val + 32, by omega⟩

theorem entry_pr (r : Fin 8192) (k : Fin 9216) : V m c main_v14 (ix2 r k) = pr m c r (bigCol k) := by
  unfold V bigCol pr
  after_reads_at
  have hk := k.isLt
  repeat' split
  all_goals first
    | omega
    | (after_reads_at; done)
    | (after_reads_at
       refine congrArg (fun z => m (c, Proc.tc.devRef main_arg0) (ix3 0 r z)) (Fin.ext ?_)
       dsimp only
       omega)

theorem idx : ∀ t : Fin cfg0.N, win0_0.index t = ![t.val, 0] ∧ win0_1.index t = ![t.val, 0] ∧ win0_2.index t = ![t.val, 0]
    ∧ win0_3.index t = ![t.val, 2] ∧ win0_4.index t = ![t.val, 6] ∧ win0_5.index t = ![t.val, 7] ∧ win0_6.index t = ![t.val, 8]
    ∧ win0_7.index t = ![0, 0] ∧ win0_8.index t = ![0, 0] ∧ win0_9.index t = ![0, 0] :=
  (by decide +kernel : ∀ t : Fin grid0.N, _)

/-- Row `r` of the block that point `t` works on, as a row of the arrays. -/
def row (t : Fin cfg0.N) (r : Fin 256) : Fin 8192 :=
  ⟨t.val * 256 + r.val, by have hN := lt_of_lt_of_eq t.isLt (show cfg0.N = 32 from N_0); omega⟩

theorem blk_ct (t : Fin cfg0.N) (r : Fin 256) (l : Fin 1024) : iblk m c 0 t (ix2 r l) = ct m c (row t r) l := by
  refine Eq.trans ?_ (entry_ct m c (row t r) l)
  unfold row
  blk_ext [iblk, idx t]

theorem blk_oa (t : Fin cfg0.N) (r : Fin 256) (l : Fin 1024) : iblk m c 1 t (ix2 r l) = oa m c (row t r) l := by
  refine Eq.trans ?_ (entry_oa m c (row t r) l)
  unfold row
  blk_ext [iblk, idx t]

theorem blk_ob (t : Fin cfg0.N) (r : Fin 256) (l : Fin 1024) : iblk m c 2 t (ix2 r l) = ob m c (row t r) l := by
  refine Eq.trans ?_ (entry_ob m c (row t r) l)
  unfold row
  blk_ext [iblk, idx t]

theorem blk_ga (t : Fin cfg0.N) (r : Fin 256) (l : Fin 1024) : iblk m c 3 t (ix2 r l) = ga m c (row t r) l := by
  have e : bigCol ⟨2048 + l.val, by omega⟩ = ⟨2048 + l.val, by omega⟩ := by
    unfold bigCol; exact if_pos (by dsimp only; omega)
  refine Eq.trans ?_ ((entry_pr m c (row t r) ⟨2048 + l.val, by omega⟩).trans (congrArg (pr m c (row t r)) e))
  unfold row
  blk_ext [iblk, idx t]

theorem blk_gb (t : Fin cfg0.N) (r : Fin 256) (l : Fin 1024) : iblk m c 4 t (ix2 r l) = gb m c (row t r) l := by
  have e : bigCol ⟨6144 + l.val, by omega⟩ = ⟨6160 + l.val, by omega⟩ := by
    unfold bigCol
    rw [if_neg (by dsimp only; omega), if_pos (by dsimp only; omega)]
    exact Fin.ext (by dsimp only; omega)
  refine Eq.trans ?_ ((entry_pr m c (row t r) ⟨6144 + l.val, by omega⟩).trans (congrArg (pr m c (row t r)) e))
  unfold row
  blk_ext [iblk, idx t]

theorem blk_ma (t : Fin cfg0.N) (r : Fin 256) (l : Fin 1024) : iblk m c 5 t (ix2 r l) = ma m c (row t r) l := by
  have e : bigCol ⟨7168 + l.val, by omega⟩ = ⟨7200 + l.val, by omega⟩ := by
    unfold bigCol
    rw [if_neg (by dsimp only; omega), if_neg (by dsimp only; omega)]
    exact Fin.ext (by dsimp only; omega)
  refine Eq.trans ?_ ((entry_pr m c (row t r) ⟨7168 + l.val, by omega⟩).trans (congrArg (pr m c (row t r)) e))
  unfold row
  blk_ext [iblk, idx t]

theorem blk_mb (t : Fin cfg0.N) (r : Fin 256) (l : Fin 1024) : iblk m c 6 t (ix2 r l) = mb m c (row t r) l := by
  have e : bigCol ⟨8192 + l.val, by omega⟩ = ⟨8224 + l.val, by omega⟩ := by
    unfold bigCol
    rw [if_neg (by dsimp only; omega), if_neg (by dsimp only; omega)]
    exact Fin.ext (by dsimp only; omega)
  refine Eq.trans ?_ ((entry_pr m c (row t r) ⟨8192 + l.val, by omega⟩).trans (congrArg (pr m c (row t r)) e))
  unfold row
  blk_ext [iblk, idx t]

theorem blk_wa (t : Fin cfg0.N) (l : Fin 256) : iblk m c 7 t (ix2 0 l) = wa m c l := by
  refine Eq.trans ?_ (entry_wa m c l)
  blk_ext [iblk, idx t]

theorem blk_wb (t : Fin cfg0.N) (l : Fin 128) : iblk m c 8 t (ix2 0 l) = wb m c l := by
  refine Eq.trans ?_ (entry_wb m c l)
  blk_ext [iblk, idx t]

theorem blk_wo (t : Fin cfg0.N) (j k : Fin 1024) : iblk m c 9 t (ix2 j k) = wo m c j k := by
  refine Eq.trans ?_ (entry_wo m c j k)
  blk_ext [iblk, idx t]

end Cert.MergeProof
-- ==== Proof.Merge.Points.lean ====
/- What every point of the merge's gradient leaves in its outputs. -/
module

public import proofs.«01_k».proof.Proof.Merge.PayB
public import proofs.«01_k».proof.Proof.Merge.Entry
public import proofs.«01_k».proof.Proof.Lib.Groups
public import Idealize.ShloMosaic.Lib.Pipeline.ReadBack

@[expose] public section

set_option maxRecDepth 16384

noncomputable section

namespace Cert.MergeProof

open Idealize.ShloMosaic Idealize.ShloMosaic.TcCoe Idealize.SL.Sem Cert.MergeIdeal Cert.MergeIdeal.Gen
open Idealize.ShloMosaic.Pipeline (Dat)
open Cert.Groups

variable (m : (ℓ : Loc nD τ sig) → Buf (Elt Ideal) ℓ) (c : Dev nD)

/-- The cotangent of the merged heads. -/
def dy (r : Fin 8192) (j : Fin 1024) : EReal := ∑ k, ct m c r k * wo m c j k

theorem dy_at (t : Fin cfg0.N) (r : Fin 256) (j : Fin 1024) :
    k0_pay7 (F := Ideal) (iblk m c 0 t) (iblk m c 9 t) (ix2 r j) = dy m c (row t r) j := by
  refine (pay7_at _ _ r j).trans ?_
  exact Finset.sum_congr rfl fun k _ => congrArg₂ (· * ·) (blk_ct m c t r k) (blk_wo m c t j k)

/-- The cotangent of the normed heads of group a. -/
def dna (r : Fin 8192) (j : Fin 1024) : EReal :=
  dy m c r j * Silu.sg (ma m c r j) * (ga m c r j * Silu.sg (ga m c r j))

/-- The normed and weighted heads. -/
def nwa (r : Fin 8192) (i : Fin 4) (x : Fin 256) : EReal :=
  oa m c r (ca i x) * HeadNorm.rs NA (fun l => oa m c r (ca i l)) * wa m c x

def dnBlka (t : Fin cfg0.N) : FVec Ideal S256x1024 .f32 := dhaBlk (iblk m c 0 t) (iblk m c 3 t) (iblk m c 5 t) (iblk m c 9 t)

theorem dnBlka_at (t : Fin cfg0.N) (r : Fin 256) (j : Fin 1024) :
    dhaBlk (iblk m c 0 t) (iblk m c 3 t) (iblk m c 5 t) (iblk m c 9 t) (ix2 r j) = dna m c (row t r) j := by
  refine (dhaBlk_at _ _ _ _ r j).trans ?_
  rw [dy_at, show iblk m c 5 t (ix2 r j) = ma m c (row t r) j from blk_ma m c t r j,
    show iblk m c 3 t (ix2 r j) = ga m c (row t r) j from blk_ga m c t r j]
  rfl

theorem nBlka_at (t : Fin cfg0.N) (i : Fin 4) (r : Fin 256) (x : Fin 256) :
    na (iblk m c 1 t) i (ix2 r x) = oa m c (row t r) (ca i x) * HeadNorm.rs NA (fun l => oa m c (row t r) (ca i l)) := by
  refine (na_at _ i r x).trans ?_
  rw [show (fun l => iblk m c 1 t (ix2 r (ca i l))) = (fun l => oa m c (row t r) (ca i l)) from
    funext fun l => blk_oa m c t r _]
  exact congrArg (· * _) (blk_oa m c t r _)

theorem hnBlka_at (t : Fin cfg0.N) (i : Fin 4) (r : Fin 256) (x : Fin 256) :
    hna (iblk m c 7 t) (iblk m c 1 t) (ix2 r (ca i x)) = nwa m c (row t r) i x := by
  refine (hna_at _ _ i r x).trans ?_
  rw [nBlka_at]
  exact congrArg (_ * ·) (blk_wa m c t x)

/-- The mixing columns' gradient. -/
def dmaAt (r : Fin 8192) (i : Fin 4) (x : Fin 256) : EReal :=
  dy m c r (ca i x) * nwa m c r i x * (ga m c r (ca i x) * Silu.sg (ga m c r (ca i x))) * Silu.sg (ma m c r (ca i x))
    * (1 - Silu.sg (ma m c r (ca i x)))

/-- The gate's gradient. -/
def dgaAt (r : Fin 8192) (i : Fin 4) (x : Fin 256) : EReal :=
  dy m c r (ca i x) * Silu.sg (ma m c r (ca i x)) * nwa m c r i x
    * (Silu.sg (ga m c r (ca i x)) * (1 + ga m c r (ca i x) * (1 - Silu.sg (ga m c r (ca i x)))))

/-- The heads' gradient. -/
def doaAt (r : Fin 8192) (i : Fin 4) (x : Fin 256) : EReal :=
  HeadNorm.back NA (fun l => oa m c r (ca i l)) (fun l => dna m c r (ca i l)) (wa m c) x

/-- One block's part of the norm weight's gradient. -/
def dwaPart (t : Fin cfg0.N) (x : Fin 256) : EReal :=
  ∑ i : Fin 4, ∑ r : Fin 256, dna m c (row t r) (ca i x)
    * (oa m c (row t r) (ca i x) * HeadNorm.rs NA (fun l => oa m c (row t r) (ca i l)))

theorem dma_point (t : Fin cfg0.N) (i : Fin 4) (r : Fin 256) (x : Fin 256) :
    dmaBlk (iblk m c 0 t) (iblk m c 1 t) (iblk m c 3 t) (iblk m c 5 t) (iblk m c 7 t) (iblk m c 9 t) (ix2 r (ca i x))
      = dmaAt m c (row t r) i x := by
  refine (dmaBlk_at _ _ _ _ _ _ r _).trans ?_
  rw [dy_at, hnBlka_at, show iblk m c 5 t (ix2 r (ca i x)) = ma m c (row t r) _ from blk_ma m c t r _,
    show iblk m c 3 t (ix2 r (ca i x)) = ga m c (row t r) _ from blk_ga m c t r _]
  rfl

theorem dga_point (t : Fin cfg0.N) (i : Fin 4) (r : Fin 256) (x : Fin 256) :
    dgaBlk (iblk m c 0 t) (iblk m c 1 t) (iblk m c 3 t) (iblk m c 5 t) (iblk m c 7 t) (iblk m c 9 t) (ix2 r (ca i x))
      = dgaAt m c (row t r) i x := by
  refine (dgaBlk_at _ _ _ _ _ _ r _).trans ?_
  rw [dy_at, hnBlka_at, show iblk m c 5 t (ix2 r (ca i x)) = ma m c (row t r) _ from blk_ma m c t r _,
    show iblk m c 3 t (ix2 r (ca i x)) = ga m c (row t r) _ from blk_ga m c t r _]
  rfl

theorem doa_point (t : Fin cfg0.N) (i : Fin 4) (r : Fin 256) (x : Fin 256) :
    doaBlk (iblk m c 0 t) (iblk m c 1 t) (iblk m c 3 t) (iblk m c 5 t) (iblk m c 7 t) (iblk m c 9 t) (ix2 r (ca i x))
      = doaAt m c (row t r) i x := by
  refine (doaBlk_at _ _ _ _ _ _ i r x).trans ?_
  rw [show (fun l => iblk m c 1 t (ix2 r (ca i l))) = (fun l => oa m c (row t r) (ca i l)) from funext fun l => blk_oa m c t r _,
    show (fun l => dhaBlk (iblk m c 0 t) (iblk m c 3 t) (iblk m c 5 t) (iblk m c 9 t) (ix2 r (ca i l)))
      = (fun l => dna m c (row t r) (ca i l)) from funext fun l => dnBlka_at m c t r _,
    show (fun l => iblk m c 7 t (ix2 0 l)) = wa m c from funext fun l => blk_wa m c t l]
  rfl

theorem dwa_point (t : Fin cfg0.N) (acc : Vec Ideal S1x256 .f32) (x : Fin 256) :
    dwaBlk (iblk m c 0 t) (iblk m c 1 t) (iblk m c 3 t) (iblk m c 5 t) (iblk m c 9 t) acc (ix2 0 x)
      = acc (ix2 0 x) + dwaPart m c t x := by
  refine (dwaBlk_at _ _ _ _ _ acc x).trans (congrArg (acc (ix2 0 x) + ·) ?_)
  exact Finset.sum_congr rfl fun i _ => Finset.sum_congr rfl fun r _ => congrArg₂ (· * ·) (dnBlka_at m c t r _) (nBlka_at m c t i r x)

/-- The cotangent of the normed heads of group b. -/
def dnb (r : Fin 8192) (j : Fin 1024) : EReal :=
  dy m c r j * Silu.sg (mb m c r j) * (gb m c r j * Silu.sg (gb m c r j))

/-- The normed and weighted heads. -/
def nwb (r : Fin 8192) (i : Fin 8) (x : Fin 128) : EReal :=
  ob m c r (cb i x) * HeadNorm.rs NB (fun l => ob m c r (cb i l)) * wb m c x

def dnBlkb (t : Fin cfg0.N) : FVec Ideal S256x1024 .f32 := dhbBlk (iblk m c 0 t) (iblk m c 4 t) (iblk m c 6 t) (iblk m c 9 t)

theorem dnBlkb_at (t : Fin cfg0.N) (r : Fin 256) (j : Fin 1024) :
    dhbBlk (iblk m c 0 t) (iblk m c 4 t) (iblk m c 6 t) (iblk m c 9 t) (ix2 r j) = dnb m c (row t r) j := by
  refine (dhbBlk_at _ _ _ _ r j).trans ?_
  rw [dy_at, show iblk m c 6 t (ix2 r j) = mb m c (row t r) j from blk_mb m c t r j,
    show iblk m c 4 t (ix2 r j) = gb m c (row t r) j from blk_gb m c t r j]
  rfl

theorem nBlkb_at (t : Fin cfg0.N) (i : Fin 8) (r : Fin 256) (x : Fin 128) :
    nb (iblk m c 2 t) i (ix2 r x) = ob m c (row t r) (cb i x) * HeadNorm.rs NB (fun l => ob m c (row t r) (cb i l)) := by
  refine (nb_at _ i r x).trans ?_
  rw [show (fun l => iblk m c 2 t (ix2 r (cb i l))) = (fun l => ob m c (row t r) (cb i l)) from
    funext fun l => blk_ob m c t r _]
  exact congrArg (· * _) (blk_ob m c t r _)

theorem hnBlkb_at (t : Fin cfg0.N) (i : Fin 8) (r : Fin 256) (x : Fin 128) :
    hnb (iblk m c 8 t) (iblk m c 2 t) (ix2 r (cb i x)) = nwb m c (row t r) i x := by
  refine (hnb_at _ _ i r x).trans ?_
  rw [nBlkb_at]
  exact congrArg (_ * ·) (blk_wb m c t x)

/-- The mixing columns' gradient. -/
def dmbAt (r : Fin 8192) (i : Fin 8) (x : Fin 128) : EReal :=
  dy m c r (cb i x) * nwb m c r i x * (gb m c r (cb i x) * Silu.sg (gb m c r (cb i x))) * Silu.sg (mb m c r (cb i x))
    * (1 - Silu.sg (mb m c r (cb i x)))

/-- The gate's gradient. -/
def dgbAt (r : Fin 8192) (i : Fin 8) (x : Fin 128) : EReal :=
  dy m c r (cb i x) * Silu.sg (mb m c r (cb i x)) * nwb m c r i x
    * (Silu.sg (gb m c r (cb i x)) * (1 + gb m c r (cb i x) * (1 - Silu.sg (gb m c r (cb i x)))))

/-- The heads' gradient. -/
def dobAt (r : Fin 8192) (i : Fin 8) (x : Fin 128) : EReal :=
  HeadNorm.back NB (fun l => ob m c r (cb i l)) (fun l => dnb m c r (cb i l)) (wb m c) x

/-- One block's part of the norm weight's gradient. -/
def dwbPart (t : Fin cfg0.N) (x : Fin 128) : EReal :=
  ∑ i : Fin 8, ∑ r : Fin 256, dnb m c (row t r) (cb i x)
    * (ob m c (row t r) (cb i x) * HeadNorm.rs NB (fun l => ob m c (row t r) (cb i l)))

theorem dmb_point (t : Fin cfg0.N) (i : Fin 8) (r : Fin 256) (x : Fin 128) :
    dmbBlk (iblk m c 0 t) (iblk m c 2 t) (iblk m c 4 t) (iblk m c 6 t) (iblk m c 8 t) (iblk m c 9 t) (ix2 r (cb i x))
      = dmbAt m c (row t r) i x := by
  refine (dmbBlk_at _ _ _ _ _ _ r _).trans ?_
  rw [dy_at, hnBlkb_at, show iblk m c 6 t (ix2 r (cb i x)) = mb m c (row t r) _ from blk_mb m c t r _,
    show iblk m c 4 t (ix2 r (cb i x)) = gb m c (row t r) _ from blk_gb m c t r _]
  rfl

theorem dgb_point (t : Fin cfg0.N) (i : Fin 8) (r : Fin 256) (x : Fin 128) :
    dgbBlk (iblk m c 0 t) (iblk m c 2 t) (iblk m c 4 t) (iblk m c 6 t) (iblk m c 8 t) (iblk m c 9 t) (ix2 r (cb i x))
      = dgbAt m c (row t r) i x := by
  refine (dgbBlk_at _ _ _ _ _ _ r _).trans ?_
  rw [dy_at, hnBlkb_at, show iblk m c 6 t (ix2 r (cb i x)) = mb m c (row t r) _ from blk_mb m c t r _,
    show iblk m c 4 t (ix2 r (cb i x)) = gb m c (row t r) _ from blk_gb m c t r _]
  rfl

theorem dob_point (t : Fin cfg0.N) (i : Fin 8) (r : Fin 256) (x : Fin 128) :
    dobBlk (iblk m c 0 t) (iblk m c 2 t) (iblk m c 4 t) (iblk m c 6 t) (iblk m c 8 t) (iblk m c 9 t) (ix2 r (cb i x))
      = dobAt m c (row t r) i x := by
  refine (dobBlk_at _ _ _ _ _ _ i r x).trans ?_
  rw [show (fun l => iblk m c 2 t (ix2 r (cb i l))) = (fun l => ob m c (row t r) (cb i l)) from funext fun l => blk_ob m c t r _,
    show (fun l => dhbBlk (iblk m c 0 t) (iblk m c 4 t) (iblk m c 6 t) (iblk m c 9 t) (ix2 r (cb i l)))
      = (fun l => dnb m c (row t r) (cb i l)) from funext fun l => dnBlkb_at m c t r _,
    show (fun l => iblk m c 8 t (ix2 0 l)) = wb m c from funext fun l => blk_wb m c t l]
  rfl

theorem dwb_point (t : Fin cfg0.N) (acc : Vec Ideal S1x128 .f32) (x : Fin 128) :
    dwbBlk (iblk m c 0 t) (iblk m c 2 t) (iblk m c 4 t) (iblk m c 6 t) (iblk m c 9 t) acc (ix2 0 x)
      = acc (ix2 0 x) + dwbPart m c t x := by
  refine (dwbBlk_at _ _ _ _ _ acc x).trans (congrArg (acc (ix2 0 x) + ·) ?_)
  exact Finset.sum_congr rfl fun i _ => Finset.sum_congr rfl fun r _ => congrArg₂ (· * ·) (dnBlkb_at m c t r _) (nBlkb_at m c t i r x)

theorem out_doa (t : Fin cfg0.N) (i : Fin 4) (r : Fin 256) (x : Fin 256) :
    (outsAt0 m c t.val t.isLt).1 (ix2 r (ca i x)) = doaAt m c (row t r) i x := by
  refine Eq.trans ?_ (doa_point m c t i r x)
  by_cases h : t.val % 32 = 0
  · rw [outsAt0_A m c t h]
    dsimp only
    frame_out
    rfl
  · rw [outsAt0_B m c t h]
    dsimp only
    frame_out
    rfl

theorem out_dga (t : Fin cfg0.N) (i : Fin 4) (r : Fin 256) (x : Fin 256) :
    (outsAt0 m c t.val t.isLt).2.2.1 (ix2 r (ca i x)) = dgaAt m c (row t r) i x := by
  refine Eq.trans ?_ (dga_point m c t i r x)
  by_cases h : t.val % 32 = 0
  · rw [outsAt0_A m c t h]
    dsimp only
    frame_out
    rfl
  · rw [outsAt0_B m c t h]
    dsimp only
    frame_out
    rfl

theorem out_dma (t : Fin cfg0.N) (i : Fin 4) (r : Fin 256) (x : Fin 256) :
    (outsAt0 m c t.val t.isLt).2.2.2.2.1 (ix2 r (ca i x)) = dmaAt m c (row t r) i x := by
  refine Eq.trans ?_ (dma_point m c t i r x)
  by_cases h : t.val % 32 = 0
  · rw [outsAt0_A m c t h]
    dsimp only
    frame_out
    rfl
  · rw [outsAt0_B m c t h]
    dsimp only
    frame_out
    rfl

theorem out_dwa_first (t : Fin cfg0.N) (h : t.val % 32 = 0) (x : Fin 256) :
    (outsAt0 m c t.val t.isLt).2.2.2.2.2.2.1 (ix2 0 x) = 0 + dwaPart m c t x := by
  have e : k0_pay4 (F := Ideal) (ix2 0 x) = 0 := by pointwise [k0_pay4]
  refine Eq.trans ?_ ((dwa_point m c t (k0_pay4 (F := Ideal)) x).trans (congrArg (· + _) e))
  rw [outsAt0_A m c t h]
  dsimp only
  frame_out
  rfl

theorem out_dwa_next (t : Fin cfg0.N) (h : ¬ t.val % 32 = 0) (x : Fin 256) :
    (outsAt0 m c t.val t.isLt).2.2.2.2.2.2.1 (ix2 0 x)
      = (outsAt0 m c (t.val - 1) (Nat.lt_of_le_of_lt (Nat.sub_le _ _) t.isLt)).2.2.2.2.2.2.1 (ix2 0 x) + dwaPart m c t x := by
  refine Eq.trans ?_ (dwa_point m c t _ x)
  rw [outsAt0_B m c t h]
  dsimp only
  frame_out
  rfl

theorem out_dob (t : Fin cfg0.N) (i : Fin 8) (r : Fin 256) (x : Fin 128) :
    (outsAt0 m c t.val t.isLt).2.1 (ix2 r (cb i x)) = dobAt m c (row t r) i x := by
  refine Eq.trans ?_ (dob_point m c t i r x)
  by_cases h : t.val % 32 = 0
  · rw [outsAt0_A m c t h]
    dsimp only
    frame_out
    rfl
  · rw [outsAt0_B m c t h]
    dsimp only
    frame_out
    rfl

theorem out_dgb (t : Fin cfg0.N) (i : Fin 8) (r : Fin 256) (x : Fin 128) :
    (outsAt0 m c t.val t.isLt).2.2.2.1 (ix2 r (cb i x)) = dgbAt m c (row t r) i x := by
  refine Eq.trans ?_ (dgb_point m c t i r x)
  by_cases h : t.val % 32 = 0
  · rw [outsAt0_A m c t h]
    dsimp only
    frame_out
    rfl
  · rw [outsAt0_B m c t h]
    dsimp only
    frame_out
    rfl

theorem out_dmb (t : Fin cfg0.N) (i : Fin 8) (r : Fin 256) (x : Fin 128) :
    (outsAt0 m c t.val t.isLt).2.2.2.2.2.1 (ix2 r (cb i x)) = dmbAt m c (row t r) i x := by
  refine Eq.trans ?_ (dmb_point m c t i r x)
  by_cases h : t.val % 32 = 0
  · rw [outsAt0_A m c t h]
    dsimp only
    frame_out
    rfl
  · rw [outsAt0_B m c t h]
    dsimp only
    frame_out
    rfl

theorem out_dwb_first (t : Fin cfg0.N) (h : t.val % 32 = 0) (x : Fin 128) :
    (outsAt0 m c t.val t.isLt).2.2.2.2.2.2.2.1 (ix2 0 x) = 0 + dwbPart m c t x := by
  have e : k0_pay5 (F := Ideal) (ix2 0 x) = 0 := by pointwise [k0_pay5]
  refine Eq.trans ?_ ((dwb_point m c t (k0_pay5 (F := Ideal)) x).trans (congrArg (· + _) e))
  rw [outsAt0_A m c t h]
  dsimp only
  frame_out
  rfl

theorem out_dwb_next (t : Fin cfg0.N) (h : ¬ t.val % 32 = 0) (x : Fin 128) :
    (outsAt0 m c t.val t.isLt).2.2.2.2.2.2.2.1 (ix2 0 x)
      = (outsAt0 m c (t.val - 1) (Nat.lt_of_le_of_lt (Nat.sub_le _ _) t.isLt)).2.2.2.2.2.2.2.1 (ix2 0 x) + dwbPart m c t x := by
  refine Eq.trans ?_ (dwb_point m c t _ x)
  rw [outsAt0_B m c t h]
  dsimp only
  frame_out
  rfl

theorem out_dhb (t : Fin cfg0.N) (r : Fin 256) (j : Fin 1024) :
    (outsAt0 m c t.val t.isLt).2.2.2.2.2.2.2.2 (ix2 r j) = ct m c (row t r) j := by
  refine Eq.trans ?_ (blk_ct m c t r j)
  have e : k0_pay6 (F := Ideal) (iblk m c 0 t) (ix2 r j) = iblk m c 0 t (ix2 r j) := by pointwise [k0_pay6]
  refine Eq.trans ?_ e
  by_cases h : t.val % 32 = 0
  · rw [outsAt0_A m c t h]
    dsimp only
    frame_out
  · rw [outsAt0_B m c t h]
    dsimp only
    frame_out

end Cert.MergeProof
-- ==== Proof.Merge.Final.lean ====
/- The nine arrays the merge's gradient leaves: six gradients row by row and head by head, the two norm weights' gradients as one
   sum over all rows and heads, and the cotangent itself. -/
module

public import proofs.«01_k».proof.Proof.Merge.Points

@[expose] public section

set_option maxRecDepth 16384

noncomputable section

namespace Cert.MergeProof

open Idealize.ShloMosaic Idealize.ShloMosaic.TcCoe Idealize.SL.Sem Cert.MergeIdeal Cert.MergeIdeal.Gen
open Idealize.ShloMosaic.Pipeline (Dat)

variable (m : (ℓ : Loc nD τ sig) → Buf (Elt Ideal) ℓ) (c : Dev nD)

theorem pair {a b : ℕ} (y : (⟨2, ![a, b]⟩ : Shape).Idx) : y = ix2 (y 0) (y 1) := by
  funext a
  match a with
  | ⟨0, _⟩ => rfl
  | ⟨1, _⟩ => rfl

/-- The head a column lies in, and its place there. -/
def ha (j : Fin 1024) : Fin 4 := ⟨j.val / 256, by omega⟩
def xa (j : Fin 1024) : Fin 256 := ⟨j.val % 256, by omega⟩

theorem ca_split (j : Fin 1024) : ca (ha j) (xa j) = j :=
  Fin.ext (by unfold ca ha xa; dsimp only; omega)

theorem ha_ca (i : Fin 4) (x : Fin 256) : ha (ca i x) = i :=
  Fin.ext (by unfold ca ha; dsimp only; omega)

theorem xa_ca (i : Fin 4) (x : Fin 256) : xa (ca i x) = x :=
  Fin.ext (by unfold ca xa; dsimp only; omega)

/-- The head a column lies in, and its place there. -/
def hb (j : Fin 1024) : Fin 8 := ⟨j.val / 128, by omega⟩
def xb (j : Fin 1024) : Fin 128 := ⟨j.val % 128, by omega⟩

theorem cb_split (j : Fin 1024) : cb (hb j) (xb j) = j :=
  Fin.ext (by unfold cb hb xb; dsimp only; omega)

theorem hb_cb (i : Fin 8) (x : Fin 128) : hb (cb i x) = i :=
  Fin.ext (by unfold cb hb; dsimp only; omega)

theorem xb_cb (i : Fin 8) (x : Fin 128) : xb (cb i x) = x :=
  Fin.ext (by unfold cb xb; dsimp only; omega)

theorem oidx : ∀ t : Fin cfg0.N, win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_18.index t = ![t.val, 0] :=
  (by decide +kernel : ∀ t : Fin grid0.N, _)

theorem final_doa : (dats m 0 c).arrAt 10 cfg0.N = fun i => doaAt m c (i 0) (ha (i 1)) (xa (i 1)) := by
  refine (dats m 0 c).arrAt_eq_of_covers 10 _ (by decide +kernel) fun t hf y => ?_
  rw [after0_10]
  blk_simp
  refine (congrArg (outsAt0 m c t.val t.isLt).1 ((pair y).trans (congrArg (ix2 (y 0)) (ca_split (y 1)).symm))).trans
    ((out_doa m c t (ha (y 1)) (y 0) (xa (y 1))).trans ?_)
  have e0 : row t (y 0) = ((cfg0.win 10).blk t).view.emb y 0 := by
    refine Fin.ext ?_
    unfold row
    blk_simp [oidx t]
  have e1 : (y 1 : Fin 1024) = ((cfg0.win 10).blk t).view.emb y 1 := by
    refine Fin.ext ?_
    blk_simp [oidx t]
  rw [e0, e1]

theorem final_dob : (dats m 0 c).arrAt 11 cfg0.N = fun i => dobAt m c (i 0) (hb (i 1)) (xb (i 1)) := by
  refine (dats m 0 c).arrAt_eq_of_covers 11 _ (by decide +kernel) fun t hf y => ?_
  rw [after0_11]
  blk_simp
  refine (congrArg (outsAt0 m c t.val t.isLt).2.1 ((pair y).trans (congrArg (ix2 (y 0)) (cb_split (y 1)).symm))).trans
    ((out_dob m c t (hb (y 1)) (y 0) (xb (y 1))).trans ?_)
  have e0 : row t (y 0) = ((cfg0.win 11).blk t).view.emb y 0 := by
    refine Fin.ext ?_
    unfold row
    blk_simp [oidx t]
  have e1 : (y 1 : Fin 1024) = ((cfg0.win 11).blk t).view.emb y 1 := by
    refine Fin.ext ?_
    blk_simp [oidx t]
  rw [e0, e1]

theorem final_dga : (dats m 0 c).arrAt 12 cfg0.N = fun i => dgaAt m c (i 0) (ha (i 1)) (xa (i 1)) := by
  refine (dats m 0 c).arrAt_eq_of_covers 12 _ (by decide +kernel) fun t hf y => ?_
  rw [after0_12]
  blk_simp
  refine (congrArg (outsAt0 m c t.val t.isLt).2.2.1 ((pair y).trans (congrArg (ix2 (y 0)) (ca_split (y 1)).symm))).trans
    ((out_dga m c t (ha (y 1)) (y 0) (xa (y 1))).trans ?_)
  have e0 : row t (y 0) = ((cfg0.win 12).blk t).view.emb y 0 := by
    refine Fin.ext ?_
    unfold row
    blk_simp [oidx t]
  have e1 : (y 1 : Fin 1024) = ((cfg0.win 12).blk t).view.emb y 1 := by
    refine Fin.ext ?_
    blk_simp [oidx t]
  rw [e0, e1]

theorem final_dgb : (dats m 0 c).arrAt 13 cfg0.N = fun i => dgbAt m c (i 0) (hb (i 1)) (xb (i 1)) := by
  refine (dats m 0 c).arrAt_eq_of_covers 13 _ (by decide +kernel) fun t hf y => ?_
  rw [after0_13]
  blk_simp
  refine (congrArg (outsAt0 m c t.val t.isLt).2.2.2.1 ((pair y).trans (congrArg (ix2 (y 0)) (cb_split (y 1)).symm))).trans
    ((out_dgb m c t (hb (y 1)) (y 0) (xb (y 1))).trans ?_)
  have e0 : row t (y 0) = ((cfg0.win 13).blk t).view.emb y 0 := by
    refine Fin.ext ?_
    unfold row
    blk_simp [oidx t]
  have e1 : (y 1 : Fin 1024) = ((cfg0.win 13).blk t).view.emb y 1 := by
    refine Fin.ext ?_
    blk_simp [oidx t]
  rw [e0, e1]

theorem final_dma : (dats m 0 c).arrAt 14 cfg0.N = fun i => dmaAt m c (i 0) (ha (i 1)) (xa (i 1)) := by
  refine (dats m 0 c).arrAt_eq_of_covers 14 _ (by decide +kernel) fun t hf y => ?_
  rw [after0_14]
  blk_simp
  refine (congrArg (outsAt0 m c t.val t.isLt).2.2.2.2.1 ((pair y).trans (congrArg (ix2 (y 0)) (ca_split (y 1)).symm))).trans
    ((out_dma m c t (ha (y 1)) (y 0) (xa (y 1))).trans ?_)
  have e0 : row t (y 0) = ((cfg0.win 14).blk t).view.emb y 0 := by
    refine Fin.ext ?_
    unfold row
    blk_simp [oidx t]
  have e1 : (y 1 : Fin 1024) = ((cfg0.win 14).blk t).view.emb y 1 := by
    refine Fin.ext ?_
    blk_simp [oidx t]
  rw [e0, e1]

theorem final_dmb : (dats m 0 c).arrAt 15 cfg0.N = fun i => dmbAt m c (i 0) (hb (i 1)) (xb (i 1)) := by
  refine (dats m 0 c).arrAt_eq_of_covers 15 _ (by decide +kernel) fun t hf y => ?_
  rw [after0_15]
  blk_simp
  refine (congrArg (outsAt0 m c t.val t.isLt).2.2.2.2.2.1 ((pair y).trans (congrArg (ix2 (y 0)) (cb_split (y 1)).symm))).trans
    ((out_dmb m c t (hb (y 1)) (y 0) (xb (y 1))).trans ?_)
  have e0 : row t (y 0) = ((cfg0.win 15).blk t).view.emb y 0 := by
    refine Fin.ext ?_
    unfold row
    blk_simp [oidx t]
  have e1 : (y 1 : Fin 1024) = ((cfg0.win 15).blk t).view.emb y 1 := by
    refine Fin.ext ?_
    blk_simp [oidx t]
  rw [e0, e1]

theorem final_dhb : (dats m 0 c).arrAt 18 cfg0.N = fun i => ct m c (i 0) (i 1) := by
  refine (dats m 0 c).arrAt_eq_of_covers 18 _ (by decide +kernel) fun t hf y => ?_
  rw [after0_18]
  blk_simp
  refine (congrArg (outsAt0 m c t.val t.isLt).2.2.2.2.2.2.2.2 (pair y)).trans ((out_dhb m c t (y 0) (y 1)).trans ?_)
  refine congrArg₂ (ct m c) ?_ ?_
  · refine Fin.ext ?_
    unfold row
    blk_simp [oidx t]
  · refine Fin.ext ?_
    blk_simp [oidx t]

/-- The norm weight's gradient of group a. -/
def dwaAt (x : Fin 256) : EReal :=
  ∑ r : Fin 8192, ∑ i : Fin 4, dna m c r (ca i x) * (oa m c r (ca i x) * HeadNorm.rs NA (fun l => oa m c r (ca i l)))

theorem sum_parts_a (x : Fin 256) : ∑ t : Fin cfg0.N, dwaPart m c t x = dwaAt m c x := by
  unfold dwaPart dwaAt
  rw [← Fin.sum_mul_add_fin 32 256 (fun r => ∑ i : Fin 4, dna m c r (ca i x) * (oa m c r (ca i x) * HeadNorm.rs NA (fun l => oa m c r (ca i l)))) (by decide)]
  refine Fintype.sum_equiv (finCongr N_0) _ _ fun t => ?_
  rw [Finset.sum_comm]
  rfl

theorem last_dwa (t : Fin cfg0.N) (ht : t.val + 1 = cfg0.N) (x : Fin 256) : (outsAt0 m c t.val t.isLt).2.2.2.2.2.2.1 (ix2 0 x) = dwaAt m c x := by
  rw [← sum_parts_a, ← zero_add (∑ t : Fin cfg0.N, dwaPart m c t x)]
  exact Pipeline.eq_sum_fin_of_reset_step_apply_last (fun n hn (i : Fin 256) => (outsAt0 m c n hn).2.2.2.2.2.2.1 (ix2 0 i)) 32 (fun _ => 0)
    (fun t i => dwaPart m c t i) (fun t h i => out_dwa_first m c t h i) (fun t h i => out_dwa_next m c t h i)
    (le_of_eq N_0) t ht x

theorem final_dwa : (dats m 0 c).arrAt 16 cfg0.N = fun i => dwaAt m c (i 1) := by
  obtain ⟨t, ht⟩ : ∃ t : Fin cfg0.N, t = ⟨31, by decide⟩ := ⟨_, rfl⟩
  refine (dats m 0 c).arrAt_eq_of_after_last 16 t (by rw [ht]; decide +kernel) _ fun j => ?_
  rw [after0_16]
  refine Eq.trans ?_ (last_dwa m c t (by rw [ht]; decide) (j 1))
  refine congrArg (outsAt0 m c t.val t.isLt).2.2.2.2.2.2.1 ?_
  funext a
  match a with
  | ⟨0, _⟩ => exact Fin.ext (by have h : (j 0).val < 1 := (j 0).isLt; show (j 0).val = 0; omega)
  | ⟨1, _⟩ => rfl

/-- The norm weight's gradient of group b. -/
def dwbAt (x : Fin 128) : EReal :=
  ∑ r : Fin 8192, ∑ i : Fin 8, dnb m c r (cb i x) * (ob m c r (cb i x) * HeadNorm.rs NB (fun l => ob m c r (cb i l)))

theorem sum_parts_b (x : Fin 128) : ∑ t : Fin cfg0.N, dwbPart m c t x = dwbAt m c x := by
  unfold dwbPart dwbAt
  rw [← Fin.sum_mul_add_fin 32 256 (fun r => ∑ i : Fin 8, dnb m c r (cb i x) * (ob m c r (cb i x) * HeadNorm.rs NB (fun l => ob m c r (cb i l)))) (by decide)]
  refine Fintype.sum_equiv (finCongr N_0) _ _ fun t => ?_
  rw [Finset.sum_comm]
  rfl

theorem last_dwb (t : Fin cfg0.N) (ht : t.val + 1 = cfg0.N) (x : Fin 128) : (outsAt0 m c t.val t.isLt).2.2.2.2.2.2.2.1 (ix2 0 x) = dwbAt m c x := by
  rw [← sum_parts_b, ← zero_add (∑ t : Fin cfg0.N, dwbPart m c t x)]
  exact Pipeline.eq_sum_fin_of_reset_step_apply_last (fun n hn (i : Fin 128) => (outsAt0 m c n hn).2.2.2.2.2.2.2.1 (ix2 0 i)) 32 (fun _ => 0)
    (fun t i => dwbPart m c t i) (fun t h i => out_dwb_first m c t h i) (fun t h i => out_dwb_next m c t h i)
    (le_of_eq N_0) t ht x

theorem final_dwb : (dats m 0 c).arrAt 17 cfg0.N = fun i => dwbAt m c (i 1) := by
  obtain ⟨t, ht⟩ : ∃ t : Fin cfg0.N, t = ⟨31, by decide⟩ := ⟨_, rfl⟩
  refine (dats m 0 c).arrAt_eq_of_after_last 17 t (by rw [ht]; decide +kernel) _ fun j => ?_
  rw [after0_17]
  refine Eq.trans ?_ (last_dwb m c t (by rw [ht]; decide) (j 1))
  refine congrArg (outsAt0 m c t.val t.isLt).2.2.2.2.2.2.2.1 ?_
  funext a
  match a with
  | ⟨0, _⟩ => exact Fin.ext (by have h : (j 0).val < 1 := (j 0).isLt; show (j 0).val = 0; omega)
  | ⟨1, _⟩ => rfl

end Cert.MergeProof
-- ==== Proof.Merge.RefGroup.lean ====
/- The reference's nine results read at an entry. -/
module
public import proofs.«01_k».proof.Proof.Gen.MergeRefIdeal.Run
public import proofs.«01_k».proof.Proof.Merge.PayB
public import Idealize.ShloMosaic.Lib.Pointwise
public import Idealize.ShloMosaic.Lib.ValueIdx

@[expose] public section

set_option maxRecDepth 16384

noncomputable section

namespace Cert.MergeProof.Ref

open Idealize.ShloMosaic Idealize.ShloMosaic.TcCoe Idealize.SL.Sem Cert.MergeRefIdeal Cert.MergeRefIdeal.Gen Cert.MergeRefIdeal.Value
open Idealize.ShloMosaic.StableHlo (launchContents)

/-- The logistic function over an array, and the gate built of it. -/
def sgArr (g : Vec Ideal S1x8192x1024 .f32) : Vec Ideal S1x8192x1024 .f32 :=
  Host.divf (F := Ideal) (φ := .f32) (broadcastInDim S1x8192x1024 ![] bcast_S_S1x8192x1024 (constant (F := Ideal) S_ .f32 0x3F800000#32)) (addf (F := Ideal) (φ := .f32) (broadcastInDim S1x8192x1024 ![] bcast_S_S1x8192x1024 (constant (F := Ideal) S_ .f32 0x3F800000#32)) (Host.exp (F := Ideal) (φ := .f32) (Host.negf (F := Ideal) (φ := .f32) g)))

def ssArr (g : Vec Ideal S1x8192x1024 .f32) : Vec Ideal S1x8192x1024 .f32 :=
  mulf (F := Ideal) (φ := .f32) (sgArr g) (subf (F := Ideal) (φ := .f32) (broadcastInDim S1x8192x1024 ![] bcast_S_S1x8192x1024 (constant (F := Ideal) S_ .f32 0x3F800000#32)) (sgArr g))

/-- A gradient through a gate, and through a mixing column. -/
def gateArr (g d : Vec Ideal S1x8192x1024 .f32) : Vec Ideal S1x8192x1024 .f32 :=
  addf (F := Ideal) (φ := .f32) (mulf (F := Ideal) (φ := .f32) d (sgArr g)) (mulf (F := Ideal) (φ := .f32) (mulf (F := Ideal) (φ := .f32) g d) (ssArr g))

/-- A gradient written out without the sequence's axis. -/
def outArr (v : Vec Ideal S1x8192x1024 .f32) : Vec Ideal S8192x1024 .bf16 :=
  truncf (F := Ideal) (φ := .f32) .bf16 (shapeCast S8192x1024 v shapeCasts_S1x8192x1024_S8192x1024) bitsLt_bf16_f32

/-- The cotangent of the merged heads. -/
def dyArr (d : Vec Ideal S1x8192x1024 .f32) (w : Vec Ideal S1024x1024 .f32) : Vec Ideal S1x8192x1024 .f32 :=
  Host.dotGeneral (F := Ideal) (φ₁ := .f32) (φ₂ := .f32) dot_S1x8192x1024_S1024x1024_S1x8192x1024_2_1_01_0_n_n none d w

section Plain

variable (g d : Vec Ideal S1x8192x1024 .f32) (r : Fin 8192) (j : Fin 1024)

theorem sgArr_at : sgArr g (ix3 0 r j) = Silu.sg (g (ix3 0 r j)) := by
  unfold sgArr
  pointwise
  rfl

theorem ssArr_at : ssArr g (ix3 0 r j) = Silu.sg (g (ix3 0 r j)) * (1 - Silu.sg (g (ix3 0 r j))) := by
  unfold ssArr
  pointwise
  rw [sgArr_at]

theorem gateArr_at : gateArr g d (ix3 0 r j) = d (ix3 0 r j) * Silu.sg (g (ix3 0 r j))
    + g (ix3 0 r j) * d (ix3 0 r j) * (Silu.sg (g (ix3 0 r j)) * (1 - Silu.sg (g (ix3 0 r j)))) := by
  unfold gateArr
  pointwise
  rw [sgArr_at, ssArr_at]

theorem outArr_at : outArr g (ix2 r j) = g (ix3 0 r j) := by
  unfold outArr
  pointwise

theorem dyArr_at (w : Vec Ideal S1024x1024 .f32) : dyArr d w (ix3 0 r j) = ∑ k, d (ix3 0 r k) * w (ix2 j k) := by
  unfold dyArr
  pointwise

end Plain

/-! ### The head group a -/

/-- A sum over a first and a last axis of size one has one term. -/
theorem sum_outer_a (v : (⟨4, ![1, 8192, 4, 1]⟩ : Shape).Idx → EReal) (init : EReal) (r : Fin 8192) (i : Fin 4) :
    Ideal.hostReduceAdd reducesTo_S1x8192x4x1_S8192x4_d0_3 v init (ix2 r i) = init + v (ix4 0 r i 0) := by
  refine congrArg (init + ·) (Finset.sum_eq_single_of_mem (ix4 0 r i 0) ?_ ?_)
  · refine Finset.mem_filter.2 ⟨Finset.mem_univ _, ?_⟩
    funext b
    apply Fin.ext
    match b with
    | ⟨0, _⟩ => rfl
    | ⟨1, _⟩ => rfl
  · intro y hy hne
    refine absurd ?_ hne
    funext a
    apply Fin.ext
    match a with
    | ⟨0, _⟩ => have h : (y 0).val < 1 := (y 0).isLt
                show (y 0).val = 0
                omega
    | ⟨1, _⟩ => exact congrArg Fin.val (congrFun (Finset.mem_filter.1 hy).2 0)
    | ⟨2, _⟩ => exact congrArg Fin.val (congrFun (Finset.mem_filter.1 hy).2 1)
    | ⟨3, _⟩ => have h : (y 3).val < 1 := (y 3).isLt
                show (y 3).val = 0
                omega

/-- A sum over three axes of size one has one term. -/
theorem sum_ones_a (v : (⟨4, ![1, 1, 1, 256]⟩ : Shape).Idx → EReal) (init : EReal) (x : Fin 256) :
    Ideal.hostReduceAdd reducesTo_S1x1x1x256_S256_d0_1_2 v init (ix1 x) = init + v (ix4 0 0 0 x) := by
  refine congrArg (init + ·) (Finset.sum_eq_single_of_mem (ix4 0 0 0 x) ?_ ?_)
  · refine Finset.mem_filter.2 ⟨Finset.mem_univ _, ?_⟩
    funext b
    apply Fin.ext
    match b with
    | ⟨0, _⟩ => rfl
  · intro y hy hne
    refine absurd ?_ hne
    funext a
    apply Fin.ext
    match a with
    | ⟨0, _⟩ => have h : (y 0).val < 1 := (y 0).isLt
                show (y 0).val = 0
                omega
    | ⟨1, _⟩ => have h : (y 1).val < 1 := (y 1).isLt
                show (y 1).val = 0
                omega
    | ⟨2, _⟩ => have h : (y 2).val < 1 := (y 2).isLt
                show (y 2).val = 0
                omega
    | ⟨3, _⟩ => exact congrArg Fin.val (congrFun (Finset.mem_filter.1 hy).2 0)

/-- A sum over the rows and the heads. -/
theorem sum_heads_a (v : (⟨4, ![1, 8192, 4, 256]⟩ : Shape).Idx → EReal) (init : EReal) (x : Fin 256) :
    Ideal.hostReduceAdd reducesTo_S1x8192x4x256_S1x256_d1_2 v init (ix2 0 x) = init + ∑ r : Fin 8192, ∑ i : Fin 4, v (ix4 0 r i x) := by
  refine congrArg (init + ·) (Eq.trans ?_ (Fintype.sum_prod_type' fun (r : Fin 8192) (i : Fin 4) => v (ix4 0 r i x)))
  refine Finset.sum_bij' (fun y _ => ((y 1, y 2) : Fin 8192 × Fin 4)) (fun p _ => ix4 0 p.1 p.2 x)
    ?_ ?_ ?_ (fun _ _ => rfl) ?_
  · intro y _
    simp only [Finset.mem_univ]
  · intro p _
    refine Finset.mem_filter.2 ⟨Finset.mem_univ _, ?_⟩
    funext b
    apply Fin.ext
    match b with
    | ⟨0, _⟩ => rfl
    | ⟨1, _⟩ => rfl
  all_goals
    intro y hy
    have e : (ix4 0 (y 1) (y 2) x : (⟨4, ![1, 8192, 4, 256]⟩ : Shape).Idx) = y := by
      funext a
      apply Fin.ext
      match a with
      | ⟨0, _⟩ => have h : (y 0).val < 1 := (y 0).isLt
                  show 0 = (y 0).val
                  omega
      | ⟨1, _⟩ => rfl
      | ⟨2, _⟩ => rfl
      | ⟨3, _⟩ => exact (congrArg Fin.val (congrFun (Finset.mem_filter.1 hy).2 1)).symm
  · exact e
  · exact congrArg v e.symm

/-- The heads apart, their mean squares, the normed heads, the weight, and the normed and weighted heads side by side. -/
def hda (o : Vec Ideal S1x8192x1024 .f32) : Vec Ideal S1x8192x4x256 .f32 := shapeCast S1x8192x4x256 o shapeCasts_S1x8192x1024_S1x8192x4x256
def msa (o : Vec Ideal S1x8192x1024 .f32) : Vec Ideal S1x8192x4x1 .f32 :=
  addf (F := Ideal) (φ := .f32) (Host.divf (F := Ideal) (φ := .f32) (broadcastInDim S1x8192x4x1 ![0, 1, 2] bcast_S1x8192x4_S1x8192x4x1_0_1_2 (Host.reduceAdd (F := Ideal) (φ := .f32) (mulf (F := Ideal) (φ := .f32) (hda o) (hda o)) (constant (F := Ideal) S_ .f32 0x00000000#32) reducesTo_S1x8192x4x256_S1x8192x4_d3 h_S_)) (broadcastInDim S1x8192x4x1 ![] bcast_S_S1x8192x4x1 (constant (F := Ideal) S_ .f32 0x43800000#32))) (broadcastInDim S1x8192x4x1 ![] bcast_S_S1x8192x4x1 (constant (F := Ideal) S_ .f32 0x358637BD#32))
def nra (o : Vec Ideal S1x8192x1024 .f32) : Vec Ideal S1x8192x4x256 .f32 :=
  mulf (F := Ideal) (φ := .f32) (hda o) (broadcastInDim S1x8192x4x256 ![0, 1, 2, 3] bcast_S1x8192x4x1_S1x8192x4x256_0_1_2_3 (Host.rsqrt (F := Ideal) (φ := .f32) (msa o)))
def wta (w : Vec Ideal S1x256 .f32) : Vec Ideal S1x1x1x256 .f32 :=
  broadcastInDim S1x1x1x256 ![3] bcast_S256_S1x1x1x256_3 (shapeCast S256 w shapeCasts_S1x256_S256)
def flata (v : Vec Ideal S1x8192x4x256 .f32) : Vec Ideal S1x8192x1024 .f32 := shapeCast S1x8192x1024 v shapeCasts_S1x8192x4x256_S1x8192x1024
def hwa (o : Vec Ideal S1x8192x1024 .f32) (w : Vec Ideal S1x256 .f32) : Vec Ideal S1x8192x1024 .f32 :=
  flata (mulf (F := Ideal) (φ := .f32) (nra o) (broadcastInDim S1x8192x4x256 ![0, 1, 2, 3] bcast_S1x1x1x256_S1x8192x4x256_0_1_2_3 (wta w)))
/-- The cotangent of the normed and weighted heads, weighted, and the slope of the mean squares. -/
def dva (d : Vec Ideal S1x8192x1024 .f32) (w : Vec Ideal S1x256 .f32) : Vec Ideal S1x8192x4x256 .f32 :=
  mulf (F := Ideal) (φ := .f32) (hda d) (broadcastInDim S1x8192x4x256 ![0, 1, 2, 3] bcast_S1x1x1x256_S1x8192x4x256_0_1_2_3 (wta w))
def spa (o d : Vec Ideal S1x8192x1024 .f32) (w : Vec Ideal S1x256 .f32) : Vec Ideal S1x8192x4x256 .f32 :=
  broadcastInDim S1x8192x4x256 ![0, 1, 2] bcast_S1x8192x4_S1x8192x4x256_0_1_2 (broadcastInDim S1x8192x4 ![1, 2] bcast_S8192x4_S1x8192x4_1_2 (Host.reduceAdd (F := Ideal) (φ := .f32) (Host.divf (F := Ideal) (φ := .f32) (mulf (F := Ideal) (φ := .f32) (shapeCast S1x8192x4x1 (Host.reduceAdd (F := Ideal) (φ := .f32) (mulf (F := Ideal) (φ := .f32) (hda o) (dva d w)) (constant (F := Ideal) S_ .f32 0x00000000#32) reducesTo_S1x8192x4x256_S1x8192x4_d3 h_S_) shapeCasts_S1x8192x4_S1x8192x4x1) (mulf (F := Ideal) (φ := .f32) (broadcastInDim S1x8192x4x1 ![] bcast_S_S1x8192x4x1 (constant (F := Ideal) S_ .f32 0xBF000000#32)) (Host.divf (F := Ideal) (φ := .f32) (Host.rsqrt (F := Ideal) (φ := .f32) (msa o)) (msa o)))) (broadcastInDim S1x8192x4x1 ![] bcast_S_S1x8192x4x1 (constant (F := Ideal) S_ .f32 0x43800000#32))) (constant (F := Ideal) S_ .f32 0x00000000#32) reducesTo_S1x8192x4x1_S8192x4_d0_3 h_S_))
/-- The heads' gradient, and the norm weight's. -/
def doa (o d : Vec Ideal S1x8192x1024 .f32) (w : Vec Ideal S1x256 .f32) : Vec Ideal S1x8192x1024 .f32 :=
  flata (addf (F := Ideal) (φ := .f32) (addf (F := Ideal) (φ := .f32) (mulf (F := Ideal) (φ := .f32) (dva d w) (broadcastInDim S1x8192x4x256 ![0, 1, 2, 3] bcast_S1x8192x4x1_S1x8192x4x256_0_1_2_3 (Host.rsqrt (F := Ideal) (φ := .f32) (msa o)))) (mulf (F := Ideal) (φ := .f32) (hda o) (spa o d w))) (mulf (F := Ideal) (φ := .f32) (spa o d w) (hda o)))
def dwa (o d : Vec Ideal S1x8192x1024 .f32) : Vec Ideal S1x256 .f32 :=
  broadcastInDim S1x256 ![1] bcast_S256_S1x256_1 (Host.reduceAdd (F := Ideal) (φ := .f32) (shapeCast S1x1x1x256 (Host.reduceAdd (F := Ideal) (φ := .f32) (mulf (F := Ideal) (φ := .f32) (nra o) (hda d)) (constant (F := Ideal) S_ .f32 0x00000000#32) reducesTo_S1x8192x4x256_S1x256_d1_2 h_S_) shapeCasts_S1x256_S1x1x1x256) (constant (F := Ideal) S_ .f32 0x00000000#32) reducesTo_S1x1x1x256_S256_d0_1_2 h_S_)

section GroupA

variable (o d : Vec Ideal S1x8192x1024 .f32) (w : Vec Ideal S1x256 .f32) (r : Fin 8192) (i : Fin 4) (x : Fin 256)

theorem hda_at : hda o (ix4 0 r i x) = o (ix3 0 r (ca i x)) := by
  unfold hda ca
  pointwise

theorem msa_at : msa o (ix4 0 r i 0) = HeadNorm.meanSq NA fun l => o (ix3 0 r (ca i l)) := by
  unfold msa
  pointwise
  simp only [hda_at]
  rfl

theorem nra_at : nra o (ix4 0 r i x) = o (ix3 0 r (ca i x)) * HeadNorm.rs NA fun l => o (ix3 0 r (ca i l)) := by
  unfold nra
  pointwise
  rw [hda_at, msa_at]
  rfl

theorem wta_at : wta w (ix4 0 0 0 x) = w (ix2 0 x) := by
  unfold wta
  pointwise

theorem flata_at (v : Vec Ideal S1x8192x4x256 .f32) : flata v (ix3 0 r (ca i x)) = v (ix4 0 r i x) := by
  unfold flata ca
  pointwise

theorem hwa_at : hwa o w (ix3 0 r (ca i x)) = (o (ix3 0 r (ca i x)) * HeadNorm.rs NA fun l => o (ix3 0 r (ca i l))) * w (ix2 0 x) := by
  refine (flata_at r i x _).trans ?_
  pointwise
  rw [nra_at, wta_at]

theorem dva_at : dva d w (ix4 0 r i x) = d (ix3 0 r (ca i x)) * w (ix2 0 x) := by
  unfold dva
  pointwise
  rw [hda_at, wta_at]

theorem spa_at : spa o d w (ix4 0 r i x)
    = HeadNorm.slope NA (fun l => o (ix3 0 r (ca i l))) (fun l => d (ix3 0 r (ca i l))) (fun l => w (ix2 0 l)) := by
  unfold spa
  pointwise
  refine (sum_outer_a _ _ r i).trans ?_
  pointwise
  rw [msa_at]
  simp only [hda_at, dva_at]
  rfl

theorem doa_at : doa o d w (ix3 0 r (ca i x))
    = d (ix3 0 r (ca i x)) * w (ix2 0 x) * HeadNorm.rs NA (fun l => o (ix3 0 r (ca i l)))
      + o (ix3 0 r (ca i x)) * HeadNorm.slope NA (fun l => o (ix3 0 r (ca i l))) (fun l => d (ix3 0 r (ca i l))) (fun l => w (ix2 0 l))
      + HeadNorm.slope NA (fun l => o (ix3 0 r (ca i l))) (fun l => d (ix3 0 r (ca i l))) (fun l => w (ix2 0 l)) * o (ix3 0 r (ca i x)) := by
  refine (flata_at r i x _).trans ?_
  pointwise
  rw [spa_at, dva_at, hda_at, msa_at]
  rfl

theorem dwa_at : dwa o d (ix2 0 x)
    = ∑ r : Fin 8192, ∑ i : Fin 4, (o (ix3 0 r (ca i x)) * HeadNorm.rs NA fun l => o (ix3 0 r (ca i l))) * d (ix3 0 r (ca i x)) := by
  unfold dwa
  pointwise
  refine (sum_ones_a _ _ x).trans ?_
  pointwise
  refine (sum_heads_a _ _ x).trans ?_
  pointwise
  simp only [nra_at, hda_at]

end GroupA

/-! ### The head group b -/

/-- A sum over a first and a last axis of size one has one term. -/
theorem sum_outer_b (v : (⟨4, ![1, 8192, 8, 1]⟩ : Shape).Idx → EReal) (init : EReal) (r : Fin 8192) (i : Fin 8) :
    Ideal.hostReduceAdd reducesTo_S1x8192x8x1_S8192x8_d0_3 v init (ix2 r i) = init + v (ix4 0 r i 0) := by
  refine congrArg (init + ·) (Finset.sum_eq_single_of_mem (ix4 0 r i 0) ?_ ?_)
  · refine Finset.mem_filter.2 ⟨Finset.mem_univ _, ?_⟩
    funext b
    apply Fin.ext
    match b with
    | ⟨0, _⟩ => rfl
    | ⟨1, _⟩ => rfl
  · intro y hy hne
    refine absurd ?_ hne
    funext a
    apply Fin.ext
    match a with
    | ⟨0, _⟩ => have h : (y 0).val < 1 := (y 0).isLt
                show (y 0).val = 0
                omega
    | ⟨1, _⟩ => exact congrArg Fin.val (congrFun (Finset.mem_filter.1 hy).2 0)
    | ⟨2, _⟩ => exact congrArg Fin.val (congrFun (Finset.mem_filter.1 hy).2 1)
    | ⟨3, _⟩ => have h : (y 3).val < 1 := (y 3).isLt
                show (y 3).val = 0
                omega

/-- A sum over three axes of size one has one term. -/
theorem sum_ones_b (v : (⟨4, ![1, 1, 1, 128]⟩ : Shape).Idx → EReal) (init : EReal) (x : Fin 128) :
    Ideal.hostReduceAdd reducesTo_S1x1x1x128_S128_d0_1_2 v init (ix1 x) = init + v (ix4 0 0 0 x) := by
  refine congrArg (init + ·) (Finset.sum_eq_single_of_mem (ix4 0 0 0 x) ?_ ?_)
  · refine Finset.mem_filter.2 ⟨Finset.mem_univ _, ?_⟩
    funext b
    apply Fin.ext
    match b with
    | ⟨0, _⟩ => rfl
  · intro y hy hne
    refine absurd ?_ hne
    funext a
    apply Fin.ext
    match a with
    | ⟨0, _⟩ => have h : (y 0).val < 1 := (y 0).isLt
                show (y 0).val = 0
                omega
    | ⟨1, _⟩ => have h : (y 1).val < 1 := (y 1).isLt
                show (y 1).val = 0
                omega
    | ⟨2, _⟩ => have h : (y 2).val < 1 := (y 2).isLt
                show (y 2).val = 0
                omega
    | ⟨3, _⟩ => exact congrArg Fin.val (congrFun (Finset.mem_filter.1 hy).2 0)

/-- A sum over the rows and the heads. -/
theorem sum_heads_b (v : (⟨4, ![1, 8192, 8, 128]⟩ : Shape).Idx → EReal) (init : EReal) (x : Fin 128) :
    Ideal.hostReduceAdd reducesTo_S1x8192x8x128_S1x128_d1_2 v init (ix2 0 x) = init + ∑ r : Fin 8192, ∑ i : Fin 8, v (ix4 0 r i x) := by
  refine congrArg (init + ·) (Eq.trans ?_ (Fintype.sum_prod_type' fun (r : Fin 8192) (i : Fin 8) => v (ix4 0 r i x)))
  refine Finset.sum_bij' (fun y _ => ((y 1, y 2) : Fin 8192 × Fin 8)) (fun p _ => ix4 0 p.1 p.2 x)
    ?_ ?_ ?_ (fun _ _ => rfl) ?_
  · intro y _
    simp only [Finset.mem_univ]
  · intro p _
    refine Finset.mem_filter.2 ⟨Finset.mem_univ _, ?_⟩
    funext b
    apply Fin.ext
    match b with
    | ⟨0, _⟩ => rfl
    | ⟨1, _⟩ => rfl
  all_goals
    intro y hy
    have e : (ix4 0 (y 1) (y 2) x : (⟨4, ![1, 8192, 8, 128]⟩ : Shape).Idx) = y := by
      funext a
      apply Fin.ext
      match a with
      | ⟨0, _⟩ => have h : (y 0).val < 1 := (y 0).isLt
                  show 0 = (y 0).val
                  omega
      | ⟨1, _⟩ => rfl
      | ⟨2, _⟩ => rfl
      | ⟨3, _⟩ => exact (congrArg Fin.val (congrFun (Finset.mem_filter.1 hy).2 1)).symm
  · exact e
  · exact congrArg v e.symm

/-- The heads apart, their mean squares, the normed heads, the weight, and the normed and weighted heads side by side. -/
def hdb (o : Vec Ideal S1x8192x1024 .f32) : Vec Ideal S1x8192x8x128 .f32 := shapeCast S1x8192x8x128 o shapeCasts_S1x8192x1024_S1x8192x8x128
def msb (o : Vec Ideal S1x8192x1024 .f32) : Vec Ideal S1x8192x8x1 .f32 :=
  addf (F := Ideal) (φ := .f32) (Host.divf (F := Ideal) (φ := .f32) (broadcastInDim S1x8192x8x1 ![0, 1, 2] bcast_S1x8192x8_S1x8192x8x1_0_1_2 (Host.reduceAdd (F := Ideal) (φ := .f32) (mulf (F := Ideal) (φ := .f32) (hdb o) (hdb o)) (constant (F := Ideal) S_ .f32 0x00000000#32) reducesTo_S1x8192x8x128_S1x8192x8_d3 h_S_)) (broadcastInDim S1x8192x8x1 ![] bcast_S_S1x8192x8x1 (constant (F := Ideal) S_ .f32 0x43000000#32))) (broadcastInDim S1x8192x8x1 ![] bcast_S_S1x8192x8x1 (constant (F := Ideal) S_ .f32 0x358637BD#32))
def nrb (o : Vec Ideal S1x8192x1024 .f32) : Vec Ideal S1x8192x8x128 .f32 :=
  mulf (F := Ideal) (φ := .f32) (hdb o) (broadcastInDim S1x8192x8x128 ![0, 1, 2, 3] bcast_S1x8192x8x1_S1x8192x8x128_0_1_2_3 (Host.rsqrt (F := Ideal) (φ := .f32) (msb o)))
def wtb (w : Vec Ideal S1x128 .f32) : Vec Ideal S1x1x1x128 .f32 :=
  broadcastInDim S1x1x1x128 ![3] bcast_S128_S1x1x1x128_3 (shapeCast S128 w shapeCasts_S1x128_S128)
def flatb (v : Vec Ideal S1x8192x8x128 .f32) : Vec Ideal S1x8192x1024 .f32 := shapeCast S1x8192x1024 v shapeCasts_S1x8192x8x128_S1x8192x1024
def hwb (o : Vec Ideal S1x8192x1024 .f32) (w : Vec Ideal S1x128 .f32) : Vec Ideal S1x8192x1024 .f32 :=
  flatb (mulf (F := Ideal) (φ := .f32) (nrb o) (broadcastInDim S1x8192x8x128 ![0, 1, 2, 3] bcast_S1x1x1x128_S1x8192x8x128_0_1_2_3 (wtb w)))
/-- The cotangent of the normed and weighted heads, weighted, and the slope of the mean squares. -/
def dvb (d : Vec Ideal S1x8192x1024 .f32) (w : Vec Ideal S1x128 .f32) : Vec Ideal S1x8192x8x128 .f32 :=
  mulf (F := Ideal) (φ := .f32) (hdb d) (broadcastInDim S1x8192x8x128 ![0, 1, 2, 3] bcast_S1x1x1x128_S1x8192x8x128_0_1_2_3 (wtb w))
def spb (o d : Vec Ideal S1x8192x1024 .f32) (w : Vec Ideal S1x128 .f32) : Vec Ideal S1x8192x8x128 .f32 :=
  broadcastInDim S1x8192x8x128 ![0, 1, 2] bcast_S1x8192x8_S1x8192x8x128_0_1_2 (broadcastInDim S1x8192x8 ![1, 2] bcast_S8192x8_S1x8192x8_1_2 (Host.reduceAdd (F := Ideal) (φ := .f32) (Host.divf (F := Ideal) (φ := .f32) (mulf (F := Ideal) (φ := .f32) (shapeCast S1x8192x8x1 (Host.reduceAdd (F := Ideal) (φ := .f32) (mulf (F := Ideal) (φ := .f32) (hdb o) (dvb d w)) (constant (F := Ideal) S_ .f32 0x00000000#32) reducesTo_S1x8192x8x128_S1x8192x8_d3 h_S_) shapeCasts_S1x8192x8_S1x8192x8x1) (mulf (F := Ideal) (φ := .f32) (broadcastInDim S1x8192x8x1 ![] bcast_S_S1x8192x8x1 (constant (F := Ideal) S_ .f32 0xBF000000#32)) (Host.divf (F := Ideal) (φ := .f32) (Host.rsqrt (F := Ideal) (φ := .f32) (msb o)) (msb o)))) (broadcastInDim S1x8192x8x1 ![] bcast_S_S1x8192x8x1 (constant (F := Ideal) S_ .f32 0x43000000#32))) (constant (F := Ideal) S_ .f32 0x00000000#32) reducesTo_S1x8192x8x1_S8192x8_d0_3 h_S_))
/-- The heads' gradient, and the norm weight's. -/
def dob (o d : Vec Ideal S1x8192x1024 .f32) (w : Vec Ideal S1x128 .f32) : Vec Ideal S1x8192x1024 .f32 :=
  flatb (addf (F := Ideal) (φ := .f32) (addf (F := Ideal) (φ := .f32) (mulf (F := Ideal) (φ := .f32) (dvb d w) (broadcastInDim S1x8192x8x128 ![0, 1, 2, 3] bcast_S1x8192x8x1_S1x8192x8x128_0_1_2_3 (Host.rsqrt (F := Ideal) (φ := .f32) (msb o)))) (mulf (F := Ideal) (φ := .f32) (hdb o) (spb o d w))) (mulf (F := Ideal) (φ := .f32) (spb o d w) (hdb o)))
def dwb (o d : Vec Ideal S1x8192x1024 .f32) : Vec Ideal S1x128 .f32 :=
  broadcastInDim S1x128 ![1] bcast_S128_S1x128_1 (Host.reduceAdd (F := Ideal) (φ := .f32) (shapeCast S1x1x1x128 (Host.reduceAdd (F := Ideal) (φ := .f32) (mulf (F := Ideal) (φ := .f32) (nrb o) (hdb d)) (constant (F := Ideal) S_ .f32 0x00000000#32) reducesTo_S1x8192x8x128_S1x128_d1_2 h_S_) shapeCasts_S1x128_S1x1x1x128) (constant (F := Ideal) S_ .f32 0x00000000#32) reducesTo_S1x1x1x128_S128_d0_1_2 h_S_)

section GroupB

variable (o d : Vec Ideal S1x8192x1024 .f32) (w : Vec Ideal S1x128 .f32) (r : Fin 8192) (i : Fin 8) (x : Fin 128)

theorem hdb_at : hdb o (ix4 0 r i x) = o (ix3 0 r (cb i x)) := by
  unfold hdb cb
  pointwise

theorem msb_at : msb o (ix4 0 r i 0) = HeadNorm.meanSq NB fun l => o (ix3 0 r (cb i l)) := by
  unfold msb
  pointwise
  simp only [hdb_at]
  rfl

theorem nrb_at : nrb o (ix4 0 r i x) = o (ix3 0 r (cb i x)) * HeadNorm.rs NB fun l => o (ix3 0 r (cb i l)) := by
  unfold nrb
  pointwise
  rw [hdb_at, msb_at]
  rfl

theorem wtb_at : wtb w (ix4 0 0 0 x) = w (ix2 0 x) := by
  unfold wtb
  pointwise

theorem flatb_at (v : Vec Ideal S1x8192x8x128 .f32) : flatb v (ix3 0 r (cb i x)) = v (ix4 0 r i x) := by
  unfold flatb cb
  pointwise

theorem hwb_at : hwb o w (ix3 0 r (cb i x)) = (o (ix3 0 r (cb i x)) * HeadNorm.rs NB fun l => o (ix3 0 r (cb i l))) * w (ix2 0 x) := by
  refine (flatb_at r i x _).trans ?_
  pointwise
  rw [nrb_at, wtb_at]

theorem dvb_at : dvb d w (ix4 0 r i x) = d (ix3 0 r (cb i x)) * w (ix2 0 x) := by
  unfold dvb
  pointwise
  rw [hdb_at, wtb_at]

theorem spb_at : spb o d w (ix4 0 r i x)
    = HeadNorm.slope NB (fun l => o (ix3 0 r (cb i l))) (fun l => d (ix3 0 r (cb i l))) (fun l => w (ix2 0 l)) := by
  unfold spb
  pointwise
  refine (sum_outer_b _ _ r i).trans ?_
  pointwise
  rw [msb_at]
  simp only [hdb_at, dvb_at]
  rfl

theorem dob_at : dob o d w (ix3 0 r (cb i x))
    = d (ix3 0 r (cb i x)) * w (ix2 0 x) * HeadNorm.rs NB (fun l => o (ix3 0 r (cb i l)))
      + o (ix3 0 r (cb i x)) * HeadNorm.slope NB (fun l => o (ix3 0 r (cb i l))) (fun l => d (ix3 0 r (cb i l))) (fun l => w (ix2 0 l))
      + HeadNorm.slope NB (fun l => o (ix3 0 r (cb i l))) (fun l => d (ix3 0 r (cb i l))) (fun l => w (ix2 0 l)) * o (ix3 0 r (cb i x)) := by
  refine (flatb_at r i x _).trans ?_
  pointwise
  rw [spb_at, dvb_at, hdb_at, msb_at]
  rfl

theorem dwb_at : dwb o d (ix2 0 x)
    = ∑ r : Fin 8192, ∑ i : Fin 8, (o (ix3 0 r (cb i x)) * HeadNorm.rs NB fun l => o (ix3 0 r (cb i l))) * d (ix3 0 r (cb i x)) := by
  unfold dwb
  pointwise
  refine (sum_ones_b _ _ x).trans ?_
  pointwise
  refine (sum_heads_b _ _ x).trans ?_
  pointwise
  simp only [nrb_at, hdb_at]

end GroupB

end Cert.MergeProof.Ref
-- ==== Proof.Merge.Ref.lean ====
/- The reference's run and its nine results, read at an entry in the program's own arguments. -/
module
public import proofs.«01_k».proof.Proof.Merge.RefGroup

@[expose] public section

set_option maxRecDepth 16384

noncomputable section

namespace Cert.MergeProof.Ref

open Idealize.ShloMosaic Idealize.ShloMosaic.TcCoe Idealize.SL.Sem Cert.MergeRefIdeal Cert.MergeRefIdeal.Gen Cert.MergeRefIdeal.Value

variable (m : (ℓ : Loc nD τ sig) → Buf (Elt Ideal) ℓ) (c : Dev nD)

def pr (r : Fin 8192) (k : Fin 9248) : EReal := m ((c : Thread nD τ).loc main_arg0) (ix3 0 r k)
def oa (r : Fin 8192) (j : Fin 1024) : EReal := m ((c : Thread nD τ).loc main_arg1) (ix3 0 r j)
def ob (r : Fin 8192) (j : Fin 1024) : EReal := m ((c : Thread nD τ).loc main_arg2) (ix3 0 r j)
def wa (j : Fin 256) : EReal := m ((c : Thread nD τ).loc main_arg3) (ix2 0 j)
def wb (j : Fin 128) : EReal := m ((c : Thread nD τ).loc main_arg4) (ix2 0 j)
def wo (j k : Fin 1024) : EReal := m ((c : Thread nD τ).loc main_arg5) (ix2 j k)
def ct (r : Fin 8192) (k : Fin 1024) : EReal := m ((c : Thread nD τ).loc main_arg6) (ix3 0 r k)
def ga (r : Fin 8192) (j : Fin 1024) : EReal := pr m c r ⟨2048 + j.val, by omega⟩
def gb (r : Fin 8192) (j : Fin 1024) : EReal := pr m c r ⟨6160 + j.val, by omega⟩
def ma (r : Fin 8192) (j : Fin 1024) : EReal := pr m c r ⟨7200 + j.val, by omega⟩
def mb (r : Fin 8192) (j : Fin 1024) : EReal := pr m c r ⟨8224 + j.val, by omega⟩
def dy (r : Fin 8192) (j : Fin 1024) : EReal := ∑ k, ct m c r k * wo m c j k

def gaArr : Vec Ideal S1x8192x1024 .f32 :=
  extractStridedSlice S1x8192x1024 ![0, 0, 2048] (m ((c.tc : Thread nD τ).loc main_arg0)) slices_S1x8192x9248_S1x8192x1024_0_0_2048
theorem gaArr_at (r : Fin 8192) (j : Fin 1024) : gaArr m c (ix3 0 r j) = ga m c r j := by
  unfold gaArr ga pr
  pointwise

def gbArr : Vec Ideal S1x8192x1024 .f32 :=
  extractStridedSlice S1x8192x1024 ![0, 0, 6160] (m ((c.tc : Thread nD τ).loc main_arg0)) slices_S1x8192x9248_S1x8192x1024_0_0_6160
theorem gbArr_at (r : Fin 8192) (j : Fin 1024) : gbArr m c (ix3 0 r j) = gb m c r j := by
  unfold gbArr gb pr
  pointwise

def maArr : Vec Ideal S1x8192x1024 .f32 :=
  extractStridedSlice S1x8192x1024 ![0, 0, 7200] (m ((c.tc : Thread nD τ).loc main_arg0)) slices_S1x8192x9248_S1x8192x1024_0_0_7200
theorem maArr_at (r : Fin 8192) (j : Fin 1024) : maArr m c (ix3 0 r j) = ma m c r j := by
  unfold maArr ma pr
  pointwise

def mbArr : Vec Ideal S1x8192x1024 .f32 :=
  extractStridedSlice S1x8192x1024 ![0, 0, 8224] (m ((c.tc : Thread nD τ).loc main_arg0)) slices_S1x8192x9248_S1x8192x1024_0_0_8224
theorem mbArr_at (r : Fin 8192) (j : Fin 1024) : mbArr m c (ix3 0 r j) = mb m c r j := by
  unfold mbArr mb pr
  pointwise

def yArr : Vec Ideal S1x8192x1024 .f32 := dyArr (m ((c.tc : Thread nD τ).loc main_arg6)) (m ((c.tc : Thread nD τ).loc main_arg5))
theorem yArr_at (r : Fin 8192) (j : Fin 1024) : yArr m c (ix3 0 r j) = dy m c r j := dyArr_at _ r j _

/-- The cotangent of group a before its gate, and of its normed heads. -/
def eaArr : Vec Ideal S1x8192x1024 .f32 := mulf (F := Ideal) (φ := .f32) (sgArr (maArr m c)) (yArr m c)
def slaArr : Vec Ideal S1x8192x1024 .f32 := mulf (F := Ideal) (φ := .f32) (gaArr m c) (sgArr (gaArr m c))
def dnaArr : Vec Ideal S1x8192x1024 .f32 := mulf (F := Ideal) (φ := .f32) (eaArr m c) (slaArr m c)
def hwaArr : Vec Ideal S1x8192x1024 .f32 := hwa (m ((c.tc : Thread nD τ).loc main_arg1)) (m ((c.tc : Thread nD τ).loc main_arg3))

def dna (r : Fin 8192) (j : Fin 1024) : EReal := Silu.sg (ma m c r j) * dy m c r j * (ga m c r j * Silu.sg (ga m c r j))
def nwa (r : Fin 8192) (i : Fin 4) (x : Fin 256) : EReal :=
  oa m c r (ca i x) * HeadNorm.rs NA (fun l => oa m c r (ca i l)) * wa m c x

def doaTerm : Buf (Elt Ideal) ((c.tc : Thread nD τ).loc main_v137) := outArr (doa (m ((c.tc : Thread nD τ).loc main_arg1)) (dnaArr m c) (m ((c.tc : Thread nD τ).loc main_arg3)))
def dgaTerm : Buf (Elt Ideal) ((c.tc : Thread nD τ).loc main_v141) := outArr (gateArr (gaArr m c) (mulf (F := Ideal) (φ := .f32) (hwaArr m c) (eaArr m c)))
def dmaTerm : Buf (Elt Ideal) ((c.tc : Thread nD τ).loc main_v145) :=
  outArr (mulf (F := Ideal) (φ := .f32) (mulf (F := Ideal) (φ := .f32) (yArr m c) (mulf (F := Ideal) (φ := .f32) (hwaArr m c) (slaArr m c))) (ssArr (maArr m c)))
def dwaTerm : Buf (Elt Ideal) ((c.tc : Thread nD τ).loc main_v148) := dwa (m ((c.tc : Thread nD τ).loc main_arg1)) (dnaArr m c)

theorem eaArr_at (r : Fin 8192) (j : Fin 1024) : eaArr m c (ix3 0 r j) = Silu.sg (ma m c r j) * dy m c r j := by
  unfold eaArr
  pointwise
  rw [sgArr_at, maArr_at, yArr_at]

theorem slaArr_at (r : Fin 8192) (j : Fin 1024) : slaArr m c (ix3 0 r j) = ga m c r j * Silu.sg (ga m c r j) := by
  unfold slaArr
  pointwise
  rw [sgArr_at, gaArr_at]

theorem dnaArr_at (r : Fin 8192) (j : Fin 1024) : dnaArr m c (ix3 0 r j) = dna m c r j := by
  unfold dnaArr
  pointwise
  rw [eaArr_at, slaArr_at]
  rfl

theorem hwaArr_at (r : Fin 8192) (i : Fin 4) (x : Fin 256) : hwaArr m c (ix3 0 r (ca i x)) = nwa m c r i x := hwa_at _ _ r i x

section AtA

variable (r : Fin 8192) (i : Fin 4) (x : Fin 256)

theorem doaTerm_at : doaTerm m c (ix2 r (ca i x))
    = dna m c r (ca i x) * wa m c x * HeadNorm.rs NA (fun l => oa m c r (ca i l))
      + oa m c r (ca i x) * HeadNorm.slope NA (fun l => oa m c r (ca i l)) (fun l => dna m c r (ca i l)) (wa m c)
      + HeadNorm.slope NA (fun l => oa m c r (ca i l)) (fun l => dna m c r (ca i l)) (wa m c) * oa m c r (ca i x) := by
  refine (outArr_at _ r _).trans ((doa_at _ _ _ r i x).trans ?_)
  simp only [dnaArr_at]
  rfl

theorem dgaTerm_at : dgaTerm m c (ix2 r (ca i x))
    = nwa m c r i x * (Silu.sg (ma m c r (ca i x)) * dy m c r (ca i x)) * Silu.sg (ga m c r (ca i x))
      + ga m c r (ca i x) * (nwa m c r i x * (Silu.sg (ma m c r (ca i x)) * dy m c r (ca i x))) * (Silu.sg (ga m c r (ca i x)) * (1 - Silu.sg (ga m c r (ca i x)))) := by
  refine (outArr_at _ r _).trans ((gateArr_at _ _ r _).trans ?_)
  have h : mulf (F := Ideal) (φ := .f32) (hwaArr m c) (eaArr m c) (ix3 0 r (ca i x)) = nwa m c r i x * (Silu.sg (ma m c r (ca i x)) * dy m c r (ca i x)) := by
    pointwise
    rw [hwaArr_at, eaArr_at]
  rw [h, gaArr_at]

theorem dmaTerm_at : dmaTerm m c (ix2 r (ca i x))
    = dy m c r (ca i x) * (nwa m c r i x * (ga m c r (ca i x) * Silu.sg (ga m c r (ca i x)))) * (Silu.sg (ma m c r (ca i x)) * (1 - Silu.sg (ma m c r (ca i x)))) := by
  refine (outArr_at _ r _).trans ?_
  pointwise
  rw [yArr_at, hwaArr_at, slaArr_at, ssArr_at, maArr_at]

theorem dwaTerm_at : dwaTerm m c (ix2 0 x)
    = ∑ r : Fin 8192, ∑ i : Fin 4, (oa m c r (ca i x) * HeadNorm.rs NA (fun l => oa m c r (ca i l))) * dna m c r (ca i x) := by
  refine (dwa_at _ _ x).trans ?_
  simp only [dnaArr_at]
  rfl

end AtA

/-- The cotangent of group b before its gate, and of its normed heads. -/
def ebArr : Vec Ideal S1x8192x1024 .f32 := mulf (F := Ideal) (φ := .f32) (sgArr (mbArr m c)) (yArr m c)
def slbArr : Vec Ideal S1x8192x1024 .f32 := mulf (F := Ideal) (φ := .f32) (gbArr m c) (sgArr (gbArr m c))
def dnbArr : Vec Ideal S1x8192x1024 .f32 := mulf (F := Ideal) (φ := .f32) (ebArr m c) (slbArr m c)
def hwbArr : Vec Ideal S1x8192x1024 .f32 := hwb (m ((c.tc : Thread nD τ).loc main_arg2)) (m ((c.tc : Thread nD τ).loc main_arg4))

def dnb (r : Fin 8192) (j : Fin 1024) : EReal := Silu.sg (mb m c r j) * dy m c r j * (gb m c r j * Silu.sg (gb m c r j))
def nwb (r : Fin 8192) (i : Fin 8) (x : Fin 128) : EReal :=
  ob m c r (cb i x) * HeadNorm.rs NB (fun l => ob m c r (cb i l)) * wb m c x

def dobTerm : Buf (Elt Ideal) ((c.tc : Thread nD τ).loc main_v139) := outArr (dob (m ((c.tc : Thread nD τ).loc main_arg2)) (dnbArr m c) (m ((c.tc : Thread nD τ).loc main_arg4)))
def dgbTerm : Buf (Elt Ideal) ((c.tc : Thread nD τ).loc main_v143) := outArr (gateArr (gbArr m c) (mulf (F := Ideal) (φ := .f32) (hwbArr m c) (ebArr m c)))
def dmbTerm : Buf (Elt Ideal) ((c.tc : Thread nD τ).loc main_v147) :=
  outArr (mulf (F := Ideal) (φ := .f32) (mulf (F := Ideal) (φ := .f32) (yArr m c) (mulf (F := Ideal) (φ := .f32) (hwbArr m c) (slbArr m c))) (ssArr (mbArr m c)))
def dwbTerm : Buf (Elt Ideal) ((c.tc : Thread nD τ).loc main_v149) := dwb (m ((c.tc : Thread nD τ).loc main_arg2)) (dnbArr m c)

theorem ebArr_at (r : Fin 8192) (j : Fin 1024) : ebArr m c (ix3 0 r j) = Silu.sg (mb m c r j) * dy m c r j := by
  unfold ebArr
  pointwise
  rw [sgArr_at, mbArr_at, yArr_at]

theorem slbArr_at (r : Fin 8192) (j : Fin 1024) : slbArr m c (ix3 0 r j) = gb m c r j * Silu.sg (gb m c r j) := by
  unfold slbArr
  pointwise
  rw [sgArr_at, gbArr_at]

theorem dnbArr_at (r : Fin 8192) (j : Fin 1024) : dnbArr m c (ix3 0 r j) = dnb m c r j := by
  unfold dnbArr
  pointwise
  rw [ebArr_at, slbArr_at]
  rfl

theorem hwbArr_at (r : Fin 8192) (i : Fin 8) (x : Fin 128) : hwbArr m c (ix3 0 r (cb i x)) = nwb m c r i x := hwb_at _ _ r i x

section AtB

variable (r : Fin 8192) (i : Fin 8) (x : Fin 128)

theorem dobTerm_at : dobTerm m c (ix2 r (cb i x))
    = dnb m c r (cb i x) * wb m c x * HeadNorm.rs NB (fun l => ob m c r (cb i l))
      + ob m c r (cb i x) * HeadNorm.slope NB (fun l => ob m c r (cb i l)) (fun l => dnb m c r (cb i l)) (wb m c)
      + HeadNorm.slope NB (fun l => ob m c r (cb i l)) (fun l => dnb m c r (cb i l)) (wb m c) * ob m c r (cb i x) := by
  refine (outArr_at _ r _).trans ((dob_at _ _ _ r i x).trans ?_)
  simp only [dnbArr_at]
  rfl

theorem dgbTerm_at : dgbTerm m c (ix2 r (cb i x))
    = nwb m c r i x * (Silu.sg (mb m c r (cb i x)) * dy m c r (cb i x)) * Silu.sg (gb m c r (cb i x))
      + gb m c r (cb i x) * (nwb m c r i x * (Silu.sg (mb m c r (cb i x)) * dy m c r (cb i x))) * (Silu.sg (gb m c r (cb i x)) * (1 - Silu.sg (gb m c r (cb i x)))) := by
  refine (outArr_at _ r _).trans ((gateArr_at _ _ r _).trans ?_)
  have h : mulf (F := Ideal) (φ := .f32) (hwbArr m c) (ebArr m c) (ix3 0 r (cb i x)) = nwb m c r i x * (Silu.sg (mb m c r (cb i x)) * dy m c r (cb i x)) := by
    pointwise
    rw [hwbArr_at, ebArr_at]
  rw [h, gbArr_at]

theorem dmbTerm_at : dmbTerm m c (ix2 r (cb i x))
    = dy m c r (cb i x) * (nwb m c r i x * (gb m c r (cb i x) * Silu.sg (gb m c r (cb i x)))) * (Silu.sg (mb m c r (cb i x)) * (1 - Silu.sg (mb m c r (cb i x)))) := by
  refine (outArr_at _ r _).trans ?_
  pointwise
  rw [yArr_at, hwbArr_at, slbArr_at, ssArr_at, mbArr_at]

theorem dwbTerm_at : dwbTerm m c (ix2 0 x)
    = ∑ r : Fin 8192, ∑ i : Fin 8, (ob m c r (cb i x) * HeadNorm.rs NB (fun l => ob m c r (cb i l))) * dnb m c r (cb i x) := by
  refine (dwb_at _ _ x).trans ?_
  simp only [dnbArr_at]
  rfl

end AtB

def dhbTerm : Buf (Elt Ideal) ((c.tc : Thread nD τ).loc main_v151) := outArr (m ((c.tc : Thread nD τ).loc main_arg6))

theorem dhbTerm_at (r : Fin 8192) (j : Fin 1024) : dhbTerm m c (ix2 r j) = ct m c r j := outArr_at _ r j

/-- The reference's run. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v137) = doaTerm m c
      ∧ r.2.mem ((c.tc : Thread nD τ).loc main_v139) = dobTerm m c
      ∧ r.2.mem ((c.tc : Thread nD τ).loc main_v141) = dgaTerm m c
      ∧ r.2.mem ((c.tc : Thread nD τ).loc main_v143) = dgbTerm m c
      ∧ r.2.mem ((c.tc : Thread nD τ).loc main_v145) = dmaTerm m c
      ∧ r.2.mem ((c.tc : Thread nD τ).loc main_v147) = dmbTerm m c
      ∧ r.2.mem ((c.tc : Thread nD τ).loc main_v148) = dwaTerm m c
      ∧ r.2.mem ((c.tc : Thread nD τ).loc main_v149) = dwbTerm m c
      ∧ r.2.mem ((c.tc : Thread nD τ).loc main_v151) = dhbTerm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := Value.run m ρ

end Cert.MergeProof.Ref
-- ==== Proof.Merge.Claim.lean ====
/- The merge's gradient call leaves what the reference's derivative leaves. -/
module
public import proofs.«01_k».proof.Proof.Merge.Final
public import proofs.«01_k».proof.Proof.Merge.Ref
public import proofs.«01_k».proof.Defs
public import Idealize.ShloMosaic.Lib.Claim

@[expose] public section

set_option maxRecDepth 16384

noncomputable section

namespace Cert.MergeProof

open Idealize.ShloMosaic Idealize.ShloMosaic.TcCoe Idealize.SL.Sem

theorem NA_eq : NA = ((256 : ℝ) : EReal) := by
  unfold NA
  simp [Ideal.ofBits, Ideal.ieee, -EReal.coe_mul, -EReal.coe_neg]
  norm_num

theorem NB_eq : NB = ((128 : ℝ) : EReal) := by
  unfold NB
  simp [Ideal.ofBits, Ideal.ieee, -EReal.coe_mul, -EReal.coe_neg]
  norm_num

theorem sg_real {g : EReal} (h : ∃ x : ℝ, g = x) : ∃ x : ℝ, Silu.sg g = x := by
  obtain ⟨x, rfl⟩ := h
  exact ⟨_, Silu.sg_coe x⟩

section Agree

variable (m : (ℓ : Loc Cert.MergeIdeal.nD Cert.MergeIdeal.τ Cert.MergeIdeal.sig) → Buf (Elt Ideal) ℓ)
  (m' : (ℓ : Loc Cert.MergeRefIdeal.nD Cert.MergeRefIdeal.τ Cert.MergeRefIdeal.sig) → Buf (Elt Ideal) ℓ) (c : Dev Cert.MergeIdeal.nD)

/-- The two programs' arguments are the same arrays. -/
def Same : Prop :=
  Ref.pr m' c = pr m c ∧ Ref.oa m' c = oa m c ∧ Ref.ob m' c = ob m c ∧ Ref.wa m' c = wa m c ∧ Ref.wb m' c = wb m c
    ∧ Ref.wo m' c = wo m c ∧ Ref.ct m' c = ct m c

/-- Every argument holds reals. -/
def Real : Prop :=
  (∀ r k, ∃ x : ℝ, pr m c r k = x) ∧ (∀ r j, ∃ x : ℝ, oa m c r j = x) ∧ (∀ r j, ∃ x : ℝ, ob m c r j = x)
    ∧ (∀ j, ∃ x : ℝ, wa m c j = x) ∧ (∀ j, ∃ x : ℝ, wb m c j = x) ∧ (∀ j k, ∃ x : ℝ, wo m c j k = x) ∧ (∀ r k, ∃ x : ℝ, ct m c r k = x)

theorem dy_eq (h : Same m m' c) : Ref.dy m' c = dy m c := by
  obtain ⟨_, _, _, _, _, h5, h6⟩ := h
  unfold Ref.dy dy
  rw [h5, h6]

theorem dy_real (h : Real m c) (r : Fin 8192) (j : Fin 1024) : ∃ x : ℝ, dy m c r j = x :=
  NormBack.real_sum fun k => NormBack.real_mul (h.2.2.2.2.2.2 r k) (h.2.2.2.2.2.1 j k)

theorem hb_eq (h : Same m m' c) : Ref.dhbTerm m' c = (Cert.MergeIdeal.Gen.dats m 0 c).arrAt 18 Cert.MergeIdeal.cfg0.N := by
  rw [final_dhb]
  refine funext fun i => ?_
  refine (congrArg (Ref.dhbTerm m' c) (pair i)).trans ((Ref.dhbTerm_at m' c (i 0) (i 1)).trans ?_)
  rw [h.2.2.2.2.2.2]

theorem ga_eq (h : Same m m' c) : Ref.ga m' c = ga m c := by
  unfold Ref.ga ga
  rw [h.1]

theorem ma_eq (h : Same m m' c) : Ref.ma m' c = ma m c := by
  unfold Ref.ma ma
  rw [h.1]

theorem dna_eq (h : Same m m' c) : Ref.dna m' c = dna m c := by
  unfold Ref.dna dna
  rw [ga_eq m m' c h, ma_eq m m' c h, dy_eq m m' c h]
  exact funext fun r => funext fun j => congrArg (· * _) (mul_comm _ _)

theorem nwa_eq (h : Same m m' c) : Ref.nwa m' c = nwa m c := by
  unfold Ref.nwa nwa
  rw [h.2.1, h.2.2.2.1]

theorem dna_real (hr : Real m c) (r : Fin 8192) (j : Fin 1024) : ∃ x : ℝ, dna m c r j = x :=
  NormBack.real_mul (NormBack.real_mul (dy_real m c hr r j) (sg_real (hr.1 r _))) (NormBack.real_mul (hr.1 r _) (sg_real (hr.1 r _)))

theorem nwa_real (hr : Real m c) (r : Fin 8192) (i : Fin 4) (x : Fin 256) : ∃ y : ℝ, nwa m c r i x = y :=
  NormBack.real_mul (NormBack.real_mul (hr.2.1 r _) (HeadNorm.rs_real NA 256 (by norm_num) NA_eq fun l => hr.2.1 r _)) (hr.2.2.2.1 x)

theorem doa_pt (h : Same m m' c) (hr : Real m c) (r : Fin 8192) (i : Fin 4) (x : Fin 256) :
    Ref.doaTerm m' c (ix2 r (ca i x)) = doaAt m c r i x := by
  refine (Ref.doaTerm_at m' c r i x).trans ?_
  rw [dna_eq m m' c h, h.2.1, h.2.2.2.1]
  exact HeadNorm.chain_eq NA 256 (by norm_num) NA_eq _ _ _ (fun l => hr.2.1 r _) (fun l => dna_real m c hr r _) hr.2.2.2.1 x

theorem dga_pt (h : Same m m' c) (hr : Real m c) (r : Fin 8192) (i : Fin 4) (x : Fin 256) :
    Ref.dgaTerm m' c (ix2 r (ca i x)) = dgaAt m c r i x := by
  refine (Ref.dgaTerm_at m' c r i x).trans ?_
  rw [nwa_eq m m' c h, dy_eq m m' c h, ga_eq m m' c h, ma_eq m m' c h]
  refine (Silu.chain_eq _ _ (NormBack.real_mul (nwa_real m c hr r i x)
    (NormBack.real_mul (sg_real (hr.1 r _)) (dy_real m c hr r _)))).trans (congrArg (· * _) ?_)
  rw [mul_comm (Silu.sg _) (dy m c r _)]
  exact mul_comm _ _

theorem dma_pt (h : Same m m' c) (r : Fin 8192) (i : Fin 4) (x : Fin 256) :
    Ref.dmaTerm m' c (ix2 r (ca i x)) = dmaAt m c r i x := by
  refine (Ref.dmaTerm_at m' c r i x).trans ?_
  rw [nwa_eq m m' c h, dy_eq m m' c h, ga_eq m m' c h, ma_eq m m' c h]
  unfold dmaAt
  simp only [mul_assoc]

theorem dwa_pt (h : Same m m' c) (x : Fin 256) : Ref.dwaTerm m' c (ix2 0 x) = dwaAt m c x := by
  refine (Ref.dwaTerm_at m' c x).trans ?_
  rw [dna_eq m m' c h, h.2.1]
  exact Finset.sum_congr (M := EReal) rfl fun r _ => Finset.sum_congr (M := EReal) rfl fun i _ => mul_comm (G := EReal) _ _

theorem doa_eq (h : Same m m' c) (hr : Real m c) :
    Ref.doaTerm m' c = (Cert.MergeIdeal.Gen.dats m 0 c).arrAt 10 Cert.MergeIdeal.cfg0.N := by
  rw [final_doa]
  refine funext fun i => ?_
  exact (congrArg (Ref.doaTerm m' c) ((pair i).trans (congrArg (ix2 (i 0)) (ca_split (i 1)).symm))).trans
    (doa_pt m m' c h hr (i 0) (ha (i 1)) (xa (i 1)))

theorem dga_eq (h : Same m m' c) (hr : Real m c) :
    Ref.dgaTerm m' c = (Cert.MergeIdeal.Gen.dats m 0 c).arrAt 12 Cert.MergeIdeal.cfg0.N := by
  rw [final_dga]
  refine funext fun i => ?_
  exact (congrArg (Ref.dgaTerm m' c) ((pair i).trans (congrArg (ix2 (i 0)) (ca_split (i 1)).symm))).trans
    (dga_pt m m' c h hr (i 0) (ha (i 1)) (xa (i 1)))

theorem dma_eq (h : Same m m' c) :
    Ref.dmaTerm m' c = (Cert.MergeIdeal.Gen.dats m 0 c).arrAt 14 Cert.MergeIdeal.cfg0.N := by
  rw [final_dma]
  refine funext fun i => ?_
  exact (congrArg (Ref.dmaTerm m' c) ((pair i).trans (congrArg (ix2 (i 0)) (ca_split (i 1)).symm))).trans
    (dma_pt m m' c h (i 0) (ha (i 1)) (xa (i 1)))

theorem dwa_eq (h : Same m m' c) : Ref.dwaTerm m' c = (Cert.MergeIdeal.Gen.dats m 0 c).arrAt 16 Cert.MergeIdeal.cfg0.N := by
  rw [final_dwa]
  refine funext fun i => ?_
  have hi : i = ix2 0 (i 1) := by
    funext a
    match a with
    | ⟨0, _⟩ => exact Fin.ext (by have h : (i 0).val < 1 := (i 0).isLt; show (i 0).val = 0; omega)
    | ⟨1, _⟩ => rfl
  exact (congrArg (Ref.dwaTerm m' c) hi).trans (dwa_pt m m' c h (i 1))

theorem gb_eq (h : Same m m' c) : Ref.gb m' c = gb m c := by
  unfold Ref.gb gb
  rw [h.1]

theorem mb_eq (h : Same m m' c) : Ref.mb m' c = mb m c := by
  unfold Ref.mb mb
  rw [h.1]

theorem dnb_eq (h : Same m m' c) : Ref.dnb m' c = dnb m c := by
  unfold Ref.dnb dnb
  rw [gb_eq m m' c h, mb_eq m m' c h, dy_eq m m' c h]
  exact funext fun r => funext fun j => congrArg (· * _) (mul_comm _ _)

theorem nwb_eq (h : Same m m' c) : Ref.nwb m' c = nwb m c := by
  unfold Ref.nwb nwb
  rw [h.2.2.1, h.2.2.2.2.1]

theorem dnb_real (hr : Real m c) (r : Fin 8192) (j : Fin 1024) : ∃ x : ℝ, dnb m c r j = x :=
  NormBack.real_mul (NormBack.real_mul (dy_real m c hr r j) (sg_real (hr.1 r _))) (NormBack.real_mul (hr.1 r _) (sg_real (hr.1 r _)))

theorem nwb_real (hr : Real m c) (r : Fin 8192) (i : Fin 8) (x : Fin 128) : ∃ y : ℝ, nwb m c r i x = y :=
  NormBack.real_mul (NormBack.real_mul (hr.2.2.1 r _) (HeadNorm.rs_real NB 128 (by norm_num) NB_eq fun l => hr.2.2.1 r _)) (hr.2.2.2.2.1 x)

theorem dob_pt (h : Same m m' c) (hr : Real m c) (r : Fin 8192) (i : Fin 8) (x : Fin 128) :
    Ref.dobTerm m' c (ix2 r (cb i x)) = dobAt m c r i x := by
  refine (Ref.dobTerm_at m' c r i x).trans ?_
  rw [dnb_eq m m' c h, h.2.2.1, h.2.2.2.2.1]
  exact HeadNorm.chain_eq NB 128 (by norm_num) NB_eq _ _ _ (fun l => hr.2.2.1 r _) (fun l => dnb_real m c hr r _) hr.2.2.2.2.1 x

theorem dgb_pt (h : Same m m' c) (hr : Real m c) (r : Fin 8192) (i : Fin 8) (x : Fin 128) :
    Ref.dgbTerm m' c (ix2 r (cb i x)) = dgbAt m c r i x := by
  refine (Ref.dgbTerm_at m' c r i x).trans ?_
  rw [nwb_eq m m' c h, dy_eq m m' c h, gb_eq m m' c h, mb_eq m m' c h]
  refine (Silu.chain_eq _ _ (NormBack.real_mul (nwb_real m c hr r i x)
    (NormBack.real_mul (sg_real (hr.1 r _)) (dy_real m c hr r _)))).trans (congrArg (· * _) ?_)
  rw [mul_comm (Silu.sg _) (dy m c r _)]
  exact mul_comm _ _

theorem dmb_pt (h : Same m m' c) (r : Fin 8192) (i : Fin 8) (x : Fin 128) :
    Ref.dmbTerm m' c (ix2 r (cb i x)) = dmbAt m c r i x := by
  refine (Ref.dmbTerm_at m' c r i x).trans ?_
  rw [nwb_eq m m' c h, dy_eq m m' c h, gb_eq m m' c h, mb_eq m m' c h]
  unfold dmbAt
  simp only [mul_assoc]

theorem dwb_pt (h : Same m m' c) (x : Fin 128) : Ref.dwbTerm m' c (ix2 0 x) = dwbAt m c x := by
  refine (Ref.dwbTerm_at m' c x).trans ?_
  rw [dnb_eq m m' c h, h.2.2.1]
  exact Finset.sum_congr (M := EReal) rfl fun r _ => Finset.sum_congr (M := EReal) rfl fun i _ => mul_comm (G := EReal) _ _

theorem dob_eq (h : Same m m' c) (hr : Real m c) :
    Ref.dobTerm m' c = (Cert.MergeIdeal.Gen.dats m 0 c).arrAt 11 Cert.MergeIdeal.cfg0.N := by
  rw [final_dob]
  refine funext fun i => ?_
  exact (congrArg (Ref.dobTerm m' c) ((pair i).trans (congrArg (ix2 (i 0)) (cb_split (i 1)).symm))).trans
    (dob_pt m m' c h hr (i 0) (hb (i 1)) (xb (i 1)))

theorem dgb_eq (h : Same m m' c) (hr : Real m c) :
    Ref.dgbTerm m' c = (Cert.MergeIdeal.Gen.dats m 0 c).arrAt 13 Cert.MergeIdeal.cfg0.N := by
  rw [final_dgb]
  refine funext fun i => ?_
  exact (congrArg (Ref.dgbTerm m' c) ((pair i).trans (congrArg (ix2 (i 0)) (cb_split (i 1)).symm))).trans
    (dgb_pt m m' c h hr (i 0) (hb (i 1)) (xb (i 1)))

theorem dmb_eq (h : Same m m' c) :
    Ref.dmbTerm m' c = (Cert.MergeIdeal.Gen.dats m 0 c).arrAt 15 Cert.MergeIdeal.cfg0.N := by
  rw [final_dmb]
  refine funext fun i => ?_
  exact (congrArg (Ref.dmbTerm m' c) ((pair i).trans (congrArg (ix2 (i 0)) (cb_split (i 1)).symm))).trans
    (dmb_pt m m' c h (i 0) (hb (i 1)) (xb (i 1)))

theorem dwb_eq (h : Same m m' c) : Ref.dwbTerm m' c = (Cert.MergeIdeal.Gen.dats m 0 c).arrAt 17 Cert.MergeIdeal.cfg0.N := by
  rw [final_dwb]
  refine funext fun i => ?_
  have hi : i = ix2 0 (i 1) := by
    funext a
    match a with
    | ⟨0, _⟩ => exact Fin.ext (by have h : (i 0).val < 1 := (i 0).isLt; show (i 0).val = 0; omega)
    | ⟨1, _⟩ => rfl
  exact (congrArg (Ref.dwbTerm m' c) hi).trans (dwb_pt m m' c h (i 1))

end Agree

theorem real_of_pre [Cert.Pre_merge_finite.Facts] (m : (ℓ : Loc Cert.MergeIdeal.nD Cert.MergeIdeal.τ Cert.MergeIdeal.sig) → Buf (Elt Ideal) ℓ)
    (h : Cert.Pre_MergeIdeal_merge_finite m) (c : Dev Cert.MergeIdeal.nD) : Real m c := by
  obtain ⟨h0, h1, h2, h3, h4, h5, h6⟩ := h c
  exact ⟨fun r k => NormBack.real_of_flag _ _ (fun _ => rfl) h0 _, fun r j => NormBack.real_of_flag _ _ (fun _ => rfl) h1 _,
    fun r j => NormBack.real_of_flag _ _ (fun _ => rfl) h2 _, fun j => NormBack.real_of_flag _ _ (fun _ => rfl) h3 _,
    fun j => NormBack.real_of_flag _ _ (fun _ => rfl) h4 _, fun j k => NormBack.real_of_flag _ _ (fun _ => rfl) h5 _,
    fun r k => NormBack.real_of_flag _ _ (fun _ => rfl) h6 _⟩

theorem algebraic [Cert.Pre_merge_finite.Facts] : Cert.algebraic_MergeIdeal_MergeRefIdeal_pre_merge_finite := by
  intro m g m' g' hpre hagree
  have hs : ∀ c, Same m m' c := fun c => by
    obtain ⟨h0, h1, h2, h3, h4, h5, h6⟩ := hagree c
    exact ⟨funext fun r => funext fun k => congrFun h0 _, funext fun r => funext fun j => congrFun h1 _,
      funext fun r => funext fun j => congrFun h2 _, funext fun j => congrFun h3 _, funext fun j => congrFun h4 _,
      funext fun j => funext fun k => congrFun h5 _, funext fun r => funext fun k => congrFun h6 _⟩
  refine ⟨fun c => (Cert.MergeIdeal.Gen.dats m 0 c).arrAt 10 Cert.MergeIdeal.cfg0.N,
    fun c => (Cert.MergeIdeal.Gen.dats m 0 c).arrAt 11 Cert.MergeIdeal.cfg0.N,
    fun c => (Cert.MergeIdeal.Gen.dats m 0 c).arrAt 12 Cert.MergeIdeal.cfg0.N,
    fun c => (Cert.MergeIdeal.Gen.dats m 0 c).arrAt 13 Cert.MergeIdeal.cfg0.N,
    fun c => (Cert.MergeIdeal.Gen.dats m 0 c).arrAt 14 Cert.MergeIdeal.cfg0.N,
    fun c => (Cert.MergeIdeal.Gen.dats m 0 c).arrAt 15 Cert.MergeIdeal.cfg0.N,
    fun c => (Cert.MergeIdeal.Gen.dats m 0 c).arrAt 16 Cert.MergeIdeal.cfg0.N,
    fun c => (Cert.MergeIdeal.Gen.dats m 0 c).arrAt 17 Cert.MergeIdeal.cfg0.N,
    fun c => (Cert.MergeIdeal.Gen.dats m 0 c).arrAt 18 Cert.MergeIdeal.cfg0.N,
    Cert.MergeIdeal.Value.run_blocks m g, ?_⟩
  refine (θ_run Cert.MergeRefIdeal.defs _ _).mono (fun r h c => ?_) (Ref.run m' g')
  obtain ⟨h0, h1, h2, h3, h4, h5, h6, h7, h8, hk⟩ := h c
  have hr := real_of_pre m hpre c
  exact ⟨h0.trans (doa_eq m m' c (hs c) hr), h1.trans (dob_eq m m' c (hs c) hr), h2.trans (dga_eq m m' c (hs c) hr),
    h3.trans (dgb_eq m m' c (hs c) hr), h4.trans (dma_eq m m' c (hs c)), h5.trans (dmb_eq m m' c (hs c)),
    h6.trans (dwa_eq m m' c (hs c)), h7.trans (dwb_eq m m' c (hs c)), h8.trans (hb_eq m m' c (hs c)), hk⟩

end Cert.MergeProof
-- ==== Proof.MergeFwd.Pay.lean ====
/- One grid point of the merge: what its stored values are, entry by entry. -/
module

public import proofs.«01_k».proof.Proof.Gen.MergeFwdIdeal.Skeleton
public import Idealize.ShloMosaic.Lib.Pointwise
public import Idealize.ShloMosaic.Lib.ValueIdx
public import proofs.«01_k».proof.Proof.Merge.PayB

@[expose] public section

set_option maxRecDepth 16384

noncomputable section

namespace Cert.MergeFwdProof

open Idealize.ShloMosaic Cert.MergeFwdIdeal Cert.MergeFwdIdeal.Gen
open Cert.MergeProof (NA NB ca cb ca0 ca1 ca2 ca3 cb0 cb1 cb2 cb3 cb4 cb5 cb6 cb7 cat_a cat_b)

/-- The four heads of the first group and the eight of the second, divided by their norms. -/
def na (o : Vec Ideal S256x1024 .bf16) : Fin 4 → FVec Ideal S256x256 .f32 :=
  ![k0_pay4 o, k0_pay5 o, k0_pay6 o, k0_pay9 (k0_pay7 o) (k0_pay8 o)]
def nb (o : Vec Ideal S256x1024 .bf16) : Fin 8 → FVec Ideal S256x128 .f32 :=
  ![k0_pay11 o, k0_pay12 o, k0_pay13 o, k0_pay16 (k0_pay14 o) (k0_pay15 o), k0_pay17 (k0_pay10 o), k0_pay18 (k0_pay10 o),
    k0_pay19 (k0_pay10 o), k0_pay20 (k0_pay10 o)]

theorem na_at (o : Vec Ideal S256x1024 .bf16) (i : Fin 4) (r x : Fin 256) :
    na o i (ix2 r x) = o (ix2 r (ca i x)) * HeadNorm.rs NA fun l => o (ix2 r (ca i l)) := by
  match i with
  | 0 =>
    show k0_pay4 o (ix2 r x) = _
    pointwise [k0_pay4, k0_pay3]
    simp only [ca0]
    rfl
  | 1 =>
    show k0_pay5 o (ix2 r x) = _
    pointwise [k0_pay5, k0_pay3]
    simp only [ca1]
    rfl
  | 2 =>
    show k0_pay6 o (ix2 r x) = _
    pointwise [k0_pay6, k0_pay3]
    simp only [ca2]
    rfl
  | 3 =>
    show k0_pay9 (k0_pay7 o) (k0_pay8 o) (ix2 r x) = _
    pointwise [k0_pay9, k0_pay7, k0_pay8, k0_pay3]
    simp only [ca3]
    rfl

theorem nb_at (o : Vec Ideal S256x1024 .bf16) (i : Fin 8) (r : Fin 256) (x : Fin 128) :
    nb o i (ix2 r x) = o (ix2 r (cb i x)) * HeadNorm.rs NB fun l => o (ix2 r (cb i l)) := by
  match i with
  | 0 =>
    show k0_pay11 o (ix2 r x) = _
    pointwise [k0_pay11, k0_pay10]
    simp only [cb0]
    rfl
  | 1 =>
    show k0_pay12 o (ix2 r x) = _
    pointwise [k0_pay12, k0_pay10]
    simp only [cb1]
    rfl
  | 2 =>
    show k0_pay13 o (ix2 r x) = _
    pointwise [k0_pay13, k0_pay10]
    simp only [cb2]
    rfl
  | 3 =>
    show k0_pay16 (k0_pay14 o) (k0_pay15 o) (ix2 r x) = _
    pointwise [k0_pay16, k0_pay15, k0_pay14, k0_pay10]
    simp only [cb3]
    rfl
  | 4 =>
    show k0_pay17 (k0_pay10 o) (ix2 r x) = _
    pointwise [k0_pay17, k0_pay10]
    simp only [cb4]
    rfl
  | 5 =>
    show k0_pay18 (k0_pay10 o) (ix2 r x) = _
    pointwise [k0_pay18, k0_pay10]
    simp only [cb5]
    rfl
  | 6 =>
    show k0_pay19 (k0_pay10 o) (ix2 r x) = _
    pointwise [k0_pay19, k0_pay10]
    simp only [cb6]
    rfl
  | 7 =>
    show k0_pay20 (k0_pay10 o) (ix2 r x) = _
    pointwise [k0_pay20, k0_pay10]
    simp only [cb7]
    rfl

/-- The normed and weighted heads of the first group side by side. -/
def hna (w : Vec Ideal S1x256 .f32) (o : Vec Ideal S256x1024 .bf16) : FVec Ideal S256x1024 .f32 :=
  k0_pay21 (k0_pay4 o) (k0_pay5 o) (k0_pay6 o) (k0_pay9 (k0_pay7 o) (k0_pay8 o)) w w w w

theorem hna_at (w : Vec Ideal S1x256 .f32) (o : Vec Ideal S256x1024 .bf16) (i : Fin 4) (r x : Fin 256) :
    hna w o (ix2 r (ca i x)) = na o i (ix2 r x) * w (ix2 0 x) := by
  unfold hna k0_pay21
  refine (cat_a _ _ _ _ i r x).trans ?_
  match i with
  | 0 => show mulf (na o 0) (broadcastTo S256x256 w broadcasts_S1x256_S256x256) (ix2 r x) = _; pointwise
  | 1 => show mulf (na o 1) (broadcastTo S256x256 w broadcasts_S1x256_S256x256) (ix2 r x) = _; pointwise
  | 2 => show mulf (na o 2) (broadcastTo S256x256 w broadcasts_S1x256_S256x256) (ix2 r x) = _; pointwise
  | 3 => show mulf (na o 3) (broadcastTo S256x256 w broadcasts_S1x256_S256x256) (ix2 r x) = _; pointwise

/-- Eight heads side by side, mixed. -/
theorem pay32_at (v0 v1 v2 v3 v4 v5 v6 v7 : FVec Ideal S256x128 .f32) (q : Vec Ideal S256x1024 .bf16) (i : Fin 8) (r : Fin 256) (x : Fin 128) :
    k0_pay32 v0 v1 v2 v3 v4 v5 v6 v7 q (ix2 r (cb i x)) = Silu.sg (q (ix2 r (cb i x))) * ![v0, v1, v2, v3, v4, v5, v6, v7] i (ix2 r x) := by
  rw [← cat_b v0 v1 v2 v3 v4 v5 v6 v7 i r x]
  unfold k0_pay32 Silu.sg
  generalize concatenate _ _ _ _ = w
  pointwise
  rw [zero_sub]

/-- The second group's heads, normed, weighted and mixed. -/
def mixb (w : Vec Ideal S1x128 .f32) (o q : Vec Ideal S256x1024 .bf16) : FVec Ideal S256x1024 .f32 :=
  k0_pay32 (k0_pay22 (k0_pay11 o) w) (k0_pay23 (k0_pay12 o) w) (k0_pay24 (k0_pay13 o) w) (k0_pay25 (k0_pay16 (k0_pay14 o) (k0_pay15 o)) w) (k0_pay26 (k0_pay17 (k0_pay10 o)) w) (k0_pay27 (k0_pay18 (k0_pay10 o)) w) (k0_pay28 (k0_pay19 (k0_pay10 o)) w) (k0_pay29 (k0_pay20 (k0_pay10 o)) w) q

theorem mixb_at (w : Vec Ideal S1x128 .f32) (o q : Vec Ideal S256x1024 .bf16) (i : Fin 8) (r : Fin 256) (x : Fin 128) :
    mixb w o q (ix2 r (cb i x)) = Silu.sg (q (ix2 r (cb i x))) * (nb o i (ix2 r x) * w (ix2 0 x)) := by
  refine (pay32_at _ _ _ _ _ _ _ _ q i r x).trans (congrArg (Silu.sg (q (ix2 r (cb i x))) * ·) ?_)
  match i with
  | 0 => show k0_pay22 (nb o 0) w (ix2 r x) = _; pointwise [k0_pay22]
  | 1 => show k0_pay23 (nb o 1) w (ix2 r x) = _; pointwise [k0_pay23]
  | 2 => show k0_pay24 (nb o 2) w (ix2 r x) = _; pointwise [k0_pay24]
  | 3 => show k0_pay25 (nb o 3) w (ix2 r x) = _; pointwise [k0_pay25]
  | 4 => show k0_pay26 (nb o 4) w (ix2 r x) = _; pointwise [k0_pay26]
  | 5 => show k0_pay27 (nb o 5) w (ix2 r x) = _; pointwise [k0_pay27]
  | 6 => show k0_pay28 (nb o 6) w (ix2 r x) = _; pointwise [k0_pay28]
  | 7 => show k0_pay29 (nb o 7) w (ix2 r x) = _; pointwise [k0_pay29]

/-- The first group's heads, normed, weighted, mixed and gated. -/
theorem pay31_at (h : FVec Ideal S256x1024 .f32) (g q : Vec Ideal S256x1024 .bf16) (r : Fin 256) (j : Fin 1024) :
    k0_pay31 h g q (ix2 r j) = Silu.sg (q (ix2 r j)) * h (ix2 r j) * (g (ix2 r j) * Silu.sg (g (ix2 r j))) := by
  unfold Silu.sg
  pointwise [k0_pay31]
  rw [zero_sub, zero_sub]

/-- The block of merged heads a point stores, and its product with the output weight. -/
def yBlk (oa ob ga gb ma mb : Vec Ideal S256x1024 .bf16) (wa : Vec Ideal S1x256 .f32) (wb : Vec Ideal S1x128 .f32) : FVec Ideal S256x1024 .bf16 :=
  k0_pay1 (k0_pay30 gb) (k0_pay31 (hna wa oa) ga ma) (mixb wb ob mb) (k0_pay33 gb) (Scalar.ofBits .f32 0x3F800000#32)
def hBlk (h : Vec Ideal S256x1024 .f32) (oa ob ga gb ma mb : Vec Ideal S256x1024 .bf16) (wa : Vec Ideal S1x256 .f32) (wb : Vec Ideal S1x128 .f32)
    (wo : Vec Ideal S1024x1024 .bf16) : FVec Ideal S256x1024 .f32 :=
  k0_pay2 (k0_pay30 gb) (k0_pay31 (hna wa oa) ga ma) (mixb wb ob mb) (k0_pay33 gb) (Scalar.ofBits .f32 0x3F800000#32) h wo

variable (h : Vec Ideal S256x1024 .f32) (oa ob ga gb ma mb : Vec Ideal S256x1024 .bf16) (wa : Vec Ideal S1x256 .f32) (wb : Vec Ideal S1x128 .f32)
  (wo : Vec Ideal S1024x1024 .bf16) (r : Fin 256) (j : Fin 1024)

theorem yBlk_at : yBlk oa ob ga gb ma mb wa wb (ix2 r j)
    = Silu.sg (ma (ix2 r j)) * hna wa oa (ix2 r j) * (ga (ix2 r j) * Silu.sg (ga (ix2 r j)))
      + mixb wb ob mb (ix2 r j) * (gb (ix2 r j) * Silu.sg (gb (ix2 r j))) := by
  unfold yBlk
  pointwise [k0_pay1, k0_pay33, k0_pay30]
  rw [pay31_at, zero_sub]
  rfl

theorem hBlk_at : hBlk h oa ob ga gb ma mb wa wb wo (ix2 r j)
    = h (ix2 r j) + ∑ k, yBlk oa ob ga gb ma mb wa wb (ix2 r k) * wo (ix2 k j) := by
  unfold hBlk yBlk
  pointwise [k0_pay2]

end Cert.MergeFwdProof
-- ==== Proof.MergeFwd.Entry.lean ====
/- The arrays the merge is launched over, entry by entry in the program's own arguments, and the block each point
   sees of them. -/
module

public import proofs.«01_k».proof.Proof.Gen.MergeFwdIdeal.Value
public import Idealize.ShloMosaic.Lib.Pipeline.ValueKit
public import Idealize.ShloMosaic.Lib.StableHlo.ReadAt
public import Idealize.ShloMosaic.Lib.Pointwise

@[expose] public section

set_option maxRecDepth 16384

noncomputable section

namespace Cert.MergeFwdProof

open Idealize.ShloMosaic Idealize.ShloMosaic.TcCoe Idealize.SL.Sem Cert.MergeFwdIdeal Cert.MergeFwdIdeal.Gen
open Idealize.ShloMosaic.Pipeline (Dat)

variable (m : (ℓ : Loc nD τ sig) → Buf (Elt Ideal) ℓ) (c : Dev nD)

/-- The projection, in its own order of columns. -/
def pr (r : Fin 8192) (k : Fin 9248) : EReal := m ((c : Thread nD τ).loc main_arg1) (ix3 0 r k)

/-- The two heads' outputs. -/
def oa (r : Fin 8192) (j : Fin 1024) : EReal := m ((c : Thread nD τ).loc main_arg2) (ix3 0 r j)
def ob (r : Fin 8192) (j : Fin 1024) : EReal := m ((c : Thread nD τ).loc main_arg3) (ix3 0 r j)

/-- The weights of the two norms. -/
def wa (j : Fin 256) : EReal := m ((c : Thread nD τ).loc main_arg4) (ix2 0 j)
def wb (j : Fin 128) : EReal := m ((c : Thread nD τ).loc main_arg5) (ix2 0 j)

/-- The output weight and the residual stream. -/
def wo (j k : Fin 1024) : EReal := m ((c : Thread nD τ).loc main_arg6) (ix2 j k)
def hin (r : Fin 8192) (k : Fin 1024) : EReal := m ((c : Thread nD τ).loc main_arg0) (ix3 0 r k)

/-- The columns of the projection that gate the two outputs and mix them. -/
def ga (r : Fin 8192) (j : Fin 1024) : EReal := pr m c r ⟨2048 + j.val, by omega⟩
def gb (r : Fin 8192) (j : Fin 1024) : EReal := pr m c r ⟨6160 + j.val, by omega⟩
def ma (r : Fin 8192) (j : Fin 1024) : EReal := pr m c r ⟨7200 + j.val, by omega⟩
def mb (r : Fin 8192) (j : Fin 1024) : EReal := pr m c r ⟨8224 + j.val, by omega⟩

theorem entry_hin (r : Fin 8192) (l : Fin 1024) : V m c main_v9 (ix2 r l) = hin m c r l := by
  unfold V hin
  after_reads_at

theorem entry_oa (r : Fin 8192) (l : Fin 1024) : V m c main_v11 (ix2 r l) = oa m c r l := by
  unfold V oa
  after_reads_at

theorem entry_ob (r : Fin 8192) (l : Fin 1024) : V m c main_v13 (ix2 r l) = ob m c r l := by
  unfold V ob
  after_reads_at

theorem entry_wa (l : Fin 256) : V m c main_arg4 (ix2 0 l) = wa m c l := by
  unfold V wa
  after_reads_at

theorem entry_wb (l : Fin 128) : V m c main_arg5 (ix2 0 l) = wb m c l := by
  unfold V wb
  after_reads_at

theorem entry_wo (j k : Fin 1024) : V m c main_v15 (ix2 j k) = wo m c j k := by
  unfold V wo
  after_reads_at

/-- Column `k` of the wide columns put together, as a column of the projection. -/
def bigCol (k : Fin 9216) : Fin 9248 :=
  if k.val < 3072 then ⟨k.val, by omega⟩ else if k.val < 7168 then ⟨k.val + 16, by omega⟩ else ⟨k.val + 32, by omega⟩

theorem entry_pr (r : Fin 8192) (k : Fin 9216) : V m c main_v14 (ix2 r k) = pr m c r (bigCol k) := by
  unfold V bigCol pr
  after_reads_at
  have hk := k.isLt
  repeat' split
  all_goals first
    | omega
    | (after_reads_at; done)
    | (after_reads_at
       refine congrArg (fun z => m (c, Proc.tc.devRef main_arg1) (ix3 0 r z)) (Fin.ext ?_)
       dsimp only
       omega)

theorem idx : ∀ t : Fin cfg0.N, win0_0.index t = ![t.val, 0] ∧ win0_1.index t = ![t.val, 0] ∧ win0_2.index t = ![t.val, 0]
    ∧ win0_3.index t = ![t.val, 2] ∧ win0_4.index t = ![t.val, 6] ∧ win0_5.index t = ![t.val, 7] ∧ win0_6.index t = ![t.val, 8]
    ∧ win0_7.index t = ![0, 0] ∧ win0_8.index t = ![0, 0] ∧ win0_9.index t = ![0, 0] :=
  (by decide +kernel : ∀ t : Fin grid0.N, _)

/-- Row `r` of the block that point `t` works on, as a row of the arrays. -/
def row (t : Fin cfg0.N) (r : Fin 256) : Fin 8192 :=
  ⟨t.val * 256 + r.val, by have hN := lt_of_lt_of_eq t.isLt (show cfg0.N = 32 from N_0); omega⟩

theorem blk_hin (t : Fin cfg0.N) (r : Fin 256) (l : Fin 1024) : iblk m c 0 t (ix2 r l) = hin m c (row t r) l := by
  refine Eq.trans ?_ (entry_hin m c (row t r) l)
  unfold row
  blk_ext [iblk, idx t]

theorem blk_oa (t : Fin cfg0.N) (r : Fin 256) (l : Fin 1024) : iblk m c 1 t (ix2 r l) = oa m c (row t r) l := by
  refine Eq.trans ?_ (entry_oa m c (row t r) l)
  unfold row
  blk_ext [iblk, idx t]

theorem blk_ob (t : Fin cfg0.N) (r : Fin 256) (l : Fin 1024) : iblk m c 2 t (ix2 r l) = ob m c (row t r) l := by
  refine Eq.trans ?_ (entry_ob m c (row t r) l)
  unfold row
  blk_ext [iblk, idx t]

theorem blk_ga (t : Fin cfg0.N) (r : Fin 256) (l : Fin 1024) : iblk m c 3 t (ix2 r l) = ga m c (row t r) l := by
  have e : bigCol ⟨2048 + l.val, by omega⟩ = ⟨2048 + l.val, by omega⟩ := by
    unfold bigCol; exact if_pos (by dsimp only; omega)
  refine Eq.trans ?_ ((entry_pr m c (row t r) ⟨2048 + l.val, by omega⟩).trans (congrArg (pr m c (row t r)) e))
  unfold row
  blk_ext [iblk, idx t]

theorem blk_gb (t : Fin cfg0.N) (r : Fin 256) (l : Fin 1024) : iblk m c 4 t (ix2 r l) = gb m c (row t r) l := by
  have e : bigCol ⟨6144 + l.val, by omega⟩ = ⟨6160 + l.val, by omega⟩ := by
    unfold bigCol
    rw [if_neg (by dsimp only; omega), if_pos (by dsimp only; omega)]
    exact Fin.ext (by dsimp only; omega)
  refine Eq.trans ?_ ((entry_pr m c (row t r) ⟨6144 + l.val, by omega⟩).trans (congrArg (pr m c (row t r)) e))
  unfold row
  blk_ext [iblk, idx t]

theorem blk_ma (t : Fin cfg0.N) (r : Fin 256) (l : Fin 1024) : iblk m c 5 t (ix2 r l) = ma m c (row t r) l := by
  have e : bigCol ⟨7168 + l.val, by omega⟩ = ⟨7200 + l.val, by omega⟩ := by
    unfold bigCol
    rw [if_neg (by dsimp only; omega), if_neg (by dsimp only; omega)]
    exact Fin.ext (by dsimp only; omega)
  refine Eq.trans ?_ ((entry_pr m c (row t r) ⟨7168 + l.val, by omega⟩).trans (congrArg (pr m c (row t r)) e))
  unfold row
  blk_ext [iblk, idx t]

theorem blk_mb (t : Fin cfg0.N) (r : Fin 256) (l : Fin 1024) : iblk m c 6 t (ix2 r l) = mb m c (row t r) l := by
  have e : bigCol ⟨8192 + l.val, by omega⟩ = ⟨8224 + l.val, by omega⟩ := by
    unfold bigCol
    rw [if_neg (by dsimp only; omega), if_neg (by dsimp only; omega)]
    exact Fin.ext (by dsimp only; omega)
  refine Eq.trans ?_ ((entry_pr m c (row t r) ⟨8192 + l.val, by omega⟩).trans (congrArg (pr m c (row t r)) e))
  unfold row
  blk_ext [iblk, idx t]

theorem blk_wa (t : Fin cfg0.N) (l : Fin 256) : iblk m c 7 t (ix2 0 l) = wa m c l := by
  refine Eq.trans ?_ (entry_wa m c l)
  blk_ext [iblk, idx t]

theorem blk_wb (t : Fin cfg0.N) (l : Fin 128) : iblk m c 8 t (ix2 0 l) = wb m c l := by
  refine Eq.trans ?_ (entry_wb m c l)
  blk_ext [iblk, idx t]

theorem blk_wo (t : Fin cfg0.N) (j k : Fin 1024) : iblk m c 9 t (ix2 j k) = wo m c j k := by
  refine Eq.trans ?_ (entry_wo m c j k)
  blk_ext [iblk, idx t]

end Cert.MergeFwdProof
-- ==== Proof.MergeFwd.Final.lean ====
/- The two arrays the merge leaves: the residual stream with the product added, and the merged heads. -/
module

public import proofs.«01_k».proof.Proof.MergeFwd.Pay
public import proofs.«01_k».proof.Proof.MergeFwd.Entry
public import proofs.«01_k».proof.Proof.Merge.Final

@[expose] public section

set_option maxRecDepth 16384

noncomputable section

namespace Cert.MergeFwdProof

open Idealize.ShloMosaic Idealize.ShloMosaic.TcCoe Idealize.SL.Sem Cert.MergeFwdIdeal Cert.MergeFwdIdeal.Gen
open Idealize.ShloMosaic.Pipeline (Dat)
open Cert.MergeProof (NA NB ca cb ha xa hb xb ca_split cb_split pair)

variable (m : (ℓ : Loc nD τ sig) → Buf (Elt Ideal) ℓ) (c : Dev nD)

/-- The normed and weighted heads. -/
def nwa (r : Fin 8192) (j : Fin 1024) : EReal := oa m c r j * HeadNorm.rs NA (fun l => oa m c r (ca (ha j) l)) * wa m c (xa j)
def nwb (r : Fin 8192) (j : Fin 1024) : EReal := ob m c r j * HeadNorm.rs NB (fun l => ob m c r (cb (hb j) l)) * wb m c (xb j)

/-- The merged heads, and the residual stream after them. -/
def yAt (r : Fin 8192) (j : Fin 1024) : EReal :=
  Silu.sg (ma m c r j) * nwa m c r j * (ga m c r j * Silu.sg (ga m c r j))
    + Silu.sg (mb m c r j) * nwb m c r j * (gb m c r j * Silu.sg (gb m c r j))
def hAt (r : Fin 8192) (j : Fin 1024) : EReal := hin m c r j + ∑ k, yAt m c r k * wo m c k j

theorem hna_blk (t : Fin cfg0.N) (r : Fin 256) (j : Fin 1024) : hna (iblk m c 7 t) (iblk m c 1 t) (ix2 r j) = nwa m c (row t r) j := by
  have h := hna_at (iblk m c 7 t) (iblk m c 1 t) (ha j) r (xa j)
  rw [na_at, show (fun l => iblk m c 1 t (ix2 r (ca (ha j) l))) = (fun l => oa m c (row t r) (ca (ha j) l)) from funext fun l => blk_oa m c t r _,
    ca_split] at h
  exact h.trans (congrArg₂ (· * ·) (congrArg (· * _) (blk_oa m c t r j)) (blk_wa m c t _))

theorem mixb_blk (t : Fin cfg0.N) (r : Fin 256) (j : Fin 1024) :
    mixb (iblk m c 8 t) (iblk m c 2 t) (iblk m c 6 t) (ix2 r j) = Silu.sg (mb m c (row t r) j) * nwb m c (row t r) j := by
  have h := mixb_at (iblk m c 8 t) (iblk m c 2 t) (iblk m c 6 t) (hb j) r (xb j)
  rw [nb_at, show (fun l => iblk m c 2 t (ix2 r (cb (hb j) l))) = (fun l => ob m c (row t r) (cb (hb j) l)) from funext fun l => blk_ob m c t r _,
    cb_split] at h
  exact h.trans (congrArg₂ (· * ·) (congrArg Silu.sg (blk_mb m c t r j))
    (congrArg₂ (· * ·) (congrArg (· * _) (blk_ob m c t r j)) (blk_wb m c t _)))

theorem y_point (t : Fin cfg0.N) (r : Fin 256) (j : Fin 1024) :
    yBlk (iblk m c 1 t) (iblk m c 2 t) (iblk m c 3 t) (iblk m c 4 t) (iblk m c 5 t) (iblk m c 6 t) (iblk m c 7 t) (iblk m c 8 t) (ix2 r j)
      = yAt m c (row t r) j := by
  refine (yBlk_at _ _ _ _ _ _ _ _ r j).trans ?_
  rw [hna_blk, mixb_blk, show iblk m c 3 t (ix2 r j) = ga m c (row t r) j from blk_ga m c t r j,
    show iblk m c 4 t (ix2 r j) = gb m c (row t r) j from blk_gb m c t r j,
    show iblk m c 5 t (ix2 r j) = ma m c (row t r) j from blk_ma m c t r j]
  rfl

theorem h_point (t : Fin cfg0.N) (r : Fin 256) (j : Fin 1024) :
    hBlk (iblk m c 0 t) (iblk m c 1 t) (iblk m c 2 t) (iblk m c 3 t) (iblk m c 4 t) (iblk m c 5 t) (iblk m c 6 t) (iblk m c 7 t) (iblk m c 8 t)
      (iblk m c 9 t) (ix2 r j) = hAt m c (row t r) j := by
  refine (hBlk_at _ _ _ _ _ _ _ _ _ _ r j).trans (congrArg₂ (· + ·) (blk_hin m c t r j) ?_)
  exact Finset.sum_congr rfl fun k _ => congrArg₂ (· * ·) (y_point m c t r k) (blk_wo m c t k j)

/-- The two blocks a point stores, over the blocks it reads. -/
theorem out_h (x0 : Vec Ideal S256x1024 .f32) (x1 x2 x3 x4 x5 x6 : Vec Ideal S256x1024 .bf16) (x7 : Vec Ideal S1x256 .f32) (x8 : Vec Ideal S1x128 .f32)
    (x9 : Vec Ideal S1024x1024 .bf16) : out0_10 x0 x1 x2 x3 x4 x5 x6 x7 x8 x9 = hBlk x0 x1 x2 x3 x4 x5 x6 x7 x8 x9 := by
  unfold_out out0_10
  simp (disch := decide) only [r0_0, r0_1, r0_2, r0_3, View.canon_cons_unit_lit', View.ld_unit_lit']
  unfold hBlk hna mixb
  rfl

theorem out_y (x0 : Vec Ideal S256x1024 .f32) (x1 x2 x3 x4 x5 x6 : Vec Ideal S256x1024 .bf16) (x7 : Vec Ideal S1x256 .f32) (x8 : Vec Ideal S1x128 .f32)
    (x9 : Vec Ideal S1024x1024 .bf16) : out0_11 x0 x1 x2 x3 x4 x5 x6 x7 x8 x9 = yBlk x1 x2 x3 x4 x5 x6 x7 x8 := by
  unfold_out out0_11
  simp (disch := decide) only [r0_0, r0_1, r0_2, r0_3, View.canon_cons_unit_lit', View.ld_unit_lit']
  unfold yBlk hna mixb
  rfl

theorem oidx : ∀ t : Fin cfg0.N, win0_10.index t = ![t.val, 0] ∧ win0_11.index t = ![t.val, 0] :=
  (by decide +kernel : ∀ t : Fin grid0.N, _)

theorem final_h : (dats m 0 c).arrAt 10 cfg0.N = fun i => hAt m c (i 0) (i 1) := by
  refine (dats m 0 c).arrAt_eq_of_covers 10 _ (by decide +kernel) fun t hf y => ?_
  rw [after0_10]
  have e0 : row t (y 0) = ((cfg0.win 10).blk t).view.emb y 0 := by
    refine Fin.ext ?_
    unfold row
    blk_simp [oidx t]
  have e1 : (y 1 : Fin 1024) = ((cfg0.win 10).blk t).view.emb y 1 := by
    refine Fin.ext ?_
    blk_simp [oidx t]
  rw [← e0, ← e1]
  refine Eq.trans ?_ (h_point m c t (y 0) (y 1))
  rw [out_h]
  generalize hBlk _ _ _ _ _ _ _ _ _ _ = B
  blk_simp
  exact congrArg B (pair y)

theorem final_y : (dats m 0 c).arrAt 11 cfg0.N = fun i => yAt m c (i 0) (i 1) := by
  refine (dats m 0 c).arrAt_eq_of_covers 11 _ (by decide +kernel) fun t hf y => ?_
  rw [after0_11]
  have e0 : row t (y 0) = ((cfg0.win 11).blk t).view.emb y 0 := by
    refine Fin.ext ?_
    unfold row
    blk_simp [oidx t]
  have e1 : (y 1 : Fin 1024) = ((cfg0.win 11).blk t).view.emb y 1 := by
    refine Fin.ext ?_
    blk_simp [oidx t]
  rw [← e0, ← e1]
  refine Eq.trans ?_ (y_point m c t (y 0) (y 1))
  rw [out_y]
  generalize yBlk _ _ _ _ _ _ _ _ = B
  blk_simp
  exact congrArg B (pair y)

end Cert.MergeFwdProof
-- ==== Proof.MergeFwd.Ref.lean ====
/- The reference's run and its two results, read at an entry in the program's own arguments. -/
module

public import proofs.«01_k».proof.Proof.Gen.MergeFwdRefIdeal.Run
public import proofs.«01_k».proof.Proof.Merge.RefGroup
public import proofs.«01_k».proof.Proof.Merge.Final

@[expose] public section

set_option maxRecDepth 16384

noncomputable section

namespace Cert.MergeFwdProof.Ref

open Idealize.ShloMosaic Idealize.ShloMosaic.TcCoe Idealize.SL.Sem Cert.MergeFwdRefIdeal Cert.MergeFwdRefIdeal.Gen Cert.MergeFwdRefIdeal.Value
open Cert.MergeProof (NA NB ca cb ha xa hb xb ca_split cb_split)
open Cert.MergeProof.Ref (sgArr sgArr_at hwa hwa_at hwb hwb_at outArr outArr_at)

variable (m : (ℓ : Loc nD τ sig) → Buf (Elt Ideal) ℓ) (c : Dev nD)

def hin (r : Fin 8192) (j : Fin 1024) : EReal := m ((c : Thread nD τ).loc main_arg0) (ix3 0 r j)
def pr (r : Fin 8192) (k : Fin 9248) : EReal := m ((c : Thread nD τ).loc main_arg1) (ix3 0 r k)
def oa (r : Fin 8192) (j : Fin 1024) : EReal := m ((c : Thread nD τ).loc main_arg2) (ix3 0 r j)
def ob (r : Fin 8192) (j : Fin 1024) : EReal := m ((c : Thread nD τ).loc main_arg3) (ix3 0 r j)
def wa (j : Fin 256) : EReal := m ((c : Thread nD τ).loc main_arg4) (ix2 0 j)
def wb (j : Fin 128) : EReal := m ((c : Thread nD τ).loc main_arg5) (ix2 0 j)
def wo (j k : Fin 1024) : EReal := m ((c : Thread nD τ).loc main_arg6) (ix2 j k)

/-- A gate's values: the columns of the projection from `k` on. -/
def cols (k : ℕ) (h : S1x8192x9248.Slices ![0, 0, k] S1x8192x1024) : Vec Ideal S1x8192x1024 .f32 :=
  extractStridedSlice S1x8192x1024 ![0, 0, k] (m ((c.tc : Thread nD τ).loc main_arg1)) h

/-- One branch: the normed heads times their gate, mixed. -/
def branch (g q n : Vec Ideal S1x8192x1024 .f32) : Vec Ideal S1x8192x1024 .f32 :=
  mulf (F := Ideal) (φ := .f32) (sgArr q) (mulf (F := Ideal) (φ := .f32) n (mulf (F := Ideal) (φ := .f32) g (sgArr g)))

theorem branch_at (g q n : Vec Ideal S1x8192x1024 .f32) (r : Fin 8192) (j : Fin 1024) : branch g q n (ix3 0 r j)
    = Silu.sg (q (ix3 0 r j)) * (n (ix3 0 r j) * (g (ix3 0 r j) * Silu.sg (g (ix3 0 r j)))) := by
  unfold branch
  pointwise
  rw [sgArr_at, sgArr_at]

/-- A residual stream with a product added. -/
def resid (h y : Vec Ideal S1x8192x1024 .f32) (w : Vec Ideal S1024x1024 .f32) : Vec Ideal S8192x1024 .f32 :=
  shapeCast S8192x1024 (addf (F := Ideal) (φ := .f32) h
    (Host.dotGeneral (F := Ideal) (φ₁ := .f32) (φ₂ := .f32) dot_S1x8192x1024_S1024x1024_S1x8192x1024_2_0_01_1_n_n none y w))
    shapeCasts_S1x8192x1024_S8192x1024

theorem resid_at (h y : Vec Ideal S1x8192x1024 .f32) (w : Vec Ideal S1024x1024 .f32) (r : Fin 8192) (j : Fin 1024) :
    resid h y w (ix2 r j) = h (ix3 0 r j) + ∑ k : Fin 1024, y (ix3 0 r k) * w (ix2 k j) := by
  unfold resid
  pointwise

/-- The merged heads, and the residual stream after them. -/
def yArr : Vec Ideal S1x8192x1024 .f32 :=
  addf (F := Ideal) (φ := .f32)
    (branch (cols m c 2048 slices_S1x8192x9248_S1x8192x1024_0_0_2048) (cols m c 7200 slices_S1x8192x9248_S1x8192x1024_0_0_7200)
      (hwa (m ((c.tc : Thread nD τ).loc main_arg2)) (m ((c.tc : Thread nD τ).loc main_arg4))))
    (branch (cols m c 6160 slices_S1x8192x9248_S1x8192x1024_0_0_6160) (cols m c 8224 slices_S1x8192x9248_S1x8192x1024_0_0_8224)
      (hwb (m ((c.tc : Thread nD τ).loc main_arg3)) (m ((c.tc : Thread nD τ).loc main_arg5))))
def hTerm : Buf (Elt Ideal) ((c.tc : Thread nD τ).loc main_v66) :=
  resid (m ((c.tc : Thread nD τ).loc main_arg0)) (yArr m c) (m ((c.tc : Thread nD τ).loc main_arg6))
def yTerm : Buf (Elt Ideal) ((c.tc : Thread nD τ).loc main_v68) := outArr (yArr m c)

/-- The merged heads at an entry. -/
def yAt (r : Fin 8192) (j : Fin 1024) : EReal :=
  Silu.sg (pr m c r ⟨7200 + j.val, by omega⟩) * (oa m c r j * HeadNorm.rs NA (fun l => oa m c r (ca (ha j) l)) * wa m c (xa j)
      * (pr m c r ⟨2048 + j.val, by omega⟩ * Silu.sg (pr m c r ⟨2048 + j.val, by omega⟩)))
    + Silu.sg (pr m c r ⟨8224 + j.val, by omega⟩) * (ob m c r j * HeadNorm.rs NB (fun l => ob m c r (cb (hb j) l)) * wb m c (xb j)
      * (pr m c r ⟨6160 + j.val, by omega⟩ * Silu.sg (pr m c r ⟨6160 + j.val, by omega⟩)))

theorem cols_at (k : ℕ) (h) (hk : k + 1024 ≤ 9248) (r : Fin 8192) (j : Fin 1024) :
    cols m c k h (ix3 0 r j) = pr m c r ⟨k + j.val, by omega⟩ := by
  unfold cols pr
  pointwise

theorem yArr_at (r : Fin 8192) (j : Fin 1024) : yArr m c (ix3 0 r j) = yAt m c r j := by
  have a := hwa_at (m ((c.tc : Thread nD τ).loc main_arg2)) (m ((c.tc : Thread nD τ).loc main_arg4)) r (ha j) (xa j)
  have b := hwb_at (m ((c.tc : Thread nD τ).loc main_arg3)) (m ((c.tc : Thread nD τ).loc main_arg5)) r (hb j) (xb j)
  rw [ca_split] at a
  rw [cb_split] at b
  unfold yArr
  refine (congrArg₂ (· + ·) (branch_at _ _ _ r j) (branch_at _ _ _ r j)).trans ?_
  rw [a, b, cols_at m c 2048 _ (by omega), cols_at m c 6160 _ (by omega), cols_at m c 7200 _ (by omega),
    cols_at m c 8224 _ (by omega)]
  rfl

theorem hTerm_at (r : Fin 8192) (j : Fin 1024) : hTerm m c (ix2 r j) = hin m c r j + ∑ k, yAt m c r k * wo m c k j := by
  refine (resid_at _ _ _ r j).trans (congrArg (hin m c r j + ·) (Finset.sum_congr rfl fun k _ => ?_))
  exact congrArg (· * wo m c k j) (yArr_at m c r k)

theorem yTerm_at (r : Fin 8192) (j : Fin 1024) : yTerm m c (ix2 r j) = yAt m c r j :=
  (outArr_at _ r j).trans (yArr_at m c r j)

/-- The reference's run. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v66) = hTerm m c
      ∧ r.2.mem ((c.tc : Thread nD τ).loc main_v68) = yTerm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := Value.run m ρ

end Cert.MergeFwdProof.Ref
-- ==== Proof.MergeFwd.Claim.lean ====
/- The claim: the merge and its reference leave equal arrays. -/
module

public import proofs.«01_k».proof.Proof.MergeFwd.Final
public import proofs.«01_k».proof.Proof.MergeFwd.Ref
public import proofs.«01_k».proof.Defs

@[expose] public section

set_option maxRecDepth 16384

noncomputable section

namespace Cert.MergeFwdProof

open Idealize.ShloMosaic Idealize.ShloMosaic.TcCoe Idealize.SL.Sem
open Cert.MergeProof (pair)

variable (m : (ℓ : Loc Cert.MergeFwdIdeal.nD Cert.MergeFwdIdeal.τ Cert.MergeFwdIdeal.sig) → Buf (Elt Ideal) ℓ)
  (m' : (ℓ : Loc Cert.MergeFwdRefIdeal.nD Cert.MergeFwdRefIdeal.τ Cert.MergeFwdRefIdeal.sig) → Buf (Elt Ideal) ℓ) (c : Dev Cert.MergeFwdIdeal.nD)

/-- The two programs' arguments agree. -/
def Same : Prop :=
  Ref.hin m' c = hin m c ∧ Ref.pr m' c = pr m c ∧ Ref.oa m' c = oa m c ∧ Ref.ob m' c = ob m c ∧ Ref.wa m' c = wa m c ∧ Ref.wb m' c = wb m c
    ∧ Ref.wo m' c = wo m c

theorem yAt_eq (hs : Same m m' c) (r : Fin 8192) (j : Fin 1024) : Ref.yAt m' c r j = yAt m c r j := by
  obtain ⟨h0, h1, h2, h3, h4, h5, h6⟩ := hs
  unfold Ref.yAt yAt nwa nwb
  rw [h1, h2, h3, h4, h5]
  rw [← mul_assoc (Silu.sg _), ← mul_assoc (Silu.sg _) (_ * wb m c _)]
  rfl

theorem y_eq (hs : Same m m' c) : Ref.yTerm m' c = (Cert.MergeFwdIdeal.Gen.dats m 0 c).arrAt 11 Cert.MergeFwdIdeal.cfg0.N := by
  refine Eq.trans ?_ (final_y m c).symm
  funext i
  exact (congrArg (Ref.yTerm m' c) (pair i)).trans ((Ref.yTerm_at m' c _ _).trans (yAt_eq m m' c hs _ _))

theorem h_eq (hs : Same m m' c) : Ref.hTerm m' c = (Cert.MergeFwdIdeal.Gen.dats m 0 c).arrAt 10 Cert.MergeFwdIdeal.cfg0.N := by
  refine Eq.trans ?_ (final_h m c).symm
  funext i
  refine (congrArg (Ref.hTerm m' c) (pair i)).trans ((Ref.hTerm_at m' c _ _).trans ?_)
  refine congrArg₂ (· + ·) (congrFun (congrFun hs.1 (i 0)) (i 1)) (Finset.sum_congr rfl fun k _ => ?_)
  exact congrArg₂ (· * ·) (yAt_eq m m' c hs (i 0) k) (congrFun (congrFun hs.2.2.2.2.2.2 k) (i 1))

theorem algebraic : Cert.algebraic_MergeFwdIdeal_MergeFwdRefIdeal := by
  intro m g m' g' _ hagree
  have hs : ∀ c, Same m m' c := fun c => by
    obtain ⟨h0, h1, h2, h3, h4, h5, h6⟩ := hagree c
    exact ⟨funext fun r => funext fun k => congrFun h0 _, funext fun r => funext fun j => congrFun h1 _,
      funext fun r => funext fun j => congrFun h2 _, funext fun r => funext fun j => congrFun h3 _, funext fun j => congrFun h4 _,
      funext fun j => congrFun h5 _, funext fun j => funext fun k => congrFun h6 _⟩
  refine ⟨fun c => (Cert.MergeFwdIdeal.Gen.dats m 0 c).arrAt 10 Cert.MergeFwdIdeal.cfg0.N,
    fun c => (Cert.MergeFwdIdeal.Gen.dats m 0 c).arrAt 11 Cert.MergeFwdIdeal.cfg0.N, Cert.MergeFwdIdeal.Value.run_blocks m g, ?_⟩
  refine (θ_run Cert.MergeFwdRefIdeal.defs _ _).mono (fun r h c => ?_) (Ref.run m' g')
  obtain ⟨h0, h1, hk⟩ := h c
  exact ⟨h0.trans (h_eq m m' c (hs c)), h1.trans (y_eq m m' c (hs c)), hk⟩

end Cert.MergeFwdProof
-- ==== Proof.ConvFwd.Pay.lean ====
/- One grid point of the convolution's forward kernel: what its stored values are, entry by entry. -/
module

public import proofs.«01_k».proof.Proof.Gen.ConvFwdIdeal.Skeleton
public import Idealize.ShloMosaic.Lib.Pointwise
public import Idealize.ShloMosaic.Lib.ValueIdx

@[expose] public section

set_option maxRecDepth 16384

noncomputable section

namespace Cert.ConvFwdProof

open Idealize.ShloMosaic Cert.ConvFwdIdeal Cert.ConvFwdIdeal.Gen

/-- Row `r - s` of a block of 256 rows continued above by the last rows `prev` of the block before it. -/
def above (x : Vec Ideal S256x3072 .bf16) (prev : Vec Ideal S8x3072 .f32) (s : ℕ) (r : Fin 256) (j : Fin 3072) : EReal :=
  if s ≤ r.val then x (ix2 ⟨r.val - s, by omega⟩ j) else prev (ix2 ⟨(r.val + 8 - s) % 8, Nat.mod_lt _ (by decide)⟩ j)

theorem pay2_at (x : Vec Ideal S256x3072 .bf16) (k : Fin 8) (j : Fin 3072) :
    k0_pay2 (F := Ideal) (k0_pay4 (F := Ideal) x) (ix2 k j) = x (ix2 ⟨248 + k.val, by omega⟩ j) := by
  pointwise [k0_pay2, k0_pay4]

theorem pay3_at (k : Fin 8) (j : Fin 3072) : k0_pay3 (F := Ideal) (ix2 k j) = 0 := by
  pointwise [k0_pay3]

/-- A selection by the comparison of two small words is the comparison of their values. -/
theorem select_slt (n c : ℕ) (hn : n < 8) (hc : c < 8) (x y : EReal) :
    Scalar.select (IntOp.cmpi CmpIPredicate.slt (BitVec.ofNat 32 n) (BitVec.ofNat 32 c)) x y = if n < c then x else y := by
  have h : ∀ a b : Fin 8, IntOp.cmpi CmpIPredicate.slt (BitVec.ofNat 32 a.val) (BitVec.ofNat 32 b.val) = if a < b then 1#1 else 0#1 := by
    decide
  have e := h ⟨n, hn⟩ ⟨c, hc⟩
  dsimp only at e
  rw [e]
  by_cases hle : n < c
  · rw [if_pos hle, if_pos (show (⟨n, hn⟩ : Fin 8) < ⟨c, hc⟩ from hle)]; rfl
  · rw [if_neg hle, if_neg (show ¬ (⟨n, hn⟩ : Fin 8) < ⟨c, hc⟩ from hle)]; rfl

/-- The rotation of a block downward by `s` rows, its first rows taken from the block before it. -/
theorem shift_at (x : Vec Ideal S256x3072 .bf16) (prev : Vec Ideal S8x3072 .f32) (s : ℕ) (hs : 0 < s ∧ s < 4) (r : Fin 256) (j : Fin 3072)
    (w : BitVec 32) (hw : w = BitVec.ofNat 32 s) (i1 : r.val < 8 → Fin 256) (i2 : r.val < 8 → Fin 8) (i3 : ¬ r.val < 8 → Fin 256)
    (h1 : ∀ h, s ≤ r.val → (i1 h).val = r.val - s) (h2 : ∀ h, r.val < s → (i2 h).val = r.val + 8 - s) (h3 : ∀ h, (i3 h).val = r.val - s) :
    (if h : r.val < 8 then Scalar.select (IntOp.cmpi CmpIPredicate.slt (BitVec.ofNat 32 r.val) w) (prev (ix2 (i2 h) j)) (x (ix2 (i1 h) j))
      else x (ix2 (i3 h) j) : EReal) = above x prev s r j := by
  unfold above
  by_cases h : r.val < 8
  · rw [dif_pos h, hw, select_slt _ _ h (by omega)]
    by_cases hc : r.val < s
    · rw [if_pos hc, if_neg (by omega)]
      exact congrArg prev (congrArg (ix2 · j) (Fin.ext ((h2 h hc).trans (by show _ = (_ : ℕ) % 8; omega))))
    · rw [if_neg hc, if_pos (by omega)]
      exact congrArg x (congrArg (ix2 · j) (Fin.ext (h1 h (by omega))))
  · rw [dif_neg h, if_pos (by omega)]
    exact congrArg x (congrArg (ix2 · j) (Fin.ext (h3 h)))

/-- What a point stores: each row of its block and the three above it, each times its weight. -/
theorem out_at (x : Vec Ideal S256x3072 .bf16) (prev : Vec Ideal S8x3072 .f32) (w0 w1 w2 w3 : Vec Ideal S1x3072 .f32) (r : Fin 256) (j : Fin 3072) :
    k0_pay1 (F := Ideal) prev (iota .tc S8x3072 32 [0] iota_S8x3072_d0_w32) (k0_pay5 (F := Ideal) x prev w3 w2 w1) (k0_pay6 (F := Ideal) x) w0 (ix2 r j)
      = above x prev 0 r j * w3 (ix2 0 j) + above x prev 1 r j * w2 (ix2 0 j) + above x prev 2 r j * w1 (ix2 0 j) + above x prev 3 r j * w0 (ix2 0 j) := by
  pointwise [k0_pay1, k0_pay5, k0_pay6, k0_pay4]
  refine congrArg₂ (· + ·) (congrArg₂ (· + ·) (congrArg₂ (· + ·) ?_ ?_) ?_) ?_
  · exact congrArg (· * w3 (ix2 0 j)) (if_pos (Nat.zero_le _)).symm
  · refine congrArg (· * w2 (ix2 0 j)) (shift_at x prev 1 (by decide) r j 1#32 rfl _ _ _ ?_ ?_ ?_) <;> intros <;> dsimp only <;> omega
  · refine congrArg (· * w1 (ix2 0 j)) (shift_at x prev 2 (by decide) r j 2#32 rfl _ _ _ ?_ ?_ ?_) <;> intros <;> dsimp only <;> omega
  · refine congrArg (· * w0 (ix2 0 j)) (shift_at x prev 3 (by decide) r j 3#32 rfl _ _ _ ?_ ?_ ?_) <;> intros <;> dsimp only <;> omega

end Cert.ConvFwdProof
-- ==== Proof.ConvFwd.Entry.lean ====
/- The arrays the convolution's forward kernel is launched over, entry by entry in the program's own arguments, and the block each point sees of them. -/
module

public import proofs.«01_k».proof.Proof.Gen.ConvFwdIdeal.Value
public import Idealize.ShloMosaic.Lib.Pipeline.ValueKit
public import Idealize.ShloMosaic.Lib.StableHlo.ReadAt
public import Idealize.ShloMosaic.Lib.Pointwise
public import proofs.«01_k».proof.Proof.Lib.RowsSet

@[expose] public section

set_option maxRecDepth 16384

noncomputable section

namespace Cert.ConvFwdProof

open Idealize.ShloMosaic Idealize.ShloMosaic.TcCoe Idealize.SL.Sem Cert.ConvFwdIdeal Cert.ConvFwdIdeal.Gen

variable (m : (ℓ : Loc nD τ sig) → Buf (Elt Ideal) ℓ) (c : Dev nD)

/-- The convolution's input: 3072 columns of the projection. -/
def inp (r : Fin 8192) (j : Fin 3072) : EReal := m ((c : Thread nD τ).loc main_arg0) (ix3 0 r ⟨3088 + j.val, by omega⟩)

/-- The convolution's weights. -/
def wt (k : Fin 4) (j : Fin 3072) : EReal := m ((c : Thread nD τ).loc main_arg1) (ix2 k j)

theorem entry_x (r : Fin 8192) (l : Fin 3072) : V m c main_v12 (ix2 r ⟨3072 + l.val, by omega⟩) = inp m c r l := by
  unfold V inp
  after_reads_at
  rw [dif_pos (by omega)]
  after_reads_at

theorem entry_w (k : Fin 8) (l : Fin 3072) : V m c main_v11 (ix2 k l) = if h : k.val < 4 then wt m c ⟨k.val, h⟩ l else 0 := by
  unfold V wt
  after_reads_at
  refine (Cert.RowsSet.read _ rfl rfl rfl _ _ rfl _ k l).trans ?_
  pointwise
  by_cases h : k.val < 4
  · rw [dif_pos h, dif_pos h]; rfl
  · rw [dif_neg h, dif_neg h]

theorem idx : ∀ t : Fin cfg0.N, win0_0.index t = ![t.val, 1] ∧ win0_1.index t = ![0, 0] ∧ win0_2.index t = ![t.val, 0] :=
  (by decide +kernel : ∀ t : Fin grid0.N, _)

/-- Row `r` of the block of point `t`, as a row of the arrays. -/
def row (t : Fin cfg0.N) (r : Fin 256) : Fin 8192 :=
  ⟨t.val * 256 + r.val, by have := lt_of_lt_of_eq t.isLt (show cfg0.N = 32 from N_0); omega⟩

theorem blk_x (t : Fin cfg0.N) (r : Fin 256) (l : Fin 3072) : iblk m c 0 t (ix2 r l) = inp m c (row t r) l := by
  refine Eq.trans ?_ (entry_x m c (row t r) l)
  unfold row
  blk_ext [iblk, idx t]

theorem blk_w (t : Fin cfg0.N) (k : Fin 8) (l : Fin 3072) : iblk m c 1 t (ix2 k l) = if h : k.val < 4 then wt m c ⟨k.val, h⟩ l else 0 := by
  refine Eq.trans ?_ (entry_w m c k l)
  blk_ext [iblk, idx t]

end Cert.ConvFwdProof
-- ==== Proof.ConvFwd.Final.lean ====
/- What every point of the convolution's forward kernel leaves in its output and in the rows it carries to the next point, and the whole output. -/
module

public import proofs.«01_k».proof.Proof.ConvFwd.Pay
public import proofs.«01_k».proof.Proof.ConvFwd.Entry
public import Idealize.ShloMosaic.Lib.Pipeline.ReadBack

@[expose] public section

set_option maxRecDepth 16384

noncomputable section

namespace Cert.ConvFwdProof

open Idealize.ShloMosaic Idealize.ShloMosaic.TcCoe Idealize.SL.Sem Cert.ConvFwdIdeal Cert.ConvFwdIdeal.Gen

variable (m : (ℓ : Loc nD τ sig) → Buf (Elt Ideal) ℓ) (c : Dev nD)

/-- The convolution's input below eight rows of zeros. -/
def inz (n : ℕ) (j : Fin 3072) : EReal := if h : 8 ≤ n ∧ n - 8 < 8192 then inp m c ⟨n - 8, h.2⟩ j else 0

/-- The row of the weights that a load of the row `k` reads. -/
theorem ld_w (t : Fin cfg0.N) (k : ℕ) (hk : k < 4) (inb : ∀ a, (![k, 0] : Fin 2 → ℕ) a + (![1, 3072] : Fin 2 → ℕ) a ≤ S8x3072.size a) (j : Fin 3072) :
    View.ld (iblk m c 1 t) (Rect.unit (s := S8x3072) ![k, 0] ![1, 3072] inb) (ix2 0 j) = wt m c ⟨k, hk⟩ j := by
  refine Eq.trans (congrArg (iblk m c 1 t) (?_ : _ = ix2 ⟨k, by omega⟩ j)) ((blk_w m c t _ j).trans (dif_pos hk))
  funext a
  match a with
  | ⟨0, _⟩ => exact Fin.ext (by show k + 1 * 0 = k; omega)
  | ⟨1, _⟩ => exact Fin.ext (by show 0 + 1 * j.val = j.val; omega)

/-- Every point leaves its last eight rows for the next one. -/
theorem kept_at (t : Fin cfg0.N) (k : Fin 8) (j : Fin 3072) :
    (outsAt0 m c t.val t.isLt).2 (ix2 k j) = inp m c (row t ⟨248 + k.val, by omega⟩) j := by
  by_cases h : t.val % 32 = 0
  · rw [outsAt0_A m c t h]
    dsimp only
    frame_out
    exact (pay2_at _ k j).trans (blk_x m c t _ j)
  · rw [outsAt0_B m c t h]
    dsimp only
    frame_out
    exact (pay2_at _ k j).trans (blk_x m c t _ j)

/-- The rows a point is handed from the one before: the last rows of the block above its own. -/
def carried (t : Fin cfg0.N) (prev : Vec Ideal S8x3072 .f32) : Prop :=
  ∀ (k : Fin 8) (j : Fin 3072), prev (ix2 k j) = inz m c (t.val * 256 + k.val) j

theorem carried_first (t : Fin cfg0.N) (h : t.val % 32 = 0) : carried m c t (k0_pay3 (F := Ideal)) := by
  intro k j
  have hN := lt_of_lt_of_eq t.isLt (show cfg0.N = 32 from N_0)
  rw [pay3_at]
  unfold inz
  rw [dif_neg (by omega)]

theorem carried_next (t : Fin cfg0.N) (h : ¬ t.val % 32 = 0) :
    carried m c t (outsAt0 m c (t.val - 1) (Nat.lt_of_le_of_lt (Nat.sub_le _ _) t.isLt)).2 := by
  intro k j
  have hN := lt_of_lt_of_eq t.isLt (show cfg0.N = 32 from N_0)
  refine (kept_at m c ⟨t.val - 1, Nat.lt_of_le_of_lt (Nat.sub_le _ _) t.isLt⟩ k j).trans ?_
  unfold inz row
  rw [dif_pos (by omega)]
  refine congrArg (inp m c · j) (Fin.ext ?_)
  dsimp only
  omega

theorem above_at (t : Fin cfg0.N) (prev : Vec Ideal S8x3072 .f32) (h : carried m c t prev) (s : ℕ) (hs : s < 4) (r : Fin 256) (j : Fin 3072) :
    above (iblk m c 0 t) prev s r j = inz m c ((row t r).val + 8 - s) j := by
  have hN := lt_of_lt_of_eq t.isLt (show cfg0.N = 32 from N_0)
  unfold above
  by_cases hr : s ≤ r.val
  · rw [if_pos hr]
    refine (blk_x m c t _ j).trans ?_
    unfold inz row
    rw [dif_pos (by dsimp only; omega)]
    refine congrArg (inp m c · j) (Fin.ext ?_)
    dsimp only
    omega
  · rw [if_neg hr, h]
    refine congrArg (inz m c · j) ?_
    unfold row
    dsimp only
    omega

/-- The convolution at a row: that row and the three above it, each times its weight. -/
def convAt (n : ℕ) (j : Fin 3072) : EReal :=
  inz m c (n + 8) j * wt m c 3 j + inz m c (n + 7) j * wt m c 2 j + inz m c (n + 6) j * wt m c 1 j + inz m c (n + 5) j * wt m c 0 j

theorem point (t : Fin cfg0.N) (prev : Vec Ideal S8x3072 .f32) (h : carried m c t prev) (r : Fin 256) (j : Fin 3072) :
    k0_pay1 (F := Ideal) prev (iota .tc S8x3072 32 [0] iota_S8x3072_d0_w32)
      (k0_pay5 (F := Ideal) (iblk m c 0 t) prev (View.ld (iblk m c 1 t) (Rect.unit ![3, 0] ![1, 3072] inb_S8x3072_S1x3072_3_0))
        (View.ld (iblk m c 1 t) (Rect.unit ![2, 0] ![1, 3072] inb_S8x3072_S1x3072_2_0))
        (View.ld (iblk m c 1 t) (Rect.unit ![1, 0] ![1, 3072] inb_S8x3072_S1x3072_1_0)))
      (k0_pay6 (F := Ideal) (iblk m c 0 t)) (View.ld (iblk m c 1 t) (Rect.unit ![0, 0] ![1, 3072] inb_S8x3072_S1x3072_0_0)) (ix2 r j)
      = convAt m c (row t r).val j := by
  refine (out_at _ prev _ _ _ _ r j).trans ?_
  rw [above_at m c t prev h 0 (by decide), above_at m c t prev h 1 (by decide), above_at m c t prev h 2 (by decide), above_at m c t prev h 3 (by decide)]
  rw [ld_w m c t 0 (by decide), ld_w m c t 1 (by decide), ld_w m c t 2 (by decide), ld_w m c t 3 (by decide)]
  rfl

theorem out_conv (t : Fin cfg0.N) (r : Fin 256) (j : Fin 3072) :
    (outsAt0 m c t.val t.isLt).1 (ix2 r j) = convAt m c (row t r).val j := by
  by_cases h : t.val % 32 = 0
  · rw [outsAt0_A m c t h]
    dsimp only
    frame_out
    exact point m c t _ (carried_first m c t h) r j
  · rw [outsAt0_B m c t h]
    dsimp only
    frame_out
    rw [read_unread_whole]
    exact point m c t _ (carried_next m c t h) r j

theorem final : (dats m 0 c).arrAt 2 cfg0.N = fun i => convAt m c (i 0).val (i 1) := by
  refine (dats m 0 c).arrAt_eq_of_covers 2 _ (by decide +kernel) fun t hf y => ?_
  rw [after0_2]
  blk_simp
  have hy : y = ix2 (y 0) (y 1) := by
    funext a
    match a with
    | ⟨0, _⟩ => rfl
    | ⟨1, _⟩ => rfl
  refine (congrArg (outsAt0 m c t.val t.isLt).1 hy).trans ((out_conv m c t (y 0) (y 1)).trans ?_)
  refine congrArg₂ (convAt m c) ?_ ?_
  · rw [(idx t).2.2]; rfl
  · refine Fin.ext ?_
    blk_simp [idx t]

end Cert.ConvFwdProof
-- ==== Proof.ConvFwd.Ref.lean ====
/- The reference's convolution read at an entry. -/
module

public import proofs.«01_k».proof.Proof.Gen.ConvFwdRefIdeal.Run
public import Idealize.ShloMosaic.Lib.Pointwise
public import Idealize.ShloMosaic.Lib.ValueIdx

@[expose] public section

set_option maxRecDepth 16384

noncomputable section

namespace Cert.ConvFwdProof.Ref

open Idealize.ShloMosaic Idealize.ShloMosaic.TcCoe Idealize.SL.Sem Cert.ConvFwdRefIdeal Cert.ConvFwdRefIdeal.Gen Cert.ConvFwdRefIdeal.Value

/-- Three blocks of the projection's columns, side by side. -/
def cols (p : Vec Ideal S1x8192x9248 .f32) : Vec Ideal S1x8192x3072 .f32 :=
  concatenate S1x8192x3072 2 [⟨S1x8192x1024, extractStridedSlice S1x8192x1024 ![0, 0, 3088] p slices_S1x8192x9248_S1x8192x1024_0_0_3088⟩,
    ⟨S1x8192x1024, extractStridedSlice S1x8192x1024 ![0, 0, 4112] p slices_S1x8192x9248_S1x8192x1024_0_0_4112⟩,
    ⟨S1x8192x1024, extractStridedSlice S1x8192x1024 ![0, 0, 5136] p slices_S1x8192x9248_S1x8192x1024_0_0_5136⟩]
    concatenates_S1x8192x1024_S1x8192x1024_S1x8192x1024_S1x8192x3072_d2

theorem cols_at (p : Vec Ideal S1x8192x9248 .f32) (n : Fin 8192) (j : Fin 3072) : cols p (ix3 0 n j) = p (ix3 0 n ⟨3088 + j.val, by omega⟩) := by
  unfold cols
  pointwise
  by_cases h1 : j.val < 1024
  · rw [dif_pos h1]
  · rw [dif_neg h1]
    by_cases h2 : j.val - 1024 < 1024
    · rw [dif_pos h2]
      refine congrArg (fun x => p (ix3 0 n x)) (Fin.ext ?_)
      show 4112 + (j.val - 1024) = 3088 + j.val
      omega
    · rw [dif_neg h2]
      refine congrArg (fun x => p (ix3 0 n x)) (Fin.ext ?_)
      show 5136 + (j.val - 1024 - 1024) = 3088 + j.val
      omega

/-- The columns below three rows of zeros. -/
def padded (q : Vec Ideal S1x8192x3072 .f32) : Vec Ideal S1x8195x3072 .f32 :=
  concatenate S1x8195x3072 1 [⟨S1x3x3072, broadcastInDim S1x3x3072 ![] bcast_S_S1x3x3072 (constant (F := Ideal) S_ .f32 0x00000000#32)⟩, ⟨S1x8192x3072, q⟩]
    concatenates_S1x3x3072_S1x8192x3072_S1x8195x3072_d1

theorem padded_at (q : Vec Ideal S1x8192x3072 .f32) (n : Fin 8195) (j : Fin 3072) :
    padded q (ix3 0 n j) = if h : n.val < 3 then 0 else q (ix3 0 ⟨n.val - 3, by omega⟩ j) := by
  unfold padded
  pointwise

/-- One row of the weights, repeated over the rows of a sequence. -/
def rowOf (o : Fin 2 → ℕ) (w : Vec Ideal S4x3072 .f32) (h : S4x3072.Slices o S1x3072) : Vec Ideal S1x8192x3072 .f32 :=
  broadcastInDim S1x8192x3072 ![0, 1, 2] bcast_S1x1x3072_S1x8192x3072_0_1_2 (broadcastInDim S1x1x3072 ![1, 2] bcast_S1x3072_S1x1x3072_1_2
    (extractStridedSlice S1x3072 o w h))

/-- The sum of the four shifted products. -/
def conv (x : Vec Ideal S1x8195x3072 .f32) (w : Vec Ideal S4x3072 .f32) : Vec Ideal S8192x3072 .bf16 :=
  truncf (F := Ideal) .bf16 (shapeCast S8192x3072 (addf (F := Ideal) (φ := .f32) (addf (F := Ideal) (φ := .f32) (addf (F := Ideal) (φ := .f32) (addf (F := Ideal) (φ := .f32)
    (broadcastInDim S1x8192x3072 ![] bcast_S_S1x8192x3072 (constant (F := Ideal) S_ .f32 0x00000000#32))
    (mulf (F := Ideal) (φ := .f32) (extractStridedSlice S1x8192x3072 ![0, 0, 0] x slices_S1x8195x3072_S1x8192x3072_0_0_0) (rowOf ![0, 0] w slices_S4x3072_S1x3072_0_0)))
    (mulf (F := Ideal) (φ := .f32) (extractStridedSlice S1x8192x3072 ![0, 1, 0] x slices_S1x8195x3072_S1x8192x3072_0_1_0) (rowOf ![1, 0] w slices_S4x3072_S1x3072_1_0)))
    (mulf (F := Ideal) (φ := .f32) (extractStridedSlice S1x8192x3072 ![0, 2, 0] x slices_S1x8195x3072_S1x8192x3072_0_2_0) (rowOf ![2, 0] w slices_S4x3072_S1x3072_2_0)))
    (mulf (F := Ideal) (φ := .f32) (extractStridedSlice S1x8192x3072 ![0, 3, 0] x slices_S1x8195x3072_S1x8192x3072_0_3_0) (rowOf ![3, 0] w slices_S4x3072_S1x3072_3_0)))
    shapeCasts_S1x8192x3072_S8192x3072) bitsLt_bf16_f32

theorem conv_at (x : Vec Ideal S1x8195x3072 .f32) (w : Vec Ideal S4x3072 .f32) (r : Fin 8192) (j : Fin 3072) :
    conv x w (ix2 r j) = x (ix3 0 ⟨r.val, by omega⟩ j) * w (ix2 0 j) + x (ix3 0 ⟨1 + r.val, by omega⟩ j) * w (ix2 1 j)
      + x (ix3 0 ⟨2 + r.val, by omega⟩ j) * w (ix2 2 j) + x (ix3 0 ⟨3 + r.val, by omega⟩ j) * w (ix2 3 j) := by
  unfold conv rowOf
  pointwise

variable (m : (ℓ : Loc nD τ sig) → Buf (Elt Ideal) ℓ) (c : Dev nD)

/-- The reference's result. -/
def out : Vec Ideal S8192x3072 .bf16 := conv (padded (cols (m ((c.tc : Thread nD τ).loc main_arg0)))) (m ((c.tc : Thread nD τ).loc main_arg1))

theorem res_eq : res_main_v42 m c = out m c := rfl

/-- The reference's run. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v42) = out m c
      ∧ r.2.mem ((c.tc : Thread nD τ).loc main_arg0) = m ((c.tc : Thread nD τ).loc main_arg0)
      ∧ r.2.mem ((c.tc : Thread nD τ).loc main_arg1) = m ((c.tc : Thread nD τ).loc main_arg1) := Value.run m ρ

end Cert.ConvFwdProof.Ref
-- ==== Proof.ConvFwd.Claim.lean ====
/- The convolution's forward call leaves the reference's convolution. -/
module

public import proofs.«01_k».proof.Proof.ConvFwd.Final
public import proofs.«01_k».proof.Proof.ConvFwd.Ref
public import proofs.«01_k».proof.Defs
public import Idealize.ShloMosaic.Lib.Claim

@[expose] public section

set_option maxRecDepth 16384

noncomputable section

namespace Cert.ConvFwdProof

open Idealize.ShloMosaic Idealize.ShloMosaic.TcCoe Idealize.SL.Sem

section Agree

variable (m : (ℓ : Loc Cert.ConvFwdIdeal.nD Cert.ConvFwdIdeal.τ Cert.ConvFwdIdeal.sig) → Buf (Elt Ideal) ℓ)
  (m' : (ℓ : Loc Cert.ConvFwdRefIdeal.nD Cert.ConvFwdRefIdeal.τ Cert.ConvFwdRefIdeal.sig) → Buf (Elt Ideal) ℓ) (c : Dev Cert.ConvFwdIdeal.nD)
  (h0 : m' ((c.tc : Thread Cert.ConvFwdRefIdeal.nD Cert.ConvFwdRefIdeal.τ).loc Cert.ConvFwdRefIdeal.main_arg0)
      = m ((c.tc : Thread Cert.ConvFwdIdeal.nD Cert.ConvFwdIdeal.τ).loc Cert.ConvFwdIdeal.main_arg0))
  (h1 : m' ((c.tc : Thread Cert.ConvFwdRefIdeal.nD Cert.ConvFwdRefIdeal.τ).loc Cert.ConvFwdRefIdeal.main_arg1)
      = m ((c.tc : Thread Cert.ConvFwdIdeal.nD Cert.ConvFwdIdeal.τ).loc Cert.ConvFwdIdeal.main_arg1))

include h0 in
/-- The padded input's rows: three zeros in the reference, eight in the kernel's scratch. -/
theorem pad_eq (n : ℕ) (hn : n < 8195) (j : Fin 3072) :
    Ref.padded (Ref.cols (m' ((c.tc : Thread Cert.ConvFwdRefIdeal.nD Cert.ConvFwdRefIdeal.τ).loc Cert.ConvFwdRefIdeal.main_arg0))) (ix3 0 ⟨n, hn⟩ j)
      = inz m c (n + 5) j := by
  rw [Ref.padded_at]
  unfold inz
  by_cases h : n < 3
  · rw [dif_pos h, dif_neg (by omega)]
  · rw [dif_neg h, dif_pos (by omega), Ref.cols_at, h0]
    exact congrArg (inp m c · j) (Fin.ext (by show n - 3 = n + 5 - 8; omega))

include h0 h1 in
theorem pt (r : Fin 8192) (j : Fin 3072) : Ref.out m' c (ix2 r j) = convAt m c r.val j := by
  have hw : ∀ k : Fin 4, m' ((c.tc : Thread Cert.ConvFwdRefIdeal.nD Cert.ConvFwdRefIdeal.τ).loc Cert.ConvFwdRefIdeal.main_arg1) (ix2 k j) = wt m c k j :=
    fun k => congrFun h1 _
  refine (Ref.conv_at _ _ r j).trans ?_
  rw [pad_eq m m' c h0, pad_eq m m' c h0, pad_eq m m' c h0, pad_eq m m' c h0, hw 0, hw 1, hw 2, hw 3]
  unfold convAt
  rw [show 1 + r.val + 5 = r.val + 6 by omega, show 2 + r.val + 5 = r.val + 7 by omega, show 3 + r.val + 5 = r.val + 8 by omega]
  abel

include h0 h1 in
theorem out_eq : Ref.out m' c = (Cert.ConvFwdIdeal.Gen.dats m 0 c).arrAt 2 Cert.ConvFwdIdeal.cfg0.N := by
  rw [final]
  refine funext fun i => ?_
  have hi : i = ix2 (i 0) (i 1) := by
    funext a
    match a with
    | ⟨0, _⟩ => rfl
    | ⟨1, _⟩ => rfl
  exact (congrArg (Ref.out m' c) hi).trans (pt m m' c h0 h1 (i 0) (i 1))

end Agree

theorem algebraic : Cert.algebraic_ConvFwdIdeal_ConvFwdRefIdeal := by
  intro m g m' g' _ hagree
  refine ⟨fun c => (Cert.ConvFwdIdeal.Gen.dats m 0 c).arrAt 2 Cert.ConvFwdIdeal.cfg0.N, Cert.ConvFwdIdeal.Value.run_blocks m g, ?_⟩
  exact (θ_run Cert.ConvFwdRefIdeal.defs _ _).mono
    (fun r h c => ⟨(h c).1.trans (out_eq m m' c (hagree c).1 (hagree c).2), (h c).2⟩)
    (Ref.run m' g')

end Cert.ConvFwdProof
-- ==== Proof.Head.Pay.lean ====
/- One grid point of the last feed-forward and the loss: what its stored values are, entry by entry. -/
module

public import proofs.«01_k».proof.Proof.Gen.HeadIdeal.Skeleton
public import proofs.«01_k».proof.Proof.Lib.NormBack
public import proofs.«01_k».proof.Proof.Lib.Silu
public import Idealize.ShloMosaic.Lib.Pointwise
public import Idealize.ShloMosaic.Lib.ValueIdx

@[expose] public section

set_option maxRecDepth 16384

noncomputable section

namespace Cert.HeadProof

open Idealize.ShloMosaic Cert.HeadIdeal Cert.HeadIdeal.Gen

theorem pay4_at (x : Vec Ideal S512x1024 .f32) (w : Vec Ideal S1x1024 .f32) (r : Fin 512) (j : Fin 1024) :
    k0_pay4 (F := Ideal) x w (ix2 r j) = x (ix2 r j) * NormBack.rs (fun l => x (ix2 r l)) * w (ix2 0 j) := by
  pointwise [k0_pay4, k0_pay3]
  rfl

/-- The gate's or the up projection's values of a block of rows for one group of columns. -/
def prj (n : FVec Ideal S512x1024 .bf16) (w : Vec Ideal S1x1024x704 .bf16) (r : Fin 512) (x : Fin 704) : EReal :=
  ∑ l, n (ix2 r l) * w (ix3 0 l x)

theorem pay6_at (a : Vec Ideal S512x1024 .f32) (b : Vec Ideal S1x1024 .f32) (w : Vec Ideal S1x1024x704 .bf16) (r : Fin 512) (x : Fin 704) :
    k0_pay6 (F := Ideal) a b w (ix2 r x) = prj (k0_pay4 a b) w r x := by
  unfold prj
  generalize hn : k0_pay4 (F := Ideal) a b = n
  unfold k0_pay6
  rw [hn]
  pointwise

theorem pay7_at (a : Vec Ideal S512x1024 .f32) (b : Vec Ideal S1x1024 .f32) (w : Vec Ideal S1x1024x704 .bf16) (r : Fin 512) (x : Fin 704) :
    k0_pay7 (F := Ideal) a b w (ix2 r x) = prj (k0_pay4 a b) w r x := pay6_at a b w r x

theorem pay12_at (n : FVec Ideal S512x1024 .bf16) (w : Vec Ideal S1x1024x704 .bf16) (r : Fin 512) (x : Fin 704) :
    k0_pay12 (F := Ideal) n w (ix2 r x) = prj n w r x := by
  unfold prj
  pointwise [k0_pay12]

/-- What a point stores for a group of columns. -/
theorem pay14_at (n : FVec Ideal S512x1024 .bf16) (w : Vec Ideal S1x1024x704 .bf16) (r : Fin 512) (x : Fin 704) :
    k0_pay14 (F := Ideal) n w (ix3 0 r x) = prj n w r x := by
  unfold prj
  pointwise [k0_pay14, k0_pay12]

/-- One group's part of the down projection. -/
def part (n : FVec Ideal S512x1024 .bf16) (vg vu : Vec Ideal S1x1024x704 .bf16) (vd : Vec Ideal S1x704x1024 .bf16) (r : Fin 512) (j : Fin 1024) : EReal :=
  ∑ x, Silu.act (prj n vg r x) (prj n vu r x) * vd (ix3 0 x j)

theorem pay11_at (a : FVec Ideal S512x1024 .f32) (g u : FVec Ideal S512x704 .f32) (vd : Vec Ideal S1x704x1024 .bf16) (r : Fin 512) (j : Fin 1024) :
    k0_pay11 (F := Ideal) a g u vd (ix2 r j) = a (ix2 r j) + ∑ x, Silu.act (g (ix2 r x)) (u (ix2 r x)) * vd (ix3 0 x j) := by
  unfold Silu.act Silu.sg
  pointwise [k0_pay11]
  simp only [zero_sub]

theorem pay17_at (a : FVec Ideal S512x1024 .f32) (n : FVec Ideal S512x1024 .bf16) (vg vu : Vec Ideal S1x1024x704 .bf16)
    (vd : Vec Ideal S1x704x1024 .bf16) (r : Fin 512) (j : Fin 1024) :
    k0_pay17 (F := Ideal) a (k0_pay12 n vg) (k0_pay13 n vu) (k0_pay16 n vg) vd (ix2 r j) = a (ix2 r j) + part n vg vu vd r j := by
  refine (pay11_at a (k0_pay12 n vg) (k0_pay13 n vu) vd r j).trans ?_
  unfold part
  exact congrArg (_ + ·) (Finset.sum_congr rfl fun x _ => congrArg₂ (fun p q => Silu.act p q * _) (pay12_at n vg r x) (pay12_at n vu r x))

theorem pay27_at (a : FVec Ideal S512x1024 .f32) (n : FVec Ideal S512x1024 .bf16) (vg vu wg wu : Vec Ideal S1x1024x704 .bf16)
    (vd wd : Vec Ideal S1x704x1024 .bf16) (r : Fin 512) (j : Fin 1024) :
    k0_pay27 (F := Ideal) n a (k0_pay22 n vg vu) vd wg wu wd (ix2 r j) = a (ix2 r j) + part n vg vu vd r j + part n wg wu wd r j :=
  (pay17_at (k0_pay17 (F := Ideal) a (k0_pay12 n vg) (k0_pay13 n vu) (k0_pay16 n vg) vd) n wg wu wd r j).trans
    (congrArg (· + _) (pay17_at a n vg vu vd r j))

/-- The residual stream a point computes from its block and the down projection. -/
theorem pay28_at (x s : FVec Ideal S512x1024 .f32) (r : Fin 512) (j : Fin 1024) :
    k0_pay28 (F := Ideal) x s (ix2 r j) = x (ix2 r j) + Ideal.ofBits .f32 0x3F000000#32 * s (ix2 r j) := by
  pointwise [k0_pay28]

variable (x s : FVec Ideal S512x1024 .f32) (w : Vec Ideal S1x1024 .f32) (t : Vec Ideal S512x1024 .f32)

theorem pay32_at (r : Fin 512) : k0_pay32 (F := Ideal) x s (ix2 r 0) = NormBack.rs fun l => k0_pay28 (F := Ideal) x s (ix2 r l) := by
  unfold k0_pay32
  generalize k0_pay28 (F := Ideal) x s = o
  pointwise
  rfl

theorem pay33_at (r : Fin 512) (j : Fin 1024) :
    k0_pay33 (F := Ideal) x s (ix2 r j) = k0_pay28 (F := Ideal) x s (ix2 r j) * NormBack.rs fun l => k0_pay28 (F := Ideal) x s (ix2 r l) := by
  rw [← pay32_at]
  unfold k0_pay33
  generalize k0_pay28 (F := Ideal) x s = o
  generalize k0_pay32 (F := Ideal) x s = q
  pointwise

theorem pay34_at (r : Fin 512) (j : Fin 1024) :
    k0_pay34 (F := Ideal) x s w t (ix2 r j) = k0_pay33 (F := Ideal) x s (ix2 r j) * w (ix2 0 j) - t (ix2 r j) := by
  unfold k0_pay34
  generalize k0_pay33 (F := Ideal) x s = q
  pointwise [k0_pay31]

theorem pay36_at (r : Fin 512) (j : Fin 1024) :
    k0_pay36 (F := Ideal) x s w t (ix2 r j) = k0_pay34 (F := Ideal) x s w t (ix2 r j) * Ideal.ofBits .f32 0x3A800000#32 := by
  unfold k0_pay36
  generalize k0_pay34 (F := Ideal) x s w t = q
  pointwise

theorem pay35_at (a : Vec Ideal S8x128 .f32) (p : Fin 8) (q : Fin 128) :
    k0_pay35 (F := Ideal) x s w t a (ix2 p q) = a (ix2 p q) + Ideal.ofBits .f32 0x3A000000#32
      * ∑ r : Fin 512, ∑ l : Fin 1024, k0_pay34 (F := Ideal) x s w t (ix2 r l) * k0_pay34 (F := Ideal) x s w t (ix2 r l) := by
  unfold k0_pay35
  generalize k0_pay34 (F := Ideal) x s w t = e
  pointwise

theorem pay1_at (e d : FVec Ideal S512x1024 .f32) (a : Vec Ideal S1x1024 .f32) (j : Fin 1024) :
    k0_pay1 (F := Ideal) e d a (ix2 0 j) = a (ix2 0 j) + ∑ r : Fin 512, d (ix2 r j) * e (ix2 r j) := by
  pointwise [k0_pay1]

theorem pay2_at (d : FVec Ideal S512x1024 .f32) (r : Fin 512) (j : Fin 1024) :
    k0_pay2 (F := Ideal) (k0_pay31 w) (k0_pay32 x s) (k0_pay33 x s) d (ix2 r j)
      = NormBack.back (fun l => k0_pay28 (F := Ideal) x s (ix2 r l)) (fun l => d (ix2 r l)) (fun l => w (ix2 0 l)) j := by
  unfold NormBack.back
  rw [← pay32_at]
  have h := fun l => pay33_at x s r l
  simp only [← pay32_at] at h
  simp only [← h]
  generalize k0_pay32 (F := Ideal) x s = q
  generalize k0_pay33 (F := Ideal) x s = z
  pointwise [k0_pay2, k0_pay31]

theorem pay5_at (r : Fin 512) (j : Fin 1024) : k0_pay5 (F := Ideal) (ix2 r j) = 0 := by
  pointwise [k0_pay5]

theorem pay29_at (p : Fin 8) (q : Fin 128) : k0_pay29 (F := Ideal) (ix2 p q) = 0 := by
  pointwise [k0_pay29]

theorem pay30_at (j : Fin 1024) : k0_pay30 (F := Ideal) (ix2 0 j) = 0 := by
  pointwise [k0_pay30]

end Cert.HeadProof
-- ==== Proof.Head.Block.lean ====
/- A block of 512 rows of the feed-forward: what the stored values are once the block's rows and the weights are known. -/
module

public import proofs.«01_k».proof.Proof.Head.Pay
public import proofs.«01_k».proof.Proof.Lib.Groups
public import proofs.«01_k».proof.Proof.Lib.Ffn

@[expose] public section

set_option maxRecDepth 16384

noncomputable section

namespace Cert.HeadProof

open Idealize.ShloMosaic Cert.HeadIdeal Cert.HeadIdeal.Gen
open Cert.Groups

/-- Group `k` of a projection's weights. -/
abbrev wp (b : Vec Ideal S4x1024x704 .bf16) (k : ℕ) (inb : ∀ a, (![k, 0, 0] : Fin 3 → ℕ) a + (![1, 1024, 704] : Fin 3 → ℕ) a ≤ S4x1024x704.size a) :
    Vec Ideal S1x1024x704 .bf16 := View.ld b (Rect.unit (s := S4x1024x704) ![k, 0, 0] ![1, 1024, 704] inb)
abbrev dp (b : Vec Ideal S4x704x1024 .bf16) (k : ℕ) (inb : ∀ a, (![k, 0, 0] : Fin 3 → ℕ) a + (![1, 704, 1024] : Fin 3 → ℕ) a ≤ S4x704x1024.size a) :
    Vec Ideal S1x704x1024 .bf16 := View.ld b (Rect.unit (s := S4x704x1024) ![k, 0, 0] ![1, 704, 1024] inb)

/-- The down projection of a block of rows, group by group. -/
def downBlk (x : Vec Ideal S512x1024 .f32) (w : Vec Ideal S1x1024 .f32) (g u : Vec Ideal S4x1024x704 .bf16) (d : Vec Ideal S4x704x1024 .bf16) :
    FVec Ideal S512x1024 .f32 :=
  k0_pay27 (k0_pay4 x w)
    (k0_pay17
      (k0_pay11 k0_pay5 (k0_pay6 x w (wp g 0 inb_S4x1024x704_S1x1024x704_0_0_0)) (k0_pay7 x w (wp u 0 inb_S4x1024x704_S1x1024x704_0_0_0))
        (dp d 0 inb_S4x704x1024_S1x704x1024_0_0_0))
      (k0_pay12 (k0_pay4 x w) (wp g 1 inb_S4x1024x704_S1x1024x704_1_0_0)) (k0_pay13 (k0_pay4 x w) (wp u 1 inb_S4x1024x704_S1x1024x704_1_0_0))
      (k0_pay16 (k0_pay4 x w) (wp g 1 inb_S4x1024x704_S1x1024x704_1_0_0)) (dp d 1 inb_S4x704x1024_S1x704x1024_1_0_0))
    (k0_pay22 (k0_pay4 x w) (wp g 2 inb_S4x1024x704_S1x1024x704_2_0_0) (wp u 2 inb_S4x1024x704_S1x1024x704_2_0_0))
    (dp d 2 inb_S4x704x1024_S1x704x1024_2_0_0) (wp g 3 inb_S4x1024x704_S1x1024x704_3_0_0) (wp u 3 inb_S4x1024x704_S1x1024x704_3_0_0)
    (dp d 3 inb_S4x704x1024_S1x704x1024_3_0_0)

/-- A block's rows are `h` and the norm's weight is `v`; the grouped weights are `a`, or `d`. -/
def Rows (x : Vec Ideal S512x1024 .f32) (w : Vec Ideal S1x1024 .f32) (h : Fin 512 → Fin 1024 → EReal) (v : Fin 1024 → EReal) : Prop :=
  (∀ r l, x (ix2 r l) = h r l) ∧ ∀ l, w (ix2 0 l) = v l
def Cols (W : Vec Ideal S4x1024x704 .bf16) (a : Fin 1024 → Fin 2816 → EReal) : Prop := ∀ s l x, W (ix3 s l x) = a l (Ffn.col s x)
def Downs (D : Vec Ideal S4x704x1024 .bf16) (d : Fin 2816 → Fin 1024 → EReal) : Prop := ∀ s x j, D (ix3 s x j) = d (Ffn.col s x) j

/-- The four groups of columns of a block's rows as one array over the groups. -/
def spread (f : Fin 512 → Fin 2816 → EReal) : Vec Ideal S4x512x704 .bf16 := fun y => f (y 1) (Ffn.col (y 0) (y 2))

section Block

variable {x : Vec Ideal S512x1024 .f32} {w : Vec Ideal S1x1024 .f32} {h : Fin 512 → Fin 1024 → EReal} {v : Fin 1024 → EReal} (hr : Rows x w h v)

include hr

theorem nrm_blk (r : Fin 512) (j : Fin 1024) : k0_pay4 (F := Ideal) x w (ix2 r j) = Ffn.nrm (h r) v j := by
  refine (pay4_at _ _ r j).trans ?_
  unfold Ffn.nrm
  rw [show (fun l => x (ix2 r l)) = h r from funext fun l => hr.1 r l]
  exact congrArg₂ (· * ·) (congrArg (· * _) (hr.1 r j)) (hr.2 j)

section Group

variable {W : Vec Ideal S4x1024x704 .bf16} {a : Fin 1024 → Fin 2816 → EReal} (hW : Cols W a)

include hW

theorem prj_blk (k : ℕ) (hk : k < 4) (i : ∀ a, (![k, 0, 0] : Fin 3 → ℕ) a + (![1, 1024, 704] : Fin 3 → ℕ) a ≤ S4x1024x704.size a)
    (r : Fin 512) (y : Fin 704) : prj (k0_pay4 x w) (wp W k i) r y = Ffn.pr (h r) v a (Ffn.col ⟨k, hk⟩ y) :=
  Finset.sum_congr (M := EReal) rfl fun l _ => congrArg₂ (· * ·) (nrm_blk hr r l) ((ld_group _ k hk i l y).trans (hW ⟨k, hk⟩ l y))

/-- The four stores of a projection leave it cut into its groups of columns. -/
theorem stored_blk (s : Fin 4) (r : Fin 512) (y : Fin 704) :
    View.canon (Val := Elt Ideal) (e := .bf16)
      [⟨Rect.unit (s := S4x512x704) ![3, 0, 0] ![1, 512, 704] inb_S4x512x704_S1x512x704_3_0_0,
        k0_pay14 (F := Ideal) (k0_pay4 x w) (wp W 3 inb_S4x1024x704_S1x1024x704_3_0_0)⟩,
      ⟨Rect.unit ![2, 0, 0] ![1, 512, 704] inb_S4x512x704_S1x512x704_2_0_0, k0_pay14 (F := Ideal) (k0_pay4 x w) (wp W 2 inb_S4x1024x704_S1x1024x704_2_0_0)⟩,
      ⟨Rect.unit ![1, 0, 0] ![1, 512, 704] inb_S4x512x704_S1x512x704_1_0_0, k0_pay14 (F := Ideal) (k0_pay4 x w) (wp W 1 inb_S4x1024x704_S1x1024x704_1_0_0)⟩,
      ⟨Rect.unit ![0, 0, 0] ![1, 512, 704] inb_S4x512x704_S1x512x704_0_0_0, k0_pay14 (F := Ideal) (k0_pay4 x w) (wp W 0 inb_S4x1024x704_S1x1024x704_0_0_0)⟩]
      (ix3 s r y) = Ffn.pr (h r) v a (Ffn.col s y) :=
  canon_groups (spread fun r => Ffn.pr (h r) v a) inb_S4x512x704_S1x512x704_3_0_0 inb_S4x512x704_S1x512x704_2_0_0
    inb_S4x512x704_S1x512x704_1_0_0 inb_S4x512x704_S1x512x704_0_0_0 _ _ _ _
    (fun r y => (pay14_at _ _ r y).trans (prj_blk hr hW 3 (by decide) _ r y)) (fun r y => (pay14_at _ _ r y).trans (prj_blk hr hW 2 (by decide) _ r y))
    (fun r y => (pay14_at _ _ r y).trans (prj_blk hr hW 1 (by decide) _ r y)) (fun r y => (pay14_at _ _ r y).trans (prj_blk hr hW 0 (by decide) _ r y)) s r y

end Group

variable {G U : Vec Ideal S4x1024x704 .bf16} {D : Vec Ideal S4x704x1024 .bf16} {g u : Fin 1024 → Fin 2816 → EReal} {d : Fin 2816 → Fin 1024 → EReal}
  (hG : Cols G g) (hU : Cols U u) (hD : Downs D d)

include hG hU hD

theorem part_blk (k : ℕ) (hk : k < 4) (i : ∀ a, (![k, 0, 0] : Fin 3 → ℕ) a + (![1, 1024, 704] : Fin 3 → ℕ) a ≤ S4x1024x704.size a)
    (i' : ∀ a, (![k, 0, 0] : Fin 3 → ℕ) a + (![1, 704, 1024] : Fin 3 → ℕ) a ≤ S4x704x1024.size a) (r : Fin 512) (j : Fin 1024) :
    part (k0_pay4 x w) (wp G k i) (wp U k i) (dp D k i') r j
      = ∑ y, Silu.act (Ffn.pr (h r) v g (Ffn.col ⟨k, hk⟩ y)) (Ffn.pr (h r) v u (Ffn.col ⟨k, hk⟩ y)) * d (Ffn.col ⟨k, hk⟩ y) j :=
  Finset.sum_congr (M := EReal) rfl fun y _ => congrArg₂ (· * ·)
    (congrArg₂ Silu.act (prj_blk hr hG k hk i r y) (prj_blk hr hU k hk i r y)) ((ld_group _ k hk i' y j).trans (hD ⟨k, hk⟩ y j))

theorem down_blk (r : Fin 512) (j : Fin 1024) :
    downBlk x w G U D (ix2 r j) = ∑ k, Silu.act (Ffn.pr (h r) v g k) (Ffn.pr (h r) v u k) * d k j := by
  rw [← Fin.sum_mul_add_fin 4 704 (fun k => Silu.act (Ffn.pr (h r) v g k) (Ffn.pr (h r) v u k) * d k j) (by decide), Fin.sum_univ_four]
  unfold downBlk
  refine (pay27_at _ _ _ _ _ _ _ _ r j).trans ?_
  rw [pay17_at, pay11_at, pay5_at, zero_add]
  refine congrArg₂ (· + ·) (congrArg₂ (· + ·) (congrArg₂ (· + ·) ?_ ?_) ?_) ?_
  · refine Eq.trans (Finset.sum_congr rfl fun y _ => congrArg₂ (fun p q => Silu.act p q * _) (pay6_at _ _ _ r y) (pay7_at _ _ _ r y)) ?_
    exact part_blk hr hG hU hD 0 (by decide) _ inb_S4x704x1024_S1x704x1024_0_0_0 r j
  · exact part_blk hr hG hU hD 1 (by decide) _ _ r j
  · exact part_blk hr hG hU hD 2 (by decide) _ _ r j
  · exact part_blk hr hG hU hD 3 (by decide) _ _ r j

/-- The residual stream a point computes. -/
theorem out_blk (r : Fin 512) (j : Fin 1024) :
    k0_pay28 (F := Ideal) (k0_pay3 x) (downBlk x w G U D) (ix2 r j) = Ffn.out (h r) v g u d j := by
  refine (pay28_at _ _ r j).trans ?_
  rw [down_blk hr hG hU hD, show k0_pay3 (F := Ideal) x = x by funext i; pointwise [k0_pay3]]
  exact congrArg (· + _) (hr.1 r j)

end Block

end Cert.HeadProof
-- ==== Proof.Head.Entry.lean ====
/- The arrays the last feed-forward and the loss are launched over, entry by entry in the program's own arguments, and the block
   each point sees of them. -/
module

public import proofs.«01_k».proof.Proof.Gen.HeadIdeal.Value
public import proofs.«01_k».proof.Proof.Lib.Ffn
public import Idealize.ShloMosaic.Lib.Pipeline.ValueKit
public import Idealize.ShloMosaic.Lib.StableHlo.ReadAt
public import Idealize.ShloMosaic.Lib.Pointwise

@[expose] public section

set_option maxRecDepth 16384

noncomputable section

namespace Cert.HeadProof

open Idealize.ShloMosaic Idealize.ShloMosaic.TcCoe Idealize.SL.Sem Cert.HeadIdeal Cert.HeadIdeal.Gen
open Idealize.ShloMosaic.Pipeline (Dat)
open Cert.Ffn (col)

variable (m : (ℓ : Loc nD τ sig) → Buf (Elt Ideal) ℓ) (c : Dev nD)

/-- The residual stream before the feed-forward. -/
def hid (r : Fin 8192) (j : Fin 1024) : EReal := m ((c : Thread nD τ).loc main_arg0) (ix3 0 r j)

/-- The weight of the feed-forward's norm. -/
def nw (j : Fin 1024) : EReal := m ((c : Thread nD τ).loc main_arg1) (ix2 0 j)

/-- The weights of the gate, the up and the down projection. -/
def wg (j : Fin 1024) (k : Fin 2816) : EReal := m ((c : Thread nD τ).loc main_arg2) (ix2 j k)
def wu (j : Fin 1024) (k : Fin 2816) : EReal := m ((c : Thread nD τ).loc main_arg3) (ix2 j k)
def wd (k : Fin 2816) (j : Fin 1024) : EReal := m ((c : Thread nD τ).loc main_arg4) (ix2 k j)

/-- The weight of the last norm. -/
def fw (j : Fin 1024) : EReal := m ((c : Thread nD τ).loc main_arg5) (ix1 j)

/-- The loss's target. -/
def tg (r : Fin 8192) (j : Fin 1024) : EReal := m ((c : Thread nD τ).loc main_arg6) (ix3 0 r j)

/-- The normed row, the gate's and the up projection's values, and the residual stream after the feed-forward. -/
def nrm (r : Fin 8192) (j : Fin 1024) : EReal := Ffn.nrm (hid m c r) (nw m c) j
def gv (r : Fin 8192) (k : Fin 2816) : EReal := Ffn.pr (hid m c r) (nw m c) (wg m c) k
def uv (r : Fin 8192) (k : Fin 2816) : EReal := Ffn.pr (hid m c r) (nw m c) (wu m c) k
def out (r : Fin 8192) (j : Fin 1024) : EReal := Ffn.out (hid m c r) (nw m c) (wg m c) (wu m c) (wd m c) j

/-- The last norm's row before its weight, its difference from the target, and the loss's cotangent of it. -/
def xhat (r : Fin 8192) (j : Fin 1024) : EReal := out m c r j * NormBack.rs (out m c r)
def err (r : Fin 8192) (j : Fin 1024) : EReal := xhat m c r j * fw m c j - tg m c r j
def dout (r : Fin 8192) (j : Fin 1024) : EReal := err m c r j * Ideal.ofBits .f32 0x3A800000#32

theorem entry_hid (r : Fin 8192) (l : Fin 1024) : V m c main_v0 (ix2 r l) = hid m c r l := by
  unfold V hid
  after_reads_at

theorem entry_nw (l : Fin 1024) : V m c main_arg1 (ix2 0 l) = nw m c l := by
  unfold V nw
  after_reads_at

theorem entry_wg (s : Fin 4) (j : Fin 1024) (x : Fin 704) : V m c main_v3 (ix3 s j x) = wg m c j (col s x) := by
  unfold V wg Ffn.col
  after_reads_at

theorem entry_wu (s : Fin 4) (j : Fin 1024) (x : Fin 704) : V m c main_v6 (ix3 s j x) = wu m c j (col s x) := by
  unfold V wu Ffn.col
  after_reads_at

theorem entry_wd (s : Fin 4) (x : Fin 704) (j : Fin 1024) : V m c main_v8 (ix3 s x j) = wd m c (col s x) j := by
  unfold V wd Ffn.col
  after_reads_at

theorem entry_fw (l : Fin 1024) : V m c main_v9 (ix2 0 l) = fw m c l := by
  unfold V fw
  after_reads_at

theorem entry_tg (r : Fin 8192) (l : Fin 1024) : V m c main_v10 (ix2 r l) = tg m c r l := by
  unfold V tg
  after_reads_at

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![0, t.val, 0]
    ∧ win0_7.index t = ![0, t.val, 0] ∧ win0_8.index t = ![0, 0] ∧ win0_9.index t = ![0, 0] :=
  (by decide +kernel : ∀ t : Fin grid0.N, _)

/-- Row `r` of the block that point `t` works on, as a row of the arrays. -/
def row (t : Fin cfg0.N) (r : Fin 512) : Fin 8192 :=
  ⟨t.val * 512 + r.val, by have hN := lt_of_lt_of_eq t.isLt (show cfg0.N = 16 from N_0); omega⟩

theorem blk_hid (t : Fin cfg0.N) (r : Fin 512) (l : Fin 1024) : iblk m c 0 t (ix2 r l) = hid m c (row t r) l := by
  refine Eq.trans ?_ (entry_hid m c (row t r) l)
  unfold row
  blk_ext [iblk, idx t]

theorem blk_nw (t : Fin cfg0.N) (l : Fin 1024) : iblk m c 1 t (ix2 0 l) = nw m c l := by
  refine Eq.trans ?_ (entry_nw m c l)
  blk_ext [iblk, idx t]

theorem blk_fw (t : Fin cfg0.N) (l : Fin 1024) : iblk m c 2 t (ix2 0 l) = fw m c l := by
  refine Eq.trans ?_ (entry_fw m c l)
  blk_ext [iblk, idx t]

theorem blk_tg (t : Fin cfg0.N) (r : Fin 512) (l : Fin 1024) : iblk m c 3 t (ix2 r l) = tg m c (row t r) l := by
  refine Eq.trans ?_ (entry_tg m c (row t r) l)
  unfold row
  blk_ext [iblk, idx t]

end Cert.HeadProof
-- ==== Proof.Head.Points.lean ====
/- What every point of the last feed-forward and the loss leaves in its six outputs and in the weight buffers it carries. -/
module

public import proofs.«01_k».proof.Proof.Head.Block
public import proofs.«01_k».proof.Proof.Head.Entry
public import Idealize.ShloMosaic.Lib.Pipeline.ReadBack

@[expose] public section

set_option maxRecDepth 16384

noncomputable section

namespace Cert.HeadProof

open Idealize.ShloMosaic Idealize.ShloMosaic.TcCoe Idealize.SL.Sem Cert.HeadIdeal Cert.HeadIdeal.Gen
open Idealize.ShloMosaic.Pipeline (Dat)
open Cert.Ffn (col)
open Cert.Groups

variable (m : (ℓ : Loc nD τ sig) → Buf (Elt Ideal) ℓ) (c : Dev nD)

/-- What the point sees, as rows and groups of columns. -/
theorem rows (t : Fin cfg0.N) : Rows (iblk m c 0 t) (iblk m c 1 t) (fun r => hid m c (row t r)) (nw m c) := ⟨blk_hid m c t, blk_nw m c t⟩

/-- The down projection of a point's block. -/
abbrev down (t : Fin cfg0.N) : FVec Ideal S512x1024 .f32 :=
  downBlk (iblk m c 0 t) (iblk m c 1 t) (V m c main_v3) (V m c main_v6) (V m c main_v8)

theorem out_at (t : Fin cfg0.N) (r : Fin 512) (j : Fin 1024) :
    k0_pay28 (F := Ideal) (k0_pay3 (iblk m c 0 t)) (down m c t) (ix2 r j) = out m c (row t r) j :=
  out_blk (rows m c t) (entry_wg m c) (entry_wu m c) (entry_wd m c) r j

theorem out_row (t : Fin cfg0.N) (r : Fin 512) :
    (fun l => k0_pay28 (F := Ideal) (k0_pay3 (iblk m c 0 t)) (down m c t) (ix2 r l)) = out m c (row t r) :=
  funext fun l => out_at m c t r l

theorem xhat_at (t : Fin cfg0.N) (r : Fin 512) (j : Fin 1024) :
    k0_pay33 (F := Ideal) (k0_pay3 (iblk m c 0 t)) (down m c t) (ix2 r j) = xhat m c (row t r) j := by
  rw [pay33_at, out_row, out_at]
  rfl

theorem err_at (t : Fin cfg0.N) (r : Fin 512) (j : Fin 1024) :
    k0_pay34 (F := Ideal) (k0_pay3 (iblk m c 0 t)) (down m c t) (iblk m c 2 t) (iblk m c 3 t) (ix2 r j) = err m c (row t r) j := by
  refine (pay34_at _ _ _ _ r j).trans ?_
  rw [xhat_at]
  exact congrArg₂ (· - ·) (congrArg (_ * ·) (blk_fw m c t j)) (blk_tg m c t r j)

theorem dout_at (t : Fin cfg0.N) (r : Fin 512) (j : Fin 1024) :
    k0_pay36 (F := Ideal) (k0_pay3 (iblk m c 0 t)) (down m c t) (iblk m c 2 t) (iblk m c 3 t) (ix2 r j) = dout m c (row t r) j := by
  rw [pay36_at, err_at]
  rfl

theorem dx_point (t : Fin cfg0.N) (r : Fin 512) (j : Fin 1024) :
    k0_pay2 (F := Ideal) (k0_pay31 (iblk m c 2 t)) (k0_pay32 (k0_pay3 (iblk m c 0 t)) (down m c t)) (k0_pay33 (k0_pay3 (iblk m c 0 t)) (down m c t))
      (k0_pay36 (k0_pay3 (iblk m c 0 t)) (down m c t) (iblk m c 2 t) (iblk m c 3 t)) (ix2 r j)
      = NormBack.back (out m c (row t r)) (dout m c (row t r)) (fw m c) j := by
  refine (pay2_at _ _ _ _ r j).trans ?_
  rw [out_row, show (fun l => k0_pay36 (F := Ideal) (k0_pay3 (iblk m c 0 t)) (down m c t) (iblk m c 2 t) (iblk m c 3 t) (ix2 r l))
      = dout m c (row t r) from funext fun l => dout_at m c t r l,
    show (fun l => iblk m c 2 t (ix2 0 l)) = fw m c from funext fun l => blk_fw m c t l]

/-- One block's part of the loss and of the last norm's weight's gradient. -/
def lossPart (t : Fin cfg0.N) : EReal :=
  Ideal.ofBits .f32 0x3A000000#32 * ∑ r : Fin 512, ∑ l, err m c (row t r) l * err m c (row t r) l
def dwPart (t : Fin cfg0.N) (j : Fin 1024) : EReal := ∑ r : Fin 512, dout m c (row t r) j * xhat m c (row t r) j

theorem loss_point (t : Fin cfg0.N) (a : Vec Ideal S8x128 .f32) (p : Fin 8) (q : Fin 128) :
    k0_pay35 (F := Ideal) (k0_pay3 (iblk m c 0 t)) (down m c t) (iblk m c 2 t) (iblk m c 3 t) a (ix2 p q) = a (ix2 p q) + lossPart m c t := by
  refine (pay35_at _ _ _ _ a p q).trans ?_
  unfold lossPart
  exact congrArg (fun z => _ + _ * z) (Finset.sum_congr rfl fun r _ => Finset.sum_congr rfl fun l _ =>
    congrArg (fun z : EReal => z * z) (err_at m c t r l))

theorem dw_point (t : Fin cfg0.N) (a : Vec Ideal S1x1024 .f32) (j : Fin 1024) :
    k0_pay1 (F := Ideal) (k0_pay33 (k0_pay3 (iblk m c 0 t)) (down m c t))
      (k0_pay36 (k0_pay3 (iblk m c 0 t)) (down m c t) (iblk m c 2 t) (iblk m c 3 t)) a (ix2 0 j) = a (ix2 0 j) + dwPart m c t j := by
  refine (pay1_at _ _ a j).trans (congrArg (a (ix2 0 j) + ·) (Finset.sum_congr rfl fun r _ => ?_))
  exact congrArg₂ (· * ·) (dout_at m c t r j) (xhat_at m c t r j)

/-- The first point copies the weights in. -/
theorem kept_first (t : Fin cfg0.N) (h : t.val % 16 = 0) :
    (outsAt0 m c t.val t.isLt).2.2.2.2.2.2 = (V m c main_v3, V m c main_v6, V m c main_v8) := by
  rw [outsAt0_A m c t h h]
  dsimp only
  refine Prod.ext ?_ (Prod.ext ?_ ?_)
  · dsimp only
    frame_out
    rw [canon_whole]
    rfl
  · dsimp only
    frame_out
    rw [canon_whole]
    rfl
  · dsimp only
    frame_out
    rw [canon_whole]
    rfl

/-- Every later point leaves them. -/
theorem kept_next (t : Fin cfg0.N) (h : ¬ t.val % 16 = 0) :
    (outsAt0 m c t.val t.isLt).2.2.2.2.2.2 = (outsAt0 m c (t.val - 1) (Nat.lt_of_le_of_lt (Nat.sub_le _ _) t.isLt)).2.2.2.2.2.2 := by
  rw [outsAt0_B m c t h h]
  dsimp only
  rfl

theorem kept (n : ℕ) (hn : n < cfg0.N) :
    (outsAt0 m c n hn).2.2.2.2.2.2 = (V m c main_v3, V m c main_v6, V m c main_v8) := by
  induction n with
  | zero => exact kept_first m c ⟨0, hn⟩ rfl
  | succ n ih =>
    by_cases h : (n + 1) % 16 = 0
    · exact kept_first m c ⟨n + 1, hn⟩ h
    · exact (kept_next m c ⟨n + 1, hn⟩ h).trans (ih _)

theorem out_dx (t : Fin cfg0.N) (r : Fin 512) (j : Fin 1024) :
    (outsAt0 m c t.val t.isLt).1 (ix2 r j) = NormBack.back (out m c (row t r)) (dout m c (row t r)) (fw m c) j := by
  refine Eq.trans ?_ (dx_point m c t r j)
  by_cases h : t.val % 16 = 0
  · rw [outsAt0_A m c t h h]
    dsimp only
    frame_out
    simp only [readCov_whole]
    rfl
  · rw [outsAt0_B m c t h h]
    dsimp only
    frame_out
    simp only [read_unread_whole, kept m c (t.val - 1) (Nat.lt_of_le_of_lt (Nat.sub_le _ _) t.isLt)]
    rfl

theorem out_n (t : Fin cfg0.N) (r : Fin 512) (j : Fin 1024) :
    (outsAt0 m c t.val t.isLt).2.1 (ix2 r j) = nrm m c (row t r) j := by
  refine Eq.trans ?_ (nrm_blk (rows m c t) r j)
  by_cases h : t.val % 16 = 0
  · rw [outsAt0_A m c t h h]
    dsimp only
    frame_out
  · rw [outsAt0_B m c t h h]
    dsimp only
    frame_out

theorem out_g (t : Fin cfg0.N) (s : Fin 4) (r : Fin 512) (x : Fin 704) :
    (outsAt0 m c t.val t.isLt).2.2.1 (ix3 s r x) = gv m c (row t r) (col s x) := by
  refine Eq.trans ?_ (stored_blk (rows m c t) (entry_wg m c) s r x)
  by_cases h : t.val % 16 = 0
  · rw [outsAt0_A m c t h h]
    dsimp only
    frame_out
    simp only [readCov_whole]
    rfl
  · rw [outsAt0_B m c t h h]
    dsimp only
    frame_out
    simp only [read_unread_whole, kept m c (t.val - 1) (Nat.lt_of_le_of_lt (Nat.sub_le _ _) t.isLt)]
    rfl

theorem out_u (t : Fin cfg0.N) (s : Fin 4) (r : Fin 512) (x : Fin 704) :
    (outsAt0 m c t.val t.isLt).2.2.2.1 (ix3 s r x) = uv m c (row t r) (col s x) := by
  refine Eq.trans ?_ (stored_blk (rows m c t) (entry_wu m c) s r x)
  by_cases h : t.val % 16 = 0
  · rw [outsAt0_A m c t h h]
    dsimp only
    frame_out
    simp only [readCov_whole]
    rfl
  · rw [outsAt0_B m c t h h]
    dsimp only
    frame_out
    simp only [read_unread_whole, kept m c (t.val - 1) (Nat.lt_of_le_of_lt (Nat.sub_le _ _) t.isLt)]
    rfl

theorem out_loss_first (t : Fin cfg0.N) (h : t.val % 16 = 0) (p : Fin 8) (q : Fin 128) :
    (outsAt0 m c t.val t.isLt).2.2.2.2.1 (ix2 p q) = 0 + lossPart m c t := by
  refine Eq.trans ?_ ((loss_point m c t (k0_pay29 (F := Ideal)) p q).trans (congrArg (· + _) (pay29_at p q)))
  rw [outsAt0_A m c t h h]
  dsimp only
  frame_out
  simp only [readCov_whole]
  rfl

theorem out_loss_next (t : Fin cfg0.N) (h : ¬ t.val % 16 = 0) (p : Fin 8) (q : Fin 128) :
    (outsAt0 m c t.val t.isLt).2.2.2.2.1 (ix2 p q)
      = (outsAt0 m c (t.val - 1) (Nat.lt_of_le_of_lt (Nat.sub_le _ _) t.isLt)).2.2.2.2.1 (ix2 p q) + lossPart m c t := by
  refine Eq.trans ?_ (loss_point m c t _ p q)
  rw [outsAt0_B m c t h h]
  dsimp only
  frame_out
  simp only [read_unread_whole, kept m c (t.val - 1) (Nat.lt_of_le_of_lt (Nat.sub_le _ _) t.isLt)]
  rfl

theorem out_dw_first (t : Fin cfg0.N) (h : t.val % 16 = 0) (j : Fin 1024) :
    (outsAt0 m c t.val t.isLt).2.2.2.2.2.1 (ix2 0 j) = 0 + dwPart m c t j := by
  refine Eq.trans ?_ ((dw_point m c t (k0_pay30 (F := Ideal)) j).trans (congrArg (· + _) (pay30_at j)))
  rw [outsAt0_A m c t h h]
  dsimp only
  frame_out
  simp only [readCov_whole]
  rfl

theorem out_dw_next (t : Fin cfg0.N) (h : ¬ t.val % 16 = 0) (j : Fin 1024) :
    (outsAt0 m c t.val t.isLt).2.2.2.2.2.1 (ix2 0 j)
      = (outsAt0 m c (t.val - 1) (Nat.lt_of_le_of_lt (Nat.sub_le _ _) t.isLt)).2.2.2.2.2.1 (ix2 0 j) + dwPart m c t j := by
  refine Eq.trans ?_ (dw_point m c t _ j)
  rw [outsAt0_B m c t h h]
  dsimp only
  frame_out
  simp only [read_unread_whole, kept m c (t.val - 1) (Nat.lt_of_le_of_lt (Nat.sub_le _ _) t.isLt)]
  rfl

end Cert.HeadProof
-- ==== Proof.Head.Final.lean ====
/- The six results of the last feed-forward and the loss. -/
module

public import proofs.«01_k».proof.Proof.Head.Points

@[expose] public section

set_option maxRecDepth 16384

noncomputable section

namespace Cert.HeadProof

open Idealize.ShloMosaic Idealize.ShloMosaic.TcCoe Idealize.SL.Sem Cert.HeadIdeal Cert.HeadIdeal.Gen
open Idealize.ShloMosaic.Pipeline (Dat)
open Cert.Ffn (col)

variable (m : (ℓ : Loc nD τ sig) → Buf (Elt Ideal) ℓ) (c : Dev nD)

/-- The gradient of the residual stream. -/
def dxAt (r : Fin 8192) (j : Fin 1024) : EReal := NormBack.back (out m c r) (dout m c r) (fw m c) j

/-- The last norm's weight's gradient. -/
def dwAt (j : Fin 1024) : EReal := ∑ r : Fin 8192, dout m c r j * xhat m c r j

theorem idx2 {a b : ℕ} (y : (⟨2, ![a, b]⟩ : Shape).Idx) : y = ix2 (y 0) (y 1) := by
  funext a
  match a with
  | ⟨0, _⟩ => rfl
  | ⟨1, _⟩ => rfl

theorem idx3 {a b d : ℕ} (y : (⟨3, ![a, b, d]⟩ : Shape).Idx) : y = ix3 (y 0) (y 1) (y 2) := by
  funext a
  match a with
  | ⟨0, _⟩ => rfl
  | ⟨1, _⟩ => rfl
  | ⟨2, _⟩ => rfl

theorem sum_dw (j : Fin 1024) : ∑ t : Fin cfg0.N, dwPart m c t j = dwAt m c j := by
  unfold dwPart dwAt
  rw [← Fin.sum_mul_add_fin 16 512 (fun r => dout m c r j * xhat m c r j) (by decide)]
  exact Fintype.sum_equiv (finCongr N_0) _ _ fun t => rfl

theorem last_dw (j : Fin 1024) : (outsAt0 m c 15 (by decide)).2.2.2.2.2.1 (ix2 0 j) = dwAt m c j := by
  rw [← sum_dw, ← zero_add (∑ t : Fin cfg0.N, dwPart m c t j)]
  exact Pipeline.eq_sum_fin_of_reset_step_apply_last (fun n hn (i : Fin 1024) => (outsAt0 m c n hn).2.2.2.2.2.1 (ix2 0 i)) 16 (fun _ => 0)
    (fun t i => dwPart m c t i) (fun t h i => out_dw_first m c t h i) (fun t h i => out_dw_next m c t h i)
    (le_of_eq N_0) ⟨15, by decide⟩ (by decide) j

/-- The loss, as the sum of the blocks' parts. -/
def lossAt : EReal := ∑ t : Fin cfg0.N, lossPart m c t

theorem last_loss (p : Fin 8) (q : Fin 128) : (outsAt0 m c 15 (by decide)).2.2.2.2.1 (ix2 p q) = lossAt m c := by
  unfold lossAt
  rw [← zero_add (∑ t : Fin cfg0.N, lossPart m c t)]
  exact Pipeline.eq_sum_fin_of_reset_step_apply_last (fun n hn (i : Fin 8 × Fin 128) => (outsAt0 m c n hn).2.2.2.2.1 (ix2 i.1 i.2)) 16 (fun _ => 0)
    (fun t _ => lossPart m c t) (fun t h i => out_loss_first m c t h i.1 i.2) (fun t h i => out_loss_next m c t h i.1 i.2)
    (le_of_eq N_0) ⟨15, by decide⟩ (by decide) (p, q)

theorem final_dx : (dats m 0 c).arrAt 4 cfg0.N = fun i => dxAt m c (i 0) (i 1) := by
  refine (dats m 0 c).arrAt_eq_of_covers 4 _ (by decide +kernel) fun t hf y => ?_
  rw [after0_4]
  blk_simp
  refine (congrArg (outsAt0 m c t.val t.isLt).1 (idx2 y)).trans ((out_dx m c t (y 0) (y 1)).trans ?_)
  refine congrArg₂ (dxAt m c) ?_ ?_
  · refine Fin.ext ?_
    unfold row
    blk_simp [idx t]
  · refine Fin.ext ?_
    blk_simp [idx t]

theorem final_n : (dats m 0 c).arrAt 5 cfg0.N = fun i => nrm m c (i 0) (i 1) := by
  refine (dats m 0 c).arrAt_eq_of_covers 5 _ (by decide +kernel) fun t hf y => ?_
  rw [after0_5]
  blk_simp
  refine (congrArg (outsAt0 m c t.val t.isLt).2.1 (idx2 y)).trans ((out_n m c t (y 0) (y 1)).trans ?_)
  refine congrArg₂ (nrm m c) ?_ ?_
  · refine Fin.ext ?_
    unfold row
    blk_simp [idx t]
  · refine Fin.ext ?_
    blk_simp [idx t]

theorem final_g : (dats m 0 c).arrAt 6 cfg0.N = fun i => gv m c (i 1) (col (i 0) (i 2)) := by
  refine (dats m 0 c).arrAt_eq_of_covers 6 _ (by decide +kernel) fun t hf y => ?_
  rw [after0_6]
  blk_simp
  refine (congrArg (outsAt0 m c t.val t.isLt).2.2.1 (idx3 y)).trans ((out_g m c t (y 0) (y 1) (y 2)).trans ?_)
  refine congrArg₂ (gv m c) ?_ ?_
  · refine Fin.ext ?_
    unfold row
    blk_simp [idx t]
  · refine Fin.ext ?_
    unfold Ffn.col
    blk_simp [idx t]

theorem final_u : (dats m 0 c).arrAt 7 cfg0.N = fun i => uv m c (i 1) (col (i 0) (i 2)) := by
  refine (dats m 0 c).arrAt_eq_of_covers 7 _ (by decide +kernel) fun t hf y => ?_
  rw [after0_7]
  blk_simp
  refine (congrArg (outsAt0 m c t.val t.isLt).2.2.2.1 (idx3 y)).trans ((out_u m c t (y 0) (y 1) (y 2)).trans ?_)
  refine congrArg₂ (uv m c) ?_ ?_
  · refine Fin.ext ?_
    unfold row
    blk_simp [idx t]
  · refine Fin.ext ?_
    unfold Ffn.col
    blk_simp [idx t]

theorem final_loss : (dats m 0 c).arrAt 8 cfg0.N = fun _ => lossAt m c := by
  refine (dats m 0 c).arrAt_eq_of_after_last 8 (⟨15, by decide⟩ : Fin cfg0.N) (by decide +kernel) _ fun j => ?_
  rw [after0_8]
  exact (congrArg (outsAt0 m c 15 (by decide)).2.2.2.2.1 (idx2 j)).trans (last_loss m c (j 0) (j 1))

theorem final_dw : (dats m 0 c).arrAt 9 cfg0.N = fun i => dwAt m c (i 1) := by
  refine (dats m 0 c).arrAt_eq_of_after_last 9 (⟨15, by decide⟩ : Fin cfg0.N) (by decide +kernel) _ fun j => ?_
  rw [after0_9]
  refine Eq.trans ?_ (last_dw m c (j 1))
  refine congrArg (outsAt0 m c 15 (by decide)).2.2.2.2.2.1 ?_
  funext a
  match a with
  | ⟨0, _⟩ => exact Fin.ext (by have h : (j 0).val < 1 := (j 0).isLt; show (j 0).val = 0; omega)
  | ⟨1, _⟩ => rfl

end Cert.HeadProof
-- ==== Proof.Head.Ref.lean ====
/- The reference's six results read at an entry. -/
module

public import proofs.«01_k».proof.Proof.Gen.HeadRefIdeal.Run
public import proofs.«01_k».proof.Proof.Lib.Ffn
public import Idealize.ShloMosaic.Lib.Pointwise
public import Idealize.ShloMosaic.Lib.ValueIdx

@[expose] public section

set_option maxRecDepth 16384

noncomputable section

namespace Cert.HeadProof.Ref

open Idealize.ShloMosaic Idealize.ShloMosaic.TcCoe Idealize.SL.Sem Cert.HeadRefIdeal Cert.HeadRefIdeal.Gen Cert.HeadRefIdeal.Value
open Cert.Ffn (col)

/-- A sum over two axes of size one has one term. -/
theorem sum_ones (v : (⟨3, ![1, 1, 1024]⟩ : Shape).Idx → EReal) (init : EReal) (j : Fin 1024) :
    Ideal.hostReduceAdd reducesTo_S1x1x1024_S1024_d0_1 v init (ix1 j) = init + v (ix3 0 0 j) := by
  refine congrArg (init + ·) (Finset.sum_eq_single_of_mem (ix3 0 0 j) ?_ ?_)
  · refine Finset.mem_filter.2 ⟨Finset.mem_univ _, ?_⟩
    funext b
    apply Fin.ext
    match b with
    | ⟨0, _⟩ => rfl
  · intro i hi hne
    refine absurd ?_ hne
    funext a
    apply Fin.ext
    match a with
    | ⟨0, _⟩ => have h : (i 0).val < 1 := (i 0).isLt
                show (i 0).val = 0
                omega
    | ⟨1, _⟩ => have h : (i 1).val < 1 := (i 1).isLt
                show (i 1).val = 0
                omega
    | ⟨2, _⟩ => exact congrArg Fin.val (congrFun (Finset.mem_filter.1 hi).2 0)

/-- A sum over a first and a last axis of size one has one term. -/
theorem sum_outer (v : (⟨3, ![1, 8192, 1]⟩ : Shape).Idx → EReal) (init : EReal) (r : Fin 8192) :
    Ideal.hostReduceAdd reducesTo_S1x8192x1_S8192_d0_2 v init (ix1 r) = init + v (ix3 0 r 0) := by
  refine congrArg (init + ·) (Finset.sum_eq_single_of_mem (ix3 0 r 0) ?_ ?_)
  · refine Finset.mem_filter.2 ⟨Finset.mem_univ _, ?_⟩
    funext b
    apply Fin.ext
    match b with
    | ⟨0, _⟩ => rfl
  · intro i hi hne
    refine absurd ?_ hne
    funext a
    apply Fin.ext
    match a with
    | ⟨0, _⟩ => have h : (i 0).val < 1 := (i 0).isLt
                show (i 0).val = 0
                omega
    | ⟨1, _⟩ => exact congrArg Fin.val (congrFun (Finset.mem_filter.1 hi).2 0)
    | ⟨2, _⟩ => have h : (i 2).val < 1 := (i 2).isLt
                show (i 2).val = 0
                omega

/-- The mean of each row's squares and the norm's small constant; the rows over its root. -/
def msOf (x : Vec Ideal S1x8192x1024 .f32) : Vec Ideal S1x8192x1 .f32 :=
  addf (F := Ideal) (φ := .f32) (Host.divf (F := Ideal) (φ := .f32) (broadcastInDim S1x8192x1 ![0, 1] bcast_S1x8192_S1x8192x1_0_1 (Host.reduceAdd (F := Ideal) (φ := .f32) (mulf (F := Ideal) (φ := .f32) (x) (x)) (constant (F := Ideal) S_ .f32 0x00000000#32) reducesTo_S1x8192x1024_S1x8192_d2 h_S_)) (broadcastInDim S1x8192x1 ![] bcast_S_S1x8192x1 (constant (F := Ideal) S_ .f32 0x44800000#32))) (broadcastInDim S1x8192x1 ![] bcast_S_S1x8192x1 (constant (F := Ideal) S_ .f32 0x358637BD#32))

def xhatOf (x : Vec Ideal S1x8192x1024 .f32) : Vec Ideal S1x8192x1024 .f32 :=
  mulf (F := Ideal) (φ := .f32) (x) (broadcastInDim S1x8192x1024 ![0, 1, 2] bcast_S1x8192x1_S1x8192x1024_0_1_2 (Host.rsqrt (F := Ideal) (φ := .f32) (msOf x)))

/-- The rows times the norm's weight. -/
def weigh (x : Vec Ideal S1x8192x1024 .f32) (w : Vec Ideal S1024 .f32) : Vec Ideal S1x8192x1024 .f32 :=
  mulf (F := Ideal) (φ := .f32) (x) (broadcastInDim S1x8192x1024 ![0, 1, 2] bcast_S1x1x1024_S1x8192x1024_0_1_2 (broadcastInDim S1x1x1024 ![2] bcast_S1024_S1x1x1024_2 (w)))

/-- The loss's cotangent from the difference. -/
def doutOf (e : Vec Ideal S1x8192x1024 .f32) : Vec Ideal S1x8192x1024 .f32 :=
  mulf (F := Ideal) (φ := .f32) (broadcastInDim S1x8192x1024 ![0, 1] bcast_S1x8192_S1x8192x1024_0_1 (Host.divf (F := Ideal) (φ := .f32) (broadcastInDim S1x8192 ![] bcast_S_S1x8192 (mulf (F := Ideal) (φ := .f32) (constant (F := Ideal) S_ .f32 0x3F000000#32) (constant (F := Ideal) S_ .f32 0x3F800000#32))) (broadcastInDim S1x8192 ![] bcast_S_S1x8192 (constant (F := Ideal) S_ .f32 0x44800000#32)))) (mulf (F := Ideal) (φ := .f32) (broadcastInDim S1x8192x1024 ![] bcast_S_S1x8192x1024 (constant (F := Ideal) S_ .f32 0x40000000#32)) (e))

/-- The slope of the mean square. -/
def slopeOf (x y : Vec Ideal S1x8192x1024 .f32) : Vec Ideal S1x8192x1024 .f32 :=
  broadcastInDim S1x8192x1024 ![0, 1] bcast_S1x8192_S1x8192x1024_0_1 (broadcastInDim S1x8192 ![1] bcast_S8192_S1x8192_1 (Host.reduceAdd (F := Ideal) (φ := .f32) (Host.divf (F := Ideal) (φ := .f32) (mulf (F := Ideal) (φ := .f32) (shapeCast S1x8192x1 (Host.reduceAdd (F := Ideal) (φ := .f32) (mulf (F := Ideal) (φ := .f32) (x) (y)) (constant (F := Ideal) S_ .f32 0x00000000#32) reducesTo_S1x8192x1024_S1x8192_d2 h_S_) shapeCasts_S1x8192_S1x8192x1) (mulf (F := Ideal) (φ := .f32) (broadcastInDim S1x8192x1 ![] bcast_S_S1x8192x1 (constant (F := Ideal) S_ .f32 0xBF000000#32)) (Host.divf (F := Ideal) (φ := .f32) (Host.rsqrt (F := Ideal) (φ := .f32) (msOf x)) (msOf x)))) (broadcastInDim S1x8192x1 ![] bcast_S_S1x8192x1 (constant (F := Ideal) S_ .f32 0x44800000#32))) (constant (F := Ideal) S_ .f32 0x00000000#32) reducesTo_S1x8192x1_S8192_d0_2 h_S_))

/-- The gradient of the norm's input. -/
def backOf (x y : Vec Ideal S1x8192x1024 .f32) : Vec Ideal S1x8192x1024 .f32 :=
  addf (F := Ideal) (φ := .f32) (addf (F := Ideal) (φ := .f32) (mulf (F := Ideal) (φ := .f32) (y) (broadcastInDim S1x8192x1024 ![0, 1, 2] bcast_S1x8192x1_S1x8192x1024_0_1_2 (Host.rsqrt (F := Ideal) (φ := .f32) (msOf x)))) (mulf (F := Ideal) (φ := .f32) (x) (slopeOf x y))) (mulf (F := Ideal) (φ := .f32) (slopeOf x y) (x))

/-- The loss from the difference. -/
def lossOf (e : Vec Ideal S1x8192x1024 .f32) : Vec Ideal S_ .f32 :=
  mulf (F := Ideal) (φ := .f32) (constant (F := Ideal) S_ .f32 0x3F000000#32) (Host.reduceAdd (F := Ideal) (φ := .f32) (Host.divf (F := Ideal) (φ := .f32) (Host.reduceAdd (F := Ideal) (φ := .f32) (mulf (F := Ideal) (φ := .f32) (e) (e)) (constant (F := Ideal) S_ .f32 0x00000000#32) reducesTo_S1x8192x1024_S1x8192_d2 h_S_) (broadcastInDim S1x8192 ![] bcast_S_S1x8192 (constant (F := Ideal) S_ .f32 0x44800000#32))) (constant (F := Ideal) S_ .f32 0x00000000#32) reducesTo_S1x8192_S_d0_1 h_S_)

theorem msOf_at (x : Vec Ideal S1x8192x1024 .f32) (r : Fin 8192) : msOf x (ix3 0 r 0) = NormBack.meanSq fun l => x (ix3 0 r l) := by
  unfold msOf
  pointwise
  rfl

theorem xhatOf_at (x : Vec Ideal S1x8192x1024 .f32) (r : Fin 8192) (j : Fin 1024) :
    xhatOf x (ix3 0 r j) = x (ix3 0 r j) * NormBack.rs fun l => x (ix3 0 r l) := by
  unfold xhatOf
  pointwise
  rw [msOf_at]
  rfl

theorem weigh_at (x : Vec Ideal S1x8192x1024 .f32) (w : Vec Ideal S1024 .f32) (r : Fin 8192) (j : Fin 1024) :
    weigh x w (ix3 0 r j) = x (ix3 0 r j) * w (ix1 j) := by
  unfold weigh
  pointwise

theorem doutOf_at (e : Vec Ideal S1x8192x1024 .f32) (r : Fin 8192) (j : Fin 1024) :
    doutOf e (ix3 0 r j) = Ideal.div (Ideal.ofBits .f32 0x3F000000#32 * 1) (Ideal.ofBits .f32 0x44800000#32)
      * (Ideal.ofBits .f32 0x40000000#32 * e (ix3 0 r j)) := by
  unfold doutOf
  pointwise

theorem slopeOf_at (x y : Vec Ideal S1x8192x1024 .f32) (d w : Fin 1024 → EReal) (r : Fin 8192) (j : Fin 1024) (h : ∀ l, y (ix3 0 r l) = d l * w l) :
    slopeOf x y (ix3 0 r j) = NormBack.slope (fun l => x (ix3 0 r l)) d w := by
  unfold slopeOf
  pointwise
  refine (sum_outer _ _ r).trans ?_
  pointwise
  rw [msOf_at]
  simp only [h]
  rfl

theorem backOf_at (x y : Vec Ideal S1x8192x1024 .f32) (d w : Fin 1024 → EReal) (r : Fin 8192) (j : Fin 1024) (h : ∀ l, y (ix3 0 r l) = d l * w l) :
    backOf x y (ix3 0 r j) = d j * w j * NormBack.rs (fun l => x (ix3 0 r l)) + x (ix3 0 r j) * NormBack.slope (fun l => x (ix3 0 r l)) d w
      + NormBack.slope (fun l => x (ix3 0 r l)) d w * x (ix3 0 r j) := by
  unfold backOf
  pointwise
  rw [slopeOf_at x y d w r j h, msOf_at, h]
  rfl

theorem lossOf_at (e : Vec Ideal S1x8192x1024 .f32) (i : S_.Idx) :
    lossOf e i = Ideal.ofBits .f32 0x3F000000#32
      * ∑ r : Fin 8192, Ideal.div (∑ l : Fin 1024, e (ix3 0 r l) * e (ix3 0 r l)) (Ideal.ofBits .f32 0x44800000#32) := by
  unfold lossOf
  pointwise
  exact congrArg (_ * ·) (Fin.sum_univ_one _)

/-- The arrays of the feed-forward: the normed rows, a projection of them, the gated unit, and the rows after the down projection. -/
def nrmArr (x : Vec Ideal S1x8192x1024 .f32) (w : Vec Ideal S1x1024 .f32) : Vec Ideal S1x8192x1024 .f32 :=
  weigh (xhatOf x) (shapeCast S1024 w shapeCasts_S1x1024_S1024)
def prArr (x : Vec Ideal S1x8192x1024 .f32) (w : Vec Ideal S1x1024 .f32) (a : Vec Ideal S1024x2816 .f32) : Vec Ideal S1x8192x2816 .f32 :=
  Host.dotGeneral (F := Ideal) (φ₁ := .f32) (φ₂ := .f32) dot_S1x8192x1024_S1024x2816_S1x8192x2816_2_0_01_1_n_n none (nrmArr x w) a
def actArr (g u : Vec Ideal S1x8192x2816 .f32) : Vec Ideal S1x8192x2816 .f32 :=
  mulf (F := Ideal) (φ := .f32) (mulf (F := Ideal) (φ := .f32) g (Host.divf (F := Ideal) (φ := .f32) (broadcastInDim S1x8192x2816 ![] bcast_S_S1x8192x2816 (constant (F := Ideal) S_ .f32 0x3F800000#32)) (addf (F := Ideal) (φ := .f32) (broadcastInDim S1x8192x2816 ![] bcast_S_S1x8192x2816 (constant (F := Ideal) S_ .f32 0x3F800000#32)) (Host.exp (F := Ideal) (φ := .f32) (Host.negf (F := Ideal) (φ := .f32) g))))) u
def outOf (x : Vec Ideal S1x8192x1024 .f32) (w : Vec Ideal S1x1024 .f32) (g u : Vec Ideal S1024x2816 .f32) (d : Vec Ideal S2816x1024 .f32) :
    Vec Ideal S1x8192x1024 .f32 :=
  addf (F := Ideal) (φ := .f32) x (mulf (F := Ideal) (φ := .f32) (broadcastInDim S1x8192x1024 ![] bcast_S_S1x8192x1024 (constant (F := Ideal) S_ .f32 0x3F000000#32)) (Host.dotGeneral (F := Ideal) (φ₁ := .f32) (φ₂ := .f32) dot_S1x8192x2816_S2816x1024_S1x8192x1024_2_0_01_1_n_n none (actArr (prArr x w g) (prArr x w u)) d))

section Row

variable (x : Vec Ideal S1x8192x1024 .f32) (w : Vec Ideal S1x1024 .f32) (g u : Vec Ideal S1024x2816 .f32) (d : Vec Ideal S2816x1024 .f32)

theorem nrmArr_at (r : Fin 8192) (j : Fin 1024) : nrmArr x w (ix3 0 r j) = Ffn.nrm (fun l => x (ix3 0 r l)) (fun l => w (ix2 0 l)) j := by
  unfold nrmArr Ffn.nrm
  rw [weigh_at, xhatOf_at]
  pointwise

theorem prArr_at (r : Fin 8192) (k : Fin 2816) :
    prArr x w g (ix3 0 r k) = Ffn.pr (fun l => x (ix3 0 r l)) (fun l => w (ix2 0 l)) (fun l k => g (ix2 l k)) k := by
  unfold prArr Ffn.pr
  pointwise
  simp only [nrmArr_at]

theorem actArr_at (a b : Vec Ideal S1x8192x2816 .f32) (r : Fin 8192) (k : Fin 2816) :
    actArr a b (ix3 0 r k) = Silu.act (a (ix3 0 r k)) (b (ix3 0 r k)) := by
  unfold actArr
  pointwise
  rfl

theorem outOf_at (r : Fin 8192) (j : Fin 1024) :
    outOf x w g u d (ix3 0 r j) = Ffn.out (fun l => x (ix3 0 r l)) (fun l => w (ix2 0 l)) (fun l k => g (ix2 l k)) (fun l k => u (ix2 l k))
      (fun k l => d (ix2 k l)) j := by
  unfold outOf Ffn.out
  pointwise
  simp only [actArr_at, prArr_at]

end Row

/-- The columns cut into four groups. -/
def cutArr (v : Vec Ideal S1x8192x2816 .f32) : Vec Ideal S4x8192x704 .bf16 := truncf (F := Ideal) (φ := .f32) .bf16 (transpose S4x8192x704 [1, 0, 2] (shapeCast S8192x4x704 (shapeCast S8192x2816 (v) shapeCasts_S1x8192x2816_S8192x2816) shapeCasts_S8192x2816_S8192x4x704) transposes_S8192x4x704_S4x8192x704_1_0_2) bitsLt_bf16_f32

theorem cutArr_at (v : Vec Ideal S1x8192x2816 .f32) (s : Fin 4) (r : Fin 8192) (x : Fin 704) : cutArr v (ix3 s r x) = v (ix3 0 r (col s x)) := by
  unfold cutArr Ffn.col
  pointwise

variable (m : (ℓ : Loc nD τ sig) → Buf (Elt Ideal) ℓ) (c : Dev nD)

def hid (r : Fin 8192) (j : Fin 1024) : EReal := m ((c : Thread nD τ).loc main_arg0) (ix3 0 r j)
def nw (j : Fin 1024) : EReal := m ((c : Thread nD τ).loc main_arg1) (ix2 0 j)
def wg (j : Fin 1024) (k : Fin 2816) : EReal := m ((c : Thread nD τ).loc main_arg2) (ix2 j k)
def wu (j : Fin 1024) (k : Fin 2816) : EReal := m ((c : Thread nD τ).loc main_arg3) (ix2 j k)
def wd (k : Fin 2816) (j : Fin 1024) : EReal := m ((c : Thread nD τ).loc main_arg4) (ix2 k j)
def fw (j : Fin 1024) : EReal := m ((c : Thread nD τ).loc main_arg5) (ix1 j)
def tg (r : Fin 8192) (j : Fin 1024) : EReal := m ((c : Thread nD τ).loc main_arg6) (ix3 0 r j)

def nrm (r : Fin 8192) (j : Fin 1024) : EReal := Ffn.nrm (hid m c r) (nw m c) j
def gv (r : Fin 8192) (k : Fin 2816) : EReal := Ffn.pr (hid m c r) (nw m c) (wg m c) k
def uv (r : Fin 8192) (k : Fin 2816) : EReal := Ffn.pr (hid m c r) (nw m c) (wu m c) k
def out (r : Fin 8192) (j : Fin 1024) : EReal := Ffn.out (hid m c r) (nw m c) (wg m c) (wu m c) (wd m c) j
def xhat (r : Fin 8192) (j : Fin 1024) : EReal := out m c r j * NormBack.rs (out m c r)
def err (r : Fin 8192) (j : Fin 1024) : EReal := xhat m c r j * fw m c j - tg m c r j

/-- The loss's cotangent of the last norm's rows, as the derivative leaves it. -/
def dout (r : Fin 8192) (j : Fin 1024) : EReal :=
  Ideal.div (Ideal.ofBits .f32 0x3F000000#32 * 1) (Ideal.ofBits .f32 0x44800000#32) * (Ideal.ofBits .f32 0x40000000#32 * err m c r j)

/-- The arrays of the run: the residual stream after the feed-forward, the difference from
    the target, and its cotangent. -/
def outArr : Vec Ideal S1x8192x1024 .f32 :=
  outOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))
def errArr : Vec Ideal S1x8192x1024 .f32 := subf (F := Ideal) (φ := .f32) (weigh (xhatOf (outArr m c)) (m ((c.tc : Thread nD τ).loc main_arg5))) ((m ((c.tc : Thread nD τ).loc main_arg6)))
def doutArr : Vec Ideal S1x8192x1024 .f32 := doutOf (errArr m c)

/-- The sum over the rows of a sequence, as the run takes it. -/
def colSum (v : Vec Ideal S1x8192x1024 .f32) : Vec Ideal S1024 .f32 :=
  Host.reduceAdd (F := Ideal) (φ := .f32) (shapeCast S1x1x1024 (Host.reduceAdd (F := Ideal) (φ := .f32) v (constant (F := Ideal) S_ .f32 0x00000000#32) reducesTo_S1x8192x1024_S1x1024_d1 h_S_) shapeCasts_S1x1024_S1x1x1024) (constant (F := Ideal) S_ .f32 0x00000000#32) reducesTo_S1x1x1024_S1024_d0_1 h_S_

theorem colSum_at (v : Vec Ideal S1x8192x1024 .f32) (j : Fin 1024) : colSum v (ix1 j) = ∑ t : Fin 8192, v (ix3 0 t j) := by
  unfold colSum
  refine (sum_ones _ _ j).trans ?_
  pointwise

def dxTerm : Buf (Elt Ideal) ((c.tc : Thread nD τ).loc main_v74) :=
  shapeCast S8192x1024 (backOf (outArr m c) (weigh (doutArr m c) (m ((c.tc : Thread nD τ).loc main_arg5)))) shapeCasts_S1x8192x1024_S8192x1024
def nTerm : Buf (Elt Ideal) ((c.tc : Thread nD τ).loc main_v76) :=
  truncf (F := Ideal) (φ := .f32) .bf16 (shapeCast S8192x1024 (nrmArr (m ((c.tc : Thread nD τ).loc main_arg0)) (m ((c.tc : Thread nD τ).loc main_arg1))) shapeCasts_S1x8192x1024_S8192x1024) bitsLt_bf16_f32
def gTerm : Buf (Elt Ideal) ((c.tc : Thread nD τ).loc main_v80) := cutArr (prArr (m ((c.tc : Thread nD τ).loc main_arg0)) (m ((c.tc : Thread nD τ).loc main_arg1)) (m ((c.tc : Thread nD τ).loc main_arg2)))
def uTerm : Buf (Elt Ideal) ((c.tc : Thread nD τ).loc main_v84) := cutArr (prArr (m ((c.tc : Thread nD τ).loc main_arg0)) (m ((c.tc : Thread nD τ).loc main_arg1)) (m ((c.tc : Thread nD τ).loc main_arg3)))
def lossTerm : Buf (Elt Ideal) ((c.tc : Thread nD τ).loc main_v85) := broadcastInDim S8x128 ![] bcast_S_S8x128 (lossOf (errArr m c))
def dwTerm : Buf (Elt Ideal) ((c.tc : Thread nD τ).loc main_v86) :=
  broadcastInDim S1x1024 ![1] bcast_S1024_S1x1024_1 (colSum (mulf (F := Ideal) (φ := .f32) (xhatOf (outArr m c)) (doutArr m c)))

theorem res_dx : res_main_v74 m c = dxTerm m c := by
  unfold res_main_v74 dxTerm backOf slopeOf doutArr doutOf errArr outArr outOf actArr prArr nrmArr weigh xhatOf msOf
  rfl

theorem res_loss : res_main_v85 m c = lossTerm m c := by
  unfold res_main_v85 lossTerm lossOf errArr outArr outOf actArr prArr nrmArr weigh xhatOf msOf
  rfl

theorem res_dw : res_main_v86 m c = dwTerm m c := by
  unfold res_main_v86 dwTerm colSum doutArr doutOf errArr outArr outOf actArr prArr nrmArr weigh xhatOf msOf
  rfl

theorem outArr_at (r : Fin 8192) (j : Fin 1024) : outArr m c (ix3 0 r j) = out m c r j := outOf_at _ _ _ _ _ r j

theorem out_row (r : Fin 8192) : (fun l => outArr m c (ix3 0 r l)) = out m c r := funext fun l => outArr_at m c r l

theorem xhatArr_at (r : Fin 8192) (j : Fin 1024) : xhatOf (outArr m c) (ix3 0 r j) = xhat m c r j := by
  rw [xhatOf_at, out_row, outArr_at]
  rfl

theorem errArr_at (r : Fin 8192) (j : Fin 1024) : errArr m c (ix3 0 r j) = err m c r j := by
  unfold errArr err
  pointwise
  rw [weigh_at, xhatArr_at]
  rfl

theorem doutArr_at (r : Fin 8192) (j : Fin 1024) : doutArr m c (ix3 0 r j) = dout m c r j := by
  unfold doutArr
  rw [doutOf_at, errArr_at]
  rfl

theorem dx_at (r : Fin 8192) (j : Fin 1024) :
    dxTerm m c (ix2 r j) = dout m c r j * fw m c j * NormBack.rs (out m c r) + out m c r j * NormBack.slope (out m c r) (dout m c r) (fw m c)
      + NormBack.slope (out m c r) (dout m c r) (fw m c) * out m c r j := by
  have e := backOf_at (outArr m c) (weigh (doutArr m c) (m ((c.tc : Thread nD τ).loc main_arg5))) (dout m c r) (fw m c) r j fun l => by
    rw [weigh_at, doutArr_at]
    rfl
  rw [out_row, outArr_at] at e
  refine Eq.trans ?_ e
  unfold dxTerm
  generalize backOf (outArr m c) (weigh (doutArr m c) (m ((c.tc : Thread nD τ).loc main_arg5))) = z
  pointwise

theorem n_at (r : Fin 8192) (j : Fin 1024) : nTerm m c (ix2 r j) = nrm m c r j := by
  refine Eq.trans ?_ (nrmArr_at (m ((c.tc : Thread nD τ).loc main_arg0)) (m ((c.tc : Thread nD τ).loc main_arg1)) r j)
  unfold nTerm
  generalize nrmArr (m ((c.tc : Thread nD τ).loc main_arg0)) (m ((c.tc : Thread nD τ).loc main_arg1)) = z
  pointwise

theorem g_at (s : Fin 4) (r : Fin 8192) (x : Fin 704) : gTerm m c (ix3 s r x) = gv m c r (col s x) :=
  (cutArr_at _ s r x).trans (prArr_at _ _ _ r _)

theorem u_at (s : Fin 4) (r : Fin 8192) (x : Fin 704) : uTerm m c (ix3 s r x) = uv m c r (col s x) :=
  (cutArr_at _ s r x).trans (prArr_at _ _ _ r _)

theorem loss_at (p : Fin 8) (q : Fin 128) :
    lossTerm m c (ix2 p q) = Ideal.ofBits .f32 0x3F000000#32
      * ∑ r : Fin 8192, Ideal.div (∑ l : Fin 1024, err m c r l * err m c r l) (Ideal.ofBits .f32 0x44800000#32) := by
  refine Eq.trans ?_ ((lossOf_at (errArr m c) (fun a => a.elim0)).trans ?_)
  · unfold lossTerm
    generalize lossOf (errArr m c) = z
    pointwise
    exact congrArg z (funext fun a => a.elim0)
  · simp only [errArr_at]

theorem dw_at (j : Fin 1024) : dwTerm m c (ix2 0 j) = ∑ r : Fin 8192, xhat m c r j * dout m c r j := by
  unfold dwTerm
  pointwise
  refine (colSum_at _ j).trans (Finset.sum_congr rfl fun r _ => ?_)
  pointwise
  rw [xhatArr_at, doutArr_at]

/-- The reference's run. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v74) = res_main_v74 m c ∧ r.2.mem ((c.tc : Thread nD τ).loc main_v76) = nTerm m c
      ∧ r.2.mem ((c.tc : Thread nD τ).loc main_v80) = gTerm m c ∧ r.2.mem ((c.tc : Thread nD τ).loc main_v84) = uTerm m c
      ∧ r.2.mem ((c.tc : Thread nD τ).loc main_v85) = res_main_v85 m c ∧ r.2.mem ((c.tc : Thread nD τ).loc main_v86) = res_main_v86 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := Value.run m ρ

end Cert.HeadProof.Ref
-- ==== Proof.Head.Claim.lean ====
/- The last feed-forward and the loss: the two programs' results are the same. -/
module
public import proofs.«01_k».proof.Proof.Head.Final
public import proofs.«01_k».proof.Proof.Head.Ref
public import proofs.«01_k».proof.Defs
public import Idealize.ShloMosaic.Lib.Claim

@[expose] public section

noncomputable section

namespace Cert.HeadProof

open Idealize.ShloMosaic Idealize.ShloMosaic.TcCoe Idealize.SL.Sem

/-- The loss's two scales: the half over the row's length, and the square's derivative times it. -/
theorem c_half : Ideal.ofBits .f32 0x3F000000#32 = ((1 / 2 : ℝ) : EReal) := by
  simp [Ideal.ofBits, Ideal.ieee, -EReal.coe_mul, -EReal.coe_neg]
  norm_num

theorem c_two : Ideal.ofBits .f32 0x40000000#32 = ((2 : ℝ) : EReal) := by
  simp [Ideal.ofBits, Ideal.ieee, -EReal.coe_mul, -EReal.coe_neg]
  norm_num

theorem c_loss : Ideal.ofBits .f32 0x3A000000#32 = ((1 / 2048 : ℝ) : EReal) := by
  simp [Ideal.ofBits, Ideal.ieee, -EReal.coe_mul, -EReal.coe_neg]
  norm_num

theorem c_mean : Ideal.ofBits .f32 0x3A800000#32 = ((1 / 1024 : ℝ) : EReal) := by
  simp [Ideal.ofBits, Ideal.ieee, -EReal.coe_mul, -EReal.coe_neg]
  norm_num

/-- The derivative's scale of a difference is the kernel's. -/
theorem scale_eq (e : EReal) :
    Ideal.div (Ideal.ofBits .f32 0x3F000000#32 * 1) (Ideal.ofBits .f32 0x44800000#32) * (Ideal.ofBits .f32 0x40000000#32 * e)
      = e * Ideal.ofBits .f32 0x3A800000#32 := by
  rw [mul_one, c_half, NormBack.c1024, Ideal.div_coe (by norm_num), c_two, c_mean, ← EReal.coe_mul, ← mul_assoc, ← EReal.coe_mul, mul_comm e]
  exact congrArg (fun z : ℝ => (z : EReal) * e) (by norm_num)

/-- The blocks' parts of the loss add up to the half of the rows' means. -/
theorem loss_sum (S : Fin 8192 → EReal) (h : ∀ r, ∃ x : ℝ, S r = x) :
    Ideal.ofBits .f32 0x3F000000#32 * ∑ r, Ideal.div (S r) (Ideal.ofBits .f32 0x44800000#32)
      = ∑ t : Fin 16, Ideal.ofBits .f32 0x3A000000#32 * ∑ r : Fin 512, S ⟨t.val * 512 + r.val, by omega⟩ := by
  choose s hs using h
  obtain rfl : S = fun r => (s r : EReal) := funext hs
  rw [c_half, c_loss, NormBack.c1024]
  simp only [Ideal.div_coe (show (1024 : ℝ) ≠ 0 by norm_num), ← EReal.coe_mul, NormBack.coe_sum]
  refine congrArg _ ?_
  rw [← Finset.sum_mul, ← Finset.mul_sum, ← Fin.sum_mul_add_fin 16 512 s (by decide)]
  ring

section Agree

variable (m : (ℓ : Loc Cert.HeadIdeal.nD Cert.HeadIdeal.τ Cert.HeadIdeal.sig) → Buf (Elt Ideal) ℓ)
  (m' : (ℓ : Loc Cert.HeadRefIdeal.nD Cert.HeadRefIdeal.τ Cert.HeadRefIdeal.sig) → Buf (Elt Ideal) ℓ) (c : Dev Cert.HeadIdeal.nD)

/-- The two programs' arguments are the same arrays. -/
def Same : Prop :=
  Ref.hid m' c = hid m c ∧ Ref.nw m' c = nw m c ∧ Ref.wg m' c = wg m c ∧ Ref.wu m' c = wu m c ∧ Ref.wd m' c = wd m c
    ∧ Ref.fw m' c = fw m c ∧ Ref.tg m' c = tg m c

/-- Every argument holds reals. -/
def Real : Prop :=
  (∀ r j, ∃ x : ℝ, hid m c r j = x) ∧ (∀ j, ∃ x : ℝ, nw m c j = x) ∧ (∀ j k, ∃ x : ℝ, wg m c j k = x) ∧ (∀ j k, ∃ x : ℝ, wu m c j k = x)
    ∧ (∀ k j, ∃ x : ℝ, wd m c k j = x) ∧ (∀ j, ∃ x : ℝ, fw m c j = x) ∧ (∀ r j, ∃ x : ℝ, tg m c r j = x)

theorem nrm_eq (h : Same m m' c) : Ref.nrm m' c = nrm m c := by
  unfold Ref.nrm nrm
  rw [h.1, h.2.1]

theorem gv_eq (h : Same m m' c) : Ref.gv m' c = gv m c := by
  unfold Ref.gv gv
  rw [h.1, h.2.1, h.2.2.1]

theorem uv_eq (h : Same m m' c) : Ref.uv m' c = uv m c := by
  unfold Ref.uv uv
  rw [h.1, h.2.1, h.2.2.2.1]

theorem out_eq (h : Same m m' c) : Ref.out m' c = out m c := by
  unfold Ref.out out
  rw [h.1, h.2.1, h.2.2.1, h.2.2.2.1, h.2.2.2.2.1]

theorem xhat_eq (h : Same m m' c) : Ref.xhat m' c = xhat m c := by
  unfold Ref.xhat xhat
  rw [out_eq m m' c h]

theorem err_eq (h : Same m m' c) : Ref.err m' c = err m c := by
  unfold Ref.err err
  rw [xhat_eq m m' c h, h.2.2.2.2.2.1, h.2.2.2.2.2.2]

theorem dout_eq (h : Same m m' c) : Ref.dout m' c = dout m c := by
  unfold Ref.dout dout
  rw [err_eq m m' c h]
  exact funext fun r => funext fun j => scale_eq _

theorem act_real {g u : EReal} (hg : ∃ x : ℝ, g = x) (hu : ∃ x : ℝ, u = x) : ∃ x : ℝ, Silu.act g u = x := by
  obtain ⟨g, rfl⟩ := hg
  exact NormBack.real_mul (NormBack.real_mul ⟨g, rfl⟩ ⟨_, Silu.sg_coe g⟩) hu

theorem nrm_real (h : Real m c) (r : Fin 8192) (j : Fin 1024) : ∃ x : ℝ, nrm m c r j = x :=
  NormBack.real_mul (NormBack.real_mul (h.1 r j) (NormBack.rs_real (h.1 r))) (h.2.1 j)

theorem out_real (h : Real m c) (r : Fin 8192) (j : Fin 1024) : ∃ x : ℝ, out m c r j = x :=
  NormBack.real_add (h.1 r j) (NormBack.real_mul ⟨_, c_half⟩ (NormBack.real_sum fun k => NormBack.real_mul
    (act_real (NormBack.real_sum fun j => NormBack.real_mul (nrm_real m c h r j) (h.2.2.1 j k))
      (NormBack.real_sum fun j => NormBack.real_mul (nrm_real m c h r j) (h.2.2.2.1 j k))) (h.2.2.2.2.1 k j)))

theorem err_real (h : Real m c) (r : Fin 8192) (j : Fin 1024) : ∃ x : ℝ, err m c r j = x := by
  obtain ⟨a, ha⟩ := NormBack.real_mul (NormBack.real_mul (out_real m c h r j) (NormBack.rs_real (out_real m c h r))) (h.2.2.2.2.2.1 j)
  obtain ⟨b, hb⟩ := h.2.2.2.2.2.2 r j
  exact ⟨a - b, (congrArg₂ (· - ·) ha hb).trans (EReal.coe_sub a b).symm⟩

theorem dx_eq (h : Same m m' c) (hr : Real m c) :
    Ref.dxTerm m' c = (Cert.HeadIdeal.Gen.dats m 0 c).arrAt 4 Cert.HeadIdeal.cfg0.N := by
  rw [final_dx]
  refine funext fun i => ?_
  refine (congrArg (Ref.dxTerm m' c) (idx2 i)).trans ((Ref.dx_at m' c (i 0) (i 1)).trans ?_)
  rw [dout_eq m m' c h, out_eq m m' c h, h.2.2.2.2.2.1]
  have e := NormBack.chain_eq 0 (out m c (i 0)) (dout m c (i 0)) (fw m c) (out_real m c hr _)
    (fun l => NormBack.real_mul (err_real m c hr _ l) ⟨_, c_mean⟩) hr.2.2.2.2.2.1 (i 1)
  rw [zero_add, zero_add] at e
  exact e

theorem n_eq (h : Same m m' c) : Ref.nTerm m' c = (Cert.HeadIdeal.Gen.dats m 0 c).arrAt 5 Cert.HeadIdeal.cfg0.N := by
  rw [final_n]
  refine funext fun i => ?_
  refine (congrArg (Ref.nTerm m' c) (idx2 i)).trans ((Ref.n_at m' c (i 0) (i 1)).trans ?_)
  rw [nrm_eq m m' c h]

theorem g_eq (h : Same m m' c) : Ref.gTerm m' c = (Cert.HeadIdeal.Gen.dats m 0 c).arrAt 6 Cert.HeadIdeal.cfg0.N := by
  rw [final_g]
  refine funext fun i => ?_
  refine (congrArg (Ref.gTerm m' c) (idx3 i)).trans ((Ref.g_at m' c (i 0) (i 1) (i 2)).trans ?_)
  rw [gv_eq m m' c h]

theorem u_eq (h : Same m m' c) : Ref.uTerm m' c = (Cert.HeadIdeal.Gen.dats m 0 c).arrAt 7 Cert.HeadIdeal.cfg0.N := by
  rw [final_u]
  refine funext fun i => ?_
  refine (congrArg (Ref.uTerm m' c) (idx3 i)).trans ((Ref.u_at m' c (i 0) (i 1) (i 2)).trans ?_)
  rw [uv_eq m m' c h]

theorem loss_eq (h : Same m m' c) (hr : Real m c) :
    Ref.lossTerm m' c = (Cert.HeadIdeal.Gen.dats m 0 c).arrAt 8 Cert.HeadIdeal.cfg0.N := by
  rw [final_loss]
  refine funext fun i => ?_
  refine (congrArg (Ref.lossTerm m' c) (idx2 i)).trans ((Ref.loss_at m' c (i 0) (i 1)).trans ?_)
  rw [err_eq m m' c h]
  refine (loss_sum (fun r => ∑ l, err m c r l * err m c r l) fun r =>
    NormBack.real_sum fun l => NormBack.real_mul (err_real m c hr r l) (err_real m c hr r l)).trans ?_
  unfold lossAt lossPart
  exact (Fintype.sum_equiv (finCongr Cert.HeadIdeal.Gen.N_0) _ _ fun t => rfl).symm

theorem dw_eq (h : Same m m' c) : Ref.dwTerm m' c = (Cert.HeadIdeal.Gen.dats m 0 c).arrAt 9 Cert.HeadIdeal.cfg0.N := by
  rw [final_dw]
  refine funext fun i => ?_
  have hi : i = ix2 0 (i 1) := by
    funext a
    match a with
    | ⟨0, _⟩ => exact Fin.ext (by have h : (i 0).val < 1 := (i 0).isLt; show (i 0).val = 0; omega)
    | ⟨1, _⟩ => rfl
  refine (congrArg (Ref.dwTerm m' c) hi).trans ((Ref.dw_at m' c (i 1)).trans ?_)
  rw [xhat_eq m m' c h, dout_eq m m' c h]
  exact Finset.sum_congr (M := EReal) rfl fun r _ => mul_comm (G := EReal) _ _

end Agree

theorem real_of_pre [Cert.Pre_head_finite.Facts] (m : (ℓ : Loc Cert.HeadIdeal.nD Cert.HeadIdeal.τ Cert.HeadIdeal.sig) → Buf (Elt Ideal) ℓ)
    (h : Cert.Pre_HeadIdeal_head_finite m) (c : Dev Cert.HeadIdeal.nD) : Real m c := by
  obtain ⟨h0, h1, h2, h3, h4, h5, h6⟩ := h c
  exact ⟨fun r j => NormBack.real_of_flag _ _ (fun _ => rfl) h0 _, fun j => NormBack.real_of_flag _ _ (fun _ => rfl) h1 _,
    fun j k => NormBack.real_of_flag _ _ (fun _ => rfl) h2 _, fun j k => NormBack.real_of_flag _ _ (fun _ => rfl) h3 _,
    fun k j => NormBack.real_of_flag _ _ (fun _ => rfl) h4 _, fun j => NormBack.real_of_flag _ _ (fun _ => rfl) h5 _,
    fun r j => NormBack.real_of_flag _ _ (fun _ => rfl) h6 _⟩

theorem algebraic [Cert.Pre_head_finite.Facts] : Cert.algebraic_HeadIdeal_HeadRefIdeal_pre_head_finite := by
  intro m g m' g' hpre hagree
  have hs : ∀ c, Same m m' c := fun c => by
    obtain ⟨h0, h1, h2, h3, h4, h5, h6⟩ := hagree c
    exact ⟨funext fun r => funext fun j => congrFun h0 _, funext fun j => congrFun h1 _, funext fun j => funext fun k => congrFun h2 _,
      funext fun j => funext fun k => congrFun h3 _, funext fun k => funext fun j => congrFun h4 _, funext fun j => congrFun h5 _,
      funext fun r => funext fun j => congrFun h6 _⟩
  refine ⟨fun c => (Cert.HeadIdeal.Gen.dats m 0 c).arrAt 4 Cert.HeadIdeal.cfg0.N,
    fun c => (Cert.HeadIdeal.Gen.dats m 0 c).arrAt 5 Cert.HeadIdeal.cfg0.N,
    fun c => (Cert.HeadIdeal.Gen.dats m 0 c).arrAt 6 Cert.HeadIdeal.cfg0.N,
    fun c => (Cert.HeadIdeal.Gen.dats m 0 c).arrAt 7 Cert.HeadIdeal.cfg0.N,
    fun c => (Cert.HeadIdeal.Gen.dats m 0 c).arrAt 8 Cert.HeadIdeal.cfg0.N,
    fun c => (Cert.HeadIdeal.Gen.dats m 0 c).arrAt 9 Cert.HeadIdeal.cfg0.N, Cert.HeadIdeal.Value.run_blocks m g, ?_⟩
  refine (θ_run Cert.HeadRefIdeal.defs _ _).mono (fun r h c => ?_) (Ref.run m' g')
  have hr := real_of_pre m hpre c
  obtain ⟨e0, e1, e2, e3, e4, e5, e⟩ := h c
  exact ⟨(e0.trans (Ref.res_dx m' c)).trans (dx_eq m m' c (hs c) hr), e1.trans (n_eq m m' c (hs c)), e2.trans (g_eq m m' c (hs c)),
    e3.trans (u_eq m m' c (hs c)), (e4.trans (Ref.res_loss m' c)).trans (loss_eq m m' c (hs c) hr),
    (e5.trans (Ref.res_dw m' c)).trans (dw_eq m m' c (hs c)), e⟩

end Cert.HeadProof
-- ==== Proof.FfnFwd.Entry.lean ====
/- The arrays the first feed-forward is launched over, entry by entry in the program's own arguments, and the block each point sees
   of them. -/
module

public import proofs.«01_k».proof.Proof.Gen.FfnFwdIdeal.Value
public import proofs.«01_k».proof.Proof.Lib.Ffn
public import Idealize.ShloMosaic.Lib.Pipeline.ValueKit
public import Idealize.ShloMosaic.Lib.StableHlo.ReadAt
public import Idealize.ShloMosaic.Lib.Pointwise

@[expose] public section

set_option maxRecDepth 16384

noncomputable section

namespace Cert.FfnFwdProof

open Idealize.ShloMosaic Idealize.ShloMosaic.TcCoe Idealize.SL.Sem Cert.FfnFwdIdeal Cert.FfnFwdIdeal.Gen
open Idealize.ShloMosaic.Pipeline (Dat)
open Cert.Ffn (col)

variable (m : (ℓ : Loc nD τ sig) → Buf (Elt Ideal) ℓ) (c : Dev nD)

/-- The residual stream before the feed-forward. -/
def hid (r : Fin 8192) (j : Fin 1024) : EReal := m ((c : Thread nD τ).loc main_arg0) (ix3 0 r j)

/-- The weight of the feed-forward's norm. -/
def nw (j : Fin 1024) : EReal := m ((c : Thread nD τ).loc main_arg1) (ix2 0 j)

/-- The weights of the gate, the up and the down projection. -/
def wg (j : Fin 1024) (k : Fin 2816) : EReal := m ((c : Thread nD τ).loc main_arg2) (ix2 j k)
def wu (j : Fin 1024) (k : Fin 2816) : EReal := m ((c : Thread nD τ).loc main_arg3) (ix2 j k)
def wd (k : Fin 2816) (j : Fin 1024) : EReal := m ((c : Thread nD τ).loc main_arg4) (ix2 k j)

/-- The normed row, the gate's and the up projection's values, and the residual stream after the feed-forward. -/
def nrm (r : Fin 8192) (j : Fin 1024) : EReal := Ffn.nrm (hid m c r) (nw m c) j
def gv (r : Fin 8192) (k : Fin 2816) : EReal := Ffn.pr (hid m c r) (nw m c) (wg m c) k
def uv (r : Fin 8192) (k : Fin 2816) : EReal := Ffn.pr (hid m c r) (nw m c) (wu m c) k
def out (r : Fin 8192) (j : Fin 1024) : EReal := Ffn.out (hid m c r) (nw m c) (wg m c) (wu m c) (wd m c) j

theorem entry_hid (r : Fin 8192) (l : Fin 1024) : V m c main_v0 (ix2 r l) = hid m c r l := by
  unfold V hid
  after_reads_at

theorem entry_nw (l : Fin 1024) : V m c main_arg1 (ix2 0 l) = nw m c l := by
  unfold V nw
  after_reads_at

theorem entry_wg (s : Fin 4) (j : Fin 1024) (x : Fin 704) : V m c main_v3 (ix3 s j x) = wg m c j (col s x) := by
  unfold V wg Ffn.col
  after_reads_at

theorem entry_wu (s : Fin 4) (j : Fin 1024) (x : Fin 704) : V m c main_v6 (ix3 s j x) = wu m c j (col s x) := by
  unfold V wu Ffn.col
  after_reads_at

theorem entry_wd (s : Fin 4) (x : Fin 704) (j : Fin 1024) : V m c main_v8 (ix3 s x j) = wd m c (col s x) j := by
  unfold V wd Ffn.col
  after_reads_at

theorem idx : ∀ t : Fin cfg0.N, win0_0.index t = ![t.val, 0] ∧ win0_1.index t = ![0, 0] ∧ win0_2.index t = ![t.val, 0]
    ∧ win0_3.index t = ![t.val, 0] ∧ win0_4.index t = ![0, t.val, 0] ∧ win0_5.index t = ![0, t.val, 0] :=
  (by decide +kernel : ∀ t : Fin grid0.N, _)

/-- Row `r` of the block that point `t` works on, as a row of the arrays. -/
def row (t : Fin cfg0.N) (r : Fin 512) : Fin 8192 :=
  ⟨t.val * 512 + r.val, by have hN := lt_of_lt_of_eq t.isLt (show cfg0.N = 16 from N_0); omega⟩

theorem blk_hid (t : Fin cfg0.N) (r : Fin 512) (l : Fin 1024) : iblk m c 0 t (ix2 r l) = hid m c (row t r) l := by
  refine Eq.trans ?_ (entry_hid m c (row t r) l)
  unfold row
  blk_ext [iblk, idx t]

theorem blk_nw (t : Fin cfg0.N) (l : Fin 1024) : iblk m c 1 t (ix2 0 l) = nw m c l := by
  refine Eq.trans ?_ (entry_nw m c l)
  blk_ext [iblk, idx t]

end Cert.FfnFwdProof
-- ==== Proof.FfnFwd.Points.lean ====
/- What every point of the first feed-forward leaves in its four outputs and in the weight buffers it carries. The block's values are
   those of the last feed-forward's block: the two bodies' values are the same terms. -/
module

public import proofs.«01_k».proof.Proof.FfnFwd.Entry
public import proofs.«01_k».proof.Proof.Head.Block
public import Idealize.ShloMosaic.Lib.Pipeline.ReadBack

@[expose] public section

set_option maxRecDepth 16384

noncomputable section

namespace Cert.FfnFwdProof

open Idealize.ShloMosaic Idealize.ShloMosaic.TcCoe Idealize.SL.Sem Cert.FfnFwdIdeal Cert.FfnFwdIdeal.Gen
open Idealize.ShloMosaic.Pipeline (Dat)
open Cert.Groups
open Cert.Ffn (col)

variable (m : (ℓ : Loc nD τ sig) → Buf (Elt Ideal) ℓ) (c : Dev nD)

/-- What the point sees, as rows and groups of columns. -/
theorem rows (t : Fin cfg0.N) : HeadProof.Rows (iblk m c 0 t) (iblk m c 1 t) (fun r => hid m c (row t r)) (nw m c) :=
  ⟨blk_hid m c t, blk_nw m c t⟩

/-- The first point copies the weights in. -/
theorem kept_first (t : Fin cfg0.N) (h : t.val % 16 = 0) :
    (outsAt0 m c t.val t.isLt).2.2.2.2 = (V m c main_v3, V m c main_v6, V m c main_v8) := by
  rw [outsAt0_A m c t h]
  dsimp only
  refine Prod.ext ?_ (Prod.ext ?_ ?_)
  · dsimp only
    frame_out
    rw [canon_whole]
    rfl
  · dsimp only
    frame_out
    rw [canon_whole]
    rfl
  · dsimp only
    frame_out
    rw [canon_whole]
    rfl

/-- Every later point leaves them. -/
theorem kept_next (t : Fin cfg0.N) (h : ¬ t.val % 16 = 0) :
    (outsAt0 m c t.val t.isLt).2.2.2.2 = (outsAt0 m c (t.val - 1) (Nat.lt_of_le_of_lt (Nat.sub_le _ _) t.isLt)).2.2.2.2 := by
  rw [outsAt0_B m c t h]
  dsimp only
  rfl

theorem kept (n : ℕ) (hn : n < cfg0.N) :
    (outsAt0 m c n hn).2.2.2.2 = (V m c main_v3, V m c main_v6, V m c main_v8) := by
  induction n with
  | zero => exact kept_first m c ⟨0, hn⟩ rfl
  | succ n ih =>
    by_cases h : (n + 1) % 16 = 0
    · exact kept_first m c ⟨n + 1, hn⟩ h
    · exact (kept_next m c ⟨n + 1, hn⟩ h).trans (ih _)

theorem out_h (t : Fin cfg0.N) (r : Fin 512) (j : Fin 1024) : (outsAt0 m c t.val t.isLt).1 (ix2 r j) = out m c (row t r) j := by
  refine Eq.trans ?_ (HeadProof.out_blk (rows m c t) (entry_wg m c) (entry_wu m c) (entry_wd m c) r j)
  by_cases ht : t.val % 16 = 0
  · rw [outsAt0_A m c t ht]
    dsimp only
    frame_out
    simp only [readCov_whole]
    rfl
  · rw [outsAt0_B m c t ht]
    dsimp only
    frame_out
    simp only [read_unread_whole, kept m c (t.val - 1) (Nat.lt_of_le_of_lt (Nat.sub_le _ _) t.isLt)]
    rfl

theorem out_n (t : Fin cfg0.N) (r : Fin 512) (j : Fin 1024) : (outsAt0 m c t.val t.isLt).2.1 (ix2 r j) = nrm m c (row t r) j := by
  refine Eq.trans ?_ (HeadProof.nrm_blk (rows m c t) r j)
  by_cases ht : t.val % 16 = 0
  · rw [outsAt0_A m c t ht]
    dsimp only
    frame_out
    rfl
  · rw [outsAt0_B m c t ht]
    dsimp only
    frame_out
    rfl

theorem out_g (t : Fin cfg0.N) (s : Fin 4) (r : Fin 512) (x : Fin 704) :
    (outsAt0 m c t.val t.isLt).2.2.1 (ix3 s r x) = gv m c (row t r) (col s x) := by
  refine Eq.trans ?_ (HeadProof.stored_blk (rows m c t) (entry_wg m c) s r x)
  by_cases ht : t.val % 16 = 0
  · rw [outsAt0_A m c t ht]
    dsimp only
    frame_out
    simp only [readCov_whole]
    rfl
  · rw [outsAt0_B m c t ht]
    dsimp only
    frame_out
    simp only [read_unread_whole, kept m c (t.val - 1) (Nat.lt_of_le_of_lt (Nat.sub_le _ _) t.isLt)]
    rfl

theorem out_u (t : Fin cfg0.N) (s : Fin 4) (r : Fin 512) (x : Fin 704) :
    (outsAt0 m c t.val t.isLt).2.2.2.1 (ix3 s r x) = uv m c (row t r) (col s x) := by
  refine Eq.trans ?_ (HeadProof.stored_blk (rows m c t) (entry_wu m c) s r x)
  by_cases ht : t.val % 16 = 0
  · rw [outsAt0_A m c t ht]
    dsimp only
    frame_out
    simp only [readCov_whole]
    rfl
  · rw [outsAt0_B m c t ht]
    dsimp only
    frame_out
    simp only [read_unread_whole, kept m c (t.val - 1) (Nat.lt_of_le_of_lt (Nat.sub_le _ _) t.isLt)]
    rfl

end Cert.FfnFwdProof
-- ==== Proof.FfnFwd.Final.lean ====
/- The four results of the first feed-forward. -/
module

public import proofs.«01_k».proof.Proof.FfnFwd.Points
public import proofs.«01_k».proof.Proof.Head.Final

@[expose] public section

set_option maxRecDepth 16384

noncomputable section

namespace Cert.FfnFwdProof

open Idealize.ShloMosaic Idealize.ShloMosaic.TcCoe Idealize.SL.Sem Cert.FfnFwdIdeal Cert.FfnFwdIdeal.Gen
open Idealize.ShloMosaic.Pipeline (Dat)
open Cert.Ffn (col)

variable (m : (ℓ : Loc nD τ sig) → Buf (Elt Ideal) ℓ) (c : Dev nD)

theorem final_h : (dats m 0 c).arrAt 2 cfg0.N = fun i => out m c (i 0) (i 1) := by
  refine (dats m 0 c).arrAt_eq_of_covers 2 _ (by decide +kernel) fun t hf y => ?_
  rw [after0_2]
  blk_simp
  refine (congrArg (outsAt0 m c t.val t.isLt).1 (HeadProof.idx2 y)).trans ((out_h m c t (y 0) (y 1)).trans ?_)
  refine congrArg₂ (out m c) ?_ ?_
  · refine Fin.ext ?_
    unfold row
    blk_simp [idx t]
  · refine Fin.ext ?_
    blk_simp [idx t]

theorem final_n : (dats m 0 c).arrAt 3 cfg0.N = fun i => nrm m c (i 0) (i 1) := by
  refine (dats m 0 c).arrAt_eq_of_covers 3 _ (by decide +kernel) fun t hf y => ?_
  rw [after0_3]
  blk_simp
  refine (congrArg (outsAt0 m c t.val t.isLt).2.1 (HeadProof.idx2 y)).trans ((out_n m c t (y 0) (y 1)).trans ?_)
  refine congrArg₂ (nrm m c) ?_ ?_
  · refine Fin.ext ?_
    unfold row
    blk_simp [idx t]
  · refine Fin.ext ?_
    blk_simp [idx t]

theorem final_g : (dats m 0 c).arrAt 4 cfg0.N = fun i => gv m c (i 1) (col (i 0) (i 2)) := by
  refine (dats m 0 c).arrAt_eq_of_covers 4 _ (by decide +kernel) fun t hf y => ?_
  rw [after0_4]
  blk_simp
  refine (congrArg (outsAt0 m c t.val t.isLt).2.2.1 (HeadProof.idx3 y)).trans ((out_g m c t (y 0) (y 1) (y 2)).trans ?_)
  refine congrArg₂ (gv m c) ?_ ?_
  · refine Fin.ext ?_
    unfold row
    blk_simp [idx t]
  · refine Fin.ext ?_
    unfold Ffn.col
    blk_simp [idx t]

theorem final_u : (dats m 0 c).arrAt 5 cfg0.N = fun i => uv m c (i 1) (col (i 0) (i 2)) := by
  refine (dats m 0 c).arrAt_eq_of_covers 5 _ (by decide +kernel) fun t hf y => ?_
  rw [after0_5]
  blk_simp
  refine (congrArg (outsAt0 m c t.val t.isLt).2.2.2.1 (HeadProof.idx3 y)).trans ((out_u m c t (y 0) (y 1) (y 2)).trans ?_)
  refine congrArg₂ (uv m c) ?_ ?_
  · refine Fin.ext ?_
    unfold row
    blk_simp [idx t]
  · refine Fin.ext ?_
    unfold Ffn.col
    blk_simp [idx t]

end Cert.FfnFwdProof
-- ==== Proof.FfnFwd.Claim.lean ====
/- The first feed-forward: the reference's results read at an entry, and the two programs' results are the same. -/
module

public import proofs.«01_k».proof.Proof.FfnFwd.Final
public import proofs.«01_k».proof.Proof.Head.Ref
public import proofs.«01_k».proof.Proof.Gen.FfnFwdRefIdeal.Run
public import proofs.«01_k».proof.Defs
public import Idealize.ShloMosaic.Lib.Claim

@[expose] public section

set_option maxRecDepth 16384

noncomputable section

namespace Cert.FfnFwdProof.Ref

open Idealize.ShloMosaic Idealize.ShloMosaic.TcCoe Idealize.SL.Sem Cert.FfnFwdRefIdeal Cert.FfnFwdRefIdeal.Gen Cert.FfnFwdRefIdeal.Value
open Cert.HeadProof.Ref (nrmArr prArr outOf cutArr)
open Cert.Ffn (col)

variable (m : (ℓ : Loc nD τ sig) → Buf (Elt Ideal) ℓ) (c : Dev nD)

def hid (r : Fin 8192) (j : Fin 1024) : EReal := m ((c : Thread nD τ).loc main_arg0) (ix3 0 r j)
def nw (j : Fin 1024) : EReal := m ((c : Thread nD τ).loc main_arg1) (ix2 0 j)
def wg (j : Fin 1024) (k : Fin 2816) : EReal := m ((c : Thread nD τ).loc main_arg2) (ix2 j k)
def wu (j : Fin 1024) (k : Fin 2816) : EReal := m ((c : Thread nD τ).loc main_arg3) (ix2 j k)
def wd (k : Fin 2816) (j : Fin 1024) : EReal := m ((c : Thread nD τ).loc main_arg4) (ix2 k j)

def hTerm : Buf (Elt Ideal) ((c.tc : Thread nD τ).loc main_v22) :=
  shapeCast S8192x1024 (outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) shapeCasts_S1x8192x1024_S8192x1024
def nTerm : Buf (Elt Ideal) ((c.tc : Thread nD τ).loc main_v24) :=
  truncf (F := Ideal) (φ := .f32) .bf16 (shapeCast S8192x1024 (nrmArr (m ((c.tc : Thread nD τ).loc main_arg0)) (m ((c.tc : Thread nD τ).loc main_arg1))) shapeCasts_S1x8192x1024_S8192x1024) bitsLt_bf16_f32
def gTerm : Buf (Elt Ideal) ((c.tc : Thread nD τ).loc main_v28) := cutArr (prArr (m ((c.tc : Thread nD τ).loc main_arg0)) (m ((c.tc : Thread nD τ).loc main_arg1)) (m ((c.tc : Thread nD τ).loc main_arg2)))
def uTerm : Buf (Elt Ideal) ((c.tc : Thread nD τ).loc main_v32) := cutArr (prArr (m ((c.tc : Thread nD τ).loc main_arg0)) (m ((c.tc : Thread nD τ).loc main_arg1)) (m ((c.tc : Thread nD τ).loc main_arg3)))

theorem h_at (r : Fin 8192) (j : Fin 1024) : hTerm m c (ix2 r j) = Ffn.out (hid m c r) (nw m c) (wg m c) (wu m c) (wd m c) j := by
  refine Eq.trans ?_ (HeadProof.Ref.outOf_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) r j)
  unfold hTerm
  generalize outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = z
  pointwise

theorem n_at (r : Fin 8192) (j : Fin 1024) : nTerm m c (ix2 r j) = Ffn.nrm (hid m c r) (nw m c) j := by
  refine Eq.trans ?_ (HeadProof.Ref.nrmArr_at (m ((c.tc : Thread nD τ).loc main_arg0)) (m ((c.tc : Thread nD τ).loc main_arg1)) r j)
  unfold nTerm
  generalize nrmArr (m ((c.tc : Thread nD τ).loc main_arg0)) (m ((c.tc : Thread nD τ).loc main_arg1)) = z
  pointwise

theorem g_at (s : Fin 4) (r : Fin 8192) (x : Fin 704) : gTerm m c (ix3 s r x) = Ffn.pr (hid m c r) (nw m c) (wg m c) (col s x) :=
  (HeadProof.Ref.cutArr_at _ s r x).trans (HeadProof.Ref.prArr_at _ _ _ r _)

theorem u_at (s : Fin 4) (r : Fin 8192) (x : Fin 704) : uTerm m c (ix3 s r x) = Ffn.pr (hid m c r) (nw m c) (wu m c) (col s x) :=
  (HeadProof.Ref.cutArr_at _ s r x).trans (HeadProof.Ref.prArr_at _ _ _ r _)

/-- The reference's run. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v22) = hTerm m c ∧ r.2.mem ((c.tc : Thread nD τ).loc main_v24) = nTerm m c
      ∧ r.2.mem ((c.tc : Thread nD τ).loc main_v28) = gTerm m c ∧ r.2.mem ((c.tc : Thread nD τ).loc main_v32) = uTerm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := Value.run m ρ

end Cert.FfnFwdProof.Ref

namespace Cert.FfnFwdProof

open Idealize.ShloMosaic Idealize.ShloMosaic.TcCoe Idealize.SL.Sem
open Cert.HeadProof (idx2 idx3)

section Agree

variable (m : (ℓ : Loc Cert.FfnFwdIdeal.nD Cert.FfnFwdIdeal.τ Cert.FfnFwdIdeal.sig) → Buf (Elt Ideal) ℓ)
  (m' : (ℓ : Loc Cert.FfnFwdRefIdeal.nD Cert.FfnFwdRefIdeal.τ Cert.FfnFwdRefIdeal.sig) → Buf (Elt Ideal) ℓ) (c : Dev Cert.FfnFwdIdeal.nD)

/-- The two programs' arguments are the same arrays. -/
def Same : Prop :=
  Ref.hid m' c = hid m c ∧ Ref.nw m' c = nw m c ∧ Ref.wg m' c = wg m c ∧ Ref.wu m' c = wu m c ∧ Ref.wd m' c = wd m c

variable (h : Same m m' c)

include h

theorem h_eq : Ref.hTerm m' c = (Cert.FfnFwdIdeal.Gen.dats m 0 c).arrAt 2 Cert.FfnFwdIdeal.cfg0.N := by
  rw [final_h]
  refine funext fun i => (congrArg (Ref.hTerm m' c) (idx2 i)).trans ((Ref.h_at m' c (i 0) (i 1)).trans ?_)
  rw [h.1, h.2.1, h.2.2.1, h.2.2.2.1, h.2.2.2.2]
  rfl

theorem n_eq : Ref.nTerm m' c = (Cert.FfnFwdIdeal.Gen.dats m 0 c).arrAt 3 Cert.FfnFwdIdeal.cfg0.N := by
  rw [final_n]
  refine funext fun i => (congrArg (Ref.nTerm m' c) (idx2 i)).trans ((Ref.n_at m' c (i 0) (i 1)).trans ?_)
  rw [h.1, h.2.1]
  rfl

theorem g_eq : Ref.gTerm m' c = (Cert.FfnFwdIdeal.Gen.dats m 0 c).arrAt 4 Cert.FfnFwdIdeal.cfg0.N := by
  rw [final_g]
  refine funext fun i => (congrArg (Ref.gTerm m' c) (idx3 i)).trans ((Ref.g_at m' c (i 0) (i 1) (i 2)).trans ?_)
  rw [h.1, h.2.1, h.2.2.1]
  rfl

theorem u_eq : Ref.uTerm m' c = (Cert.FfnFwdIdeal.Gen.dats m 0 c).arrAt 5 Cert.FfnFwdIdeal.cfg0.N := by
  rw [final_u]
  refine funext fun i => (congrArg (Ref.uTerm m' c) (idx3 i)).trans ((Ref.u_at m' c (i 0) (i 1) (i 2)).trans ?_)
  rw [h.1, h.2.1, h.2.2.2.1]
  rfl

end Agree

theorem algebraic : Cert.algebraic_FfnFwdIdeal_FfnFwdRefIdeal := by
  intro m g m' g' _ hagree
  have hs : ∀ c, Same m m' c := fun c => by
    obtain ⟨h0, h1, h2, h3, h4⟩ := hagree c
    exact ⟨funext fun r => funext fun j => congrFun h0 _, funext fun j => congrFun h1 _, funext fun j => funext fun k => congrFun h2 _,
      funext fun j => funext fun k => congrFun h3 _, funext fun k => funext fun j => congrFun h4 _⟩
  refine ⟨fun c => (Cert.FfnFwdIdeal.Gen.dats m 0 c).arrAt 2 Cert.FfnFwdIdeal.cfg0.N,
    fun c => (Cert.FfnFwdIdeal.Gen.dats m 0 c).arrAt 3 Cert.FfnFwdIdeal.cfg0.N,
    fun c => (Cert.FfnFwdIdeal.Gen.dats m 0 c).arrAt 4 Cert.FfnFwdIdeal.cfg0.N,
    fun c => (Cert.FfnFwdIdeal.Gen.dats m 0 c).arrAt 5 Cert.FfnFwdIdeal.cfg0.N, Cert.FfnFwdIdeal.Value.run_blocks m g, ?_⟩
  refine (θ_run Cert.FfnFwdRefIdeal.defs _ _).mono (fun r h c => ?_) (Ref.run m' g')
  obtain ⟨e0, e1, e2, e3, e⟩ := h c
  exact ⟨e0.trans (h_eq m m' c (hs c)), e1.trans (n_eq m m' c (hs c)), e2.trans (g_eq m m' c (hs c)), e3.trans (u_eq m m' c (hs c)), e⟩

end Cert.FfnFwdProof
-- ==== Proof.NormProj.Points.lean ====
/- The norm before the mixer with the input projection: the arrays it is launched over, and what every point leaves in its four
   outputs and in the weight buffer it carries. -/
module

public import proofs.«01_k».proof.Proof.Gen.NormProjIdeal.Value
public import proofs.«01_k».proof.Proof.Head.Block
public import proofs.«01_k».proof.Proof.Lib.Split
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.NormProjProof

open Idealize.ShloMosaic Idealize.ShloMosaic.TcCoe Idealize.SL.Sem Cert.NormProjIdeal Cert.NormProjIdeal.Gen
open Idealize.ShloMosaic.Pipeline (Dat)
open Cert.Groups Cert.Split

variable (m : (ℓ : Loc nD τ sig) → Buf (Elt Ideal) ℓ) (c : Dev nD)

/-- The residual stream, the norm's weight and the projection's weight. -/
def hid (r : Fin 8192) (j : Fin 1024) : EReal := m ((c : Thread nD τ).loc main_arg0) (ix3 0 r j)
def nw (j : Fin 1024) : EReal := m ((c : Thread nD τ).loc main_arg1) (ix2 0 j)
def wi (j : Fin 1024) (k : Fin 9248) : EReal := m ((c : Thread nD τ).loc main_arg2) (ix2 j k)

/-- The projection of a normed row. -/
def pv (r : Fin 8192) (k : Fin 9248) : EReal := Ffn.pr (hid m c r) (nw m c) (wi m c) k

theorem entry_hid (r : Fin 8192) (l : Fin 1024) : V m c main_v8 (ix2 r l) = hid m c r l := by
  unfold V hid
  after_reads_at

theorem entry_nw (l : Fin 1024) : V m c main_arg1 (ix2 0 l) = nw m c l := by
  unfold V nw
  after_reads_at

theorem entry_wb (j : Fin 1024) (k : Fin 9216) : V m c main_v9 (ix2 j k) = wi m c j (bigCol k) := by
  unfold V bigCol wi
  after_reads_at
  have hk := k.isLt
  repeat' split
  all_goals first
    | omega
    | (after_reads_at; done)
    | (after_reads_at
       refine congrArg (fun z => m (c, Proc.tc.devRef main_arg2) (ix2 j z)) (Fin.ext ?_)
       dsimp only
       omega)

theorem entry_ws (j : Fin 1024) (l : Fin 128) : V m c main_v10 (ix2 j l) = small (wi m c j) l := by
  unfold V small wi
  after_reads_at
  have hk := l.isLt
  repeat' split
  all_goals first
    | omega
    | (after_reads_at; done)
    | (after_reads_at
       refine congrArg (fun z => m (c, Proc.tc.devRef main_arg2) (ix2 j z)) (Fin.ext ?_)
       dsimp only
       omega)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] :=
  (by decide +kernel : ∀ t : Fin grid0.N, _)

/-- Row `r` of the block that point `t` works on, as a row of the arrays. -/
def row (t : Fin cfg0.N) (r : Fin 512) : Fin 8192 :=
  ⟨t.val * 512 + r.val, by have hN := lt_of_lt_of_eq t.isLt (show cfg0.N = 16 from N_0); omega⟩

theorem rows (t : Fin cfg0.N) : HeadProof.Rows (iblk m c 0 t) (iblk m c 1 t) (fun r => hid m c (row t r)) (nw m c) := by
  refine ⟨fun r l => Eq.trans ?_ (entry_hid m c (row t r) l), fun l => Eq.trans ?_ (entry_nw m c l)⟩
  · unfold row
    blk_ext [iblk, idx t]
  · blk_ext [iblk, idx t]

theorem blk_ws (t : Fin cfg0.N) (j : Fin 1024) (l : Fin 128) : iblk m c 2 t (ix2 j l) = small (wi m c j) l := by
  refine Eq.trans ?_ (entry_ws m c j l)
  blk_ext [iblk, idx t]

/-- A block's normed rows are those of the feed-forward's norm: the same term. -/
theorem nrm_at (t : Fin cfg0.N) (r : Fin 512) (j : Fin 1024) :
    k0_pay6 (F := Ideal) (iblk m c 0 t) (iblk m c 1 t) (ix2 r j) = Ffn.nrm (hid m c (row t r)) (nw m c) j :=
  HeadProof.nrm_blk (rows m c t) r j

theorem pay1_at (n : FVec Ideal S512x1024 .bf16) (w : Vec Ideal S1024x1536 .bf16) (r : Fin 512) (x : Fin 1536) :
    k0_pay1 (F := Ideal) n w (ix2 r x) = ∑ l, n (ix2 r l) * w (ix2 l x) := by
  pointwise [k0_pay1]

theorem pay7_at (a : Vec Ideal S512x1024 .f32) (b : Vec Ideal S1x1024 .f32) (w : Vec Ideal S1024x128 .bf16) (r : Fin 512) (x : Fin 128) :
    k0_pay7 (F := Ideal) a b w (ix2 r x) = ∑ l, k0_pay6 (F := Ideal) a b (ix2 r l) * w (ix2 l x) := by
  generalize hn : k0_pay6 (F := Ideal) a b = n
  unfold k0_pay7
  rw [hn]
  pointwise

theorem pay10_at (a : Vec Ideal S512x1024 .f32) (b : Vec Ideal S1x1024 .f32) (w : Vec Ideal S1024x1536 .bf16) (r : Fin 512) (x : Fin 1024) :
    k0_pay10 (F := Ideal) a b w (ix2 r x) = k0_pay9 (F := Ideal) a b w (ix2 r ⟨x.val, by omega⟩) := by
  unfold k0_pay10 k0_pay9
  generalize k0_pay8 (F := Ideal) a b w = z
  pointwise

section Cols

variable {n p w : ℕ} (lo : ℕ) (inb : ∀ a, (![0, lo] : Fin 2 → ℕ) a + (![n, w] : Fin 2 → ℕ) a ≤ (⟨2, ![n, p]⟩ : Shape).size a)

/-- The index a rectangle of columns puts its entry at. -/
theorem idx_cols (r : Fin n) (x : Fin w) (h : lo + x.val < p) :
    (Rect.unit (s := ⟨2, ![n, p]⟩) ![0, lo] ![n, w] inb).emb (ix2 r x) = ix2 r ⟨lo + x.val, h⟩ := by
  funext a
  match a with
  | ⟨0, _⟩ => exact Fin.ext (by show 0 + 1 * r.val = r.val; omega)
  | ⟨1, _⟩ => exact Fin.ext (by show lo + 1 * x.val = lo + x.val; omega)

end Cols

/-- A group of wide columns of a point's block. -/
theorem big_cols (t : Fin cfg0.N) (lo : ℕ) (hlo : lo + 1536 ≤ 9216)
    (inb : ∀ a, (![0, lo] : Fin 2 → ℕ) a + (![1024, 1536] : Fin 2 → ℕ) a ≤ S1024x9216.size a) (r : Fin 512) (x : Fin 1536) :
    k0_pay1 (F := Ideal) (k0_pay6 (iblk m c 0 t) (iblk m c 1 t)) (View.ld (V m c main_v9) (Rect.unit (s := S1024x9216) ![0, lo] ![1024, 1536] inb)) (ix2 r x)
      = pv m c (row t r) (bigCol ⟨lo + x.val, by omega⟩) := by
  refine (pay1_at _ _ r x).trans ?_
  unfold pv Ffn.pr
  refine Finset.sum_congr (M := EReal) rfl fun l _ => congrArg₂ (· * ·) (nrm_at m c t r l) ?_
  exact (congrArg (V m c main_v9) (idx_cols lo inb l x (by omega))).trans (entry_wb m c l _)

/-- Six stores, each of 1536 columns, leave in every column what its store put there. -/
theorem canon_six (G : Vec Ideal S512x9216 .bf16) (w5 w4 w3 w2 w1 w0 : Vec Ideal S512x1536 .bf16)
    (h5 : ∀ r x, w5 (ix2 r x) = G (ix2 r ⟨7680 + x.val, by omega⟩)) (h4 : ∀ r x, w4 (ix2 r x) = G (ix2 r ⟨6144 + x.val, by omega⟩))
    (h3 : ∀ r x, w3 (ix2 r x) = G (ix2 r ⟨4608 + x.val, by omega⟩)) (h2 : ∀ r x, w2 (ix2 r x) = G (ix2 r ⟨3072 + x.val, by omega⟩))
    (h1 : ∀ r x, w1 (ix2 r x) = G (ix2 r ⟨1536 + x.val, by omega⟩)) (h0 : ∀ r x, w0 (ix2 r x) = G (ix2 r ⟨0 + x.val, by omega⟩))
    (r : Fin 512) (k : Fin 9216) :
    View.canon (Val := Elt Ideal) (e := .bf16)
      [⟨Rect.unit (s := S512x9216) ![0, 7680] ![512, 1536] inb_S512x9216_S512x1536_0_7680, w5⟩,
      ⟨Rect.unit ![0, 6144] ![512, 1536] inb_S512x9216_S512x1536_0_6144, w4⟩,
      ⟨Rect.unit ![0, 4608] ![512, 1536] inb_S512x9216_S512x1536_0_4608, w3⟩,
      ⟨Rect.unit ![0, 3072] ![512, 1536] inb_S512x9216_S512x1536_0_3072, w2⟩,
      ⟨Rect.unit ![0, 1536] ![512, 1536] inb_S512x9216_S512x1536_0_1536, w1⟩,
      ⟨Rect.unit ![0, 0] ![512, 1536] inb_S512x9216_S512x1536_0_0, w0⟩] (ix2 r k) = G (ix2 r k) := by
  have at_ : ∀ (lo : ℕ) (hlo : lo + 1536 ≤ 9216) (inb : ∀ a, (![0, lo] : Fin 2 → ℕ) a + (![512, 1536] : Fin 2 → ℕ) a ≤ S512x9216.size a)
      (w : Vec Ideal S512x1536 .bf16) (_ : ∀ r x, w (ix2 r x) = G (ix2 r ⟨lo + x.val, by omega⟩)) (y : S512x1536.Idx),
      w y = G ((Rect.unit (s := S512x9216) ![0, lo] ![512, 1536] inb).emb y) := fun lo hlo inb w h y => by
    have e : y = ix2 (y 0) (y 1) := by
      funext a
      match a with
      | ⟨0, _⟩ => rfl
      | ⟨1, _⟩ => rfl
    rw [e]
    exact (h _ _).trans (congrArg G (idx_cols lo inb _ _ _).symm)
  have mem : ∀ (lo : ℕ) (inb : ∀ a, (![0, lo] : Fin 2 → ℕ) a + (![512, 1536] : Fin 2 → ℕ) a ≤ S512x9216.size a)
      (_ : lo ≤ k.val) (_ : k.val < lo + 1536), ix2 r k ∈ (Rect.unit (s := S512x9216) ![0, lo] ![512, 1536] inb).set := fun lo inb ha hb => by
    have e := idx_cols lo inb r (⟨k.val - lo, by omega⟩ : Fin 1536) (by show lo + (k.val - lo) < 9216; have := k.isLt; omega)
    rw [show (⟨lo + (k.val - lo), _⟩ : Fin 9216) = k from Fin.ext (by show lo + (k.val - lo) = k.val; omega)] at e
    rw [← e]
    exact LoadRect.idx_mem _ _
  have hk := k.isLt
  refine View.canon_append_of_pieces G [] [_, _, _, _, _, _] (fun q hq => ?_) _ ?_
  · simp only [List.mem_cons, List.not_mem_nil, or_false] at hq
    rcases hq with rfl | rfl | rfl | rfl | rfl | rfl
    · exact at_ 7680 (by decide) inb_S512x9216_S512x1536_0_7680 w5 h5
    · exact at_ 6144 (by decide) inb_S512x9216_S512x1536_0_6144 w4 h4
    · exact at_ 4608 (by decide) inb_S512x9216_S512x1536_0_4608 w3 h3
    · exact at_ 3072 (by decide) inb_S512x9216_S512x1536_0_3072 w2 h2
    · exact at_ 1536 (by decide) inb_S512x9216_S512x1536_0_1536 w1 h1
    · exact at_ 0 (by decide) inb_S512x9216_S512x1536_0_0 w0 h0
  · by_cases a5 : 7680 ≤ k.val
    · exact ⟨_, List.mem_cons_self, mem 7680 inb_S512x9216_S512x1536_0_7680 a5 (by omega)⟩
    by_cases a4 : 6144 ≤ k.val
    · exact ⟨_, List.mem_cons_of_mem _ List.mem_cons_self, mem 6144 inb_S512x9216_S512x1536_0_6144 a4 (by omega)⟩
    by_cases a3 : 4608 ≤ k.val
    · exact ⟨_, List.mem_cons_of_mem _ (List.mem_cons_of_mem _ List.mem_cons_self), mem 4608 inb_S512x9216_S512x1536_0_4608 a3 (by omega)⟩
    by_cases a2 : 3072 ≤ k.val
    · exact ⟨_, List.mem_cons_of_mem _ (List.mem_cons_of_mem _ (List.mem_cons_of_mem _ List.mem_cons_self)),
        mem 3072 inb_S512x9216_S512x1536_0_3072 a2 (by omega)⟩
    by_cases a1 : 1536 ≤ k.val
    · exact ⟨_, List.mem_cons_of_mem _ (List.mem_cons_of_mem _ (List.mem_cons_of_mem _ (List.mem_cons_of_mem _ List.mem_cons_self))),
        mem 1536 inb_S512x9216_S512x1536_0_1536 a1 (by omega)⟩
    · exact ⟨_, List.mem_cons_of_mem _ (List.mem_cons_of_mem _ (List.mem_cons_of_mem _ (List.mem_cons_of_mem _ (List.mem_cons_of_mem _ List.mem_cons_self)))),
        mem 0 inb_S512x9216_S512x1536_0_0 (by omega) (by omega)⟩

/-- The first point copies the weights in. -/
theorem kept_first (t : Fin cfg0.N) (h : t.val % 16 = 0) : (outsAt0 m c t.val t.isLt).2.2.2.2 = V m c main_v9 := by
  rw [outsAt0_A m c t h]
  dsimp only
  frame_out
  rw [canon_whole]
  rfl

/-- Every later point leaves them. -/
theorem kept_next (t : Fin cfg0.N) (h : ¬ t.val % 16 = 0) :
    (outsAt0 m c t.val t.isLt).2.2.2.2 = (outsAt0 m c (t.val - 1) (Nat.lt_of_le_of_lt (Nat.sub_le _ _) t.isLt)).2.2.2.2 := by
  rw [outsAt0_B m c t h]
  dsimp only
  rfl

theorem kept (n : ℕ) (hn : n < cfg0.N) : (outsAt0 m c n hn).2.2.2.2 = V m c main_v9 := by
  induction n with
  | zero => exact kept_first m c ⟨0, hn⟩ rfl
  | succ n ih =>
    by_cases h : (n + 1) % 16 = 0
    · exact kept_first m c ⟨n + 1, hn⟩ h
    · exact (kept_next m c ⟨n + 1, hn⟩ h).trans (ih _)

/-- The wide columns of a point's block as one array. -/
def wide (t : Fin cfg0.N) : Vec Ideal S512x9216 .bf16 := fun y => pv m c (row t (y 0)) (bigCol (y 1))

theorem out_big (t : Fin cfg0.N) (r : Fin 512) (k : Fin 9216) : (outsAt0 m c t.val t.isLt).1 (ix2 r k) = pv m c (row t r) (bigCol k) := by
  refine Eq.trans ?_ (canon_six (wide m c t) _ _ _ _ _ _
    (big_cols m c t 7680 (by decide) inb_S1024x9216_S1024x1536_0_7680) (big_cols m c t 6144 (by decide) inb_S1024x9216_S1024x1536_0_6144)
    (big_cols m c t 4608 (by decide) inb_S1024x9216_S1024x1536_0_4608) (big_cols m c t 3072 (by decide) inb_S1024x9216_S1024x1536_0_3072)
    (big_cols m c t 1536 (by decide) inb_S1024x9216_S1024x1536_0_1536) (big_cols m c t 0 (by decide) inb_S1024x9216_S1024x1536_0_0) r k)
  by_cases ht : t.val % 16 = 0
  · rw [outsAt0_A m c t ht]
    dsimp only
    frame_out
    simp only [readCov_whole]
    rfl
  · rw [outsAt0_B m c t ht]
    dsimp only
    frame_out
    simp only [read_unread_whole, kept m c (t.val - 1) (Nat.lt_of_le_of_lt (Nat.sub_le _ _) t.isLt)]
    rfl

theorem out_small (t : Fin cfg0.N) (r : Fin 512) (l : Fin 128) : (outsAt0 m c t.val t.isLt).2.1 (ix2 r l) = small (pv m c (row t r)) l := by
  refine Eq.trans ?_ (((pay7_at (iblk m c 0 t) (iblk m c 1 t) (iblk m c 2 t) r l).trans (Finset.sum_congr (M := EReal) rfl fun j _ =>
    congrArg₂ (· * ·) (nrm_at m c t r j) (blk_ws m c t j l))).trans (pr_small _ _ _ l))
  by_cases ht : t.val % 16 = 0
  · rw [outsAt0_A m c t ht]
    dsimp only
    frame_out
  · rw [outsAt0_B m c t ht]
    dsimp only
    frame_out

theorem out_n (t : Fin cfg0.N) (r : Fin 512) (j : Fin 1024) :
    (outsAt0 m c t.val t.isLt).2.2.1 (ix2 r j) = Ffn.nrm (hid m c (row t r)) (nw m c) j := by
  refine Eq.trans ?_ (nrm_at m c t r j)
  by_cases ht : t.val % 16 = 0
  · rw [outsAt0_A m c t ht]
    dsimp only
    frame_out
  · rw [outsAt0_B m c t ht]
    dsimp only
    frame_out

theorem out_qk (t : Fin cfg0.N) (r : Fin 512) (j : Fin 1024) :
    (outsAt0 m c t.val t.isLt).2.2.2.1 (ix2 r j) = pv m c (row t r) ⟨j.val, by omega⟩ := by
  refine Eq.trans ?_ (((pay10_at (iblk m c 0 t) (iblk m c 1 t)
    (View.ld (V m c main_v9) (Rect.unit (s := S1024x9216) ![0, 0] ![1024, 1536] inb_S1024x9216_S1024x1536_0_0)) r j).trans
    (big_cols m c t 0 (by decide) inb_S1024x9216_S1024x1536_0_0 r ⟨j.val, by omega⟩)).trans (congrArg (pv m c (row t r)) ?_))
  · by_cases ht : t.val % 16 = 0
    · rw [outsAt0_A m c t ht]
      dsimp only
      frame_out
      simp only [readCov_whole]
      rfl
    · rw [outsAt0_B m c t ht]
      dsimp only
      frame_out
      simp only [read_unread_whole, kept m c (t.val - 1) (Nat.lt_of_le_of_lt (Nat.sub_le _ _) t.isLt)]
      rfl
  · unfold bigCol
    rw [if_pos (by show 0 + j.val < 3072; omega)]
    exact Fin.ext (Nat.zero_add _)

end Cert.NormProjProof
-- ==== Proof.NormProj.Claim.lean ====
/- The norm before the mixer with the input projection: its four results, the reference's read at an entry, and that they are the same. -/
module

public import proofs.«01_k».proof.Proof.NormProj.Points
public import proofs.«01_k».proof.Proof.Head.Final
public import proofs.«01_k».proof.Proof.Head.Ref
public import proofs.«01_k».proof.Proof.Gen.NormProjRefIdeal.Run
public import proofs.«01_k».proof.Defs
public import Idealize.ShloMosaic.Lib.Claim

@[expose] public section

set_option maxRecDepth 16384

noncomputable section

namespace Cert.NormProjProof

section Kernel

open Idealize.ShloMosaic Idealize.ShloMosaic.TcCoe Idealize.SL.Sem Cert.NormProjIdeal Cert.NormProjIdeal.Gen
open Idealize.ShloMosaic.Pipeline (Dat)
open Cert.HeadProof (idx2)
open Cert.Split

variable (m : (ℓ : Loc nD τ sig) → Buf (Elt Ideal) ℓ) (c : Dev nD)

/-- The four results of the kernel: wide columns, narrow columns, normed rows, and the first thousand columns unrounded. -/
def bigAt (r : Fin 8192) (k : Fin 9216) : EReal := pv m c r (bigCol k)
def smallAt (r : Fin 8192) (l : Fin 128) : EReal := small (pv m c r) l
def nAt (r : Fin 8192) (j : Fin 1024) : EReal := Ffn.nrm (hid m c r) (nw m c) j
def qkAt (r : Fin 8192) (j : Fin 1024) : EReal := pv m c r ⟨j.val, by omega⟩

theorem final_big : (dats m 0 c).arrAt 3 cfg0.N = fun i => bigAt m c (i 0) (i 1) := by
  refine (dats m 0 c).arrAt_eq_of_covers 3 _ (by decide +kernel) fun t hf y => ?_
  rw [after0_3]
  blk_simp
  refine (congrArg (outsAt0 m c t.val t.isLt).1 (idx2 y)).trans ((out_big m c t (y 0) (y 1)).trans ?_)
  refine congrArg₂ (bigAt m c) ?_ ?_
  · refine Fin.ext ?_
    unfold row
    blk_simp [idx t]
  · refine Fin.ext ?_
    blk_simp [idx t]

theorem final_small : (dats m 0 c).arrAt 4 cfg0.N = fun i => smallAt m c (i 0) (i 1) := by
  refine (dats m 0 c).arrAt_eq_of_covers 4 _ (by decide +kernel) fun t hf y => ?_
  rw [after0_4]
  blk_simp
  refine (congrArg (outsAt0 m c t.val t.isLt).2.1 (idx2 y)).trans ((out_small m c t (y 0) (y 1)).trans ?_)
  refine congrArg₂ (smallAt m c) ?_ ?_
  · refine Fin.ext ?_
    unfold row
    blk_simp [idx t]
  · refine Fin.ext ?_
    blk_simp [idx t]

theorem final_n : (dats m 0 c).arrAt 5 cfg0.N = fun i => nAt m c (i 0) (i 1) := by
  refine (dats m 0 c).arrAt_eq_of_covers 5 _ (by decide +kernel) fun t hf y => ?_
  rw [after0_5]
  blk_simp
  refine (congrArg (outsAt0 m c t.val t.isLt).2.2.1 (idx2 y)).trans ((out_n m c t (y 0) (y 1)).trans ?_)
  refine congrArg₂ (nAt m c) ?_ ?_
  · refine Fin.ext ?_
    unfold row
    blk_simp [idx t]
  · refine Fin.ext ?_
    blk_simp [idx t]

theorem final_qk : (dats m 0 c).arrAt 6 cfg0.N = fun i => qkAt m c (i 0) (i 1) := by
  refine (dats m 0 c).arrAt_eq_of_covers 6 _ (by decide +kernel) fun t hf y => ?_
  rw [after0_6]
  blk_simp
  refine (congrArg (outsAt0 m c t.val t.isLt).2.2.2.1 (idx2 y)).trans ((out_qk m c t (y 0) (y 1)).trans ?_)
  refine congrArg₂ (qkAt m c) ?_ ?_
  · refine Fin.ext ?_
    unfold row
    blk_simp [idx t]
  · refine Fin.ext ?_
    blk_simp [idx t]

end Kernel

namespace Ref

open Idealize.ShloMosaic Idealize.ShloMosaic.TcCoe Idealize.SL.Sem Cert.NormProjRefIdeal Cert.NormProjRefIdeal.Gen Cert.NormProjRefIdeal.Value
open Cert.HeadProof.Ref (nrmArr)
open Cert.Split

/-- The projection of the normed rows. -/
def prjArr (x : Vec Ideal S1x8192x1024 .f32) (w : Vec Ideal S1x1024 .f32) (a : Vec Ideal S1024x9248 .f32) : Vec Ideal S8192x9248 .f32 :=
  Host.dotGeneral (F := Ideal) (φ₁ := .f32) (φ₂ := .f32) dot_S8192x1024_S1024x9248_S8192x9248_1_0_0_1_n_n none
    (shapeCast S8192x1024 (nrmArr x w) shapeCasts_S1x8192x1024_S8192x1024) a

theorem prjArr_at (x : Vec Ideal S1x8192x1024 .f32) (w : Vec Ideal S1x1024 .f32) (a : Vec Ideal S1024x9248 .f32) (r : Fin 8192) (k : Fin 9248) :
    prjArr x w a (ix2 r k) = Ffn.pr (fun l => x (ix3 0 r l)) (fun l => w (ix2 0 l)) (fun l k => a (ix2 l k)) k := by
  unfold prjArr Ffn.pr
  pointwise
  simp only [HeadProof.Ref.nrmArr_at]

/-- The wide columns put together, and the narrow ones with zeros behind them. -/
def bigOf (p : Vec Ideal S8192x9248 .f32) : Vec Ideal S8192x9216 .bf16 :=
  truncf (F := Ideal) (φ := .f32) .bf16 (concatenate S8192x9216 1 [⟨S8192x3072, extractStridedSlice S8192x3072 ![0, 0] p slices_S8192x9248_S8192x3072_0_0⟩,
    ⟨S8192x4096, extractStridedSlice S8192x4096 ![0, 3088] p slices_S8192x9248_S8192x4096_0_3088⟩,
    ⟨S8192x2048, extractStridedSlice S8192x2048 ![0, 7200] p slices_S8192x9248_S8192x2048_0_7200⟩] concatenates_S8192x3072_S8192x4096_S8192x2048_S8192x9216_d1) bitsLt_bf16_f32
def smallOf (p : Vec Ideal S8192x9248 .f32) : Vec Ideal S8192x128 .f32 :=
  pad S8192x128 ![0, 0] ![0, 96] ![0, 0] (concatenate S8192x32 1 [⟨S8192x16, extractStridedSlice S8192x16 ![0, 3072] p slices_S8192x9248_S8192x16_0_3072⟩,
    ⟨S8192x16, extractStridedSlice S8192x16 ![0, 7184] p slices_S8192x9248_S8192x16_0_7184⟩] concatenates_S8192x16_S8192x16_S8192x32_d1) (sitofp (F := Ideal) .f32 (constantI S_ 32 0#32)) pads_S8192x32_S8192x128_000_0960 h_S_

theorem bigOf_at (p : Vec Ideal S8192x9248 .f32) (r : Fin 8192) (k : Fin 9216) : bigOf p (ix2 r k) = p (ix2 r (bigCol k)) := by
  unfold bigOf bigCol
  have hk := k.isLt
  pointwise
  repeat' split
  all_goals first
    | omega
    | (refine congrArg (fun z => p (ix2 r z)) (Fin.ext ?_)
       dsimp only <;> omega)

theorem smallOf_at (p : Vec Ideal S8192x9248 .f32) (r : Fin 8192) (l : Fin 128) : smallOf p (ix2 r l) = small (fun k => p (ix2 r k)) l := by
  unfold smallOf small
  have hk := l.isLt
  pointwise
  repeat' split
  all_goals first
    | omega
    | (simp [FloatOps.sitofp]; done)
    | (refine congrArg (fun z => p (ix2 r z)) (Fin.ext ?_)
       dsimp only
       omega)

variable (m : (ℓ : Loc nD τ sig) → Buf (Elt Ideal) ℓ) (c : Dev nD)

def hid (r : Fin 8192) (j : Fin 1024) : EReal := m ((c : Thread nD τ).loc main_arg0) (ix3 0 r j)
def nw (j : Fin 1024) : EReal := m ((c : Thread nD τ).loc main_arg1) (ix2 0 j)
def wi (j : Fin 1024) (k : Fin 9248) : EReal := m ((c : Thread nD τ).loc main_arg2) (ix2 j k)

def pArr : Vec Ideal S8192x9248 .f32 := prjArr (m ((c.tc : Thread nD τ).loc main_arg0)) (m ((c.tc : Thread nD τ).loc main_arg1)) (m ((c.tc : Thread nD τ).loc main_arg2))

theorem pArr_at (r : Fin 8192) : (fun k => pArr m c (ix2 r k)) = Ffn.pr (hid m c r) (nw m c) (wi m c) := funext fun k => prjArr_at _ _ _ r k

def bigTerm : Buf (Elt Ideal) ((c.tc : Thread nD τ).loc main_v23) := bigOf (pArr m c)
def smallTerm : Buf (Elt Ideal) ((c.tc : Thread nD τ).loc main_v24) := smallOf (pArr m c)
def nTerm : Buf (Elt Ideal) ((c.tc : Thread nD τ).loc main_v25) :=
  truncf (F := Ideal) (φ := .f32) .bf16 (shapeCast S8192x1024 (nrmArr (m ((c.tc : Thread nD τ).loc main_arg0)) (m ((c.tc : Thread nD τ).loc main_arg1))) shapeCasts_S1x8192x1024_S8192x1024) bitsLt_bf16_f32
def qkTerm : Buf (Elt Ideal) ((c.tc : Thread nD τ).loc main_v26) :=
  extractStridedSlice S8192x1024 ![0, 0] (pArr m c) slices_S8192x9248_S8192x1024_0_0

theorem n_at (r : Fin 8192) (j : Fin 1024) : nTerm m c (ix2 r j) = Ffn.nrm (hid m c r) (nw m c) j := by
  refine Eq.trans ?_ (HeadProof.Ref.nrmArr_at (m ((c.tc : Thread nD τ).loc main_arg0)) (m ((c.tc : Thread nD τ).loc main_arg1)) r j)
  unfold nTerm
  generalize nrmArr (m ((c.tc : Thread nD τ).loc main_arg0)) (m ((c.tc : Thread nD τ).loc main_arg1)) = z
  pointwise

theorem qk_at (r : Fin 8192) (j : Fin 1024) : qkTerm m c (ix2 r j) = Ffn.pr (hid m c r) (nw m c) (wi m c) ⟨j.val, by omega⟩ := by
  refine Eq.trans ?_ (congrFun (pArr_at m c r) _)
  unfold qkTerm
  generalize pArr m c = z
  pointwise

/-- The reference's run. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v23) = bigTerm m c ∧ r.2.mem ((c.tc : Thread nD τ).loc main_v24) = smallTerm m c
      ∧ r.2.mem ((c.tc : Thread nD τ).loc main_v25) = nTerm m c ∧ r.2.mem ((c.tc : Thread nD τ).loc main_v26) = qkTerm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := Value.run m ρ

end Ref

open Idealize.ShloMosaic Idealize.ShloMosaic.TcCoe Idealize.SL.Sem
open Cert.HeadProof (idx2)

section Agree

variable (m : (ℓ : Loc Cert.NormProjIdeal.nD Cert.NormProjIdeal.τ Cert.NormProjIdeal.sig) → Buf (Elt Ideal) ℓ)
  (m' : (ℓ : Loc Cert.NormProjRefIdeal.nD Cert.NormProjRefIdeal.τ Cert.NormProjRefIdeal.sig) → Buf (Elt Ideal) ℓ) (c : Dev Cert.NormProjIdeal.nD)

/-- The two programs' arguments are the same arrays. -/
def Same : Prop := Ref.hid m' c = hid m c ∧ Ref.nw m' c = nw m c ∧ Ref.wi m' c = wi m c

variable (h : Same m m' c)

include h

theorem pv_eq (r : Fin 8192) : (fun k => Ref.pArr m' c (ix2 r k)) = pv m c r := by
  rw [Ref.pArr_at, h.1, h.2.1, h.2.2]
  rfl

theorem big_eq : Ref.bigTerm m' c = (Cert.NormProjIdeal.Gen.dats m 0 c).arrAt 3 Cert.NormProjIdeal.cfg0.N := by
  rw [final_big]
  exact funext fun i => (congrArg (Ref.bigTerm m' c) (idx2 i)).trans ((Ref.bigOf_at _ (i 0) (i 1)).trans (congrFun (pv_eq m m' c h (i 0)) _))

theorem small_eq : Ref.smallTerm m' c = (Cert.NormProjIdeal.Gen.dats m 0 c).arrAt 4 Cert.NormProjIdeal.cfg0.N := by
  rw [final_small]
  exact funext fun i => (congrArg (Ref.smallTerm m' c) (idx2 i)).trans ((Ref.smallOf_at _ (i 0) (i 1)).trans
    (congrArg (Split.small · (i 1)) (pv_eq m m' c h (i 0))))

theorem n_eq : Ref.nTerm m' c = (Cert.NormProjIdeal.Gen.dats m 0 c).arrAt 5 Cert.NormProjIdeal.cfg0.N := by
  rw [final_n]
  refine funext fun i => (congrArg (Ref.nTerm m' c) (idx2 i)).trans ((Ref.n_at m' c (i 0) (i 1)).trans ?_)
  rw [h.1, h.2.1]
  rfl

theorem qk_eq : Ref.qkTerm m' c = (Cert.NormProjIdeal.Gen.dats m 0 c).arrAt 6 Cert.NormProjIdeal.cfg0.N := by
  rw [final_qk]
  refine funext fun i => (congrArg (Ref.qkTerm m' c) (idx2 i)).trans ((Ref.qk_at m' c (i 0) (i 1)).trans ?_)
  rw [h.1, h.2.1, h.2.2]
  rfl

end Agree

theorem algebraic : Cert.algebraic_NormProjIdeal_NormProjRefIdeal := by
  intro m g m' g' _ hagree
  have hs : ∀ c, Same m m' c := fun c => by
    obtain ⟨h0, h1, h2⟩ := hagree c
    exact ⟨funext fun r => funext fun j => congrFun h0 _, funext fun j => congrFun h1 _, funext fun j => funext fun k => congrFun h2 _⟩
  refine ⟨fun c => (Cert.NormProjIdeal.Gen.dats m 0 c).arrAt 3 Cert.NormProjIdeal.cfg0.N,
    fun c => (Cert.NormProjIdeal.Gen.dats m 0 c).arrAt 4 Cert.NormProjIdeal.cfg0.N,
    fun c => (Cert.NormProjIdeal.Gen.dats m 0 c).arrAt 5 Cert.NormProjIdeal.cfg0.N,
    fun c => (Cert.NormProjIdeal.Gen.dats m 0 c).arrAt 6 Cert.NormProjIdeal.cfg0.N, Cert.NormProjIdeal.Value.run_blocks m g, ?_⟩
  refine (θ_run Cert.NormProjRefIdeal.defs _ _).mono (fun r h c => ?_) (Ref.run m' g')
  obtain ⟨e0, e1, e2, e3, e⟩ := h c
  exact ⟨e0.trans (big_eq m m' c (hs c)), e1.trans (small_eq m m' c (hs c)), e2.trans (n_eq m m' c (hs c)), e3.trans (qk_eq m m' c (hs c)), e⟩

end Cert.NormProjProof
-- ==== Proof.Dw.Points.lean ====
/- The gradient of the input projection's columns: the arrays it is launched over, and the sum every point adds its rows to. -/
module

public import proofs.«01_k».proof.Proof.Gen.DwIdeal.Value
public import proofs.«01_k».proof.Proof.Lib.Ffn
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

namespace Cert.DwProof

open Idealize.ShloMosaic Idealize.ShloMosaic.TcCoe Idealize.SL.Sem Cert.DwIdeal Cert.DwIdeal.Gen
open Idealize.ShloMosaic.Pipeline (Dat)

variable (m : (ℓ : Loc nD τ sig) → Buf (Elt Ideal) ℓ) (c : Dev nD)

/-- The residual stream, the norm's weight and the cotangent of the projection's columns. -/
def hid (r : Fin 8192) (j : Fin 1024) : EReal := m ((c : Thread nD τ).loc main_arg0) (ix3 0 r j)
def nw (j : Fin 1024) : EReal := m ((c : Thread nD τ).loc main_arg1) (ix2 0 j)
def ct (r : Fin 8192) (k : Fin 3072) : EReal := m ((c : Thread nD τ).loc main_arg2) (ix2 r k)

/-- The normed rows. -/
def nv (r : Fin 8192) (j : Fin 1024) : EReal := Ffn.nrm (hid m c r) (nw m c) j

theorem entry_n (r : Fin 8192) (j : Fin 1024) : V m c main_v15 (ix2 r j) = nv m c r j := by
  unfold V nv Ffn.nrm nw hid NormBack.rs NormBack.meanSq
  after_reads_at

theorem entry_ct (r : Fin 8192) (k : Fin 3072) : V m c main_v16 (ix2 r k) = ct m c r k := by
  unfold V ct
  after_reads_at

theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- Row `r` and column `b` of the block that point `t` works on, in the arrays. -/
def row (t : Fin cfg0.N) (r : Fin 2048) : Fin 8192 := ⟨t.val % 4 * 2048 + r.val, by omega⟩
def col (t : Fin cfg0.N) (b : Fin 1024) : Fin 3072 :=
  ⟨t.val / 4 * 1024 + b.val, by have hN := lt_of_lt_of_eq t.isLt (show cfg0.N = 12 from N_0); omega⟩

theorem blk_n (t : Fin cfg0.N) (r : Fin 2048) (a : Fin 1024) : iblk m c 0 t (ix2 r a) = nv m c (row t r) a := by
  refine Eq.trans ?_ (entry_n m c (row t r) a)
  unfold row
  blk_ext [iblk, idx t]

theorem blk_ct (t : Fin cfg0.N) (r : Fin 2048) (b : Fin 1024) : iblk m c 1 t (ix2 r b) = ct m c (row t r) (col t b) := by
  refine Eq.trans ?_ (entry_ct m c (row t r) (col t b))
  unfold row col
  blk_ext [iblk, idx t]

/-- What a point adds. -/
def part (t : Fin cfg0.N) (a b : Fin 1024) : EReal := ∑ r : Fin 2048, nv m c (row t r) a * ct m c (row t r) (col t b)

theorem pay1_at (a b : Fin 1024) : k0_pay1 (F := Ideal) (ix2 a b) = 0 := by
  pointwise [k0_pay1]

theorem pay2_at (x y : Vec Ideal S2048x1024 .bf16) (z : Vec Ideal S1024x1024 .f32) (a b : Fin 1024) :
    k0_pay2 (F := Ideal) x y z (ix2 a b) = z (ix2 a b) + ∑ r, x (ix2 r a) * y (ix2 r b) := by
  pointwise [k0_pay2]

theorem pay3_at (z : Vec Ideal S1024x1024 .f32) (a b : Fin 1024) : k0_pay3 (F := Ideal) z (ix2 a b) = z (ix2 a b) := by
  pointwise [k0_pay3]

theorem point (t : Fin cfg0.N) (z : Vec Ideal S1024x1024 .f32) (a b : Fin 1024) :
    k0_pay2 (F := Ideal) (iblk m c 0 t) (iblk m c 1 t) z (ix2 a b) = z (ix2 a b) + part m c t a b :=
  (pay2_at _ _ z a b).trans (congrArg (z (ix2 a b) + ·) (Finset.sum_congr (M := EReal) rfl fun r _ =>
    congrArg₂ (· * ·) (blk_n m c t r a) (blk_ct m c t r b)))

theorem sum_first (t : Fin cfg0.N) (h : t.val % 4 = 0) (a b : Fin 1024) :
    (outsAt0 m c t.val t.isLt).2 (ix2 a b) = 0 + part m c t a b := by
  refine Eq.trans ?_ ((point m c t (k0_pay1 (F := Ideal)) a b).trans (congrArg (· + _) (pay1_at a b)))
  rw [outsAt0_A m c t h (by omega)]
  dsimp only
  frame_out

theorem sum_next (t : Fin cfg0.N) (h : ¬ t.val % 4 = 0) (a b : Fin 1024) :
    (outsAt0 m c t.val t.isLt).2 (ix2 a b)
      = (outsAt0 m c (t.val - 1) (Nat.lt_of_le_of_lt (Nat.sub_le _ _) t.isLt)).2 (ix2 a b) + part m c t a b := by
  refine Eq.trans ?_ (point m c t _ a b)
  by_cases h3 : t.val % 4 = 3
  · rw [outsAt0_C m c t h h3]
    dsimp only
    frame_out
    simp only [read_unread_whole]
  · rw [outsAt0_B m c t h h3]
    dsimp only
    frame_out
    simp only [read_unread_whole]

/-- The last point of a run writes the sum out. -/
theorem out_last (t : Fin cfg0.N) (h : t.val % 4 = 3) (a b : Fin 1024) :
    (outsAt0 m c t.val t.isLt).1 (ix2 a b) = (outsAt0 m c t.val t.isLt).2 (ix2 a b) := by
  refine Eq.trans ?_ (pay3_at _ a b)
  rw [outsAt0_C m c t (by omega) h]
  dsimp only
  frame_out

/-- The gradient of the projection's weight. -/
def dwAt (a : Fin 1024) (k : Fin 3072) : EReal := ∑ r, nv m c r a * ct m c r k

theorem out_at (t : Fin cfg0.N) (h : t.val % 4 = 3) (a b : Fin 1024) : (outsAt0 m c t.val t.isLt).1 (ix2 a b) = dwAt m c a (col t b) := by
  refine (out_last m c t h a b).trans ((Pipeline.eq_sum_fin_of_reset_step_apply_of_flush
    (fun n hn (i : Fin 1024 × Fin 1024) => (outsAt0 m c n hn).2 (ix2 i.1 i.2)) 4 (fun _ => 0) (fun t i => part m c t i.1 i.2)
    (fun t h i => sum_first m c t h i.1 i.2) (fun t h i => sum_next m c t h i.1 i.2) t h (a, b)).trans ?_)
  rw [zero_add]
  unfold part dwAt
  rw [← Fin.sum_mul_add_fin 4 2048 (fun r => nv m c r a * ct m c r (col t b)) (by decide)]
  refine Finset.sum_congr (M := EReal) rfl fun s _ => Finset.sum_congr (M := EReal) rfl fun r _ => ?_
  have er : ∀ hs, row ⟨4 * (t.val / 4) + s.val, hs⟩ r = ⟨s.val * 2048 + r.val, by omega⟩ := fun hs =>
    Fin.ext (by show (4 * (t.val / 4) + s.val) % 4 * 2048 + r.val = s.val * 2048 + r.val; omega)
  have ec : ∀ hs, col ⟨4 * (t.val / 4) + s.val, hs⟩ b = col t b := fun hs =>
    Fin.ext (by show (4 * (t.val / 4) + s.val) / 4 * 1024 + b.val = t.val / 4 * 1024 + b.val; omega)
  rw [er, ec]

end Cert.DwProof
-- ==== Proof.Dw.Claim.lean ====
/- The gradient of the input projection's columns: the kernel's result, the reference's, and that they are the same. -/
module

public import proofs.«01_k».proof.Proof.Dw.Points
public import proofs.«01_k».proof.Proof.Head.Final
public import proofs.«01_k».proof.Proof.Head.Ref
public import proofs.«01_k».proof.Proof.Gen.DwRefIdeal.Run
public import proofs.«01_k».proof.Defs
public import Idealize.ShloMosaic.Lib.Claim

@[expose] public section

set_option maxRecDepth 16384

noncomputable section

namespace Cert.DwProof

section Kernel

open Idealize.ShloMosaic Idealize.ShloMosaic.TcCoe Idealize.SL.Sem Cert.DwIdeal Cert.DwIdeal.Gen
open Idealize.ShloMosaic.Pipeline (Dat)
open Cert.HeadProof (idx2)

variable (m : (ℓ : Loc nD τ sig) → Buf (Elt Ideal) ℓ) (c : Dev nD)

theorem final_dw : (dats m 0 c).arrAt 2 cfg0.N = fun i => dwAt m c (i 0) (i 1) := by
  refine (dats m 0 c).arrAt_eq_of_covers 2 _ (by decide +kernel) fun t hf y => ?_
  rw [after0_2]
  blk_simp
  refine (congrArg (outsAt0 m c t.val t.isLt).1 (idx2 y)).trans ((out_at m c t ((flush0_2 t).mp hf) (y 0) (y 1)).trans ?_)
  refine congrArg₂ (dwAt m c) ?_ ?_
  · refine Fin.ext ?_
    blk_simp [idx t]
  · refine Fin.ext ?_
    unfold col
    blk_simp [idx t]

end Kernel

namespace Ref

open Idealize.ShloMosaic Idealize.ShloMosaic.TcCoe Idealize.SL.Sem Cert.DwRefIdeal Cert.DwRefIdeal.Gen Cert.DwRefIdeal.Value
open Cert.HeadProof.Ref (nrmArr)

/-- The product of the normed rows with the cotangent, over the rows. -/
def dwOf (x : Vec Ideal S1x8192x1024 .f32) (w : Vec Ideal S1x1024 .f32) (d : Vec Ideal S8192x3072 .f32) : Vec Ideal S1024x3072 .bf16 :=
  truncf (F := Ideal) (φ := .f32) .bf16 (transpose S1024x3072 [1, 0] (Host.dotGeneral (F := Ideal) (φ₁ := .f32) (φ₂ := .f32)
    dot_S8192x3072_S8192x1024_S3072x1024_0_0_1_1_n_n none d (shapeCast S8192x1024 (nrmArr x w) shapeCasts_S1x8192x1024_S8192x1024))
    transposes_S3072x1024_S1024x3072_1_0) bitsLt_bf16_f32

theorem dwOf_at (x : Vec Ideal S1x8192x1024 .f32) (w : Vec Ideal S1x1024 .f32) (d : Vec Ideal S8192x3072 .f32) (a : Fin 1024) (k : Fin 3072) :
    dwOf x w d (ix2 a k) = ∑ r, Ffn.nrm (fun l => x (ix3 0 r l)) (fun l => w (ix2 0 l)) a * d (ix2 r k) := by
  unfold dwOf
  refine Eq.trans ?_ (Finset.sum_congr (M := EReal) rfl fun r _ =>
    (mul_comm (d (ix2 r k)) _).trans (congrArg (· * d (ix2 r k)) (HeadProof.Ref.nrmArr_at x w r a)))
  generalize nrmArr x w = z
  pointwise

variable (m : (ℓ : Loc nD τ sig) → Buf (Elt Ideal) ℓ) (c : Dev nD)

def dwTerm : Buf (Elt Ideal) ((c.tc : Thread nD τ).loc main_v19) := dwOf (m ((c.tc : Thread nD τ).loc main_arg0)) (m ((c.tc : Thread nD τ).loc main_arg1)) (m ((c.tc : Thread nD τ).loc main_arg2))

/-- The reference's run. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v19) = dwTerm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := Value.run m ρ

end Ref

open Idealize.ShloMosaic Idealize.ShloMosaic.TcCoe Idealize.SL.Sem

theorem algebraic : Cert.algebraic_DwIdeal_DwRefIdeal := by
  intro m g m' g' _ hagree
  refine ⟨fun c => (Cert.DwIdeal.Gen.dats m 0 c).arrAt 2 Cert.DwIdeal.cfg0.N, Cert.DwIdeal.Value.run_blocks m g, ?_⟩
  refine (θ_run Cert.DwRefIdeal.defs _ _).mono (fun r h c => ?_) (Ref.run m' g')
  obtain ⟨e0, e⟩ := h c
  refine ⟨e0.trans ?_, e⟩
  obtain ⟨h0, h1, h2⟩ := hagree c
  have s0 : ∀ r, (fun l => m' ((c.tc : Thread _ _).loc Cert.DwRefIdeal.main_arg0) (ix3 0 r l)) = hid m c r := fun r => funext fun l => congrFun h0 _
  have s1 : (fun l => m' ((c.tc : Thread _ _).loc Cert.DwRefIdeal.main_arg1) (ix2 0 l)) = nw m c := funext fun l => congrFun h1 _
  refine Eq.trans ?_ (final_dw m c).symm
  refine funext fun i => (congrArg (Ref.dwTerm m' c) (HeadProof.idx2 i)).trans ((Ref.dwOf_at _ _ _ (i 0) (i 1)).trans ?_)
  refine Finset.sum_congr (M := EReal) rfl fun r _ => congrArg₂ (· * ·) ?_ (congrFun h2 _)
  rw [s0, s1]
  rfl

end Cert.DwProof
-- ==== Proof.lean ====
module

public import proofs.«01_k».proof.Defs
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Conv.Claim
public import proofs.«01_k».proof.Proof.Gen.FfnIn
public import proofs.«01_k».proof.Proof.Gen.FfnIn.Frame
public import proofs.«01_k».proof.Proof.Gen.FfnInIdeal
public import proofs.«01_k».proof.Proof.Gen.FfnInIdeal.Frame
public import proofs.«01_k».proof.Proof.Gen.FfnInIdeal.Value
public import proofs.«01_k».proof.Proof.Gen.FfnInRefIdeal
public import proofs.«01_k».proof.Proof.Gen.FfnInRefIdeal.Run
public import proofs.«01_k».proof.Proof.FfnIn.Claim
public import proofs.«01_k».proof.Proof.Gen.Pre_ffn_in_finite
public import proofs.«01_k».proof.Proof.Gen.FfnHid
public import proofs.«01_k».proof.Proof.Gen.FfnHid.Frame
public import proofs.«01_k».proof.Proof.Gen.FfnHidIdeal
public import proofs.«01_k».proof.Proof.Gen.FfnHidIdeal.Frame
public import proofs.«01_k».proof.Proof.Gen.FfnHidIdeal.Value
public import proofs.«01_k».proof.Proof.Gen.FfnHidRefIdeal
public import proofs.«01_k».proof.Proof.Gen.FfnHidRefIdeal.Run
public import proofs.«01_k».proof.Proof.FfnHid.Claim
public import proofs.«01_k».proof.Proof.Gen.Pre_ffn_hid_finite
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Proj.Claim
public import proofs.«01_k».proof.Proof.Gen.Pre_proj_finite
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gate.Claim
public import proofs.«01_k».proof.Proof.Gen.Gla
public import proofs.«01_k».proof.Proof.Gen.Gla.Frame
public import proofs.«01_k».proof.Proof.Gen.GlaIdeal
public import proofs.«01_k».proof.Proof.Gen.GlaIdeal.Frame
public import proofs.«01_k».proof.Proof.Gen.GlaIdeal.Value
public import proofs.«01_k».proof.Proof.Gen.GlaRefIdeal
public import proofs.«01_k».proof.Proof.Gen.GlaRefIdeal.Run
public import proofs.«01_k».proof.Proof.Gla.Claim
public import proofs.«01_k».proof.Proof.Gen.Pre_gla_finite
public import proofs.«01_k».proof.Proof.Gen.GlaFwd
public import proofs.«01_k».proof.Proof.Gen.GlaFwd.Frame
public import proofs.«01_k».proof.Proof.Gen.GlaFwdIdeal
public import proofs.«01_k».proof.Proof.Gen.GlaFwdIdeal.Frame
public import proofs.«01_k».proof.Proof.Gen.GlaFwdIdeal.Value
public import proofs.«01_k».proof.Proof.Gen.GlaFwdRefIdeal
public import proofs.«01_k».proof.Proof.Gen.GlaFwdRefIdeal.Run
public import proofs.«01_k».proof.Proof.GlaFwd.Claim
public import proofs.«01_k».proof.Proof.Gen.Pre_gla_fwd_finite
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Merge.Claim
public import proofs.«01_k».proof.Proof.Gen.Pre_merge_finite
public import proofs.«01_k».proof.Proof.Gen.MergeFwd
public import proofs.«01_k».proof.Proof.Gen.MergeFwd.Frame
public import proofs.«01_k».proof.Proof.Gen.MergeFwdIdeal
public import proofs.«01_k».proof.Proof.Gen.MergeFwdIdeal.Frame
public import proofs.«01_k».proof.Proof.Gen.MergeFwdIdeal.Value
public import proofs.«01_k».proof.Proof.Gen.MergeFwdRefIdeal
public import proofs.«01_k».proof.Proof.Gen.MergeFwdRefIdeal.Run
public import proofs.«01_k».proof.Proof.MergeFwd.Claim
public import proofs.«01_k».proof.Proof.Gen.ConvFwd
public import proofs.«01_k».proof.Proof.Gen.ConvFwd.Frame
public import proofs.«01_k».proof.Proof.Gen.ConvFwdIdeal
public import proofs.«01_k».proof.Proof.Gen.ConvFwdIdeal.Frame
public import proofs.«01_k».proof.Proof.Gen.ConvFwdIdeal.Value
public import proofs.«01_k».proof.Proof.Gen.ConvFwdRefIdeal
public import proofs.«01_k».proof.Proof.Gen.ConvFwdRefIdeal.Run
public import proofs.«01_k».proof.Proof.ConvFwd.Claim
public import proofs.«01_k».proof.Proof.Gen.GdnBwd
public import proofs.«01_k».proof.Proof.Gen.GdnBwd.Frame
public import proofs.«01_k».proof.Proof.Gen.GdnBwdIdeal
public import proofs.«01_k».proof.Proof.Gen.GdnBwdIdeal.Frame
public import proofs.«01_k».proof.Proof.Gen.Head
public import proofs.«01_k».proof.Proof.Gen.Head.Frame
public import proofs.«01_k».proof.Proof.Gen.HeadIdeal
public import proofs.«01_k».proof.Proof.Gen.HeadIdeal.Frame
public import proofs.«01_k».proof.Proof.Gen.HeadIdeal.Value
public import proofs.«01_k».proof.Proof.Gen.HeadRefIdeal
public import proofs.«01_k».proof.Proof.Gen.HeadRefIdeal.Run
public import proofs.«01_k».proof.Proof.Head.Claim
public import proofs.«01_k».proof.Proof.Gen.Pre_head_finite
public import proofs.«01_k».proof.Proof.Gen.FfnFwd
public import proofs.«01_k».proof.Proof.Gen.FfnFwd.Frame
public import proofs.«01_k».proof.Proof.Gen.FfnFwdIdeal
public import proofs.«01_k».proof.Proof.Gen.FfnFwdIdeal.Frame
public import proofs.«01_k».proof.Proof.Gen.FfnFwdIdeal.Value
public import proofs.«01_k».proof.Proof.Gen.FfnFwdRefIdeal
public import proofs.«01_k».proof.Proof.Gen.FfnFwdRefIdeal.Run
public import proofs.«01_k».proof.Proof.FfnFwd.Claim
public import proofs.«01_k».proof.Proof.Gen.NormProj
public import proofs.«01_k».proof.Proof.Gen.NormProj.Frame
public import proofs.«01_k».proof.Proof.Gen.NormProjIdeal
public import proofs.«01_k».proof.Proof.Gen.NormProjIdeal.Frame
public import proofs.«01_k».proof.Proof.Gen.NormProjIdeal.Value
public import proofs.«01_k».proof.Proof.Gen.NormProjRefIdeal
public import proofs.«01_k».proof.Proof.Gen.NormProjRefIdeal.Run
public import proofs.«01_k».proof.Proof.NormProj.Claim
public import proofs.«01_k».proof.Proof.Gen.GdnFwd
public import proofs.«01_k».proof.Proof.Gen.GdnFwd.Frame
public import proofs.«01_k».proof.Proof.Gen.GdnFwdIdeal
public import proofs.«01_k».proof.Proof.Gen.GdnFwdIdeal.Frame
public import proofs.«01_k».proof.Proof.Gen.Dw
public import proofs.«01_k».proof.Proof.Gen.Dw.Frame
public import proofs.«01_k».proof.Proof.Gen.DwIdeal
public import proofs.«01_k».proof.Proof.Gen.DwIdeal.Frame
public import proofs.«01_k».proof.Proof.Gen.DwIdeal.Value
public import proofs.«01_k».proof.Proof.Gen.DwRefIdeal
public import proofs.«01_k».proof.Proof.Gen.DwRefIdeal.Run
public import proofs.«01_k».proof.Proof.Dw.Claim
public import Idealize.ShloMosaic.Adequacy
public import Idealize.ShloMosaic.Init

@[expose] public section

noncomputable section

namespace Cert.Proof

open Idealize.ShloMosaic Idealize.SL.Sem

theorem claim : Cert.Claim := ⟨Cert.Conv.Gen.facts,
  Cert.ConvIdeal.Gen.facts,
  Cert.ConvRefIdeal.Gen.facts,
  Cert.FfnIn.Gen.facts,
  Cert.FfnInIdeal.Gen.facts,
  Cert.FfnInRefIdeal.Gen.facts,
  Cert.FfnHid.Gen.facts,
  Cert.FfnHidIdeal.Gen.facts,
  Cert.FfnHidRefIdeal.Gen.facts,
  Cert.Proj.Gen.facts,
  Cert.ProjIdeal.Gen.facts,
  Cert.ProjRefIdeal.Gen.facts,
  Cert.Gate.Gen.facts,
  Cert.GateIdeal.Gen.facts,
  Cert.GateRefIdeal.Gen.facts,
  Cert.Gla.Gen.facts,
  Cert.GlaIdeal.Gen.facts,
  Cert.GlaRefIdeal.Gen.facts,
  Cert.GlaFwd.Gen.facts,
  Cert.GlaFwdIdeal.Gen.facts,
  Cert.GlaFwdRefIdeal.Gen.facts,
  Cert.Merge.Gen.facts,
  Cert.MergeIdeal.Gen.facts,
  Cert.MergeRefIdeal.Gen.facts,
  Cert.MergeFwd.Gen.facts,
  Cert.MergeFwdIdeal.Gen.facts,
  Cert.MergeFwdRefIdeal.Gen.facts,
  Cert.ConvFwd.Gen.facts,
  Cert.ConvFwdIdeal.Gen.facts,
  Cert.ConvFwdRefIdeal.Gen.facts,
  Cert.GdnBwd.Gen.facts,
  Cert.GdnBwdIdeal.Gen.facts,
  Cert.Head.Gen.facts,
  Cert.HeadIdeal.Gen.facts,
  Cert.HeadRefIdeal.Gen.facts,
  Cert.FfnFwd.Gen.facts,
  Cert.FfnFwdIdeal.Gen.facts,
  Cert.FfnFwdRefIdeal.Gen.facts,
  Cert.NormProj.Gen.facts,
  Cert.NormProjIdeal.Gen.facts,
  Cert.NormProjRefIdeal.Gen.facts,
  Cert.GdnFwd.Gen.facts,
  Cert.GdnFwdIdeal.Gen.facts,
  Cert.Dw.Gen.facts,
  Cert.DwIdeal.Gen.facts,
  Cert.DwRefIdeal.Gen.facts,
  Cert.Pre_ffn_in_finite.Gen.facts,
  Cert.Pre_ffn_hid_finite.Gen.facts,
  Cert.Pre_proj_finite.Gen.facts,
  Cert.Pre_gla_finite.Gen.facts,
  Cert.Pre_gla_fwd_finite.Gen.facts,
  Cert.Pre_merge_finite.Gen.facts,
  Cert.Pre_head_finite.Gen.facts,
  fun m ρ _ => Cert.Conv.Gen.frame m ρ,
  fun m ρ _ => Cert.ConvIdeal.Gen.frame m ρ,
  fun m ρ _ => (θ_run Cert.ConvRefIdeal.defs _ _).mono (fun r h => ⟨fun c => (h c).2.2, sem_eq_zero_of_no_sems (by decide) r.2⟩) (Cert.ConvRefIdeal.Value.run m ρ),
  fun m ρ _ => Cert.FfnIn.Gen.frame m ρ,
  fun m ρ _ => Cert.FfnInIdeal.Gen.frame m ρ,
  fun m ρ _ => Cert.FfnInIdeal.Gen.frame m ρ,
  fun m ρ _ => (θ_run Cert.FfnInRefIdeal.defs _ _).mono (fun r h => ⟨fun c => (h c).2.2, sem_eq_zero_of_no_sems (by decide) r.2⟩) (Cert.FfnInRefIdeal.Value.run m ρ),
  fun m ρ _ => (θ_run Cert.FfnInRefIdeal.defs _ _).mono (fun r h => ⟨fun c => (h c).2.2, sem_eq_zero_of_no_sems (by decide) r.2⟩) (Cert.FfnInRefIdeal.Value.run m ρ),
  fun m ρ _ => Cert.FfnHid.Gen.frame m ρ,
  fun m ρ _ => Cert.FfnHidIdeal.Gen.frame m ρ,
  fun m ρ _ => Cert.FfnHidIdeal.Gen.frame m ρ,
  fun m ρ _ => (θ_run Cert.FfnHidRefIdeal.defs _ _).mono (fun r h => ⟨fun c => (h c).2.2.2.2, sem_eq_zero_of_no_sems (by decide) r.2⟩) (Cert.FfnHidRefIdeal.Value.run m ρ),
  fun m ρ _ => (θ_run Cert.FfnHidRefIdeal.defs _ _).mono (fun r h => ⟨fun c => (h c).2.2.2.2, sem_eq_zero_of_no_sems (by decide) r.2⟩) (Cert.FfnHidRefIdeal.Value.run m ρ),
  fun m ρ _ => Cert.Proj.Gen.frame m ρ,
  fun m ρ _ => Cert.ProjIdeal.Gen.frame m ρ,
  fun m ρ _ => Cert.ProjIdeal.Gen.frame m ρ,
  fun m ρ _ => (θ_run Cert.ProjRefIdeal.defs _ _).mono (fun r h => ⟨fun c => (h c).2.2, sem_eq_zero_of_no_sems (by decide) r.2⟩) (Cert.ProjRefIdeal.Value.run m ρ),
  fun m ρ _ => (θ_run Cert.ProjRefIdeal.defs _ _).mono (fun r h => ⟨fun c => (h c).2.2, sem_eq_zero_of_no_sems (by decide) r.2⟩) (Cert.ProjRefIdeal.Value.run m ρ),
  fun m ρ _ => Cert.Gate.Gen.frame m ρ,
  fun m ρ _ => Cert.GateIdeal.Gen.frame m ρ,
  fun m ρ _ => (θ_run Cert.GateRefIdeal.defs _ _).mono (fun r h => ⟨fun c => (h c).2.2.2, sem_eq_zero_of_no_sems (by decide) r.2⟩) (Cert.GateRefIdeal.Value.run m ρ),
  fun m ρ _ => Cert.Gla.Gen.frame m ρ,
  fun m ρ _ => Cert.GlaIdeal.Gen.frame m ρ,
  fun m ρ _ => Cert.GlaIdeal.Gen.frame m ρ,
  fun m ρ _ => (θ_run Cert.GlaRefIdeal.defs _ _).mono (fun r h => ⟨fun c => (h c).2.2.2.2, sem_eq_zero_of_no_sems (by decide) r.2⟩) (Cert.GlaRefIdeal.Value.run m ρ),
  fun m ρ _ => (θ_run Cert.GlaRefIdeal.defs _ _).mono (fun r h => ⟨fun c => (h c).2.2.2.2, sem_eq_zero_of_no_sems (by decide) r.2⟩) (Cert.GlaRefIdeal.Value.run m ρ),
  fun m ρ _ => Cert.GlaFwd.Gen.frame m ρ,
  fun m ρ _ => Cert.GlaFwdIdeal.Gen.frame m ρ,
  fun m ρ _ => Cert.GlaFwdIdeal.Gen.frame m ρ,
  fun m ρ _ => (θ_run Cert.GlaFwdRefIdeal.defs _ _).mono (fun r h => ⟨fun c => (h c).2.2, sem_eq_zero_of_no_sems (by decide) r.2⟩) (Cert.GlaFwdRefIdeal.Value.run m ρ),
  fun m ρ _ => (θ_run Cert.GlaFwdRefIdeal.defs _ _).mono (fun r h => ⟨fun c => (h c).2.2, sem_eq_zero_of_no_sems (by decide) r.2⟩) (Cert.GlaFwdRefIdeal.Value.run m ρ),
  fun m ρ _ => Cert.Merge.Gen.frame m ρ,
  fun m ρ _ => Cert.MergeIdeal.Gen.frame m ρ,
  fun m ρ _ => Cert.MergeIdeal.Gen.frame m ρ,
  fun m ρ _ => (θ_run Cert.MergeRefIdeal.defs _ _).mono (fun r h => ⟨fun c => (h c).2.2.2.2.2.2.2.2.2, sem_eq_zero_of_no_sems (by decide) r.2⟩) (Cert.MergeRefIdeal.Value.run m ρ),
  fun m ρ _ => (θ_run Cert.MergeRefIdeal.defs _ _).mono (fun r h => ⟨fun c => (h c).2.2.2.2.2.2.2.2.2, sem_eq_zero_of_no_sems (by decide) r.2⟩) (Cert.MergeRefIdeal.Value.run m ρ),
  fun m ρ _ => Cert.MergeFwd.Gen.frame m ρ,
  fun m ρ _ => Cert.MergeFwdIdeal.Gen.frame m ρ,
  fun m ρ _ => (θ_run Cert.MergeFwdRefIdeal.defs _ _).mono (fun r h => ⟨fun c => (h c).2.2, sem_eq_zero_of_no_sems (by decide) r.2⟩) (Cert.MergeFwdRefIdeal.Value.run m ρ),
  fun m ρ _ => Cert.ConvFwd.Gen.frame m ρ,
  fun m ρ _ => Cert.ConvFwdIdeal.Gen.frame m ρ,
  fun m ρ _ => (θ_run Cert.ConvFwdRefIdeal.defs _ _).mono (fun r h => ⟨fun c => (h c).2, sem_eq_zero_of_no_sems (by decide) r.2⟩) (Cert.ConvFwdRefIdeal.Value.run m ρ),
  fun m ρ _ => Cert.GdnBwd.Gen.frame m ρ,
  fun m ρ _ => Cert.GdnBwdIdeal.Gen.frame m ρ,
  fun m ρ _ => Cert.Head.Gen.frame m ρ,
  fun m ρ _ => Cert.HeadIdeal.Gen.frame m ρ,
  fun m ρ _ => Cert.HeadIdeal.Gen.frame m ρ,
  fun m ρ _ => (θ_run Cert.HeadRefIdeal.defs _ _).mono (fun r h => ⟨fun c => (h c).2.2.2.2.2.2, sem_eq_zero_of_no_sems (by decide) r.2⟩) (Cert.HeadRefIdeal.Value.run m ρ),
  fun m ρ _ => (θ_run Cert.HeadRefIdeal.defs _ _).mono (fun r h => ⟨fun c => (h c).2.2.2.2.2.2, sem_eq_zero_of_no_sems (by decide) r.2⟩) (Cert.HeadRefIdeal.Value.run m ρ),
  fun m ρ _ => Cert.FfnFwd.Gen.frame m ρ,
  fun m ρ _ => Cert.FfnFwdIdeal.Gen.frame m ρ,
  fun m ρ _ => (θ_run Cert.FfnFwdRefIdeal.defs _ _).mono (fun r h => ⟨fun c => (h c).2.2.2.2, sem_eq_zero_of_no_sems (by decide) r.2⟩) (Cert.FfnFwdRefIdeal.Value.run m ρ),
  fun m ρ _ => Cert.NormProj.Gen.frame m ρ,
  fun m ρ _ => Cert.NormProjIdeal.Gen.frame m ρ,
  fun m ρ _ => (θ_run Cert.NormProjRefIdeal.defs _ _).mono (fun r h => ⟨fun c => (h c).2.2.2.2, sem_eq_zero_of_no_sems (by decide) r.2⟩) (Cert.NormProjRefIdeal.Value.run m ρ),
  fun m ρ _ => Cert.GdnFwd.Gen.frame m ρ,
  fun m ρ _ => Cert.GdnFwdIdeal.Gen.frame m ρ,
  fun m ρ _ => Cert.Dw.Gen.frame m ρ,
  fun m ρ _ => Cert.DwIdeal.Gen.frame m ρ,
  fun m ρ _ => (θ_run Cert.DwRefIdeal.defs _ _).mono (fun r h => ⟨fun c => (h c).2, sem_eq_zero_of_no_sems (by decide) r.2⟩) (Cert.DwRefIdeal.Value.run m ρ),
  trivial,
  Cert.ConvProof.algebraic,
  trivial,
  @Cert.FfnInProof.algebraic Cert.Pre_ffn_in_finite.Gen.facts,
  trivial,
  @Cert.FfnHidProof.algebraic Cert.Pre_ffn_hid_finite.Gen.facts,
  trivial,
  @Cert.ProjProof.algebraic Cert.Pre_proj_finite.Gen.facts,
  trivial,
  Cert.GateProof.algebraic,
  trivial,
  @Cert.GlaProof.algebraic Cert.Pre_gla_finite.Gen.facts,
  trivial,
  @Cert.GlaFwdProof.algebraic Cert.Pre_gla_fwd_finite.Gen.facts,
  trivial,
  @Cert.MergeProof.algebraic Cert.Pre_merge_finite.Gen.facts,
  trivial,
  Cert.MergeFwdProof.algebraic,
  trivial,
  Cert.ConvFwdProof.algebraic,
  trivial,
  trivial,
  @Cert.HeadProof.algebraic Cert.Pre_head_finite.Gen.facts,
  trivial,
  Cert.FfnFwdProof.algebraic,
  trivial,
  Cert.NormProjProof.algebraic,
  trivial,
  trivial,
  Cert.DwProof.algebraic⟩

end Cert.Proof

end
